-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)) (v4 : (c : Dev Cert.Kernel6Ideal.nD) → Buf (Elt Ideal) ((c.tc : Thread Cert.Kernel6Ideal.nD Cert.Kernel6Ideal.τ).loc Cert.Kernel6Ideal.main_v7_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_v7_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)) (v2 : (c : Dev Cert.Kernel7Ideal.nD) → Buf (Elt Ideal) ((c.tc : Thread Cert.Kernel7Ideal.nD Cert.Kernel7Ideal.τ).loc Cert.Kernel7Ideal.main_v30_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_v30_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v88) = v1 c
          ∧ r.2.mem ((c.tc : Thread Cert.Reference7Ideal.nD Cert.Reference7Ideal.τ).loc Cert.Reference7Ideal.main_v91) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v35_0)) (v1 : (c : Dev Cert.Kernel8Ideal.nD) → Buf (Elt Ideal) ((c.tc : Thread Cert.Kernel8Ideal.nD Cert.Kernel8Ideal.τ).loc Cert.Kernel8Ideal.main_v35_1)) (v2 : (c : Dev Cert.Kernel8Ideal.nD) → Buf (Elt Ideal) ((c.tc : Thread Cert.Kernel8Ideal.nD Cert.Kernel8Ideal.τ).loc Cert.Kernel8Ideal.main_v35_2)) (v3 : (c : Dev Cert.Kernel8Ideal.nD) → Buf (Elt Ideal) ((c.tc : Thread Cert.Kernel8Ideal.nD Cert.Kernel8Ideal.τ).loc Cert.Kernel8Ideal.main_v35_3)) (v4 : (c : Dev Cert.Kernel8Ideal.nD) → Buf (Elt Ideal) ((c.tc : Thread Cert.Kernel8Ideal.nD Cert.Kernel8Ideal.τ).loc Cert.Kernel8Ideal.main_v35_4)) (v5 : (c : Dev Cert.Kernel8Ideal.nD) → Buf (Elt Ideal) ((c.tc : Thread Cert.Kernel8Ideal.nD Cert.Kernel8Ideal.τ).loc Cert.Kernel8Ideal.main_v35_5)) (v6 : (c : Dev Cert.Kernel8Ideal.nD) → Buf (Elt Ideal) ((c.tc : Thread Cert.Kernel8Ideal.nD Cert.Kernel8Ideal.τ).loc Cert.Kernel8Ideal.main_v35_6)) (v7 : (c : Dev Cert.Kernel8Ideal.nD) → Buf (Elt Ideal) ((c.tc : Thread Cert.Kernel8Ideal.nD Cert.Kernel8Ideal.τ).loc Cert.Kernel8Ideal.main_v35_7)) (v8 : (c : Dev Cert.Kernel8Ideal.nD) → Buf (Elt Ideal) ((c.tc : Thread Cert.Kernel8Ideal.nD Cert.Kernel8Ideal.τ).loc Cert.Kernel8Ideal.main_v35_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v35_0) = v0 c
          ∧ r.2.mem ((c.tc : Thread Cert.Kernel8Ideal.nD Cert.Kernel8Ideal.τ).loc Cert.Kernel8Ideal.main_v35_1) = v1 c
          ∧ r.2.mem ((c.tc : Thread Cert.Kernel8Ideal.nD Cert.Kernel8Ideal.τ).loc Cert.Kernel8Ideal.main_v35_2) = v2 c
          ∧ r.2.mem ((c.tc : Thread Cert.Kernel8Ideal.nD Cert.Kernel8Ideal.τ).loc Cert.Kernel8Ideal.main_v35_3) = v3 c
          ∧ r.2.mem ((c.tc : Thread Cert.Kernel8Ideal.nD Cert.Kernel8Ideal.τ).loc Cert.Kernel8Ideal.main_v35_4) = v4 c
          ∧ r.2.mem ((c.tc : Thread Cert.Kernel8Ideal.nD Cert.Kernel8Ideal.τ).loc Cert.Kernel8Ideal.main_v35_5) = v5 c
          ∧ r.2.mem ((c.tc : Thread Cert.Kernel8Ideal.nD Cert.Kernel8Ideal.τ).loc Cert.Kernel8Ideal.main_v35_6) = v6 c
          ∧ r.2.mem ((c.tc : Thread Cert.Kernel8Ideal.nD Cert.Kernel8Ideal.τ).loc Cert.Kernel8Ideal.main_v35_7) = v7 c
          ∧ r.2.mem ((c.tc : Thread Cert.Kernel8Ideal.nD Cert.Kernel8Ideal.τ).loc Cert.Kernel8Ideal.main_v35_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v86) = v0 c
          ∧ r.2.mem ((c.tc : Thread Cert.Reference8Ideal.nD Cert.Reference8Ideal.τ).loc Cert.Reference8Ideal.main_v90) = v1 c
          ∧ r.2.mem ((c.tc : Thread Cert.Reference8Ideal.nD Cert.Reference8Ideal.τ).loc Cert.Reference8Ideal.main_v93) = v2 c
          ∧ r.2.mem ((c.tc : Thread Cert.Reference8Ideal.nD Cert.Reference8Ideal.τ).loc Cert.Reference8Ideal.main_v94) = v3 c
          ∧ r.2.mem ((c.tc : Thread Cert.Reference8Ideal.nD Cert.Reference8Ideal.τ).loc Cert.Reference8Ideal.main_v98) = v4 c
          ∧ r.2.mem ((c.tc : Thread Cert.Reference8Ideal.nD Cert.Reference8Ideal.τ).loc Cert.Reference8Ideal.main_v102) = v5 c
          ∧ r.2.mem ((c.tc : Thread Cert.Reference8Ideal.nD Cert.Reference8Ideal.τ).loc Cert.Reference8Ideal.main_v104) = v6 c
          ∧ r.2.mem ((c.tc : Thread Cert.Reference8Ideal.nD Cert.Reference8Ideal.τ).loc Cert.Reference8Ideal.main_v106) = v7 c
          ∧ r.2.mem ((c.tc : Thread Cert.Reference8Ideal.nD Cert.Reference8Ideal.τ).loc Cert.Reference8Ideal.main_v108) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v20_0)) (v1 : (c : Dev Cert.Kernel10Ideal.nD) → Buf (Elt Ideal) ((c.tc : Thread Cert.Kernel10Ideal.nD Cert.Kernel10Ideal.τ).loc Cert.Kernel10Ideal.main_v20_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20_0) = v0 c
          ∧ r.2.mem ((c.tc : Thread Cert.Kernel10Ideal.nD Cert.Kernel10Ideal.τ).loc Cert.Kernel10Ideal.main_v20_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8x8x4096x128 : Shape := ⟨4, ![8, 8, 4096, 128]⟩
abbrev S8x8x512x128 : Shape := ⟨4, ![8, 8, 512, 128]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)
  bcast_S_S8x8x512x128 : S_.BroadcastsInDim S8x8x512x128 (![] : Fin 0 → Fin S8x8x512x128.rank)
  bcast_S_S4x64 : S_.BroadcastsInDim S4x64 (![] : Fin 0 → Fin S4x64.rank)

variable [Facts]

def fn_part1 {F : FTy → Type} [FloatOps F] (main_arg5 : FVec F S4x64 .f32) (main_v3 : IVec S8x8x4096x128 1) (main_v7 : IVec S8x8x4096x128 1) (main_v11 : IVec S8x8x4096x128 1) (main_v15 : IVec S8x8x512x128 1) (main_v17 : FVec F S8x8x512x128 .f32) (main_v18 : FVec F S8x8x512x128 .f32) : IVec S8x8x4096x128 1 × IVec S8x8x4096x128 1 × IVec S8x8x4096x128 1 × IVec S8x8x512x128 1 × IVec S8x8x512x128 1 × IVec S4x64 1 :=
  let main_v19 : IVec S8x8x512x128 1 := cmpf .olt main_v17 main_v18
  let main_v20 : FVec F S4x64 .f32 := Host.absf main_arg5
  let main_cst_4 : FVec F S_ .f32 := constant S_ .f32 0x7F800000#32
  let main_v21 : FVec F S4x64 .f32 := broadcastInDim S4x64 ![] bcast_S_S4x64 main_cst_4
  let main_v22 : IVec S4x64 1 := cmpf .olt main_v20 main_v21
  (main_v3, main_v7, main_v11, main_v15, main_v19, main_v22)

def fn {F : FTy → Type} [FloatOps F] (main_arg0 : FVec F S8x8x4096x128 .bf16) (main_arg1 : FVec F S8x8x4096x128 .bf16) (main_arg2 : FVec F S8x8x4096x128 .bf16) (main_arg3 : FVec F S8x8x512x128 .bf16) (main_arg4 : FVec F S8x8x512x128 .bf16) (main_arg5 : FVec F S4x64 .f32) (main_arg6 : FVec F S1x128 .f32) : IVec S8x8x4096x128 1 × IVec S8x8x4096x128 1 × IVec S8x8x4096x128 1 × IVec S8x8x512x128 1 × IVec S8x8x512x128 1 × IVec S4x64 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  let main_v8 : FVec F S8x8x4096x128 .f32 := (extf .f32 · bitsLt_bf16_f32) main_arg2
  let main_v9 : FVec F S8x8x4096x128 .f32 := Host.absf main_v8
  let main_cst_1 : FVec F S_ .f32 := constant S_ .f32 0x7F800000#32
  let main_v10 : FVec F S8x8x4096x128 .f32 := broadcastInDim S8x8x4096x128 ![] bcast_S_S8x8x4096x128 main_cst_1
  let main_v11 : IVec S8x8x4096x128 1 := cmpf .olt main_v9 main_v10
  let main_v12 : FVec F S8x8x512x128 .f32 := (extf .f32 · bitsLt_bf16_f32) main_arg3
  let main_v13 : FVec F S8x8x512x128 .f32 := Host.absf main_v12
  let main_cst_2 : FVec F S_ .f32 := constant S_ .f32 0x7F800000#32
  let main_v14 : FVec F S8x8x512x128 .f32 := broadcastInDim S8x8x512x128 ![] bcast_S_S8x8x512x128 main_cst_2
  let main_v15 : IVec S8x8x512x128 1 := cmpf .olt main_v13 main_v14
  let main_v16 : FVec F S8x8x512x128 .f32 := (extf .f32 · bitsLt_bf16_f32) main_arg4
  let main_v17 : FVec F S8x8x512x128 .f32 := Host.absf main_v16
  let main_cst_3 : FVec F S_ .f32 := constant S_ .f32 0x7F800000#32
  let main_v18 : FVec F S8x8x512x128 .f32 := broadcastInDim S8x8x512x128 ![] bcast_S_S8x8x512x128 main_cst_3
  fn_part1 (F := F) main_arg5 main_v3 main_v7 main_v11 main_v15 main_v17 main_v18
-- ==== Pre_finite5.lean ====
abbrev S8x8x4096x128 : Shape := ⟨4, ![8, 8, 4096, 128]⟩
abbrev S8x4x4096x128 : Shape := ⟨4, ![8, 4, 4096, 128]⟩
abbrev S8x8x512x128 : Shape := ⟨4, ![8, 8, 512, 128]⟩
abbrev S8x4x512x128 : Shape := ⟨4, ![8, 4, 512, 128]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)
  bcast_S_S8x4x4096x128 : S_.BroadcastsInDim S8x4x4096x128 (![] : Fin 0 → Fin S8x4x4096x128.rank)
  bcast_S_S8x8x512x128 : S_.BroadcastsInDim S8x8x512x128 (![] : Fin 0 → Fin S8x8x512x128.rank)
  bcast_S_S8x4x512x128 : S_.BroadcastsInDim S8x4x512x128 (![] : Fin 0 → Fin S8x4x512x128.rank)

variable [Facts]

def fn_part1 {F : FTy → Type} [FloatOps F] (main_v3 : IVec S8x8x4096x128 1) (main_v7 : IVec S8x8x4096x128 1) (main_v11 : IVec S8x4x4096x128 1) (main_v15 : IVec S8x8x512x128 1) (main_v17 : FVec F S8x4x512x128 .f32) (main_v18 : FVec F S8x4x512x128 .f32) : IVec S8x8x4096x128 1 × IVec S8x8x4096x128 1 × IVec S8x4x4096x128 1 × IVec S8x8x512x128 1 × IVec S8x4x512x128 1 :=
  let main_v19 : IVec S8x4x512x128 1 := cmpf .olt main_v17 main_v18
  (main_v3, main_v7, main_v11, main_v15, main_v19)

def fn {F : FTy → Type} [FloatOps F] (main_arg0 : FVec F S8x8x4096x128 .bf16) (main_arg1 : FVec F S8x8x4096x128 .bf16) (main_arg2 : FVec F S8x4x4096x128 .bf16) (main_arg3 : FVec F S8x8x512x128 .bf16) (main_arg4 : FVec F S8x4x512x128 .bf16) : IVec S8x8x4096x128 1 × IVec S8x8x4096x128 1 × IVec S8x4x4096x128 1 × IVec S8x8x512x128 1 × IVec S8x4x512x128 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  let main_v8 : FVec F S8x4x4096x128 .f32 := (extf .f32 · bitsLt_bf16_f32) main_arg2
  let main_v9 : FVec F S8x4x4096x128 .f32 := Host.absf main_v8
  let main_cst_1 : FVec F S_ .f32 := constant S_ .f32 0x7F800000#32
  let main_v10 : FVec F S8x4x4096x128 .f32 := broadcastInDim S8x4x4096x128 ![] bcast_S_S8x4x4096x128 main_cst_1
  let main_v11 : IVec S8x4x4096x128 1 := cmpf .olt main_v9 main_v10
  let main_v12 : FVec F S8x8x512x128 .f32 := (extf .f32 · bitsLt_bf16_f32) main_arg3
  let main_v13 : FVec F S8x8x512x128 .f32 := Host.absf main_v12
  let main_cst_2 : FVec F S_ .f32 := constant S_ .f32 0x7F800000#32
  let main_v14 : FVec F S8x8x512x128 .f32 := broadcastInDim S8x8x512x128 ![] bcast_S_S8x8x512x128 main_cst_2
  let main_v15 : IVec S8x8x512x128 1 := cmpf .olt main_v13 main_v14
  let main_v16 : FVec F S8x4x512x128 .f32 := (extf .f32 · bitsLt_bf16_f32) main_arg4
  let main_v17 : FVec F S8x4x512x128 .f32 := Host.absf main_v16
  let main_cst_3 : FVec F S_ .f32 := constant S_ .f32 0x7F800000#32
  let main_v18 : FVec F S8x4x512x128 .f32 := broadcastInDim S8x4x512x128 ![] bcast_S_S8x4x512x128 main_cst_3
  fn_part1 (F := F) main_v3 main_v7 main_v11 main_v15 main_v17 main_v18
-- ==== Kernel.lean ====
abbrev S8x8x4096x128 : Shape := ⟨4, ![8, 8, 4096, 128]⟩
abbrev S8x8x512x128 : Shape := ⟨4, ![8, 8, 512, 128]⟩
abbrev S4x64 : Shape := ⟨2, ![4, 64]⟩
abbrev S1x128 : Shape := ⟨2, ![1, 128]⟩
abbrev S8x4096x1024 : Shape := ⟨3, ![8, 4096, 1024]⟩
abbrev S1x2x1024x128 : Shape := ⟨4, ![1, 2, 1024, 128]⟩
abbrev S1x2x4096x128 : Shape := ⟨4, ![1, 2, 4096, 128]⟩
abbrev S1x2x512x128 : Shape := ⟨4, ![1, 2, 512, 128]⟩
abbrev S1x1024x256 : Shape := ⟨3, ![1, 1024, 256]⟩
abbrev S1x64 : Shape := ⟨2, ![1, 64]⟩
abbrev S1 : Shape := ⟨1, ![1]⟩
abbrev S1x1 : Shape := ⟨2, ![1, 1]⟩
abbrev S1x1x1024x128 : Shape := ⟨4, ![1, 1, 1024, 128]⟩
abbrev S1024x128 : Shape := ⟨2, ![1024, 128]⟩
abbrev S256x128 : Shape := ⟨2, ![256, 128]⟩
abbrev S1x1x512x128 : Shape := ⟨4, ![1, 1, 512, 128]⟩
abbrev S512x128 : Shape := ⟨2, ![512, 128]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩
abbrev S1x1x4096x128 : Shape := ⟨4, ![1, 1, 4096, 128]⟩
abbrev S4096x128 : Shape := ⟨2, ![4096, 128]⟩
abbrev S1x1024x128 : Shape := ⟨3, ![1, 1024, 128]⟩

abbrev nBuf : Space → Nat
  | .hbm => 8
  | .vmem => 14
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S8x8x512x128, .bf16⟩
  | .hbm, ⟨4, _⟩ => ⟨S8x8x512x128, .bf16⟩
  | .hbm, ⟨5, _⟩ => ⟨S4x64, .f32⟩
  | .hbm, ⟨6, _⟩ => ⟨S1x128, .f32⟩
  | .hbm, ⟨7, _⟩ => ⟨S8x4096x1024, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x2x512x128, .bf16⟩
  | .local _ .vmem, ⟨7, _⟩ => ⟨S1x2x512x128, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S4x64, .f32⟩
  | .local _ .vmem, ⟨11, _⟩ => ⟨S1x128, .f32⟩
  | .local _ .vmem, ⟨12, _⟩ => ⟨S1x1024x256, .bf16⟩
  | .local _ .vmem, ⟨13, _⟩ => ⟨S1x1024x256, .bf16⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x8x4096x128 : Shape := ⟨4, ![8, 8, 4096, 128]⟩
abbrev S8x8x512x128 : Shape := ⟨4, ![8, 8, 512, 128]⟩
abbrev S4x64 : Shape := ⟨2, ![4, 64]⟩
abbrev S1x128 : Shape := ⟨2, ![1, 128]⟩
abbrev S8x8x4096x2x64 : Shape := ⟨5, ![8, 8, 4096, 2, 64]⟩
abbrev S8x8x4608x128 : Shape := ⟨4, ![8, 8, 4608, 128]⟩
abbrev S8x8x4608x2x64 : Shape := ⟨5, ![8, 8, 4608, 2, 64]⟩
abbrev S1x64 : Shape := ⟨2, ![1, 64]⟩
abbrev S64 : Shape := ⟨1, ![64]⟩
abbrev S_ : Shape := ⟨0, ![]⟩
abbrev S8x8x2x4096x4608 : Shape := ⟨5, ![8, 8, 2, 4096, 4608]⟩
abbrev S8x8x2x4096 : Shape := ⟨4, ![8, 8, 2, 4096]⟩
abbrev S8x8x2x4096x1 : Shape := ⟨5, ![8, 8, 2, 4096, 1]⟩
abbrev S8x8x1x4096x4608 : Shape := ⟨5, ![8, 8, 1, 4096, 4608]⟩
abbrev S8x8x4096x4608 : Shape := ⟨4, ![8, 8, 4096, 4608]⟩
abbrev S8x8x128x4096 : Shape := ⟨4, ![8, 8, 128, 4096]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x1024 : Shape := ⟨3, ![8, 4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S8x8x512x128, .bf16⟩
  | .hbm, ⟨4, _⟩ => ⟨S8x8x512x128, .bf16⟩
  | .hbm, ⟨5, _⟩ => ⟨S4x64, .f32⟩
  | .hbm, ⟨6, _⟩ => ⟨S1x128, .f32⟩
  | .hbm, ⟨7, _⟩ => ⟨S8x8x4096x128, .f32⟩
  | .hbm, ⟨8, _⟩ => ⟨S8x8x4096x2x64, .f32⟩
  | .hbm, ⟨9, _⟩ => ⟨S8x8x4608x128, .bf16⟩
  | .hbm, ⟨10, _⟩ => ⟨S8x8x4608x128, .f32⟩
  | .hbm, ⟨11, _⟩ => ⟨S8x8x4608x2x64, .f32⟩
  | .hbm, ⟨12, _⟩ => ⟨S8x8x4608x128, .bf16⟩
  | .hbm, ⟨13, _⟩ => ⟨S8x8x4608x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x8x2x4096x4608, .f32⟩
  | .hbm, ⟨34, _⟩ => ⟨S_, .f32⟩
  | .hbm, ⟨35, _⟩ => ⟨S_, .f32⟩
  | .hbm, ⟨36, _⟩ => ⟨S8x8x2x4096x4608, .f32⟩
  | .hbm, ⟨37, _⟩ => ⟨S8x8x2x4096x4608, .f32⟩
  | .hbm, ⟨38, _⟩ => ⟨S_, .f32⟩
  | .hbm, ⟨39, _⟩ => ⟨S8x8x2x4096, .f32⟩
  | .hbm, ⟨40, _⟩ => ⟨S_, .f32⟩
  | .hbm, ⟨41, _⟩ => ⟨S8x8x2x4096, .f32⟩
  | .hbm, ⟨42, _⟩ => ⟨S8x8x2x4096, .f32⟩
  | .hbm, ⟨43, _⟩ => ⟨S8x8x2x4096x1, .f32⟩
  | .hbm, ⟨44, _⟩ => ⟨S8x8x2x4096x4608, .f32⟩
  | .hbm, ⟨45, _⟩ => ⟨S8x8x2x4096x4608, .f32⟩
  | .hbm, ⟨46, _⟩ => ⟨S8x8x2x4096x4608, .f32⟩
  | .hbm, ⟨47, _⟩ => ⟨S_, .f32⟩
  | .hbm, ⟨48, _⟩ => ⟨S8x8x2x4096, .f32⟩
  | .hbm, ⟨49, _⟩ => ⟨S8x8x2x4096x1, .f32⟩
  | .hbm, ⟨50, _⟩ => ⟨S8x8x2x4096x4608, .f32⟩
  | .hbm, ⟨51, _⟩ => ⟨S8x8x2x4096x4608, .f32⟩
  | .hbm, ⟨52, _⟩ => ⟨S8x8x1x4096x4608, .f32⟩
  | .hbm, ⟨53, _⟩ => ⟨S8x8x4096x4608, .f32⟩
  | .hbm, ⟨54, _⟩ => ⟨S8x8x1x4096x4608, .f32⟩
  | .hbm, ⟨55, _⟩ => ⟨S8x8x4096x4608, .f32⟩
  | .hbm, ⟨56, _⟩ => ⟨S8x8x4096x4608, .f32⟩
  | .hbm, ⟨57, _⟩ => ⟨S8x8x4096x4608, .f32⟩
  | .hbm, ⟨58, _⟩ => ⟨S8x8x4096x4608, .f32⟩
  | .hbm, ⟨59, _⟩ => ⟨S8x8x128x4096, .f32⟩
  | .hbm, ⟨60, _⟩ => ⟨S8x4096x8x128, .f32⟩
  | .hbm, ⟨61, _⟩ => ⟨S128, .f32⟩
  | .hbm, ⟨62, _⟩ => ⟨S8x4096x8x128, .f32⟩
  | .hbm, ⟨63, _⟩ => ⟨S_, .f32⟩
  | .hbm, ⟨64, _⟩ => ⟨S8x4096x8, .f32⟩
  | .hbm, ⟨65, _⟩ => ⟨S8x4096x8x1, .f32⟩
  | .hbm, ⟨66, _⟩ => ⟨S_, .f32⟩
  | .hbm, ⟨67, _⟩ => ⟨S8x4096x8x1, .f32⟩
  | .hbm, ⟨68, _⟩ => ⟨S8x4096x8x1, .f32⟩
  | .hbm, ⟨69, _⟩ => ⟨S_, .f32⟩
  | .hbm, ⟨70, _⟩ => ⟨S8x4096x8x1, .f32⟩
  | .hbm, ⟨71, _⟩ => ⟨S8x4096x8x1, .f32⟩
  | .hbm, ⟨72, _⟩ => ⟨S8x4096x8x1, .f32⟩
  | .hbm, ⟨73, _⟩ => ⟨S8x4096x8x128, .f32⟩
  | .hbm, ⟨74, _⟩ => ⟨S8x4096x8x128, .f32⟩
  | .hbm, ⟨75, _⟩ => ⟨S1x1x1x128, .f32⟩
  | .hbm, ⟨76, _⟩ => ⟨S8x4096x8x128, .f32⟩
  | .hbm, ⟨77, _⟩ => ⟨S8x4096x8x128, .f32⟩
  | .hbm, ⟨78, _⟩ => ⟨S_, .f32⟩
  | .hbm, ⟨79, _⟩ => ⟨S8x4096x8x128, .f32⟩
  | .hbm, ⟨80, _⟩ => ⟨S8x4096x8x128, .f32⟩
  | .hbm, ⟨81, _⟩ => ⟨S8x4096x1024, .f32⟩
  | .hbm, ⟨82, _⟩ => ⟨S8x4096x1024, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1024x1024 : Shape := ⟨2, ![1024, 1024]⟩
abbrev S1x4x1024 : Shape := ⟨3, ![1, 4, 1024]⟩
abbrev S4x1024 : Shape := ⟨2, ![4, 1024]⟩
abbrev S32x1x6144 : Shape := ⟨3, ![32, 1, 6144]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 21
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S2x16x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S32768x1024, .bf16⟩
  | .hbm, ⟨8, _⟩ => ⟨S1x1024x1024, .bf16⟩
  | .hbm, ⟨9, _⟩ => ⟨S1024x1024, .bf16⟩
  | .hbm, ⟨10, _⟩ => ⟨S1x4x1024, .f32⟩
  | .hbm, ⟨11, _⟩ => ⟨S4x1024, .f32⟩
  | .hbm, ⟨12, _⟩ => ⟨S32x1x6144, .f32⟩
  | .hbm, ⟨13, _⟩ => ⟨S32768x1024, .f32⟩
  | .hbm, ⟨14, _⟩ => ⟨S2x1024x5632, .bf16⟩
  | .hbm, ⟨15, _⟩ => ⟨S1x1024x5632, .bf16⟩
  | .hbm, ⟨16, _⟩ => ⟨S1024x5632, .bf16⟩
  | .hbm, ⟨17, _⟩ => ⟨S2x2816x1024, .bf16⟩
  | .hbm, ⟨18, _⟩ => ⟨S1x2816x1024, .bf16⟩
  | .hbm, ⟨19, _⟩ => ⟨S2816x1024, .bf16⟩
  | .hbm, ⟨20, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x6144, .f32⟩
  | .local _ .vmem, ⟨6, _⟩ => ⟨S1x1x6144, .f32⟩
  | .local _ .vmem, ⟨7, _⟩ => ⟨S4x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.addi c17_i32 v16
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x8x6144 : Shape := ⟨3, ![1, 8, 6144]⟩
abbrev S8x6144 : Shape := ⟨2, ![8, 6144]⟩
abbrev S8x1x6144 : Shape := ⟨3, ![8, 1, 6144]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S2x16x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S8x4096x1024, .f32⟩
  | .hbm, ⟨8, _⟩ => ⟨S1024x1024, .f32⟩
  | .hbm, ⟨9, _⟩ => ⟨S8x4096x1024, .f32⟩
  | .hbm, ⟨10, _⟩ => ⟨S1x8x6144, .f32⟩
  | .hbm, ⟨11, _⟩ => ⟨S8x6144, .f32⟩
  | .hbm, ⟨12, _⟩ => ⟨S8x1x6144, .f32⟩
  | .hbm, ⟨13, _⟩ => ⟨S1x4x1024, .f32⟩
  | .hbm, ⟨14, _⟩ => ⟨S4x1024, .f32⟩
  | .hbm, ⟨15, _⟩ => ⟨S1x1024x5632, .f32⟩
  | .hbm, ⟨16, _⟩ => ⟨S1024x5632, .f32⟩
  | .hbm, ⟨17, _⟩ => ⟨S1x2816x1024, .f32⟩
  | .hbm, ⟨18, _⟩ => ⟨S2816x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S1x1024, .f32⟩
  | .hbm, ⟨26, _⟩ => ⟨S1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S1x1024, .f32⟩
  | .hbm, ⟨47, _⟩ => ⟨S1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x5632, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x1024, .f32⟩
  | .hbm, ⟨85, _⟩ => ⟨S1x1024, .f32⟩
  | .hbm, ⟨86, _⟩ => ⟨S1024, .f32⟩
  | .hbm, ⟨87, _⟩ => ⟨S8x4096x1024, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S1x1x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel3.lean ====
abbrev S8x4096x512 : Shape := ⟨3, ![8, 4096, 512]⟩
abbrev S32768x512 : Shape := ⟨2, ![32768, 512]⟩
abbrev S8x4096x1024 : Shape := ⟨3, ![8, 4096, 1024]⟩
abbrev S2x16x6144 : Shape := ⟨3, ![2, 16, 6144]⟩
abbrev S2x4x1024 : Shape := ⟨3, ![2, 4, 1024]⟩
abbrev S1x128 : Shape := ⟨2, ![1, 128]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S128 : Shape := ⟨1, ![128]⟩
abbrev S1024x1024 : Shape := ⟨2, ![1024, 1024]⟩
abbrev S1x4x1024 : Shape := ⟨3, ![1, 4, 1024]⟩
abbrev S4x1024 : Shape := ⟨2, ![4, 1024]⟩
abbrev S32x1x6144 : Shape := ⟨3, ![32, 1, 6144]⟩
abbrev S32768x1024 : Shape := ⟨2, ![32768, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x512 : Shape := ⟨2, ![512, 512]⟩
abbrev S512x1024 : Shape := ⟨2, ![512, 1024]⟩
abbrev S1x1x6144 : Shape := ⟨3, ![1, 1, 6144]⟩
abbrev S1x6144 : Shape := ⟨2, ![1, 6144]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 29
  | .vmem => 19
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x512, .f32⟩
  | .hbm, ⟨3, _⟩ => ⟨S32768x512, .bf16⟩
  | .hbm, ⟨4, _⟩ => ⟨S8x4096x1024, .f32⟩
  | .hbm, ⟨5, _⟩ => ⟨S2x16x6144, .f32⟩
  | .hbm, ⟨6, _⟩ => ⟨S2x4x1024, .f32⟩
  | .hbm, ⟨7, _⟩ => ⟨S1x128, .f32⟩
  | .hbm, ⟨8, _⟩ => ⟨S1x1024x1024, .f32⟩
  | .hbm, ⟨9, _⟩ => ⟨S2x1024x5632, .f32⟩
  | .hbm, ⟨10, _⟩ => ⟨S2x2816x1024, .f32⟩
  | .hbm, ⟨11, _⟩ => ⟨S32768x512, .f32⟩
  | .hbm, ⟨12, _⟩ => ⟨S32768x512, .f32⟩
  | .hbm, ⟨13, _⟩ => ⟨S128, .f32⟩
  | .hbm, ⟨14, _⟩ => ⟨S1x128, .f32⟩
  | .hbm, ⟨15, _⟩ => ⟨S32768x512, .bf16⟩
  | .hbm, ⟨16, _⟩ => ⟨S1x1024x1024, .bf16⟩
  | .hbm, ⟨17, _⟩ => ⟨S1024x1024, .bf16⟩
  | .hbm, ⟨18, _⟩ => ⟨S1x4x1024, .f32⟩
  | .hbm, ⟨19, _⟩ => ⟨S4x1024, .f32⟩
  | .hbm, ⟨20, _⟩ => ⟨S32x1x6144, .f32⟩
  | .hbm, ⟨21, _⟩ => ⟨S32768x1024, .f32⟩
  | .hbm, ⟨22, _⟩ => ⟨S2x1024x5632, .bf16⟩
  | .hbm, ⟨23, _⟩ => ⟨S1x1024x5632, .bf16⟩
  | .hbm, ⟨24, _⟩ => ⟨S1024x5632, .bf16⟩
  | .hbm, ⟨25, _⟩ => ⟨S2x2816x1024, .bf16⟩
  | .hbm, ⟨26, _⟩ => ⟨S1x2816x1024, .bf16⟩
  | .hbm, ⟨27, _⟩ => ⟨S2816x1024, .bf16⟩
  | .hbm, ⟨28, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x128, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1x6144, .f32⟩
  | .local _ .vmem, ⟨13, _⟩ => ⟨S1x1x6144, .f32⟩
  | .local _ .vmem, ⟨14, _⟩ => ⟨S4x1024, .f32⟩
  | .local _ .vmem, ⟨15, _⟩ => ⟨S1024x5632, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x4096x512 : Shape := ⟨3, ![8, 4096, 512]⟩
abbrev S32768x512 : Shape := ⟨2, ![32768, 512]⟩
abbrev S8x4096x1024 : Shape := ⟨3, ![8, 4096, 1024]⟩
abbrev S2x16x6144 : Shape := ⟨3, ![2, 16, 6144]⟩
abbrev S2x4x1024 : Shape := ⟨3, ![2, 4, 1024]⟩
abbrev S1x128 : Shape := ⟨2, ![1, 128]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S8x4096x4x128 : Shape := ⟨4, ![8, 4096, 4, 128]⟩
abbrev S128 : Shape := ⟨1, ![128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1024x1024 : Shape := ⟨2, ![1024, 1024]⟩
abbrev S1x8x6144 : Shape := ⟨3, ![1, 8, 6144]⟩
abbrev S8x6144 : Shape := ⟨2, ![8, 6144]⟩
abbrev S8x1x6144 : Shape := ⟨3, ![8, 1, 6144]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x1x1024 : Shape := ⟨3, ![8, 1, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 144
  | .vmem => 0
  | .smem => 0
  | _ => 0

abbrev hbmTy0_0 (i : Nat) : BufTy := match i % 128 with
  | 0 => ⟨S8x4096x512, .bf16⟩
  | 1 => ⟨S8x4096x512, .f32⟩
  | 2 => ⟨S8x4096x512, .f32⟩
  | 3 => ⟨S32768x512, .bf16⟩
  | 4 => ⟨S8x4096x1024, .f32⟩
  | 5 => ⟨S2x16x6144, .f32⟩
  | 6 => ⟨S2x4x1024, .f32⟩
  | 7 => ⟨S1x128, .f32⟩
  | 8 => ⟨S1x1024x1024, .f32⟩
  | 9 => ⟨S2x1024x5632, .f32⟩
  | 10 => ⟨S2x2816x1024, .f32⟩
  | 11 => ⟨S8x4096x512, .f32⟩
  | 12 => ⟨S8x4096x4x128, .f32⟩
  | 13 => ⟨S128, .f32⟩
  | 14 => ⟨S8x4096x4x128, .f32⟩
  | 15 => ⟨S_, .f32⟩
  | 16 => ⟨S8x4096x4, .f32⟩
  | 17 => ⟨S8x4096x4x1, .f32⟩
  | 18 => ⟨S_, .f32⟩
  | 19 => ⟨S8x4096x4x1, .f32⟩
  | 20 => ⟨S8x4096x4x1, .f32⟩
  | 21 => ⟨S_, .f32⟩
  | 22 => ⟨S8x4096x4x1, .f32⟩
  | 23 => ⟨S8x4096x4x1, .f32⟩
  | 24 => ⟨S8x4096x4x1, .f32⟩
  | 25 => ⟨S8x4096x4x128, .f32⟩
  | 26 => ⟨S8x4096x4x128, .f32⟩
  | 27 => ⟨S1x1x1x128, .f32⟩
  | 28 => ⟨S8x4096x4x128, .f32⟩
  | 29 => ⟨S8x4096x4x128, .f32⟩
  | 30 => ⟨S32768x512, .f32⟩
  | 31 => ⟨S8x4096x4x128, .f32⟩
  | 32 => ⟨S8x4096x4x128, .f32⟩
  | 33 => ⟨S8x4096x4x128, .f32⟩
  | 34 => ⟨S_, .f32⟩
  | 35 => ⟨S8x4096x4x128, .f32⟩
  | 36 => ⟨S8x4096x4x128, .f32⟩
  | 37 => ⟨S_, .f32⟩
  | 38 => ⟨S8x4096x4x128, .f32⟩
  | 39 => ⟨S8x4096x4x128, .f32⟩
  | 40 => ⟨S8x4096x4x128, .f32⟩
  | 41 => ⟨S8x4096x4x128, .f32⟩
  | 42 => ⟨S8x4096x512, .f32⟩
  | 43 => ⟨S8x4096x512, .f32⟩
  | 44 => ⟨S8x4096x1024, .f32⟩
  | 45 => ⟨S1024x1024, .f32⟩
  | 46 => ⟨S8x4096x1024, .f32⟩
  | 47 => ⟨S1x8x6144, .f32⟩
  | 48 => ⟨S8x6144, .f32⟩
  | 49 => ⟨S8x1x6144, .f32⟩
  | 50 => ⟨S1x4x1024, .f32⟩
  | 51 => ⟨S4x1024, .f32⟩
  | 52 => ⟨S1x1024x5632, .f32⟩
  | 53 => ⟨S1024x5632, .f32⟩
  | 54 => ⟨S1x2816x1024, .f32⟩
  | 55 => ⟨S2816x1024, .f32⟩
  | 56 => ⟨S8x1x1024, .f32⟩
  | 57 => ⟨S8x1x1024, .f32⟩
  | 58 => ⟨S8x1x1024, .f32⟩
  | 59 => ⟨S8x1x1024, .f32⟩
  | 60 => ⟨S8x1x1024, .f32⟩
  | 61 => ⟨S8x1x1024, .f32⟩
  | 62 => ⟨S1x1024, .f32⟩
  | 63 => ⟨S1024, .f32⟩
  | 64 => ⟨S8x4096x1024, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x1024, .f32⟩
  | 76 => ⟨S8x4096x1024, .f32⟩
  | 77 => ⟨S1x1x1024, .f32⟩
  | 78 => ⟨S8x4096x1024, .f32⟩
  | 79 => ⟨S8x4096x1024, .f32⟩
  | 80 => ⟨S8x4096x1024, .f32⟩
  | 81 => ⟨S8x4096x1024, .f32⟩
  | 82 => ⟨S8x4096x1024, .f32⟩
  | 83 => ⟨S1x1024, .f32⟩
  | 84 => ⟨S1024, .f32⟩
  | 85 => ⟨S8x4096x1024, .f32⟩
  | 86 => ⟨S_, .f32⟩
  | 87 => ⟨S8x4096, .f32⟩
  | 88 => ⟨S8x4096x1, .f32⟩
  | 89 => ⟨S_, .f32⟩
  | 90 => ⟨S8x4096x1, .f32⟩
  | 91 => ⟨S8x4096x1, .f32⟩
  | 92 => ⟨S_, .f32⟩
  | 93 => ⟨S8x4096x1, .f32⟩
  | 94 => ⟨S8x4096x1, .f32⟩
  | 95 => ⟨S8x4096x1, .f32⟩
  | 96 => ⟨S8x4096x1024, .f32⟩
  | 97 => ⟨S8x4096x1024, .f32⟩
  | 98 => ⟨S1x1x1024, .f32⟩
  | 99 => ⟨S8x4096x1024, .f32⟩
  | 100 => ⟨S8x4096x1024, .f32⟩
  | 101 => ⟨S_, .f32⟩
  | 102 => ⟨S8x1x1024, .f32⟩
  | 103 => ⟨S8x1x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x5632, .f32⟩
  | 109 => ⟨S8x4096x2816, .f32⟩
  | 110 => ⟨S8x4096x2816, .f32⟩
  | 111 => ⟨S8x4096x2816, .f32⟩
  | 112 => ⟨S8x4096x2816, .f32⟩
  | 113 => ⟨S_, .f32⟩
  | 114 => ⟨S8x4096x2816, .f32⟩
  | 115 => ⟨S8x4096x2816, .f32⟩
  | 116 => ⟨S_, .f32⟩
  | 117 => ⟨S8x4096x2816, .f32⟩
  | 118 => ⟨S8x4096x2816, .f32⟩
  | 119 => ⟨S8x4096x2816, .f32⟩
  | 120 => ⟨S8x4096x2816, .f32⟩
  | 121 => ⟨S8x4096x1024, .f32⟩
  | 122 => ⟨S1x1024, .f32⟩
  | 123 => ⟨S1024, .f32⟩
  | 124 => ⟨S8x4096x1024, .f32⟩
  | 125 => ⟨S_, .f32⟩
  | 126 => ⟨S8x4096, .f32⟩
  | 127 => ⟨S8x4096x1, .f32⟩
  | _ => ⟨S8x4096x512, .bf16⟩

abbrev hbmTy0_1 (i : Nat) : BufTy := match i % 128 with
  | 0 => ⟨S_, .f32⟩
  | 1 => ⟨S8x4096x1, .f32⟩
  | 2 => ⟨S8x4096x1, .f32⟩
  | 3 => ⟨S_, .f32⟩
  | 4 => ⟨S8x4096x1, .f32⟩
  | 5 => ⟨S8x4096x1, .f32⟩
  | 6 => ⟨S8x4096x1, .f32⟩
  | 7 => ⟨S8x4096x1024, .f32⟩
  | 8 => ⟨S8x4096x1024, .f32⟩
  | 9 => ⟨S1x1x1024, .f32⟩
  | 10 => ⟨S8x4096x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S32768x1024, .f32⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_8 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_v89 : Ref sig .tc := ⟨.hbm, 127, rfl⟩
abbrev main_cst_10 : Ref sig .tc := ⟨.hbm, 128, rfl⟩
abbrev main_v90 : Ref sig .tc := ⟨.hbm, 129, rfl⟩
abbrev main_v91 : Ref sig .tc := ⟨.hbm, 130, rfl⟩
abbrev main_cst_11 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]
-- ==== Kernel4.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S4096x1024 : Shape := ⟨2, ![4096, 1024]⟩
abbrev S1024x1024 : Shape := ⟨2, ![1024, 1024]⟩
abbrev S1x4x1024 : Shape := ⟨3, ![1, 4, 1024]⟩
abbrev S4x1024 : Shape := ⟨2, ![4, 1024]⟩
abbrev S32x1x6144 : Shape := ⟨3, ![32, 1, 6144]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 21
  | .vmem => 11
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .f32⟩
  | .hbm, ⟨2, _⟩ => ⟨S2x16x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S4096x1024, .bf16⟩
  | .hbm, ⟨8, _⟩ => ⟨S1x1024x1024, .bf16⟩
  | .hbm, ⟨9, _⟩ => ⟨S1024x1024, .bf16⟩
  | .hbm, ⟨10, _⟩ => ⟨S1x4x1024, .f32⟩
  | .hbm, ⟨11, _⟩ => ⟨S4x1024, .f32⟩
  | .hbm, ⟨12, _⟩ => ⟨S32x1x6144, .f32⟩
  | .hbm, ⟨13, _⟩ => ⟨S4096x1024, .f32⟩
  | .hbm, ⟨14, _⟩ => ⟨S2x1024x5632, .bf16⟩
  | .hbm, ⟨15, _⟩ => ⟨S1x1024x5632, .bf16⟩
  | .hbm, ⟨16, _⟩ => ⟨S1024x5632, .bf16⟩
  | .hbm, ⟨17, _⟩ => ⟨S2x2816x1024, .bf16⟩
  | .hbm, ⟨18, _⟩ => ⟨S1x2816x1024, .bf16⟩
  | .hbm, ⟨19, _⟩ => ⟨S2816x1024, .bf16⟩
  | .hbm, ⟨20, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x6144, .f32⟩
  | .local _ .vmem, ⟨6, _⟩ => ⟨S4x1024, .f32⟩
  | .local _ .vmem, ⟨7, _⟩ => ⟨S1024x5632, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1x6144 : Shape := ⟨3, ![1, 1, 6144]⟩
abbrev S1x6144 : Shape := ⟨2, ![1, 6144]⟩
abbrev S1x4x1024 : Shape := ⟨3, ![1, 4, 1024]⟩
abbrev S4x1024 : Shape := ⟨2, ![4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .f32⟩
  | .hbm, ⟨2, _⟩ => ⟨S2x16x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S16x256x1024, .f32⟩
  | .hbm, ⟨8, _⟩ => ⟨S1024x1024, .f32⟩
  | .hbm, ⟨9, _⟩ => ⟨S16x256x1024, .f32⟩
  | .hbm, ⟨10, _⟩ => ⟨S1x1x6144, .f32⟩
  | .hbm, ⟨11, _⟩ => ⟨S1x6144, .f32⟩
  | .hbm, ⟨12, _⟩ => ⟨S1x1x6144, .f32⟩
  | .hbm, ⟨13, _⟩ => ⟨S1x4x1024, .f32⟩
  | .hbm, ⟨14, _⟩ => ⟨S4x1024, .f32⟩
  | .hbm, ⟨15, _⟩ => ⟨S1x1024x5632, .f32⟩
  | .hbm, ⟨16, _⟩ => ⟨S1024x5632, .f32⟩
  | .hbm, ⟨17, _⟩ => ⟨S1x2816x1024, .f32⟩
  | .hbm, ⟨18, _⟩ => ⟨S2816x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S1x1x1024, .f32⟩
  | .hbm, ⟨25, _⟩ => ⟨S1x1024, .f32⟩
  | .hbm, ⟨26, _⟩ => ⟨S1024, .f32⟩
  | .hbm, ⟨27, _⟩ => ⟨S16x256x1024, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S16x256x1, .f32⟩
  | .hbm, ⟨38, _⟩ => ⟨S16x256x1024, .f32⟩
  | .hbm, ⟨39, _⟩ => ⟨S16x256x1024, .f32⟩
  | .hbm, ⟨40, _⟩ => ⟨S1x1x1024, .f32⟩
  | .hbm, ⟨41, _⟩ => ⟨S16x256x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S1x1024, .f32⟩
  | .hbm, ⟨47, _⟩ => ⟨S1024, .f32⟩
  | .hbm, ⟨48, _⟩ => ⟨S16x256x1024, .f32⟩
  | .hbm, ⟨49, _⟩ => ⟨S_, .f32⟩
  | .hbm, ⟨50, _⟩ => ⟨S16x256, .f32⟩
  | .hbm, ⟨51, _⟩ => ⟨S16x256x1, .f32⟩
  | .hbm, ⟨52, _⟩ => ⟨S_, .f32⟩
  | .hbm, ⟨53, _⟩ => ⟨S16x256x1, .f32⟩
  | .hbm, ⟨54, _⟩ => ⟨S16x256x1, .f32⟩
  | .hbm, ⟨55, _⟩ => ⟨S_, .f32⟩
  | .hbm, ⟨56, _⟩ => ⟨S16x256x1, .f32⟩
  | .hbm, ⟨57, _⟩ => ⟨S16x256x1, .f32⟩
  | .hbm, ⟨58, _⟩ => ⟨S16x256x1, .f32⟩
  | .hbm, ⟨59, _⟩ => ⟨S16x256x1024, .f32⟩
  | .hbm, ⟨60, _⟩ => ⟨S16x256x1024, .f32⟩
  | .hbm, ⟨61, _⟩ => ⟨S1x1x1024, .f32⟩
  | .hbm, ⟨62, _⟩ => ⟨S16x256x1024, .f32⟩
  | .hbm, ⟨63, _⟩ => ⟨S16x256x1024, .f32⟩
  | .hbm, ⟨64, _⟩ => ⟨S_, .f32⟩
  | .hbm, ⟨65, _⟩ => ⟨S1x1x1024, .f32⟩
  | .hbm, ⟨66, _⟩ => ⟨S1x1x1024, .f32⟩
  | .hbm, ⟨67, _⟩ => ⟨S16x256x1024, .f32⟩
  | .hbm, ⟨68, _⟩ => ⟨S16x256x1024, .f32⟩
  | .hbm, ⟨69, _⟩ => ⟨S16x256x1024, .f32⟩
  | .hbm, ⟨70, _⟩ => ⟨S16x256x1024, .f32⟩
  | .hbm, ⟨71, _⟩ => ⟨S16x256x5632, .f32⟩
  | .hbm, ⟨72, _⟩ => ⟨S16x256x2816, .f32⟩
  | .hbm, ⟨73, _⟩ => ⟨S16x256x2816, .f32⟩
  | .hbm, ⟨74, _⟩ => ⟨S16x256x2816, .f32⟩
  | .hbm, ⟨75, _⟩ => ⟨S16x256x2816, .f32⟩
  | .hbm, ⟨76, _⟩ => ⟨S_, .f32⟩
  | .hbm, ⟨77, _⟩ => ⟨S16x256x2816, .f32⟩
  | .hbm, ⟨78, _⟩ => ⟨S16x256x2816, .f32⟩
  | .hbm, ⟨79, _⟩ => ⟨S_, .f32⟩
  | .hbm, ⟨80, _⟩ => ⟨S16x256x2816, .f32⟩
  | .hbm, ⟨81, _⟩ => ⟨S16x256x2816, .f32⟩
  | .hbm, ⟨82, _⟩ => ⟨S16x256x2816, .f32⟩
  | .hbm, ⟨83, _⟩ => ⟨S16x256x2816, .f32⟩
  | .hbm, ⟨84, _⟩ => ⟨S16x256x1024, .f32⟩
  | .hbm, ⟨85, _⟩ => ⟨S1x1024, .f32⟩
  | .hbm, ⟨86, _⟩ => ⟨S1024, .f32⟩
  | .hbm, ⟨87, _⟩ => ⟨S16x256x1024, .f32⟩
  | .hbm, ⟨88, _⟩ => ⟨S_, .f32⟩
  | .hbm, ⟨89, _⟩ => ⟨S16x256, .f32⟩
  | .hbm, ⟨90, _⟩ => ⟨S16x256x1, .f32⟩
  | .hbm, ⟨91, _⟩ => ⟨S_, .f32⟩
  | .hbm, ⟨92, _⟩ => ⟨S16x256x1, .f32⟩
  | .hbm, ⟨93, _⟩ => ⟨S16x256x1, .f32⟩
  | .hbm, ⟨94, _⟩ => ⟨S_, .f32⟩
  | .hbm, ⟨95, _⟩ => ⟨S16x256x1, .f32⟩
  | .hbm, ⟨96, _⟩ => ⟨S16x256x1, .f32⟩
  | .hbm, ⟨97, _⟩ => ⟨S16x256x1, .f32⟩
  | .hbm, ⟨98, _⟩ => ⟨S16x256x1024, .f32⟩
  | .hbm, ⟨99, _⟩ => ⟨S16x256x1024, .f32⟩
  | .hbm, ⟨100, _⟩ => ⟨S1x1x1024, .f32⟩
  | .hbm, ⟨101, _⟩ => ⟨S16x256x1024, .f32⟩
  | .hbm, ⟨102, _⟩ => ⟨S16x256x1024, .f32⟩
  | .hbm, ⟨103, _⟩ => ⟨S16x256x1024, .f32⟩
  | .hbm, ⟨104, _⟩ => ⟨S16x256x1024, .f32⟩
  | .hbm, ⟨105, _⟩ => ⟨S16x256x1024, .f32⟩
  | .hbm, ⟨106, _⟩ => ⟨S4096x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel5.lean ====
abbrev S8x8x4096x128 : Shape := ⟨4, ![8, 8, 4096, 128]⟩
abbrev S8x4x4096x128 : Shape := ⟨4, ![8, 4, 4096, 128]⟩
abbrev S8x8x512x128 : Shape := ⟨4, ![8, 8, 512, 128]⟩
abbrev S8x4x512x128 : Shape := ⟨4, ![8, 4, 512, 128]⟩
abbrev S8x4096x512 : Shape := ⟨3, ![8, 4096, 512]⟩
abbrev S1x4x1024x128 : Shape := ⟨4, ![1, 4, 1024, 128]⟩
abbrev S1x4x4096x128 : Shape := ⟨4, ![1, 4, 4096, 128]⟩
abbrev S1x2x4096x128 : Shape := ⟨4, ![1, 2, 4096, 128]⟩
abbrev S1x4x512x128 : Shape := ⟨4, ![1, 4, 512, 128]⟩
abbrev S1x2x512x128 : Shape := ⟨4, ![1, 2, 512, 128]⟩
abbrev S1x1024x256 : Shape := ⟨3, ![1, 1024, 256]⟩
abbrev S1x1x1024x128 : Shape := ⟨4, ![1, 1, 1024, 128]⟩
abbrev S1024x128 : Shape := ⟨2, ![1024, 128]⟩
abbrev S256x128 : Shape := ⟨2, ![256, 128]⟩
abbrev S1x1x512x128 : Shape := ⟨4, ![1, 1, 512, 128]⟩
abbrev S512x128 : Shape := ⟨2, ![512, 128]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩
abbrev S1x1x4096x128 : Shape := ⟨4, ![1, 1, 4096, 128]⟩
abbrev S4096x128 : Shape := ⟨2, ![4096, 128]⟩
abbrev S1x1024x128 : Shape := ⟨3, ![1, 1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S8x8x512x128, .bf16⟩
  | .hbm, ⟨4, _⟩ => ⟨S8x4x512x128, .bf16⟩
  | .hbm, ⟨5, _⟩ => ⟨S8x4096x512, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x4096x128, .bf16⟩
  | .local _ .vmem, ⟨3, _⟩ => ⟨S1x4x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x4x512x128, .bf16⟩
  | .local _ .vmem, ⟨7, _⟩ => ⟨S1x4x512x128, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S1x1024x256, .bf16⟩
  | .local _ .vmem, ⟨11, _⟩ => ⟨S1x1024x256, .bf16⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8x8x4096x128 : Shape := ⟨4, ![8, 8, 4096, 128]⟩
abbrev S8x4x4096x128 : Shape := ⟨4, ![8, 4, 4096, 128]⟩
abbrev S8x8x512x128 : Shape := ⟨4, ![8, 8, 512, 128]⟩
abbrev S8x4x512x128 : Shape := ⟨4, ![8, 4, 512, 128]⟩
abbrev S8x8x4608x128 : Shape := ⟨4, ![8, 8, 4608, 128]⟩
abbrev S8x4x4608x128 : Shape := ⟨4, ![8, 4, 4608, 128]⟩
abbrev S8x4x4608x2x64 : Shape := ⟨5, ![8, 4, 4608, 2, 64]⟩
abbrev S8x4x2x4608x64 : Shape := ⟨5, ![8, 4, 2, 4608, 64]⟩
abbrev S8x8x4608x64 : Shape := ⟨4, ![8, 8, 4608, 64]⟩
abbrev S8x8x4096x4608 : Shape := ⟨4, ![8, 8, 4096, 4608]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S8x8x512x128, .bf16⟩
  | .hbm, ⟨4, _⟩ => ⟨S8x4x512x128, .bf16⟩
  | .hbm, ⟨5, _⟩ => ⟨S8x8x4608x128, .bf16⟩
  | .hbm, ⟨6, _⟩ => ⟨S8x8x4608x128, .f32⟩
  | .hbm, ⟨7, _⟩ => ⟨S8x4x4608x128, .bf16⟩
  | .hbm, ⟨8, _⟩ => ⟨S8x4x4608x128, .f32⟩
  | .hbm, ⟨9, _⟩ => ⟨S8x4x4608x2x64, .f32⟩
  | .hbm, ⟨10, _⟩ => ⟨S8x4x2x4608x64, .f32⟩
  | .hbm, ⟨11, _⟩ => ⟨S8x8x4608x64, .f32⟩
  | .hbm, ⟨12, _⟩ => ⟨S8x8x4096x128, .f32⟩
  | .hbm, ⟨13, _⟩ => ⟨S8x8x4096x4608, .f32⟩
  | .hbm, ⟨14, _⟩ => ⟨S_, .f32⟩
  | .hbm, ⟨15, _⟩ => ⟨S_, .f32⟩
  | .hbm, ⟨16, _⟩ => ⟨S8x8x4096x4608, .f32⟩
  | .hbm, ⟨17, _⟩ => ⟨S8x8x4096x4608, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4608, .f32⟩
  | .hbm, ⟨25, _⟩ => ⟨S8x8x4096x4608, .f32⟩
  | .hbm, ⟨26, _⟩ => ⟨S8x8x4096x4608, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4608, .f32⟩
  | .hbm, ⟨31, _⟩ => ⟨S8x8x4096x4608, .f32⟩
  | .hbm, ⟨32, _⟩ => ⟨S8x8x64x4096, .f32⟩
  | .hbm, ⟨33, _⟩ => ⟨S8x4096x8x64, .f32⟩
  | .hbm, ⟨34, _⟩ => ⟨S8x4096x512, .f32⟩
  | .hbm, ⟨35, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel6.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S1x4x1024 : Shape := ⟨3, ![1, 4, 1024]⟩
abbrev S4x1024 : Shape := ⟨2, ![4, 1024]⟩
abbrev S4096x1024 : Shape := ⟨2, ![4096, 1024]⟩
abbrev S32x1x6144 : Shape := ⟨3, ![32, 1, 6144]⟩
abbrev S1x1024 : Shape := ⟨2, ![1, 1024]⟩
abbrev S1024x3072 : Shape := ⟨2, ![1024, 3072]⟩
abbrev S16x8x256x128 : Shape := ⟨4, ![16, 8, 256, 128]⟩
abbrev S256x1024 : Shape := ⟨2, ![256, 1024]⟩
abbrev S1x1x6144 : Shape := ⟨3, ![1, 1, 6144]⟩
abbrev S1x8x256x128 : Shape := ⟨4, ![1, 8, 256, 128]⟩
abbrev S1x6144 : Shape := ⟨2, ![1, 6144]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S1x1x256x128 : Shape := ⟨4, ![1, 1, 256, 128]⟩

abbrev nBuf : Space → Nat
  | .hbm => 16
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S2x16x6144, .f32⟩
  | .hbm, ⟨2, _⟩ => ⟨S2x4x1024, .f32⟩
  | .hbm, ⟨3, _⟩ => ⟨S1x1024x3072, .f32⟩
  | .hbm, ⟨4, _⟩ => ⟨S1x4x1024, .f32⟩
  | .hbm, ⟨5, _⟩ => ⟨S4x1024, .f32⟩
  | .hbm, ⟨6, _⟩ => ⟨S4096x1024, .f32⟩
  | .hbm, ⟨7, _⟩ => ⟨S32x1x6144, .f32⟩
  | .hbm, ⟨8, _⟩ => ⟨S1x1024, .f32⟩
  | .hbm, ⟨9, _⟩ => ⟨S1x1024x3072, .bf16⟩
  | .hbm, ⟨10, _⟩ => ⟨S1024x3072, .bf16⟩
  | .hbm, ⟨11, _⟩ => ⟨S16x8x256x128, .bf16⟩
  | .hbm, ⟨12, _⟩ => ⟨S16x8x256x128, .bf16⟩
  | .hbm, ⟨13, _⟩ => ⟨S16x8x256x128, .bf16⟩
  | .hbm, ⟨14, _⟩ => ⟨S4096x1024, .f32⟩
  | .hbm, ⟨15, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1024, .f32⟩
  | .local _ .vmem, ⟨4, _⟩ => ⟨S1024x3072, .bf16⟩
  | .local _ .vmem, ⟨5, _⟩ => ⟨S1x8x256x128, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x8x256x128, .bf16⟩
  | .local _ .vmem, ⟨9, _⟩ => ⟨S1x8x256x128, .bf16⟩
  | .local _ .vmem, ⟨10, _⟩ => ⟨S1x8x256x128, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_5 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_6 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S1x1x6144 : Shape := ⟨3, ![1, 1, 6144]⟩
abbrev S1x6144 : Shape := ⟨2, ![1, 6144]⟩
abbrev S1x4x1024 : Shape := ⟨3, ![1, 4, 1024]⟩
abbrev S4x1024 : Shape := ⟨2, ![4, 1024]⟩
abbrev S1024x3072 : Shape := ⟨2, ![1024, 3072]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x3072 : Shape := ⟨3, ![16, 256, 3072]⟩
abbrev S16x256x8x128 : Shape := ⟨4, ![16, 256, 8, 128]⟩
abbrev S16x8x256x128 : Shape := ⟨4, ![16, 8, 256, 128]⟩
abbrev S4096x1024 : Shape := ⟨2, ![4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x16x6144, .f32⟩
  | .hbm, ⟨2, _⟩ => ⟨S2x4x1024, .f32⟩
  | .hbm, ⟨3, _⟩ => ⟨S1x1024x3072, .f32⟩
  | .hbm, ⟨4, _⟩ => ⟨S1x1x6144, .f32⟩
  | .hbm, ⟨5, _⟩ => ⟨S1x6144, .f32⟩
  | .hbm, ⟨6, _⟩ => ⟨S1x1x6144, .f32⟩
  | .hbm, ⟨7, _⟩ => ⟨S1x4x1024, .f32⟩
  | .hbm, ⟨8, _⟩ => ⟨S4x1024, .f32⟩
  | .hbm, ⟨9, _⟩ => ⟨S1024x3072, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S16x256x3072, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S_, .f32⟩
  | .hbm, ⟨46, _⟩ => ⟨S16x256x1024, .f32⟩
  | .hbm, ⟨47, _⟩ => ⟨S16x256x1024, .f32⟩
  | .hbm, ⟨48, _⟩ => ⟨S16x256x8x128, .f32⟩
  | .hbm, ⟨49, _⟩ => ⟨S16x8x256x128, .f32⟩
  | .hbm, ⟨50, _⟩ => ⟨S16x8x256x128, .bf16⟩
  | .hbm, ⟨51, _⟩ => ⟨S16x256x8x128, .f32⟩
  | .hbm, ⟨52, _⟩ => ⟨S16x8x256x128, .f32⟩
  | .hbm, ⟨53, _⟩ => ⟨S16x8x256x128, .bf16⟩
  | .hbm, ⟨54, _⟩ => ⟨S16x256x8x128, .f32⟩
  | .hbm, ⟨55, _⟩ => ⟨S16x8x256x128, .f32⟩
  | .hbm, ⟨56, _⟩ => ⟨S16x8x256x128, .bf16⟩
  | .hbm, ⟨57, _⟩ => ⟨S4096x1024, .f32⟩
  | .hbm, ⟨58, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel7.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S4096x32 : Shape := ⟨2, ![4096, 32]⟩
abbrev S1x4x1024 : Shape := ⟨3, ![1, 4, 1024]⟩
abbrev S4x1024 : Shape := ⟨2, ![4, 1024]⟩
abbrev S_ : Shape := ⟨0, ![]⟩
abbrev S4096x32x1 : Shape := ⟨3, ![4096, 32, 1]⟩
abbrev S4096x32x2 : Shape := ⟨3, ![4096, 32, 2]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x1024 : Shape := ⟨2, ![32768, 1024]⟩
abbrev S32x1x6144 : Shape := ⟨3, ![32, 1, 6144]⟩
abbrev S1x1024 : Shape := ⟨2, ![1, 1024]⟩
abbrev S1024x3072 : Shape := ⟨2, ![1024, 3072]⟩
abbrev S8x8x4096x128 : Shape := ⟨4, ![8, 8, 4096, 128]⟩
abbrev S512x1024 : Shape := ⟨2, ![512, 1024]⟩
abbrev S1x1x6144 : Shape := ⟨3, ![1, 1, 6144]⟩
abbrev S512x128 : Shape := ⟨2, ![512, 128]⟩
abbrev S1x8x512x128 : Shape := ⟨4, ![1, 8, 512, 128]⟩
abbrev S1x6144 : Shape := ⟨2, ![1, 6144]⟩
abbrev S512 : Shape := ⟨1, ![512]⟩
abbrev S512x1 : Shape := ⟨2, ![512, 1]⟩
abbrev S512x3072 : Shape := ⟨2, ![512, 3072]⟩
abbrev S1x1x512x128 : Shape := ⟨4, ![1, 1, 512, 128]⟩

abbrev nBuf : Space → Nat
  | .hbm => 40
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S2x4x1024, .f32⟩
  | .hbm, ⟨3, _⟩ => ⟨S1x1024x3072, .f32⟩
  | .hbm, ⟨4, _⟩ => ⟨S4096x32, .f32⟩
  | .hbm, ⟨5, _⟩ => ⟨S4096x32, .f32⟩
  | .hbm, ⟨6, _⟩ => ⟨S1x4x1024, .f32⟩
  | .hbm, ⟨7, _⟩ => ⟨S4x1024, .f32⟩
  | .hbm, ⟨8, _⟩ => ⟨S_, .f32⟩
  | .hbm, ⟨9, _⟩ => ⟨S4096x32, .f32⟩
  | .hbm, ⟨10, _⟩ => ⟨S4096x32x1, .f32⟩
  | .hbm, ⟨11, _⟩ => ⟨S4096x32x1, .f32⟩
  | .hbm, ⟨12, _⟩ => ⟨S4096x32x2, .f32⟩
  | .hbm, ⟨13, _⟩ => ⟨S4096x64, .f32⟩
  | .hbm, ⟨14, _⟩ => ⟨S1x4096x1x64, .f32⟩
  | .hbm, ⟨15, _⟩ => ⟨S1x4096x2x64, .f32⟩
  | .hbm, ⟨16, _⟩ => ⟨S4096x128, .f32⟩
  | .hbm, ⟨17, _⟩ => ⟨S4096x32, .f32⟩
  | .hbm, ⟨18, _⟩ => ⟨S4096x32x1, .f32⟩
  | .hbm, ⟨19, _⟩ => ⟨S4096x32x1, .f32⟩
  | .hbm, ⟨20, _⟩ => ⟨S4096x32x2, .f32⟩
  | .hbm, ⟨21, _⟩ => ⟨S4096x64, .f32⟩
  | .hbm, ⟨22, _⟩ => ⟨S1x4096x1x64, .f32⟩
  | .hbm, ⟨23, _⟩ => ⟨S1x4096x2x64, .f32⟩
  | .hbm, ⟨24, _⟩ => ⟨S4096x128, .f32⟩
  | .hbm, ⟨25, _⟩ => ⟨S4096x32x1, .f32⟩
  | .hbm, ⟨26, _⟩ => ⟨S4096x32x1, .f32⟩
  | .hbm, ⟨27, _⟩ => ⟨S4096x32x2, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S32768x1024, .f32⟩
  | .hbm, ⟨33, _⟩ => ⟨S32x1x6144, .f32⟩
  | .hbm, ⟨34, _⟩ => ⟨S1x1024, .f32⟩
  | .hbm, ⟨35, _⟩ => ⟨S1x1024x3072, .bf16⟩
  | .hbm, ⟨36, _⟩ => ⟨S1024x3072, .bf16⟩
  | .hbm, ⟨37, _⟩ => ⟨S8x8x4096x128, .bf16⟩
  | .hbm, ⟨38, _⟩ => ⟨S8x8x4096x128, .bf16⟩
  | .hbm, ⟨39, _⟩ => ⟨S8x8x4096x128, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3072, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.addi c17_i32 v16
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S4096x32 : Shape := ⟨2, ![4096, 32]⟩
abbrev S1x8x6144 : Shape := ⟨3, ![1, 8, 6144]⟩
abbrev S8x6144 : Shape := ⟨2, ![8, 6144]⟩
abbrev S8x1x6144 : Shape := ⟨3, ![8, 1, 6144]⟩
abbrev S1x4x1024 : Shape := ⟨3, ![1, 4, 1024]⟩
abbrev S4x1024 : Shape := ⟨2, ![4, 1024]⟩
abbrev S1024x3072 : Shape := ⟨2, ![1024, 3072]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x8x2x64 : Shape := ⟨5, ![8, 4096, 8, 2, 64]⟩
abbrev S1x4096x1x1x32 : Shape := ⟨5, ![1, 4096, 1, 1, 32]⟩
abbrev S8x4096x8x2x32x2 : Shape := ⟨6, ![8, 4096, 8, 2, 32, 2]⟩
abbrev S8x4096x8x2x32x1 : Shape := ⟨6, ![8, 4096, 8, 2, 32, 1]⟩
abbrev S8x4096x8x2x32 : Shape := ⟨5, ![8, 4096, 8, 2, 32]⟩
abbrev S8x4096x8x128 : Shape := ⟨4, ![8, 4096, 8, 128]⟩
abbrev S8x8x4096x128 : Shape := ⟨4, ![8, 8, 4096, 128]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S2x4x1024, .f32⟩
  | .hbm, ⟨3, _⟩ => ⟨S1x1024x3072, .f32⟩
  | .hbm, ⟨4, _⟩ => ⟨S4096x32, .f32⟩
  | .hbm, ⟨5, _⟩ => ⟨S4096x32, .f32⟩
  | .hbm, ⟨6, _⟩ => ⟨S1x8x6144, .f32⟩
  | .hbm, ⟨7, _⟩ => ⟨S8x6144, .f32⟩
  | .hbm, ⟨8, _⟩ => ⟨S8x1x6144, .f32⟩
  | .hbm, ⟨9, _⟩ => ⟨S1x4x1024, .f32⟩
  | .hbm, ⟨10, _⟩ => ⟨S4x1024, .f32⟩
  | .hbm, ⟨11, _⟩ => ⟨S1024x3072, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1x1024, .f32⟩
  | .hbm, ⟨19, _⟩ => ⟨S1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x3072, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x8x2x64, .f32⟩
  | .hbm, ⟨48, _⟩ => ⟨S1x4096x1x1x32, .f32⟩
  | .hbm, ⟨49, _⟩ => ⟨S1x4096x1x1x32, .f32⟩
  | .hbm, ⟨50, _⟩ => ⟨S8x4096x8x2x32x2, .f32⟩
  | .hbm, ⟨51, _⟩ => ⟨S8x4096x8x2x32x1, .f32⟩
  | .hbm, ⟨52, _⟩ => ⟨S8x4096x8x2x32, .f32⟩
  | .hbm, ⟨53, _⟩ => ⟨S8x4096x8x2x32x1, .f32⟩
  | .hbm, ⟨54, _⟩ => ⟨S8x4096x8x2x32, .f32⟩
  | .hbm, ⟨55, _⟩ => ⟨S8x4096x8x2x32, .f32⟩
  | .hbm, ⟨56, _⟩ => ⟨S8x4096x8x2x32, .f32⟩
  | .hbm, ⟨57, _⟩ => ⟨S8x4096x8x2x32, .f32⟩
  | .hbm, ⟨58, _⟩ => ⟨S8x4096x8x2x32, .f32⟩
  | .hbm, ⟨59, _⟩ => ⟨S8x4096x8x2x32, .f32⟩
  | .hbm, ⟨60, _⟩ => ⟨S8x4096x8x2x32, .f32⟩
  | .hbm, ⟨61, _⟩ => ⟨S8x4096x8x2x32, .f32⟩
  | .hbm, ⟨62, _⟩ => ⟨S8x4096x8x2x32, .f32⟩
  | .hbm, ⟨63, _⟩ => ⟨S8x4096x8x2x32, .f32⟩
  | .hbm, ⟨64, _⟩ => ⟨S8x4096x8x2x32, .f32⟩
  | .hbm, ⟨65, _⟩ => ⟨S8x4096x8x2x32x1, .f32⟩
  | .hbm, ⟨66, _⟩ => ⟨S8x4096x8x2x32x1, .f32⟩
  | .hbm, ⟨67, _⟩ => ⟨S8x4096x8x2x32x2, .f32⟩
  | .hbm, ⟨68, _⟩ => ⟨S8x4096x8x2x64, .f32⟩
  | .hbm, ⟨69, _⟩ => ⟨S_, .f32⟩
  | .hbm, ⟨70, _⟩ => ⟨S8x4096x8x2x64, .f32⟩
  | .hbm, ⟨71, _⟩ => ⟨S8x4096x8x2x64, .f32⟩
  | .hbm, ⟨72, _⟩ => ⟨S8x4096x8x2x64, .f32⟩
  | .hbm, ⟨73, _⟩ => ⟨S1x4096x1x1x32, .f32⟩
  | .hbm, ⟨74, _⟩ => ⟨S1x4096x1x1x32, .f32⟩
  | .hbm, ⟨75, _⟩ => ⟨S8x4096x8x2x32x2, .f32⟩
  | .hbm, ⟨76, _⟩ => ⟨S8x4096x8x2x32x1, .f32⟩
  | .hbm, ⟨77, _⟩ => ⟨S8x4096x8x2x32, .f32⟩
  | .hbm, ⟨78, _⟩ => ⟨S8x4096x8x2x32x1, .f32⟩
  | .hbm, ⟨79, _⟩ => ⟨S8x4096x8x2x32, .f32⟩
  | .hbm, ⟨80, _⟩ => ⟨S8x4096x8x2x32, .f32⟩
  | .hbm, ⟨81, _⟩ => ⟨S8x4096x8x2x32, .f32⟩
  | .hbm, ⟨82, _⟩ => ⟨S8x4096x8x2x32, .f32⟩
  | .hbm, ⟨83, _⟩ => ⟨S8x4096x8x2x32, .f32⟩
  | .hbm, ⟨84, _⟩ => ⟨S8x4096x8x2x32, .f32⟩
  | .hbm, ⟨85, _⟩ => ⟨S8x4096x8x2x32, .f32⟩
  | .hbm, ⟨86, _⟩ => ⟨S8x4096x8x2x32, .f32⟩
  | .hbm, ⟨87, _⟩ => ⟨S8x4096x8x2x32, .f32⟩
  | .hbm, ⟨88, _⟩ => ⟨S8x4096x8x2x32, .f32⟩
  | .hbm, ⟨89, _⟩ => ⟨S8x4096x8x2x32, .f32⟩
  | .hbm, ⟨90, _⟩ => ⟨S8x4096x8x2x32x1, .f32⟩
  | .hbm, ⟨91, _⟩ => ⟨S8x4096x8x2x32x1, .f32⟩
  | .hbm, ⟨92, _⟩ => ⟨S8x4096x8x2x32x2, .f32⟩
  | .hbm, ⟨93, _⟩ => ⟨S8x4096x8x2x64, .f32⟩
  | .hbm, ⟨94, _⟩ => ⟨S8x4096x8x128, .f32⟩
  | .hbm, ⟨95, _⟩ => ⟨S8x8x4096x128, .f32⟩
  | .hbm, ⟨96, _⟩ => ⟨S8x8x4096x128, .bf16⟩
  | .hbm, ⟨97, _⟩ => ⟨S8x4096x8x128, .f32⟩
  | .hbm, ⟨98, _⟩ => ⟨S8x8x4096x128, .f32⟩
  | .hbm, ⟨99, _⟩ => ⟨S8x8x4096x128, .bf16⟩
  | .hbm, ⟨100, _⟩ => ⟨S8x4096x8x128, .f32⟩
  | .hbm, ⟨101, _⟩ => ⟨S8x8x4096x128, .f32⟩
  | .hbm, ⟨102, _⟩ => ⟨S8x8x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_3 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩

abbrev nD : Nat := 1
abbrev τ : Topo := Topo.v7x

variable {F : FTy → Type} [FloatOps F]
-- ==== Kernel8.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x2752 : Shape := ⟨3, ![1, 1024, 2752]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1024x2752 : Shape := ⟨2, ![1024, 2752]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S_ : Shape := ⟨0, ![]⟩
abbrev S1024x64 : Shape := ⟨2, ![1024, 64]⟩
abbrev S1024x2816 : Shape := ⟨2, ![1024, 2816]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S1x4x1024 : Shape := ⟨3, ![1, 4, 1024]⟩
abbrev S4x1024 : Shape := ⟨2, ![4, 1024]⟩
abbrev S4096x1024 : Shape := ⟨2, ![4096, 1024]⟩
abbrev S32x1x6144 : Shape := ⟨3, ![32, 1, 6144]⟩
abbrev S1x1024 : Shape := ⟨2, ![1, 1024]⟩
abbrev S16x8x256x128 : Shape := ⟨4, ![16, 8, 256, 128]⟩
abbrev S16x4x256x128 : Shape := ⟨4, ![16, 4, 256, 128]⟩
abbrev S4096x256 : Shape := ⟨2, ![4096, 256]⟩
abbrev S4096x128 : Shape := ⟨2, ![4096, 128]⟩
abbrev S4096x512 : Shape := ⟨2, ![4096, 512]⟩
abbrev S1x1x6144 : Shape := ⟨3, ![1, 1, 6144]⟩
abbrev S1x8x256x128 : Shape := ⟨4, ![1, 8, 256, 128]⟩
abbrev S1x4x256x128 : Shape := ⟨4, ![1, 4, 256, 128]⟩
abbrev S256x256 : Shape := ⟨2, ![256, 256]⟩
abbrev S256x128 : Shape := ⟨2, ![256, 128]⟩
abbrev S1x6144 : Shape := ⟨2, ![1, 6144]⟩
abbrev S256x1 : Shape := ⟨2, ![256, 1]⟩
abbrev S1x1x256x128 : Shape := ⟨4, ![1, 1, 256, 128]⟩
abbrev S256x384 : Shape := ⟨2, ![256, 384]⟩
abbrev S384x256 : Shape := ⟨2, ![384, 256]⟩

abbrev nBuf : Space → Nat
  | .hbm => 57
  | .vmem => 28
  | .smem => 0
  | _ => 0

abbrev bufTy : (tb : Table) → Fin (tcTables nBuf tb) → BufTy
  | .hbm, ⟨0, _⟩ => ⟨S16x256x1024, .f32⟩
  | .hbm, ⟨1, _⟩ => ⟨S2x16x6144, .f32⟩
  | .hbm, ⟨2, _⟩ => ⟨S2x4x1024, .f32⟩
  | .hbm, ⟨3, _⟩ => ⟨S1x1024x2752, .f32⟩
  | .hbm, ⟨4, _⟩ => ⟨S1x384, .f32⟩
  | .hbm, ⟨5, _⟩ => ⟨S1x256, .f32⟩
  | .hbm, ⟨6, _⟩ => ⟨S1x384x768, .f32⟩
  | .hbm, ⟨7, _⟩ => ⟨S1x256x1024, .f32⟩
  | .hbm, ⟨8, _⟩ => ⟨S1024x2752, .f32⟩
  | .hbm, ⟨9, _⟩ => ⟨S384, .f32⟩
  | .hbm, ⟨10, _⟩ => ⟨S256, .f32⟩
  | .hbm, ⟨11, _⟩ => ⟨S384x768, .f32⟩
  | .hbm, ⟨12, _⟩ => ⟨S256x1024, .f32⟩
  | .hbm, ⟨13, _⟩ => ⟨S1024x384, .f32⟩
  | .hbm, ⟨14, _⟩ => ⟨S1024x256, .f32⟩
  | .hbm, ⟨15, _⟩ => ⟨S1024x32, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x32, .f32⟩
  | .hbm, ⟨20, _⟩ => ⟨S1024x512, .f32⟩
  | .hbm, ⟨21, _⟩ => ⟨S_, .f32⟩
  | .hbm, ⟨22, _⟩ => ⟨S1024x64, .f32⟩
  | .hbm, ⟨23, _⟩ => ⟨S1024x2816, .f32⟩
  | .hbm, ⟨24, _⟩ => ⟨S1024x2816, .bf16⟩
  | .hbm, ⟨25, _⟩ => ⟨S384x8x96, .f32⟩
  | .hbm, ⟨26, _⟩ => ⟨S_, .i32⟩
  | .hbm, ⟨27, _⟩ => ⟨S_, .f32⟩
  | .hbm, ⟨28, _⟩ => ⟨S384x8x128, .f32⟩
  | .hbm, ⟨29, _⟩ => ⟨S384x1024, .f32⟩
  | .hbm, ⟨30, _⟩ => ⟨S384x1024, .bf16⟩
  | .hbm, ⟨31, _⟩ => ⟨S256x8x128, .f32⟩
  | .hbm, ⟨32, _⟩ => ⟨S256x8x64, .f32⟩
  | .hbm, ⟨33, _⟩ => ⟨S_, .i32⟩
  | .hbm, ⟨34, _⟩ => ⟨S_, .f32⟩
  | .hbm, ⟨35, _⟩ => ⟨S256x8x128, .f32⟩
  | .hbm, ⟨36, _⟩ => ⟨S256x1024, .f32⟩
  | .hbm, ⟨37, _⟩ => ⟨S256x1024, .bf16⟩
  | .hbm, ⟨38, _⟩ => ⟨S256x8x64, .f32⟩
  | .hbm, ⟨39, _⟩ => ⟨S256x512, .f32⟩
  | .hbm, ⟨40, _⟩ => ⟨S256x512, .bf16⟩
  | .hbm, ⟨41, _⟩ => ⟨S1x384, .f32⟩
  | .hbm, ⟨42, _⟩ => ⟨S1x256, .f32⟩
  | .hbm, ⟨43, _⟩ => ⟨S1x4x1024, .f32⟩
  | .hbm, ⟨44, _⟩ => ⟨S4x1024, .f32⟩
  | .hbm, ⟨45, _⟩ => ⟨S4096x1024, .f32⟩
  | .hbm, ⟨46, _⟩ => ⟨S32x1x6144, .f32⟩
  | .hbm, ⟨47, _⟩ => ⟨S1x1024, .f32⟩
  | .hbm, ⟨48, _⟩ => ⟨S16x8x256x128, .bf16⟩
  | .hbm, ⟨49, _⟩ => ⟨S16x8x256x128, .bf16⟩
  | .hbm, ⟨50, _⟩ => ⟨S16x4x256x128, .bf16⟩
  | .hbm, ⟨51, _⟩ => ⟨S4096x256, .f32⟩
  | .hbm, ⟨52, _⟩ => ⟨S4096x128, .f32⟩
  | .hbm, ⟨53, _⟩ => ⟨S4096x512, .bf16⟩
  | .hbm, ⟨54, _⟩ => ⟨S4096x512, .bf16⟩
  | .hbm, ⟨55, _⟩ => ⟨S4096x512, .bf16⟩
  | .hbm, ⟨56, _⟩ => ⟨S4096x512, .bf16⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1024, .f32⟩
  | .local _ .vmem, ⟨4, _⟩ => ⟨S1024x2816, .bf16⟩
  | .local _ .vmem, ⟨5, _⟩ => ⟨S1x384, .f32⟩
  | .local _ .vmem, ⟨6, _⟩ => ⟨S1x256, .f32⟩
  | .local _ .vmem, ⟨7, _⟩ => ⟨S384x1024, .bf16⟩
  | .local _ .vmem, ⟨8, _⟩ => ⟨S256x1024, .bf16⟩
  | .local _ .vmem, ⟨9, _⟩ => ⟨S256x512, .bf16⟩
  | .local _ .vmem, ⟨10, _⟩ => ⟨S1x8x256x128, .bf16⟩
  | .local _ .vmem, ⟨11, _⟩ => ⟨S1x8x256x128, .bf16⟩
  | .local _ .vmem, ⟨12, _⟩ => ⟨S1x8x256x128, .bf16⟩
  | .local _ .vmem, ⟨13, _⟩ => ⟨S1x8x256x128, .bf16⟩
  | .local _ .vmem, ⟨14, _⟩ => ⟨S1x4x256x128, .bf16⟩
  | .local _ .vmem, ⟨15, _⟩ => ⟨S1x4x256x128, .bf16⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev main_v35_7 : Ref sig .tc := ⟨.hbm, 55, rfl⟩
abbrev main_v35_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_10 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_11 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference8Ideal.lean ====
abbrev S16x256x1024 : Shape := ⟨3, ![16, 256, 1024]⟩
abbrev S2x16x6144 : Shape := ⟨3, ![2, 16, 6144]⟩
abbrev S2x4x1024 : Shape := ⟨3, ![2, 4, 1024]⟩
abbrev S1x1024x2752 : Shape := ⟨3, ![1, 1024, 2752]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1x1x6144 : Shape := ⟨3, ![1, 1, 6144]⟩
abbrev S1x6144 : Shape := ⟨2, ![1, 6144]⟩
abbrev S1x4x1024 : Shape := ⟨3, ![1, 4, 1024]⟩
abbrev S4x1024 : Shape := ⟨2, ![4, 1024]⟩
abbrev S1024x2752 : Shape := ⟨2, ![1024, 2752]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x2752 : Shape := ⟨3, ![16, 256, 2752]⟩
abbrev S16x256x384 : Shape := ⟨3, ![16, 256, 384]⟩
abbrev S16x256x256 : Shape := ⟨3, ![16, 256, 256]⟩
abbrev S16x256x32 : Shape := ⟨3, ![16, 256, 32]⟩
abbrev S16x256x512 : Shape := ⟨3, ![16, 256, 512]⟩
abbrev S384 : Shape := ⟨1, ![384]⟩
abbrev S1x1x384 : Shape := ⟨3, ![1, 1, 384]⟩
abbrev S384x768 : Shape := ⟨2, ![384, 768]⟩
abbrev S16x256x768 : Shape := ⟨3, ![16, 256, 768]⟩
abbrev S16x256x8x96 : Shape := ⟨4, ![16, 256, 8, 96]⟩
abbrev S256 : Shape := ⟨1, ![256]⟩
abbrev S1x1x256 : Shape := ⟨3, ![1, 1, 256]⟩
abbrev S256x1024 : Shape := ⟨2, ![256, 1024]⟩
abbrev S16x256x8x128 : Shape := ⟨4, ![16, 256, 8, 128]⟩
abbrev S16x256x8x64 : Shape := ⟨4, ![16, 256, 8, 64]⟩
abbrev S16x256x1x32 : Shape := ⟨4, ![16, 256, 1, 32]⟩
abbrev S16x256x8x32 : Shape := ⟨4, ![16, 256, 8, 32]⟩
abbrev S16x8x256x128 : Shape := ⟨4, ![16, 8, 256, 128]⟩
abbrev S16x256x4x128 : Shape := ⟨4, ![16, 256, 4, 128]⟩
abbrev S16x4x256x128 : Shape := ⟨4, ![16, 4, 256, 128]⟩
abbrev S4096x256 : Shape := ⟨2, ![4096, 256]⟩
abbrev S16x256x64 : Shape := ⟨3, ![16, 256, 64]⟩
abbrev S16x256x128 : Shape := ⟨3, ![16, 256, 128]⟩
abbrev S4096x128 : Shape := ⟨2, ![4096, 128]⟩
abbrev S4096x512 : Shape := ⟨2, ![4096, 512]⟩

abbrev nBuf : Space → Nat
  | .hbm => 132
  | .vmem => 0
  | .smem => 0
  | _ => 0

abbrev hbmTy0_0 (i : Nat) : BufTy := match i % 128 with
  | 0 => ⟨S16x256x1024, .f32⟩
  | 1 => ⟨S2x16x6144, .f32⟩
  | 2 => ⟨S2x4x1024, .f32⟩
  | 3 => ⟨S1x1024x2752, .f32⟩
  | 4 => ⟨S1x384, .f32⟩
  | 5 => ⟨S1x256, .f32⟩
  | 6 => ⟨S1x384x768, .f32⟩
  | 7 => ⟨S1x256x1024, .f32⟩
  | 8 => ⟨S1x1x6144, .f32⟩
  | 9 => ⟨S1x6144, .f32⟩
  | 10 => ⟨S1x1x6144, .f32⟩
  | 11 => ⟨S1x4x1024, .f32⟩
  | 12 => ⟨S4x1024, .f32⟩
  | 13 => ⟨S1024x2752, .f32⟩
  | 14 => ⟨S1x1x1024, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1024, .f32⟩
  | 21 => ⟨S1024, .f32⟩
  | 22 => ⟨S16x256x1024, .f32⟩
  | 23 => ⟨S_, .f32⟩
  | 24 => ⟨S16x256, .f32⟩
  | 25 => ⟨S16x256x1, .f32⟩
  | 26 => ⟨S_, .f32⟩
  | 27 => ⟨S16x256x1, .f32⟩
  | 28 => ⟨S16x256x1, .f32⟩
  | 29 => ⟨S_, .f32⟩
  | 30 => ⟨S16x256x1, .f32⟩
  | 31 => ⟨S16x256x1, .f32⟩
  | 32 => ⟨S16x256x1, .f32⟩
  | 33 => ⟨S16x256x1024, .f32⟩
  | 34 => ⟨S16x256x1024, .f32⟩
  | 35 => ⟨S1x1x1024, .f32⟩
  | 36 => ⟨S16x256x1024, .f32⟩
  | 37 => ⟨S16x256x1024, .f32⟩
  | 38 => ⟨S_, .f32⟩
  | 39 => ⟨S1x1x1024, .f32⟩
  | 40 => ⟨S1x1x1024, .f32⟩
  | 41 => ⟨S16x256x1024, .f32⟩
  | 42 => ⟨S16x256x1024, .f32⟩
  | 43 => ⟨S16x256x1024, .f32⟩
  | 44 => ⟨S16x256x1024, .f32⟩
  | 45 => ⟨S16x256x2752, .f32⟩
  | 46 => ⟨S16x256x384, .f32⟩
  | 47 => ⟨S16x256x256, .f32⟩
  | 48 => ⟨S16x256x32, .f32⟩
  | 49 => ⟨S16x256x512, .f32⟩
  | 50 => ⟨S16x256x512, .f32⟩
  | 51 => ⟨S16x256x512, .f32⟩
  | 52 => ⟨S16x256x32, .f32⟩
  | 53 => ⟨S16x256x512, .f32⟩
  | 54 => ⟨S384, .f32⟩
  | 55 => ⟨S16x256x384, .f32⟩
  | 56 => ⟨S_, .f32⟩
  | 57 => ⟨S16x256, .f32⟩
  | 58 => ⟨S16x256x1, .f32⟩
  | 59 => ⟨S_, .f32⟩
  | 60 => ⟨S16x256x1, .f32⟩
  | 61 => ⟨S16x256x1, .f32⟩
  | 62 => ⟨S_, .f32⟩
  | 63 => ⟨S16x256x1, .f32⟩
  | 64 => ⟨S16x256x1, .f32⟩
  | 65 => ⟨S16x256x1, .f32⟩
  | 66 => ⟨S16x256x384, .f32⟩
  | 67 => ⟨S16x256x384, .f32⟩
  | 68 => ⟨S1x1x384, .f32⟩
  | 69 => ⟨S16x256x384, .f32⟩
  | 70 => ⟨S16x256x384, .f32⟩
  | 71 => ⟨S384x768, .f32⟩
  | 72 => ⟨S16x256x768, .f32⟩
  | 73 => ⟨S16x256x8x96, .f32⟩
  | 74 => ⟨S_, .f32⟩
  | 75 => ⟨S16x256x8x96, .f32⟩
  | 76 => ⟨S16x256x8x96, .f32⟩
  | 77 => ⟨S256, .f32⟩
  | 78 => ⟨S16x256x256, .f32⟩
  | 79 => ⟨S_, .f32⟩
  | 80 => ⟨S16x256, .f32⟩
  | 81 => ⟨S16x256x1, .f32⟩
  | 82 => ⟨S_, .f32⟩
  | 83 => ⟨S16x256x1, .f32⟩
  | 84 => ⟨S16x256x1, .f32⟩
  | 85 => ⟨S_, .f32⟩
  | 86 => ⟨S16x256x1, .f32⟩
  | 87 => ⟨S16x256x1, .f32⟩
  | 88 => ⟨S16x256x1, .f32⟩
  | 89 => ⟨S16x256x256, .f32⟩
  | 90 => ⟨S16x256x256, .f32⟩
  | 91 => ⟨S1x1x256, .f32⟩
  | 92 => ⟨S16x256x256, .f32⟩
  | 93 => ⟨S16x256x256, .f32⟩
  | 94 => ⟨S256x1024, .f32⟩
  | 95 => ⟨S16x256x1024, .f32⟩
  | 96 => ⟨S16x256x8x128, .f32⟩
  | 97 => ⟨S16x256x8x64, .f32⟩
  | 98 => ⟨S16x256x8x64, .f32⟩
  | 99 => ⟨S16x256x1x32, .f32⟩
  | 100 => ⟨S16x256x8x32, .f32⟩
  | 101 => ⟨S16x256x8x96, .f32⟩
  | 102 => ⟨S_, .f32⟩
  | 103 => ⟨S16x256x8x32, .f32⟩
  | 104 => ⟨S16x256x8x128, .f32⟩
  | 105 => ⟨S16x8x256x128, .f32⟩
  | 106 => ⟨S16x8x256x128, .bf16⟩
  | 107 => ⟨S_, .f32⟩
  | 108 => ⟨S16x256x8x32, .f32⟩
  | 109 => ⟨S16x256x8x128, .f32⟩
  | 110 => ⟨S16x8x256x128, .f32⟩
  | 111 => ⟨S16x8x256x128, .bf16⟩
  | 112 => ⟨S16x256x4x128, .f32⟩
  | 113 => ⟨S16x4x256x128, .f32⟩
  | 114 => ⟨S16x4x256x128, .bf16⟩
  | 115 => ⟨S4096x256, .f32⟩
  | 116 => ⟨S16x256x64, .f32⟩
  | 117 => ⟨S_, .f32⟩
  | 118 => ⟨S16x256x64, .f32⟩
  | 119 => ⟨S16x256x128, .f32⟩
  | 120 => ⟨S4096x128, .f32⟩
  | 121 => ⟨S_, .f32⟩
  | 122 => ⟨S16x256x512, .f32⟩
  | 123 => ⟨S16x256x512, .f32⟩
  | 124 => ⟨S4096x512, .f32⟩
  | 125 => ⟨S4096x512, .bf16⟩
  | 126 => ⟨S4096x512, .f32⟩
  | 127 => ⟨S4096x512, .bf16⟩
  | _ => ⟨S16x256x1024, .f32⟩

abbrev hbmTy0_1 (i : Nat) : BufTy := match i % 128 with
  | 0 => ⟨S4096x512, .f32⟩
  | 1 => ⟨S4096x512, .bf16⟩
  | 2 => ⟨S4096x512, .f32⟩
  | 3 => ⟨S4096x512, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩

abbrev nD : Nat := 1
abbrev τ : Topo := Topo.v7x

variable {F : FTy → Type} [FloatOps F]
-- ==== Kernel9.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S1x16x6144, .f32⟩
  | .hbm, ⟨43, _⟩ => ⟨S1x16x6144, .f32⟩
  | .hbm, ⟨44, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel10.lean ====
abbrev S8x1x512x256 : Shape := ⟨4, ![8, 1, 512, 256]⟩
abbrev S8x1x512x32 : Shape := ⟨4, ![8, 1, 512, 32]⟩
abbrev S1x256x1024 : Shape := ⟨3, ![1, 256, 1024]⟩
abbrev S8x512x256 : Shape := ⟨3, ![8, 512, 256]⟩
abbrev S8x512x32 : Shape := ⟨3, ![8, 512, 32]⟩
abbrev S256x1024 : Shape := ⟨2, ![256, 1024]⟩
abbrev S256x8x128 : Shape := ⟨3, ![256, 8, 128]⟩
abbrev S256x8x64 : Shape := ⟨3, ![256, 8, 64]⟩
abbrev S_ : Shape := ⟨0, ![]⟩
abbrev S256x512 : Shape := ⟨2, ![256, 512]⟩
abbrev S32x32 : Shape := ⟨2, ![32, 32]⟩
abbrev S32x128 : Shape := ⟨2, ![32, 128]⟩
abbrev S32x1024 : Shape := ⟨2, ![32, 1024]⟩
abbrev S8x8x512x128 : Shape := ⟨4, ![8, 8, 512, 128]⟩
abbrev S8x4x512x128 : Shape := ⟨4, ![8, 4, 512, 128]⟩
abbrev S1x512x256 : Shape := ⟨3, ![1, 512, 256]⟩
abbrev S1x512x32 : Shape := ⟨3, ![1, 512, 32]⟩
abbrev S1x8x512x128 : Shape := ⟨4, ![1, 8, 512, 128]⟩
abbrev S1x4x512x128 : Shape := ⟨4, ![1, 4, 512, 128]⟩
abbrev S512x256 : Shape := ⟨2, ![512, 256]⟩
abbrev S512x32 : Shape := ⟨2, ![512, 32]⟩
abbrev S512x1024 : Shape := ⟨2, ![512, 1024]⟩
abbrev S512x512 : Shape := ⟨2, ![512, 512]⟩
abbrev S512x128 : Shape := ⟨2, ![512, 128]⟩
abbrev S1x1x512x128 : Shape := ⟨4, ![1, 1, 512, 128]⟩

abbrev nBuf : Space → Nat
  | .hbm => 30
  | .vmem => 11
  | .smem => 0
  | _ => 0

abbrev bufTy : (tb : Table) → Fin (tcTables nBuf tb) → BufTy
  | .hbm, ⟨0, _⟩ => ⟨S8x1x512x256, .f32⟩
  | .hbm, ⟨1, _⟩ => ⟨S8x1x512x32, .f32⟩
  | .hbm, ⟨2, _⟩ => ⟨S1x256x1024, .f32⟩
  | .hbm, ⟨3, _⟩ => ⟨S8x512x256, .f32⟩
  | .hbm, ⟨4, _⟩ => ⟨S8x512x32, .f32⟩
  | .hbm, ⟨5, _⟩ => ⟨S256x1024, .f32⟩
  | .hbm, ⟨6, _⟩ => ⟨S256x8x128, .f32⟩
  | .hbm, ⟨7, _⟩ => ⟨S256x8x64, .f32⟩
  | .hbm, ⟨8, _⟩ => ⟨S_, .i32⟩
  | .hbm, ⟨9, _⟩ => ⟨S_, .f32⟩
  | .hbm, ⟨10, _⟩ => ⟨S256x8x128, .f32⟩
  | .hbm, ⟨11, _⟩ => ⟨S256x1024, .f32⟩
  | .hbm, ⟨12, _⟩ => ⟨S256x1024, .bf16⟩
  | .hbm, ⟨13, _⟩ => ⟨S256x8x64, .f32⟩
  | .hbm, ⟨14, _⟩ => ⟨S256x512, .f32⟩
  | .hbm, ⟨15, _⟩ => ⟨S256x512, .bf16⟩
  | .hbm, ⟨16, _⟩ => ⟨S32x32, .i32⟩
  | .hbm, ⟨17, _⟩ => ⟨S32x32, .i32⟩
  | .hbm, ⟨18, _⟩ => ⟨S_, .i32⟩
  | .hbm, ⟨19, _⟩ => ⟨S32x32, .i32⟩
  | .hbm, ⟨20, _⟩ => ⟨S32x32, .i32⟩
  | .hbm, ⟨21, _⟩ => ⟨S32x32, .i1⟩
  | .hbm, ⟨22, _⟩ => ⟨S32x32, .f32⟩
  | .hbm, ⟨23, _⟩ => ⟨S_, .i32⟩
  | .hbm, ⟨24, _⟩ => ⟨S_, .f32⟩
  | .hbm, ⟨25, _⟩ => ⟨S32x128, .f32⟩
  | .hbm, ⟨26, _⟩ => ⟨S32x1024, .f32⟩
  | .hbm, ⟨27, _⟩ => ⟨S32x1024, .bf16⟩
  | .hbm, ⟨28, _⟩ => ⟨S8x8x512x128, .bf16⟩
  | .hbm, ⟨29, _⟩ => ⟨S8x4x512x128, .bf16⟩
  | .local _ .vmem, ⟨0, _⟩ => ⟨S1x512x256, .f32⟩
  | .local _ .vmem, ⟨1, _⟩ => ⟨S1x512x256, .f32⟩
  | .local _ .vmem, ⟨2, _⟩ => ⟨S1x512x32, .f32⟩
  | .local _ .vmem, ⟨3, _⟩ => ⟨S1x512x32, .f32⟩
  | .local _ .vmem, ⟨4, _⟩ => ⟨S256x1024, .bf16⟩
  | .local _ .vmem, ⟨5, _⟩ => ⟨S256x512, .bf16⟩
  | .local _ .vmem, ⟨6, _⟩ => ⟨S32x1024, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x4x512x128, .bf16⟩
  | .local _ .vmem, ⟨10, _⟩ => ⟨S1x4x512x128, .bf16⟩
  | _, _ => ⟨S8x1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8x1x512x256 : Shape := ⟨4, ![8, 1, 512, 256]⟩
abbrev S8x1x512x32 : Shape := ⟨4, ![8, 1, 512, 32]⟩
abbrev S1x256x1024 : Shape := ⟨3, ![1, 256, 1024]⟩
abbrev S8x512x256 : Shape := ⟨3, ![8, 512, 256]⟩
abbrev S8x512x32 : Shape := ⟨3, ![8, 512, 32]⟩
abbrev S256x1024 : Shape := ⟨2, ![256, 1024]⟩
abbrev S8x512x1024 : Shape := ⟨3, ![8, 512, 1024]⟩
abbrev S8x512x8x128 : Shape := ⟨4, ![8, 512, 8, 128]⟩
abbrev S8x512x8x64 : Shape := ⟨4, ![8, 512, 8, 64]⟩
abbrev S8x512x1x32 : Shape := ⟨4, ![8, 512, 1, 32]⟩
abbrev S8x512x8x32 : Shape := ⟨4, ![8, 512, 8, 32]⟩
abbrev S8x512x8x96 : Shape := ⟨4, ![8, 512, 8, 96]⟩
abbrev S_ : Shape := ⟨0, ![]⟩
abbrev S8x8x512x128 : Shape := ⟨4, ![8, 8, 512, 128]⟩
abbrev S8x512x4x128 : Shape := ⟨4, ![8, 512, 4, 128]⟩
abbrev S8x4x512x128 : Shape := ⟨4, ![8, 4, 512, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x1x512x256, .f32⟩
  | .hbm, ⟨1, _⟩ => ⟨S8x1x512x32, .f32⟩
  | .hbm, ⟨2, _⟩ => ⟨S1x256x1024, .f32⟩
  | .hbm, ⟨3, _⟩ => ⟨S8x512x256, .f32⟩
  | .hbm, ⟨4, _⟩ => ⟨S8x512x32, .f32⟩
  | .hbm, ⟨5, _⟩ => ⟨S256x1024, .f32⟩
  | .hbm, ⟨6, _⟩ => ⟨S8x512x1024, .f32⟩
  | .hbm, ⟨7, _⟩ => ⟨S8x512x8x128, .f32⟩
  | .hbm, ⟨8, _⟩ => ⟨S8x512x8x64, .f32⟩
  | .hbm, ⟨9, _⟩ => ⟨S8x512x8x64, .f32⟩
  | .hbm, ⟨10, _⟩ => ⟨S8x512x1x32, .f32⟩
  | .hbm, ⟨11, _⟩ => ⟨S8x512x8x32, .f32⟩
  | .hbm, ⟨12, _⟩ => ⟨S8x512x8x96, .f32⟩
  | .hbm, ⟨13, _⟩ => ⟨S_, .f32⟩
  | .hbm, ⟨14, _⟩ => ⟨S8x512x8x32, .f32⟩
  | .hbm, ⟨15, _⟩ => ⟨S8x512x8x128, .f32⟩
  | .hbm, ⟨16, _⟩ => ⟨S8x8x512x128, .f32⟩
  | .hbm, ⟨17, _⟩ => ⟨S8x8x512x128, .bf16⟩
  | .hbm, ⟨18, _⟩ => ⟨S8x512x4x128, .f32⟩
  | .hbm, ⟨19, _⟩ => ⟨S8x4x512x128, .f32⟩
  | .hbm, ⟨20, _⟩ => ⟨S8x4x512x128, .bf16⟩
  | _, _ => ⟨S8x1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.Flash.lean ====
/-
  The attention loop's vector arithmetic, at any float instance: the scores of one block of keys, the running maximum
  of the scores, and the running accumulator, whose last columns are products with ones and so hold the sum of the
  weights. Blocks of keys and of values are given as sequences.
-/
module

public import Idealize.ShloMosaic.Lib.MatmulPlain
public import Idealize.ShloMosaic.Lib.Pointwise
public import Idealize.ShloMosaic.PureOps

@[expose] public section

noncomputable section

namespace Flash

open Idealize.ShloMosaic

/-- A matrix's shape. -/
abbrev Mat (M N : ℕ) : Shape := ⟨2, ![M, N]⟩

/-- The shape relations of the loop's operations at `M` query rows, blocks of `T` keys and `E` accumulated columns. -/
structure Fits (M T E W O : ℕ) : Prop where
  red : (Mat M T).Reduces [1] ⟨1, ![M]⟩
  col : (⟨1, ![M]⟩ : Shape).ShapeCasts (Mat M 1)
  bcT : (Mat M 1).Broadcasts (Mat M T)
  bcE : (Mat M 1).Broadcasts (Mat M E)
  cat : Shape.Concatenates [Mat T W, Mat T O] (Mat T E) 1

variable {F : FTy → Type} [FloatOps F] {M T D E W O : ℕ}

/-- The scores of one block: the product of the queries with the block's keys. -/
def scores (q : FVec F (Mat M D) .bf16) (k : FVec F (Mat T D) .bf16) : FVec F (Mat M T) .f32 :=
  matmul (DotDims.transposedRhs M D T) none q k (constant (Mat M T) .f32 0x00000000#32)

/-- The largest score of each row of a block. -/
def blockMax (h : Fits M T E W O) (s : FVec F (Mat M T) .f32) : FVec F (Mat M 1) .f32 :=
  shapeCast (Mat M 1) (multiReduction .maximumf [1] ⟨1, ![M]⟩ s 0xFF800000#32 h.red (.inl rfl) rfl) h.col

/-- The largest score of each row over blocks `0 … n`. -/
def rowMax (h : Fits M T E W O) (q : FVec F (Mat M D) .bf16) (K : ℕ → FVec F (Mat T D) .bf16) : ℕ → FVec F (Mat M 1) .f32
  | 0 => blockMax h (scores q (K 0))
  | n + 1 => maximumf (rowMax h q K n) (blockMax h (scores q (K (n + 1))))

/-- A block's values beside columns of ones. -/
def withOnes (h : Fits M T E W O) (v : FVec F (Mat T W) .bf16) : FVec F (Mat T E) .bf16 :=
  concatenate (Mat T E) 1 [⟨Mat T W, v⟩, ⟨Mat T O, broadcast (Mat T O) (Scalar.ofBits .bf16 0x3F80#16 : F .bf16)⟩] h.cat

/-- The weights of one block, two to the power of each score less the row's maximum, times the block's values and ones. -/
def weighted (h : Fits M T E W O) (hb : FTy.bits .bf16 < FTy.bits .f32) (s : FVec F (Mat M T) .f32) (m : FVec F (Mat M 1) .f32)
    (v : FVec F (Mat T W) .bf16) : FVec F (Mat M E) .f32 :=
  matmul (DotDims.plain M T E) none (truncf .bf16 (exp2 (subf s (broadcastTo (Mat M T) m h.bcT))) hb) (withOnes h v)
    (constant (Mat M E) .f32 0x00000000#32)

/-- The accumulator after blocks `0 … n`: at every block it is rescaled to the new maximum and the block's weighted
    values are added. -/
def rowAcc (h : Fits M T E W O) (hb : FTy.bits .bf16 < FTy.bits .f32) (q : FVec F (Mat M D) .bf16)
    (K : ℕ → FVec F (Mat T D) .bf16) (V : ℕ → FVec F (Mat T W) .bf16) : ℕ → FVec F (Mat M E) .f32
  | 0 => weighted h hb (scores q (K 0)) (rowMax h q K 0) (V 0)
  | n + 1 => addf
      (mulf (broadcastTo (Mat M E) (exp2 (subf (rowMax h q K n) (rowMax h q K (n + 1)))) h.bcE) (rowAcc h hb q K V n))
      (weighted h hb (scores q (K (n + 1))) (rowMax h q K (n + 1)) (V (n + 1)))

end Flash

end
-- ==== Proof.Heads.lean ====
/-
  The kernel body's two heads as the attention loop of `Flash` over eighteen blocks of 256 keys: two of the cached
  context, then sixteen new ones.
-/
module

public import proofs.«01_k».proof.Proof.Flash
public import proofs.«01_k».proof.Proof.Gen.KernelIdeal.Frame

@[expose] public section

set_option maxRecDepth 16384

noncomputable section

namespace Cert.KernelIdeal.Heads

open Cert.KernelIdeal Cert.KernelIdeal.Gen Idealize.ShloMosaic Flash Facts

variable {F : FTy → Type} [FloatOps F]

/-- The loop's shape relations at 1024 query rows, 256 keys a block, 128 value and 128 ones columns. -/
theorem fits : Fits 1024 256 256 128 128 :=
  ⟨reduces_S1024x256_S1024, shapeCasts_S1024_S1024x1, broadcasts_S1024x1_S1024x256, broadcasts_S1024x1_S1024x256,
    concatenates_S256x128_S256x128_S256x256_d1⟩

/-- Block `n` of the new rows lies inside them. -/
theorem inb_new (n : ℕ) (a : Fin 2) :
    (![256 * (n % 16), 0] : Fin 2 → ℕ) a + S256x128.size a ≤ S4096x128.size a := by
  have h := Nat.mod_lt n (show 0 < 16 by decide)
  match a with
  | ⟨0, _⟩ => show 256 * (n % 16) + 256 ≤ 4096; omega
  | ⟨1, _⟩ => show 0 + 128 ≤ 128; omega

/-- Rows `256 n` to `256 n + 255` of a head's 4096 new rows. -/
def newRows (x : Vec F S4096x128 .bf16) (n : ℕ) : Vec F S256x128 .bf16 :=
  View.ld x (Rect.unit (s := S4096x128) ![256 * (n % 16), 0] S256x128.size (inb_new n))

/-- A head's blocks of 256 rows: the two of the context, then those of the new rows. -/
def blocks (ctx : Vec F S512x128 .bf16) (new : Vec F S4096x128 .bf16) : ℕ → Vec F S256x128 .bf16
  | 0 => View.ld ctx r0_3
  | 1 => View.ld ctx r0_4
  | n + 2 => newRows new n

/-- The queries with the lanes from 64 on set to zero. -/
def lowLanes (q : FVec F S1024x128 .bf16) : FVec F S1024x128 .bf16 :=
  select (cmpi .slt (iota .tc S1024x128 32 [1] iota_S1024x128_d1_w32) (broadcast S1024x128 64#32)) q
    (broadcast S1024x128 (Scalar.ofBits .bf16 0x0000#16 : F .bf16))

/-- The queries with the lanes below 64 set to zero. -/
def highLanes (q : FVec F S1024x128 .bf16) : FVec F S1024x128 .bf16 :=
  select (cmpi .slt (iota .tc S1024x128 32 [1] iota_S1024x128_d1_w32) (broadcast S1024x128 64#32))
    (broadcast S1024x128 (Scalar.ofBits .bf16 0x0000#16 : F .bf16)) q

/-- The weighted values divided by the weights' sum, which stands in the accumulator's last 128 columns. -/
def ratio (a : FVec F S1024x256 .f32) : FVec F S1024x128 .f32 :=
  mulf (extractStridedSlice S1024x128 ![0, 0] a slices_S1024x256_o0_0_S1024x128)
    (divf (broadcast S1024x128 (Scalar.ofBits .f32 0x3F800000#32 : F .f32))
      (extractStridedSlice S1024x128 ![0, 128] a slices_S1024x256_o0_128_S1024x128))

/-- The first map's result less lambda times the second's. -/
def combine (lam : FVec F S1x1 .f32) (a0 a1 : FVec F S1024x256 .f32) : FVec F S1024x128 .f32 :=
  subf (ratio a0) (mulf (broadcastTo S1024x128 lam broadcasts_S1x1_S1024x128) (ratio a1))

/-- The row-wise root-mean-square norm of a head's result, with its gain and the constant factor. -/
def normed (o : FVec F S1024x128 .f32) (g : Vec F S1x128 .f32) : FVec F S1x1024x128 .bf16 :=
  shapeCast S1x1024x128 (truncf .bf16 (mulf (mulf (mulf o (broadcastTo S1024x128 (rsqrt (addf (divf
    (shapeCast S1024x1 (multiReduction .add [1] S1024 (mulf o o) 0x00000000#32 reduces_S1024x128_S1024 (.inl rfl) rfl)
      shapeCasts_S1024_S1024x1)
    (broadcast S1024x1 (Scalar.ofBits .f32 0x43000000#32 : F .f32)))
    (broadcast S1024x1 (Scalar.ofBits .f32 0x358637BD#32 : F .f32)))) broadcasts_S1024x1_S1024x128))
    (broadcastTo S1024x128 g broadcasts_S1x128_S1024x128))
    (broadcast S1024x128 (Scalar.ofBits .f32 0x3F24FD5C#32 : F .f32))) bitsLt_bf16_f32) shapeCasts_S1024x128_S1x1024x128

/-- One head from its queries, its blocks of keys and of values, lambda and the gain. -/
def head (q : FVec F S1024x128 .bf16) (K V : ℕ → Vec F S256x128 .bf16) (lam : FVec F S1x1 .f32) (g : Vec F S1x128 .f32) :
    FVec F S1x1024x128 .bf16 :=
  normed (combine lam (rowAcc fits bitsLt_bf16_f32 (lowLanes q) K V 17) (rowAcc fits bitsLt_bf16_f32 (highLanes q) K V 17)) g

set_option maxHeartbeats 4000000 in
/-- The body's output block: the second head in its last 128 columns, the first head in its first. -/
theorem out_eq (x0 : Vec F S1x2x1024x128 .bf16) (x1 x2 : Vec F S1x2x4096x128 .bf16) (x3 x4 : Vec F S1x2x512x128 .bf16)
    (x5 : Vec F S4x64 .f32) (x6 : Vec F S1x128 .f32) :
    out0_7 x0 x1 x2 x3 x4 x5 x6 = View.canon
      [⟨r0_27, head (shapeCast S1024x128 (View.ld x0 r0_24) shapeCasts_S1x1x1024x128_S1024x128)
        (blocks (shapeCast S512x128 (View.ld x3 r0_25) squeezes_S1x1x512x128_S512x128.numel_eq)
          (shapeCast S4096x128 (View.ld x1 r0_26) squeezes_S1x1x4096x128_S4096x128.numel_eq))
        (blocks (shapeCast S512x128 (View.ld x4 r0_25) squeezes_S1x1x512x128_S512x128.numel_eq)
          (shapeCast S4096x128 (View.ld x2 r0_26) squeezes_S1x1x4096x128_S4096x128.numel_eq))
        (k0_pay1 (View.ld x5 r0_0)) (View.ld x6 r0_22)⟩,
      ⟨r0_23, head (shapeCast S1024x128 (View.ld x0 r0_1) shapeCasts_S1x1x1024x128_S1024x128)
        (blocks (shapeCast S512x128 (View.ld x3 r0_2) squeezes_S1x1x512x128_S512x128.numel_eq)
          (shapeCast S4096x128 (View.ld x1 r0_5) squeezes_S1x1x4096x128_S4096x128.numel_eq))
        (blocks (shapeCast S512x128 (View.ld x4 r0_2) squeezes_S1x1x512x128_S512x128.numel_eq)
          (shapeCast S4096x128 (View.ld x2 r0_5) squeezes_S1x1x4096x128_S4096x128.numel_eq))
        (k0_pay1 (View.ld x5 r0_0)) (View.ld x6 r0_22)⟩] := rfl

end Cert.KernelIdeal.Heads

end
-- ==== Proof.FlashValue.lean ====
/-
  The attention loop at ideal arithmetic, on real queries, keys and values: the running maximum is some real number,
  and the accumulator is the sum of the weights times the values, every weight being two to the power of the score
  less that number.
-/
module

public import proofs.«01_k».proof.Proof.Flash
public import Idealize.ShloMosaic.PureOps.Ideal.Laws
public import Idealize.ShloMosaic.Lib.Pipeline.Value

@[expose] public section

noncomputable section

namespace Flash

open Idealize.ShloMosaic

/-- A sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, and at least one, is a real. -/
theorem fold_max_real {ι : Type} [DecidableEq ι] (s : Finset ι) (hs : s.Nonempty) (f : ι → EReal)
    (hf : ∀ i, ∃ r : ℝ, f i = r) : ∃ r : ℝ, s.fold max ⊥ f = r := by
  induction hs using Finset.Nonempty.cons_induction with
  | singleton a => obtain ⟨r, hr⟩ := hf a; exact ⟨r, by simp [hr]⟩
  | cons a s ha hs ih =>
    obtain ⟨r, hr⟩ := hf a
    obtain ⟨r', hr'⟩ := ih
    refine ⟨max r r', ?_⟩
    rw [Finset.fold_cons, hr, hr']; exact (EReal.coe_strictMono.monotone.map_max).symm

variable {M T D E W O : ℕ}

/-- The word of minus infinity. -/
theorem ofBits_negInf : Ideal.ofBits .f32 0xFF800000#32 = ⊥ := by simp [Ideal.ofBits, Ideal.ieee]

/-- The word of one at bf16. -/
theorem ofBits_one : Ideal.ofBits .bf16 0x3F80#16 = ((1 : ℝ) : EReal) := by
  simp [Ideal.ofBits, Ideal.ieee, -EReal.coe_mul]; norm_num

/-- A score is the sum over the lanes of query times key. -/
theorem scores_apply (q : FVec Ideal (Mat M D) .bf16) (k : FVec Ideal (Mat T D) .bf16) (r : Fin M) (t : Fin T) :
    scores q k (ix2 r t) = ∑ d : Fin D, q (ix2 r d) * k (ix2 t d) := by
  have h := Ideal.matmul_transposedRhs_apply none q k (constant (Mat M T) .f32 0x00000000#32) r t
  simp only [← ix2_eq_valueIdx] at h
  refine h.trans ?_
  rw [show constant (F := Ideal) (Mat M T) .f32 0x00000000#32 (ix2 r t) = 0 from by pointwise, zero_add]

/-- A row's maximum in a block. -/
theorem blockMax_apply (h : Fits M T E W O) (s : FVec Ideal (Mat M T) .f32) (r : Fin M) (z : Fin 1) :
    blockMax h s (ix2 r z) = (Finset.univ : Finset (Fin T)).fold max ⊥ fun t => s (ix2 r t) := by
  unfold blockMax
  rw [shapeCast_apply _ h.col (ix2 r z) (ix1 r) (by
    rw [Shape.rowMajor_val_one, Shape.rowMajor_val_two]
    show r.val = r.val * 1 + z.val
    omega)]
  pointwise
  rw [ofBits_negInf]

/-- On real scores the running maximum is real. -/
theorem rowMax_real (h : Fits M T E W O) (hT : 0 < T) (q : FVec Ideal (Mat M D) .bf16) (K : ℕ → FVec Ideal (Mat T D) .bf16)
    (hs : ∀ n r t, ∃ x : ℝ, scores q (K n) (ix2 r t) = x) (n : ℕ) (r : Fin M) :
    ∃ m : ℝ, rowMax h q K n (ix2 r 0) = m := by
  have hb : ∀ n, ∃ m : ℝ, blockMax h (scores q (K n)) (ix2 r 0) = m := fun n => by
    rw [blockMax_apply]
    exact fold_max_real _ ⟨⟨0, hT⟩, Finset.mem_univ _⟩ _ fun t => hs n r t
  induction n with
  | zero => exact hb 0
  | succ n ih =>
    obtain ⟨a, ha⟩ := ih
    obtain ⟨b, hb⟩ := hb (n + 1)
    refine ⟨max a b, ?_⟩
    show max (rowMax h q K n (ix2 r 0)) (blockMax h (scores q (K (n + 1))) (ix2 r 0)) = _
    rw [ha, hb]; exact (EReal.coe_strictMono.monotone.map_max).symm

/-- A column of one entry a row spread over a matrix reads the row's entry. -/
theorem bc_apply {N : ℕ} (x : FVec Ideal (Mat M 1) .f32) (hb : (Mat M 1).Broadcasts (Mat M N)) (r : Fin M) (t : Fin N) :
    broadcastTo (Mat M N) x hb (ix2 r t) = x (ix2 r 0) := by
  refine broadcastTo_apply x hb _ _ fun a => ?_
  match a with
  | ⟨0, _⟩ =>
    show r.val = if M = 1 then 0 else r.val
    split
    · next h => have := r.isLt; omega
    · rfl
  | ⟨1, _⟩ => rfl

/-- The weighted values of a block at real scores, a real maximum and real values. -/
theorem weighted_apply (h : Fits M T E W O) (hb : FTy.bits .bf16 < FTy.bits .f32) (s : FVec Ideal (Mat M T) .f32)
    (m : FVec Ideal (Mat M 1) .f32) (v : FVec Ideal (Mat T W) .bf16) (r : Fin M) (e : Fin E) (S : Fin T → ℝ) (μ : ℝ) (w : Fin T → ℝ)
    (hs : ∀ t, s (ix2 r t) = S t) (hm : m (ix2 r 0) = μ) (hv : ∀ t, withOnes h v (ix2 t e) = w t) :
    weighted h hb s m v (ix2 r e) = ((∑ t, (2 : ℝ) ^ (S t - μ) * w t : ℝ) : EReal) := by
  have hm' := Ideal.matmul_plain_apply none (truncf .bf16 (exp2 (subf s (broadcastTo (Mat M T) m h.bcT))) hb) (withOnes h v)
    (constant (Mat M E) .f32 0x00000000#32) r e
  simp only [← ix2_eq_valueIdx] at hm'
  refine hm'.trans ?_
  rw [show constant (F := Ideal) (Mat M E) .f32 0x00000000#32 (ix2 r e) = 0 from by pointwise, zero_add, coe_sum]
  refine Finset.sum_congr rfl fun t _ => ?_
  rw [hv t, EReal.coe_mul]
  congr 1
  show Ideal.exp2 (s (ix2 r t) - broadcastTo (Mat M T) m h.bcT (ix2 r t)) = _
  rw [bc_apply, hs, hm, ← EReal.coe_sub, Ideal.exp2_coe]; rfl

/-- **The accumulator.** On real scores and real values there are real numbers `μ n r` (the running maxima) such that
    after block `n` entry `(r, e)` is the sum over the blocks so far and their keys of `2 ^ (score - μ n r)` times the
    value (or one). -/
theorem rowAcc_apply (h : Fits M T E W O) (hb : FTy.bits .bf16 < FTy.bits .f32) (hT : 0 < T) (q : FVec Ideal (Mat M D) .bf16)
    (K : ℕ → FVec Ideal (Mat T D) .bf16) (V : ℕ → FVec Ideal (Mat T W) .bf16) (S : ℕ → Fin M → Fin T → ℝ) (w : ℕ → Fin T → Fin E → ℝ)
    (hs : ∀ n r t, scores q (K n) (ix2 r t) = S n r t) (hv : ∀ n t e, withOnes h (V n) (ix2 t e) = w n t e) :
    ∃ μ : ℕ → Fin M → ℝ, ∀ n r e, rowAcc h hb q K V n (ix2 r e)
      = ((∑ b ∈ Finset.range (n + 1), ∑ t, (2 : ℝ) ^ (S b r t - μ n r) * w b t e : ℝ) : EReal) := by
  choose μ hμ using rowMax_real h hT q K fun n r t => ⟨S n r t, hs n r t⟩
  refine ⟨μ, fun n r e => ?_⟩
  induction n with
  | zero =>
    rw [Finset.sum_range_one]
    exact weighted_apply h hb _ _ _ r e (S 0 r) (μ 0 r) (fun t => w 0 t e) (hs 0 r) (hμ 0 r) fun t => hv 0 t e
  | succ n ih =>
    rw [Finset.sum_range_succ, EReal.coe_add,
      ← weighted_apply h hb (scores q (K (n + 1))) (rowMax h q K (n + 1)) (V (n + 1)) r e (S (n + 1) r) (μ (n + 1) r)
        (fun t => w (n + 1) t e) (hs (n + 1) r) (hμ (n + 1) r) fun t => hv (n + 1) t e]
    show broadcastTo (Mat M E) (exp2 (subf (rowMax h q K n) (rowMax h q K (n + 1)))) h.bcE (ix2 r e) * rowAcc h hb q K V n (ix2 r e)
        + _ = _
    congr 1
    rw [bc_apply, ih]
    show Ideal.exp2 (rowMax h q K n (ix2 r 0) - rowMax h q K (n + 1) (ix2 r 0)) * _ = _
    rw [hμ, hμ, ← EReal.coe_sub, Ideal.exp2_coe, ← EReal.coe_mul]
    congr 1
    show (2 : ℝ) ^ (μ n r - μ (n + 1) r) * _ = _
    rw [Finset.mul_sum]
    refine Finset.sum_congr rfl fun b _ => ?_
    rw [Finset.mul_sum]
    refine Finset.sum_congr rfl fun t _ => ?_
    rw [← mul_assoc, ← Real.rpow_add (by norm_num)]
    congr 2; ring

/-- The first columns of the values beside ones are the values. -/
theorem withOnes_left (h : Fits M T E W O) (v : FVec Ideal (Mat T W) .bf16) (t : Fin T) (e : Fin E) (he : e.val < W) :
    withOnes h v (ix2 t e) = v (ix2 t ⟨e.val, he⟩) := by
  unfold withOnes
  exact concatenate_pair_apply_left (t := Mat T E) (s₁ := Mat T W) 1 v _ _ (ix2 t e) rfl (ix2 t ⟨e.val, he⟩) fun b => by
    match b with | ⟨0, _⟩ => rfl | ⟨1, _⟩ => rfl

/-- The last columns are ones. -/
theorem withOnes_right (h : Fits M T E W O) (v : FVec Ideal (Mat T W) .bf16) (t : Fin T) (e : Fin E) (he : W ≤ e.val)
    (ho : e.val - W < O) : withOnes h v (ix2 t e) = ((1 : ℝ) : EReal) := by
  unfold withOnes
  refine (concatenate_pair_apply_right (t := Mat T E) (s₁ := Mat T W) (s₂ := Mat T O) 1 v _ _ (ix2 t e) rfl rfl
    (ix2 t ⟨e.val - W, ho⟩) ?_ ?_).trans ofBits_one
  · intro b hb
    match b with
    | ⟨0, _⟩ => rfl
    | ⟨1, _⟩ => exact absurd rfl hb
  · show e.val - W + W = e.val
    omega

end Flash

end
-- ==== Proof.Softmax.lean ====
/-
  Softmax attention over the reals, in the form both programs are brought to: weights that are powers of two.
-/
module

public import Idealize.ShloMosaic.PureOps.Ideal.Laws

@[expose] public section

noncomputable section

namespace Softmax

open Idealize.ShloMosaic

/-- An extended real that is a real number. -/
def IsReal (x : EReal) : Prop := ∃ r : ℝ, x = r

/-- A real number is its own real part. -/
theorem IsReal.eq {x : EReal} (h : IsReal x) : x = (x.toReal : EReal) := by
  obtain ⟨r, rfl⟩ := h; rw [EReal.toReal_coe]

/-- A number below plus infinity in absolute value, as a comparison's bit tells, is real. -/
theorem isReal_of_cmp (x : EReal) (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

/-- Attention to base two: the mean of the values `v` with the weights `2 ^ s`. -/
def attn {n : ℕ} (s v : Fin n → ℝ) : ℝ := (∑ j, (2 : ℝ) ^ s j * v j) / ∑ j, (2 : ℝ) ^ s j

/-- Subtracting one number from every score leaves the quotient as it is. -/
theorem quotient_shift {ι : Type} (s : Finset ι) (S v : ι → ℝ) (μ : ℝ) :
    (∑ i ∈ s, (2 : ℝ) ^ (S i - μ) * v i) / (∑ i ∈ s, (2 : ℝ) ^ (S i - μ))
      = (∑ i ∈ s, (2 : ℝ) ^ S i * v i) / ∑ i ∈ s, (2 : ℝ) ^ S i := by
  have h : ∀ i, (2 : ℝ) ^ (S i - μ) = 2 ^ (-μ) * 2 ^ S i := fun i => by
    rw [← Real.rpow_add (by norm_num)]; congr 1; ring
  simp only [h, mul_assoc, ← Finset.mul_sum]
  exact mul_div_mul_left _ _ (by positivity)

/-- The share of the total weight that entry `t` has. -/
def weight {n : ℕ} (s : Fin n → ℝ) (t : Fin n) : ℝ := (2 : ℝ) ^ s t / ∑ j, (2 : ℝ) ^ s j

/-- The mean by the shares of the weight. -/
theorem sum_weight {n : ℕ} (s v : Fin n → ℝ) : ∑ t, v t * weight s t = attn s v := by
  unfold weight attn
  rw [Finset.sum_div]
  exact Finset.sum_congr rfl fun t _ => by ring

/-- The softmax to base `e` of the scores times `log 2`, less any number `M`, is the share to base two. -/
theorem softmax_eq {n : ℕ} (s : Fin n → ℝ) (M : ℝ) (t : Fin n) :
    Real.exp (s t * Real.log 2 - M) / ∑ j, Real.exp (s j * Real.log 2 - M) = weight s t := by
  have h : ∀ j, Real.exp (s j * Real.log 2 - M) = Real.exp (-M) * (2 : ℝ) ^ s j := fun j => by
    rw [Real.rpow_def_of_pos (by norm_num), ← Real.exp_add]; congr 1; ring
  simp only [h, ← Finset.mul_sum]
  exact mul_div_mul_left _ _ (Real.exp_pos _).ne'

end Softmax

end
-- ==== Proof.HeadValue.lean ====
/-
  One head of the kernel body at ideal arithmetic, on finite queries, keys and values: each map's quotient is the
  softmax attention to base two over all 4608 keys, and the head's row is their difference, normed.
-/
module

public import proofs.«01_k».proof.Proof.Heads
public import proofs.«01_k».proof.Proof.FlashValue
public import proofs.«01_k».proof.Proof.Softmax

@[expose] public section

set_option maxRecDepth 16384

noncomputable section

namespace Cert.KernelIdeal.Heads

open Cert.KernelIdeal Cert.KernelIdeal.Gen Idealize.ShloMosaic Flash Softmax Facts

/-- A sum over blocks of 256 is the sum over all their entries. -/
theorem sum_blocks (f : ℕ → Fin 256 → ℝ) (g : Fin 4608 → ℝ)
    (h : ∀ b (hb : b < 18) (t : Fin 256), f b t = g ⟨256 * b + t.val, by omega⟩) :
    ∑ b ∈ Finset.range 18, ∑ t, f b t = ∑ j, g j := by
  rw [Finset.sum_range, ← Finset.sum_product', Finset.univ_product_univ]
  refine Fintype.sum_equiv (finProdFinEquiv (m := 18) (n := 256)) _ _ fun p => ?_
  rw [h _ p.1.isLt]
  congr 1
  exact Fin.ext (by show 256 * p.1.val + p.2.val = p.2.val + 256 * p.1.val; omega)

/-- A head's 4608 rows: the context's 512, then the new ones. -/
def allRows (ctx : Vec Ideal S512x128 .bf16) (new : Vec Ideal S4096x128 .bf16) (j : Fin 4608) (d : Fin 128) : EReal :=
  if h : j.val < 512 then ctx (ix2 ⟨j.val, h⟩ d) else new (ix2 ⟨j.val - 512, by omega⟩ d)

/-- Row `t` of block `b` is row `256 b + t` of all. -/
theorem blocks_apply (ctx : Vec Ideal S512x128 .bf16) (new : Vec Ideal S4096x128 .bf16) (b : ℕ) (hb : b < 18) (t : Fin 256)
    (d : Fin 128) : blocks ctx new b (ix2 t d) = allRows ctx new ⟨256 * b + t.val, by omega⟩ d := by
  have ht := t.isLt
  match b, hb with
  | 0, _ =>
    rw [allRows, dif_pos (show 256 * 0 + t.val < 512 by omega)]
    refine congrArg ctx (funext fun a => Fin.ext ?_)
    match a with
    | ⟨0, _⟩ => show 0 + 1 * t.val = 256 * 0 + t.val; omega
    | ⟨1, _⟩ => show 0 + 1 * d.val = d.val; omega
  | 1, _ =>
    rw [allRows, dif_pos (show 256 * 1 + t.val < 512 by omega)]
    refine congrArg ctx (funext fun a => Fin.ext ?_)
    match a with
    | ⟨0, _⟩ => show 256 + 1 * t.val = 256 * 1 + t.val; omega
    | ⟨1, _⟩ => show 0 + 1 * d.val = d.val; omega
  | n + 2, hb =>
    rw [allRows, dif_neg (show ¬256 * (n + 2) + t.val < 512 by omega)]
    refine congrArg new (funext fun a => Fin.ext ?_)
    match a with
    | ⟨0, _⟩ => show 256 * (n % 16) + 1 * t.val = 256 * (n + 2) + t.val - 512; rw [Nat.mod_eq_of_lt (by omega)]; omega
    | ⟨1, _⟩ => show 0 + 1 * d.val = d.val; omega

/-- Finite rows make finite blocks. -/
theorem blocks_fin (ctx : Vec Ideal S512x128 .bf16) (new : Vec Ideal S4096x128 .bf16) (hc : ∀ i, IsReal (ctx i))
    (hn : ∀ i, IsReal (new i)) (b : ℕ) (i : S256x128.Idx) : IsReal (blocks ctx new b i) := by
  match b with
  | 0 => exact hc _
  | 1 => exact hc _
  | n + 2 => exact hn _

/-- **A map's quotient** is the attention over all 4608 keys. -/
theorem ratio_apply (q : FVec Ideal S1024x128 .bf16) (kc vc : Vec Ideal S512x128 .bf16) (kn vn : Vec Ideal S4096x128 .bf16)
    (hq : ∀ i, IsReal (q i)) (hkc : ∀ i, IsReal (kc i)) (hvc : ∀ i, IsReal (vc i)) (hkn : ∀ i, IsReal (kn i)) (hvn : ∀ i, IsReal (vn i))
    (r : Fin 1024) (e : Fin 128) :
    ratio (rowAcc fits bitsLt_bf16_f32 q (blocks kc kn) (blocks vc vn) 17) (ix2 r e)
      = (attn (fun j => ∑ d, (q (ix2 r d)).toReal * (allRows kc kn j d).toReal) (fun j => (allRows vc vn j e).toReal) : EReal) := by
  have hs : ∀ n r t, scores q (blocks kc kn n) (ix2 r t)
      = ((∑ d, (q (ix2 r d)).toReal * (blocks kc kn n (ix2 t d)).toReal : ℝ) : EReal) := fun n r t => by
    rw [scores_apply, coe_sum]
    refine Finset.sum_congr rfl fun d _ => ?_
    rw [EReal.coe_mul, ← (hq _).eq, ← (blocks_fin kc kn hkc hkn n _).eq]
  have hv : ∀ n t (c : Fin 256), withOnes fits (blocks vc vn n) (ix2 t c)
      = ((if h : c.val < 128 then (blocks vc vn n (ix2 t ⟨c.val, h⟩)).toReal else 1 : ℝ) : EReal) := fun n t c => by
    split
    · next h => rw [withOnes_left _ _ _ _ h]; exact (blocks_fin vc vn hvc hvn n _).eq
    · next h => exact withOnes_right _ _ _ _ (by omega) (by omega)
  obtain ⟨μ, hμ⟩ := rowAcc_apply fits bitsLt_bf16_f32 (by norm_num) q (blocks kc kn) (blocks vc vn) _ _ hs hv
  have h0 := hμ 17 r ⟨e.val, by omega⟩
  have h1 := hμ 17 r ⟨128 + e.val, by omega⟩
  simp only [show ¬ 128 + e.val < 128 by omega, e.isLt, dite_true, dite_false, mul_one] at h0 h1
  have hpos : 0 < ∑ b ∈ Finset.range (17 + 1), ∑ t : Fin 256,
      (2 : ℝ) ^ (∑ d, (q (ix2 r d)).toReal * (blocks kc kn b (ix2 t d)).toReal - μ 17 r) :=
    Finset.sum_pos (fun _ _ => Finset.sum_pos (fun _ _ => by positivity) ⟨0, Finset.mem_univ _⟩) ⟨0, by simp⟩
  have hr : ratio (rowAcc fits bitsLt_bf16_f32 q (blocks kc kn) (blocks vc vn) 17) (ix2 r e)
      = rowAcc fits bitsLt_bf16_f32 q (blocks kc kn) (blocks vc vn) 17 (ix2 r ⟨e.val, by omega⟩)
        * Ideal.div (Ideal.ofBits .f32 0x3F800000#32)
          (rowAcc fits bitsLt_bf16_f32 q (blocks kc kn) (blocks vc vn) 17 (ix2 r ⟨128 + e.val, by omega⟩)) := by
    generalize rowAcc fits bitsLt_bf16_f32 q (blocks kc kn) (blocks vc vn) 17 = a
    pointwise [ratio]
  rw [hr, h0, h1, Ideal.div_coe hpos.ne', show Ideal.ofBits .f32 0x3F800000#32 = ((1 : ℝ) : EReal) by
    simp [Ideal.ofBits, Ideal.ieee, -EReal.coe_mul]; norm_num]
  rw [← EReal.coe_mul, ← EReal.coe_mul, one_mul, mul_one_div]
  refine congrArg _ ?_
  have e0 := sum_blocks (fun b t => (2 : ℝ) ^ (∑ d, (q (ix2 r d)).toReal * (blocks kc kn b (ix2 t d)).toReal - μ 17 r)
      * (blocks vc vn b (ix2 t e)).toReal)
    (fun j => (2 : ℝ) ^ (∑ d, (q (ix2 r d)).toReal * (allRows kc kn j d).toReal - μ 17 r) * (allRows vc vn j e).toReal)
    fun b hb t => by simp only [blocks_apply _ _ b hb]
  have e1 := sum_blocks (fun b t => (2 : ℝ) ^ (∑ d, (q (ix2 r d)).toReal * (blocks kc kn b (ix2 t d)).toReal - μ 17 r))
    (fun j => (2 : ℝ) ^ (∑ d, (q (ix2 r d)).toReal * (allRows kc kn j d).toReal - μ 17 r))
    fun b hb t => by simp only [blocks_apply _ _ b hb]
  exact (congrArg₂ (· / ·) e0 e1).trans (quotient_shift _ _ _ _)

end Cert.KernelIdeal.Heads

end
-- ==== Proof.DiffSpec.lean ====
/-
  What one row of one head of the differential attention is, from the row's query, all the keys and values, lambda and
  the gain.
-/
module

public import proofs.«01_k».proof.Proof.Softmax
public import proofs.«01_k».proof.Proof.FlashValue

@[expose] public section

noncomputable section

namespace DiffSpec

open Idealize.ShloMosaic Softmax

/-- Lane `d` of map `j`: each of the two maps has 64 of the 128 lanes. -/
abbrev lane (j : Fin 2) (d : Fin 64) : Fin 128 := ⟨64 * j.val + d.val, by omega⟩

/-- A map's score of a query and a key. -/
def score (q k : Fin 128 → EReal) (j : Fin 2) : ℝ := ∑ d : Fin 64, (q (lane j d)).toReal * (k (lane j d)).toReal

/-- The first map's attention less lambda times the second's. -/
def mixed {n : ℕ} (lam : ℝ) (q : Fin 128 → EReal) (k v : Fin n → Fin 128 → EReal) (e : Fin 128) : ℝ :=
  attn (fun t => score q (k t) 0) (fun t => (v t e).toReal) - lam * attn (fun t => score q (k t) 1) (fun t => (v t e).toReal)

/-- The context's 512 rows followed by the new ones. -/
def joined (ctx : Fin 512 → Fin 128 → EReal) (new : Fin 4096 → Fin 128 → EReal) (t : Fin 4608) : Fin 128 → EReal :=
  if h : t.val < 512 then ctx ⟨t.val, h⟩ else new ⟨t.val - 512, by omega⟩

/-- A row divided by its root mean square, times the gain and the constant `1 - lambda_init`. -/
def normedRow (o : Fin 128 → EReal) (g : Fin 128 → EReal) (e : Fin 128) : EReal :=
  o e * Ideal.rsqrt (Ideal.div (∑ c, o c * o c) (Ideal.ofBits .f32 0x43000000#32) + Ideal.ofBits .f32 0x358637BD#32) * g e
    * Ideal.ofBits .f32 0x3F24FD5C#32

/-- Lambda from its four parameter rows. -/
def lambda (p : Fin 4 → Fin 64 → EReal) : ℝ :=
  Real.exp (∑ d, (p 0 d).toReal * (p 1 d).toReal) - Real.exp (∑ d, (p 2 d).toReal * (p 3 d).toReal)
    + (Ideal.ofBits .f32 0x3EB60549#32).toReal

/-- **The attention's result** at batch `b`, row `n`, head `h` and column `e`, from the queries, the new keys and values,
    the context's keys and values, lambda's parameters and the gain. -/
def result (q kn vn : Fin 8 → Fin 8 → Fin 4096 → Fin 128 → EReal) (kc vc : Fin 8 → Fin 8 → Fin 512 → Fin 128 → EReal)
    (p : Fin 4 → Fin 64 → EReal) (g : Fin 128 → EReal) (b : Fin 8) (n : Fin 4096) (h : Fin 8) (e : Fin 128) : EReal :=
  normedRow (fun c => (mixed (lambda p) (q b h n) (joined (kc b h) (kn b h)) (joined (vc b h) (vn b h)) c : EReal)) g e

/-- The constant in lambda is a real number. -/
theorem lambdaInit_real : IsReal (Ideal.ofBits .f32 0x3EB60549#32) := by
  refine ⟨11928905 / 33554432, ?_⟩
  simp [Ideal.ofBits, Ideal.ieee, -EReal.coe_mul]; norm_num

/-- Lambda as the two programs compute it. -/
theorem lambda_eq (p : Fin 4 → Fin 64 → EReal) (hp : ∀ a d, IsReal (p a d)) :
    Ideal.exp (∑ d, p 0 d * p 1 d) - Ideal.exp (∑ d, p 2 d * p 3 d) + Ideal.ofBits .f32 0x3EB60549#32 = (lambda p : EReal) := by
  have h : ∀ a b : Fin 4, (∑ d, p a d * p b d) = ((∑ d, (p a d).toReal * (p b d).toReal : ℝ) : EReal) := fun a b => by
    rw [Flash.coe_sum]
    refine Finset.sum_congr rfl fun d _ => ?_
    rw [EReal.coe_mul, ← (hp a d).eq, ← (hp b d).eq]
  rw [h, h, Ideal.exp_coe, Ideal.exp_coe, lambdaInit_real.eq, ← EReal.coe_sub, ← EReal.coe_add]
  rfl

/-- A sum over 128 lanes whose terms vanish from lane 64 on. -/
theorem sum_low (f : Fin 128 → ℝ) : (∑ d, if d.val < 64 then f d else 0) = ∑ d : Fin 64, f (lane 0 d) := by
  rw [Fin.sum_univ_add (a := 64) (b := 64)]
  rw [Finset.sum_eq_zero (s := Finset.univ) (f := fun i : Fin 64 => if (Fin.natAdd 64 i).val < 64 then f (Fin.natAdd 64 i) else 0)
    fun i _ => if_neg (by simp), add_zero]
  refine Finset.sum_congr rfl fun d _ => ?_
  rw [if_pos (by simp)]
  exact congrArg f (Fin.ext (by simp [lane]))

/-- A sum over 128 lanes whose terms vanish below lane 64. -/
theorem sum_high (f : Fin 128 → ℝ) : (∑ d, if d.val < 64 then 0 else f d) = ∑ d : Fin 64, f (lane 1 d) := by
  rw [Fin.sum_univ_add (a := 64) (b := 64)]
  rw [Finset.sum_eq_zero (s := Finset.univ) (f := fun i : Fin 64 => if (Fin.castAdd 64 i).val < 64 then 0 else f (Fin.castAdd 64 i))
    fun i _ => if_pos (by simp), zero_add]
  refine Finset.sum_congr rfl fun d _ => ?_
  rw [if_neg (by simp)]
  exact congrArg f (Fin.ext (by simp [lane, Nat.add_comm]))

end DiffSpec

end
-- ==== Proof.HeadRow.lean ====
/-
  One row of one head of the kernel body is the differential attention's row.
-/
module

public import proofs.«01_k».proof.Proof.HeadValue
public import proofs.«01_k».proof.Proof.DiffSpec

@[expose] public section

set_option maxRecDepth 16384

noncomputable section

namespace Cert.KernelIdeal.Heads

open Cert.KernelIdeal Cert.KernelIdeal.Gen Idealize.ShloMosaic Flash Softmax DiffSpec Facts

/-- Whether a lane is below 64, as the body asks it. -/
theorem lane_lt (r : Fin 1024) (d : Fin 128) :
    cmpi .slt (iota .tc S1024x128 32 [1] iota_S1024x128_d1_w32) (broadcast S1024x128 64#32) (ix2 r d)
      = if d.val < 64 then 1#1 else 0#1 := by
  show IntOp.cmpi .slt (iota .tc S1024x128 32 [1] iota_S1024x128_d1_w32 (ix2 r d)) 64#32 = _
  rw [iota_single_apply]
  have h : ∀ d : Fin 128, IntOp.cmpi .slt (BitVec.ofNat 32 d.val) 64#32 = if d.val < 64 then 1#1 else 0#1 := by decide +kernel
  exact h d

/-- The lanes kept for the first map. -/
theorem lowLanes_apply (q : FVec Ideal S1024x128 .bf16) (r : Fin 1024) (d : Fin 128) :
    lowLanes q (ix2 r d) = if d.val < 64 then q (ix2 r d) else 0 := by
  unfold lowLanes
  rw [ValueIdx.select_apply, lane_lt]
  split
  · rfl
  · exact Ideal.ofBits_zero .bf16

/-- The lanes kept for the second map. -/
theorem highLanes_apply (q : FVec Ideal S1024x128 .bf16) (r : Fin 1024) (d : Fin 128) :
    highLanes q (ix2 r d) = if d.val < 64 then 0 else q (ix2 r d) := by
  unfold highLanes
  rw [ValueIdx.select_apply, lane_lt]
  split
  · exact Ideal.ofBits_zero .bf16
  · rfl

/-- Zero is a real number. -/
theorem isReal_zero : IsReal 0 := ⟨0, rfl⟩

/-- Every index of a matrix is a row and a lane. -/
theorem eq_ix2 {M N : ℕ} (i : (⟨2, ![M, N]⟩ : Shape).Idx) : ∃ (r : Fin M) (d : Fin N), i = ix2 r d :=
  ⟨i 0, i 1, funext fun a => by match a with | ⟨0, _⟩ => rfl | ⟨1, _⟩ => rfl⟩

/-- Finite queries stay finite where lanes are set to zero. -/
theorem lowLanes_real (q : FVec Ideal S1024x128 .bf16) (hq : ∀ i, IsReal (q i)) (i : S1024x128.Idx) : IsReal (lowLanes q i) := by
  obtain ⟨r, d, rfl⟩ := eq_ix2 i
  rw [lowLanes_apply]; split
  · exact hq _
  · exact isReal_zero

/-- Likewise for the other half. -/
theorem highLanes_real (q : FVec Ideal S1024x128 .bf16) (hq : ∀ i, IsReal (q i)) (i : S1024x128.Idx) : IsReal (highLanes q i) := by
  obtain ⟨r, d, rfl⟩ := eq_ix2 i
  rw [highLanes_apply]; split
  · exact isReal_zero
  · exact hq _

/-- The score of the first map. -/
theorem score_low (q : FVec Ideal S1024x128 .bf16) (r : Fin 1024) (k : Fin 128 → EReal) :
    ∑ d, (lowLanes q (ix2 r d)).toReal * (k d).toReal = score (fun d => q (ix2 r d)) k 0 := by
  rw [score, ← sum_low fun d => (q (ix2 r d)).toReal * (k d).toReal]
  refine Finset.sum_congr rfl fun d _ => ?_
  rw [lowLanes_apply]; split <;> simp

/-- The score of the second map. -/
theorem score_high (q : FVec Ideal S1024x128 .bf16) (r : Fin 1024) (k : Fin 128 → EReal) :
    ∑ d, (highLanes q (ix2 r d)).toReal * (k d).toReal = score (fun d => q (ix2 r d)) k 1 := by
  rw [score, ← sum_high fun d => (q (ix2 r d)).toReal * (k d).toReal]
  refine Finset.sum_congr rfl fun d _ => ?_
  rw [highLanes_apply]; split <;> simp

/-- The norm of a head's result at one entry. -/
theorem normed_apply (o : FVec Ideal S1024x128 .f32) (g : Vec Ideal S1x128 .f32) (r : Fin 1024) (e : Fin 128) :
    normed o g (ix3 0 r e) = normedRow (fun c => o (ix2 r c)) (fun c => g (ix2 0 c)) e := by
  pointwise [normed, normedRow]

/-- **A head's row** is the differential attention's row, from finite queries, keys, values and lambda. -/
theorem head_apply (q : FVec Ideal S1024x128 .bf16) (kc vc : Vec Ideal S512x128 .bf16) (kn vn : Vec Ideal S4096x128 .bf16)
    (lam : FVec Ideal S1x1 .f32) (g : Vec Ideal S1x128 .f32) (L : ℝ) (hL : lam (ix2 0 0) = L)
    (hq : ∀ i, IsReal (q i)) (hkc : ∀ i, IsReal (kc i)) (hvc : ∀ i, IsReal (vc i)) (hkn : ∀ i, IsReal (kn i))
    (hvn : ∀ i, IsReal (vn i)) (r : Fin 1024) (e : Fin 128) :
    head q (blocks kc kn) (blocks vc vn) lam g (ix3 0 r e)
      = normedRow (fun c => (mixed L (fun d => q (ix2 r d)) (allRows kc kn) (allRows vc vn) c : EReal)) (fun c => g (ix2 0 c)) e := by
  unfold head
  rw [normed_apply]
  refine congrArg (fun o => normedRow o (fun c => g (ix2 0 c)) e) (funext fun c => ?_)
  show ratio _ (ix2 r c) - broadcastTo S1024x128 lam broadcasts_S1x1_S1024x128 (ix2 r c) * ratio _ (ix2 r c) = _
  rw [ratio_apply _ kc vc kn vn (lowLanes_real q hq) hkc hvc hkn hvn, ratio_apply _ kc vc kn vn (highLanes_real q hq) hkc hvc hkn hvn,
    show broadcastTo S1024x128 lam broadcasts_S1x1_S1024x128 (ix2 r c) = lam (ix2 0 0) by pointwise, hL,
    ← EReal.coe_mul, ← EReal.coe_sub]
  rw [mixed, funext fun j => score_low q r (allRows kc kn j), funext fun j => score_high q r (allRows kc kn j)]

end Cert.KernelIdeal.Heads

end
-- ==== Proof.BlockValue.lean ====
/-
  The kernel body's output block, entry by entry: which head, row and column of the differential attention it holds.
-/
module

public import proofs.«01_k».proof.Proof.HeadRow

@[expose] public section

set_option maxRecDepth 16384

noncomputable section

namespace Cert.KernelIdeal.Heads

open Cert.KernelIdeal Cert.KernelIdeal.Gen Idealize.ShloMosaic Flash Softmax DiffSpec Facts

/-- The first head's queries. -/
theorem q0_apply (x : Vec Ideal S1x2x1024x128 .bf16) (r : Fin 1024) (d : Fin 128) :
    shapeCast S1024x128 (View.ld x r0_1) shapeCasts_S1x1x1024x128_S1024x128 (ix2 r d) = x (ix4 0 0 r d) := by pointwise

/-- The second head's queries. -/
theorem q1_apply (x : Vec Ideal S1x2x1024x128 .bf16) (r : Fin 1024) (d : Fin 128) :
    shapeCast S1024x128 (View.ld x r0_24) shapeCasts_S1x1x1024x128_S1024x128 (ix2 r d) = x (ix4 0 1 r d) := by pointwise

/-- The first head's context rows. -/
theorem c0_apply (x : Vec Ideal S1x2x512x128 .bf16) (r : Fin 512) (d : Fin 128) :
    shapeCast S512x128 (View.ld x r0_2) squeezes_S1x1x512x128_S512x128.numel_eq (ix2 r d) = x (ix4 0 0 r d) := by pointwise

/-- The second head's context rows. -/
theorem c1_apply (x : Vec Ideal S1x2x512x128 .bf16) (r : Fin 512) (d : Fin 128) :
    shapeCast S512x128 (View.ld x r0_25) squeezes_S1x1x512x128_S512x128.numel_eq (ix2 r d) = x (ix4 0 1 r d) := by pointwise

/-- The first head's new rows. -/
theorem n0_apply (x : Vec Ideal S1x2x4096x128 .bf16) (r : Fin 4096) (d : Fin 128) :
    shapeCast S4096x128 (View.ld x r0_5) squeezes_S1x1x4096x128_S4096x128.numel_eq (ix2 r d) = x (ix4 0 0 r d) := by pointwise

/-- The second head's new rows. -/
theorem n1_apply (x : Vec Ideal S1x2x4096x128 .bf16) (r : Fin 4096) (d : Fin 128) :
    shapeCast S4096x128 (View.ld x r0_26) squeezes_S1x1x4096x128_S4096x128.numel_eq (ix2 r d) = x (ix4 0 1 r d) := by pointwise

/-- The body's lambda. -/
theorem lam_apply (x : Vec Ideal S4x64 .f32) (hx : ∀ i, IsReal (x i)) :
    k0_pay1 (View.ld x r0_0) (ix2 0 0) = (lambda fun a d => x (ix2 a d) : EReal) := by
  rw [← lambda_eq _ fun a d => hx _]
  pointwise [k0_pay1]

/-- A matrix of finite entries, read through its rows and lanes. -/
theorem real_of_apply {M N : ℕ} {y : (⟨2, ![M, N]⟩ : Shape).Idx → EReal} {f : Fin M → Fin N → EReal} (h : ∀ r d, y (ix2 r d) = f r d)
    (hf : ∀ r d, IsReal (f r d)) (i : (⟨2, ![M, N]⟩ : Shape).Idx) : IsReal (y i) := by
  obtain ⟨r, d, rfl⟩ := eq_ix2 i
  rw [h]; exact hf r d

/-- A head's rows, from the two matrices' entries. -/
theorem allRows_eq {c : Vec Ideal S512x128 .bf16} {n : Vec Ideal S4096x128 .bf16} {fc : Fin 512 → Fin 128 → EReal}
    {fn : Fin 4096 → Fin 128 → EReal} (hc : ∀ r d, c (ix2 r d) = fc r d) (hn : ∀ r d, n (ix2 r d) = fn r d) :
    allRows c n = joined fc fn := by
  funext j d
  unfold allRows joined
  split
  · exact hc _ _
  · exact hn _ _

/-- A head from its blocks' entries. -/
theorem head_of {q : FVec Ideal S1024x128 .bf16} {kc vc : Vec Ideal S512x128 .bf16} {kn vn : Vec Ideal S4096x128 .bf16}
    {fq : Fin 1024 → Fin 128 → EReal} {fkc fvc : Fin 512 → Fin 128 → EReal} {fkn fvn : Fin 4096 → Fin 128 → EReal}
    (x5 : Vec Ideal S4x64 .f32) (x6 : Vec Ideal S1x128 .f32)
    (hq : ∀ r d, q (ix2 r d) = fq r d) (hkc : ∀ r d, kc (ix2 r d) = fkc r d) (hvc : ∀ r d, vc (ix2 r d) = fvc r d)
    (hkn : ∀ r d, kn (ix2 r d) = fkn r d) (hvn : ∀ r d, vn (ix2 r d) = fvn r d)
    (rq : ∀ r d, IsReal (fq r d)) (rkc : ∀ r d, IsReal (fkc r d)) (rvc : ∀ r d, IsReal (fvc r d))
    (rkn : ∀ r d, IsReal (fkn r d)) (rvn : ∀ r d, IsReal (fvn r d)) (r5 : ∀ i, IsReal (x5 i)) (r : Fin 1024) (e : Fin 128) :
    head q (blocks kc kn) (blocks vc vn) (k0_pay1 (View.ld x5 r0_0)) (View.ld x6 r0_22) (ix3 0 r e)
      = normedRow (fun c => (mixed (lambda fun a d => x5 (ix2 a d)) (fq r) (joined fkc fkn) (joined fvc fvn) c : EReal))
        (fun c => x6 (ix2 0 c)) e := by
  rw [head_apply q kc vc kn vn _ _ _ (lam_apply x5 r5) (real_of_apply hq rq) (real_of_apply hkc rkc) (real_of_apply hvc rvc)
    (real_of_apply hkn rkn) (real_of_apply hvn rvn) r e, allRows_eq hkc hkn, allRows_eq hvc hvn, funext fun d => hq r d]
  have hg : (fun c => View.ld x6 r0_22 (ix2 0 c)) = fun c => x6 (ix2 0 c) := funext fun c => by pointwise
  rw [hg]

/-- Where the first head's columns stand. -/
theorem at_first (r : Fin 1024) (e : Fin 128) :
    (ix3 0 r ⟨128 * 0 + e.val, by omega⟩ : S1x1024x256.Idx) = r0_23.emb (ix3 0 r e) := funext fun a => Fin.ext (by
  match a with
  | ⟨0, _⟩ => rfl
  | ⟨1, _⟩ => show r.val = 0 + 1 * r.val; omega
  | ⟨2, _⟩ => show 128 * 0 + e.val = 0 + 1 * e.val; omega)

/-- Where the second head's columns stand. -/
theorem at_second (r : Fin 1024) (e : Fin 128) :
    (ix3 0 r ⟨128 * 1 + e.val, by omega⟩ : S1x1024x256.Idx) = r0_27.emb (ix3 0 r e) := funext fun a => Fin.ext (by
  match a with
  | ⟨0, _⟩ => rfl
  | ⟨1, _⟩ => show r.val = 0 + 1 * r.val; omega
  | ⟨2, _⟩ => show 128 * 1 + e.val = 128 + 1 * e.val; omega)

/-- **The body's block** at row `r`, column `e` of its head `h`. -/
theorem out_apply (x0 : Vec Ideal S1x2x1024x128 .bf16) (x1 x2 : Vec Ideal S1x2x4096x128 .bf16) (x3 x4 : Vec Ideal S1x2x512x128 .bf16)
    (x5 : Vec Ideal S4x64 .f32) (x6 : Vec Ideal S1x128 .f32) (h0 : ∀ i, IsReal (x0 i)) (h1 : ∀ i, IsReal (x1 i))
    (h2 : ∀ i, IsReal (x2 i)) (h3 : ∀ i, IsReal (x3 i)) (h4 : ∀ i, IsReal (x4 i)) (h5 : ∀ i, IsReal (x5 i))
    (h : Fin 2) (r : Fin 1024) (e : Fin 128) :
    out0_7 x0 x1 x2 x3 x4 x5 x6 (ix3 0 r ⟨128 * h.val + e.val, by omega⟩)
      = normedRow (fun c => (mixed (lambda fun a d => x5 (ix2 a d)) (fun d => x0 (ix4 0 h r d))
          (joined (fun t d => x3 (ix4 0 h t d)) (fun t d => x1 (ix4 0 h t d)))
          (joined (fun t d => x4 (ix4 0 h t d)) (fun t d => x2 (ix4 0 h t d))) c : EReal)) (fun c => x6 (ix2 0 c)) e := by
  rw [out_eq]
  match h with
  | ⟨0, _⟩ =>
    rw [View.canon_cons_of_not_mem _ _ (by
      rw [Rect.mem_set_unit]
      intro hm
      have hm2 := (hm 2).1
      have e' : 128 ≤ 128 * 0 + e.val := hm2
      omega)]
    rw [show (ix3 0 r ⟨128 * 0 + e.val, by omega⟩ : S1x1024x256.Idx) = r0_23.emb (ix3 0 r e) from at_first r e,
      View.canon_cons_emb]
    exact head_of x5 x6 (q0_apply x0) (c0_apply x3) (c0_apply x4) (n0_apply x1) (n0_apply x2) (fun _ _ => h0 _) (fun _ _ => h3 _)
      (fun _ _ => h4 _) (fun _ _ => h1 _) (fun _ _ => h2 _) h5 r e
  | ⟨1, _⟩ =>
    rw [show (ix3 0 r ⟨128 * 1 + e.val, by omega⟩ : S1x1024x256.Idx) = r0_27.emb (ix3 0 r e) from at_second r e,
      View.canon_cons_emb]
    exact head_of x5 x6 (q1_apply x0) (c1_apply x3) (c1_apply x4) (n1_apply x1) (n1_apply x2) (fun _ _ => h0 _) (fun _ _ => h3 _)
      (fun _ _ => h4 _) (fun _ _ => h1 _) (fun _ _ => h2 _) h5 r e

end Cert.KernelIdeal.Heads

end
-- ==== Proof.KernelArray.lean ====
/-
  The kernel's result array: entry by entry the differential attention of the argument arrays.
-/
module

public import proofs.«01_k».proof.Proof.BlockValue
public import proofs.«01_k».proof.Proof.Gen.KernelIdeal.Value

@[expose] public section

set_option maxRecDepth 16384

noncomputable section

namespace Cert.KernelIdeal.Array

open Cert.KernelIdeal Cert.KernelIdeal.Gen Cert.KernelIdeal.Heads Idealize.ShloMosaic Idealize.ShloMosaic.TcCoe Idealize.SL.Sem
open Softmax DiffSpec
open Idealize.ShloMosaic.Pipeline (Dat)

variable (m : (ℓ : Loc nD τ sig) → Buf (Elt Ideal) ℓ) (ρ : Dev nD → PrngReg)

/-- Which block of each array a grid point stages: point `t` is batch `t / 16`, pair of heads `t / 4 % 4`, query block
    `t % 4`. -/
theorem index_eq : ∀ t : Fin grid0.N,
    (win0_0.index t 0 = t.val / 16 ∧ win0_0.index t 1 = t.val / 4 % 4 ∧ win0_0.index t 2 = t.val % 4 ∧ win0_0.index t 3 = 0)
    ∧ (win0_1.index t 0 = t.val / 16 ∧ win0_1.index t 1 = t.val / 4 % 4 ∧ win0_1.index t 2 = 0 ∧ win0_1.index t 3 = 0)
    ∧ (win0_2.index t 0 = t.val / 16 ∧ win0_2.index t 1 = t.val / 4 % 4 ∧ win0_2.index t 2 = 0 ∧ win0_2.index t 3 = 0)
    ∧ (win0_3.index t 0 = t.val / 16 ∧ win0_3.index t 1 = t.val / 4 % 4 ∧ win0_3.index t 2 = 0 ∧ win0_3.index t 3 = 0)
    ∧ (win0_4.index t 0 = t.val / 16 ∧ win0_4.index t 1 = t.val / 4 % 4 ∧ win0_4.index t 2 = 0 ∧ win0_4.index t 3 = 0)
    ∧ (win0_5.index t 0 = 0 ∧ win0_5.index t 1 = 0) ∧ (win0_6.index t 0 = 0 ∧ win0_6.index t 1 = 0)
    ∧ (win0_7.index t 0 = t.val / 16 ∧ win0_7.index t 1 = t.val % 4 ∧ win0_7.index t 2 = t.val / 4 % 4) := by
  decide +kernel

/-- The grid has 128 points. -/
theorem lt_N (t : Fin cfg0.N) : t.val < 128 := t.isLt

/-- The batch, the head and the row of an entry of point `t`'s blocks. -/
abbrev bAt (t : Fin cfg0.N) : Fin 8 := ⟨t.val / 16, by have := lt_N t; omega⟩
abbrev hAt (t : Fin cfg0.N) (h : Fin 2) : Fin 8 := ⟨2 * (t.val / 4 % 4) + h.val, by omega⟩
abbrev nAt (t : Fin cfg0.N) (r : Fin 1024) : Fin 4096 := ⟨1024 * (t.val % 4) + r.val, by omega⟩

variable (c : Dev nD)

/-- The argument arrays as functions of their coordinates. -/
abbrev Q (b h : Fin 8) (n : Fin 4096) (d : Fin 128) : EReal := m ((c : Thread nD τ).loc main_arg0) (ix4 b h n d)
abbrev Kn (b h : Fin 8) (n : Fin 4096) (d : Fin 128) : EReal := m ((c : Thread nD τ).loc main_arg1) (ix4 b h n d)
abbrev Vn (b h : Fin 8) (n : Fin 4096) (d : Fin 128) : EReal := m ((c : Thread nD τ).loc main_arg2) (ix4 b h n d)
abbrev Kc (b h : Fin 8) (n : Fin 512) (d : Fin 128) : EReal := m ((c : Thread nD τ).loc main_arg3) (ix4 b h n d)
abbrev Vc (b h : Fin 8) (n : Fin 512) (d : Fin 128) : EReal := m ((c : Thread nD τ).loc main_arg4) (ix4 b h n d)
abbrev Lp (a : Fin 4) (d : Fin 64) : EReal := m ((c : Thread nD τ).loc main_arg5) (ix2 a d)
abbrev Gn (d : Fin 128) : EReal := m ((c : Thread nD τ).loc main_arg6) (ix2 0 d)

/-- A point's queries. -/
theorem blk0 (t : Fin cfg0.N) (h : Fin 2) (r : Fin 1024) (d : Fin 128) :
    (iblk m c 0 t : Vec Ideal S1x2x1024x128 .bf16) (ix4 0 h r d) = Q m c (bAt t) (hAt t h) (nAt t r) d := by
  obtain ⟨⟨i0, i1, i2, i3⟩, -⟩ := index_eq t
  unfold iblk
  rw [View.read_apply]
  show V m c main_arg0 _ = m ((c : Thread nD τ).loc main_arg0) _
  unfold V
  congr 1
  funext a
  apply Fin.ext
  match a with
  | ⟨0, _⟩ => show win0_0.index t 0 * 1 + 1 * 0 = t.val / 16; rw [i0]; omega
  | ⟨1, _⟩ => show win0_0.index t 1 * 2 + 1 * h.val = 2 * (t.val / 4 % 4) + h.val; rw [i1]; omega
  | ⟨2, _⟩ => show win0_0.index t 2 * 1024 + 1 * r.val = 1024 * (t.val % 4) + r.val; rw [i2]; omega
  | ⟨3, _⟩ => show win0_0.index t 3 * 128 + 1 * d.val = d.val; rw [i3]; omega

/-- A point's new keys. -/
theorem blk1 (t : Fin cfg0.N) (h : Fin 2) (r : Fin 4096) (d : Fin 128) :
    (iblk m c 1 t : Vec Ideal S1x2x4096x128 .bf16) (ix4 0 h r d) = Kn m c (bAt t) (hAt t h) r d := by
  obtain ⟨-, ⟨i0, i1, i2, i3⟩, -⟩ := index_eq t
  unfold iblk
  rw [View.read_apply]
  show V m c main_arg1 _ = m ((c : Thread nD τ).loc main_arg1) _
  unfold V
  congr 1
  funext a
  apply Fin.ext
  match a with
  | ⟨0, _⟩ => show win0_1.index t 0 * 1 + 1 * 0 = t.val / 16; rw [i0]; omega
  | ⟨1, _⟩ => show win0_1.index t 1 * 2 + 1 * h.val = 2 * (t.val / 4 % 4) + h.val; rw [i1]; omega
  | ⟨2, _⟩ => show win0_1.index t 2 * 4096 + 1 * r.val = r.val; rw [i2]; omega
  | ⟨3, _⟩ => show win0_1.index t 3 * 128 + 1 * d.val = d.val; rw [i3]; omega

/-- A point's new values. -/
theorem blk2 (t : Fin cfg0.N) (h : Fin 2) (r : Fin 4096) (d : Fin 128) :
    (iblk m c 2 t : Vec Ideal S1x2x4096x128 .bf16) (ix4 0 h r d) = Vn m c (bAt t) (hAt t h) r d := by
  obtain ⟨-, -, ⟨i0, i1, i2, i3⟩, -⟩ := index_eq t
  unfold iblk
  rw [View.read_apply]
  show V m c main_arg2 _ = m ((c : Thread nD τ).loc main_arg2) _
  unfold V
  congr 1
  funext a
  apply Fin.ext
  match a with
  | ⟨0, _⟩ => show win0_2.index t 0 * 1 + 1 * 0 = t.val / 16; rw [i0]; omega
  | ⟨1, _⟩ => show win0_2.index t 1 * 2 + 1 * h.val = 2 * (t.val / 4 % 4) + h.val; rw [i1]; omega
  | ⟨2, _⟩ => show win0_2.index t 2 * 4096 + 1 * r.val = r.val; rw [i2]; omega
  | ⟨3, _⟩ => show win0_2.index t 3 * 128 + 1 * d.val = d.val; rw [i3]; omega

/-- A point's context keys. -/
theorem blk3 (t : Fin cfg0.N) (h : Fin 2) (r : Fin 512) (d : Fin 128) :
    (iblk m c 3 t : Vec Ideal S1x2x512x128 .bf16) (ix4 0 h r d) = Kc m c (bAt t) (hAt t h) r d := by
  obtain ⟨-, -, -, ⟨i0, i1, i2, i3⟩, -⟩ := index_eq t
  unfold iblk
  rw [View.read_apply]
  show V m c main_arg3 _ = m ((c : Thread nD τ).loc main_arg3) _
  unfold V
  congr 1
  funext a
  apply Fin.ext
  match a with
  | ⟨0, _⟩ => show win0_3.index t 0 * 1 + 1 * 0 = t.val / 16; rw [i0]; omega
  | ⟨1, _⟩ => show win0_3.index t 1 * 2 + 1 * h.val = 2 * (t.val / 4 % 4) + h.val; rw [i1]; omega
  | ⟨2, _⟩ => show win0_3.index t 2 * 512 + 1 * r.val = r.val; rw [i2]; omega
  | ⟨3, _⟩ => show win0_3.index t 3 * 128 + 1 * d.val = d.val; rw [i3]; omega

/-- A point's context values. -/
theorem blk4 (t : Fin cfg0.N) (h : Fin 2) (r : Fin 512) (d : Fin 128) :
    (iblk m c 4 t : Vec Ideal S1x2x512x128 .bf16) (ix4 0 h r d) = Vc m c (bAt t) (hAt t h) r d := by
  obtain ⟨-, -, -, -, ⟨i0, i1, i2, i3⟩, -⟩ := index_eq t
  unfold iblk
  rw [View.read_apply]
  show V m c main_arg4 _ = m ((c : Thread nD τ).loc main_arg4) _
  unfold V
  congr 1
  funext a
  apply Fin.ext
  match a with
  | ⟨0, _⟩ => show win0_4.index t 0 * 1 + 1 * 0 = t.val / 16; rw [i0]; omega
  | ⟨1, _⟩ => show win0_4.index t 1 * 2 + 1 * h.val = 2 * (t.val / 4 % 4) + h.val; rw [i1]; omega
  | ⟨2, _⟩ => show win0_4.index t 2 * 512 + 1 * r.val = r.val; rw [i2]; omega
  | ⟨3, _⟩ => show win0_4.index t 3 * 128 + 1 * d.val = d.val; rw [i3]; omega

/-- A point's lambda parameters. -/
theorem blk5 (t : Fin cfg0.N) (a : Fin 4) (d : Fin 64) : (iblk m c 5 t : Vec Ideal S4x64 .f32) (ix2 a d) = Lp m c a d := by
  obtain ⟨-, -, -, -, -, ⟨i0, i1⟩, -⟩ := index_eq t
  unfold iblk
  rw [View.read_apply]
  show V m c main_arg5 _ = m ((c : Thread nD τ).loc main_arg5) _
  unfold V
  congr 1
  funext x
  apply Fin.ext
  match x with
  | ⟨0, _⟩ => show win0_5.index t 0 * 4 + 1 * a.val = a.val; rw [i0]; omega
  | ⟨1, _⟩ => show win0_5.index t 1 * 64 + 1 * d.val = d.val; rw [i1]; omega

/-- A point's gain. -/
theorem blk6 (t : Fin cfg0.N) (d : Fin 128) : (iblk m c 6 t : Vec Ideal S1x128 .f32) (ix2 0 d) = Gn m c d := by
  obtain ⟨-, -, -, -, -, -, ⟨i0, i1⟩, -⟩ := index_eq t
  unfold iblk
  rw [View.read_apply]
  show V m c main_arg6 _ = m ((c : Thread nD τ).loc main_arg6) _
  unfold V
  congr 1
  funext x
  apply Fin.ext
  match x with
  | ⟨0, _⟩ => show win0_6.index t 0 * 1 + 1 * 0 = 0; rw [i0]
  | ⟨1, _⟩ => show win0_6.index t 1 * 128 + 1 * d.val = d.val; rw [i1]; omega

/-- What the precondition says of the arguments: everything but the gain is finite. -/
structure Finite : Prop where
  q : ∀ i, IsReal ((m ((c : Thread nD τ).loc main_arg0) : Vec Ideal S8x8x4096x128 .bf16) i)
  kn : ∀ i, IsReal ((m ((c : Thread nD τ).loc main_arg1) : Vec Ideal S8x8x4096x128 .bf16) i)
  vn : ∀ i, IsReal ((m ((c : Thread nD τ).loc main_arg2) : Vec Ideal S8x8x4096x128 .bf16) i)
  kc : ∀ i, IsReal ((m ((c : Thread nD τ).loc main_arg3) : Vec Ideal S8x8x512x128 .bf16) i)
  vc : ∀ i, IsReal ((m ((c : Thread nD τ).loc main_arg4) : Vec Ideal S8x8x512x128 .bf16) i)
  lp : ∀ i, IsReal ((m ((c : Thread nD τ).loc main_arg5) : Vec Ideal S4x64 .f32) i)

/-- The result array: at batch `b`, row `n` and column `128 h + e`, head `h`'s entry `e`. -/
def res : Buf (Elt Ideal) ((c : Thread nD τ).loc main_v0) := fun i : S8x4096x1024.Idx =>
  result (Q m c) (Kn m c) (Vn m c) (Kc m c) (Vc m c) (Lp m c) (Gn m c) (i 0) (i 1)
    ⟨(i 2).val / 128, by have h : (i 2).val < 1024 := (i 2).isLt; omega⟩ ⟨(i 2).val % 128, Nat.mod_lt _ (by norm_num)⟩

/-- Where entry `(r, 128 h + e)` of point `t`'s output block lies in the result array. -/
theorem at_out (t : Fin cfg0.N) (h : Fin 2) (r : Fin 1024) (e : Fin 128) :
    ((cfg0.win 7).blk t).view.read (Elt Ideal) (res m c) (ix3 0 r ⟨128 * h.val + e.val, by omega⟩ : S1x1024x256.Idx)
      = result (Q m c) (Kn m c) (Vn m c) (Kc m c) (Vc m c) (Lp m c) (Gn m c) (bAt t) (nAt t r) (hAt t h) e := by
  obtain ⟨-, -, -, -, -, -, -, ⟨i0, i1, i2⟩⟩ := index_eq t
  rw [View.read_apply]
  show result (Q m c) (Kn m c) (Vn m c) (Kc m c) (Vc m c) (Lp m c) (Gn m c) _ _ _ _ = _
  have hlt := e.isLt
  congr 1
  · exact Fin.ext (by show win0_7.index t 0 * 1 + 1 * 0 = t.val / 16; rw [i0]; omega)
  · exact Fin.ext (by show win0_7.index t 1 * 1024 + 1 * r.val = 1024 * (t.val % 4) + r.val; rw [i1]; omega)
  · exact Fin.ext (by
      show (win0_7.index t 2 * 256 + 1 * (128 * h.val + e.val)) / 128 = 2 * (t.val / 4 % 4) + h.val; rw [i2]; omega)
  · exact Fin.ext (by show (win0_7.index t 2 * 256 + 1 * (128 * h.val + e.val)) % 128 = e.val; rw [i2]; omega)

/-- Every point writes back its block of the result array. -/
theorem flushed_eq (hf : Finite m c) (t : Fin cfg0.N) :
    (dats m 0 c).flushed 7 t = ((cfg0.win 7).blk t).view.read (Elt Ideal) (res m c) := by
  rw [Value.flushed7]
  refine funext fun j : S1x1024x256.Idx => ?_
  obtain ⟨z, r, h, e, rfl⟩ : ∃ (z : Fin 1) (r : Fin 1024) (h : Fin 2) (e : Fin 128), j = ix3 z r ⟨128 * h.val + e.val, by omega⟩ := by
    have h2 : (j 2).val < 256 := (j 2).isLt
    refine ⟨j 0, j 1, ⟨(j 2).val / 128, by omega⟩, ⟨(j 2).val % 128, by omega⟩, funext fun a => Fin.ext ?_⟩
    match a with
    | ⟨0, _⟩ => rfl
    | ⟨1, _⟩ => rfl
    | ⟨2, _⟩ => show (j 2).val = 128 * ((j 2).val / 128) + (j 2).val % 128; omega
  obtain rfl : z = 0 := Subsingleton.elim _ _
  rw [at_out]
  show out0_7 (iblk m c 0 t) (iblk m c 1 t) (iblk m c 2 t) (iblk m c 3 t) (iblk m c 4 t) (iblk m c 5 t) (iblk m c 6 t)
    (ix3 0 r ⟨128 * h.val + e.val, by omega⟩) = _
  rw [out_apply (iblk m c 0 t) (iblk m c 1 t) (iblk m c 2 t) (iblk m c 3 t) (iblk m c 4 t) (iblk m c 5 t) (iblk m c 6 t)
    (fun _ => hf.q _) (fun _ => hf.kn _) (fun _ => hf.vn _) (fun _ => hf.kc _) (fun _ => hf.vc _) (fun _ => hf.lp _)]
  simp only [blk0, blk1, blk2, blk3, blk4, blk5, blk6]
  rfl

/-- The blocks cover the array, so it ends holding the result. -/
theorem final (hf : Finite m c) : (dats m 0 c).arrAt 7 cfg0.N = res m c :=
  (dats m 0 c).arrAt_eq_of_cover 7 (res m c) (fun t _ => flushed_eq m c hf t) fun i => by
    have h0 : (i 0 : Nat) < 8 := (i 0).isLt
    have h1 : (i 1 : Nat) < 4096 := (i 1).isLt
    have h2 : (i 2 : Nat) < 1024 := (i 2).isLt
    let t : Fin cfg0.N := ⟨16 * (i 0 : Nat) + 4 * ((i 2 : Nat) / 256) + (i 1 : Nat) / 1024, by show _ < 128; omega⟩
    obtain ⟨-, -, -, -, -, -, -, ⟨i0, i1, i2⟩⟩ := index_eq t
    have tv : t.val = 16 * (i 0 : Nat) + 4 * ((i 2 : Nat) / 256) + (i 1 : Nat) / 1024 := rfl
    refine ⟨t, flush0_7 t, ?_⟩
    show i ∈ ((View.whole main_v0).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [i0]; omega
    | ⟨1, _⟩ =>
      show win0_7.index t 1 * 1024 ≤ (i 1 : Nat) ∧ (i 1 : Nat) < win0_7.index t 1 * 1024 + 1024
      rw [i1]; omega
    | ⟨2, _⟩ =>
      show win0_7.index t 2 * 256 ≤ (i 2 : Nat) ∧ (i 2 : Nat) < win0_7.index t 2 * 256 + 256
      rw [i2]; omega

end Cert.KernelIdeal.Array

end
-- ==== Proof.RefValue.lean ====
/-
  The reference's result, entry by entry: the differential attention of its arguments.
-/
module

public import proofs.«01_k».proof.Proof.DiffSpec
public import proofs.«01_k».proof.Proof.Gen.ReferenceIdeal.Read

@[expose] public section

set_option maxRecDepth 16384

noncomputable section

namespace Cert.ReferenceIdeal.Attention

open Cert.ReferenceIdeal Cert.ReferenceIdeal.Gen Cert.ReferenceIdeal.Read Idealize.ShloMosaic Idealize.SL.Sem
open Softmax DiffSpec

/-- Indices of five coordinates are equal when the coordinates are. -/
theorem ext5 {n : Fin 5 → ℕ} {i j : (⟨5, n⟩ : Shape).Idx} (h0 : (i 0).val = (j 0).val) (h1 : (i 1).val = (j 1).val)
    (h2 : (i 2).val = (j 2).val) (h3 : (i 3).val = (j 3).val) (h4 : (i 4).val = (j 4).val) : i = j := by
  funext a
  apply Fin.ext
  match a with
  | ⟨0, _⟩ => exact h0
  | ⟨1, _⟩ => exact h1
  | ⟨2, _⟩ => exact h2
  | ⟨3, _⟩ => exact h3
  | ⟨4, _⟩ => exact h4

/-- Indices of four coordinates are equal when the coordinates are. -/
theorem ext4 {n : Fin 4 → ℕ} {i j : (⟨4, n⟩ : Shape).Idx} (h0 : (i 0).val = (j 0).val) (h1 : (i 1).val = (j 1).val)
    (h2 : (i 2).val = (j 2).val) (h3 : (i 3).val = (j 3).val) : i = j := by
  funext a
  apply Fin.ext
  match a with
  | ⟨0, _⟩ => exact h0
  | ⟨1, _⟩ => exact h1
  | ⟨2, _⟩ => exact h2
  | ⟨3, _⟩ => exact h3

variable (x0 x1 x2 : Vec Ideal S8x8x4096x128 .bf16) (x3 x4 : Vec Ideal S8x8x512x128 .bf16) (x5 : Vec Ideal S4x64 .f32)
  (x6 : Vec Ideal S1x128 .f32)

/-- All keys (or values) of a batch entry and a head: the context's, then the new ones. -/
abbrev rowsOf (new : Vec Ideal S8x8x4096x128 .bf16) (ctx : Vec Ideal S8x8x512x128 .bf16) (b h : Fin 8) : Fin 4608 → Fin 128 → EReal :=
  joined (fun t d => ctx (ix4 b h t d)) (fun t d => new (ix4 b h t d))

/-- The new rows behind the context's. -/
theorem concat_apply (new : Vec Ideal S8x8x4096x128 .bf16) (ctx : Vec Ideal S8x8x512x128 .bf16) (b h : Fin 8) (t : Fin 4608) (d : Fin 128) :
    concatenate S8x8x4608x128 2 [⟨S8x8x512x128, ctx⟩, ⟨S8x8x4096x128, new⟩] concatenates_S8x8x512x128_S8x8x4096x128_S8x8x4608x128_d2
      (ix4 b h t d) = rowsOf new ctx b h t d := by
  unfold rowsOf joined
  split
  · next ht =>
    exact concatenate_pair_apply_left (t := S8x8x4608x128) (s₁ := S8x8x512x128) 2 ctx new _ (ix4 b h t d) rfl (ix4 b h ⟨t.val, ht⟩ d) fun a => by
      match a with | ⟨0, _⟩ => rfl | ⟨1, _⟩ => rfl | ⟨2, _⟩ => rfl | ⟨3, _⟩ => rfl
  · next ht =>
    refine concatenate_pair_apply_right (t := S8x8x4608x128) (s₁ := S8x8x512x128) (s₂ := S8x8x4096x128) 2 ctx new _ (ix4 b h t d) rfl rfl
      (ix4 b h ⟨t.val - 512, by omega⟩ d) ?_ ?_
    · intro a ha
      match a with
      | ⟨0, _⟩ => rfl
      | ⟨1, _⟩ => rfl
      | ⟨2, _⟩ => exact absurd rfl ha
      | ⟨3, _⟩ => rfl
    · show t.val - 512 + 512 = t.val
      omega

/-- A row of finite arrays is finite. -/
theorem rowsOf_real (new : Vec Ideal S8x8x4096x128 .bf16) (ctx : Vec Ideal S8x8x512x128 .bf16) (hn : ∀ i, IsReal (new i))
    (hc : ∀ i, IsReal (ctx i)) (b h : Fin 8) (t : Fin 4608) (d : Fin 128) : IsReal (rowsOf new ctx b h t d) := by
  unfold rowsOf joined
  split
  · exact hc _
  · exact hn _

/-- The queries, with the two maps' lanes apart. -/
theorem q_apply (b h : Fin 8) (n : Fin 4096) (j : Fin 2) (d : Fin 64) :
    val_main_v1 (F := Ideal) x0 (ix5 b h n j d) = x0 (ix4 b h n (lane j d)) := by
  rw [val_main_v1_apply, val_main_v0_apply]
  refine congrArg x0 (ext4 ?_ ?_ ?_ ?_)
  · show ((((b.val * 8 + h.val) * 4096 + n.val) * 2 + j.val) * 64 + d.val) / 4194304 = b.val; omega
  · show ((((b.val * 8 + h.val) * 4096 + n.val) * 2 + j.val) * 64 + d.val) / 524288 % 8 = h.val; omega
  · show ((((b.val * 8 + h.val) * 4096 + n.val) * 2 + j.val) * 64 + d.val) / 128 % 4096 = n.val; omega
  · show ((((b.val * 8 + h.val) * 4096 + n.val) * 2 + j.val) * 64 + d.val) % 128 = 64 * j.val + d.val; omega

/-- The keys, with the two maps' lanes apart. -/
theorem k_apply (b h : Fin 8) (t : Fin 4608) (j : Fin 2) (d : Fin 64) :
    val_main_v4 (F := Ideal) x1 x3 (ix5 b h t j d) = rowsOf x1 x3 b h t (lane j d) := by
  rw [val_main_v4_apply, val_main_v3_apply, ← concat_apply]
  refine congrArg (val_main_v2 (F := Ideal) x1 x3) (ext4 ?_ ?_ ?_ ?_)
  · show ((((b.val * 8 + h.val) * 4608 + t.val) * 2 + j.val) * 64 + d.val) / 4718592 = b.val; omega
  · show ((((b.val * 8 + h.val) * 4608 + t.val) * 2 + j.val) * 64 + d.val) / 589824 % 8 = h.val; omega
  · show ((((b.val * 8 + h.val) * 4608 + t.val) * 2 + j.val) * 64 + d.val) / 128 % 4608 = t.val; omega
  · show ((((b.val * 8 + h.val) * 4608 + t.val) * 2 + j.val) * 64 + d.val) % 128 = 64 * j.val + d.val; omega

variable (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i))

/-- Map `j`'s scores of query `n`. -/
abbrev S (b h : Fin 8) (j : Fin 2) (n : Fin 4096) (t : Fin 4608) : ℝ := score (fun d => x0 (ix4 b h n d)) (rowsOf x1 x3 b h t) j

include h0 h1 h3 in
/-- The product of a query and a key over a map's lanes. -/
theorem product_apply (b h : Fin 8) (j : Fin 2) (n : Fin 4096) (t : Fin 4608) :
    val_main_v23 (F := Ideal) x0 x1 x3 (ix5 b h j n t) = (S x0 x1 x3 b h j n t : EReal) := by
  rw [val_main_v23_apply]
  unfold S score
  rw [Flash.coe_sum]
  refine Finset.sum_congr rfl fun d _ => ?_
  rw [EReal.coe_mul, ← (h0 _).eq, ← (rowsOf_real x1 x3 h1 h3 b h t _).eq, ← q_apply x0, ← k_apply x1 x3]
  exact congrArg₂ (· * ·) (congrArg (val_main_v1 (F := Ideal) x0) (ext5 rfl rfl rfl rfl rfl))
    (congrArg (val_main_v4 (F := Ideal) x1 x3) (ext5 rfl rfl rfl rfl rfl))

/-- The word of two. -/
theorem ofBits_two : Ideal.ofBits .f32 0x40000000#32 = ((2 : ℝ) : EReal) := by
  simp [Ideal.ofBits, Ideal.ieee, -EReal.coe_mul]; norm_num

include h0 h1 h3 in
/-- The scores to base `e`. -/
theorem scaled_apply (b h : Fin 8) (j : Fin 2) (n : Fin 4096) (t : Fin 4608) :
    val_main_v26 (F := Ideal) x0 x1 x3 (ix5 b h j n t) = ((S x0 x1 x3 b h j n t * Real.log 2 : ℝ) : EReal) := by
  rw [val_main_v26_apply, product_apply x0 x1 x3 h0 h1 h3, val_main_v25_apply, val_main_v24_apply, val_main_cst_2_apply]
  show _ * Ideal.log (Ideal.ofBits .f32 0x40000000#32) = _
  rw [ofBits_two, Ideal.log_coe, if_neg (by norm_num), ← EReal.coe_mul]

include h0 h1 h3 in
/-- The row's greatest score is a real number. -/
theorem max_real (b h : Fin 8) (j : Fin 2) (n : Fin 4096) :
    ∃ M : ℝ, val_main_v29 (F := Ideal) x0 x1 x3 (ix4 b h j n) = M := by
  rw [val_main_v29_apply, val_main_v28_apply, val_main_cst_4_apply]
  obtain ⟨M, hM⟩ := Flash.fold_max_real (Finset.univ : Finset (Fin 4608)) ⟨⟨0, by omega⟩, Finset.mem_univ _⟩
    (fun t => val_main_v26 (F := Ideal) x0 x1 x3 (ix5 b h j n t)) fun t => ⟨_, scaled_apply x0 x1 x3 h0 h1 h3 b h j n t⟩
  refine ⟨M, ?_⟩
  have hr : S8x8x2x4096x4608.Reduces [4] S8x8x2x4096 := by decide
  have e : val_main_v27 (F := Ideal) x0 x1 x3 (ix4 b h j n) = (M : EReal) := by
    unfold val_main_v27
    rw [Host.reduce_eq_fold_single _ _ _ _ hr]
    refine Eq.trans ?_ hM
    rw [← Flash.ofBits_negInf]
    refine congrArg (Finset.fold max _ · _) (funext fun t => ?_)
    exact congrArg (val_main_v26 (F := Ideal) x0 x1 x3) (ext5 rfl rfl rfl rfl rfl)
  rw [e]
  show max (Ideal.ofBits .f32 0xFF800000#32) (M : EReal) = M
  rw [Flash.ofBits_negInf]
  exact max_eq_right bot_le

include h0 h1 h3 in
/-- **The softmax** is the share of the weight to base two. -/
theorem softmax_apply (b h : Fin 8) (j : Fin 2) (n : Fin 4096) (t : Fin 4608) :
    val_main_v37 (F := Ideal) x0 x1 x3 (ix5 b h j n t) = (weight (S x0 x1 x3 b h j n) t : EReal) := by
  obtain ⟨M, hM⟩ := max_real x0 x1 x3 h0 h1 h3 b h j n
  have e : ∀ t : Fin 4608, val_main_v33 (F := Ideal) x0 x1 x3 (ix5 b h j n t)
      = (Real.exp (S x0 x1 x3 b h j n t * Real.log 2 - M) : EReal) := fun t => by
    rw [val_main_v33_apply, val_main_v32_apply, scaled_apply x0 x1 x3 h0 h1 h3, val_main_v31_apply, val_main_v30_apply]
    rw [show idx_main_v30 (idx_main_v31 (ix5 b h j n t)) = ix4 b h j n from ext4 rfl rfl rfl rfl, hM]
    exact (congrArg Ideal.exp (EReal.coe_sub _ M).symm).trans (Ideal.exp_coe _)
  have s : val_main_v36 (F := Ideal) x0 x1 x3 (ix5 b h j n t)
      = ((∑ u, Real.exp (S x0 x1 x3 b h j n u * Real.log 2 - M) : ℝ) : EReal) := by
    rw [val_main_v36_apply, val_main_v35_apply,
      show idx_main_v35 (idx_main_v36 (ix5 b h j n t)) = ix4 b h j n from ext4 rfl rfl rfl rfl, val_main_v34_apply]
    rw [val_main_cst_5_apply, Flash.coe_sum]
    show Ideal.ofBits .f32 _ + _ = _
    rw [Ideal.ofBits_zero, zero_add]
    refine Finset.sum_congr rfl fun u _ => ?_
    rw [← e]
    exact congrArg (val_main_v33 (F := Ideal) x0 x1 x3) (ext5 rfl rfl rfl rfl rfl)
  rw [val_main_v37_apply, e, s, ← softmax_eq _ M]
  show Ideal.div _ _ = _
  rw [Ideal.div_coe (Finset.sum_pos (fun u _ => Real.exp_pos _) ⟨t, Finset.mem_univ _⟩).ne', ← EReal.coe_mul, mul_one_div]

include h5 in
/-- Lambda. -/
theorem lambda_apply (i : S_.Idx) : val_main_v22 (F := Ideal) x5 i = (lambda fun a d => x5 (ix2 a d) : EReal) := by
  rw [← lambda_eq _ fun a d => h5 _]
  have s : ∀ f : S64.Idx → EReal, ∑ j, f j = ∑ d : Fin 64, f (ix1 d) := fun f =>
    (Fintype.sum_equiv ⟨fun d : Fin 64 => (ix1 d : S64.Idx), fun i => i 0, fun d => rfl,
      fun i => funext fun a => match a with | ⟨0, _⟩ => rfl⟩ _ _ fun d => rfl).symm
  rw [val_main_v22_apply, val_main_v21_apply, val_main_v13_apply, val_main_v20_apply, val_main_v12_apply, val_main_v19_apply, s, s,
    val_main_cst_apply, val_main_cst_0_apply, val_main_cst_1_apply]
  show Ideal.exp (Ideal.ofBits .f32 _ + _) - Ideal.exp (Ideal.ofBits .f32 _ + _) + Ideal.ofBits .f32 _ = _
  rw [Ideal.ofBits_zero, zero_add, zero_add]
  have r : ∀ d : Fin 64, val_main_v11 (F := Ideal) x5 (ix1 d) = (x5 (ix2 0 d) : EReal) * x5 (ix2 1 d) := fun d => by
    rw [val_main_v11_apply, val_main_v8_apply, val_main_v7_apply, val_main_v10_apply, val_main_v9_apply]
    refine congrArg₂ (fun x y : EReal => x * y) (congrArg x5 (funext fun a => Fin.ext ?_)) (congrArg x5 (funext fun a => Fin.ext ?_)) <;>
    match a with
    | ⟨0, _⟩ => rfl
    | ⟨1, _⟩ => exact Nat.mod_eq_of_lt d.isLt
  have r' : ∀ d : Fin 64, val_main_v18 (F := Ideal) x5 (ix1 d) = (x5 (ix2 2 d) : EReal) * x5 (ix2 3 d) := fun d => by
    rw [val_main_v18_apply, val_main_v15_apply, val_main_v14_apply, val_main_v17_apply, val_main_v16_apply]
    refine congrArg₂ (fun x y : EReal => x * y) (congrArg x5 (funext fun a => Fin.ext ?_)) (congrArg x5 (funext fun a => Fin.ext ?_)) <;>
    match a with
    | ⟨0, _⟩ => rfl
    | ⟨1, _⟩ => exact Nat.mod_eq_of_lt d.isLt
  simp only [r, r']

include h0 h1 h3 h5 in
/-- The first map's softmax less lambda times the second's. -/
theorem difference_apply (b h : Fin 8) (n : Fin 4096) (t : Fin 4608) :
    val_main_v44 (F := Ideal) x0 x1 x3 x5 (ix4 b h n t)
      = ((weight (S x0 x1 x3 b h 0 n) t - (lambda fun a d => x5 (ix2 a d)) * weight (S x0 x1 x3 b h 1 n) t : ℝ) : EReal) := by
  rw [val_main_v44_apply, val_main_v43_apply, val_main_v42_apply, lambda_apply x5 h5, val_main_v39_apply, val_main_v38_apply,
    val_main_v41_apply, val_main_v40_apply]
  rw [show idx_main_v38 (idx_main_v39 (ix4 b h n t)) = ix5 b h 0 n t from ext5
      (by show (((b.val * 8 + h.val) * 4096 + n.val) * 4608 + t.val) / 150994944 = b.val; omega)
      (by show (((b.val * 8 + h.val) * 4096 + n.val) * 4608 + t.val) / 18874368 % 8 = h.val; omega) rfl
      (by show (((b.val * 8 + h.val) * 4096 + n.val) * 4608 + t.val) / 4608 % 4096 = n.val; omega)
      (by show (((b.val * 8 + h.val) * 4096 + n.val) * 4608 + t.val) % 4608 = t.val; omega),
    show idx_main_v40 (idx_main_v41 (ix4 b h n t)) = ix5 b h 1 n t from ext5
      (by show (((b.val * 8 + h.val) * 4096 + n.val) * 4608 + t.val) / 150994944 = b.val; omega)
      (by show (((b.val * 8 + h.val) * 4096 + n.val) * 4608 + t.val) / 18874368 % 8 = h.val; omega) rfl
      (by show (((b.val * 8 + h.val) * 4096 + n.val) * 4608 + t.val) / 4608 % 4096 = n.val; omega)
      (by show (((b.val * 8 + h.val) * 4096 + n.val) * 4608 + t.val) % 4608 = t.val; omega),
    softmax_apply x0 x1 x3 h0 h1 h3, softmax_apply x0 x1 x3 h0 h1 h3]
  show (_ : EReal) - _ * _ = _
  rw [← EReal.coe_mul, ← EReal.coe_sub]

/-- A row's mixed attention. -/
abbrev mixedAt (b : Fin 8) (n : Fin 4096) (h : Fin 8) (e : Fin 128) : ℝ :=
  mixed (lambda fun a d => x5 (ix2 a d)) (fun d => x0 (ix4 b h n d)) (rowsOf x1 x3 b h) (rowsOf x2 x4 b h) e

include h0 h1 h2 h3 h4 h5 in
/-- The product with the values is the difference of the two attentions. -/
theorem mixed_apply (b : Fin 8) (n : Fin 4096) (h : Fin 8) (e : Fin 128) :
    val_main_v46 (F := Ideal) x0 x1 x2 x3 x4 x5 (ix4 b n h e) = (mixedAt x0 x1 x2 x3 x4 x5 b n h e : EReal) := by
  rw [val_main_v46_apply, show idx_main_v46 (ix4 b n h e) = ix4 b h e n from ext4 rfl rfl rfl rfl, val_main_v45_apply]
  unfold mixedAt mixed
  rw [← sum_weight, ← sum_weight, Finset.mul_sum, ← Finset.sum_sub_distrib, Flash.coe_sum]
  refine Finset.sum_congr rfl fun t _ => ?_
  rw [show lidx_main_v45 (ix4 b h e n) t = ix4 b h t e from ext4 rfl rfl rfl rfl,
    show ridx_main_v45 (ix4 b h e n) t = ix4 b h n t from ext4 rfl rfl rfl rfl,
    difference_apply x0 x1 x3 x5 h0 h1 h3 h5, val_main_v6_apply]
  have hv := concat_apply x2 x4 b h t e
  refine Eq.trans (congrArg (fun x : EReal => x * _) (hv.trans (rowsOf_real x2 x4 h2 h4 b h t e).eq)) ?_
  rw [← EReal.coe_mul]
  congr 1
  ring

include h0 h1 h2 h3 h4 h5 in
/-- The row divided by its root mean square. -/
theorem normed_apply (b : Fin 8) (n : Fin 4096) (h : Fin 8) (e : Fin 128) :
    val_main_v62 (F := Ideal) x0 x1 x2 x3 x4 x5 x6 (ix4 b n h e)
      = normedRow (fun c => (mixedAt x0 x1 x2 x3 x4 x5 b n h c : EReal)) (fun c => x6 (ix2 0 c)) e := by
  have o := mixed_apply x0 x1 x2 x3 x4 x5 h0 h1 h2 h3 h4 h5 b n h
  have s : val_main_v49 (F := Ideal) x0 x1 x2 x3 x4 x5 (idx_main_v50 (idx_main_v56 (ix4 b n h e)))
      = ∑ c, (mixedAt x0 x1 x2 x3 x4 x5 b n h c : EReal) * (mixedAt x0 x1 x2 x3 x4 x5 b n h c : EReal) := by
    rw [val_main_v49_apply, val_main_cst_6_apply]
    show Ideal.ofBits .f32 _ + _ = _
    rw [Ideal.ofBits_zero, zero_add]
    refine Finset.sum_congr rfl fun c _ => ?_
    rw [show idx_main_v49 (idx_main_v50 (idx_main_v56 (ix4 b n h e))) c = ix4 b n h c from ext4 rfl rfl rfl rfl, val_main_v48_apply, o]
    rfl
  rw [val_main_v62_apply, val_main_v60_apply, val_main_v57_apply, o, val_main_v56_apply, val_main_v55_apply, val_main_v54_apply,
    val_main_v52_apply, val_main_v50_apply, s, val_main_v51_apply, val_main_v53_apply, val_main_v59_apply, val_main_v58_apply,
    val_main_v47_apply, val_main_v61_apply, val_main_cst_7_apply, val_main_cst_8_apply, val_main_cst_9_apply]
  refine congrArg (fun x : EReal => _ * x * _) (congrArg x6 (funext fun a => Fin.ext ?_))
  match a with
  | ⟨0, _⟩ => rfl
  | ⟨1, _⟩ => exact Nat.mod_eq_of_lt e.isLt

include h0 h1 h2 h3 h4 h5 in
/-- **The reference's result** is the differential attention of its arguments. -/
theorem value (i : S8x4096x1024.Idx) :
    val_main_v64 (F := Ideal) x0 x1 x2 x3 x4 x5 x6 i
      = result (fun b h n d => x0 (ix4 b h n d)) (fun b h n d => x1 (ix4 b h n d)) (fun b h n d => x2 (ix4 b h n d))
          (fun b h n d => x3 (ix4 b h n d)) (fun b h n d => x4 (ix4 b h n d)) (fun a d => x5 (ix2 a d)) (fun d => x6 (ix2 0 d)) (i 0) (i 1)
          ⟨(i 2).val / 128, by have h : (i 2).val < 1024 := (i 2).isLt; omega⟩ ⟨(i 2).val % 128, Nat.mod_lt _ (by norm_num)⟩ := by
  rw [val_main_v64_apply, val_main_v63_apply]
  have b0 : (i 0).val < 8 := (i 0).isLt
  have b1 : (i 1).val < 4096 := (i 1).isLt
  have b2 : (i 2).val < 1024 := (i 2).isLt
  rw [show idx_main_v63 i = ix4 (i 0) (i 1) ⟨(i 2).val / 128, by omega⟩ ⟨(i 2).val % 128, Nat.mod_lt _ (by norm_num)⟩ from ext4
      (by show (((i 0).val * 4096 + (i 1).val) * 1024 + (i 2).val) / 4194304 = (i 0).val; omega)
      (by show (((i 0).val * 4096 + (i 1).val) * 1024 + (i 2).val) / 1024 % 4096 = (i 1).val; omega)
      (by show (((i 0).val * 4096 + (i 1).val) * 1024 + (i 2).val) / 128 % 8 = (i 2).val / 128; omega)
      (by show (((i 0).val * 4096 + (i 1).val) * 1024 + (i 2).val) % 128 = (i 2).val % 128; omega)]
  exact normed_apply x0 x1 x2 x3 x4 x5 x6 h0 h1 h2 h3 h4 h5 _ _ _ _

end Cert.ReferenceIdeal.Attention

end
-- ==== Proof.DiffClaims.lean ====
/-
  The claims about the differential attention: its frames, and that the kernel's result is the reference's.
-/
module

public import proofs.«01_k».proof.Defs
public import proofs.«01_k».proof.Proof.KernelArray
public import proofs.«01_k».proof.Proof.RefValue
public import proofs.«01_k».proof.Proof.Gen.Kernel.Frame
public import proofs.«01_k».proof.Proof.Gen.KernelIdeal.Frame
public import proofs.«01_k».proof.Proof.Gen.Pre_finite

@[expose] public section

set_option maxRecDepth 16384

noncomputable section

namespace Cert.DiffClaims

open Idealize.ShloMosaic Idealize.SL.Sem Softmax

/-- The precondition, entry by entry. -/
theorem finite_of_pre {m : (ℓ : Loc Cert.KernelIdeal.nD Cert.KernelIdeal.τ Cert.KernelIdeal.sig) → Buf (Elt Ideal) ℓ}
    (h : Cert.Pre_KernelIdeal_finite m) (c : Dev Cert.KernelIdeal.nD) : Cert.KernelIdeal.Array.Finite m c := by
  obtain ⟨h0, h1, h2, h3, h4, h5⟩ := h c
  exact ⟨fun i => isReal_of_cmp _ (congrFun h0 i), fun i => isReal_of_cmp _ (congrFun h1 i), fun i => isReal_of_cmp _ (congrFun h2 i),
    fun i => isReal_of_cmp _ (congrFun h3 i), fun i => isReal_of_cmp _ (congrFun h4 i), fun i => isReal_of_cmp _ (congrFun h5 i)⟩

/-- The kernel's frame, on machine words. -/
theorem frame_kernel : Cert.quiescent_Kernel := fun m ρ _ => Cert.Kernel.Gen.frame m ρ

/-- The kernel's frame, on extended reals. -/
theorem frame_kernelIdeal : Cert.quiescent_KernelIdeal := fun m ρ _ => Cert.KernelIdeal.Gen.frame m ρ

/-- The reference's frame: it keeps its arguments and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **The kernel's result is the reference's**, for finite queries, keys, values and lambda parameters. -/
theorem algebraic : Cert.algebraic_KernelIdeal_ReferenceIdeal_pre_finite := by
  intro m g m' g' hpre hagree
  refine ⟨fun c => Cert.KernelIdeal.Array.res m c, ?_, ?_⟩
  · exact (θ_run Cert.KernelIdeal.defs _ _).mono
      (fun r h c => ⟨(h c).1.trans (Cert.KernelIdeal.Array.final m c (finite_of_pre hpre c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6⟩ := hagree c
    obtain ⟨f0, f1, f2, f3, f4, f5⟩ := finite_of_pre hpre c
    rw [Cert.ReferenceIdeal.Read.val_main_v64_eq, e0, e1, e2, e3, e4, e5, e6]
    exact funext fun i => Cert.ReferenceIdeal.Attention.value _ _ _ _ _ _ _ f0 f1 f2 f3 f4 f5 i

end Cert.DiffClaims

end
-- ==== Proof.TailSpec.lean ====
/-
  What one row of the end of a layer is: the mixer's output normed, gated and added to the stream, then the gated network
  of 2816 hidden lanes between its two norms.
-/
module

public import Idealize.ShloMosaic.PureOps
public import Idealize.ShloMosaic.PureOps.Ideal

@[expose] public section

noncomputable section

namespace TailSpec

open Idealize.ShloMosaic

/-- The word of one. -/
abbrev one : EReal := Ideal.ofBits .f32 0x3F800000#32

/-- A row divided by its root mean square, times the gain. -/
def rms (o g : Fin 1024 → EReal) (d : Fin 1024) : EReal :=
  o d * Ideal.rsqrt (Ideal.div (∑ c, o c * o c) (Ideal.ofBits .f32 0x44800000#32) + Ideal.ofBits .f32 0x358637BD#32) * g d

/-- A number times its logistic. -/
def silu (x : EReal) : EReal := x * Ideal.div one (one + Ideal.exp (-x))

/-- A row times a matrix. -/
def rowMul {K N : ℕ} (v : Fin K → EReal) (w : Fin K → Fin N → EReal) (j : Fin N) : EReal := ∑ k, v k * w k j

/-- Lane `d` of the modulation's part `p`; a layer has six parts of 1024 lanes. -/
abbrev part (p : Fin 6) (d : Fin 1024) : Fin 6144 := ⟨1024 * p.val + d.val, by omega⟩

/-- A hidden lane's gate and its up column among the 5632 columns. -/
abbrev gateCol (j : Fin 2816) : Fin 5632 := ⟨j.val, by omega⟩
abbrev upCol (j : Fin 2816) : Fin 5632 := ⟨2816 + j.val, by omega⟩

/-- The network's hidden lane `j`. -/
def act (h : Fin 1024 → EReal) (win : Fin 1024 → Fin 5632 → EReal) (j : Fin 2816) : EReal :=
  silu (rowMul h win (gateCol j)) * rowMul h win (upCol j)

/-- The stream after the mixer's output is added. -/
def mid (out x : Fin 1024 → EReal) (mod : Fin 6144 → EReal) (g : Fin 4 → Fin 1024 → EReal) (d : Fin 1024) : EReal :=
  x d + mod (part 2 d) * rms out (g 1) d

/-- The network's input from the stream. -/
def hid (x1 : Fin 1024 → EReal) (mod : Fin 6144 → EReal) (g : Fin 4 → Fin 1024 → EReal) (d : Fin 1024) : EReal :=
  rms x1 (g 2) d * (one + mod (part 4 d)) + mod (part 3 d)

/-- **A row at the layer's end**, from the mixer's output, the stream, the modulation, the norms' gains and the weights. -/
def tail (out x : Fin 1024 → EReal) (mod : Fin 6144 → EReal) (g : Fin 4 → Fin 1024 → EReal) (win : Fin 1024 → Fin 5632 → EReal)
    (wo : Fin 2816 → Fin 1024 → EReal) (d : Fin 1024) : EReal :=
  mid out x mod g d
    + mod (part 5 d) * rms (rowMul (act (hid (mid out x mod g) mod g) win) wo) (g 3) d

end TailSpec

end
-- ==== Proof.TailBlock.lean ====
/-
  The end of a layer as the kernel body computes it on a block of 512 rows, at any float instance: the network's hidden
  lanes come in eleven groups of 256, whose products with the output weights are added up.
-/
module

public import proofs.«01_k».proof.Proof.Flash
public import proofs.«01_k».proof.Proof.TailSpec

@[expose] public section

set_option maxRecDepth 16384

noncomputable section

namespace Tail

open Idealize.ShloMosaic Flash

/-- The shape relations of the operations. -/
structure Fits : Prop where
  bits : FTy.bits .bf16 < FTy.bits .f32
  same : (Mat 512 1024).ShapeCasts (Mat 512 1024)
  gain : (Mat 1 1024).ShapeCasts (Mat 1 1024)
  mods : (⟨3, ![1, 1, 6144]⟩ : Shape).ShapeCasts (Mat 1 6144)
  red : (Mat 512 1024).Reduces [1] ⟨1, ![512]⟩
  col : (⟨1, ![512]⟩ : Shape).ShapeCasts (Mat 512 1)
  bcCol : (Mat 512 1).Broadcasts (Mat 512 1024)
  bcRow : (Mat 1 1024).Broadcasts (Mat 512 1024)
  win : (Mat 1024 256).ShapeCasts (Mat 1024 256)
  wout : (Mat 256 1024).ShapeCasts (Mat 256 1024)
  gate1 : (Mat 1 6144).Slices ![0, 2048] (Mat 1 1024)
  shift2 : (Mat 1 6144).Slices ![0, 3072] (Mat 1 1024)
  scale2 : (Mat 1 6144).Slices ![0, 4096] (Mat 1 1024)
  gate2 : (Mat 1 6144).Slices ![0, 5120] (Mat 1 1024)

variable {F : FTy → Type} [FloatOps F]

/-- The row-wise root-mean-square norm with its gain. -/
def norm (h : Fits) (o : FVec F (Mat 512 1024) .f32) (g : FVec F (Mat 1 1024) .f32) : FVec F (Mat 512 1024) .f32 :=
  mulf (mulf o (broadcastTo (Mat 512 1024) (rsqrt (addf (divf
    (shapeCast (Mat 512 1) (multiReduction .add [1] ⟨1, ![512]⟩ (mulf o o) 0x00000000#32 h.red (.inl rfl) rfl) h.col)
    (broadcast (Mat 512 1) (Scalar.ofBits .f32 0x44800000#32 : F .f32)))
    (broadcast (Mat 512 1) (Scalar.ofBits .f32 0x358637BD#32 : F .f32)))) h.bcCol))
    (broadcastTo (Mat 512 1024) g h.bcRow)

/-- A stream plus a gate times a normed output. -/
def gated (h : Fits) (x : FVec F (Mat 512 1024) .f32) (gate : FVec F (Mat 1 1024) .f32) (o : FVec F (Mat 512 1024) .f32) :
    FVec F (Mat 512 1024) .f32 :=
  addf x (mulf (broadcastTo (Mat 512 1024) gate h.bcRow) o)

/-- Row `k` of the norms' gains lies inside them. -/
theorem inb_gain (k : Fin 4) (a : Fin 2) : (![k.val, 0] : Fin 2 → ℕ) a + (Mat 1 1024).size a ≤ (Mat 4 1024).size a := by
  match a with
  | ⟨0, _⟩ => show k.val + 1 ≤ 4; omega
  | ⟨1, _⟩ => show 0 + 1024 ≤ 1024; omega

/-- The gain of norm `k`. -/
def gainOf (h : Fits) (g : Vec F (Mat 4 1024) .f32) (k : Fin 4) : FVec F (Mat 1 1024) .f32 :=
  shapeCast (Mat 1 1024) (View.ld g (Rect.unit (s := Mat 4 1024) ![k.val, 0] (Mat 1 1024).size (inb_gain k))) h.gain

/-- Columns `c + 256 (n % 11)` and on of the input weights lie inside them. -/
theorem inb_win (c : ℕ) (hc : c ≤ 2816) (n : ℕ) (a : Fin 2) :
    (![0, c + 256 * (n % 11)] : Fin 2 → ℕ) a + (Mat 1024 256).size a ≤ (Mat 1024 5632).size a := by
  have h := Nat.mod_lt n (show 0 < 11 by decide)
  match a with
  | ⟨0, _⟩ => show 0 + 1024 ≤ 1024; omega
  | ⟨1, _⟩ => show c + 256 * (n % 11) + 256 ≤ 5632; omega

/-- Rows `256 (n % 11)` and on of the output weights lie inside them. -/
theorem inb_wout (n : ℕ) (a : Fin 2) :
    (![256 * (n % 11), 0] : Fin 2 → ℕ) a + (Mat 256 1024).size a ≤ (Mat 2816 1024).size a := by
  have h := Nat.mod_lt n (show 0 < 11 by decide)
  match a with
  | ⟨0, _⟩ => show 256 * (n % 11) + 256 ≤ 2816; omega
  | ⟨1, _⟩ => show 0 + 1024 ≤ 1024; omega

/-- The product of the network's input with the 256 columns from `c + 256 n`. -/
def pre (h : Fits) (x : FVec F (Mat 512 1024) .bf16) (w : Vec F (Mat 1024 5632) .bf16) (c : ℕ) (hc : c ≤ 2816) (n : ℕ) :
    FVec F (Mat 512 256) .f32 :=
  matmul (DotDims.plain 512 1024 256) none x (shapeCast (Mat 1024 256)
    (View.ld w (Rect.unit (s := Mat 1024 5632) ![0, c + 256 * (n % 11)] (Mat 1024 256).size (inb_win c hc n))) h.win)
    (constant (Mat 512 256) .f32 0x00000000#32)

/-- A group's hidden lanes: the gate's columns times their logistic, times the up columns. -/
def lanes (h : Fits) (a b : FVec F (Mat 512 256) .f32) : FVec F (Mat 512 256) .bf16 :=
  truncf .bf16 (mulf (mulf a (divf (broadcast (Mat 512 256) (Scalar.ofBits .f32 0x3F800000#32 : F .f32))
    (addf (broadcast (Mat 512 256) (Scalar.ofBits .f32 0x3F800000#32 : F .f32))
      (exp (subf (broadcast (Mat 512 256) (Scalar.ofBits .f32 0x00000000#32 : F .f32)) a))))) b) h.bits

/-- Group `n` of hidden lanes times its rows of the output weights. -/
def group (h : Fits) (x : FVec F (Mat 512 1024) .bf16) (win : Vec F (Mat 1024 5632) .bf16) (wo : Vec F (Mat 2816 1024) .bf16) (n : ℕ) :
    FVec F (Mat 512 1024) .f32 :=
  matmul (DotDims.plain 512 256 1024) none (lanes h (pre h x win 0 (by decide) n) (pre h x win 2816 (by decide) n))
    (shapeCast (Mat 256 1024) (View.ld wo (Rect.unit (s := Mat 2816 1024) ![256 * (n % 11), 0] (Mat 256 1024).size (inb_wout n))) h.wout)
    (constant (Mat 512 1024) .f32 0x00000000#32)

/-- The groups `0 … n` added up. -/
def groups (h : Fits) (x : FVec F (Mat 512 1024) .bf16) (win : Vec F (Mat 1024 5632) .bf16) (wo : Vec F (Mat 2816 1024) .bf16) :
    ℕ → FVec F (Mat 512 1024) .f32
  | 0 => group h x win wo 0
  | n + 1 => addf (groups h x win wo n) (group h x win wo (n + 1))

/-- The stream after the mixer's output is added. -/
def mid (h : Fits) (out x : FVec F (Mat 512 1024) .f32) (mod : FVec F (Mat 1 6144) .f32) (g : Vec F (Mat 4 1024) .f32) :
    FVec F (Mat 512 1024) .f32 :=
  gated h x (extractStridedSlice (Mat 1 1024) ![0, 2048] mod h.gate1) (norm h out (gainOf h g 1))

/-- The network's input. -/
def hid (h : Fits) (x1 : FVec F (Mat 512 1024) .f32) (mod : FVec F (Mat 1 6144) .f32) (g : Vec F (Mat 4 1024) .f32) :
    FVec F (Mat 512 1024) .bf16 :=
  truncf .bf16 (addf (mulf (norm h x1 (gainOf h g 2))
    (broadcastTo (Mat 512 1024) (addf (broadcast (Mat 1 1024) (Scalar.ofBits .f32 0x3F800000#32 : F .f32))
      (extractStridedSlice (Mat 1 1024) ![0, 4096] mod h.scale2)) h.bcRow))
    (broadcastTo (Mat 512 1024) (extractStridedSlice (Mat 1 1024) ![0, 3072] mod h.shift2) h.bcRow)) h.bits

/-- The block at the layer's end, from the mixer's output and the stream. -/
def tail (h : Fits) (out x : FVec F (Mat 512 1024) .f32) (mod : FVec F (Mat 1 6144) .f32) (g : Vec F (Mat 4 1024) .f32)
    (win : Vec F (Mat 1024 5632) .bf16) (wo : Vec F (Mat 2816 1024) .bf16) : FVec F (Mat 512 1024) .f32 :=
  gated h (mid h out x mod g) (extractStridedSlice (Mat 1 1024) ![0, 5120] mod h.gate2)
    (norm h (groups h (hid h (mid h out x mod g) mod g) win wo 10) (gainOf h g 3))

end Tail

end
-- ==== Proof.TailValue.lean ====
/-
  The block at a layer's end, entry by entry, at ideal arithmetic: every row is the row of the specification, the
  eleven groups of hidden lanes adding up to one sum over all 2816.
-/
module

public import proofs.«01_k».proof.Proof.TailBlock

@[expose] public section

set_option maxRecDepth 16384

noncomputable section

namespace Tail

open Idealize.ShloMosaic Flash

variable (h : Fits)

/-- The norm at an entry. -/
theorem norm_apply (o : FVec Ideal (Mat 512 1024) .f32) (g : FVec Ideal (Mat 1 1024) .f32) (r : Fin 512) (d : Fin 1024) :
    norm h o g (ix2 r d) = TailSpec.rms (fun c => o (ix2 r c)) (fun c => g (ix2 0 c)) d := by
  have hred := h.red
  have hcol := h.col
  have hbc := h.bcCol
  have hbr := h.bcRow
  pointwise [norm, TailSpec.rms]

/-- The gated sum at an entry. -/
theorem gated_apply (x o : FVec Ideal (Mat 512 1024) .f32) (gate : FVec Ideal (Mat 1 1024) .f32) (r : Fin 512) (d : Fin 1024) :
    gated h x gate o (ix2 r d) = x (ix2 r d) + gate (ix2 0 d) * o (ix2 r d) := by
  pointwise [gated]

/-- A gain's entry. -/
theorem gainOf_apply (g : Vec Ideal (Mat 4 1024) .f32) (k : Fin 4) (d : Fin 1024) : gainOf h g k (ix2 0 d) = g (ix2 k d) := by
  unfold gainOf
  rw [shapeCast_apply _ h.gain (ix2 0 d) (ix2 0 d) rfl]
  refine congrArg g (funext fun a => Fin.ext ?_)
  match a with
  | ⟨0, _⟩ => show k.val + 1 * 0 = k.val; omega
  | ⟨1, _⟩ => show 0 + 1 * d.val = d.val; omega

/-- The products before the logistic. -/
theorem pre_apply (x : FVec Ideal (Mat 512 1024) .bf16) (w : Vec Ideal (Mat 1024 5632) .bf16) (c : ℕ) (hc : c ≤ 2816) (n : ℕ) (hn : n < 11)
    (r : Fin 512) (t : Fin 256) :
    pre h x w c hc n (ix2 r t)
      = TailSpec.rowMul (fun k => x (ix2 r k)) (fun k j => w (ix2 k j)) ⟨c + (256 * n + t.val), by omega⟩ := by
  have e := Ideal.matmul_plain_apply none x (shapeCast (Mat 1024 256)
    (View.ld w (Rect.unit (s := Mat 1024 5632) ![0, c + 256 * (n % 11)] (Mat 1024 256).size (inb_win c hc n))) h.win : FVec Ideal (Mat 1024 256) .bf16)
    (constant (Mat 512 256) .f32 0x00000000#32) r t
  simp only [← ix2_eq_valueIdx] at e
  refine e.trans ?_
  rw [show constant (F := Ideal) (Mat 512 256) .f32 0x00000000#32 (ix2 r t) = 0 from by pointwise, zero_add]
  refine Finset.sum_congr rfl fun k _ => ?_
  rw [shapeCast_apply _ h.win (ix2 k t) (ix2 k t) rfl]
  refine congrArg (x (ix2 r k) * ·) (congrArg w (funext fun a => Fin.ext ?_))
  match a with
  | ⟨0, _⟩ => show 0 + 1 * k.val = k.val; omega
  | ⟨1, _⟩ => show c + 256 * (n % 11) + 1 * t.val = c + (256 * n + t.val); rw [Nat.mod_eq_of_lt hn]; omega

/-- A hidden lane of a group. -/
theorem lanes_apply (a b : FVec Ideal (Mat 512 256) .f32) (r : Fin 512) (t : Fin 256) :
    lanes h a b (ix2 r t) = TailSpec.silu (a (ix2 r t)) * b (ix2 r t) := by
  unfold TailSpec.silu
  rw [← zero_sub, ← Ideal.ofBits_zero .f32]
  rfl

/-- A group's part of the sum over hidden lanes. -/
theorem group_apply (x : FVec Ideal (Mat 512 1024) .bf16) (win : Vec Ideal (Mat 1024 5632) .bf16) (wo : Vec Ideal (Mat 2816 1024) .bf16)
    (n : ℕ) (hn : n < 11) (r : Fin 512) (d : Fin 1024) :
    group h x win wo n (ix2 r d) = ∑ t : Fin 256,
      TailSpec.act (fun k => x (ix2 r k)) (fun k j => win (ix2 k j)) ⟨256 * n + t.val, by omega⟩ * wo (ix2 ⟨256 * n + t.val, by omega⟩ d) := by
  have e := Ideal.matmul_plain_apply none (lanes h (pre h x win 0 (by decide) n) (pre h x win 2816 (by decide) n))
    (shapeCast (Mat 256 1024) (View.ld wo (Rect.unit (s := Mat 2816 1024) ![256 * (n % 11), 0] (Mat 256 1024).size (inb_wout n))) h.wout : FVec Ideal (Mat 256 1024) .bf16)
    (constant (Mat 512 1024) .f32 0x00000000#32) r d
  simp only [← ix2_eq_valueIdx] at e
  refine e.trans ?_
  rw [show constant (F := Ideal) (Mat 512 1024) .f32 0x00000000#32 (ix2 r d) = 0 from by pointwise, zero_add]
  refine Finset.sum_congr rfl fun t _ => ?_
  rw [lanes_apply, pre_apply h x win 0 _ n hn, pre_apply h x win 2816 _ n hn, shapeCast_apply _ h.wout (ix2 t d) (ix2 t d) rfl]
  have hw : View.ld wo (Rect.unit (s := Mat 2816 1024) ![256 * (n % 11), 0] (Mat 256 1024).size (inb_wout n)) (ix2 t d)
      = wo (ix2 ⟨256 * n + t.val, by omega⟩ d) := congrArg wo (funext fun a => Fin.ext (by
    match a with
    | ⟨0, _⟩ => show 256 * (n % 11) + 1 * t.val = 256 * n + t.val; rw [Nat.mod_eq_of_lt hn]; omega
    | ⟨1, _⟩ => show 0 + 1 * d.val = d.val; omega))
  rw [hw]
  unfold TailSpec.act
  simp only [Nat.zero_add]

/-- A sum over eleven groups of 256 is the sum over all 2816. -/
theorem sum_groups (f : Fin 2816 → EReal) :
    ∑ n : Fin 11, ∑ t : Fin 256, f ⟨256 * n.val + t.val, by omega⟩ = ∑ j, f j := by
  rw [← Finset.sum_product', Finset.univ_product_univ]
  refine Fintype.sum_equiv (finProdFinEquiv (m := 11) (n := 256)) _ _ fun p => congrArg f (Fin.ext ?_)
  show 256 * p.1.val + p.2.val = p.2.val + 256 * p.1.val
  omega

/-- The groups added up. -/
theorem groups_apply (x : FVec Ideal (Mat 512 1024) .bf16) (win : Vec Ideal (Mat 1024 5632) .bf16) (wo : Vec Ideal (Mat 2816 1024) .bf16)
    (r : Fin 512) (d : Fin 1024) :
    groups h x win wo 10 (ix2 r d)
      = TailSpec.rowMul (TailSpec.act (fun k => x (ix2 r k)) (fun k j => win (ix2 k j))) (fun k j => wo (ix2 k j)) d := by
  have e : ∀ n (hn : n < 11), groups h x win wo n (ix2 r d) = ∑ m ∈ Finset.range (n + 1), group h x win wo m (ix2 r d) := by
    intro n
    induction n with
    | zero => intro _; rw [Finset.sum_range_one]; rfl
    | succ n ih =>
      intro hn
      rw [Finset.sum_range_succ, ← ih (by omega)]
      rfl
  rw [e 10 (by decide), Finset.sum_range]
  unfold TailSpec.rowMul
  rw [← sum_groups]
  exact Finset.sum_congr rfl fun n _ => group_apply h x win wo n.val n.isLt r d

/-- An entry of the modulation's part `p`. -/
theorem part_apply (mod : FVec Ideal (Mat 1 6144) .f32) (p : Fin 6) (off : ℕ) (ho : off = 1024 * p.val)
    (hs : (Mat 1 6144).Slices ![0, off] (Mat 1 1024)) (d : Fin 1024) :
    extractStridedSlice (Mat 1 1024) ![0, off] mod hs (ix2 0 d) = mod (ix2 0 (TailSpec.part p d)) := by
  refine congrArg mod (funext fun a => Fin.ext ?_)
  match a with
  | ⟨0, _⟩ => rfl
  | ⟨1, _⟩ => show off + d.val = 1024 * p.val + d.val; omega

/-- The stream after the mixer's output, at an entry. -/
theorem mid_apply (out x : FVec Ideal (Mat 512 1024) .f32) (mod : FVec Ideal (Mat 1 6144) .f32) (g : Vec Ideal (Mat 4 1024) .f32)
    (r : Fin 512) (d : Fin 1024) :
    mid h out x mod g (ix2 r d) = TailSpec.mid (fun c => out (ix2 r c)) (fun c => x (ix2 r c)) (fun c => mod (ix2 0 c))
      (fun k c => g (ix2 k c)) d := by
  unfold mid TailSpec.mid
  rw [gated_apply, norm_apply, funext fun c => gainOf_apply h g 1 c, part_apply mod 2 2048 rfl]

/-- The network's input, at an entry. -/
theorem hid_apply (x1 : FVec Ideal (Mat 512 1024) .f32) (mod : FVec Ideal (Mat 1 6144) .f32) (g : Vec Ideal (Mat 4 1024) .f32)
    (r : Fin 512) (d : Fin 1024) :
    hid h x1 mod g (ix2 r d) = TailSpec.hid (fun c => x1 (ix2 r c)) (fun c => mod (ix2 0 c)) (fun k c => g (ix2 k c)) d := by
  have e : ∀ v : FVec Ideal (Mat 1 1024) .f32, broadcastTo (Mat 512 1024) v h.bcRow (ix2 r d) = v (ix2 0 d) := fun v => by pointwise
  unfold hid TailSpec.hid
  show norm h x1 (gainOf h g 2) (ix2 r d) * broadcastTo (Mat 512 1024) _ h.bcRow (ix2 r d)
    + broadcastTo (Mat 512 1024) _ h.bcRow (ix2 r d) = _
  rw [norm_apply, funext fun c => gainOf_apply h g 2 c, e, e, part_apply mod 3 3072 rfl]
  show _ * (_ + extractStridedSlice (Mat 1 1024) ![0, 4096] mod h.scale2 (ix2 0 d)) + _ = _
  rw [part_apply mod 4 4096 rfl]
  rfl

/-- **The block at a layer's end**, row by row. -/
theorem tail_apply (out x : FVec Ideal (Mat 512 1024) .f32) (mod : FVec Ideal (Mat 1 6144) .f32) (g : Vec Ideal (Mat 4 1024) .f32)
    (win : Vec Ideal (Mat 1024 5632) .bf16) (wo : Vec Ideal (Mat 2816 1024) .bf16) (r : Fin 512) (d : Fin 1024) :
    tail h out x mod g win wo (ix2 r d) = TailSpec.tail (fun c => out (ix2 r c)) (fun c => x (ix2 r c)) (fun c => mod (ix2 0 c))
      (fun k c => g (ix2 k c)) (fun k j => win (ix2 k j)) (fun k j => wo (ix2 k j)) d := by
  unfold tail TailSpec.tail
  rw [gated_apply, norm_apply, funext fun c => gainOf_apply h g 3 c, funext fun c => groups_apply h _ win wo r c,
    funext fun c => hid_apply h _ mod g r c, funext fun c => mid_apply h out x mod g r c, mid_apply,
    part_apply mod 5 5120 rfl]

end Tail

end
-- ==== Proof.Tail2.lean ====
/-
  The kernel body of the second layer's end is the block `Tail.tail` of the mixer's output times its weights.
-/
module

public import proofs.«01_k».proof.Proof.TailBlock
public import proofs.«01_k».proof.Proof.Gen.Kernel2Ideal.Frame

@[expose] public section

set_option maxRecDepth 16384

noncomputable section

namespace Cert.Kernel2Ideal.Block

open Cert.Kernel2Ideal Cert.Kernel2Ideal.Gen Idealize.ShloMosaic Flash Facts

variable {F : FTy → Type} [FloatOps F]

/-- The shape relations hold. -/
theorem fits : Tail.Fits :=
  ⟨bitsLt_bf16_f32, shapeCasts_S512x1024_S512x1024, shapeCasts_S1x1024_S1x1024, shapeCasts_S1x1x6144_S1x6144, reduces_S512x1024_S512,
    shapeCasts_S512_S512x1, broadcasts_S512x1_S512x1024, broadcasts_S1x1024_S512x1024, shapeCasts_S1024x256_S1024x256,
    shapeCasts_S256x1024_S256x1024, slices_S1x6144_o0_2048_S1x1024, slices_S1x6144_o0_3072_S1x1024, slices_S1x6144_o0_4096_S1x1024,
    slices_S1x6144_o0_5120_S1x1024⟩

/-- The mixer's output times its weights. -/
def mixed (o : Vec F S512x1024 .bf16) (w : Vec F S1024x1024 .bf16) : FVec F S512x1024 .f32 :=
  matmul (DotDims.plain 512 1024 1024) none (shapeCast S512x1024 (View.ld o r0_1) shapeCasts_S512x1024_S512x1024)
    (shapeCast S1024x1024 (View.ld w r0_2) shapeCasts_S1024x1024_S1024x1024) (constant S512x1024 .f32 0x00000000#32)

set_option maxHeartbeats 4000000 in
/-- The body's output block. -/
theorem out_eq (x0 : Vec F S512x1024 .bf16) (x1 : Vec F S1024x1024 .bf16) (x2 : Vec F S512x1024 .f32) (x3 : Vec F S1x1x6144 .f32)
    (x4 : Vec F S4x1024 .f32) (x5 : Vec F S1024x5632 .bf16) (x6 : Vec F S2816x1024 .bf16) :
    out0_7 x0 x1 x2 x3 x4 x5 x6 = View.canon [⟨r0_1, Tail.tail fits (mixed x0 x1)
      (shapeCast S512x1024 (View.ld x2 r0_1) shapeCasts_S512x1024_S512x1024)
      (shapeCast S1x6144 (View.ld x3 r0_0) shapeCasts_S1x1x6144_S1x6144) x4 x5 x6⟩] := rfl

end Cert.Kernel2Ideal.Block

end
-- ==== Proof.Array2.lean ====
/-
  The result array of the second layer's end for the sampled batch, entry by entry.
-/
module

public import proofs.«01_k».proof.Proof.TailValue
public import proofs.«01_k».proof.Proof.Tail2
public import proofs.«01_k».proof.Proof.Gen.Kernel2Ideal.Value

@[expose] public section

set_option maxRecDepth 16384

noncomputable section

namespace Cert.Kernel2Ideal.Array

open Cert.Kernel2Ideal Cert.Kernel2Ideal.Gen Idealize.ShloMosaic Idealize.ShloMosaic.TcCoe Idealize.SL.Sem Facts
open Idealize.ShloMosaic.Pipeline (Dat)

variable (m : (ℓ : Loc nD τ sig) → Buf (Elt Ideal) ℓ) (ρ : Dev nD → PrngReg) (c : Dev nD)

/-! ## The arguments as functions of their coordinates -/

abbrev O (b : Fin 8) (n : Fin 4096) (k : Fin 1024) : EReal := m ((c : Thread nD τ).loc main_arg0) (ix3 b n k)
abbrev X (b : Fin 8) (n : Fin 4096) (k : Fin 1024) : EReal := m ((c : Thread nD τ).loc main_arg1) (ix3 b n k)
abbrev Md (l : Fin 2) (r : Fin 16) (k : Fin 6144) : EReal := m ((c : Thread nD τ).loc main_arg2) (ix3 l r k)
abbrev G (l : Fin 2) (j : Fin 4) (k : Fin 1024) : EReal := m ((c : Thread nD τ).loc main_arg3) (ix3 l j k)
abbrev Wm (k j : Fin 1024) : EReal := m ((c : Thread nD τ).loc main_arg4) (ix3 0 k j)
abbrev Wi (l : Fin 2) (k : Fin 1024) (j : Fin 5632) : EReal := m ((c : Thread nD τ).loc main_arg5) (ix3 l k j)
abbrev Wo (l : Fin 2) (k : Fin 2816) (j : Fin 1024) : EReal := m ((c : Thread nD τ).loc main_arg6) (ix3 l k j)

/-- The request of a row of all requests' rows, and its place in it. -/
abbrev req (R : Fin 32768) : Fin 8 := ⟨R.val / 4096, by omega⟩
abbrev tok (R : Fin 32768) : Fin 4096 := ⟨R.val % 4096, Nat.mod_lt _ (by norm_num)⟩

/-! ## What the host operations before the call leave -/

theorem host_o (R : Fin 32768) (k : Fin 1024) : (V m c main_v0 : Vec Ideal S32768x1024 .bf16) (ix2 R k) = O m c (req R) (tok R) k := by
  have e : (V m c main_v0 : Vec Ideal S32768x1024 .bf16)
      = shapeCast S32768x1024 (m ((c : Thread nD τ).loc main_arg0)) shapeCasts_S8x4096x1024_S32768x1024 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 1024 + k.val = R.val * 1024 + k.val
    omega)]

theorem host_x (R : Fin 32768) (k : Fin 1024) : (V m c main_v6 : Vec Ideal S32768x1024 .f32) (ix2 R k) = X m c (req R) (tok R) k := by
  have e : (V m c main_v6 : Vec Ideal S32768x1024 .f32)
      = shapeCast S32768x1024 (m ((c : Thread nD τ).loc main_arg1)) shapeCasts_S8x4096x1024_S32768x1024 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 1024 + k.val = R.val * 1024 + k.val
    omega)]

theorem host_mod (l : Fin 2) (r : Fin 16) (k : Fin 6144) :
    (V m c main_v5 : Vec Ideal S32x1x6144 .f32) (ix3 ⟨16 * l.val + r.val, by omega⟩ 0 k) = Md m c l r k := by
  have e : (V m c main_v5 : Vec Ideal S32x1x6144 .f32)
      = shapeCast S32x1x6144 (m ((c : Thread nD τ).loc main_arg2)) shapeCasts_S2x16x6144_S32x1x6144 := by
    unfold_abbrev_sides
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (j : Fin 4) (k : Fin 1024) : (V m c main_v4 : Vec Ideal S4x1024 .f32) (ix2 j k) = G m c 1 j k := by
  have e : (V m c main_v4 : Vec Ideal S4x1024 .f32) = shapeCast S4x1024 (extractStridedSlice S1x4x1024 ![1, 0, 0]
      (m ((c : Thread nD τ).loc main_arg3)) slices_S2x4x1024_S1x4x1024_1_0_0) shapeCasts_S1x4x1024_S4x1024 := by
    unfold_abbrev_sides
    after_results
    rfl
  rw [e, shapeCast_apply _ _ (ix2 j k) (ix3 0 j k) (by
    rw [Shape.rowMajor_val_three, Shape.rowMajor_val_two]
    show (0 * 4 + j.val) * 1024 + k.val = j.val * 1024 + k.val
    omega)]
  refine congrArg (m ((c : Thread nD τ).loc main_arg3)) (funext fun a => Fin.ext ?_)
  match a with
  | ⟨0, _⟩ => rfl
  | ⟨1, _⟩ => show 0 + j.val = j.val; omega
  | ⟨2, _⟩ => show 0 + k.val = k.val; omega

theorem host_wm (k j : Fin 1024) : (V m c main_v2 : Vec Ideal S1024x1024 .bf16) (ix2 k j) = Wm m c k j := by
  have e : (V m c main_v2 : Vec Ideal S1024x1024 .bf16)
      = shapeCast S1024x1024 (truncf (F := Ideal) .bf16 (m ((c : Thread nD τ).loc main_arg4)) bitsLt_bf16_f32) shapeCasts_S1x1024x1024_S1024x1024 := by
    unfold_abbrev_sides
    after_results
    rfl
  rw [e, shapeCast_apply _ _ (ix2 k j) (ix3 0 k j) (by
    rw [Shape.rowMajor_val_three, Shape.rowMajor_val_two]
    show (0 * 1024 + k.val) * 1024 + j.val = k.val * 1024 + j.val
    omega)]
  rfl

theorem host_wi (k : Fin 1024) (j : Fin 5632) : (V m c main_v9 : Vec Ideal S1024x5632 .bf16) (ix2 k j) = Wi m c 1 k j := by
  have e : (V m c main_v9 : Vec Ideal S1024x5632 .bf16) = shapeCast S1024x5632 (extractStridedSlice S1x1024x5632 ![1, 0, 0]
      (truncf (F := Ideal) .bf16 (m ((c : Thread nD τ).loc main_arg5)) bitsLt_bf16_f32) slices_S2x1024x5632_S1x1024x5632_1_0_0)
      shapeCasts_S1x1024x5632_S1024x5632 := by
    unfold_abbrev_sides
    after_results
    rfl
  rw [e, shapeCast_apply _ _ (ix2 k j) (ix3 0 k j) (by
    rw [Shape.rowMajor_val_three, Shape.rowMajor_val_two]
    show (0 * 1024 + k.val) * 5632 + j.val = k.val * 5632 + j.val
    omega)]
  refine congrArg (m ((c : Thread nD τ).loc main_arg5)) (funext fun a => Fin.ext ?_)
  match a with
  | ⟨0, _⟩ => rfl
  | ⟨1, _⟩ => show 0 + k.val = k.val; omega
  | ⟨2, _⟩ => show 0 + j.val = j.val; omega

theorem host_wo (k : Fin 2816) (j : Fin 1024) : (V m c main_v12 : Vec Ideal S2816x1024 .bf16) (ix2 k j) = Wo m c 1 k j := by
  have e : (V m c main_v12 : Vec Ideal S2816x1024 .bf16) = shapeCast S2816x1024 (extractStridedSlice S1x2816x1024 ![1, 0, 0]
      (truncf (F := Ideal) .bf16 (m ((c : Thread nD τ).loc main_arg6)) bitsLt_bf16_f32) slices_S2x2816x1024_S1x2816x1024_1_0_0)
      shapeCasts_S1x2816x1024_S2816x1024 := by
    unfold_abbrev_sides
    after_results
    rfl
  rw [e, shapeCast_apply _ _ (ix2 k j) (ix3 0 k j) (by
    rw [Shape.rowMajor_val_three, Shape.rowMajor_val_two]
    show (0 * 2816 + k.val) * 1024 + j.val = k.val * 1024 + j.val
    omega)]
  refine congrArg (m ((c : Thread nD τ).loc main_arg6)) (funext fun a => Fin.ext ?_)
  match a with
  | ⟨0, _⟩ => rfl
  | ⟨1, _⟩ => show 0 + k.val = k.val; omega
  | ⟨2, _⟩ => show 0 + j.val = j.val; omega

/-! ## The blocks -/

/-- Which block of each array a grid point stages. -/
theorem index_eq : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = 17 + t.val / 8 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) := by
  decide +kernel

/-- The number of grid points. -/
theorem lt_N (t : Fin cfg0.N) : t.val < 64 := t.isLt

/-- Row `r` of point `t`'s block among all rows, and its modulation's row. -/
abbrev rowAt (t : Fin cfg0.N) (r : Fin 512) : Fin 32768 := ⟨512 * t.val + r.val, by have := lt_N t; omega⟩
abbrev modAt (R : Fin 32768) : Fin 16 := ⟨1 + R.val / 4096, by omega⟩

theorem blk0 (t : Fin cfg0.N) (r : Fin 512) (k : Fin 1024) :
    (iblk m c 0 t : Vec Ideal S512x1024 .bf16) (ix2 r k) = O m c (req (rowAt t r)) (tok (rowAt t r)) k := by
  obtain ⟨⟨i0, i1⟩, -⟩ := index_eq t
  rw [← host_o]
  unfold iblk
  rw [View.read_apply]
  show V m c main_v0 _ = V m c main_v0 _
  refine congrArg (V m c main_v0) (funext fun a => Fin.ext ?_)
  match a with
  | ⟨0, _⟩ => show win0_0.index t 0 * 512 + 1 * r.val = 512 * t.val + r.val; rw [i0]; omega
  | ⟨1, _⟩ => show win0_0.index t 1 * 1024 + 1 * k.val = k.val; rw [i1]; omega

theorem blk1 (t : Fin cfg0.N) (k j : Fin 1024) : (iblk m c 1 t : Vec Ideal S1024x1024 .bf16) (ix2 k j) = Wm m c k j := by
  obtain ⟨-, ⟨i0, i1⟩, -⟩ := index_eq t
  rw [← host_wm]
  unfold iblk
  rw [View.read_apply]
  show V m c main_v2 _ = V m c main_v2 _
  refine congrArg (V m c main_v2) (funext fun a => Fin.ext ?_)
  match a with
  | ⟨0, _⟩ => show win0_1.index t 0 * 1024 + 1 * k.val = k.val; rw [i0]; omega
  | ⟨1, _⟩ => show win0_1.index t 1 * 1024 + 1 * j.val = j.val; rw [i1]; omega

theorem blk2 (t : Fin cfg0.N) (r : Fin 512) (k : Fin 1024) :
    (iblk m c 2 t : Vec Ideal S512x1024 .f32) (ix2 r k) = X m c (req (rowAt t r)) (tok (rowAt t r)) k := by
  obtain ⟨-, -, ⟨i0, i1⟩, -⟩ := index_eq t
  rw [← host_x]
  unfold iblk
  rw [View.read_apply]
  show V m c main_v6 _ = V m c main_v6 _
  refine congrArg (V m c main_v6) (funext fun a => Fin.ext ?_)
  match a with
  | ⟨0, _⟩ => show win0_2.index t 0 * 512 + 1 * r.val = 512 * t.val + r.val; rw [i0]; omega
  | ⟨1, _⟩ => show win0_2.index t 1 * 1024 + 1 * k.val = k.val; rw [i1]; omega

theorem blk3 (t : Fin cfg0.N) (r : Fin 512) (k : Fin 6144) :
    (iblk m c 3 t : Vec Ideal S1x1x6144 .f32) (ix3 0 0 k) = Md m c 1 (modAt (rowAt t r)) k := by
  obtain ⟨-, -, -, ⟨i0, i1, i2⟩, -⟩ := index_eq t
  have := lt_N t
  rw [← host_mod]
  unfold iblk
  rw [View.read_apply]
  show V m c main_v5 _ = V m c main_v5 _
  refine congrArg (V m c main_v5) (funext fun a => Fin.ext ?_)
  match a with
  | ⟨0, _⟩ => show win0_3.index t 0 * 1 + 1 * 0 = 16 * 1 + (1 + (512 * t.val + r.val) / 4096); rw [i0] <;> omega
  | ⟨1, _⟩ => show win0_3.index t 1 * 1 + 1 * 0 = 0; rw [i1]
  | ⟨2, _⟩ => show win0_3.index t 2 * 6144 + 1 * k.val = k.val; rw [i2]; omega

theorem blk4 (t : Fin cfg0.N) (j : Fin 4) (k : Fin 1024) : (iblk m c 4 t : Vec Ideal S4x1024 .f32) (ix2 j k) = G m c 1 j k := by
  obtain ⟨-, -, -, -, ⟨i0, i1⟩, -⟩ := index_eq t
  rw [← host_g]
  unfold iblk
  rw [View.read_apply]
  show V m c main_v4 _ = V m c main_v4 _
  refine congrArg (V m c main_v4) (funext fun a => Fin.ext ?_)
  match a with
  | ⟨0, _⟩ => show win0_4.index t 0 * 4 + 1 * j.val = j.val; rw [i0]; omega
  | ⟨1, _⟩ => show win0_4.index t 1 * 1024 + 1 * k.val = k.val; rw [i1]; omega

theorem blk5 (t : Fin cfg0.N) (k : Fin 1024) (j : Fin 5632) :
    (iblk m c 5 t : Vec Ideal S1024x5632 .bf16) (ix2 k j) = Wi m c 1 k j := by
  obtain ⟨-, -, -, -, -, ⟨i0, i1⟩, -⟩ := index_eq t
  rw [← host_wi]
  unfold iblk
  rw [View.read_apply]
  show V m c main_v9 _ = V m c main_v9 _
  refine congrArg (V m c main_v9) (funext fun a => Fin.ext ?_)
  match a with
  | ⟨0, _⟩ => show win0_5.index t 0 * 1024 + 1 * k.val = k.val; rw [i0]; omega
  | ⟨1, _⟩ => show win0_5.index t 1 * 5632 + 1 * j.val = j.val; rw [i1]; omega

theorem blk6 (t : Fin cfg0.N) (k : Fin 2816) (j : Fin 1024) :
    (iblk m c 6 t : Vec Ideal S2816x1024 .bf16) (ix2 k j) = Wo m c 1 k j := by
  obtain ⟨-, -, -, -, -, -, ⟨i0, i1⟩, -⟩ := index_eq t
  rw [← host_wo]
  unfold iblk
  rw [View.read_apply]
  show V m c main_v12 _ = V m c main_v12 _
  refine congrArg (V m c main_v12) (funext fun a => Fin.ext ?_)
  match a with
  | ⟨0, _⟩ => show win0_6.index t 0 * 2816 + 1 * k.val = k.val; rw [i0]; omega
  | ⟨1, _⟩ => show win0_6.index t 1 * 1024 + 1 * j.val = j.val; rw [i1]; omega

/-! ## The result -/

/-- Entry `(R, d)` of the result, from the arguments: the specification's row. -/
def entry (R : Fin 32768) (d : Fin 1024) : EReal :=
  TailSpec.tail (TailSpec.rowMul (O m c (req R) (tok R)) (Wm m c)) (X m c (req R) (tok R)) (Md m c 1 (modAt R)) (G m c 1) (Wi m c 1)
    (Wo m c 1) d

/-- The result array. -/
def res : Buf (Elt Ideal) ((c : Thread nD τ).loc main_v13) := fun i : S32768x1024.Idx => entry m c (i 0) (i 1)

/-- The body's block, from the blocks it is given. -/
theorem out_apply (x0 : Vec Ideal S512x1024 .bf16) (x1 : Vec Ideal S1024x1024 .bf16) (x2 : Vec Ideal S512x1024 .f32)
    (x3 : Vec Ideal S1x1x6144 .f32) (x4 : Vec Ideal S4x1024 .f32) (x5 : Vec Ideal S1024x5632 .bf16) (x6 : Vec Ideal S2816x1024 .bf16)
    (r : Fin 512) (d : Fin 1024) :
    out0_7 x0 x1 x2 x3 x4 x5 x6 (ix2 r d) = TailSpec.tail (TailSpec.rowMul (fun k => x0 (ix2 r k)) (fun k j => x1 (ix2 k j)))
      (fun k => x2 (ix2 r k)) (fun k => x3 (ix3 0 0 k)) (fun j k => x4 (ix2 j k)) (fun k j => x5 (ix2 k j)) (fun k j => x6 (ix2 k j)) d := by
  rw [Block.out_eq, show (ix2 r d : S512x1024.Idx) = r0_1.emb (ix2 r d) from funext fun a => Fin.ext (by
    match a with
    | ⟨0, _⟩ => show r.val = 0 + 1 * r.val; omega
    | ⟨1, _⟩ => show d.val = 0 + 1 * d.val; omega), View.canon_cons_emb]
  rw [show ∀ out x mod, Tail.tail Block.fits out x mod x4 x5 x6 (ix2 r d) = _ from fun out x mod =>
    Tail.tail_apply Block.fits out x mod x4 x5 x6 r d]
  have e0 : (fun k => Block.mixed x0 x1 (ix2 r k)) = TailSpec.rowMul (fun k => x0 (ix2 r k)) (fun k j => x1 (ix2 k j)) := funext fun k => by
    have e := Ideal.matmul_plain_apply none (shapeCast S512x1024 (View.ld x0 r0_1) shapeCasts_S512x1024_S512x1024 : FVec Ideal S512x1024 .bf16)
      (shapeCast S1024x1024 (View.ld x1 r0_2) shapeCasts_S1024x1024_S1024x1024 : FVec Ideal S1024x1024 .bf16)
      (constant S512x1024 .f32 0x00000000#32) r k
    simp only [← ix2_eq_valueIdx] at e
    refine e.trans ?_
    rw [show constant (F := Ideal) S512x1024 .f32 0x00000000#32 (ix2 r k) = 0 from by pointwise, zero_add]
    refine Finset.sum_congr rfl fun j _ => ?_
    rw [show (shapeCast S512x1024 (View.ld x0 r0_1) shapeCasts_S512x1024_S512x1024) (ix2 r j) = x0 (ix2 r j) by pointwise,
      show (shapeCast S1024x1024 (View.ld x1 r0_2) shapeCasts_S1024x1024_S1024x1024) (ix2 j k) = x1 (ix2 j k) by pointwise]
  have e1 : (fun k => shapeCast S512x1024 (View.ld x2 r0_1) shapeCasts_S512x1024_S512x1024 (ix2 r k)) = fun k => x2 (ix2 r k) :=
    funext fun k => by pointwise
  have e2 : (fun k => shapeCast S1x6144 (View.ld x3 r0_0) shapeCasts_S1x1x6144_S1x6144 (ix2 0 k)) = fun k => x3 (ix3 0 0 k) :=
    funext fun k => by pointwise
  rw [e0, e1, e2]

/-- Every point writes back its block of the result array. -/
theorem flushed_eq (t : Fin cfg0.N) : (dats m 0 c).flushed 7 t = ((cfg0.win 7).blk t).view.read (Elt Ideal) (res m c) := by
  rw [Value.flushed7]
  refine funext fun j : S512x1024.Idx => ?_
  obtain ⟨r, d, rfl⟩ : ∃ (r : Fin 512) (d : Fin 1024), j = ix2 r d :=
    ⟨j 0, j 1, funext fun a => by match a with | ⟨0, _⟩ => rfl | ⟨1, _⟩ => rfl⟩
  obtain ⟨-, -, -, -, -, -, -, ⟨i0, i1⟩⟩ := index_eq t
  have e : ((cfg0.win 7).blk t).view.read (Elt Ideal) (res m c) (ix2 r d : S512x1024.Idx) = entry m c (rowAt t r) d := by
    rw [View.read_apply]
    show entry m c _ _ = _
    refine congrArg₂ (entry m c) (Fin.ext ?_) (Fin.ext ?_)
    · show win0_7.index t 0 * 512 + 1 * r.val = 512 * t.val + r.val; rw [i0]; omega
    · show win0_7.index t 1 * 1024 + 1 * d.val = d.val; rw [i1]; omega
  rw [e]
  show out0_7 (iblk m c 0 t) (iblk m c 1 t) (iblk m c 2 t) (iblk m c 3 t) (iblk m c 4 t) (iblk m c 5 t) (iblk m c 6 t) (ix2 r d) = _
  rw [out_apply (iblk m c 0 t) (iblk m c 1 t) (iblk m c 2 t) (iblk m c 3 t) (iblk m c 4 t) (iblk m c 5 t) (iblk m c 6 t)]
  simp only [blk0, blk1, blk2, blk3 m c t r, blk4, blk5, blk6]
  rfl

/-- The blocks cover the array, so it ends holding the result. -/
theorem final : (dats m 0 c).arrAt 7 cfg0.N = res m c :=
  (dats m 0 c).arrAt_eq_of_cover 7 (res m c) (fun t _ => flushed_eq m c t) fun i => by
    have h0 : (i 0 : Nat) < 32768 := (i 0).isLt
    have h1 : (i 1 : Nat) < 1024 := (i 1).isLt
    let t : Fin cfg0.N := ⟨(i 0 : Nat) / 512, by show _ < 64; omega⟩
    obtain ⟨-, -, -, -, -, -, -, ⟨i0, i1⟩⟩ := index_eq t
    have tv : t.val = (i 0 : Nat) / 512 := rfl
    refine ⟨t, flush0_7 t, ?_⟩
    show i ∈ ((View.whole main_v13).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [i0]; omega
    | ⟨1, _⟩ =>
      show win0_7.index t 1 * 1024 ≤ (i 1 : Nat) ∧ (i 1 : Nat) < win0_7.index t 1 * 1024 + 1024
      rw [i1]; omega

end Cert.Kernel2Ideal.Array

end
-- ==== Proof.RefTail2.lean ====
/-
  The reference's result at the layer's end of the second layer, for the sampled batch, entry by entry.
-/
module

public import Idealize.ShloMosaic.Lib.Pointwise.Index
public import Idealize.ShloMosaic.PureOps.Ideal.Laws
public import proofs.«01_k».proof.Proof.TailSpec
public import proofs.«01_k».proof.Proof.Gen.Reference2Ideal.Read

@[expose] public section

set_option maxRecDepth 16384

noncomputable section

namespace Cert.Reference2Ideal.Tail

open Cert.Reference2Ideal Cert.Reference2Ideal.Gen Cert.Reference2Ideal.Read Idealize.ShloMosaic Idealize.SL.Sem

/-- Indices of two, and of three, coordinates are equal when the coordinates are. -/
theorem ext2 {n : Fin 2 → ℕ} {i j : (⟨2, n⟩ : Shape).Idx} (h0 : (i 0).val = (j 0).val) (h1 : (i 1).val = (j 1).val) : i = j := by
  funext a
  apply Fin.ext
  match a with
  | ⟨0, _⟩ => exact h0
  | ⟨1, _⟩ => exact h1

theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

variable (x0 : Vec Ideal S8x4096x1024 .bf16) (x1 : Vec Ideal S8x4096x1024 .f32) (x2 : Vec Ideal S2x16x6144 .f32) (x3 : Vec Ideal S2x4x1024 .f32)
  (x4 : Vec Ideal S1x1024x1024 .f32) (x5 : Vec Ideal S2x1024x5632 .f32) (x6 : Vec Ideal S2x2816x1024 .f32)

/-! ## The mixer's output -/

/-- The attention's output times the output projection. -/
theorem out_apply (b : Fin 8) (n : Fin 4096) (d : Fin 1024) : (val_main_v2 (F := Ideal) x0 x4) (ix3 b n d)
    = TailSpec.rowMul (fun k => x0 (ix3 b n k)) (fun k j => x4 (ix3 0 k j)) d := by
  rw [val_main_v2_apply]
  refine Finset.sum_congr rfl fun k _ => ?_
  have e : (val_main_v1 (F := Ideal) x4) (ix2 k d) = x4 (ix3 0 k d) := by
    rw [val_main_v1_apply]
    exact congrArg x4 (ext3 rfl (by show (k.val * 1024 + d.val) / 1024 % 1024 = k.val; omega) (by show (k.val * 1024 + d.val) % 1024 = d.val; omega))
  exact congrArg₂ (· * ·) (congrArg x0 (ext3 rfl rfl rfl)) ((congrArg (val_main_v1 (F := Ideal) x4) (ext2 rfl rfl)).trans e)

/-! ## The layer's modulation -/

theorem mod_apply (b : Fin 8) (k : Fin 6144) : (val_main_v5 (F := Ideal) x2) (ix3 b 0 k) = x2 (ix3 1 ⟨1 + b.val, by omega⟩ k) := by
  rw [val_main_v5_apply, val_main_v4_apply, val_main_v3_apply]
  refine congrArg x2 (ext3 ?_ ?_ ?_)
  · show 1 + 0 = 1; rfl
  · show 1 + (b.val * 6144 + k.val) / 6144 % 8 = 1 + b.val; omega
  · show (b.val * 6144 + k.val) % 6144 = k.val; omega

/-- The gate of the mixer's output. -/
theorem gate1 (b : Fin 8) (d : Fin 1024) : (val_main_v14 (F := Ideal) x2) (ix3 b 0 d) = x2 (ix3 1 ⟨1 + b.val, by omega⟩ (TailSpec.part 2 d)) := by
  rw [val_main_v14_apply, ← mod_apply x2 b]
  exact congrArg (val_main_v5 (F := Ideal) x2) (ext3 rfl rfl (by show 2048 + d.val = 1024 * 2 + d.val; omega))

/-- The network's shift. -/
theorem shift2 (b : Fin 8) (d : Fin 1024) : (val_main_v15 (F := Ideal) x2) (ix3 b 0 d) = x2 (ix3 1 ⟨1 + b.val, by omega⟩ (TailSpec.part 3 d)) := by
  rw [val_main_v15_apply, ← mod_apply x2 b]
  exact congrArg (val_main_v5 (F := Ideal) x2) (ext3 rfl rfl (by show 3072 + d.val = 1024 * 3 + d.val; omega))

/-- The network's scale. -/
theorem scale2 (b : Fin 8) (d : Fin 1024) : (val_main_v16 (F := Ideal) x2) (ix3 b 0 d) = x2 (ix3 1 ⟨1 + b.val, by omega⟩ (TailSpec.part 4 d)) := by
  rw [val_main_v16_apply, ← mod_apply x2 b]
  exact congrArg (val_main_v5 (F := Ideal) x2) (ext3 rfl rfl (by show 4096 + d.val = 1024 * 4 + d.val; omega))

/-- The gate of the network's output. -/
theorem gate2 (b : Fin 8) (d : Fin 1024) : (val_main_v17 (F := Ideal) x2) (ix3 b 0 d) = x2 (ix3 1 ⟨1 + b.val, by omega⟩ (TailSpec.part 5 d)) := by
  rw [val_main_v17_apply, ← mod_apply x2 b]
  exact congrArg (val_main_v5 (F := Ideal) x2) (ext3 rfl rfl (by show 5120 + d.val = 1024 * 5 + d.val; omega))

/-! ## The layer's slices of the gains and of the weights -/

theorem g_apply (j : Fin 4) (d : Fin 1024) : (val_main_v7 (F := Ideal) x3) (ix2 j d) = x3 (ix3 1 j d) := by
  rw [val_main_v7_apply, val_main_v6_apply]
  refine congrArg x3 (ext3 ?_ ?_ ?_)
  · show 1 + 0 = 1; rfl
  · show (j.val * 1024 + d.val) / 1024 % 4 = j.val; omega
  · show (j.val * 1024 + d.val) % 1024 = d.val; omega

theorem wi_apply (k : Fin 1024) (j : Fin 5632) : (val_main_v9 (F := Ideal) x5) (ix2 k j) = x5 (ix3 1 k j) := by
  rw [val_main_v9_apply, val_main_v8_apply]
  refine congrArg x5 (ext3 ?_ ?_ ?_)
  · show 1 + 0 = 1; rfl
  · show (k.val * 5632 + j.val) / 5632 % 1024 = k.val; omega
  · show (k.val * 5632 + j.val) % 5632 = j.val; omega

theorem wo_apply (k : Fin 2816) (j : Fin 1024) : (val_main_v11 (F := Ideal) x6) (ix2 k j) = x6 (ix3 1 k j) := by
  rw [val_main_v11_apply, val_main_v10_apply]
  refine congrArg x6 (ext3 ?_ ?_ ?_)
  · show 1 + 0 = 1; rfl
  · show (k.val * 1024 + j.val) / 1024 % 2816 = k.val; omega
  · show (k.val * 1024 + j.val) % 1024 = j.val; omega

/-! ## The stream after the mixer's output is added -/

/-- The mixer output's norm's gain. -/
theorem gain1 (b : Fin 8) (n : Fin 4096) (d : Fin 1024) : (val_main_v31 (F := Ideal) x3) (ix3 b n d) = x3 (ix3 1 1 d) := by
  rw [val_main_v31_apply, val_main_v30_apply, val_main_v19_apply, val_main_v18_apply, ← g_apply x3 1 d]
  refine congrArg (val_main_v7 (F := Ideal) x3) (ext2 ?_ ?_)
  · show 1 + 0 = 1; rfl
  · show d.val % 1024 = d.val; omega

/-- The mixer output's norm. -/
theorem norm1 (b : Fin 8) (n : Fin 4096) (d : Fin 1024) :
    (val_main_v32 (F := Ideal) x0 x3 x4) (ix3 b n d) = TailSpec.rms (fun k => (val_main_v2 (F := Ideal) x0 x4) (ix3 b n k)) (fun k => x3 (ix3 1 1 k)) d := by
  have es : (val_main_v21 (F := Ideal) x0 x4) (ix2 b n) = ∑ k, (val_main_v2 (F := Ideal) x0 x4) (ix3 b n k) * (val_main_v2 (F := Ideal) x0 x4) (ix3 b n k) := by
    rw [val_main_v21_apply, val_main_cst_apply]
    show Ideal.ofBits .f32 0x00000000#32 + _ = _
    rw [Ideal.ofBits_zero_f32, zero_add]
    refine Finset.sum_congr rfl fun k _ => ?_
    rw [show idx_main_v21 (ix2 b n) k = ix3 b n k from ext3 rfl rfl rfl, val_main_v20_apply]
    rfl
  rw [val_main_v32_apply, gain1, val_main_v29_apply, val_main_v28_apply, val_main_v27_apply, val_main_v26_apply, val_main_v24_apply, val_main_v22_apply,
    val_main_v23_apply, val_main_v25_apply, val_main_cst_0_apply, val_main_cst_1_apply,
    show idx_main_v22 (idx_main_v28 (ix3 b n d)) = ix2 b n from ext2 rfl rfl, es]
  rfl

/-- The modulation, the gains and the weights as functions of their coordinates. -/
abbrev modRow (b : Fin 8) (k : Fin 6144) : EReal := x2 (ix3 1 ⟨1 + b.val, by omega⟩ k)
abbrev gains (j : Fin 4) (k : Fin 1024) : EReal := x3 (ix3 1 j k)

theorem mid_apply (b : Fin 8) (n : Fin 4096) (d : Fin 1024) : (val_main_v35 (F := Ideal) x0 x1 x2 x3 x4) (ix3 b n d)
    = TailSpec.mid (fun k => (val_main_v2 (F := Ideal) x0 x4) (ix3 b n k)) (fun k => x1 (ix3 b n k)) (modRow x2 b) (gains x3) d := by
  rw [val_main_v35_apply, val_main_v34_apply, norm1, val_main_v33_apply, show idx_main_v33 (ix3 b n d) = ix3 b 0 d from ext3 rfl rfl rfl, gate1]
  rfl

/-! ## The network's input -/

/-- The network input's norm's gain. -/
theorem gain2 (b : Fin 8) (n : Fin 4096) (d : Fin 1024) : (val_main_v49 (F := Ideal) x3) (ix3 b n d) = x3 (ix3 1 2 d) := by
  rw [val_main_v49_apply, val_main_v48_apply, val_main_v37_apply, val_main_v36_apply, ← g_apply x3 2 d]
  refine congrArg (val_main_v7 (F := Ideal) x3) (ext2 ?_ ?_)
  · show 2 + 0 = 2; rfl
  · show d.val % 1024 = d.val; omega

/-- The network input's norm. -/
theorem norm2 (b : Fin 8) (n : Fin 4096) (d : Fin 1024) :
    (val_main_v50 (F := Ideal) x0 x1 x2 x3 x4) (ix3 b n d) = TailSpec.rms (fun k => (val_main_v35 (F := Ideal) x0 x1 x2 x3 x4) (ix3 b n k)) (fun k => x3 (ix3 1 2 k)) d := by
  have es : (val_main_v39 (F := Ideal) x0 x1 x2 x3 x4) (ix2 b n) = ∑ k, (val_main_v35 (F := Ideal) x0 x1 x2 x3 x4) (ix3 b n k) * (val_main_v35 (F := Ideal) x0 x1 x2 x3 x4) (ix3 b n k) := by
    rw [val_main_v39_apply, val_main_cst_2_apply]
    show Ideal.ofBits .f32 0x00000000#32 + _ = _
    rw [Ideal.ofBits_zero_f32, zero_add]
    refine Finset.sum_congr rfl fun k _ => ?_
    rw [show idx_main_v39 (ix2 b n) k = ix3 b n k from ext3 rfl rfl rfl, val_main_v38_apply]
    rfl
  rw [val_main_v50_apply, gain2, val_main_v47_apply, val_main_v46_apply, val_main_v45_apply, val_main_v44_apply, val_main_v42_apply, val_main_v40_apply,
    val_main_v41_apply, val_main_v43_apply, val_main_cst_3_apply, val_main_cst_4_apply,
    show idx_main_v40 (idx_main_v46 (ix3 b n d)) = ix2 b n from ext2 rfl rfl, es]
  rfl

theorem hid_apply (b : Fin 8) (n : Fin 4096) (d : Fin 1024) : (val_main_v56 (F := Ideal) x0 x1 x2 x3 x4) (ix3 b n d)
    = TailSpec.hid (fun k => (val_main_v35 (F := Ideal) x0 x1 x2 x3 x4) (ix3 b n k)) (modRow x2 b) (gains x3) d := by
  rw [val_main_v56_apply, val_main_v54_apply, norm2, val_main_v53_apply, val_main_v55_apply, show idx_main_v55 (ix3 b n d) = ix3 b 0 d from ext3 rfl rfl rfl,
    show idx_main_v53 (ix3 b n d) = ix3 b 0 d from ext3 rfl rfl rfl, val_main_v52_apply, val_main_v51_apply, val_main_cst_5_apply, shift2, scale2]
  rfl

/-! ## The network -/

theorem lanes_apply (b : Fin 8) (n : Fin 4096) (j : Fin 5632) : (val_main_v57 (F := Ideal) x0 x1 x2 x3 x4 x5) (ix3 b n j)
    = TailSpec.rowMul (fun k => (val_main_v56 (F := Ideal) x0 x1 x2 x3 x4) (ix3 b n k)) (fun k j => x5 (ix3 1 k j)) j := by
  rw [val_main_v57_apply]
  refine Finset.sum_congr rfl fun k _ => ?_
  exact congrArg₂ (· * ·) (congrArg (val_main_v56 (F := Ideal) x0 x1 x2 x3 x4) (ext3 rfl rfl rfl)) ((congrArg (val_main_v9 (F := Ideal) x5) (ext2 rfl rfl)).trans (wi_apply x5 k j))

theorem act_apply (b : Fin 8) (n : Fin 4096) (j : Fin 2816) : (val_main_v61 (F := Ideal) x0 x1 x2 x3 x4 x5) (ix3 b n j)
    = TailSpec.act (fun k => (val_main_v56 (F := Ideal) x0 x1 x2 x3 x4) (ix3 b n k)) (fun k j => x5 (ix3 1 k j)) j := by
  have e0 : (val_main_v58 (F := Ideal) x0 x1 x2 x3 x4 x5) (ix3 b n j) = TailSpec.rowMul (fun k => (val_main_v56 (F := Ideal) x0 x1 x2 x3 x4) (ix3 b n k)) (fun k j => x5 (ix3 1 k j)) (TailSpec.gateCol j) := by
    rw [val_main_v58_apply, ← lanes_apply]
    exact congrArg (val_main_v57 (F := Ideal) x0 x1 x2 x3 x4 x5) (ext3 rfl rfl rfl)
  have e1 : (val_main_v59 (F := Ideal) x0 x1 x2 x3 x4 x5) (ix3 b n j) = TailSpec.rowMul (fun k => (val_main_v56 (F := Ideal) x0 x1 x2 x3 x4) (ix3 b n k)) (fun k j => x5 (ix3 1 k j)) (TailSpec.upCol j) := by
    rw [val_main_v59_apply, ← lanes_apply]
    exact congrArg (val_main_v57 (F := Ideal) x0 x1 x2 x3 x4 x5) (ext3 rfl rfl rfl)
  rw [val_main_v61_apply, e1, val_main_v60_apply, e0, val_main_call0_v5_apply, val_main_call0_v4_apply, val_main_call0_cst_0_apply, val_main_call0_v3_apply,
    val_main_call0_v2_apply, val_main_call0_cst_apply, val_main_call0_v1_apply, val_main_call0_v0_apply, e0]
  rfl

theorem ffn_apply (b : Fin 8) (n : Fin 4096) (j : Fin 1024) : (val_main_v62 (F := Ideal) x0 x1 x2 x3 x4 x5 x6) (ix3 b n j)
    = TailSpec.rowMul (fun k => (val_main_v61 (F := Ideal) x0 x1 x2 x3 x4 x5) (ix3 b n k)) (fun k j => x6 (ix3 1 k j)) j := by
  rw [val_main_v62_apply]
  refine Finset.sum_congr rfl fun k _ => ?_
  exact congrArg₂ (· * ·) (congrArg (val_main_v61 (F := Ideal) x0 x1 x2 x3 x4 x5) (ext3 rfl rfl rfl)) ((congrArg (val_main_v11 (F := Ideal) x6) (ext2 rfl rfl)).trans (wo_apply x6 k j))

/-- The network output's norm's gain. -/
theorem gain3 (b : Fin 8) (n : Fin 4096) (d : Fin 1024) : (val_main_v76 (F := Ideal) x3) (ix3 b n d) = x3 (ix3 1 3 d) := by
  rw [val_main_v76_apply, val_main_v75_apply, val_main_v64_apply, val_main_v63_apply, ← g_apply x3 3 d]
  refine congrArg (val_main_v7 (F := Ideal) x3) (ext2 ?_ ?_)
  · show 3 + 0 = 3; rfl
  · show d.val % 1024 = d.val; omega

/-- The network output's norm. -/
theorem norm3 (b : Fin 8) (n : Fin 4096) (d : Fin 1024) :
    (val_main_v77 (F := Ideal) x0 x1 x2 x3 x4 x5 x6) (ix3 b n d) = TailSpec.rms (fun k => (val_main_v62 (F := Ideal) x0 x1 x2 x3 x4 x5 x6) (ix3 b n k)) (fun k => x3 (ix3 1 3 k)) d := by
  have es : (val_main_v66 (F := Ideal) x0 x1 x2 x3 x4 x5 x6) (ix2 b n) = ∑ k, (val_main_v62 (F := Ideal) x0 x1 x2 x3 x4 x5 x6) (ix3 b n k) * (val_main_v62 (F := Ideal) x0 x1 x2 x3 x4 x5 x6) (ix3 b n k) := by
    rw [val_main_v66_apply, val_main_cst_6_apply]
    show Ideal.ofBits .f32 0x00000000#32 + _ = _
    rw [Ideal.ofBits_zero_f32, zero_add]
    refine Finset.sum_congr rfl fun k _ => ?_
    rw [show idx_main_v66 (ix2 b n) k = ix3 b n k from ext3 rfl rfl rfl, val_main_v65_apply]
    rfl
  rw [val_main_v77_apply, gain3, val_main_v74_apply, val_main_v73_apply, val_main_v72_apply, val_main_v71_apply, val_main_v69_apply, val_main_v67_apply,
    val_main_v68_apply, val_main_v70_apply, val_main_cst_7_apply, val_main_cst_8_apply,
    show idx_main_v67 (idx_main_v73 (ix3 b n d)) = ix2 b n from ext2 rfl rfl, es]
  rfl

/-! ## The result -/

/-- The request of a row of all requests' rows, and its place in it. -/
abbrev req (R : Fin 32768) : Fin 8 := ⟨R.val / 4096, by omega⟩
abbrev tok (R : Fin 32768) : Fin 4096 := ⟨R.val % 4096, Nat.mod_lt _ (by norm_num)⟩

/-- An entry of the result is the specification's. -/
theorem result_apply (R : Fin 32768) (d : Fin 1024) : (val_main_v81 (F := Ideal) x0 x1 x2 x3 x4 x5 x6) (ix2 R d)
    = TailSpec.tail (TailSpec.rowMul (fun k => x0 (ix3 (req R) (tok R) k)) (fun k j => x4 (ix3 0 k j))) (fun k => x1 (ix3 (req R) (tok R) k))
        (modRow x2 (req R)) (gains x3) (fun k j => x5 (ix3 1 k j)) (fun k j => x6 (ix3 1 k j)) d := by
  have eo : (fun k => (val_main_v2 (F := Ideal) x0 x4) (ix3 (req R) (tok R) k)) = TailSpec.rowMul (fun k => x0 (ix3 (req R) (tok R) k)) (fun k j => x4 (ix3 0 k j)) := funext fun k => out_apply x0 x4 _ _ _
  have e2 : (fun k => (val_main_v35 (F := Ideal) x0 x1 x2 x3 x4) (ix3 (req R) (tok R) k)) = _ := funext fun k => mid_apply x0 x1 x2 x3 x4 (req R) (tok R) k
  have e3 : (fun k => (val_main_v56 (F := Ideal) x0 x1 x2 x3 x4) (ix3 (req R) (tok R) k)) = _ := funext fun k => hid_apply x0 x1 x2 x3 x4 (req R) (tok R) k
  have e4 : (fun k => (val_main_v61 (F := Ideal) x0 x1 x2 x3 x4 x5) (ix3 (req R) (tok R) k)) = _ := funext fun k => act_apply x0 x1 x2 x3 x4 x5 (req R) (tok R) k
  have e5 : (fun k => (val_main_v62 (F := Ideal) x0 x1 x2 x3 x4 x5 x6) (ix3 (req R) (tok R) k)) = _ := funext fun k => ffn_apply x0 x1 x2 x3 x4 x5 x6 (req R) (tok R) k
  rw [val_main_v81_apply, show idx_main_v81 (ix2 R d) = ix3 (req R) (tok R) d from ext3
      (by show (R.val * 1024 + d.val) / 4194304 = R.val / 4096; omega)
      (by show (R.val * 1024 + d.val) / 1024 % 4096 = R.val % 4096; omega)
      (by show (R.val * 1024 + d.val) % 1024 = d.val; omega),
    val_main_v80_apply, mid_apply, val_main_v79_apply, norm3, val_main_v78_apply, show idx_main_v78 (ix3 (req R) (tok R) d) = ix3 (req R) 0 d from ext3 rfl rfl rfl, gate2]
  rw [e5, e4, e3, e2, eo]
  rfl

end Cert.Reference2Ideal.Tail

end
-- ==== Proof.TailClaims2.lean ====
/-
  The claims about the layer's end of the second layer, for the sampled batch: its frames, and that the kernel's result is the reference's.
-/
module

public import proofs.«01_k».proof.Defs
public import proofs.«01_k».proof.Proof.Array2
public import proofs.«01_k».proof.Proof.RefTail2
public import proofs.«01_k».proof.Proof.Gen.Kernel2.Frame
public import proofs.«01_k».proof.Proof.Gen.Kernel2Ideal.Frame

@[expose] public section

set_option maxRecDepth 16384

noncomputable section

namespace Cert.TailClaims2

open Idealize.ShloMosaic Idealize.SL.Sem

/-- The kernel's frame, on machine words. -/
theorem frame_kernel : Cert.quiescent_Kernel2 := fun m ρ _ => Cert.Kernel2.Gen.frame m ρ

/-- The kernel's frame, on extended reals. -/
theorem frame_kernelIdeal : Cert.quiescent_Kernel2Ideal := fun m ρ _ => Cert.Kernel2Ideal.Gen.frame m ρ

/-- The reference's frame: it keeps its arguments and declares no semaphore. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- **The kernel's result is the reference's**, for all arguments. -/
theorem algebraic : Cert.algebraic_Kernel2Ideal_Reference2Ideal := by
  intro m g m' g' _ hagree
  refine ⟨fun c => Cert.Kernel2Ideal.Array.res m c, ?_, ?_⟩
  · exact (θ_run Cert.Kernel2Ideal.defs _ _).mono (fun r h c => ⟨(h c).1.trans (Cert.Kernel2Ideal.Array.final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    obtain ⟨e0, e1, e2, e3, e4, e5, e6⟩ := hagree c
    rw [Cert.Reference2Ideal.Read.val_main_v81_eq, e0, e1, e2, e3, e4, e5, e6]
    refine funext fun i => ?_
    obtain ⟨R, d, rfl⟩ : ∃ (R : Fin 32768) (d : Fin 1024), i = ix2 R d :=
      ⟨i 0, i 1, funext fun a => by match a with | ⟨0, _⟩ => rfl | ⟨1, _⟩ => rfl⟩
    exact Cert.Reference2Ideal.Tail.result_apply _ _ _ _ _ _ _ R d

end Cert.TailClaims2

end
-- ==== Proof.GlaBlock.lean ====
/-
  The recurrence's output before the output projection, and the projection, as the kernel body computes them on a block of
  512 rows, at any float instance.
-/
module

public import proofs.«01_k».proof.Proof.Flash

@[expose] public section

set_option maxRecDepth 16384

noncomputable section

namespace Gla

open Idealize.ShloMosaic Flash

/-- The shape relations of the operations. -/
structure Fits : Prop where
  bits : FTy.bits .bf16 < FTy.bits .f32
  same : (Mat 512 512).ShapeCasts (Mat 512 512)
  gain : (Mat 1 128).ShapeCasts (Mat 1 128)
  half : (Mat 512 1024).ShapeCasts (Mat 512 1024)
  red : (Mat 512 128).Reduces [1] ⟨1, ![512]⟩
  col : (⟨1, ![512]⟩ : Shape).ShapeCasts (Mat 512 1)
  bcCol : (Mat 512 1).Broadcasts (Mat 512 128)
  bcRow : (Mat 1 128).Broadcasts (Mat 512 128)
  slice : ∀ h : Fin 4, (Mat 512 512).Slices ![0, 128 * h.val] (Mat 512 128)
  cat : Shape.Concatenates [Mat 512 128, Mat 512 128, Mat 512 128, Mat 512 128] (Mat 512 512) 1

variable {F : FTy → Type} [FloatOps F]

/-- A head's row-wise root-mean-square norm with its gain. -/
def norm (h : Fits) (o : FVec F (Mat 512 128) .f32) (g : FVec F (Mat 1 128) .f32) : FVec F (Mat 512 128) .f32 :=
  mulf (mulf o (broadcastTo (Mat 512 128) (rsqrt (addf (divf
    (shapeCast (Mat 512 1) (multiReduction .add [1] ⟨1, ![512]⟩ (mulf o o) 0x00000000#32 h.red (.inl rfl) rfl) h.col)
    (broadcast (Mat 512 1) (Scalar.ofBits .f32 0x43000000#32 : F .f32)))
    (broadcast (Mat 512 1) (Scalar.ofBits .f32 0x358637BD#32 : F .f32)))) h.bcCol))
    (broadcastTo (Mat 512 128) g h.bcRow)

/-- The gate times its logistic. -/
def gate (v : FVec F (Mat 512 128) .f32) : FVec F (Mat 512 128) .f32 :=
  mulf v (divf (broadcast (Mat 512 128) (Scalar.ofBits .f32 0x3F800000#32 : F .f32))
    (addf (broadcast (Mat 512 128) (Scalar.ofBits .f32 0x3F800000#32 : F .f32))
      (exp (subf (broadcast (Mat 512 128) (Scalar.ofBits .f32 0x00000000#32 : F .f32)) v))))

/-- Head `k`'s lanes lie inside the row. -/
theorem inb_head (k : Fin 4) (a : Fin 2) : (![0, 128 * k.val] : Fin 2 → ℕ) a + (Mat 512 128).size a ≤ (Mat 512 512).size a := by
  match a with
  | ⟨0, _⟩ => show 0 + 512 ≤ 512; omega
  | ⟨1, _⟩ => show 128 * k.val + 128 ≤ 512; omega

/-- Head `k`: its lanes normed, times its gate. -/
def head (h : Fits) (o : FVec F (Mat 512 512) .f32) (gt : Vec F (Mat 512 512) .bf16) (g : FVec F (Mat 1 128) .f32) (k : Fin 4) :
    FVec F (Mat 512 128) .bf16 :=
  truncf .bf16 (mulf (norm h (extractStridedSlice (Mat 512 128) ![0, 128 * k.val] o (h.slice k)) g)
    (gate (extf .f32 (View.ld gt (Rect.unit (s := Mat 512 512) ![0, 128 * k.val] (Mat 512 128).size (inb_head k))) h.bits))) h.bits

/-- The four heads beside each other. -/
def heads (h : Fits) (o : FVec F (Mat 512 512) .f32) (gt : Vec F (Mat 512 512) .bf16) (g : FVec F (Mat 1 128) .f32) :
    FVec F (Mat 512 512) .bf16 :=
  concatenate (Mat 512 512) 1 [⟨Mat 512 128, head h o gt g 0⟩, ⟨Mat 512 128, head h o gt g 1⟩, ⟨Mat 512 128, head h o gt g 2⟩,
    ⟨Mat 512 128, head h o gt g 3⟩] h.cat

/-- The rows from `c` on of the projection's weights lie inside them. -/
theorem inb_half (c : ℕ) (hc : c ≤ 512) (a : Fin 2) : (![c, 0] : Fin 2 → ℕ) a + (Mat 512 1024).size a ≤ (Mat 1024 1024).size a := by
  match a with
  | ⟨0, _⟩ => show c + 512 ≤ 1024; omega
  | ⟨1, _⟩ => show 0 + 1024 ≤ 1024; omega

/-- A block of 512 lanes times the 512 rows of the weights from `c` on. -/
def project (h : Fits) (x : FVec F (Mat 512 512) .bf16) (w : Vec F (Mat 1024 1024) .bf16) (c : ℕ) (hc : c ≤ 512) : FVec F (Mat 512 1024) .f32 :=
  matmul (DotDims.plain 512 512 1024) none x (shapeCast (Mat 512 1024)
    (View.ld w (Rect.unit (s := Mat 1024 1024) ![c, 0] (Mat 512 1024).size (inb_half c hc))) h.half)
    (constant (Mat 512 1024) .f32 0x00000000#32)

/-- The attention's and the recurrence's outputs, projected and added. -/
def mixed (h : Fits) (a : FVec F (Mat 512 512) .bf16) (o : FVec F (Mat 512 512) .f32) (gt : Vec F (Mat 512 512) .bf16)
    (g : FVec F (Mat 1 128) .f32) (w : Vec F (Mat 1024 1024) .bf16) : FVec F (Mat 512 1024) .f32 :=
  addf (project h a w 0 (by decide)) (project h (heads h o gt g) w 512 (by decide))

end Gla

end
-- ==== Proof.GlaSpec.lean ====
/-
  What one row of the recurrence's output is before the output projection: four heads of 128 lanes, each normed over its
  own lanes, times its gain, times the gate and the gate's logistic; and the attention's 512 lanes in front of them.
-/
module

public import proofs.«01_k».proof.Proof.TailSpec

@[expose] public section

noncomputable section

namespace GlaSpec

open Idealize.ShloMosaic

/-- Lane `l` of head `h`. -/
abbrev lane (h : Fin 4) (l : Fin 128) : Fin 512 := ⟨128 * h.val + l.val, by omega⟩

/-- A head's row divided by its root mean square, times the gain. -/
def rms (o g : Fin 128 → EReal) (l : Fin 128) : EReal :=
  o l * Ideal.rsqrt (Ideal.div (∑ c, o c * o c) (Ideal.ofBits .f32 0x43000000#32) + Ideal.ofBits .f32 0x358637BD#32) * g l

/-- Lane `l` of head `h`: the normed row times the gate's. -/
def head (o gate : Fin 512 → EReal) (g : Fin 128 → EReal) (h : Fin 4) (l : Fin 128) : EReal :=
  rms (fun c => o (lane h c)) g l * TailSpec.silu (gate (lane h l))

/-- The four heads beside each other. -/
def heads (o gate : Fin 512 → EReal) (g : Fin 128 → EReal) (k : Fin 512) : EReal :=
  head o gate g ⟨k.val / 128, by omega⟩ ⟨k.val % 128, Nat.mod_lt _ (by norm_num)⟩

/-- Two rows of 512 lanes beside each other. -/
def joined (a y : Fin 512 → EReal) (k : Fin 1024) : EReal :=
  if h : k.val < 512 then a ⟨k.val, h⟩ else y ⟨k.val - 512, by omega⟩

/-- Rows `k` and `512 + k` of the weights. -/
abbrev low (k : Fin 512) : Fin 1024 := ⟨k.val, by omega⟩
abbrev high (k : Fin 512) : Fin 1024 := ⟨512 + k.val, by omega⟩

/-- The joined row times the weights is the sum of the two rows' products with their halves of the weights. -/
theorem rowMul_joined (a y : Fin 512 → EReal) (w : Fin 1024 → Fin 1024 → EReal) (j : Fin 1024) :
    TailSpec.rowMul (joined a y) w j = ∑ k, a k * w (low k) j + ∑ k, y k * w (high k) j := by
  unfold TailSpec.rowMul
  refine (Fin.sum_univ_add (a := 512) (b := 512) fun k : Fin 1024 => joined a y k * w k j).trans ?_
  refine congrArg₂ (· + ·) (Finset.sum_congr rfl fun k _ => congrArg (· * _) ?_) (Finset.sum_congr rfl fun k _ => congrArg (· * _) ?_)
  · exact dif_pos k.isLt
  · refine (dif_neg (by show ¬ 512 + k.val < 512; omega)).trans (congrArg y (Fin.ext ?_))
    show 512 + k.val - 512 = k.val
    omega

end GlaSpec

end
-- ==== Proof.GlaValue.lean ====
/-
  The recurrence's output and its projection, entry by entry, at ideal arithmetic.
-/
module

public import proofs.«01_k».proof.Proof.GlaBlock
public import proofs.«01_k».proof.Proof.GlaSpec

@[expose] public section

set_option maxRecDepth 16384

noncomputable section

namespace Gla

open Idealize.ShloMosaic Flash

variable (h : Fits)

/-- The norm at an entry. -/
theorem norm_apply (o : FVec Ideal (Mat 512 128) .f32) (g : FVec Ideal (Mat 1 128) .f32) (r : Fin 512) (d : Fin 128) :
    norm h o g (ix2 r d) = GlaSpec.rms (fun c => o (ix2 r c)) (fun c => g (ix2 0 c)) d := by
  have hred := h.red
  have hcol := h.col
  have hbc := h.bcCol
  have hbr := h.bcRow
  pointwise [norm, GlaSpec.rms]

/-- The gate at an entry. -/
theorem gate_apply (v : FVec Ideal (Mat 512 128) .f32) (r : Fin 512) (d : Fin 128) :
    gate v (ix2 r d) = TailSpec.silu (v (ix2 r d)) := by
  unfold TailSpec.silu
  rw [← zero_sub, ← Ideal.ofBits_zero .f32]
  rfl

/-- A head at an entry. -/
theorem head_apply (o : FVec Ideal (Mat 512 512) .f32) (gt : Vec Ideal (Mat 512 512) .bf16) (g : FVec Ideal (Mat 1 128) .f32) (k : Fin 4)
    (r : Fin 512) (l : Fin 128) : head h o gt g k (ix2 r l)
      = GlaSpec.head (fun c => o (ix2 r c)) (fun c => gt (ix2 r c)) (fun c => g (ix2 0 c)) k l := by
  show norm h (extractStridedSlice (Mat 512 128) ![0, 128 * k.val] o (h.slice k)) g (ix2 r l) * gate _ (ix2 r l) = _
  rw [norm_apply, gate_apply]
  unfold GlaSpec.head
  have eo : (fun c => extractStridedSlice (Mat 512 128) ![0, 128 * k.val] o (h.slice k) (ix2 r c)) = fun c => o (ix2 r (GlaSpec.lane k c)) :=
    funext fun c => congrArg o (funext fun a => Fin.ext (by
      match a with
      | ⟨0, _⟩ => show 0 + r.val = r.val; omega
      | ⟨1, _⟩ => rfl))
  have eg : View.ld gt (Rect.unit (s := Mat 512 512) ![0, 128 * k.val] (Mat 512 128).size (inb_head k)) (ix2 r l)
      = gt (ix2 r (GlaSpec.lane k l)) := congrArg gt (funext fun a => Fin.ext (by
      match a with
      | ⟨0, _⟩ => show 0 + 1 * r.val = r.val; omega
      | ⟨1, _⟩ => show 128 * k.val + 1 * l.val = 128 * k.val + l.val; omega))
  rw [eo]
  exact congrArg (_ * TailSpec.silu ·) eg

/-- The heads at an entry. -/
theorem heads_apply (o : FVec Ideal (Mat 512 512) .f32) (gt : Vec Ideal (Mat 512 512) .bf16) (g : FVec Ideal (Mat 1 128) .f32)
    (r k : Fin 512) : heads h o gt g (ix2 r k)
      = GlaSpec.heads (fun c => o (ix2 r c)) (fun c => gt (ix2 r c)) (fun c => g (ix2 0 c)) k := by
  unfold heads
  refine (concatenate_ofFn_apply (t := Mat 512 512) 1 (fun n : Fin 4 => head h o gt g n) h.cat rfl 128 rfl (ix2 r k) ⟨k.val / 128, by omega⟩ rfl
    (ix2 r ⟨k.val % 128, Nat.mod_lt _ (by norm_num)⟩) rfl (fun b hb => by
      match b with
      | ⟨0, _⟩ => rfl
      | ⟨1, _⟩ => exact absurd rfl hb)).trans ?_
  rw [head_apply]
  rfl

/-- The projection at an entry. -/
theorem project_apply (x : FVec Ideal (Mat 512 512) .bf16) (w : Vec Ideal (Mat 1024 1024) .bf16) (c : ℕ) (hc : c ≤ 512) (r : Fin 512)
    (d : Fin 1024) : project h x w c hc (ix2 r d) = ∑ k : Fin 512, x (ix2 r k) * w (ix2 ⟨c + k.val, by omega⟩ d) := by
  have e := Ideal.matmul_plain_apply none x (shapeCast (Mat 512 1024)
    (View.ld w (Rect.unit (s := Mat 1024 1024) ![c, 0] (Mat 512 1024).size (inb_half c hc))) h.half : FVec Ideal (Mat 512 1024) .bf16)
    (constant (Mat 512 1024) .f32 0x00000000#32) r d
  simp only [← ix2_eq_valueIdx] at e
  refine e.trans ?_
  rw [show constant (F := Ideal) (Mat 512 1024) .f32 0x00000000#32 (ix2 r d) = 0 from by pointwise, zero_add]
  refine Finset.sum_congr rfl fun k _ => ?_
  rw [shapeCast_apply _ h.half (ix2 k d) (ix2 k d) rfl]
  refine congrArg (x (ix2 r k) * ·) (congrArg w (funext fun a => Fin.ext ?_))
  match a with
  | ⟨0, _⟩ => show c + 1 * k.val = c + k.val; omega
  | ⟨1, _⟩ => show 0 + 1 * d.val = d.val; omega

/-- **The mixer's output**, row by row: the attention's lanes and the heads, joined, times the weights. -/
theorem mixed_apply (a : FVec Ideal (Mat 512 512) .bf16) (o : FVec Ideal (Mat 512 512) .f32) (gt : Vec Ideal (Mat 512 512) .bf16)
    (g : FVec Ideal (Mat 1 128) .f32) (w : Vec Ideal (Mat 1024 1024) .bf16) (r : Fin 512) (d : Fin 1024) :
    mixed h a o gt g w (ix2 r d) = TailSpec.rowMul (GlaSpec.joined (fun k => a (ix2 r k))
      (GlaSpec.heads (fun c => o (ix2 r c)) (fun c => gt (ix2 r c)) (fun c => g (ix2 0 c)))) (fun k j => w (ix2 k j)) d := by
  rw [GlaSpec.rowMul_joined]
  show project h a w 0 _ (ix2 r d) + project h (heads h o gt g) w 512 _ (ix2 r d) = _
  rw [project_apply, project_apply]
  refine congrArg₂ (· + ·) (Finset.sum_congr rfl fun k _ => ?_) (Finset.sum_congr rfl fun k _ => ?_)
  · refine congrArg (a (ix2 r k) * w ·) (congrArg (ix2 · d) (Fin.ext ?_))
    exact Nat.zero_add _
  · rw [heads_apply]

end Gla

end
-- ==== Proof.Tail3.lean ====
/-
  The kernel body of the first layer's end, for the sampled batch, is the block `Tail.tail` of the projected outputs of the
  attention and of the recurrence.
-/
module

public import proofs.«01_k».proof.Proof.TailBlock
public import proofs.«01_k».proof.Proof.GlaBlock
public import proofs.«01_k».proof.Proof.Gen.Kernel3Ideal.Frame

@[expose] public section

set_option maxRecDepth 16384

noncomputable section

namespace Cert.Kernel3Ideal.Block

open Cert.Kernel3Ideal Cert.Kernel3Ideal.Gen Idealize.ShloMosaic Flash Facts

variable {F : FTy → Type} [FloatOps F]

/-- The shape relations hold. -/
theorem fits : Tail.Fits :=
  ⟨bitsLt_bf16_f32, shapeCasts_S512x1024_S512x1024, shapeCasts_S1x1024_S1x1024, shapeCasts_S1x1x6144_S1x6144, reduces_S512x1024_S512,
    shapeCasts_S512_S512x1, broadcasts_S512x1_S512x1024, broadcasts_S1x1024_S512x1024, shapeCasts_S1024x256_S1024x256,
    shapeCasts_S256x1024_S256x1024, slices_S1x6144_o0_2048_S1x1024, slices_S1x6144_o0_3072_S1x1024, slices_S1x6144_o0_4096_S1x1024,
    slices_S1x6144_o0_5120_S1x1024⟩

theorem glaFits : Gla.Fits where
  bits := bitsLt_bf16_f32
  same := shapeCasts_S512x512_S512x512
  gain := shapeCasts_S1x128_S1x128
  half := shapeCasts_S512x1024_S512x1024
  red := reduces_S512x128_S512
  col := shapeCasts_S512_S512x1
  bcCol := broadcasts_S512x1_S512x128
  bcRow := broadcasts_S1x128_S512x128
  slice k := by
    match k with
    | 0 => exact slices_S512x512_o0_0_S512x128
    | 1 => exact slices_S512x512_o0_128_S512x128
    | 2 => exact slices_S512x512_o0_256_S512x128
    | 3 => exact slices_S512x512_o0_384_S512x128
  cat := concatenates_S512x128_S512x128_S512x128_S512x128_S512x512_d1

/-- The attention's output block, the two directions' outputs added, and the recurrence's gain, as the body loads them. -/
def att (x : Vec F S512x512 .bf16) : FVec F S512x512 .bf16 := shapeCast S512x512 (View.ld x r0_1) shapeCasts_S512x512_S512x512
def both (f b : Vec F S512x512 .f32) : FVec F S512x512 .f32 :=
  addf (shapeCast S512x512 (View.ld f r0_1) shapeCasts_S512x512_S512x512) (shapeCast S512x512 (View.ld b r0_1) shapeCasts_S512x512_S512x512)
def gain (g : Vec F S1x128 .f32) : FVec F S1x128 .f32 := shapeCast S1x128 (View.ld g r0_3) shapeCasts_S1x128_S1x128

set_option maxHeartbeats 4000000 in
/-- The body's output block. -/
theorem out_eq (x0 : Vec F S512x512 .bf16) (x1 x2 : Vec F S512x512 .f32) (x3 : Vec F S512x512 .bf16) (x4 : Vec F S1x128 .f32)
    (x5 : Vec F S1024x1024 .bf16) (x6 : Vec F S512x1024 .f32) (x7 : Vec F S1x1x6144 .f32)
    (x8 : Vec F S4x1024 .f32) (x9 : Vec F S1024x5632 .bf16) (x10 : Vec F S2816x1024 .bf16) :
    out0_11 x0 x1 x2 x3 x4 x5 x6 x7 x8 x9 x10 = View.canon [⟨r0_9, Tail.tail fits (Gla.mixed glaFits (att x0) (both x1 x2) x3 (gain x4) x5)
      (shapeCast S512x1024 (View.ld x6 r0_9) shapeCasts_S512x1024_S512x1024)
      (shapeCast S1x6144 (View.ld x7 r0_0) shapeCasts_S1x1x6144_S1x6144) x8 x9 x10⟩] := rfl

end Cert.Kernel3Ideal.Block

end
-- ==== Proof.Array3.lean ====
/-
  The result array of the first layer's end for the sampled batch, entry by entry.
-/
module

public import proofs.«01_k».proof.Proof.TailValue
public import proofs.«01_k».proof.Proof.GlaValue
public import proofs.«01_k».proof.Proof.Tail3
public import proofs.«01_k».proof.Proof.Gen.Kernel3Ideal.Value

@[expose] public section

set_option maxRecDepth 16384

noncomputable section

namespace Cert.Kernel3Ideal.Array

open Cert.Kernel3Ideal Cert.Kernel3Ideal.Gen Idealize.ShloMosaic Idealize.ShloMosaic.TcCoe Idealize.SL.Sem Facts
open Idealize.ShloMosaic.Pipeline (Dat)

variable (m : (ℓ : Loc nD τ sig) → Buf (Elt Ideal) ℓ) (ρ : Dev nD → PrngReg) (c : Dev nD)

/-! ## The arguments as functions of their coordinates -/

abbrev O (b : Fin 8) (n : Fin 4096) (k : Fin 512) : EReal := m ((c : Thread nD τ).loc main_arg0) (ix3 b n k)
abbrev Fw (b : Fin 8) (n : Fin 4096) (k : Fin 512) : EReal := m ((c : Thread nD τ).loc main_arg1) (ix3 b n k)
abbrev Bw (b : Fin 8) (n : Fin 4096) (k : Fin 512) : EReal := m ((c : Thread nD τ).loc main_arg2) (ix3 b n k)
abbrev Gt (b : Fin 8) (n : Fin 4096) (k : Fin 512) : EReal :=
  m ((c : Thread nD τ).loc main_arg3) (ix2 ⟨4096 * b.val + n.val, by omega⟩ k)
abbrev X (b : Fin 8) (n : Fin 4096) (k : Fin 1024) : EReal := m ((c : Thread nD τ).loc main_arg4) (ix3 b n k)
abbrev Md (l : Fin 2) (r : Fin 16) (k : Fin 6144) : EReal := m ((c : Thread nD τ).loc main_arg5) (ix3 l r k)
abbrev G (l : Fin 2) (j : Fin 4) (k : Fin 1024) : EReal := m ((c : Thread nD τ).loc main_arg6) (ix3 l j k)
abbrev Gg (k : Fin 128) : EReal := m ((c : Thread nD τ).loc main_arg7) (ix2 0 k)
abbrev Wm (k j : Fin 1024) : EReal := m ((c : Thread nD τ).loc main_arg8) (ix3 0 k j)
abbrev Wi (l : Fin 2) (k : Fin 1024) (j : Fin 5632) : EReal := m ((c : Thread nD τ).loc main_arg9) (ix3 l k j)
abbrev Wo (l : Fin 2) (k : Fin 2816) (j : Fin 1024) : EReal := m ((c : Thread nD τ).loc main_arg10) (ix3 l k j)

/-- The request of a row of all requests' rows, and its place in it. -/
abbrev req (R : Fin 32768) : Fin 8 := ⟨R.val / 4096, by omega⟩
abbrev tok (R : Fin 32768) : Fin 4096 := ⟨R.val % 4096, Nat.mod_lt _ (by norm_num)⟩

/-! ## What the host operations before the call leave -/

theorem host_o (R : Fin 32768) (k : Fin 512) : (V m c main_v4 : Vec Ideal S32768x512 .bf16) (ix2 R k) = O m c (req R) (tok R) k := by
  have e : (V m c main_v4 : Vec Ideal S32768x512 .bf16)
      = shapeCast S32768x512 (m ((c : Thread nD τ).loc main_arg0)) shapeCasts_S8x4096x512_S32768x512 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 512 + k.val = R.val * 512 + k.val
    omega)]

theorem host_f (R : Fin 32768) (k : Fin 512) : (V m c main_v0 : Vec Ideal S32768x512 .f32) (ix2 R k) = Fw m c (req R) (tok R) k := by
  have e : (V m c main_v0 : Vec Ideal S32768x512 .f32)
      = shapeCast S32768x512 (m ((c : Thread nD τ).loc main_arg1)) shapeCasts_S8x4096x512_S32768x512 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 512 + k.val = R.val * 512 + k.val
    omega)]

theorem host_b (R : Fin 32768) (k : Fin 512) : (V m c main_v1 : Vec Ideal S32768x512 .f32) (ix2 R k) = Bw m c (req R) (tok R) k := by
  have e : (V m c main_v1 : Vec Ideal S32768x512 .f32)
      = shapeCast S32768x512 (m ((c : Thread nD τ).loc main_arg2)) shapeCasts_S8x4096x512_S32768x512 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 512 + k.val = R.val * 512 + k.val
    omega)]

theorem host_gg (k : Fin 128) : (V m c main_v3 : Vec Ideal S1x128 .f32) (ix2 0 k) = Gg m c k := by
  have e : (V m c main_v3 : Vec Ideal S1x128 .f32) = broadcastInDim S1x128 ![1] bcast_S128_S1x128_1
      (shapeCast S128 (m ((c : Thread nD τ).loc main_arg7)) shapeCasts_S1x128_S128) := by
    unfold_abbrev_sides
    after_results
    rfl
  rw [e]
  show shapeCast S128 (m ((c : Thread nD τ).loc main_arg7)) shapeCasts_S1x128_S128 _ = _
  rw [shapeCast_apply _ _ _ (ix2 0 k) (by
    rw [Shape.rowMajor_val_two, Shape.rowMajor_val_one]
    exact Nat.zero_add k.val)]

theorem host_x (R : Fin 32768) (k : Fin 1024) : (V m c main_v10 : Vec Ideal S32768x1024 .f32) (ix2 R k) = X m c (req R) (tok R) k := by
  have e : (V m c main_v10 : Vec Ideal S32768x1024 .f32)
      = shapeCast S32768x1024 (m ((c : Thread nD τ).loc main_arg4)) shapeCasts_S8x4096x1024_S32768x1024 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 1024 + k.val = R.val * 1024 + k.val
    omega)]

theorem host_mod (l : Fin 2) (r : Fin 16) (k : Fin 6144) :
    (V m c main_v9 : Vec Ideal S32x1x6144 .f32) (ix3 ⟨16 * l.val + r.val, by omega⟩ 0 k) = Md m c l r k := by
  have e : (V m c main_v9 : Vec Ideal S32x1x6144 .f32)
      = shapeCast S32x1x6144 (m ((c : Thread nD τ).loc main_arg5)) shapeCasts_S2x16x6144_S32x1x6144 := by
    unfold_abbrev_sides
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (j : Fin 4) (k : Fin 1024) : (V m c main_v8 : Vec Ideal S4x1024 .f32) (ix2 j k) = G m c 0 j k := by
  have e : (V m c main_v8 : Vec Ideal S4x1024 .f32) = shapeCast S4x1024 (extractStridedSlice S1x4x1024 ![0, 0, 0]
      (m ((c : Thread nD τ).loc main_arg6)) slices_S2x4x1024_S1x4x1024_0_0_0) shapeCasts_S1x4x1024_S4x1024 := by
    unfold_abbrev_sides
    after_results
    rfl
  rw [e, shapeCast_apply _ _ (ix2 j k) (ix3 0 j k) (by
    rw [Shape.rowMajor_val_three, Shape.rowMajor_val_two]
    show (0 * 4 + j.val) * 1024 + k.val = j.val * 1024 + k.val
    omega)]
  refine congrArg (m ((c : Thread nD τ).loc main_arg6)) (funext fun a => Fin.ext ?_)
  match a with
  | ⟨0, _⟩ => rfl
  | ⟨1, _⟩ => show 0 + j.val = j.val; omega
  | ⟨2, _⟩ => show 0 + k.val = k.val; omega

theorem host_wm (k j : Fin 1024) : (V m c main_v6 : Vec Ideal S1024x1024 .bf16) (ix2 k j) = Wm m c k j := by
  have e : (V m c main_v6 : Vec Ideal S1024x1024 .bf16)
      = shapeCast S1024x1024 (truncf (F := Ideal) .bf16 (m ((c : Thread nD τ).loc main_arg8)) bitsLt_bf16_f32) shapeCasts_S1x1024x1024_S1024x1024 := by
    unfold_abbrev_sides
    after_results
    rfl
  rw [e, shapeCast_apply _ _ (ix2 k j) (ix3 0 k j) (by
    rw [Shape.rowMajor_val_three, Shape.rowMajor_val_two]
    show (0 * 1024 + k.val) * 1024 + j.val = k.val * 1024 + j.val
    omega)]
  rfl

theorem host_wi (k : Fin 1024) (j : Fin 5632) : (V m c main_v13 : Vec Ideal S1024x5632 .bf16) (ix2 k j) = Wi m c 0 k j := by
  have e : (V m c main_v13 : Vec Ideal S1024x5632 .bf16) = shapeCast S1024x5632 (extractStridedSlice S1x1024x5632 ![0, 0, 0]
      (truncf (F := Ideal) .bf16 (m ((c : Thread nD τ).loc main_arg9)) bitsLt_bf16_f32) slices_S2x1024x5632_S1x1024x5632_0_0_0)
      shapeCasts_S1x1024x5632_S1024x5632 := by
    unfold_abbrev_sides
    after_results
    rfl
  rw [e, shapeCast_apply _ _ (ix2 k j) (ix3 0 k j) (by
    rw [Shape.rowMajor_val_three, Shape.rowMajor_val_two]
    show (0 * 1024 + k.val) * 5632 + j.val = k.val * 5632 + j.val
    omega)]
  refine congrArg (m ((c : Thread nD τ).loc main_arg9)) (funext fun a => Fin.ext ?_)
  match a with
  | ⟨0, _⟩ => rfl
  | ⟨1, _⟩ => show 0 + k.val = k.val; omega
  | ⟨2, _⟩ => show 0 + j.val = j.val; omega

theorem host_wo (k : Fin 2816) (j : Fin 1024) : (V m c main_v16 : Vec Ideal S2816x1024 .bf16) (ix2 k j) = Wo m c 0 k j := by
  have e : (V m c main_v16 : Vec Ideal S2816x1024 .bf16) = shapeCast S2816x1024 (extractStridedSlice S1x2816x1024 ![0, 0, 0]
      (truncf (F := Ideal) .bf16 (m ((c : Thread nD τ).loc main_arg10)) bitsLt_bf16_f32) slices_S2x2816x1024_S1x2816x1024_0_0_0)
      shapeCasts_S1x2816x1024_S2816x1024 := by
    unfold_abbrev_sides
    after_results
    rfl
  rw [e, shapeCast_apply _ _ (ix2 k j) (ix3 0 k j) (by
    rw [Shape.rowMajor_val_three, Shape.rowMajor_val_two]
    show (0 * 2816 + k.val) * 1024 + j.val = k.val * 1024 + j.val
    omega)]
  refine congrArg (m ((c : Thread nD τ).loc main_arg10)) (funext fun a => Fin.ext ?_)
  match a with
  | ⟨0, _⟩ => rfl
  | ⟨1, _⟩ => show 0 + k.val = k.val; omega
  | ⟨2, _⟩ => show 0 + j.val = j.val; omega

/-! ## The blocks -/

/-- Which block of each array a grid point stages. -/
theorem index_eq : ∀ t : Fin grid0.N,
    (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0)
    ∧ (win0_7.index t 0 = 1 + t.val / 8 ∧ win0_7.index t 1 = 0 ∧ win0_7.index t 2 = 0)
    ∧ (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = t.val ∧ win0_11.index t 1 = 0) := by
  decide +kernel

/-- The number of grid points. -/
theorem lt_N (t : Fin cfg0.N) : t.val < 64 := t.isLt

/-- Row `r` of point `t`'s block among all rows, and its modulation's row. -/
abbrev rowAt (t : Fin cfg0.N) (r : Fin 512) : Fin 32768 := ⟨512 * t.val + r.val, by have := lt_N t; omega⟩
abbrev modAt (R : Fin 32768) : Fin 16 := ⟨1 + R.val / 4096, by omega⟩

theorem blk0 (t : Fin cfg0.N) (r : Fin 512) (k : Fin 512) :
    (iblk m c 0 t : Vec Ideal S512x512 .bf16) (ix2 r k) = O m c (req (rowAt t r)) (tok (rowAt t r)) k := by
  obtain ⟨i0, i1⟩ := (index_eq t).1
  rw [← host_o]
  unfold iblk
  rw [View.read_apply]
  show V m c main_v4 _ = V m c main_v4 _
  refine congrArg (V m c main_v4) (funext fun a => Fin.ext ?_)
  match a with
  | ⟨0, _⟩ => show win0_0.index t 0 * 512 + 1 * r.val = 512 * t.val + r.val; rw [i0]; omega
  | ⟨1, _⟩ => show win0_0.index t 1 * 512 + 1 * k.val = k.val; rw [i1]; omega

theorem blk1 (t : Fin cfg0.N) (r : Fin 512) (k : Fin 512) :
    (iblk m c 1 t : Vec Ideal S512x512 .f32) (ix2 r k) = Fw m c (req (rowAt t r)) (tok (rowAt t r)) k := by
  obtain ⟨i0, i1⟩ := (index_eq t).2.1
  rw [← host_f]
  unfold iblk
  rw [View.read_apply]
  show V m c main_v0 _ = V m c main_v0 _
  refine congrArg (V m c main_v0) (funext fun a => Fin.ext ?_)
  match a with
  | ⟨0, _⟩ => show win0_1.index t 0 * 512 + 1 * r.val = 512 * t.val + r.val; rw [i0]; omega
  | ⟨1, _⟩ => show win0_1.index t 1 * 512 + 1 * k.val = k.val; rw [i1]; omega

theorem blk2 (t : Fin cfg0.N) (r : Fin 512) (k : Fin 512) :
    (iblk m c 2 t : Vec Ideal S512x512 .f32) (ix2 r k) = Bw m c (req (rowAt t r)) (tok (rowAt t r)) k := by
  obtain ⟨i0, i1⟩ := (index_eq t).2.2.1
  rw [← host_b]
  unfold iblk
  rw [View.read_apply]
  show V m c main_v1 _ = V m c main_v1 _
  refine congrArg (V m c main_v1) (funext fun a => Fin.ext ?_)
  match a with
  | ⟨0, _⟩ => show win0_2.index t 0 * 512 + 1 * r.val = 512 * t.val + r.val; rw [i0]; omega
  | ⟨1, _⟩ => show win0_2.index t 1 * 512 + 1 * k.val = k.val; rw [i1]; omega

theorem blk3 (t : Fin cfg0.N) (r : Fin 512) (k : Fin 512) :
    (iblk m c 3 t : Vec Ideal S512x512 .bf16) (ix2 r k) = Gt m c (req (rowAt t r)) (tok (rowAt t r)) k := by
  obtain ⟨i0, i1⟩ := (index_eq t).2.2.2.1
  unfold iblk
  rw [View.read_apply]
  show m ((c : Thread nD τ).loc main_arg3) _ = m ((c : Thread nD τ).loc main_arg3) _
  refine congrArg (m ((c : Thread nD τ).loc main_arg3)) (funext fun a => Fin.ext ?_)
  match a with
  | ⟨0, _⟩ => show win0_3.index t 0 * 512 + 1 * r.val = 4096 * ((512 * t.val + r.val) / 4096) + (512 * t.val + r.val) % 4096; rw [i0]; omega
  | ⟨1, _⟩ => show win0_3.index t 1 * 512 + 1 * k.val = k.val; rw [i1]; omega

theorem blk4 (t : Fin cfg0.N) (k : Fin 128) : (iblk m c 4 t : Vec Ideal S1x128 .f32) (ix2 0 k) = Gg m c k := by
  obtain ⟨i0, i1⟩ := (index_eq t).2.2.2.2.1
  rw [← host_gg]
  unfold iblk
  rw [View.read_apply]
  show V m c main_v3 _ = V m c main_v3 _
  refine congrArg (V m c main_v3) (funext fun a => Fin.ext ?_)
  match a with
  | ⟨0, _⟩ => show win0_4.index t 0 * 1 + 1 * 0 = 0; rw [i0]
  | ⟨1, _⟩ => show win0_4.index t 1 * 128 + 1 * k.val = k.val; rw [i1]; omega

theorem blk5 (t : Fin cfg0.N) (k j : Fin 1024) : (iblk m c 5 t : Vec Ideal S1024x1024 .bf16) (ix2 k j) = Wm m c k j := by
  obtain ⟨i0, i1⟩ := (index_eq t).2.2.2.2.2.1
  rw [← host_wm]
  unfold iblk
  rw [View.read_apply]
  show V m c main_v6 _ = V m c main_v6 _
  refine congrArg (V m c main_v6) (funext fun a => Fin.ext ?_)
  match a with
  | ⟨0, _⟩ => show win0_5.index t 0 * 1024 + 1 * k.val = k.val; rw [i0]; omega
  | ⟨1, _⟩ => show win0_5.index t 1 * 1024 + 1 * j.val = j.val; rw [i1]; omega

theorem blk6 (t : Fin cfg0.N) (r : Fin 512) (k : Fin 1024) :
    (iblk m c 6 t : Vec Ideal S512x1024 .f32) (ix2 r k) = X m c (req (rowAt t r)) (tok (rowAt t r)) k := by
  obtain ⟨i0, i1⟩ := (index_eq t).2.2.2.2.2.2.1
  rw [← host_x]
  unfold iblk
  rw [View.read_apply]
  show V m c main_v10 _ = V m c main_v10 _
  refine congrArg (V m c main_v10) (funext fun a => Fin.ext ?_)
  match a with
  | ⟨0, _⟩ => show win0_6.index t 0 * 512 + 1 * r.val = 512 * t.val + r.val; rw [i0]; omega
  | ⟨1, _⟩ => show win0_6.index t 1 * 1024 + 1 * k.val = k.val; rw [i1]; omega

theorem blk7 (t : Fin cfg0.N) (r : Fin 512) (k : Fin 6144) :
    (iblk m c 7 t : Vec Ideal S1x1x6144 .f32) (ix3 0 0 k) = Md m c 0 (modAt (rowAt t r)) k := by
  obtain ⟨i0, i1, i2⟩ := (index_eq t).2.2.2.2.2.2.2.1
  have := lt_N t
  rw [← host_mod]
  unfold iblk
  rw [View.read_apply]
  show V m c main_v9 _ = V m c main_v9 _
  refine congrArg (V m c main_v9) (funext fun a => Fin.ext ?_)
  match a with
  | ⟨0, _⟩ => show win0_7.index t 0 * 1 + 1 * 0 = 16 * 0 + (1 + (512 * t.val + r.val) / 4096); rw [i0] <;> omega
  | ⟨1, _⟩ => show win0_7.index t 1 * 1 + 1 * 0 = 0; rw [i1]
  | ⟨2, _⟩ => show win0_7.index t 2 * 6144 + 1 * k.val = k.val; rw [i2]; omega

theorem blk8 (t : Fin cfg0.N) (j : Fin 4) (k : Fin 1024) : (iblk m c 8 t : Vec Ideal S4x1024 .f32) (ix2 j k) = G m c 0 j k := by
  obtain ⟨i0, i1⟩ := (index_eq t).2.2.2.2.2.2.2.2.1
  rw [← host_g]
  unfold iblk
  rw [View.read_apply]
  show V m c main_v8 _ = V m c main_v8 _
  refine congrArg (V m c main_v8) (funext fun a => Fin.ext ?_)
  match a with
  | ⟨0, _⟩ => show win0_8.index t 0 * 4 + 1 * j.val = j.val; rw [i0]; omega
  | ⟨1, _⟩ => show win0_8.index t 1 * 1024 + 1 * k.val = k.val; rw [i1]; omega

theorem blk9 (t : Fin cfg0.N) (k : Fin 1024) (j : Fin 5632) :
    (iblk m c 9 t : Vec Ideal S1024x5632 .bf16) (ix2 k j) = Wi m c 0 k j := by
  obtain ⟨i0, i1⟩ := (index_eq t).2.2.2.2.2.2.2.2.2.1
  rw [← host_wi]
  unfold iblk
  rw [View.read_apply]
  show V m c main_v13 _ = V m c main_v13 _
  refine congrArg (V m c main_v13) (funext fun a => Fin.ext ?_)
  match a with
  | ⟨0, _⟩ => show win0_9.index t 0 * 1024 + 1 * k.val = k.val; rw [i0]; omega
  | ⟨1, _⟩ => show win0_9.index t 1 * 5632 + 1 * j.val = j.val; rw [i1]; omega

theorem blk10 (t : Fin cfg0.N) (k : Fin 2816) (j : Fin 1024) :
    (iblk m c 10 t : Vec Ideal S2816x1024 .bf16) (ix2 k j) = Wo m c 0 k j := by
  obtain ⟨i0, i1⟩ := (index_eq t).2.2.2.2.2.2.2.2.2.2.1
  rw [← host_wo]
  unfold iblk
  rw [View.read_apply]
  show V m c main_v16 _ = V m c main_v16 _
  refine congrArg (V m c main_v16) (funext fun a => Fin.ext ?_)
  match a with
  | ⟨0, _⟩ => show win0_10.index t 0 * 2816 + 1 * k.val = k.val; rw [i0]; omega
  | ⟨1, _⟩ => show win0_10.index t 1 * 1024 + 1 * j.val = j.val; rw [i1]; omega

/-! ## The result -/

/-- The mixer's row before the output projection: the attention's lanes, then the recurrence's heads. -/
def mixer (R : Fin 32768) : Fin 1024 → EReal :=
  GlaSpec.joined (O m c (req R) (tok R)) (GlaSpec.heads (fun k => Fw m c (req R) (tok R) k + Bw m c (req R) (tok R) k) (Gt m c (req R) (tok R)) (Gg m c))

/-- Entry `(R, d)` of the result, from the arguments: the specification's row. -/
def entry (R : Fin 32768) (d : Fin 1024) : EReal :=
  TailSpec.tail (TailSpec.rowMul (mixer m c R) (Wm m c)) (X m c (req R) (tok R)) (Md m c 0 (modAt R)) (G m c 0) (Wi m c 0) (Wo m c 0) d

/-- The result array. -/
def res : Buf (Elt Ideal) ((c : Thread nD τ).loc main_v17) := fun i : S32768x1024.Idx => entry m c (i 0) (i 1)

/-- The body's block, from the blocks it is given. -/
theorem out_apply (x0 : Vec Ideal S512x512 .bf16) (x1 x2 : Vec Ideal S512x512 .f32) (x3 : Vec Ideal S512x512 .bf16) (x4 : Vec Ideal S1x128 .f32)
    (x5 : Vec Ideal S1024x1024 .bf16) (x6 : Vec Ideal S512x1024 .f32) (x7 : Vec Ideal S1x1x6144 .f32)
    (x8 : Vec Ideal S4x1024 .f32) (x9 : Vec Ideal S1024x5632 .bf16) (x10 : Vec Ideal S2816x1024 .bf16) (r : Fin 512) (d : Fin 1024) :
    out0_11 x0 x1 x2 x3 x4 x5 x6 x7 x8 x9 x10 (ix2 r d) = TailSpec.tail (TailSpec.rowMul (GlaSpec.joined (fun k => x0 (ix2 r k))
        (GlaSpec.heads (fun k => x1 (ix2 r k) + x2 (ix2 r k)) (fun k => x3 (ix2 r k)) (fun k => x4 (ix2 0 k)))) (fun k j => x5 (ix2 k j)))
      (fun k => x6 (ix2 r k)) (fun k => x7 (ix3 0 0 k)) (fun j k => x8 (ix2 j k)) (fun k j => x9 (ix2 k j)) (fun k j => x10 (ix2 k j)) d := by
  rw [Block.out_eq, show (ix2 r d : S512x1024.Idx) = r0_9.emb (ix2 r d) from funext fun a => Fin.ext (by
    match a with
    | ⟨0, _⟩ => show r.val = 0 + 1 * r.val; omega
    | ⟨1, _⟩ => show d.val = 0 + 1 * d.val; omega), View.canon_cons_emb]
  rw [show ∀ out x mod, Tail.tail Block.fits out x mod x8 x9 x10 (ix2 r d) = _ from fun out x mod =>
    Tail.tail_apply Block.fits out x mod x8 x9 x10 r d]
  have ea : (fun k => Block.att x0 (ix2 r k)) = fun k => x0 (ix2 r k) := funext fun k => by pointwise [Block.att]
  have eb : (fun k => Block.both x1 x2 (ix2 r k)) = fun k => x1 (ix2 r k) + x2 (ix2 r k) := funext fun k => by pointwise [Block.both]
  have eg : (fun k => Block.gain x4 (ix2 0 k)) = fun k => x4 (ix2 0 k) := funext fun k => by pointwise [Block.gain]
  have e0 : (fun k => Gla.mixed Block.glaFits (Block.att x0) (Block.both x1 x2) x3 (Block.gain x4) x5 (ix2 r k)) = _ :=
    funext fun k => Gla.mixed_apply Block.glaFits (Block.att x0) (Block.both x1 x2) x3 (Block.gain x4) x5 r k
  have e1 : (fun k => shapeCast S512x1024 (View.ld x6 r0_9) shapeCasts_S512x1024_S512x1024 (ix2 r k)) = fun k => x6 (ix2 r k) :=
    funext fun k => by pointwise
  have e2 : (fun k => shapeCast S1x6144 (View.ld x7 r0_0) shapeCasts_S1x1x6144_S1x6144 (ix2 0 k)) = fun k => x7 (ix3 0 0 k) :=
    funext fun k => by pointwise
  rw [e0, ea, eb, eg, e1, e2]

/-- Every point writes back its block of the result array. -/
theorem flushed_eq (t : Fin cfg0.N) : (dats m 0 c).flushed 11 t = ((cfg0.win 11).blk t).view.read (Elt Ideal) (res m c) := by
  rw [Value.flushed11]
  refine funext fun j : S512x1024.Idx => ?_
  obtain ⟨r, d, rfl⟩ : ∃ (r : Fin 512) (d : Fin 1024), j = ix2 r d :=
    ⟨j 0, j 1, funext fun a => by match a with | ⟨0, _⟩ => rfl | ⟨1, _⟩ => rfl⟩
  obtain ⟨i0, i1⟩ := (index_eq t).2.2.2.2.2.2.2.2.2.2.2
  have e : ((cfg0.win 11).blk t).view.read (Elt Ideal) (res m c) (ix2 r d : S512x1024.Idx) = entry m c (rowAt t r) d := by
    rw [View.read_apply]
    show entry m c _ _ = _
    refine congrArg₂ (entry m c) (Fin.ext ?_) (Fin.ext ?_)
    · show win0_11.index t 0 * 512 + 1 * r.val = 512 * t.val + r.val; rw [i0]; omega
    · show win0_11.index t 1 * 1024 + 1 * d.val = d.val; rw [i1]; omega
  rw [e]
  show out0_11 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (ix2 r d) = _
  rw [out_apply (iblk m c 0 t) (iblk m c 1 t) (iblk m c 2 t) (iblk m c 3 t) (iblk m c 4 t) (iblk m c 5 t) (iblk m c 6 t) (iblk m c 7 t) (iblk m c 8 t)
    (iblk m c 9 t) (iblk m c 10 t)]
  simp only [blk0, blk1, blk2, blk3, blk4, blk5, blk6, blk7 m c t r, blk8, blk9, blk10]
  rfl

/-- The blocks cover the array, so it ends holding the result. -/
theorem final : (dats m 0 c).arrAt 11 cfg0.N = res m c :=
  (dats m 0 c).arrAt_eq_of_cover 11 (res m c) (fun t _ => flushed_eq m c t) fun i => by
    have h0 : (i 0 : Nat) < 32768 := (i 0).isLt
    have h1 : (i 1 : Nat) < 1024 := (i 1).isLt
    let t : Fin cfg0.N := ⟨(i 0 : Nat) / 512, by show _ < 64; omega⟩
    obtain ⟨i0, i1⟩ := (index_eq t).2.2.2.2.2.2.2.2.2.2.2
    have tv : t.val = (i 0 : Nat) / 512 := rfl
    refine ⟨t, flush0_11 t, ?_⟩
    show i ∈ ((View.whole main_v17).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [i0]; omega
    | ⟨1, _⟩ =>
      show win0_11.index t 1 * 1024 ≤ (i 1 : Nat) ∧ (i 1 : Nat) < win0_11.index t 1 * 1024 + 1024
      rw [i1]; omega

end Cert.Kernel3Ideal.Array

end
-- ==== Proof.RefTail3.lean ====
/-
  The reference's result at the layer's end of the first layer, for the sampled batch, entry by entry.
-/
module

public import Idealize.ShloMosaic.Lib.Pointwise.Index
public import Idealize.ShloMosaic.PureOps.Ideal.Laws
public import proofs.«01_k».proof.Proof.TailSpec
public import proofs.«01_k».proof.Proof.GlaSpec
public import Idealize.ShloMosaic.Lib.Pipeline.Value
public import proofs.«01_k».proof.Proof.Gen.Reference3Ideal.Read

@[expose] public section

set_option maxRecDepth 16384

noncomputable section

namespace Cert.Reference3Ideal.Tail

open Cert.Reference3Ideal Cert.Reference3Ideal.Gen Cert.Reference3Ideal.Read Idealize.ShloMosaic Idealize.SL.Sem

/-- Indices of two, and of three, coordinates are equal when the coordinates are. -/
theorem ext2 {n : Fin 2 → ℕ} {i j : (⟨2, n⟩ : Shape).Idx} (h0 : (i 0).val = (j 0).val) (h1 : (i 1).val = (j 1).val) : i = j := by
  funext a
  apply Fin.ext
  match a with
  | ⟨0, _⟩ => exact h0
  | ⟨1, _⟩ => exact h1

theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

variable (x0 : Vec Ideal S8x4096x512 .bf16) (x1 x2 : Vec Ideal S8x4096x512 .f32) (x3 : Vec Ideal S32768x512 .bf16) (x4 : Vec Ideal S8x4096x1024 .f32)
  (x5 : Vec Ideal S2x16x6144 .f32) (x6 : Vec Ideal S2x4x1024 .f32) (x7 : Vec Ideal S1x128 .f32) (x8 : Vec Ideal S1x1024x1024 .f32)
  (x9 : Vec Ideal S2x1024x5632 .f32) (x10 : Vec Ideal S2x2816x1024 .f32)

theorem ext4 {n : Fin 4 → ℕ} {i j : (⟨4, n⟩ : Shape).Idx} (h0 : (i 0).val = (j 0).val) (h1 : (i 1).val = (j 1).val)
    (h2 : (i 2).val = (j 2).val) (h3 : (i 3).val = (j 3).val) : i = j := by
  funext a
  apply Fin.ext
  match a with
  | ⟨0, _⟩ => exact h0
  | ⟨1, _⟩ => exact h1
  | ⟨2, _⟩ => exact h2
  | ⟨3, _⟩ => exact h3

/-! ## The recurrence's output -/

/-- The two directions added, and the gate, by request and place; the gain. -/
abbrev both (b : Fin 8) (n : Fin 4096) (k : Fin 512) : EReal := x1 (ix3 b n k) + x2 (ix3 b n k)
abbrev gateRow (b : Fin 8) (n : Fin 4096) (k : Fin 512) : EReal := x3 (ix2 ⟨4096 * b.val + n.val, by omega⟩ k)
abbrev glaGain (k : Fin 128) : EReal := x7 (ix2 0 k)

theorem both_apply (b : Fin 8) (n : Fin 4096) (h : Fin 4) (l : Fin 128) :
    val_main_v1 (F := Ideal) x1 x2 (ix4 b n h l) = both x1 x2 b n (GlaSpec.lane h l) := by
  have e : idx_main_v1 (ix4 b n h l) = ix3 b n (GlaSpec.lane h l) := ext3
    (by show (((b.val * 4096 + n.val) * 4 + h.val) * 128 + l.val) / 2097152 = b.val; omega)
    (by show (((b.val * 4096 + n.val) * 4 + h.val) * 128 + l.val) / 512 % 4096 = n.val; omega)
    (by show (((b.val * 4096 + n.val) * 4 + h.val) * 128 + l.val) % 512 = 128 * h.val + l.val; omega)
  rw [val_main_v1_apply, e]
  rfl

theorem gate_apply (b : Fin 8) (n : Fin 4096) (h : Fin 4) (l : Fin 128) :
    val_main_v17 (F := Ideal) x3 (ix4 b n h l) = gateRow x3 b n (GlaSpec.lane h l) := by
  have e : idx_main_v17 (ix4 b n h l) = ix2 ⟨4096 * b.val + n.val, by omega⟩ (GlaSpec.lane h l) := ext2
    (by show (((b.val * 4096 + n.val) * 4 + h.val) * 128 + l.val) / 512 = 4096 * b.val + n.val; omega)
    (by show (((b.val * 4096 + n.val) * 4 + h.val) * 128 + l.val) % 512 = 128 * h.val + l.val; omega)
  rw [val_main_v17_apply, e]
  rfl

/-- The gate times its logistic. -/
theorem silu_apply (b : Fin 8) (n : Fin 4096) (h : Fin 4) (l : Fin 128) :
    val_main_v18 (F := Ideal) x3 (ix4 b n h l) = TailSpec.silu (gateRow x3 b n (GlaSpec.lane h l)) := by
  rw [val_main_v18_apply, val_main_call0_v5_apply, val_main_call0_v4_apply, val_main_call0_cst_0_apply, val_main_call0_v3_apply,
    val_main_call0_v2_apply, val_main_call0_cst_apply, val_main_call0_v1_apply, val_main_call0_v0_apply, gate_apply]
  rfl

/-- The heads' norm. -/
theorem headNorm_apply (b : Fin 8) (n : Fin 4096) (h : Fin 4) (l : Fin 128) :
    val_main_v15 (F := Ideal) x1 x2 x7 (ix4 b n h l) = GlaSpec.rms (fun c => both x1 x2 b n (GlaSpec.lane h c)) (glaGain x7) l := by
  have es : val_main_v4 (F := Ideal) x1 x2 (ix3 b n h)
      = ∑ k, both x1 x2 b n (GlaSpec.lane h k) * both x1 x2 b n (GlaSpec.lane h k) := by
    rw [val_main_v4_apply, val_main_cst_apply]
    show Ideal.ofBits .f32 0x00000000#32 + _ = _
    rw [Ideal.ofBits_zero_f32, zero_add]
    refine Finset.sum_congr rfl fun k _ => ?_
    rw [show idx_main_v4 (ix3 b n h) k = ix4 b n h k from ext4 rfl rfl rfl rfl, val_main_v3_apply, both_apply]
    rfl
  have eg : val_main_v14 (F := Ideal) x7 (ix4 b n h l) = glaGain x7 l := by
    rw [val_main_v14_apply, val_main_v13_apply, val_main_v2_apply]
    refine congrArg x7 (ext2 rfl ?_)
    show l.val % 128 = l.val
    omega
  rw [val_main_v15_apply, eg, val_main_v12_apply, both_apply, val_main_v11_apply, val_main_v10_apply, val_main_v9_apply, val_main_v7_apply,
    val_main_v5_apply, val_main_v6_apply, val_main_v8_apply, val_main_cst_0_apply, val_main_cst_1_apply,
    show idx_main_v5 (idx_main_v11 (ix4 b n h l)) = ix3 b n h from ext3 rfl rfl rfl, es]
  rfl

/-- The heads beside each other. -/
theorem heads_apply (b : Fin 8) (n : Fin 4096) (k : Fin 512) : val_main_v21 (F := Ideal) x1 x2 x3 x7 (ix3 b n k)
    = GlaSpec.heads (both x1 x2 b n) (gateRow x3 b n) (glaGain x7) k := by
  have e : idx_main_v21 (ix3 b n k) = ix4 b n ⟨k.val / 128, by omega⟩ ⟨k.val % 128, Nat.mod_lt _ (by norm_num)⟩ := ext4
    (by show ((b.val * 4096 + n.val) * 512 + k.val) / 2097152 = b.val; omega)
    (by show ((b.val * 4096 + n.val) * 512 + k.val) / 512 % 4096 = n.val; omega)
    (by show ((b.val * 4096 + n.val) * 512 + k.val) / 128 % 4 = k.val / 128; omega)
    (by show ((b.val * 4096 + n.val) * 512 + k.val) % 128 = k.val % 128; omega)
  rw [val_main_v21_apply, e, val_main_v19_apply, headNorm_apply, silu_apply]
  rfl

/-! ## The mixer's output -/

/-- The mixer's row before the output projection: the attention's lanes, then the recurrence's heads. -/
abbrev mixer (b : Fin 8) (n : Fin 4096) : Fin 1024 → EReal :=
  GlaSpec.joined (fun k => x0 (ix3 b n k)) (GlaSpec.heads (both x1 x2 b n) (gateRow x3 b n) (glaGain x7))

theorem mixer_apply (b : Fin 8) (n : Fin 4096) (k : Fin 1024) :
    val_main_v22 (F := Ideal) x0 x1 x2 x3 x7 (ix3 b n k) = mixer x0 x1 x2 x3 x7 b n k := by
  unfold mixer GlaSpec.joined
  unfold val_main_v22
  split
  · next hk =>
    refine (concatenate_pair_apply_left (t := S8x4096x1024) (s₁ := S8x4096x512) (s₂ := S8x4096x512) 2 (val_main_v20 (F := Ideal) x0)
      (val_main_v21 (F := Ideal) x1 x2 x3 x7) _ (ix3 b n k) rfl (ix3 b n ⟨k.val, hk⟩) fun a => by
        match a with | ⟨0, _⟩ => rfl | ⟨1, _⟩ => rfl | ⟨2, _⟩ => rfl).trans ?_
    rfl
  · next hk =>
    refine (concatenate_pair_apply_right (t := S8x4096x1024) (s₁ := S8x4096x512) (s₂ := S8x4096x512) 2 (val_main_v20 (F := Ideal) x0)
      (val_main_v21 (F := Ideal) x1 x2 x3 x7) _ (ix3 b n k) rfl rfl (ix3 b n ⟨k.val - 512, by omega⟩) ?_ ?_).trans ?_
    · intro a ha
      match a with
      | ⟨0, _⟩ => rfl
      | ⟨1, _⟩ => rfl
      | ⟨2, _⟩ => exact absurd rfl ha
    · show k.val - 512 + 512 = k.val
      omega
    · exact heads_apply x1 x2 x3 x7 b n _

/-- The mixer's row times the output projection. -/
theorem out_apply (b : Fin 8) (n : Fin 4096) (d : Fin 1024) : (val_main_v24 (F := Ideal) x0 x1 x2 x3 x7 x8) (ix3 b n d)
    = TailSpec.rowMul (mixer x0 x1 x2 x3 x7 b n) (fun k j => x8 (ix3 0 k j)) d := by
  rw [val_main_v24_apply]
  refine Finset.sum_congr rfl fun k _ => ?_
  have e : (val_main_v23 (F := Ideal) x8) (ix2 k d) = x8 (ix3 0 k d) := by
    rw [val_main_v23_apply]
    exact congrArg x8 (ext3 rfl (by show (k.val * 1024 + d.val) / 1024 % 1024 = k.val; omega) (by show (k.val * 1024 + d.val) % 1024 = d.val; omega))
  have el : lidx_main_v24 (ix3 b n d) k = ix3 b n k := ext3 rfl rfl rfl
  exact congrArg₂ (· * ·) ((congrArg (val_main_v22 (F := Ideal) x0 x1 x2 x3 x7) el).trans (mixer_apply x0 x1 x2 x3 x7 b n k))
    ((congrArg (val_main_v23 (F := Ideal) x8) (ext2 rfl rfl)).trans e)

/-! ## The layer's modulation -/

theorem mod_apply (b : Fin 8) (k : Fin 6144) : (val_main_v27 (F := Ideal) x5) (ix3 b 0 k) = x5 (ix3 0 ⟨1 + b.val, by omega⟩ k) := by
  rw [val_main_v27_apply, val_main_v26_apply, val_main_v25_apply]
  refine congrArg x5 (ext3 ?_ ?_ ?_)
  · show 0 + 0 = 0; rfl
  · show 1 + (b.val * 6144 + k.val) / 6144 % 8 = 1 + b.val; omega
  · show (b.val * 6144 + k.val) % 6144 = k.val; omega

/-- The gate of the mixer's output. -/
theorem gate1 (b : Fin 8) (d : Fin 1024) : (val_main_v36 (F := Ideal) x5) (ix3 b 0 d) = x5 (ix3 0 ⟨1 + b.val, by omega⟩ (TailSpec.part 2 d)) := by
  rw [val_main_v36_apply, ← mod_apply x5 b]
  exact congrArg (val_main_v27 (F := Ideal) x5) (ext3 rfl rfl (by show 2048 + d.val = 1024 * 2 + d.val; omega))

/-- The network's shift. -/
theorem shift2 (b : Fin 8) (d : Fin 1024) : (val_main_v37 (F := Ideal) x5) (ix3 b 0 d) = x5 (ix3 0 ⟨1 + b.val, by omega⟩ (TailSpec.part 3 d)) := by
  rw [val_main_v37_apply, ← mod_apply x5 b]
  exact congrArg (val_main_v27 (F := Ideal) x5) (ext3 rfl rfl (by show 3072 + d.val = 1024 * 3 + d.val; omega))

/-- The network's scale. -/
theorem scale2 (b : Fin 8) (d : Fin 1024) : (val_main_v38 (F := Ideal) x5) (ix3 b 0 d) = x5 (ix3 0 ⟨1 + b.val, by omega⟩ (TailSpec.part 4 d)) := by
  rw [val_main_v38_apply, ← mod_apply x5 b]
  exact congrArg (val_main_v27 (F := Ideal) x5) (ext3 rfl rfl (by show 4096 + d.val = 1024 * 4 + d.val; omega))

/-- The gate of the network's output. -/
theorem gate2 (b : Fin 8) (d : Fin 1024) : (val_main_v39 (F := Ideal) x5) (ix3 b 0 d) = x5 (ix3 0 ⟨1 + b.val, by omega⟩ (TailSpec.part 5 d)) := by
  rw [val_main_v39_apply, ← mod_apply x5 b]
  exact congrArg (val_main_v27 (F := Ideal) x5) (ext3 rfl rfl (by show 5120 + d.val = 1024 * 5 + d.val; omega))

/-! ## The layer's slices of the gains and of the weights -/

theorem g_apply (j : Fin 4) (d : Fin 1024) : (val_main_v29 (F := Ideal) x6) (ix2 j d) = x6 (ix3 0 j d) := by
  rw [val_main_v29_apply, val_main_v28_apply]
  refine congrArg x6 (ext3 ?_ ?_ ?_)
  · show 0 + 0 = 0; rfl
  · show (j.val * 1024 + d.val) / 1024 % 4 = j.val; omega
  · show (j.val * 1024 + d.val) % 1024 = d.val; omega

theorem wi_apply (k : Fin 1024) (j : Fin 5632) : (val_main_v31 (F := Ideal) x9) (ix2 k j) = x9 (ix3 0 k j) := by
  rw [val_main_v31_apply, val_main_v30_apply]
  refine congrArg x9 (ext3 ?_ ?_ ?_)
  · show 0 + 0 = 0; rfl
  · show (k.val * 5632 + j.val) / 5632 % 1024 = k.val; omega
  · show (k.val * 5632 + j.val) % 5632 = j.val; omega

theorem wo_apply (k : Fin 2816) (j : Fin 1024) : (val_main_v33 (F := Ideal) x10) (ix2 k j) = x10 (ix3 0 k j) := by
  rw [val_main_v33_apply, val_main_v32_apply]
  refine congrArg x10 (ext3 ?_ ?_ ?_)
  · show 0 + 0 = 0; rfl
  · show (k.val * 1024 + j.val) / 1024 % 2816 = k.val; omega
  · show (k.val * 1024 + j.val) % 1024 = j.val; omega

/-! ## The stream after the mixer's output is added -/

/-- The mixer output's norm's gain. -/
theorem gain1 (b : Fin 8) (n : Fin 4096) (d : Fin 1024) : (val_main_v53 (F := Ideal) x6) (ix3 b n d) = x6 (ix3 0 1 d) := by
  rw [val_main_v53_apply, val_main_v52_apply, val_main_v41_apply, val_main_v40_apply, ← g_apply x6 1 d]
  refine congrArg (val_main_v29 (F := Ideal) x6) (ext2 ?_ ?_)
  · show 1 + 0 = 1; rfl
  · show d.val % 1024 = d.val; omega

/-- The mixer output's norm. -/
theorem norm1 (b : Fin 8) (n : Fin 4096) (d : Fin 1024) :
    (val_main_v54 (F := Ideal) x0 x1 x2 x3 x6 x7 x8) (ix3 b n d) = TailSpec.rms (fun k => (val_main_v24 (F := Ideal) x0 x1 x2 x3 x7 x8) (ix3 b n k)) (fun k => x6 (ix3 0 1 k)) d := by
  have es : (val_main_v43 (F := Ideal) x0 x1 x2 x3 x7 x8) (ix2 b n) = ∑ k, (val_main_v24 (F := Ideal) x0 x1 x2 x3 x7 x8) (ix3 b n k) * (val_main_v24 (F := Ideal) x0 x1 x2 x3 x7 x8) (ix3 b n k) := by
    rw [val_main_v43_apply, val_main_cst_2_apply]
    show Ideal.ofBits .f32 0x00000000#32 + _ = _
    rw [Ideal.ofBits_zero_f32, zero_add]
    refine Finset.sum_congr rfl fun k _ => ?_
    rw [show idx_main_v43 (ix2 b n) k = ix3 b n k from ext3 rfl rfl rfl, val_main_v42_apply]
    rfl
  rw [val_main_v54_apply, gain1, val_main_v51_apply, val_main_v50_apply, val_main_v49_apply, val_main_v48_apply, val_main_v46_apply, val_main_v44_apply,
    val_main_v45_apply, val_main_v47_apply, val_main_cst_3_apply, val_main_cst_4_apply,
    show idx_main_v44 (idx_main_v50 (ix3 b n d)) = ix2 b n from ext2 rfl rfl, es]
  rfl

/-- The modulation, the gains and the weights as functions of their coordinates. -/
abbrev modRow (b : Fin 8) (k : Fin 6144) : EReal := x5 (ix3 0 ⟨1 + b.val, by omega⟩ k)
abbrev gains (j : Fin 4) (k : Fin 1024) : EReal := x6 (ix3 0 j k)

theorem mid_apply (b : Fin 8) (n : Fin 4096) (d : Fin 1024) : (val_main_v57 (F := Ideal) x0 x1 x2 x3 x4 x5 x6 x7 x8) (ix3 b n d)
    = TailSpec.mid (fun k => (val_main_v24 (F := Ideal) x0 x1 x2 x3 x7 x8) (ix3 b n k)) (fun k => x4 (ix3 b n k)) (modRow x5 b) (gains x6) d := by
  rw [val_main_v57_apply, val_main_v56_apply, norm1, val_main_v55_apply, show idx_main_v55 (ix3 b n d) = ix3 b 0 d from ext3 rfl rfl rfl, gate1]
  rfl

/-! ## The network's input -/

/-- The network input's norm's gain. -/
theorem gain2 (b : Fin 8) (n : Fin 4096) (d : Fin 1024) : (val_main_v71 (F := Ideal) x6) (ix3 b n d) = x6 (ix3 0 2 d) := by
  rw [val_main_v71_apply, val_main_v70_apply, val_main_v59_apply, val_main_v58_apply, ← g_apply x6 2 d]
  refine congrArg (val_main_v29 (F := Ideal) x6) (ext2 ?_ ?_)
  · show 2 + 0 = 2; rfl
  · show d.val % 1024 = d.val; omega

/-- The network input's norm. -/
theorem norm2 (b : Fin 8) (n : Fin 4096) (d : Fin 1024) :
    (val_main_v72 (F := Ideal) x0 x1 x2 x3 x4 x5 x6 x7 x8) (ix3 b n d) = TailSpec.rms (fun k => (val_main_v57 (F := Ideal) x0 x1 x2 x3 x4 x5 x6 x7 x8) (ix3 b n k)) (fun k => x6 (ix3 0 2 k)) d := by
  have es : (val_main_v61 (F := Ideal) x0 x1 x2 x3 x4 x5 x6 x7 x8) (ix2 b n) = ∑ k, (val_main_v57 (F := Ideal) x0 x1 x2 x3 x4 x5 x6 x7 x8) (ix3 b n k) * (val_main_v57 (F := Ideal) x0 x1 x2 x3 x4 x5 x6 x7 x8) (ix3 b n k) := by
    rw [val_main_v61_apply, val_main_cst_5_apply]
    show Ideal.ofBits .f32 0x00000000#32 + _ = _
    rw [Ideal.ofBits_zero_f32, zero_add]
    refine Finset.sum_congr rfl fun k _ => ?_
    rw [show idx_main_v61 (ix2 b n) k = ix3 b n k from ext3 rfl rfl rfl, val_main_v60_apply]
    rfl
  rw [val_main_v72_apply, gain2, val_main_v69_apply, val_main_v68_apply, val_main_v67_apply, val_main_v66_apply, val_main_v64_apply, val_main_v62_apply,
    val_main_v63_apply, val_main_v65_apply, val_main_cst_6_apply, val_main_cst_7_apply,
    show idx_main_v62 (idx_main_v68 (ix3 b n d)) = ix2 b n from ext2 rfl rfl, es]
  rfl

theorem hid_apply (b : Fin 8) (n : Fin 4096) (d : Fin 1024) : (val_main_v78 (F := Ideal) x0 x1 x2 x3 x4 x5 x6 x7 x8) (ix3 b n d)
    = TailSpec.hid (fun k => (val_main_v57 (F := Ideal) x0 x1 x2 x3 x4 x5 x6 x7 x8) (ix3 b n k)) (modRow x5 b) (gains x6) d := by
  rw [val_main_v78_apply, val_main_v76_apply, norm2, val_main_v75_apply, val_main_v77_apply, show idx_main_v77 (ix3 b n d) = ix3 b 0 d from ext3 rfl rfl rfl,
    show idx_main_v75 (ix3 b n d) = ix3 b 0 d from ext3 rfl rfl rfl, val_main_v74_apply, val_main_v73_apply, val_main_cst_8_apply, shift2, scale2]
  rfl

/-! ## The network -/

theorem lanes_apply (b : Fin 8) (n : Fin 4096) (j : Fin 5632) : (val_main_v79 (F := Ideal) x0 x1 x2 x3 x4 x5 x6 x7 x8 x9) (ix3 b n j)
    = TailSpec.rowMul (fun k => (val_main_v78 (F := Ideal) x0 x1 x2 x3 x4 x5 x6 x7 x8) (ix3 b n k)) (fun k j => x9 (ix3 0 k j)) j := by
  rw [val_main_v79_apply]
  refine Finset.sum_congr rfl fun k _ => ?_
  exact congrArg₂ (· * ·) (congrArg (val_main_v78 (F := Ideal) x0 x1 x2 x3 x4 x5 x6 x7 x8) (ext3 rfl rfl rfl)) ((congrArg (val_main_v31 (F := Ideal) x9) (ext2 rfl rfl)).trans (wi_apply x9 k j))

theorem act_apply (b : Fin 8) (n : Fin 4096) (j : Fin 2816) : (val_main_v83 (F := Ideal) x0 x1 x2 x3 x4 x5 x6 x7 x8 x9) (ix3 b n j)
    = TailSpec.act (fun k => (val_main_v78 (F := Ideal) x0 x1 x2 x3 x4 x5 x6 x7 x8) (ix3 b n k)) (fun k j => x9 (ix3 0 k j)) j := by
  have e0 : (val_main_v80 (F := Ideal) x0 x1 x2 x3 x4 x5 x6 x7 x8 x9) (ix3 b n j) = TailSpec.rowMul (fun k => (val_main_v78 (F := Ideal) x0 x1 x2 x3 x4 x5 x6 x7 x8) (ix3 b n k)) (fun k j => x9 (ix3 0 k j)) (TailSpec.gateCol j) := by
    rw [val_main_v80_apply, ← lanes_apply]
    exact congrArg (val_main_v79 (F := Ideal) x0 x1 x2 x3 x4 x5 x6 x7 x8 x9) (ext3 rfl rfl rfl)
  have e1 : (val_main_v81 (F := Ideal) x0 x1 x2 x3 x4 x5 x6 x7 x8 x9) (ix3 b n j) = TailSpec.rowMul (fun k => (val_main_v78 (F := Ideal) x0 x1 x2 x3 x4 x5 x6 x7 x8) (ix3 b n k)) (fun k j => x9 (ix3 0 k j)) (TailSpec.upCol j) := by
    rw [val_main_v81_apply, ← lanes_apply]
    exact congrArg (val_main_v79 (F := Ideal) x0 x1 x2 x3 x4 x5 x6 x7 x8 x9) (ext3 rfl rfl rfl)
  rw [val_main_v83_apply, e1, val_main_v82_apply, e0, val_main_call1_v5_apply, val_main_call1_v4_apply, val_main_call1_cst_0_apply, val_main_call1_v3_apply,
    val_main_call1_v2_apply, val_main_call1_cst_apply, val_main_call1_v1_apply, val_main_call1_v0_apply, e0]
  rfl

theorem ffn_apply (b : Fin 8) (n : Fin 4096) (j : Fin 1024) : (val_main_v84 (F := Ideal) x0 x1 x2 x3 x4 x5 x6 x7 x8 x9 x10) (ix3 b n j)
    = TailSpec.rowMul (fun k => (val_main_v83 (F := Ideal) x0 x1 x2 x3 x4 x5 x6 x7 x8 x9) (ix3 b n k)) (fun k j => x10 (ix3 0 k j)) j := by
  rw [val_main_v84_apply]
  refine Finset.sum_congr rfl fun k _ => ?_
  exact congrArg₂ (· * ·) (congrArg (val_main_v83 (F := Ideal) x0 x1 x2 x3 x4 x5 x6 x7 x8 x9) (ext3 rfl rfl rfl)) ((congrArg (val_main_v33 (F := Ideal) x10) (ext2 rfl rfl)).trans (wo_apply x10 k j))

/-- The network output's norm's gain. -/
theorem gain3 (b : Fin 8) (n : Fin 4096) (d : Fin 1024) : (val_main_v98 (F := Ideal) x6) (ix3 b n d) = x6 (ix3 0 3 d) := by
  rw [val_main_v98_apply, val_main_v97_apply, val_main_v86_apply, val_main_v85_apply, ← g_apply x6 3 d]
  refine congrArg (val_main_v29 (F := Ideal) x6) (ext2 ?_ ?_)
  · show 3 + 0 = 3; rfl
  · show d.val % 1024 = d.val; omega

/-- The network output's norm. -/
theorem norm3 (b : Fin 8) (n : Fin 4096) (d : Fin 1024) :
    (val_main_v99 (F := Ideal) x0 x1 x2 x3 x4 x5 x6 x7 x8 x9 x10) (ix3 b n d) = TailSpec.rms (fun k => (val_main_v84 (F := Ideal) x0 x1 x2 x3 x4 x5 x6 x7 x8 x9 x10) (ix3 b n k)) (fun k => x6 (ix3 0 3 k)) d := by
  have es : (val_main_v88 (F := Ideal) x0 x1 x2 x3 x4 x5 x6 x7 x8 x9 x10) (ix2 b n) = ∑ k, (val_main_v84 (F := Ideal) x0 x1 x2 x3 x4 x5 x6 x7 x8 x9 x10) (ix3 b n k) * (val_main_v84 (F := Ideal) x0 x1 x2 x3 x4 x5 x6 x7 x8 x9 x10) (ix3 b n k) := by
    rw [val_main_v88_apply, val_main_cst_9_apply]
    show Ideal.ofBits .f32 0x00000000#32 + _ = _
    rw [Ideal.ofBits_zero_f32, zero_add]
    refine Finset.sum_congr rfl fun k _ => ?_
    rw [show idx_main_v88 (ix2 b n) k = ix3 b n k from ext3 rfl rfl rfl, val_main_v87_apply]
    rfl
  rw [val_main_v99_apply, gain3, val_main_v96_apply, val_main_v95_apply, val_main_v94_apply, val_main_v93_apply, val_main_v91_apply, val_main_v89_apply,
    val_main_v90_apply, val_main_v92_apply, val_main_cst_10_apply, val_main_cst_11_apply,
    show idx_main_v89 (idx_main_v95 (ix3 b n d)) = ix2 b n from ext2 rfl rfl, es]
  rfl

/-! ## The result -/

/-- The request of a row of all requests' rows, and its place in it. -/
abbrev req (R : Fin 32768) : Fin 8 := ⟨R.val / 4096, by omega⟩
abbrev tok (R : Fin 32768) : Fin 4096 := ⟨R.val % 4096, Nat.mod_lt _ (by norm_num)⟩

/-- An entry of the result is the specification's. -/
theorem result_apply (R : Fin 32768) (d : Fin 1024) : (val_main_v103 (F := Ideal) x0 x1 x2 x3 x4 x5 x6 x7 x8 x9 x10) (ix2 R d)
    = TailSpec.tail (TailSpec.rowMul (mixer x0 x1 x2 x3 x7 (req R) (tok R)) (fun k j => x8 (ix3 0 k j))) (fun k => x4 (ix3 (req R) (tok R) k))
        (modRow x5 (req R)) (gains x6) (fun k j => x9 (ix3 0 k j)) (fun k j => x10 (ix3 0 k j)) d := by
  have eo : (fun k => (val_main_v24 (F := Ideal) x0 x1 x2 x3 x7 x8) (ix3 (req R) (tok R) k)) = TailSpec.rowMul (mixer x0 x1 x2 x3 x7 (req R) (tok R)) (fun k j => x8 (ix3 0 k j)) := funext fun k => out_apply x0 x1 x2 x3 x7 x8 _ _ _
  have e2 : (fun k => (val_main_v57 (F := Ideal) x0 x1 x2 x3 x4 x5 x6 x7 x8) (ix3 (req R) (tok R) k)) = _ := funext fun k => mid_apply x0 x1 x2 x3 x4 x5 x6 x7 x8 (req R) (tok R) k
  have e3 : (fun k => (val_main_v78 (F := Ideal) x0 x1 x2 x3 x4 x5 x6 x7 x8) (ix3 (req R) (tok R) k)) = _ := funext fun k => hid_apply x0 x1 x2 x3 x4 x5 x6 x7 x8 (req R) (tok R) k
  have e4 : (fun k => (val_main_v83 (F := Ideal) x0 x1 x2 x3 x4 x5 x6 x7 x8 x9) (ix3 (req R) (tok R) k)) = _ := funext fun k => act_apply x0 x1 x2 x3 x4 x5 x6 x7 x8 x9 (req R) (tok R) k
  have e5 : (fun k => (val_main_v84 (F := Ideal) x0 x1 x2 x3 x4 x5 x6 x7 x8 x9 x10) (ix3 (req R) (tok R) k)) = _ := funext fun k => ffn_apply x0 x1 x2 x3 x4 x5 x6 x7 x8 x9 x10 (req R) (tok R) k
  rw [val_main_v103_apply, show idx_main_v103 (ix2 R d) = ix3 (req R) (tok R) d from ext3
      (by show (R.val * 1024 + d.val) / 4194304 = R.val / 4096; omega)
      (by show (R.val * 1024 + d.val) / 1024 % 4096 = R.val % 4096; omega)
      (by show (R.val * 1024 + d.val) % 1024 = d.val; omega),
    val_main_v102_apply, mid_apply, val_main_v101_apply, norm3, val_main_v100_apply, show idx_main_v100 (ix3 (req R) (tok R) d) = ix3 (req R) 0 d from ext3 rfl rfl rfl, gate2]
  rw [e5, e4, e3, e2, eo]
  rfl

end Cert.Reference3Ideal.Tail

end
-- ==== Proof.TailClaims3.lean ====
/-
  The claims about the layer's end of the first layer, for the sampled batch: its frames, and that the kernel's result is the reference's.
-/
module

public import proofs.«01_k».proof.Defs
public import proofs.«01_k».proof.Proof.Array3
public import proofs.«01_k».proof.Proof.RefTail3
public import proofs.«01_k».proof.Proof.Gen.Kernel3.Frame
public import proofs.«01_k».proof.Proof.Gen.Kernel3Ideal.Frame

@[expose] public section

set_option maxRecDepth 16384

noncomputable section

namespace Cert.TailClaims3

open Idealize.ShloMosaic Idealize.SL.Sem

/-- The kernel's frame, on machine words. -/
theorem frame_kernel : Cert.quiescent_Kernel3 := fun m ρ _ => Cert.Kernel3.Gen.frame m ρ

/-- The kernel's frame, on extended reals. -/
theorem frame_kernelIdeal : Cert.quiescent_Kernel3Ideal := fun m ρ _ => Cert.Kernel3Ideal.Gen.frame m ρ

/-- The reference's frame: it keeps its arguments and declares no semaphore. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- **The kernel's result is the reference's**, for all arguments. -/
theorem algebraic : Cert.algebraic_Kernel3Ideal_Reference3Ideal := by
  intro m g m' g' _ hagree
  refine ⟨fun c => Cert.Kernel3Ideal.Array.res m c, ?_, ?_⟩
  · exact (θ_run Cert.Kernel3Ideal.defs _ _).mono (fun r h c => ⟨(h c).1.trans (Cert.Kernel3Ideal.Array.final m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3, e4, e5, e6, e7, e8, e9, e10⟩ := hagree c
    rw [Cert.Reference3Ideal.Read.val_main_v103_eq]
    show Cert.Reference3Ideal.Read.val_main_v103 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m' ((c.tc : Thread Cert.Reference3Ideal.nD Cert.Reference3Ideal.τ).loc Cert.Reference3Ideal.main_arg9))
      (m' ((c.tc : Thread Cert.Reference3Ideal.nD Cert.Reference3Ideal.τ).loc Cert.Reference3Ideal.main_arg10)) = _
    rw [e0, e1, e2, e3, e4, e5, e6, e7, e8, e9, e10]
    refine funext fun i => ?_
    obtain ⟨R, d, rfl⟩ : ∃ (R : Fin 32768) (d : Fin 1024), i = ix2 R d :=
      ⟨i 0, i 1, funext fun a => by match a with | ⟨0, _⟩ => rfl | ⟨1, _⟩ => rfl⟩
    exact Cert.Reference3Ideal.Tail.result_apply _ _ _ _ _ _ _ _ _ _ _ R d

end Cert.TailClaims3

end
-- ==== Proof.Tail4.lean ====
/-
  The kernel body of the second layer's end, for the prompts, is the block `Tail.tail` of the mixer's output times its weights.
-/
module

public import proofs.«01_k».proof.Proof.TailBlock
public import proofs.«01_k».proof.Proof.Gen.Kernel4Ideal.Frame

@[expose] public section

set_option maxRecDepth 16384

noncomputable section

namespace Cert.Kernel4Ideal.Block

open Cert.Kernel4Ideal Cert.Kernel4Ideal.Gen Idealize.ShloMosaic Flash Facts

variable {F : FTy → Type} [FloatOps F]

/-- The shape relations hold. -/
theorem fits : Tail.Fits :=
  ⟨bitsLt_bf16_f32, shapeCasts_S512x1024_S512x1024, shapeCasts_S1x1024_S1x1024, shapeCasts_S1x1x6144_S1x6144, reduces_S512x1024_S512,
    shapeCasts_S512_S512x1, broadcasts_S512x1_S512x1024, broadcasts_S1x1024_S512x1024, shapeCasts_S1024x256_S1024x256,
    shapeCasts_S256x1024_S256x1024, slices_S1x6144_o0_2048_S1x1024, slices_S1x6144_o0_3072_S1x1024, slices_S1x6144_o0_4096_S1x1024,
    slices_S1x6144_o0_5120_S1x1024⟩

/-- The mixer's output times its weights. -/
def mixed (o : Vec F S512x1024 .bf16) (w : Vec F S1024x1024 .bf16) : FVec F S512x1024 .f32 :=
  matmul (DotDims.plain 512 1024 1024) none (shapeCast S512x1024 (View.ld o r0_1) shapeCasts_S512x1024_S512x1024)
    (shapeCast S1024x1024 (View.ld w r0_2) shapeCasts_S1024x1024_S1024x1024) (constant S512x1024 .f32 0x00000000#32)

set_option maxHeartbeats 4000000 in
/-- The body's output block. -/
theorem out_eq (x0 : Vec F S512x1024 .bf16) (x1 : Vec F S1024x1024 .bf16) (x2 : Vec F S512x1024 .f32) (x3 : Vec F S1x1x6144 .f32)
    (x4 : Vec F S4x1024 .f32) (x5 : Vec F S1024x5632 .bf16) (x6 : Vec F S2816x1024 .bf16) :
    out0_7 x0 x1 x2 x3 x4 x5 x6 = View.canon [⟨r0_1, Tail.tail fits (mixed x0 x1)
      (shapeCast S512x1024 (View.ld x2 r0_1) shapeCasts_S512x1024_S512x1024)
      (shapeCast S1x6144 (View.ld x3 r0_0) shapeCasts_S1x1x6144_S1x6144) x4 x5 x6⟩] := rfl

end Cert.Kernel4Ideal.Block

end
-- ==== Proof.Array4.lean ====
/-
  The result array of the second layer's end for the prompts, entry by entry.
-/
module

public import proofs.«01_k».proof.Proof.TailValue
public import proofs.«01_k».proof.Proof.Tail4
public import proofs.«01_k».proof.Proof.Gen.Kernel4Ideal.Value

@[expose] public section

set_option maxRecDepth 16384

noncomputable section

namespace Cert.Kernel4Ideal.Array

open Cert.Kernel4Ideal Cert.Kernel4Ideal.Gen Idealize.ShloMosaic Idealize.ShloMosaic.TcCoe Idealize.SL.Sem Facts
open Idealize.ShloMosaic.Pipeline (Dat)

variable (m : (ℓ : Loc nD τ sig) → Buf (Elt Ideal) ℓ) (ρ : Dev nD → PrngReg) (c : Dev nD)

/-! ## The arguments as functions of their coordinates -/

abbrev O (b : Fin 16) (n : Fin 256) (k : Fin 1024) : EReal := m ((c : Thread nD τ).loc main_arg0) (ix3 b n k)
abbrev X (b : Fin 16) (n : Fin 256) (k : Fin 1024) : EReal := m ((c : Thread nD τ).loc main_arg1) (ix3 b n k)
abbrev Md (l : Fin 2) (r : Fin 16) (k : Fin 6144) : EReal := m ((c : Thread nD τ).loc main_arg2) (ix3 l r k)
abbrev G (l : Fin 2) (j : Fin 4) (k : Fin 1024) : EReal := m ((c : Thread nD τ).loc main_arg3) (ix3 l j k)
abbrev Wm (k j : Fin 1024) : EReal := m ((c : Thread nD τ).loc main_arg4) (ix3 0 k j)
abbrev Wi (l : Fin 2) (k : Fin 1024) (j : Fin 5632) : EReal := m ((c : Thread nD τ).loc main_arg5) (ix3 l k j)
abbrev Wo (l : Fin 2) (k : Fin 2816) (j : Fin 1024) : EReal := m ((c : Thread nD τ).loc main_arg6) (ix3 l k j)

/-- The request of a row of all requests' rows, and its place in it. -/
abbrev req (R : Fin 4096) : Fin 16 := ⟨R.val / 256, by omega⟩
abbrev tok (R : Fin 4096) : Fin 256 := ⟨R.val % 256, Nat.mod_lt _ (by norm_num)⟩

/-! ## What the host operations before the call leave -/

theorem host_o (R : Fin 4096) (k : Fin 1024) : (V m c main_v0 : Vec Ideal S4096x1024 .bf16) (ix2 R k) = O m c (req R) (tok R) k := by
  have e : (V m c main_v0 : Vec Ideal S4096x1024 .bf16)
      = shapeCast S4096x1024 (m ((c : Thread nD τ).loc main_arg0)) shapeCasts_S16x256x1024_S4096x1024 := by
    unfold_abbrev_sides
    after_results
    rfl
  rw [e, shapeCast_apply _ _ (ix2 R k) (ix3 (req R) (tok R) k) (by
    rw [Shape.rowMajor_val_three, Shape.rowMajor_val_two]
    show (R.val / 256 * 256 + R.val % 256) * 1024 + k.val = R.val * 1024 + k.val
    omega)]

theorem host_x (R : Fin 4096) (k : Fin 1024) : (V m c main_v6 : Vec Ideal S4096x1024 .f32) (ix2 R k) = X m c (req R) (tok R) k := by
  have e : (V m c main_v6 : Vec Ideal S4096x1024 .f32)
      = shapeCast S4096x1024 (m ((c : Thread nD τ).loc main_arg1)) shapeCasts_S16x256x1024_S4096x1024 := by
    unfold_abbrev_sides
    after_results
    rfl
  rw [e, shapeCast_apply _ _ (ix2 R k) (ix3 (req R) (tok R) k) (by
    rw [Shape.rowMajor_val_three, Shape.rowMajor_val_two]
    show (R.val / 256 * 256 + R.val % 256) * 1024 + k.val = R.val * 1024 + k.val
    omega)]

theorem host_mod (l : Fin 2) (r : Fin 16) (k : Fin 6144) :
    (V m c main_v5 : Vec Ideal S32x1x6144 .f32) (ix3 ⟨16 * l.val + r.val, by omega⟩ 0 k) = Md m c l r k := by
  have e : (V m c main_v5 : Vec Ideal S32x1x6144 .f32)
      = shapeCast S32x1x6144 (m ((c : Thread nD τ).loc main_arg2)) shapeCasts_S2x16x6144_S32x1x6144 := by
    unfold_abbrev_sides
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (j : Fin 4) (k : Fin 1024) : (V m c main_v4 : Vec Ideal S4x1024 .f32) (ix2 j k) = G m c 1 j k := by
  have e : (V m c main_v4 : Vec Ideal S4x1024 .f32) = shapeCast S4x1024 (extractStridedSlice S1x4x1024 ![1, 0, 0]
      (m ((c : Thread nD τ).loc main_arg3)) slices_S2x4x1024_S1x4x1024_1_0_0) shapeCasts_S1x4x1024_S4x1024 := by
    unfold_abbrev_sides
    after_results
    rfl
  rw [e, shapeCast_apply _ _ (ix2 j k) (ix3 0 j k) (by
    rw [Shape.rowMajor_val_three, Shape.rowMajor_val_two]
    show (0 * 4 + j.val) * 1024 + k.val = j.val * 1024 + k.val
    omega)]
  refine congrArg (m ((c : Thread nD τ).loc main_arg3)) (funext fun a => Fin.ext ?_)
  match a with
  | ⟨0, _⟩ => rfl
  | ⟨1, _⟩ => show 0 + j.val = j.val; omega
  | ⟨2, _⟩ => show 0 + k.val = k.val; omega

theorem host_wm (k j : Fin 1024) : (V m c main_v2 : Vec Ideal S1024x1024 .bf16) (ix2 k j) = Wm m c k j := by
  have e : (V m c main_v2 : Vec Ideal S1024x1024 .bf16)
      = shapeCast S1024x1024 (truncf (F := Ideal) .bf16 (m ((c : Thread nD τ).loc main_arg4)) bitsLt_bf16_f32) shapeCasts_S1x1024x1024_S1024x1024 := by
    unfold_abbrev_sides
    after_results
    rfl
  rw [e, shapeCast_apply _ _ (ix2 k j) (ix3 0 k j) (by
    rw [Shape.rowMajor_val_three, Shape.rowMajor_val_two]
    show (0 * 1024 + k.val) * 1024 + j.val = k.val * 1024 + j.val
    omega)]
  rfl

theorem host_wi (k : Fin 1024) (j : Fin 5632) : (V m c main_v9 : Vec Ideal S1024x5632 .bf16) (ix2 k j) = Wi m c 1 k j := by
  have e : (V m c main_v9 : Vec Ideal S1024x5632 .bf16) = shapeCast S1024x5632 (extractStridedSlice S1x1024x5632 ![1, 0, 0]
      (truncf (F := Ideal) .bf16 (m ((c : Thread nD τ).loc main_arg5)) bitsLt_bf16_f32) slices_S2x1024x5632_S1x1024x5632_1_0_0)
      shapeCasts_S1x1024x5632_S1024x5632 := by
    unfold_abbrev_sides
    after_results
    rfl
  rw [e, shapeCast_apply _ _ (ix2 k j) (ix3 0 k j) (by
    rw [Shape.rowMajor_val_three, Shape.rowMajor_val_two]
    show (0 * 1024 + k.val) * 5632 + j.val = k.val * 5632 + j.val
    omega)]
  refine congrArg (m ((c : Thread nD τ).loc main_arg5)) (funext fun a => Fin.ext ?_)
  match a with
  | ⟨0, _⟩ => rfl
  | ⟨1, _⟩ => show 0 + k.val = k.val; omega
  | ⟨2, _⟩ => show 0 + j.val = j.val; omega

theorem host_wo (k : Fin 2816) (j : Fin 1024) : (V m c main_v12 : Vec Ideal S2816x1024 .bf16) (ix2 k j) = Wo m c 1 k j := by
  have e : (V m c main_v12 : Vec Ideal S2816x1024 .bf16) = shapeCast S2816x1024 (extractStridedSlice S1x2816x1024 ![1, 0, 0]
      (truncf (F := Ideal) .bf16 (m ((c : Thread nD τ).loc main_arg6)) bitsLt_bf16_f32) slices_S2x2816x1024_S1x2816x1024_1_0_0)
      shapeCasts_S1x2816x1024_S2816x1024 := by
    unfold_abbrev_sides
    after_results
    rfl
  rw [e, shapeCast_apply _ _ (ix2 k j) (ix3 0 k j) (by
    rw [Shape.rowMajor_val_three, Shape.rowMajor_val_two]
    show (0 * 2816 + k.val) * 1024 + j.val = k.val * 1024 + j.val
    omega)]
  refine congrArg (m ((c : Thread nD τ).loc main_arg6)) (funext fun a => Fin.ext ?_)
  match a with
  | ⟨0, _⟩ => rfl
  | ⟨1, _⟩ => show 0 + k.val = k.val; omega
  | ⟨2, _⟩ => show 0 + j.val = j.val; omega

/-! ## The blocks -/

/-- Which block of each array a grid point stages. -/
theorem index_eq : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = 16 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) := by
  decide +kernel

/-- The number of grid points. -/
theorem lt_N (t : Fin cfg0.N) : t.val < 8 := t.isLt

/-- Row `r` of point `t`'s block among all rows, and its modulation's row. -/
abbrev rowAt (t : Fin cfg0.N) (r : Fin 512) : Fin 4096 := ⟨512 * t.val + r.val, by have := lt_N t; omega⟩
abbrev modAt (R : Fin 4096) : Fin 16 := 0

theorem blk0 (t : Fin cfg0.N) (r : Fin 512) (k : Fin 1024) :
    (iblk m c 0 t : Vec Ideal S512x1024 .bf16) (ix2 r k) = O m c (req (rowAt t r)) (tok (rowAt t r)) k := by
  obtain ⟨⟨i0, i1⟩, -⟩ := index_eq t
  rw [← host_o]
  unfold iblk
  rw [View.read_apply]
  show V m c main_v0 _ = V m c main_v0 _
  refine congrArg (V m c main_v0) (funext fun a => Fin.ext ?_)
  match a with
  | ⟨0, _⟩ => show win0_0.index t 0 * 512 + 1 * r.val = 512 * t.val + r.val; rw [i0]; omega
  | ⟨1, _⟩ => show win0_0.index t 1 * 1024 + 1 * k.val = k.val; rw [i1]; omega

theorem blk1 (t : Fin cfg0.N) (k j : Fin 1024) : (iblk m c 1 t : Vec Ideal S1024x1024 .bf16) (ix2 k j) = Wm m c k j := by
  obtain ⟨-, ⟨i0, i1⟩, -⟩ := index_eq t
  rw [← host_wm]
  unfold iblk
  rw [View.read_apply]
  show V m c main_v2 _ = V m c main_v2 _
  refine congrArg (V m c main_v2) (funext fun a => Fin.ext ?_)
  match a with
  | ⟨0, _⟩ => show win0_1.index t 0 * 1024 + 1 * k.val = k.val; rw [i0]; omega
  | ⟨1, _⟩ => show win0_1.index t 1 * 1024 + 1 * j.val = j.val; rw [i1]; omega

theorem blk2 (t : Fin cfg0.N) (r : Fin 512) (k : Fin 1024) :
    (iblk m c 2 t : Vec Ideal S512x1024 .f32) (ix2 r k) = X m c (req (rowAt t r)) (tok (rowAt t r)) k := by
  obtain ⟨-, -, ⟨i0, i1⟩, -⟩ := index_eq t
  rw [← host_x]
  unfold iblk
  rw [View.read_apply]
  show V m c main_v6 _ = V m c main_v6 _
  refine congrArg (V m c main_v6) (funext fun a => Fin.ext ?_)
  match a with
  | ⟨0, _⟩ => show win0_2.index t 0 * 512 + 1 * r.val = 512 * t.val + r.val; rw [i0]; omega
  | ⟨1, _⟩ => show win0_2.index t 1 * 1024 + 1 * k.val = k.val; rw [i1]; omega

theorem blk3 (t : Fin cfg0.N) (r : Fin 512) (k : Fin 6144) :
    (iblk m c 3 t : Vec Ideal S1x1x6144 .f32) (ix3 0 0 k) = Md m c 1 (modAt (rowAt t r)) k := by
  obtain ⟨-, -, -, ⟨i0, i1, i2⟩, -⟩ := index_eq t
  have := lt_N t
  rw [← host_mod]
  unfold iblk
  rw [View.read_apply]
  show V m c main_v5 _ = V m c main_v5 _
  refine congrArg (V m c main_v5) (funext fun a => Fin.ext ?_)
  match a with
  | ⟨0, _⟩ => show win0_3.index t 0 * 1 + 1 * 0 = 16 * 1 + 0; rw [i0] <;> omega
  | ⟨1, _⟩ => show win0_3.index t 1 * 1 + 1 * 0 = 0; rw [i1]
  | ⟨2, _⟩ => show win0_3.index t 2 * 6144 + 1 * k.val = k.val; rw [i2]; omega

theorem blk4 (t : Fin cfg0.N) (j : Fin 4) (k : Fin 1024) : (iblk m c 4 t : Vec Ideal S4x1024 .f32) (ix2 j k) = G m c 1 j k := by
  obtain ⟨-, -, -, -, ⟨i0, i1⟩, -⟩ := index_eq t
  rw [← host_g]
  unfold iblk
  rw [View.read_apply]
  show V m c main_v4 _ = V m c main_v4 _
  refine congrArg (V m c main_v4) (funext fun a => Fin.ext ?_)
  match a with
  | ⟨0, _⟩ => show win0_4.index t 0 * 4 + 1 * j.val = j.val; rw [i0]; omega
  | ⟨1, _⟩ => show win0_4.index t 1 * 1024 + 1 * k.val = k.val; rw [i1]; omega

theorem blk5 (t : Fin cfg0.N) (k : Fin 1024) (j : Fin 5632) :
    (iblk m c 5 t : Vec Ideal S1024x5632 .bf16) (ix2 k j) = Wi m c 1 k j := by
  obtain ⟨-, -, -, -, -, ⟨i0, i1⟩, -⟩ := index_eq t
  rw [← host_wi]
  unfold iblk
  rw [View.read_apply]
  show V m c main_v9 _ = V m c main_v9 _
  refine congrArg (V m c main_v9) (funext fun a => Fin.ext ?_)
  match a with
  | ⟨0, _⟩ => show win0_5.index t 0 * 1024 + 1 * k.val = k.val; rw [i0]; omega
  | ⟨1, _⟩ => show win0_5.index t 1 * 5632 + 1 * j.val = j.val; rw [i1]; omega

theorem blk6 (t : Fin cfg0.N) (k : Fin 2816) (j : Fin 1024) :
    (iblk m c 6 t : Vec Ideal S2816x1024 .bf16) (ix2 k j) = Wo m c 1 k j := by
  obtain ⟨-, -, -, -, -, -, ⟨i0, i1⟩, -⟩ := index_eq t
  rw [← host_wo]
  unfold iblk
  rw [View.read_apply]
  show V m c main_v12 _ = V m c main_v12 _
  refine congrArg (V m c main_v12) (funext fun a => Fin.ext ?_)
  match a with
  | ⟨0, _⟩ => show win0_6.index t 0 * 2816 + 1 * k.val = k.val; rw [i0]; omega
  | ⟨1, _⟩ => show win0_6.index t 1 * 1024 + 1 * j.val = j.val; rw [i1]; omega

/-! ## The result -/

/-- Entry `(R, d)` of the result, from the arguments: the specification's row. -/
def entry (R : Fin 4096) (d : Fin 1024) : EReal :=
  TailSpec.tail (TailSpec.rowMul (O m c (req R) (tok R)) (Wm m c)) (X m c (req R) (tok R)) (Md m c 1 (modAt R)) (G m c 1) (Wi m c 1)
    (Wo m c 1) d

/-- The result array. -/
def res : Buf (Elt Ideal) ((c : Thread nD τ).loc main_v13) := fun i : S4096x1024.Idx => entry m c (i 0) (i 1)

/-- The body's block, from the blocks it is given. -/
theorem out_apply (x0 : Vec Ideal S512x1024 .bf16) (x1 : Vec Ideal S1024x1024 .bf16) (x2 : Vec Ideal S512x1024 .f32)
    (x3 : Vec Ideal S1x1x6144 .f32) (x4 : Vec Ideal S4x1024 .f32) (x5 : Vec Ideal S1024x5632 .bf16) (x6 : Vec Ideal S2816x1024 .bf16)
    (r : Fin 512) (d : Fin 1024) :
    out0_7 x0 x1 x2 x3 x4 x5 x6 (ix2 r d) = TailSpec.tail (TailSpec.rowMul (fun k => x0 (ix2 r k)) (fun k j => x1 (ix2 k j)))
      (fun k => x2 (ix2 r k)) (fun k => x3 (ix3 0 0 k)) (fun j k => x4 (ix2 j k)) (fun k j => x5 (ix2 k j)) (fun k j => x6 (ix2 k j)) d := by
  rw [Block.out_eq, show (ix2 r d : S512x1024.Idx) = r0_1.emb (ix2 r d) from funext fun a => Fin.ext (by
    match a with
    | ⟨0, _⟩ => show r.val = 0 + 1 * r.val; omega
    | ⟨1, _⟩ => show d.val = 0 + 1 * d.val; omega), View.canon_cons_emb]
  rw [show ∀ out x mod, Tail.tail Block.fits out x mod x4 x5 x6 (ix2 r d) = _ from fun out x mod =>
    Tail.tail_apply Block.fits out x mod x4 x5 x6 r d]
  have e0 : (fun k => Block.mixed x0 x1 (ix2 r k)) = TailSpec.rowMul (fun k => x0 (ix2 r k)) (fun k j => x1 (ix2 k j)) := funext fun k => by
    have e := Ideal.matmul_plain_apply none (shapeCast S512x1024 (View.ld x0 r0_1) shapeCasts_S512x1024_S512x1024 : FVec Ideal S512x1024 .bf16)
      (shapeCast S1024x1024 (View.ld x1 r0_2) shapeCasts_S1024x1024_S1024x1024 : FVec Ideal S1024x1024 .bf16)
      (constant S512x1024 .f32 0x00000000#32) r k
    simp only [← ix2_eq_valueIdx] at e
    refine e.trans ?_
    rw [show constant (F := Ideal) S512x1024 .f32 0x00000000#32 (ix2 r k) = 0 from by pointwise, zero_add]
    refine Finset.sum_congr rfl fun j _ => ?_
    rw [show (shapeCast S512x1024 (View.ld x0 r0_1) shapeCasts_S512x1024_S512x1024) (ix2 r j) = x0 (ix2 r j) by pointwise,
      show (shapeCast S1024x1024 (View.ld x1 r0_2) shapeCasts_S1024x1024_S1024x1024) (ix2 j k) = x1 (ix2 j k) by pointwise]
  have e1 : (fun k => shapeCast S512x1024 (View.ld x2 r0_1) shapeCasts_S512x1024_S512x1024 (ix2 r k)) = fun k => x2 (ix2 r k) :=
    funext fun k => by pointwise
  have e2 : (fun k => shapeCast S1x6144 (View.ld x3 r0_0) shapeCasts_S1x1x6144_S1x6144 (ix2 0 k)) = fun k => x3 (ix3 0 0 k) :=
    funext fun k => by pointwise
  rw [e0, e1, e2]

/-- Every point writes back its block of the result array. -/
theorem flushed_eq (t : Fin cfg0.N) : (dats m 0 c).flushed 7 t = ((cfg0.win 7).blk t).view.read (Elt Ideal) (res m c) := by
  rw [Value.flushed7]
  refine funext fun j : S512x1024.Idx => ?_
  obtain ⟨r, d, rfl⟩ : ∃ (r : Fin 512) (d : Fin 1024), j = ix2 r d :=
    ⟨j 0, j 1, funext fun a => by match a with | ⟨0, _⟩ => rfl | ⟨1, _⟩ => rfl⟩
  obtain ⟨-, -, -, -, -, -, -, ⟨i0, i1⟩⟩ := index_eq t
  have e : ((cfg0.win 7).blk t).view.read (Elt Ideal) (res m c) (ix2 r d : S512x1024.Idx) = entry m c (rowAt t r) d := by
    rw [View.read_apply]
    show entry m c _ _ = _
    refine congrArg₂ (entry m c) (Fin.ext ?_) (Fin.ext ?_)
    · show win0_7.index t 0 * 512 + 1 * r.val = 512 * t.val + r.val; rw [i0]; omega
    · show win0_7.index t 1 * 1024 + 1 * d.val = d.val; rw [i1]; omega
  rw [e]
  show out0_7 (iblk m c 0 t) (iblk m c 1 t) (iblk m c 2 t) (iblk m c 3 t) (iblk m c 4 t) (iblk m c 5 t) (iblk m c 6 t) (ix2 r d) = _
  rw [out_apply (iblk m c 0 t) (iblk m c 1 t) (iblk m c 2 t) (iblk m c 3 t) (iblk m c 4 t) (iblk m c 5 t) (iblk m c 6 t)]
  simp only [blk0, blk1, blk2, blk3 m c t r, blk4, blk5, blk6]
  rfl

/-- The blocks cover the array, so it ends holding the result. -/
theorem final : (dats m 0 c).arrAt 7 cfg0.N = res m c :=
  (dats m 0 c).arrAt_eq_of_cover 7 (res m c) (fun t _ => flushed_eq m c t) fun i => by
    have h0 : (i 0 : Nat) < 4096 := (i 0).isLt
    have h1 : (i 1 : Nat) < 1024 := (i 1).isLt
    let t : Fin cfg0.N := ⟨(i 0 : Nat) / 512, by show _ < 8; omega⟩
    obtain ⟨-, -, -, -, -, -, -, ⟨i0, i1⟩⟩ := index_eq t
    have tv : t.val = (i 0 : Nat) / 512 := rfl
    refine ⟨t, flush0_7 t, ?_⟩
    show i ∈ ((View.whole main_v13).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [i0]; omega
    | ⟨1, _⟩ =>
      show win0_7.index t 1 * 1024 ≤ (i 1 : Nat) ∧ (i 1 : Nat) < win0_7.index t 1 * 1024 + 1024
      rw [i1]; omega

end Cert.Kernel4Ideal.Array

end
-- ==== Proof.RefTail4.lean ====
/-
  The reference's result at the layer's end of the second layer, for the prompts, entry by entry.
-/
module

public import Idealize.ShloMosaic.Lib.Pointwise.Index
public import Idealize.ShloMosaic.PureOps.Ideal.Laws
public import proofs.«01_k».proof.Proof.TailSpec
public import proofs.«01_k».proof.Proof.Gen.Reference4Ideal.Read

@[expose] public section

set_option maxRecDepth 16384

noncomputable section

namespace Cert.Reference4Ideal.Tail

open Cert.Reference4Ideal Cert.Reference4Ideal.Gen Cert.Reference4Ideal.Read Idealize.ShloMosaic Idealize.SL.Sem

/-- Indices of two, and of three, coordinates are equal when the coordinates are. -/
theorem ext2 {n : Fin 2 → ℕ} {i j : (⟨2, n⟩ : Shape).Idx} (h0 : (i 0).val = (j 0).val) (h1 : (i 1).val = (j 1).val) : i = j := by
  funext a
  apply Fin.ext
  match a with
  | ⟨0, _⟩ => exact h0
  | ⟨1, _⟩ => exact h1

theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

variable (x0 : Vec Ideal S16x256x1024 .bf16) (x1 : Vec Ideal S16x256x1024 .f32) (x2 : Vec Ideal S2x16x6144 .f32) (x3 : Vec Ideal S2x4x1024 .f32)
  (x4 : Vec Ideal S1x1024x1024 .f32) (x5 : Vec Ideal S2x1024x5632 .f32) (x6 : Vec Ideal S2x2816x1024 .f32)

/-! ## The mixer's output -/

/-- The attention's output times the output projection. -/
theorem out_apply (b : Fin 16) (n : Fin 256) (d : Fin 1024) : (val_main_v2 (F := Ideal) x0 x4) (ix3 b n d)
    = TailSpec.rowMul (fun k => x0 (ix3 b n k)) (fun k j => x4 (ix3 0 k j)) d := by
  rw [val_main_v2_apply]
  refine Finset.sum_congr rfl fun k _ => ?_
  have e : (val_main_v1 (F := Ideal) x4) (ix2 k d) = x4 (ix3 0 k d) := by
    rw [val_main_v1_apply]
    exact congrArg x4 (ext3 rfl (by show (k.val * 1024 + d.val) / 1024 % 1024 = k.val; omega) (by show (k.val * 1024 + d.val) % 1024 = d.val; omega))
  exact congrArg₂ (· * ·) (congrArg x0 (ext3 rfl rfl rfl)) ((congrArg (val_main_v1 (F := Ideal) x4) (ext2 rfl rfl)).trans e)

/-! ## The layer's modulation -/

theorem mod_apply (k : Fin 6144) : (val_main_v5 (F := Ideal) x2) (ix3 0 0 k) = x2 (ix3 1 0 k) := by
  rw [val_main_v5_apply, val_main_v4_apply, val_main_v3_apply]
  refine congrArg x2 (ext3 ?_ ?_ ?_)
  · show 1 + 0 = 1; rfl
  · rfl
  · show (0 * 6144 + k.val) % 6144 = k.val; omega

/-- The gate of the mixer's output. -/
theorem gate1 (d : Fin 1024) : (val_main_v14 (F := Ideal) x2) (ix3 0 0 d) = x2 (ix3 1 0 (TailSpec.part 2 d)) := by
  rw [val_main_v14_apply, ← mod_apply x2]
  exact congrArg (val_main_v5 (F := Ideal) x2) (ext3 rfl rfl (by show 2048 + d.val = 1024 * 2 + d.val; omega))

/-- The network's shift. -/
theorem shift2 (d : Fin 1024) : (val_main_v15 (F := Ideal) x2) (ix3 0 0 d) = x2 (ix3 1 0 (TailSpec.part 3 d)) := by
  rw [val_main_v15_apply, ← mod_apply x2]
  exact congrArg (val_main_v5 (F := Ideal) x2) (ext3 rfl rfl (by show 3072 + d.val = 1024 * 3 + d.val; omega))

/-- The network's scale. -/
theorem scale2 (d : Fin 1024) : (val_main_v16 (F := Ideal) x2) (ix3 0 0 d) = x2 (ix3 1 0 (TailSpec.part 4 d)) := by
  rw [val_main_v16_apply, ← mod_apply x2]
  exact congrArg (val_main_v5 (F := Ideal) x2) (ext3 rfl rfl (by show 4096 + d.val = 1024 * 4 + d.val; omega))

/-- The gate of the network's output. -/
theorem gate2 (d : Fin 1024) : (val_main_v17 (F := Ideal) x2) (ix3 0 0 d) = x2 (ix3 1 0 (TailSpec.part 5 d)) := by
  rw [val_main_v17_apply, ← mod_apply x2]
  exact congrArg (val_main_v5 (F := Ideal) x2) (ext3 rfl rfl (by show 5120 + d.val = 1024 * 5 + d.val; omega))

/-! ## The layer's slices of the gains and of the weights -/

theorem g_apply (j : Fin 4) (d : Fin 1024) : (val_main_v7 (F := Ideal) x3) (ix2 j d) = x3 (ix3 1 j d) := by
  rw [val_main_v7_apply, val_main_v6_apply]
  refine congrArg x3 (ext3 ?_ ?_ ?_)
  · show 1 + 0 = 1; rfl
  · show (j.val * 1024 + d.val) / 1024 % 4 = j.val; omega
  · show (j.val * 1024 + d.val) % 1024 = d.val; omega

theorem wi_apply (k : Fin 1024) (j : Fin 5632) : (val_main_v9 (F := Ideal) x5) (ix2 k j) = x5 (ix3 1 k j) := by
  rw [val_main_v9_apply, val_main_v8_apply]
  refine congrArg x5 (ext3 ?_ ?_ ?_)
  · show 1 + 0 = 1; rfl
  · show (k.val * 5632 + j.val) / 5632 % 1024 = k.val; omega
  · show (k.val * 5632 + j.val) % 5632 = j.val; omega

theorem wo_apply (k : Fin 2816) (j : Fin 1024) : (val_main_v11 (F := Ideal) x6) (ix2 k j) = x6 (ix3 1 k j) := by
  rw [val_main_v11_apply, val_main_v10_apply]
  refine congrArg x6 (ext3 ?_ ?_ ?_)
  · show 1 + 0 = 1; rfl
  · show (k.val * 1024 + j.val) / 1024 % 2816 = k.val; omega
  · show (k.val * 1024 + j.val) % 1024 = j.val; omega

/-! ## The stream after the mixer's output is added -/

/-- The mixer output's norm's gain. -/
theorem gain1 (b : Fin 16) (n : Fin 256) (d : Fin 1024) : (val_main_v31 (F := Ideal) x3) (ix3 b n d) = x3 (ix3 1 1 d) := by
  rw [val_main_v31_apply, val_main_v30_apply, val_main_v19_apply, val_main_v18_apply, ← g_apply x3 1 d]
  refine congrArg (val_main_v7 (F := Ideal) x3) (ext2 ?_ ?_)
  · show 1 + 0 = 1; rfl
  · show d.val % 1024 = d.val; omega

/-- The mixer output's norm. -/
theorem norm1 (b : Fin 16) (n : Fin 256) (d : Fin 1024) :
    (val_main_v32 (F := Ideal) x0 x3 x4) (ix3 b n d) = TailSpec.rms (fun k => (val_main_v2 (F := Ideal) x0 x4) (ix3 b n k)) (fun k => x3 (ix3 1 1 k)) d := by
  have es : (val_main_v21 (F := Ideal) x0 x4) (ix2 b n) = ∑ k, (val_main_v2 (F := Ideal) x0 x4) (ix3 b n k) * (val_main_v2 (F := Ideal) x0 x4) (ix3 b n k) := by
    rw [val_main_v21_apply, val_main_cst_apply]
    show Ideal.ofBits .f32 0x00000000#32 + _ = _
    rw [Ideal.ofBits_zero_f32, zero_add]
    refine Finset.sum_congr rfl fun k _ => ?_
    rw [show idx_main_v21 (ix2 b n) k = ix3 b n k from ext3 rfl rfl rfl, val_main_v20_apply]
    rfl
  rw [val_main_v32_apply, gain1, val_main_v29_apply, val_main_v28_apply, val_main_v27_apply, val_main_v26_apply, val_main_v24_apply, val_main_v22_apply,
    val_main_v23_apply, val_main_v25_apply, val_main_cst_0_apply, val_main_cst_1_apply,
    show idx_main_v22 (idx_main_v28 (ix3 b n d)) = ix2 b n from ext2 rfl rfl, es]
  rfl

/-- The modulation, the gains and the weights as functions of their coordinates. -/
abbrev modRow (b : Fin 16) (k : Fin 6144) : EReal := x2 (ix3 1 0 k)
abbrev gains (j : Fin 4) (k : Fin 1024) : EReal := x3 (ix3 1 j k)

theorem mid_apply (b : Fin 16) (n : Fin 256) (d : Fin 1024) : (val_main_v35 (F := Ideal) x0 x1 x2 x3 x4) (ix3 b n d)
    = TailSpec.mid (fun k => (val_main_v2 (F := Ideal) x0 x4) (ix3 b n k)) (fun k => x1 (ix3 b n k)) (modRow x2 b) (gains x3) d := by
  rw [val_main_v35_apply, val_main_v34_apply, norm1, val_main_v33_apply, show idx_main_v33 (ix3 b n d) = ix3 0 0 d from ext3 rfl rfl rfl, gate1]
  rfl

/-! ## The network's input -/

/-- The network input's norm's gain. -/
theorem gain2 (b : Fin 16) (n : Fin 256) (d : Fin 1024) : (val_main_v49 (F := Ideal) x3) (ix3 b n d) = x3 (ix3 1 2 d) := by
  rw [val_main_v49_apply, val_main_v48_apply, val_main_v37_apply, val_main_v36_apply, ← g_apply x3 2 d]
  refine congrArg (val_main_v7 (F := Ideal) x3) (ext2 ?_ ?_)
  · show 2 + 0 = 2; rfl
  · show d.val % 1024 = d.val; omega

/-- The network input's norm. -/
theorem norm2 (b : Fin 16) (n : Fin 256) (d : Fin 1024) :
    (val_main_v50 (F := Ideal) x0 x1 x2 x3 x4) (ix3 b n d) = TailSpec.rms (fun k => (val_main_v35 (F := Ideal) x0 x1 x2 x3 x4) (ix3 b n k)) (fun k => x3 (ix3 1 2 k)) d := by
  have es : (val_main_v39 (F := Ideal) x0 x1 x2 x3 x4) (ix2 b n) = ∑ k, (val_main_v35 (F := Ideal) x0 x1 x2 x3 x4) (ix3 b n k) * (val_main_v35 (F := Ideal) x0 x1 x2 x3 x4) (ix3 b n k) := by
    rw [val_main_v39_apply, val_main_cst_2_apply]
    show Ideal.ofBits .f32 0x00000000#32 + _ = _
    rw [Ideal.ofBits_zero_f32, zero_add]
    refine Finset.sum_congr rfl fun k _ => ?_
    rw [show idx_main_v39 (ix2 b n) k = ix3 b n k from ext3 rfl rfl rfl, val_main_v38_apply]
    rfl
  rw [val_main_v50_apply, gain2, val_main_v47_apply, val_main_v46_apply, val_main_v45_apply, val_main_v44_apply, val_main_v42_apply, val_main_v40_apply,
    val_main_v41_apply, val_main_v43_apply, val_main_cst_3_apply, val_main_cst_4_apply,
    show idx_main_v40 (idx_main_v46 (ix3 b n d)) = ix2 b n from ext2 rfl rfl, es]
  rfl

theorem hid_apply (b : Fin 16) (n : Fin 256) (d : Fin 1024) : (val_main_v56 (F := Ideal) x0 x1 x2 x3 x4) (ix3 b n d)
    = TailSpec.hid (fun k => (val_main_v35 (F := Ideal) x0 x1 x2 x3 x4) (ix3 b n k)) (modRow x2 b) (gains x3) d := by
  rw [val_main_v56_apply, val_main_v54_apply, norm2, val_main_v53_apply, val_main_v55_apply, show idx_main_v55 (ix3 b n d) = ix3 0 0 d from ext3 rfl rfl rfl,
    show idx_main_v53 (ix3 b n d) = ix3 0 0 d from ext3 rfl rfl rfl, val_main_v52_apply, val_main_v51_apply, val_main_cst_5_apply, shift2, scale2]
  rfl

/-! ## The network -/

theorem lanes_apply (b : Fin 16) (n : Fin 256) (j : Fin 5632) : (val_main_v57 (F := Ideal) x0 x1 x2 x3 x4 x5) (ix3 b n j)
    = TailSpec.rowMul (fun k => (val_main_v56 (F := Ideal) x0 x1 x2 x3 x4) (ix3 b n k)) (fun k j => x5 (ix3 1 k j)) j := by
  rw [val_main_v57_apply]
  refine Finset.sum_congr rfl fun k _ => ?_
  exact congrArg₂ (· * ·) (congrArg (val_main_v56 (F := Ideal) x0 x1 x2 x3 x4) (ext3 rfl rfl rfl)) ((congrArg (val_main_v9 (F := Ideal) x5) (ext2 rfl rfl)).trans (wi_apply x5 k j))

theorem act_apply (b : Fin 16) (n : Fin 256) (j : Fin 2816) : (val_main_v61 (F := Ideal) x0 x1 x2 x3 x4 x5) (ix3 b n j)
    = TailSpec.act (fun k => (val_main_v56 (F := Ideal) x0 x1 x2 x3 x4) (ix3 b n k)) (fun k j => x5 (ix3 1 k j)) j := by
  have e0 : (val_main_v58 (F := Ideal) x0 x1 x2 x3 x4 x5) (ix3 b n j) = TailSpec.rowMul (fun k => (val_main_v56 (F := Ideal) x0 x1 x2 x3 x4) (ix3 b n k)) (fun k j => x5 (ix3 1 k j)) (TailSpec.gateCol j) := by
    rw [val_main_v58_apply, ← lanes_apply]
    exact congrArg (val_main_v57 (F := Ideal) x0 x1 x2 x3 x4 x5) (ext3 rfl rfl rfl)
  have e1 : (val_main_v59 (F := Ideal) x0 x1 x2 x3 x4 x5) (ix3 b n j) = TailSpec.rowMul (fun k => (val_main_v56 (F := Ideal) x0 x1 x2 x3 x4) (ix3 b n k)) (fun k j => x5 (ix3 1 k j)) (TailSpec.upCol j) := by
    rw [val_main_v59_apply, ← lanes_apply]
    exact congrArg (val_main_v57 (F := Ideal) x0 x1 x2 x3 x4 x5) (ext3 rfl rfl rfl)
  rw [val_main_v61_apply, e1, val_main_v60_apply, e0, val_main_call0_v5_apply, val_main_call0_v4_apply, val_main_call0_cst_0_apply, val_main_call0_v3_apply,
    val_main_call0_v2_apply, val_main_call0_cst_apply, val_main_call0_v1_apply, val_main_call0_v0_apply, e0]
  rfl

theorem ffn_apply (b : Fin 16) (n : Fin 256) (j : Fin 1024) : (val_main_v62 (F := Ideal) x0 x1 x2 x3 x4 x5 x6) (ix3 b n j)
    = TailSpec.rowMul (fun k => (val_main_v61 (F := Ideal) x0 x1 x2 x3 x4 x5) (ix3 b n k)) (fun k j => x6 (ix3 1 k j)) j := by
  rw [val_main_v62_apply]
  refine Finset.sum_congr rfl fun k _ => ?_
  exact congrArg₂ (· * ·) (congrArg (val_main_v61 (F := Ideal) x0 x1 x2 x3 x4 x5) (ext3 rfl rfl rfl)) ((congrArg (val_main_v11 (F := Ideal) x6) (ext2 rfl rfl)).trans (wo_apply x6 k j))

/-- The network output's norm's gain. -/
theorem gain3 (b : Fin 16) (n : Fin 256) (d : Fin 1024) : (val_main_v76 (F := Ideal) x3) (ix3 b n d) = x3 (ix3 1 3 d) := by
  rw [val_main_v76_apply, val_main_v75_apply, val_main_v64_apply, val_main_v63_apply, ← g_apply x3 3 d]
  refine congrArg (val_main_v7 (F := Ideal) x3) (ext2 ?_ ?_)
  · show 3 + 0 = 3; rfl
  · show d.val % 1024 = d.val; omega

/-- The network output's norm. -/
theorem norm3 (b : Fin 16) (n : Fin 256) (d : Fin 1024) :
    (val_main_v77 (F := Ideal) x0 x1 x2 x3 x4 x5 x6) (ix3 b n d) = TailSpec.rms (fun k => (val_main_v62 (F := Ideal) x0 x1 x2 x3 x4 x5 x6) (ix3 b n k)) (fun k => x3 (ix3 1 3 k)) d := by
  have es : (val_main_v66 (F := Ideal) x0 x1 x2 x3 x4 x5 x6) (ix2 b n) = ∑ k, (val_main_v62 (F := Ideal) x0 x1 x2 x3 x4 x5 x6) (ix3 b n k) * (val_main_v62 (F := Ideal) x0 x1 x2 x3 x4 x5 x6) (ix3 b n k) := by
    rw [val_main_v66_apply, val_main_cst_6_apply]
    show Ideal.ofBits .f32 0x00000000#32 + _ = _
    rw [Ideal.ofBits_zero_f32, zero_add]
    refine Finset.sum_congr rfl fun k _ => ?_
    rw [show idx_main_v66 (ix2 b n) k = ix3 b n k from ext3 rfl rfl rfl, val_main_v65_apply]
    rfl
  rw [val_main_v77_apply, gain3, val_main_v74_apply, val_main_v73_apply, val_main_v72_apply, val_main_v71_apply, val_main_v69_apply, val_main_v67_apply,
    val_main_v68_apply, val_main_v70_apply, val_main_cst_7_apply, val_main_cst_8_apply,
    show idx_main_v67 (idx_main_v73 (ix3 b n d)) = ix2 b n from ext2 rfl rfl, es]
  rfl

/-! ## The result -/

/-- The request of a row of all requests' rows, and its place in it. -/
abbrev req (R : Fin 4096) : Fin 16 := ⟨R.val / 256, by omega⟩
abbrev tok (R : Fin 4096) : Fin 256 := ⟨R.val % 256, Nat.mod_lt _ (by norm_num)⟩

/-- An entry of the result is the specification's. -/
theorem result_apply (R : Fin 4096) (d : Fin 1024) : (val_main_v81 (F := Ideal) x0 x1 x2 x3 x4 x5 x6) (ix2 R d)
    = TailSpec.tail (TailSpec.rowMul (fun k => x0 (ix3 (req R) (tok R) k)) (fun k j => x4 (ix3 0 k j))) (fun k => x1 (ix3 (req R) (tok R) k))
        (modRow x2 (req R)) (gains x3) (fun k j => x5 (ix3 1 k j)) (fun k j => x6 (ix3 1 k j)) d := by
  have eo : (fun k => (val_main_v2 (F := Ideal) x0 x4) (ix3 (req R) (tok R) k)) = TailSpec.rowMul (fun k => x0 (ix3 (req R) (tok R) k)) (fun k j => x4 (ix3 0 k j)) := funext fun k => out_apply x0 x4 _ _ _
  have e2 : (fun k => (val_main_v35 (F := Ideal) x0 x1 x2 x3 x4) (ix3 (req R) (tok R) k)) = _ := funext fun k => mid_apply x0 x1 x2 x3 x4 (req R) (tok R) k
  have e3 : (fun k => (val_main_v56 (F := Ideal) x0 x1 x2 x3 x4) (ix3 (req R) (tok R) k)) = _ := funext fun k => hid_apply x0 x1 x2 x3 x4 (req R) (tok R) k
  have e4 : (fun k => (val_main_v61 (F := Ideal) x0 x1 x2 x3 x4 x5) (ix3 (req R) (tok R) k)) = _ := funext fun k => act_apply x0 x1 x2 x3 x4 x5 (req R) (tok R) k
  have e5 : (fun k => (val_main_v62 (F := Ideal) x0 x1 x2 x3 x4 x5 x6) (ix3 (req R) (tok R) k)) = _ := funext fun k => ffn_apply x0 x1 x2 x3 x4 x5 x6 (req R) (tok R) k
  rw [val_main_v81_apply, show idx_main_v81 (ix2 R d) = ix3 (req R) (tok R) d from ext3
      (by show (R.val * 1024 + d.val) / 262144 = R.val / 256; omega)
      (by show (R.val * 1024 + d.val) / 1024 % 256 = R.val % 256; omega)
      (by show (R.val * 1024 + d.val) % 1024 = d.val; omega),
    val_main_v80_apply, mid_apply, val_main_v79_apply, norm3, val_main_v78_apply, show idx_main_v78 (ix3 (req R) (tok R) d) = ix3 0 0 d from ext3 rfl rfl rfl, gate2]
  rw [e5, e4, e3, e2, eo]
  rfl

end Cert.Reference4Ideal.Tail

end
-- ==== Proof.TailClaims4.lean ====
/-
  The claims about the layer's end of the second layer, for the prompts: its frames, and that the kernel's result is the reference's.
-/
module

public import proofs.«01_k».proof.Defs
public import proofs.«01_k».proof.Proof.Array4
public import proofs.«01_k».proof.Proof.RefTail4
public import proofs.«01_k».proof.Proof.Gen.Kernel4.Frame
public import proofs.«01_k».proof.Proof.Gen.Kernel4Ideal.Frame

@[expose] public section

set_option maxRecDepth 16384

noncomputable section

namespace Cert.TailClaims4

open Idealize.ShloMosaic Idealize.SL.Sem

/-- The kernel's frame, on machine words. -/
theorem frame_kernel : Cert.quiescent_Kernel4 := fun m ρ _ => Cert.Kernel4.Gen.frame m ρ

/-- The kernel's frame, on extended reals. -/
theorem frame_kernelIdeal : Cert.quiescent_Kernel4Ideal := fun m ρ _ => Cert.Kernel4Ideal.Gen.frame m ρ

/-- The reference's frame: it keeps its arguments and declares no semaphore. -/
theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- **The kernel's result is the reference's**, for all arguments. -/
theorem algebraic : Cert.algebraic_Kernel4Ideal_Reference4Ideal := by
  intro m g m' g' _ hagree
  refine ⟨fun c => Cert.Kernel4Ideal.Array.res m c, ?_, ?_⟩
  · exact (θ_run Cert.Kernel4Ideal.defs _ _).mono (fun r h c => ⟨(h c).1.trans (Cert.Kernel4Ideal.Array.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨e0, e1, e2, e3, e4, e5, e6⟩ := hagree c
    rw [Cert.Reference4Ideal.Read.val_main_v81_eq, e0, e1, e2, e3, e4, e5, e6]
    refine funext fun i => ?_
    obtain ⟨R, d, rfl⟩ : ∃ (R : Fin 4096) (d : Fin 1024), i = ix2 R d :=
      ⟨i 0, i 1, funext fun a => by match a with | ⟨0, _⟩ => rfl | ⟨1, _⟩ => rfl⟩
    exact Cert.Reference4Ideal.Tail.result_apply _ _ _ _ _ _ _ R d

end Cert.TailClaims4

end
-- ==== Proof.Pairs5.lean ====
/-
  The latent attention's body as the attention loop of `Flash`: each of the two pairs of heads runs it once a head, over
  the pair's own keys and the values that the two heads share, and keeps of each head's result its half of the lanes.
-/
module

public import proofs.«01_k».proof.Proof.HeadValue
public import proofs.«01_k».proof.Proof.Gen.Kernel5Ideal.Frame

@[expose] public section

set_option maxRecDepth 16384

noncomputable section

namespace Cert.Kernel5Ideal.Pairs

open Cert.Kernel5Ideal Cert.Kernel5Ideal.Gen Idealize.ShloMosaic Flash Facts
open Cert.KernelIdeal.Heads (fits blocks ratio)

variable {F : FTy → Type} [FloatOps F]

/-- The first head's lanes below 64 and the second head's from 64 on. -/
def halves (a0 a1 : FVec F S1024x256 .f32) : FVec F S1x1024x128 .bf16 :=
  shapeCast S1x1024x128 (truncf .bf16 (select (cmpi .slt (iota .tc S1024x128 32 [1] iota_S1024x128_d1_w32) (broadcast S1024x128 64#32))
    (ratio a0) (ratio a1)) bitsLt_bf16_f32) shapeCasts_S1024x128_S1x1024x128

/-- A pair of heads from the queries and the blocks of keys of each, and the blocks of values of both. -/
def pair (q0 q1 : FVec F S1024x128 .bf16) (K0 K1 V : ℕ → Vec F S256x128 .bf16) : FVec F S1x1024x128 .bf16 :=
  halves (rowAcc fits bitsLt_bf16_f32 q0 K0 V 17) (rowAcc fits bitsLt_bf16_f32 q1 K1 V 17)

set_option maxHeartbeats 4000000 in
/-- The body's output block: the second pair in its last 128 columns, the first pair in its first. -/
theorem out_eq (x0 : Vec F S1x4x1024x128 .bf16) (x1 : Vec F S1x4x4096x128 .bf16) (x2 : Vec F S1x2x4096x128 .bf16)
    (x3 : Vec F S1x4x512x128 .bf16) (x4 : Vec F S1x2x512x128 .bf16) :
    out0_5 x0 x1 x2 x3 x4 = View.canon
      [⟨r0_35, pair (shapeCast S1024x128 (View.ld x0 r0_27) shapeCasts_S1x1x1024x128_S1024x128)
        (shapeCast S1024x128 (View.ld x0 r0_28) shapeCasts_S1x1x1024x128_S1024x128)
        (blocks (shapeCast S512x128 (View.ld x3 r0_30) squeezes_S1x1x512x128_S512x128.numel_eq)
          (shapeCast S4096x128 (View.ld x1 r0_33) squeezes_S1x1x4096x128_S4096x128.numel_eq))
        (blocks (shapeCast S512x128 (View.ld x3 r0_31) squeezes_S1x1x512x128_S512x128.numel_eq)
          (shapeCast S4096x128 (View.ld x1 r0_34) squeezes_S1x1x4096x128_S4096x128.numel_eq))
        (blocks (shapeCast S512x128 (View.ld x4 r0_29) squeezes_S1x1x512x128_S512x128.numel_eq)
          (shapeCast S4096x128 (View.ld x2 r0_32) squeezes_S1x1x4096x128_S4096x128.numel_eq))⟩,
      ⟨r0_26, pair (shapeCast S1024x128 (View.ld x0 r0_0) shapeCasts_S1x1x1024x128_S1024x128)
        (shapeCast S1024x128 (View.ld x0 r0_1) shapeCasts_S1x1x1024x128_S1024x128)
        (blocks (shapeCast S512x128 (View.ld x3 r0_4) squeezes_S1x1x512x128_S512x128.numel_eq)
          (shapeCast S4096x128 (View.ld x1 r0_9) squeezes_S1x1x4096x128_S4096x128.numel_eq))
        (blocks (shapeCast S512x128 (View.ld x3 r0_5) squeezes_S1x1x512x128_S512x128.numel_eq)
          (shapeCast S4096x128 (View.ld x1 r0_10) squeezes_S1x1x4096x128_S4096x128.numel_eq))
        (blocks (shapeCast S512x128 (View.ld x4 r0_2) squeezes_S1x1x512x128_S512x128.numel_eq)
          (shapeCast S4096x128 (View.ld x2 r0_7) squeezes_S1x1x4096x128_S4096x128.numel_eq))⟩] := rfl

end Cert.Kernel5Ideal.Pairs

end
-- ==== Proof.MlaSpec.lean ====
/-
  What one entry of the latent attention is, from the queries, keys and values.
-/
module

public import proofs.«01_k».proof.Proof.DiffSpec

@[expose] public section

noncomputable section

namespace MlaSpec

open Idealize.ShloMosaic Softmax DiffSpec

/-- Which of a pair's two heads a lane of its values belongs to. -/
abbrev half (l : Fin 128) : Fin 2 := ⟨l.val / 64, by omega⟩

/-- The pair that a head belongs to. -/
abbrev pairOf (h : Fin 8) : Fin 4 := ⟨h.val / 2, by omega⟩

/-- Lane `e` of a head's values among its pair's lanes. -/
abbrev laneOf (h : Fin 8) (e : Fin 64) : Fin 128 := ⟨64 * (h.val % 2) + e.val, by omega⟩

/-- The score of a query and a key, over all lanes. -/
def full (q k : Fin 128 → EReal) : ℝ := ∑ d, (q d).toReal * (k d).toReal

/-- A row's attention at lane `l` of the values. -/
def row (q : Fin 128 → EReal) (k v : Fin 4608 → Fin 128 → EReal) (l : Fin 128) : ℝ :=
  attn (fun t => full q (k t)) fun t => (v t l).toReal

/-- **The attention's result** at batch `b`, row `n`, head `h` and column `e`, from the queries, the new keys and values and
    the context's keys and values. -/
def result (q kn : Fin 8 → Fin 8 → Fin 4096 → Fin 128 → EReal) (vn : Fin 8 → Fin 4 → Fin 4096 → Fin 128 → EReal)
    (kc : Fin 8 → Fin 8 → Fin 512 → Fin 128 → EReal) (vc : Fin 8 → Fin 4 → Fin 512 → Fin 128 → EReal)
    (b : Fin 8) (n : Fin 4096) (h : Fin 8) (e : Fin 64) : EReal :=
  (row (q b h n) (joined (kc b h) (kn b h)) (joined (vc b (pairOf h)) (vn b (pairOf h))) (laneOf h e) : EReal)

end MlaSpec

end
-- ==== Proof.PairValue5.lean ====
/-
  The latent attention's body at ideal arithmetic, on finite queries, keys and values: which entry of the attention each
  entry of the output block holds.
-/
module

public import proofs.«01_k».proof.Proof.Pairs5
public import proofs.«01_k».proof.Proof.BlockValue
public import proofs.«01_k».proof.Proof.MlaSpec

@[expose] public section

set_option maxRecDepth 16384

noncomputable section

namespace Cert.Kernel5Ideal.Pairs

open Cert.Kernel5Ideal Cert.Kernel5Ideal.Gen Idealize.ShloMosaic Flash Softmax DiffSpec MlaSpec Facts
open Cert.KernelIdeal.Heads (fits blocks ratio ratio_apply lane_lt allRows_eq real_of_apply)

/-- A lane of a pair's result is its head's. -/
theorem halves_apply (a0 a1 : FVec Ideal S1024x256 .f32) (r : Fin 1024) (l : Fin 128) :
    halves a0 a1 (ix3 0 r l) = if l.val < 64 then ratio a0 (ix2 r l) else ratio a1 (ix2 r l) := by
  have h : halves a0 a1 (ix3 0 r l) = select (cmpi .slt (iota .tc S1024x128 32 [1] iota_S1024x128_d1_w32) (broadcast S1024x128 64#32))
      (ratio a0) (ratio a1) (ix2 r l) := by
    unfold halves
    generalize select _ (ratio a0) (ratio a1) = y
    pointwise
  rw [h, ValueIdx.select_apply, lane_lt]
  split <;> rfl

/-- The row of a head from its blocks' entries. -/
theorem row_of {q : FVec Ideal S1024x128 .bf16} {kc vc : Vec Ideal S512x128 .bf16} {kn vn : Vec Ideal S4096x128 .bf16}
    {fq : Fin 1024 → Fin 128 → EReal} {fkc fvc : Fin 512 → Fin 128 → EReal} {fkn fvn : Fin 4096 → Fin 128 → EReal}
    (hq : ∀ r d, q (ix2 r d) = fq r d) (hkc : ∀ r d, kc (ix2 r d) = fkc r d) (hvc : ∀ r d, vc (ix2 r d) = fvc r d)
    (hkn : ∀ r d, kn (ix2 r d) = fkn r d) (hvn : ∀ r d, vn (ix2 r d) = fvn r d)
    (rq : ∀ r d, IsReal (fq r d)) (rkc : ∀ r d, IsReal (fkc r d)) (rvc : ∀ r d, IsReal (fvc r d))
    (rkn : ∀ r d, IsReal (fkn r d)) (rvn : ∀ r d, IsReal (fvn r d)) (r : Fin 1024) (l : Fin 128) :
    ratio (rowAcc fits bitsLt_bf16_f32 q (blocks kc kn) (blocks vc vn) 17) (ix2 r l)
      = (row (fq r) (joined fkc fkn) (joined fvc fvn) l : EReal) := by
  rw [ratio_apply q kc vc kn vn (real_of_apply hq rq) (real_of_apply hkc rkc) (real_of_apply hvc rvc) (real_of_apply hkn rkn)
    (real_of_apply hvn rvn) r l, allRows_eq hkc hkn, allRows_eq hvc hvn]
  simp only [hq]
  rfl

/-- A pair of heads from its blocks' entries. -/
theorem pair_of {q0 q1 : FVec Ideal S1024x128 .bf16} {kc0 kc1 vc : Vec Ideal S512x128 .bf16} {kn0 kn1 vn : Vec Ideal S4096x128 .bf16}
    {fq : Fin 2 → Fin 1024 → Fin 128 → EReal} {fkc : Fin 2 → Fin 512 → Fin 128 → EReal} {fkn : Fin 2 → Fin 4096 → Fin 128 → EReal}
    {fvc : Fin 512 → Fin 128 → EReal} {fvn : Fin 4096 → Fin 128 → EReal}
    (hq0 : ∀ r d, q0 (ix2 r d) = fq 0 r d) (hq1 : ∀ r d, q1 (ix2 r d) = fq 1 r d)
    (hkc0 : ∀ r d, kc0 (ix2 r d) = fkc 0 r d) (hkc1 : ∀ r d, kc1 (ix2 r d) = fkc 1 r d) (hvc : ∀ r d, vc (ix2 r d) = fvc r d)
    (hkn0 : ∀ r d, kn0 (ix2 r d) = fkn 0 r d) (hkn1 : ∀ r d, kn1 (ix2 r d) = fkn 1 r d) (hvn : ∀ r d, vn (ix2 r d) = fvn r d)
    (rq : ∀ j r d, IsReal (fq j r d)) (rkc : ∀ j r d, IsReal (fkc j r d)) (rvc : ∀ r d, IsReal (fvc r d))
    (rkn : ∀ j r d, IsReal (fkn j r d)) (rvn : ∀ r d, IsReal (fvn r d)) (r : Fin 1024) (l : Fin 128) :
    pair q0 q1 (blocks kc0 kn0) (blocks kc1 kn1) (blocks vc vn) (ix3 0 r l)
      = (row (fq (half l) r) (joined (fkc (half l)) (fkn (half l))) (joined fvc fvn) l : EReal) := by
  unfold pair
  rw [halves_apply]
  split
  · next h =>
    rw [row_of hq0 hkc0 hvc hkn0 hvn (rq 0) (rkc 0) rvc (rkn 0) rvn r l,
      show half l = 0 from Fin.ext (by show l.val / 64 = 0; omega)]
  · next h =>
    rw [row_of hq1 hkc1 hvc hkn1 hvn (rq 1) (rkc 1) rvc (rkn 1) rvn r l,
      show half l = 1 from Fin.ext (by have := l.isLt; show l.val / 64 = 1; omega)]

/-- The heads' queries. -/
theorem q0_apply (x : Vec Ideal S1x4x1024x128 .bf16) (r : Fin 1024) (d : Fin 128) :
    shapeCast S1024x128 (View.ld x r0_0) shapeCasts_S1x1x1024x128_S1024x128 (ix2 r d) = x (ix4 0 0 r d) := by pointwise
theorem q1_apply (x : Vec Ideal S1x4x1024x128 .bf16) (r : Fin 1024) (d : Fin 128) :
    shapeCast S1024x128 (View.ld x r0_1) shapeCasts_S1x1x1024x128_S1024x128 (ix2 r d) = x (ix4 0 1 r d) := by pointwise
theorem q2_apply (x : Vec Ideal S1x4x1024x128 .bf16) (r : Fin 1024) (d : Fin 128) :
    shapeCast S1024x128 (View.ld x r0_27) shapeCasts_S1x1x1024x128_S1024x128 (ix2 r d) = x (ix4 0 2 r d) := by pointwise
theorem q3_apply (x : Vec Ideal S1x4x1024x128 .bf16) (r : Fin 1024) (d : Fin 128) :
    shapeCast S1024x128 (View.ld x r0_28) shapeCasts_S1x1x1024x128_S1024x128 (ix2 r d) = x (ix4 0 3 r d) := by pointwise

/-- The heads' context keys. -/
theorem kc0_apply (x : Vec Ideal S1x4x512x128 .bf16) (r : Fin 512) (d : Fin 128) :
    shapeCast S512x128 (View.ld x r0_4) squeezes_S1x1x512x128_S512x128.numel_eq (ix2 r d) = x (ix4 0 0 r d) := by pointwise
theorem kc1_apply (x : Vec Ideal S1x4x512x128 .bf16) (r : Fin 512) (d : Fin 128) :
    shapeCast S512x128 (View.ld x r0_5) squeezes_S1x1x512x128_S512x128.numel_eq (ix2 r d) = x (ix4 0 1 r d) := by pointwise
theorem kc2_apply (x : Vec Ideal S1x4x512x128 .bf16) (r : Fin 512) (d : Fin 128) :
    shapeCast S512x128 (View.ld x r0_30) squeezes_S1x1x512x128_S512x128.numel_eq (ix2 r d) = x (ix4 0 2 r d) := by pointwise
theorem kc3_apply (x : Vec Ideal S1x4x512x128 .bf16) (r : Fin 512) (d : Fin 128) :
    shapeCast S512x128 (View.ld x r0_31) squeezes_S1x1x512x128_S512x128.numel_eq (ix2 r d) = x (ix4 0 3 r d) := by pointwise

/-- The heads' new keys. -/
theorem kn0_apply (x : Vec Ideal S1x4x4096x128 .bf16) (r : Fin 4096) (d : Fin 128) :
    shapeCast S4096x128 (View.ld x r0_9) squeezes_S1x1x4096x128_S4096x128.numel_eq (ix2 r d) = x (ix4 0 0 r d) := by pointwise
theorem kn1_apply (x : Vec Ideal S1x4x4096x128 .bf16) (r : Fin 4096) (d : Fin 128) :
    shapeCast S4096x128 (View.ld x r0_10) squeezes_S1x1x4096x128_S4096x128.numel_eq (ix2 r d) = x (ix4 0 1 r d) := by pointwise
theorem kn2_apply (x : Vec Ideal S1x4x4096x128 .bf16) (r : Fin 4096) (d : Fin 128) :
    shapeCast S4096x128 (View.ld x r0_33) squeezes_S1x1x4096x128_S4096x128.numel_eq (ix2 r d) = x (ix4 0 2 r d) := by pointwise
theorem kn3_apply (x : Vec Ideal S1x4x4096x128 .bf16) (r : Fin 4096) (d : Fin 128) :
    shapeCast S4096x128 (View.ld x r0_34) squeezes_S1x1x4096x128_S4096x128.numel_eq (ix2 r d) = x (ix4 0 3 r d) := by pointwise

/-- The pairs' context values. -/
theorem vc0_apply (x : Vec Ideal S1x2x512x128 .bf16) (r : Fin 512) (d : Fin 128) :
    shapeCast S512x128 (View.ld x r0_2) squeezes_S1x1x512x128_S512x128.numel_eq (ix2 r d) = x (ix4 0 0 r d) := by pointwise
theorem vc1_apply (x : Vec Ideal S1x2x512x128 .bf16) (r : Fin 512) (d : Fin 128) :
    shapeCast S512x128 (View.ld x r0_29) squeezes_S1x1x512x128_S512x128.numel_eq (ix2 r d) = x (ix4 0 1 r d) := by pointwise

/-- The pairs' new values. -/
theorem vn0_apply (x : Vec Ideal S1x2x4096x128 .bf16) (r : Fin 4096) (d : Fin 128) :
    shapeCast S4096x128 (View.ld x r0_7) squeezes_S1x1x4096x128_S4096x128.numel_eq (ix2 r d) = x (ix4 0 0 r d) := by pointwise
theorem vn1_apply (x : Vec Ideal S1x2x4096x128 .bf16) (r : Fin 4096) (d : Fin 128) :
    shapeCast S4096x128 (View.ld x r0_32) squeezes_S1x1x4096x128_S4096x128.numel_eq (ix2 r d) = x (ix4 0 1 r d) := by pointwise

/-- Where the first pair's columns stand. -/
theorem at_first (r : Fin 1024) (l : Fin 128) :
    (ix3 0 r ⟨128 * 0 + l.val, by omega⟩ : S1x1024x256.Idx) = r0_26.emb (ix3 0 r l) := funext fun a => Fin.ext (by
  match a with
  | ⟨0, _⟩ => rfl
  | ⟨1, _⟩ => show r.val = 0 + 1 * r.val; omega
  | ⟨2, _⟩ => show 128 * 0 + l.val = 0 + 1 * l.val; omega)

/-- Where the second pair's columns stand. -/
theorem at_second (r : Fin 1024) (l : Fin 128) :
    (ix3 0 r ⟨128 * 1 + l.val, by omega⟩ : S1x1024x256.Idx) = r0_35.emb (ix3 0 r l) := funext fun a => Fin.ext (by
  match a with
  | ⟨0, _⟩ => rfl
  | ⟨1, _⟩ => show r.val = 0 + 1 * r.val; omega
  | ⟨2, _⟩ => show 128 * 1 + l.val = 128 + 1 * l.val; omega)

/-- The head of pair `p` that lane `l` belongs to, among the block's four. -/
abbrev headOf (p : Fin 2) (l : Fin 128) : Fin 4 := ⟨2 * p.val + (half l).val, by omega⟩

/-- The first pair's heads and the second's. -/
abbrev firstTwo (j : Fin 2) : Fin 4 := ⟨j.val, by omega⟩
abbrev lastTwo (j : Fin 2) : Fin 4 := ⟨2 + j.val, by omega⟩

/-- **The body's block** at row `r`, lane `l` of its pair `p`. -/
theorem out_apply (x0 : Vec Ideal S1x4x1024x128 .bf16) (x1 : Vec Ideal S1x4x4096x128 .bf16) (x2 : Vec Ideal S1x2x4096x128 .bf16)
    (x3 : Vec Ideal S1x4x512x128 .bf16) (x4 : Vec Ideal S1x2x512x128 .bf16) (h0 : ∀ i, IsReal (x0 i)) (h1 : ∀ i, IsReal (x1 i))
    (h2 : ∀ i, IsReal (x2 i)) (h3 : ∀ i, IsReal (x3 i)) (h4 : ∀ i, IsReal (x4 i)) (p : Fin 2) (r : Fin 1024) (l : Fin 128) :
    out0_5 x0 x1 x2 x3 x4 (ix3 0 r ⟨128 * p.val + l.val, by omega⟩)
      = (row (fun d => x0 (ix4 0 (headOf p l) r d))
          (joined (fun t d => x3 (ix4 0 (headOf p l) t d)) (fun t d => x1 (ix4 0 (headOf p l) t d)))
          (joined (fun t d => x4 (ix4 0 p t d)) (fun t d => x2 (ix4 0 p t d))) l : EReal) := by
  rw [out_eq]
  match p with
  | ⟨0, _⟩ =>
    rw [View.canon_cons_of_not_mem _ _ (by
      rw [Rect.mem_set_unit]
      intro hm
      have hm2 := (hm 2).1
      have e' : 128 ≤ 128 * 0 + l.val := hm2
      omega)]
    rw [show (ix3 0 r ⟨128 * 0 + l.val, by omega⟩ : S1x1024x256.Idx) = r0_26.emb (ix3 0 r l) from at_first r l, View.canon_cons_emb]
    have e := pair_of (fq := fun j r d => x0 (ix4 0 (firstTwo j) r d)) (fkc := fun j r d => x3 (ix4 0 (firstTwo j) r d))
      (fkn := fun j r d => x1 (ix4 0 (firstTwo j) r d)) (q0_apply x0) (q1_apply x0) (kc0_apply x3) (kc1_apply x3) (vc0_apply x4)
      (kn0_apply x1) (kn1_apply x1) (vn0_apply x2) (fun _ _ _ => h0 _) (fun _ _ _ => h3 _) (fun _ _ => h4 _) (fun _ _ _ => h1 _)
      (fun _ _ => h2 _) r l
    have eh : headOf ⟨0, by omega⟩ l = firstTwo (half l) := Fin.ext (by show 2 * 0 + l.val / 64 = l.val / 64; omega)
    rw [eh]
    exact e
  | ⟨1, _⟩ =>
    rw [show (ix3 0 r ⟨128 * 1 + l.val, by omega⟩ : S1x1024x256.Idx) = r0_35.emb (ix3 0 r l) from at_second r l, View.canon_cons_emb]
    exact pair_of (fq := fun j r d => x0 (ix4 0 (lastTwo j) r d)) (fkc := fun j r d => x3 (ix4 0 (lastTwo j) r d))
      (fkn := fun j r d => x1 (ix4 0 (lastTwo j) r d)) (q2_apply x0) (q3_apply x0) (kc2_apply x3) (kc3_apply x3) (vc1_apply x4)
      (kn2_apply x1) (kn3_apply x1) (vn1_apply x2) (fun _ _ _ => h0 _) (fun _ _ _ => h3 _) (fun _ _ => h4 _) (fun _ _ _ => h1 _)
      (fun _ _ => h2 _) r l

end Cert.Kernel5Ideal.Pairs

end
-- ==== Proof.Array5.lean ====
/-
  The latent attention's result array: entry by entry the attention of the argument arrays.
-/
module

public import proofs.«01_k».proof.Proof.PairValue5
public import proofs.«01_k».proof.Proof.Gen.Kernel5Ideal.Value

@[expose] public section

set_option maxRecDepth 16384

noncomputable section

namespace Cert.Kernel5Ideal.Array

open Cert.Kernel5Ideal Cert.Kernel5Ideal.Gen Cert.Kernel5Ideal.Pairs Idealize.ShloMosaic Idealize.ShloMosaic.TcCoe Idealize.SL.Sem
open Softmax DiffSpec MlaSpec
open Idealize.ShloMosaic.Pipeline (Dat)

variable (m : (ℓ : Loc nD τ sig) → Buf (Elt Ideal) ℓ) (ρ : Dev nD → PrngReg)

/-- Which block of each array a grid point stages: point `t` is batch `t / 8`, half of the heads `t / 4 % 2`, query block
    `t % 4`. -/
theorem index_eq : ∀ t : Fin grid0.N,
    (win0_0.index t 0 = t.val / 8 ∧ win0_0.index t 1 = t.val / 4 % 2 ∧ win0_0.index t 2 = t.val % 4 ∧ win0_0.index t 3 = 0)
    ∧ (win0_1.index t 0 = t.val / 8 ∧ win0_1.index t 1 = t.val / 4 % 2 ∧ win0_1.index t 2 = 0 ∧ win0_1.index t 3 = 0)
    ∧ (win0_2.index t 0 = t.val / 8 ∧ win0_2.index t 1 = t.val / 4 % 2 ∧ win0_2.index t 2 = 0 ∧ win0_2.index t 3 = 0)
    ∧ (win0_3.index t 0 = t.val / 8 ∧ win0_3.index t 1 = t.val / 4 % 2 ∧ win0_3.index t 2 = 0 ∧ win0_3.index t 3 = 0)
    ∧ (win0_4.index t 0 = t.val / 8 ∧ win0_4.index t 1 = t.val / 4 % 2 ∧ win0_4.index t 2 = 0 ∧ win0_4.index t 3 = 0)
    ∧ (win0_5.index t 0 = t.val / 8 ∧ win0_5.index t 1 = t.val % 4 ∧ win0_5.index t 2 = t.val / 4 % 2) := by
  decide +kernel

/-- The grid has 64 points. -/
theorem lt_N (t : Fin cfg0.N) : t.val < 64 := t.isLt

/-- The batch, the head, the pair and the row of an entry of point `t`'s blocks. -/
abbrev bAt (t : Fin cfg0.N) : Fin 8 := ⟨t.val / 8, by have := lt_N t; omega⟩
abbrev hAt (t : Fin cfg0.N) (h : Fin 4) : Fin 8 := ⟨4 * (t.val / 4 % 2) + h.val, by omega⟩
abbrev pAt (t : Fin cfg0.N) (p : Fin 2) : Fin 4 := ⟨2 * (t.val / 4 % 2) + p.val, by omega⟩
abbrev nAt (t : Fin cfg0.N) (r : Fin 1024) : Fin 4096 := ⟨1024 * (t.val % 4) + r.val, by omega⟩

variable (c : Dev nD)

/-- The argument arrays as functions of their coordinates. -/
abbrev Q (b : Fin 8) (h : Fin 8) (n : Fin 4096) (d : Fin 128) : EReal := m ((c : Thread nD τ).loc main_arg0) (ix4 b h n d)
abbrev Kn (b : Fin 8) (h : Fin 8) (n : Fin 4096) (d : Fin 128) : EReal := m ((c : Thread nD τ).loc main_arg1) (ix4 b h n d)
abbrev Vn (b : Fin 8) (h : Fin 4) (n : Fin 4096) (d : Fin 128) : EReal := m ((c : Thread nD τ).loc main_arg2) (ix4 b h n d)
abbrev Kc (b : Fin 8) (h : Fin 8) (n : Fin 512) (d : Fin 128) : EReal := m ((c : Thread nD τ).loc main_arg3) (ix4 b h n d)
abbrev Vc (b : Fin 8) (h : Fin 4) (n : Fin 512) (d : Fin 128) : EReal := m ((c : Thread nD τ).loc main_arg4) (ix4 b h n d)

/-- A point's queries. -/
theorem blk0 (t : Fin cfg0.N) (h : Fin 4) (r : Fin 1024) (d : Fin 128) :
    (iblk m c 0 t : Vec Ideal S1x4x1024x128 .bf16) (ix4 0 h r d) = Q m c (bAt t) (hAt t h) (nAt t r) d := by
  obtain ⟨⟨i0, i1, i2, i3⟩, -⟩ := index_eq t
  unfold iblk
  rw [View.read_apply]
  show V m c main_arg0 _ = m ((c : Thread nD τ).loc main_arg0) _
  unfold V
  congr 1
  funext a
  apply Fin.ext
  match a with
  | ⟨0, _⟩ => show win0_0.index t 0 * 1 + 1 * 0 = t.val / 8; rw [i0]; omega
  | ⟨1, _⟩ => show win0_0.index t 1 * 4 + 1 * h.val = 4 * (t.val / 4 % 2) + h.val; rw [i1]; omega
  | ⟨2, _⟩ => show win0_0.index t 2 * 1024 + 1 * r.val = 1024 * (t.val % 4) + r.val; rw [i2]; omega
  | ⟨3, _⟩ => show win0_0.index t 3 * 128 + 1 * d.val = d.val; rw [i3]; omega

/-- A point's new keys. -/
theorem blk1 (t : Fin cfg0.N) (h : Fin 4) (r : Fin 4096) (d : Fin 128) :
    (iblk m c 1 t : Vec Ideal S1x4x4096x128 .bf16) (ix4 0 h r d) = Kn m c (bAt t) (hAt t h) r d := by
  obtain ⟨-, ⟨i0, i1, i2, i3⟩, -⟩ := index_eq t
  unfold iblk
  rw [View.read_apply]
  show V m c main_arg1 _ = m ((c : Thread nD τ).loc main_arg1) _
  unfold V
  congr 1
  funext a
  apply Fin.ext
  match a with
  | ⟨0, _⟩ => show win0_1.index t 0 * 1 + 1 * 0 = t.val / 8; rw [i0]; omega
  | ⟨1, _⟩ => show win0_1.index t 1 * 4 + 1 * h.val = 4 * (t.val / 4 % 2) + h.val; rw [i1]; omega
  | ⟨2, _⟩ => show win0_1.index t 2 * 4096 + 1 * r.val = r.val; rw [i2]; omega
  | ⟨3, _⟩ => show win0_1.index t 3 * 128 + 1 * d.val = d.val; rw [i3]; omega

/-- A point's new values. -/
theorem blk2 (t : Fin cfg0.N) (p : Fin 2) (r : Fin 4096) (d : Fin 128) :
    (iblk m c 2 t : Vec Ideal S1x2x4096x128 .bf16) (ix4 0 p r d) = Vn m c (bAt t) (pAt t p) r d := by
  obtain ⟨-, -, ⟨i0, i1, i2, i3⟩, -⟩ := index_eq t
  unfold iblk
  rw [View.read_apply]
  show V m c main_arg2 _ = m ((c : Thread nD τ).loc main_arg2) _
  unfold V
  congr 1
  funext a
  apply Fin.ext
  match a with
  | ⟨0, _⟩ => show win0_2.index t 0 * 1 + 1 * 0 = t.val / 8; rw [i0]; omega
  | ⟨1, _⟩ => show win0_2.index t 1 * 2 + 1 * p.val = 2 * (t.val / 4 % 2) + p.val; rw [i1]; omega
  | ⟨2, _⟩ => show win0_2.index t 2 * 4096 + 1 * r.val = r.val; rw [i2]; omega
  | ⟨3, _⟩ => show win0_2.index t 3 * 128 + 1 * d.val = d.val; rw [i3]; omega

/-- A point's context keys. -/
theorem blk3 (t : Fin cfg0.N) (h : Fin 4) (r : Fin 512) (d : Fin 128) :
    (iblk m c 3 t : Vec Ideal S1x4x512x128 .bf16) (ix4 0 h r d) = Kc m c (bAt t) (hAt t h) r d := by
  obtain ⟨-, -, -, ⟨i0, i1, i2, i3⟩, -⟩ := index_eq t
  unfold iblk
  rw [View.read_apply]
  show V m c main_arg3 _ = m ((c : Thread nD τ).loc main_arg3) _
  unfold V
  congr 1
  funext a
  apply Fin.ext
  match a with
  | ⟨0, _⟩ => show win0_3.index t 0 * 1 + 1 * 0 = t.val / 8; rw [i0]; omega
  | ⟨1, _⟩ => show win0_3.index t 1 * 4 + 1 * h.val = 4 * (t.val / 4 % 2) + h.val; rw [i1]; omega
  | ⟨2, _⟩ => show win0_3.index t 2 * 512 + 1 * r.val = r.val; rw [i2]; omega
  | ⟨3, _⟩ => show win0_3.index t 3 * 128 + 1 * d.val = d.val; rw [i3]; omega

/-- A point's context values. -/
theorem blk4 (t : Fin cfg0.N) (p : Fin 2) (r : Fin 512) (d : Fin 128) :
    (iblk m c 4 t : Vec Ideal S1x2x512x128 .bf16) (ix4 0 p r d) = Vc m c (bAt t) (pAt t p) r d := by
  obtain ⟨-, -, -, -, ⟨i0, i1, i2, i3⟩, -⟩ := index_eq t
  unfold iblk
  rw [View.read_apply]
  show V m c main_arg4 _ = m ((c : Thread nD τ).loc main_arg4) _
  unfold V
  congr 1
  funext a
  apply Fin.ext
  match a with
  | ⟨0, _⟩ => show win0_4.index t 0 * 1 + 1 * 0 = t.val / 8; rw [i0]; omega
  | ⟨1, _⟩ => show win0_4.index t 1 * 2 + 1 * p.val = 2 * (t.val / 4 % 2) + p.val; rw [i1]; omega
  | ⟨2, _⟩ => show win0_4.index t 2 * 512 + 1 * r.val = r.val; rw [i2]; omega
  | ⟨3, _⟩ => show win0_4.index t 3 * 128 + 1 * d.val = d.val; rw [i3]; omega

/-- What the precondition says of the arguments: they are finite. -/
structure Finite : Prop where
  q : ∀ i, IsReal ((m ((c : Thread nD τ).loc main_arg0) : Vec Ideal S8x8x4096x128 .bf16) i)
  kn : ∀ i, IsReal ((m ((c : Thread nD τ).loc main_arg1) : Vec Ideal S8x8x4096x128 .bf16) i)
  vn : ∀ i, IsReal ((m ((c : Thread nD τ).loc main_arg2) : Vec Ideal S8x4x4096x128 .bf16) i)
  kc : ∀ i, IsReal ((m ((c : Thread nD τ).loc main_arg3) : Vec Ideal S8x8x512x128 .bf16) i)
  vc : ∀ i, IsReal ((m ((c : Thread nD τ).loc main_arg4) : Vec Ideal S8x4x512x128 .bf16) i)

/-- The result array: at batch `b`, row `n` and column `64 h + e`, head `h`'s entry `e`. -/
def res : Buf (Elt Ideal) ((c : Thread nD τ).loc main_v0) := fun i : S8x4096x512.Idx =>
  result (Q m c) (Kn m c) (Vn m c) (Kc m c) (Vc m c) (i 0) (i 1)
    ⟨(i 2).val / 64, by have h : (i 2).val < 512 := (i 2).isLt; omega⟩ ⟨(i 2).val % 64, Nat.mod_lt _ (by norm_num)⟩

/-- The head of lane `l` of a pair, and the lane within the head. -/
abbrev eAt (l : Fin 128) : Fin 64 := ⟨l.val % 64, by omega⟩

/-- Where lane `l` of pair `p` in row `r` of point `t`'s output block lies in the result array. -/
theorem at_out (t : Fin cfg0.N) (p : Fin 2) (r : Fin 1024) (l : Fin 128) :
    ((cfg0.win 5).blk t).view.read (Elt Ideal) (res m c) (ix3 0 r ⟨128 * p.val + l.val, by omega⟩ : S1x1024x256.Idx)
      = result (Q m c) (Kn m c) (Vn m c) (Kc m c) (Vc m c) (bAt t) (nAt t r) (hAt t (headOf p l)) (eAt l) := by
  obtain ⟨-, -, -, -, -, ⟨i0, i1, i2⟩⟩ := index_eq t
  rw [View.read_apply]
  show result (Q m c) (Kn m c) (Vn m c) (Kc m c) (Vc m c) _ _ _ _ = _
  have hlt := l.isLt
  have hp := p.isLt
  congr 1
  · exact Fin.ext (by show win0_5.index t 0 * 1 + 1 * 0 = t.val / 8; rw [i0]; omega)
  · exact Fin.ext (by show win0_5.index t 1 * 1024 + 1 * r.val = 1024 * (t.val % 4) + r.val; rw [i1]; omega)
  · exact Fin.ext (by
      show (win0_5.index t 2 * 256 + 1 * (128 * p.val + l.val)) / 64 = 4 * (t.val / 4 % 2) + (2 * p.val + l.val / 64); rw [i2]; omega)
  · exact Fin.ext (by show (win0_5.index t 2 * 256 + 1 * (128 * p.val + l.val)) % 64 = l.val % 64; rw [i2]; omega)

/-- Every point writes back its block of the result array. -/
theorem flushed_eq (hf : Finite m c) (t : Fin cfg0.N) :
    (dats m 0 c).flushed 5 t = ((cfg0.win 5).blk t).view.read (Elt Ideal) (res m c) := by
  rw [Value.flushed5]
  refine funext fun j : S1x1024x256.Idx => ?_
  obtain ⟨z, r, p, l, rfl⟩ : ∃ (z : Fin 1) (r : Fin 1024) (p : Fin 2) (l : Fin 128), j = ix3 z r ⟨128 * p.val + l.val, by omega⟩ := by
    have h2 : (j 2).val < 256 := (j 2).isLt
    refine ⟨j 0, j 1, ⟨(j 2).val / 128, by omega⟩, ⟨(j 2).val % 128, by omega⟩, funext fun a => Fin.ext ?_⟩
    match a with
    | ⟨0, _⟩ => rfl
    | ⟨1, _⟩ => rfl
    | ⟨2, _⟩ => show (j 2).val = 128 * ((j 2).val / 128) + (j 2).val % 128; omega
  obtain rfl : z = 0 := Subsingleton.elim _ _
  rw [at_out]
  show out0_5 (iblk m c 0 t) (iblk m c 1 t) (iblk m c 2 t) (iblk m c 3 t) (iblk m c 4 t) (ix3 0 r ⟨128 * p.val + l.val, by omega⟩) = _
  rw [out_apply (iblk m c 0 t) (iblk m c 1 t) (iblk m c 2 t) (iblk m c 3 t) (iblk m c 4 t)
    (fun _ => hf.q _) (fun _ => hf.kn _) (fun _ => hf.vn _) (fun _ => hf.kc _) (fun _ => hf.vc _)]
  simp only [blk0, blk1, blk2, blk3, blk4]
  have hl := l.isLt
  have ep : pairOf (hAt t (headOf p l)) = pAt t p :=
    Fin.ext (by show (4 * (t.val / 4 % 2) + (2 * p.val + l.val / 64)) / 2 = 2 * (t.val / 4 % 2) + p.val; omega)
  have el : laneOf (hAt t (headOf p l)) (eAt l) = l :=
    Fin.ext (by show 64 * ((4 * (t.val / 4 % 2) + (2 * p.val + l.val / 64)) % 2) + l.val % 64 = l.val; omega)
  unfold MlaSpec.result
  rw [ep, el]

/-- The blocks cover the array, so it ends holding the result. -/
theorem final (hf : Finite m c) : (dats m 0 c).arrAt 5 cfg0.N = res m c :=
  (dats m 0 c).arrAt_eq_of_cover 5 (res m c) (fun t _ => flushed_eq m c hf t) fun i => by
    have h0 : (i 0 : Nat) < 8 := (i 0).isLt
    have h1 : (i 1 : Nat) < 4096 := (i 1).isLt
    have h2 : (i 2 : Nat) < 512 := (i 2).isLt
    let t : Fin cfg0.N := ⟨8 * (i 0 : Nat) + 4 * ((i 2 : Nat) / 256) + (i 1 : Nat) / 1024, by show _ < 64; omega⟩
    obtain ⟨-, -, -, -, -, ⟨i0, i1, i2⟩⟩ := index_eq t
    have tv : t.val = 8 * (i 0 : Nat) + 4 * ((i 2 : Nat) / 256) + (i 1 : Nat) / 1024 := rfl
    refine ⟨t, flush0_5 t, ?_⟩
    show i ∈ ((View.whole main_v0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [i0]; omega
    | ⟨1, _⟩ =>
      show win0_5.index t 1 * 1024 ≤ (i 1 : Nat) ∧ (i 1 : Nat) < win0_5.index t 1 * 1024 + 1024
      rw [i1]; omega
    | ⟨2, _⟩ =>
      show win0_5.index t 2 * 256 ≤ (i 2 : Nat) ∧ (i 2 : Nat) < win0_5.index t 2 * 256 + 256
      rw [i2]; omega

end Cert.Kernel5Ideal.Array

end
-- ==== Proof.RefValue5.lean ====
/-
  The latent attention's reference, entry by entry: the attention of its arguments.
-/
module

public import proofs.«01_k».proof.Proof.MlaSpec
public import proofs.«01_k».proof.Proof.RefValue
public import proofs.«01_k».proof.Proof.Gen.Reference5Ideal.Read

@[expose] public section

set_option maxRecDepth 16384

noncomputable section

namespace Cert.Reference5Ideal.Attention

open Cert.Reference5Ideal Cert.Reference5Ideal.Gen Cert.Reference5Ideal.Read Idealize.ShloMosaic Idealize.SL.Sem
open Softmax DiffSpec MlaSpec
open Cert.ReferenceIdeal.Attention (ext4 ext5 rowsOf rowsOf_real concat_apply ofBits_two)

variable (x0 x1 : Vec Ideal S8x8x4096x128 .bf16) (x2 : Vec Ideal S8x4x4096x128 .bf16) (x3 : Vec Ideal S8x8x512x128 .bf16)
  (x4 : Vec Ideal S8x4x512x128 .bf16)

/-- All values of a batch entry and a pair of heads: the context's, then the new ones. -/
abbrev valuesOf (b : Fin 8) (p : Fin 4) : Fin 4608 → Fin 128 → EReal :=
  joined (fun t d => x4 (ix4 b p t d)) (fun t d => x2 (ix4 b p t d))

/-- The new values behind the context's. -/
theorem values_apply (b : Fin 8) (p : Fin 4) (t : Fin 4608) (d : Fin 128) :
    val_main_v2 (F := Ideal) x2 x4 (ix4 b p t d) = valuesOf x2 x4 b p t d := by
  unfold val_main_v2 valuesOf joined
  split
  · next ht =>
    exact concatenate_pair_apply_left (t := S8x4x4608x128) (s₁ := S8x4x512x128) 2 x4 x2 _ (ix4 b p t d) rfl (ix4 b p ⟨t.val, ht⟩ d) fun a => by
      match a with | ⟨0, _⟩ => rfl | ⟨1, _⟩ => rfl | ⟨2, _⟩ => rfl | ⟨3, _⟩ => rfl
  · next ht =>
    refine concatenate_pair_apply_right (t := S8x4x4608x128) (s₁ := S8x4x512x128) (s₂ := S8x4x4096x128) 2 x4 x2 _ (ix4 b p t d) rfl rfl
      (ix4 b p ⟨t.val - 512, by omega⟩ d) ?_ ?_
    · intro a ha
      match a with
      | ⟨0, _⟩ => rfl
      | ⟨1, _⟩ => rfl
      | ⟨2, _⟩ => exact absurd rfl ha
      | ⟨3, _⟩ => rfl
    · show t.val - 512 + 512 = t.val
      omega

/-- A head's values are its half of its pair's lanes. -/
theorem v_apply (b h : Fin 8) (t : Fin 4608) (e : Fin 64) :
    val_main_v6 (F := Ideal) x2 x4 (ix4 b h t e) = valuesOf x2 x4 b (pairOf h) t (laneOf h e) := by
  have hb := b.isLt
  have hh := h.isLt
  have ht := t.isLt
  have he := e.isLt
  rw [val_main_v6_apply, show idx_main_v6 (ix4 b h t e) = ix5 b (pairOf h) ⟨h.val % 2, by omega⟩ t e from ext5
      (by show (((b.val * 8 + h.val) * 4608 + t.val) * 64 + e.val) / 2359296 = b.val; omega)
      (by show (((b.val * 8 + h.val) * 4608 + t.val) * 64 + e.val) / 589824 % 4 = h.val / 2; omega)
      (by show (((b.val * 8 + h.val) * 4608 + t.val) * 64 + e.val) / 294912 % 2 = h.val % 2; omega)
      (by show (((b.val * 8 + h.val) * 4608 + t.val) * 64 + e.val) / 64 % 4608 = t.val; omega)
      (by show (((b.val * 8 + h.val) * 4608 + t.val) * 64 + e.val) % 64 = e.val; omega),
    val_main_v5_apply, show idx_main_v5 (ix5 b (pairOf h) ⟨h.val % 2, by omega⟩ t e) = ix5 b (pairOf h) t ⟨h.val % 2, by omega⟩ e
      from ext5 rfl rfl rfl rfl rfl, val_main_v4_apply, val_main_v3_apply, ← values_apply]
  refine congrArg (val_main_v2 (F := Ideal) x2 x4) (ext4 ?_ ?_ ?_ ?_)
  · show ((((b.val * 4 + h.val / 2) * 4608 + t.val) * 2 + h.val % 2) * 64 + e.val) / 2359296 = b.val; omega
  · show ((((b.val * 4 + h.val / 2) * 4608 + t.val) * 2 + h.val % 2) * 64 + e.val) / 589824 % 4 = h.val / 2; omega
  · show ((((b.val * 4 + h.val / 2) * 4608 + t.val) * 2 + h.val % 2) * 64 + e.val) / 128 % 4608 = t.val; omega
  · show ((((b.val * 4 + h.val / 2) * 4608 + t.val) * 2 + h.val % 2) * 64 + e.val) % 128 = 64 * (h.val % 2) + e.val; omega

variable (h0 : ∀ i, IsReal (x0 i)) (h1 : ∀ i, IsReal (x1 i)) (h2 : ∀ i, IsReal (x2 i)) (h3 : ∀ i, IsReal (x3 i)) (h4 : ∀ i, IsReal (x4 i))

/-- The scores of query `n`. -/
abbrev S (b h : Fin 8) (n : Fin 4096) (t : Fin 4608) : ℝ := full (fun d => x0 (ix4 b h n d)) (rowsOf x1 x3 b h t)

include h0 h1 h3 in
/-- The product of a query and a key. -/
theorem product_apply (b h : Fin 8) (n : Fin 4096) (t : Fin 4608) :
    val_main_v8 (F := Ideal) x0 x1 x3 (ix4 b h n t) = (S x0 x1 x3 b h n t : EReal) := by
  rw [val_main_v8_apply]
  unfold S full
  rw [Flash.coe_sum]
  refine Finset.sum_congr rfl fun d _ => ?_
  rw [EReal.coe_mul, ← (h0 _).eq, ← (rowsOf_real x1 x3 h1 h3 b h t _).eq, ← concat_apply x1 x3]
  exact congrArg₂ (fun x y : EReal => x * y) (congrArg x0 (ext4 rfl rfl rfl rfl))
    (congrArg (val_main_v0 (F := Ideal) x1 x3) (ext4 rfl rfl rfl rfl))

include h0 h1 h3 in
/-- The scores to base `e`. -/
theorem scaled_apply (b h : Fin 8) (n : Fin 4096) (t : Fin 4608) :
    val_main_v11 (F := Ideal) x0 x1 x3 (ix4 b h n t) = ((S x0 x1 x3 b h n t * Real.log 2 : ℝ) : EReal) := by
  rw [val_main_v11_apply, product_apply x0 x1 x3 h0 h1 h3, val_main_v10_apply, val_main_v9_apply, val_main_cst_apply]
  show _ * Ideal.log (Ideal.ofBits .f32 0x40000000#32) = _
  rw [ofBits_two, Ideal.log_coe, if_neg (by norm_num), ← EReal.coe_mul]

include h0 h1 h3 in
/-- The row's greatest score is a real number. -/
theorem max_real (b h : Fin 8) (n : Fin 4096) : ∃ M : ℝ, val_main_v14 (F := Ideal) x0 x1 x3 (ix3 b h n) = M := by
  rw [val_main_v14_apply, val_main_v13_apply, val_main_cst_1_apply]
  obtain ⟨M, hM⟩ := Flash.fold_max_real (Finset.univ : Finset (Fin 4608)) ⟨⟨0, by omega⟩, Finset.mem_univ _⟩
    (fun t => val_main_v11 (F := Ideal) x0 x1 x3 (ix4 b h n t)) fun t => ⟨_, scaled_apply x0 x1 x3 h0 h1 h3 b h n t⟩
  refine ⟨M, ?_⟩
  have hr : S8x8x4096x4608.Reduces [3] S8x8x4096 := by decide
  have e : val_main_v12 (F := Ideal) x0 x1 x3 (ix3 b h n) = (M : EReal) := by
    unfold val_main_v12
    rw [Host.reduce_eq_fold_single _ _ _ _ hr]
    refine Eq.trans ?_ hM
    rw [← Flash.ofBits_negInf]
    refine congrArg (Finset.fold max _ · _) (funext fun t => ?_)
    exact congrArg (val_main_v11 (F := Ideal) x0 x1 x3) (ext4 rfl rfl rfl rfl)
  rw [e]
  show max (Ideal.ofBits .f32 0xFF800000#32) (M : EReal) = M
  rw [Flash.ofBits_negInf]
  exact max_eq_right bot_le

/-- Indices of three coordinates are equal when the coordinates are. -/
theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

include h0 h1 h3 in
/-- **The softmax** is the share of the weight to base two. -/
theorem softmax_apply (b h : Fin 8) (n : Fin 4096) (t : Fin 4608) :
    val_main_v22 (F := Ideal) x0 x1 x3 (ix4 b h n t) = (weight (S x0 x1 x3 b h n) t : EReal) := by
  obtain ⟨M, hM⟩ := max_real x0 x1 x3 h0 h1 h3 b h n
  have e : ∀ t : Fin 4608, val_main_v18 (F := Ideal) x0 x1 x3 (ix4 b h n t)
      = (Real.exp (S x0 x1 x3 b h n t * Real.log 2 - M) : EReal) := fun t => by
    rw [val_main_v18_apply, val_main_v17_apply, scaled_apply x0 x1 x3 h0 h1 h3, val_main_v16_apply, val_main_v15_apply]
    rw [show idx_main_v15 (idx_main_v16 (ix4 b h n t)) = ix3 b h n from ext3 rfl rfl rfl, hM]
    exact (congrArg Ideal.exp (EReal.coe_sub _ M).symm).trans (Ideal.exp_coe _)
  have s : val_main_v21 (F := Ideal) x0 x1 x3 (ix4 b h n t)
      = ((∑ u, Real.exp (S x0 x1 x3 b h n u * Real.log 2 - M) : ℝ) : EReal) := by
    rw [val_main_v21_apply, val_main_v20_apply,
      show idx_main_v20 (idx_main_v21 (ix4 b h n t)) = ix3 b h n from ext3 rfl rfl rfl, val_main_v19_apply]
    rw [val_main_cst_2_apply, Flash.coe_sum]
    show Ideal.ofBits .f32 _ + _ = _
    rw [Ideal.ofBits_zero, zero_add]
    refine Finset.sum_congr rfl fun u _ => ?_
    rw [← e]
    exact congrArg (val_main_v18 (F := Ideal) x0 x1 x3) (ext4 rfl rfl rfl rfl)
  rw [val_main_v22_apply, e, s, ← softmax_eq _ M]
  show Ideal.div _ _ = _
  rw [Ideal.div_coe (Finset.sum_pos (fun u _ => Real.exp_pos _) ⟨t, Finset.mem_univ _⟩).ne', ← EReal.coe_mul, mul_one_div]

include h0 h1 h2 h3 h4 in
/-- The product with the values is the attention. -/
theorem attended_apply (b : Fin 8) (n : Fin 4096) (h : Fin 8) (e : Fin 64) :
    val_main_v24 (F := Ideal) x0 x1 x2 x3 x4 (ix4 b n h e)
      = (row (fun d => x0 (ix4 b h n d)) (rowsOf x1 x3 b h) (valuesOf x2 x4 b (pairOf h)) (laneOf h e) : EReal) := by
  have real : ∀ t d, IsReal (valuesOf x2 x4 b (pairOf h) t d) := fun t d => by
    unfold valuesOf joined
    split
    · exact h4 _
    · exact h2 _
  rw [val_main_v24_apply, show idx_main_v24 (ix4 b n h e) = ix4 b h e n from ext4 rfl rfl rfl rfl, val_main_v23_apply]
  unfold row
  rw [← sum_weight, Flash.coe_sum]
  refine Finset.sum_congr rfl fun t _ => ?_
  rw [show lidx_main_v23 (ix4 b h e n) t = ix4 b h t e from ext4 rfl rfl rfl rfl,
    show ridx_main_v23 (ix4 b h e n) t = ix4 b h n t from ext4 rfl rfl rfl rfl,
    softmax_apply x0 x1 x3 h0 h1 h3, v_apply x2 x4, EReal.coe_mul, ← (real t _).eq]

include h0 h1 h2 h3 h4 in
/-- **The reference's result** is the latent attention of its arguments. -/
theorem value (i : S8x4096x512.Idx) :
    val_main_v26 (F := Ideal) x0 x1 x2 x3 x4 i
      = result (fun b h n d => x0 (ix4 b h n d)) (fun b h n d => x1 (ix4 b h n d)) (fun b h n d => x2 (ix4 b h n d))
          (fun b h n d => x3 (ix4 b h n d)) (fun b h n d => x4 (ix4 b h n d)) (i 0) (i 1)
          ⟨(i 2).val / 64, by have h : (i 2).val < 512 := (i 2).isLt; omega⟩ ⟨(i 2).val % 64, Nat.mod_lt _ (by norm_num)⟩ := by
  rw [val_main_v26_apply, val_main_v25_apply]
  have b0 : (i 0).val < 8 := (i 0).isLt
  have b1 : (i 1).val < 4096 := (i 1).isLt
  have b2 : (i 2).val < 512 := (i 2).isLt
  rw [show idx_main_v25 i = ix4 (i 0) (i 1) ⟨(i 2).val / 64, by omega⟩ ⟨(i 2).val % 64, Nat.mod_lt _ (by norm_num)⟩ from ext4
      (by show (((i 0).val * 4096 + (i 1).val) * 512 + (i 2).val) / 2097152 = (i 0).val; omega)
      (by show (((i 0).val * 4096 + (i 1).val) * 512 + (i 2).val) / 512 % 4096 = (i 1).val; omega)
      (by show (((i 0).val * 4096 + (i 1).val) * 512 + (i 2).val) / 64 % 8 = (i 2).val / 64; omega)
      (by show (((i 0).val * 4096 + (i 1).val) * 512 + (i 2).val) % 64 = (i 2).val % 64; omega)]
  exact attended_apply x0 x1 x2 x3 x4 h0 h1 h2 h3 h4 _ _ _ _

end Cert.Reference5Ideal.Attention

end
-- ==== Proof.MlaClaims5.lean ====
/-
  The claims about the latent attention: its frames, and that the kernel's result is the reference's.
-/
module

public import proofs.«01_k».proof.Defs
public import proofs.«01_k».proof.Proof.Array5
public import proofs.«01_k».proof.Proof.RefValue5
public import proofs.«01_k».proof.Proof.Gen.Kernel5.Frame
public import proofs.«01_k».proof.Proof.Gen.Kernel5Ideal.Frame
public import proofs.«01_k».proof.Proof.Gen.Pre_finite5

@[expose] public section

set_option maxRecDepth 16384

noncomputable section

namespace Cert.MlaClaims5

open Idealize.ShloMosaic Idealize.SL.Sem Softmax

/-- The precondition, entry by entry. -/
theorem finite_of_pre {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) : Cert.Kernel5Ideal.Array.Finite m c := by
  obtain ⟨h0, h1, h2, h3, h4⟩ := h c
  exact ⟨fun i => isReal_of_cmp _ (congrFun h0 i), fun i => isReal_of_cmp _ (congrFun h1 i), fun i => isReal_of_cmp _ (congrFun h2 i),
    fun i => isReal_of_cmp _ (congrFun h3 i), fun i => isReal_of_cmp _ (congrFun h4 i)⟩

/-- The kernel's frame, on machine words. -/
theorem frame_kernel : Cert.quiescent_Kernel5 := fun m ρ _ => Cert.Kernel5.Gen.frame m ρ

/-- The kernel's frame, on extended reals. -/
theorem frame_kernelIdeal : Cert.quiescent_Kernel5Ideal := fun m ρ _ => Cert.Kernel5Ideal.Gen.frame m ρ

/-- The reference's frame: it keeps its arguments and declares no semaphore. -/
theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- **The kernel's result is the reference's**, for finite queries, keys and values. -/
theorem algebraic : Cert.algebraic_Kernel5Ideal_Reference5Ideal_pre_finite5 := by
  intro m g m' g' hpre hagree
  refine ⟨fun c => Cert.Kernel5Ideal.Array.res m c, ?_, ?_⟩
  · exact (θ_run Cert.Kernel5Ideal.defs _ _).mono
      (fun r h c => ⟨(h c).1.trans (Cert.Kernel5Ideal.Array.final m c (finite_of_pre hpre c)), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    obtain ⟨e0, e1, e2, e3, e4⟩ := hagree c
    obtain ⟨f0, f1, f2, f3, f4⟩ := finite_of_pre hpre c
    rw [Cert.Reference5Ideal.Read.val_main_v26_eq, e0, e1, e2, e3, e4]
    exact funext fun i => Cert.Reference5Ideal.Attention.value _ _ _ _ _ f0 f1 f2 f3 f4 i

end Cert.MlaClaims5

end
-- ==== Proof.InSpec.lean ====
/-
  What one row before the second layer's attention is: the stream normed, modulated and times the projections' columns;
  and what the rotation of positions does to a head's lanes.
-/
module

public import proofs.«01_k».proof.Proof.TailSpec

@[expose] public section

noncomputable section

namespace InSpec

open Idealize.ShloMosaic TailSpec

/-- The mixer's input from a row of the stream: normed, scaled and shifted. -/
def hid (x : Fin 1024 → EReal) (mod : Fin 6144 → EReal) (g : Fin 1024 → EReal) (d : Fin 1024) : EReal :=
  rms x g d * (one + mod (part 1 d)) + mod (part 0 d)

/-- The row times column `j` of the projections. -/
def proj (x : Fin 1024 → EReal) (mod : Fin 6144 → EReal) (g : Fin 1024 → EReal) (w : Fin 1024 → Fin 3072 → EReal) (j : Fin 3072) : EReal :=
  rowMul (hid x mod g) w j

/-- Column `d` of the queries (`p = 0`), the keys (`p = 1`) or the values (`p = 2`). -/
abbrev col (p : Fin 3) (d : Fin 1024) : Fin 3072 := ⟨1024 * p.val + d.val, by omega⟩

/-- Lane `l` of head `h` among the 1024 columns of the queries, keys or values. -/
abbrev lane (h : Fin 8) (l : Fin 128) : Fin 1024 := ⟨128 * h.val + l.val, by omega⟩

/-- The word of the queries' factor, log₂ e over the square root of 64. -/
abbrev qScale : EReal := Ideal.ofBits .f32 0x3E38AA3B#32

/-- The other lane of a lane's pair. -/
abbrev mate (l : Fin 128) : Fin 128 := ⟨if l.val % 2 = 0 then l.val + 1 else l.val - 1, by have := l.isLt; split <;> omega⟩

/-- The pair of a lane; a head's 128 lanes are two halves of 32 pairs, which turn by the same angles. -/
abbrev pair (l : Fin 128) : Fin 32 := ⟨l.val % 64 / 2, by omega⟩

/-- A head's lane after the rotation: the even lane of a pair becomes `e cos − o sin`, the odd one `e sin + o cos`. -/
def rot (cos sin : Fin 32 → EReal) (v : Fin 128 → EReal) (l : Fin 128) : EReal :=
  if l.val % 2 = 0 then v l * cos (pair l) - v (mate l) * sin (pair l) else v (mate l) * sin (pair l) + v l * cos (pair l)

end InSpec

end
-- ==== Proof.InBlock.lean ====
/-
  The projections before the second layer's attention as the kernel body computes them on a block of rows, and the
  block's entries at ideal arithmetic.
-/
module

public import proofs.«01_k».proof.Proof.Flash
public import proofs.«01_k».proof.Proof.InSpec

@[expose] public section

set_option maxRecDepth 16384

noncomputable section

namespace Enter

open Idealize.ShloMosaic Flash

/-- The shape relations of the operations on a block of `R` rows. -/
structure Fits (R : ℕ) : Prop where
  bits : FTy.bits .bf16 < FTy.bits .f32
  same : (Mat R 1024).ShapeCasts (Mat R 1024)
  gain : (Mat 1 1024).ShapeCasts (Mat 1 1024)
  mods : (⟨3, ![1, 1, 6144]⟩ : Shape).ShapeCasts (Mat 1 6144)
  red : (Mat R 1024).Reduces [1] ⟨1, ![R]⟩
  col : (⟨1, ![R]⟩ : Shape).ShapeCasts (Mat R 1)
  bcCol : (Mat R 1).Broadcasts (Mat R 1024)
  bcRow : (Mat 1 1024).Broadcasts (Mat R 1024)
  shift : (Mat 1 6144).Slices ![0, 0] (Mat 1 1024)
  scale : (Mat 1 6144).Slices ![0, 1024] (Mat 1 1024)

variable {F : FTy → Type} [FloatOps F] {R : ℕ}

/-- The row-wise root-mean-square norm with its gain. -/
def norm (h : Fits R) (o : FVec F (Mat R 1024) .f32) (g : FVec F (Mat 1 1024) .f32) : FVec F (Mat R 1024) .f32 :=
  mulf (mulf o (broadcastTo (Mat R 1024) (rsqrt (addf (divf
    (shapeCast (Mat R 1) (multiReduction .add [1] ⟨1, ![R]⟩ (mulf o o) 0x00000000#32 h.red (.inl rfl) rfl) h.col)
    (broadcast (Mat R 1) (Scalar.ofBits .f32 0x44800000#32 : F .f32)))
    (broadcast (Mat R 1) (Scalar.ofBits .f32 0x358637BD#32 : F .f32)))) h.bcCol))
    (broadcastTo (Mat R 1024) g h.bcRow)

/-- The mixer's input: the stream normed, scaled and shifted. -/
def hidden (h : Fits R) (mod : FVec F (Mat 1 6144) .f32) (x : FVec F (Mat R 1024) .f32) (g : FVec F (Mat 1 1024) .f32) :
    FVec F (Mat R 1024) .bf16 :=
  truncf .bf16 (addf (mulf (norm h x g)
    (broadcastTo (Mat R 1024) (addf (broadcast (Mat 1 1024) (Scalar.ofBits .f32 0x3F800000#32 : F .f32))
      (extractStridedSlice (Mat 1 1024) ![0, 1024] mod h.scale)) h.bcRow))
    (broadcastTo (Mat R 1024) (extractStridedSlice (Mat 1 1024) ![0, 0] mod h.shift) h.bcRow)) h.bits

/-- The block: the mixer's input times the projections. -/
def block (h : Fits R) (hw : (Mat 1024 3072).ShapeCasts (Mat 1024 3072)) (mod : Vec F ⟨3, ![1, 1, 6144]⟩ .f32) (x : Vec F (Mat R 1024) .f32)
    (g : Vec F (Mat 1 1024) .f32) (w : Vec F (Mat 1024 3072) .bf16) : FVec F (Mat R 3072) .f32 :=
  matmul (DotDims.plain R 1024 3072) none
    (hidden h (shapeCast (Mat 1 6144) mod h.mods) (shapeCast (Mat R 1024) x h.same) (shapeCast (Mat 1 1024) g h.gain))
    (shapeCast (Mat 1024 3072) w hw) (constant (Mat R 3072) .f32 0x00000000#32)

/-- The norm at an entry. -/
theorem norm_apply (h : Fits R) (o : FVec Ideal (Mat R 1024) .f32) (g : FVec Ideal (Mat 1 1024) .f32) (r : Fin R) (d : Fin 1024) :
    norm h o g (ix2 r d) = TailSpec.rms (fun c => o (ix2 r c)) (fun c => g (ix2 0 c)) d := by
  have hred := h.red
  have ec : ∀ v : FVec Ideal (Mat R 1) .f32, broadcastTo (Mat R 1024) v h.bcCol (ix2 r d) = v (ix2 r 0) := fun v =>
    broadcastTo_apply v h.bcCol _ _ fun a => by
      match a with
      | ⟨0, _⟩ =>
        show r.val = if R = 1 then 0 else r.val
        have := r.isLt
        split <;> omega
      | ⟨1, _⟩ => rfl
  have er : broadcastTo (Mat R 1024) g h.bcRow (ix2 r d) = g (ix2 0 d) :=
    broadcastTo_apply g h.bcRow _ _ fun a => by
      match a with
      | ⟨0, _⟩ => rfl
      | ⟨1, _⟩ => rfl
  have es : shapeCast (Mat R 1) (multiReduction .add [1] ⟨1, ![R]⟩ (mulf o o) 0x00000000#32 h.red (.inl rfl) rfl) h.col (ix2 r 0)
      = ∑ c, o (ix2 r c) * o (ix2 r c) := by
    rw [shapeCast_apply _ h.col (ix2 r 0) (ix1 r) (by
      rw [Shape.rowMajor_val_one, Shape.rowMajor_val_two]
      show r.val = r.val * 1 + 0
      omega)]
    pointwise
  show _ = o (ix2 r d) * Ideal.rsqrt (Ideal.div (∑ c, o (ix2 r c) * o (ix2 r c)) (Ideal.ofBits .f32 0x44800000#32)
    + Ideal.ofBits .f32 0x358637BD#32) * g (ix2 0 d)
  rw [← er, ← es]
  unfold norm
  show o (ix2 r d) * broadcastTo (Mat R 1024) _ h.bcCol (ix2 r d) * _ = _
  rw [ec]
  rfl

/-- The mixer's input at an entry. -/
theorem hidden_apply (h : Fits R) (mod : FVec Ideal (Mat 1 6144) .f32) (x : FVec Ideal (Mat R 1024) .f32) (g : FVec Ideal (Mat 1 1024) .f32)
    (r : Fin R) (d : Fin 1024) :
    hidden h mod x g (ix2 r d) = InSpec.hid (fun c => x (ix2 r c)) (fun c => mod (ix2 0 c)) (fun c => g (ix2 0 c)) d := by
  show _ = TailSpec.rms (fun c => x (ix2 r c)) (fun c => g (ix2 0 c)) d * (TailSpec.one + mod (ix2 0 (TailSpec.part 1 d)))
    + mod (ix2 0 (TailSpec.part 0 d))
  rw [← norm_apply h x g r d]
  have es : extractStridedSlice (Mat 1 1024) ![0, 1024] mod h.scale (ix2 0 d) = mod (ix2 0 (TailSpec.part 1 d)) :=
    congrArg mod (funext fun a => Fin.ext (by
      match a with
      | ⟨0, _⟩ => rfl
      | ⟨1, _⟩ => show 1024 + d.val = 1024 * 1 + d.val; omega))
  have et : extractStridedSlice (Mat 1 1024) ![0, 0] mod h.shift (ix2 0 d) = mod (ix2 0 (TailSpec.part 0 d)) :=
    congrArg mod (funext fun a => Fin.ext (by
      match a with
      | ⟨0, _⟩ => rfl
      | ⟨1, _⟩ => show 0 + d.val = 1024 * 0 + d.val; omega))
  show norm h x g (ix2 r d) * broadcastTo (Mat R 1024) _ h.bcRow (ix2 r d) + broadcastTo (Mat R 1024) _ h.bcRow (ix2 r d) = _
  have er : ∀ v : FVec Ideal (Mat 1 1024) .f32, broadcastTo (Mat R 1024) v h.bcRow (ix2 r d) = v (ix2 0 d) := fun v =>
    broadcastTo_apply v h.bcRow _ _ fun a => by
      match a with
      | ⟨0, _⟩ => rfl
      | ⟨1, _⟩ => rfl
  rw [er, er, et, ← es]
  rfl

/-- **The block at an entry**: the specification's row. -/
theorem block_apply (h : Fits R) (hw : (Mat 1024 3072).ShapeCasts (Mat 1024 3072)) (mod : Vec Ideal ⟨3, ![1, 1, 6144]⟩ .f32)
    (x : Vec Ideal (Mat R 1024) .f32) (g : Vec Ideal (Mat 1 1024) .f32) (w : Vec Ideal (Mat 1024 3072) .bf16) (r : Fin R) (j : Fin 3072) :
    block h hw mod x g w (ix2 r j)
      = InSpec.proj (fun c => x (ix2 r c)) (fun c => mod (ix3 0 0 c)) (fun c => g (ix2 0 c)) (fun k j => w (ix2 k j)) j := by
  have e := Ideal.matmul_plain_apply none
    (hidden h (shapeCast (Mat 1 6144) mod h.mods) (shapeCast (Mat R 1024) x h.same) (shapeCast (Mat 1 1024) g h.gain))
    (shapeCast (Mat 1024 3072) w hw : FVec Ideal (Mat 1024 3072) .bf16) (constant (Mat R 3072) .f32 0x00000000#32) r j
  simp only [← ix2_eq_valueIdx] at e
  refine e.trans ?_
  rw [show constant (F := Ideal) (Mat R 3072) .f32 0x00000000#32 (ix2 r j) = 0 from by pointwise, zero_add]
  unfold InSpec.proj TailSpec.rowMul
  refine Finset.sum_congr rfl fun k _ => ?_
  rw [hidden_apply, shapeCast_apply _ hw (ix2 k j) (ix2 k j) rfl]
  have e1 : (fun c => shapeCast (Mat R 1024) x h.same (ix2 r c)) = fun c => x (ix2 r c) :=
    funext fun c => shapeCast_apply _ h.same (ix2 r c) (ix2 r c) rfl
  have e2 : (fun c => shapeCast (Mat 1 6144) mod h.mods (ix2 0 c)) = fun c => mod (ix3 0 0 c) :=
    funext fun c => shapeCast_apply _ h.mods (ix2 0 c) (ix3 0 0 c) (by
      rw [Shape.rowMajor_val_three, Shape.rowMajor_val_two]
      show (0 * 1 + 0) * 6144 + c.val = 0 * 6144 + c.val
      omega)
  have e3 : (fun c => shapeCast (Mat 1 1024) g h.gain (ix2 0 c)) = fun c => g (ix2 0 c) :=
    funext fun c => shapeCast_apply _ h.gain (ix2 0 c) (ix2 0 c) rfl
  rw [e1, e2, e3]

end Enter

end
-- ==== Proof.Coords.lean ====
/-
  Indices of a few coordinates are equal when the coordinates are.
-/
module

public import Idealize.ShloMosaic.PureOps

@[expose] public section

namespace Coords

open Idealize.ShloMosaic

theorem ext2 {n : Fin 2 → ℕ} {i j : (⟨2, n⟩ : Shape).Idx} (h0 : (i 0).val = (j 0).val) (h1 : (i 1).val = (j 1).val) : i = j := by
  funext a
  apply Fin.ext
  match a with
  | ⟨0, _⟩ => exact h0
  | ⟨1, _⟩ => exact h1

theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

theorem ext4 {n : Fin 4 → ℕ} {i j : (⟨4, n⟩ : Shape).Idx} (h0 : (i 0).val = (j 0).val) (h1 : (i 1).val = (j 1).val)
    (h2 : (i 2).val = (j 2).val) (h3 : (i 3).val = (j 3).val) : i = j := by
  funext a
  apply Fin.ext
  match a with
  | ⟨0, _⟩ => exact h0
  | ⟨1, _⟩ => exact h1
  | ⟨2, _⟩ => exact h2
  | ⟨3, _⟩ => exact h3

end Coords

end
-- ==== Proof.Array6.lean ====
/-
  The result arrays of the projections before the second layer's attention for the prompts, entry by entry.
-/
module

public import proofs.«01_k».proof.Proof.InBlock
public import proofs.«01_k».proof.Proof.Coords
public import proofs.«01_k».proof.Proof.Gen.Kernel6Ideal.Value

@[expose] public section

set_option maxRecDepth 16384

noncomputable section

namespace Cert.Kernel6Ideal.Array

open Cert.Kernel6Ideal Cert.Kernel6Ideal.Gen Idealize.ShloMosaic Idealize.ShloMosaic.TcCoe Idealize.SL.Sem Facts Coords
open Idealize.ShloMosaic.Pipeline (Dat)

variable (m : (ℓ : Loc nD τ sig) → Buf (Elt Ideal) ℓ) (ρ : Dev nD → PrngReg) (c : Dev nD)

/-! ## The arguments as functions of their coordinates -/

abbrev X (b : Fin 16) (n : Fin 256) (k : Fin 1024) : EReal := m ((c : Thread nD τ).loc main_arg0) (ix3 b n k)
abbrev Md (l : Fin 2) (r : Fin 16) (k : Fin 6144) : EReal := m ((c : Thread nD τ).loc main_arg1) (ix3 l r k)
abbrev G (l : Fin 2) (j : Fin 4) (k : Fin 1024) : EReal := m ((c : Thread nD τ).loc main_arg2) (ix3 l j k)
abbrev W (k : Fin 1024) (j : Fin 3072) : EReal := m ((c : Thread nD τ).loc main_arg3) (ix3 0 k j)

/-- The request of a row of all requests' rows, and its place in it. -/
abbrev req (R : Fin 4096) : Fin 16 := ⟨R.val / 256, by omega⟩
abbrev tok (R : Fin 4096) : Fin 256 := ⟨R.val % 256, Nat.mod_lt _ (by norm_num)⟩

/-! ## What the host operations before the call leave -/

theorem host_x (R : Fin 4096) (k : Fin 1024) : (V m c main_v2 : Vec Ideal S4096x1024 .f32) (ix2 R k) = X m c (req R) (tok R) k := by
  have e : (V m c main_v2 : Vec Ideal S4096x1024 .f32)
      = shapeCast S4096x1024 (m ((c : Thread nD τ).loc main_arg0)) shapeCasts_S16x256x1024_S4096x1024 := by
    unfold_abbrev_sides
    after_results
    rfl
  rw [e, shapeCast_apply _ _ (ix2 R k) (ix3 (req R) (tok R) k) (by
    rw [Shape.rowMajor_val_three, Shape.rowMajor_val_two]
    show (R.val / 256 * 256 + R.val % 256) * 1024 + k.val = R.val * 1024 + k.val
    omega)]

theorem host_mod (l : Fin 2) (r : Fin 16) (k : Fin 6144) :
    (V m c main_v3 : Vec Ideal S32x1x6144 .f32) (ix3 ⟨16 * l.val + r.val, by omega⟩ 0 k) = Md m c l r k := by
  have e : (V m c main_v3 : Vec Ideal S32x1x6144 .f32)
      = shapeCast S32x1x6144 (m ((c : Thread nD τ).loc main_arg1)) shapeCasts_S2x16x6144_S32x1x6144 := by
    unfold_abbrev_sides
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (k : Fin 1024) : (V m c main_v4 : Vec Ideal S1x1024 .f32) (ix2 0 k) = G m c 1 0 k := by
  have e : (V m c main_v4 : Vec Ideal S1x1024 .f32) = extractStridedSlice S1x1024 ![0, 0] (shapeCast S4x1024 (extractStridedSlice S1x4x1024 ![1, 0, 0]
      (m ((c : Thread nD τ).loc main_arg2)) slices_S2x4x1024_S1x4x1024_1_0_0) shapeCasts_S1x4x1024_S4x1024) slices_S4x1024_S1x1024_0_0 := by
    unfold_abbrev_sides
    after_results
    rfl
  rw [e, extractStridedSlice_apply ![0, 0] _ _ (ix2 0 k) (ix2 0 k) (fun a => by
    match a with
    | ⟨0, _⟩ => rfl
    | ⟨1, _⟩ => show k.val = 0 + k.val; omega), shapeCast_apply _ _ (ix2 0 k) (ix3 0 0 k) (by
    rw [Shape.rowMajor_val_three, Shape.rowMajor_val_two]
    show (0 * 4 + 0) * 1024 + k.val = 0 * 1024 + k.val
    omega)]
  refine congrArg (m ((c : Thread nD τ).loc main_arg2)) (ext3 rfl rfl ?_)
  show 0 + k.val = k.val; omega

theorem host_w (k : Fin 1024) (j : Fin 3072) : (V m c main_v6 : Vec Ideal S1024x3072 .bf16) (ix2 k j) = W m c k j := by
  have e : (V m c main_v6 : Vec Ideal S1024x3072 .bf16)
      = shapeCast S1024x3072 (truncf (F := Ideal) .bf16 (m ((c : Thread nD τ).loc main_arg3)) bitsLt_bf16_f32) shapeCasts_S1x1024x3072_S1024x3072 := by
    unfold_abbrev_sides
    after_results
    rfl
  rw [e, shapeCast_apply _ _ (ix2 k j) (ix3 0 k j) (by
    rw [Shape.rowMajor_val_three, Shape.rowMajor_val_two]
    show (0 * 1024 + k.val) * 3072 + j.val = k.val * 3072 + j.val
    omega)]
  rfl

/-! ## The blocks -/

/-- Which block of each array a grid point stages. -/
theorem index_eq : ∀ t : Fin grid0.N,
    (win0_0.index t 0 = t.val ∧ win0_0.index t 1 = 0) ∧ (win0_1.index t 0 = 16 ∧ win0_1.index t 1 = 0 ∧ win0_1.index t 2 = 0)
    ∧ (win0_2.index t 0 = 0 ∧ win0_2.index t 1 = 0) ∧ (win0_3.index t 0 = 0 ∧ win0_3.index t 1 = 0) := by
  decide +kernel

/-- Which block of each result array it writes back. -/
theorem out_index : ∀ t : Fin grid0.N,
    (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0 ∧ win0_6.index t 3 = 0)
    ∧ (win0_7.index t 0 = t.val ∧ win0_7.index t 1 = 0) ∧ (win0_8.index t 0 = t.val ∧ win0_8.index t 1 = 0) := by
  decide +kernel

/-- The number of grid points. -/
theorem lt_N (t : Fin cfg0.N) : t.val < 16 := t.isLt

/-- Row `r` of point `t`'s block among all rows. -/
abbrev rowAt (t : Fin cfg0.N) (r : Fin 256) : Fin 4096 := ⟨256 * t.val + r.val, by have := lt_N t; omega⟩

theorem blk0 (t : Fin cfg0.N) (r : Fin 256) (k : Fin 1024) :
    (iblk m c 0 t : Vec Ideal S256x1024 .f32) (ix2 r k) = X m c (req (rowAt t r)) (tok (rowAt t r)) k := by
  obtain ⟨⟨i0, i1⟩, -⟩ := index_eq t
  rw [← host_x]
  unfold iblk
  rw [View.read_apply]
  show V m c main_v2 _ = V m c main_v2 _
  refine congrArg (V m c main_v2) (ext2 ?_ ?_)
  · show win0_0.index t 0 * 256 + 1 * r.val = 256 * t.val + r.val; rw [i0]; omega
  · show win0_0.index t 1 * 1024 + 1 * k.val = k.val; rw [i1]; omega

theorem blk1 (t : Fin cfg0.N) (k : Fin 6144) : (iblk m c 1 t : Vec Ideal S1x1x6144 .f32) (ix3 0 0 k) = Md m c 1 0 k := by
  obtain ⟨-, ⟨i0, i1, i2⟩, -⟩ := index_eq t
  rw [← host_mod]
  unfold iblk
  rw [View.read_apply]
  show V m c main_v3 _ = V m c main_v3 _
  refine congrArg (V m c main_v3) (ext3 ?_ ?_ ?_)
  · show win0_1.index t 0 * 1 + 1 * 0 = 16 * 1 + 0; rw [i0]
  · show win0_1.index t 1 * 1 + 1 * 0 = 0; rw [i1]
  · show win0_1.index t 2 * 6144 + 1 * k.val = k.val; rw [i2]; omega

theorem blk2 (t : Fin cfg0.N) (k : Fin 1024) : (iblk m c 2 t : Vec Ideal S1x1024 .f32) (ix2 0 k) = G m c 1 0 k := by
  obtain ⟨-, -, ⟨i0, i1⟩, -⟩ := index_eq t
  rw [← host_g]
  unfold iblk
  rw [View.read_apply]
  show V m c main_v4 _ = V m c main_v4 _
  refine congrArg (V m c main_v4) (ext2 ?_ ?_)
  · show win0_2.index t 0 * 1 + 1 * 0 = 0; rw [i0]
  · show win0_2.index t 1 * 1024 + 1 * k.val = k.val; rw [i1]; omega

theorem blk3 (t : Fin cfg0.N) (k : Fin 1024) (j : Fin 3072) : (iblk m c 3 t : Vec Ideal S1024x3072 .bf16) (ix2 k j) = W m c k j := by
  obtain ⟨-, -, -, ⟨i0, i1⟩⟩ := index_eq t
  rw [← host_w]
  unfold iblk
  rw [View.read_apply]
  show V m c main_v6 _ = V m c main_v6 _
  refine congrArg (V m c main_v6) (ext2 ?_ ?_)
  · show win0_3.index t 0 * 1024 + 1 * k.val = k.val; rw [i0]; omega
  · show win0_3.index t 1 * 3072 + 1 * j.val = j.val; rw [i1]; omega

/-! ## The projection -/

/-- The shape relations of the body. -/
theorem fits : Enter.Fits 256 :=
  ⟨bitsLt_bf16_f32, shapeCasts_S256x1024_S256x1024, shapeCasts_S1x1024_S1x1024, shapeCasts_S1x1x6144_S1x6144, reduces_S256x1024_S256,
    shapeCasts_S256_S256x1, broadcasts_S256x1_S256x1024, broadcasts_S1x1024_S256x1024, slices_S1x6144_o0_0_S1x1024,
    slices_S1x6144_o0_1024_S1x1024⟩

/-- The body's projection of its block of rows. -/
theorem pay_eq (x0 : Vec Ideal S1x1x6144 .f32) (x1 : Vec Ideal S256x1024 .f32) (x2 : Vec Ideal S1x1024 .f32) (x3 : Vec Ideal S1024x3072 .bf16) :
    k0_pay2 x0 x1 x2 x3 = Enter.block fits shapeCasts_S1024x3072_S1024x3072 x0 x1 x2 x3 := rfl

/-- Entry `(R, j)` of the projections, from the arguments: the specification's row. -/
def entry (b : Fin 16) (n : Fin 256) (j : Fin 3072) : EReal :=
  InSpec.proj (X m c b n) (Md m c 1 0) (G m c 1 0) (W m c) j

/-- The projection at point `t`. -/
theorem pay_apply (t : Fin cfg0.N) (r : Fin 256) (j : Fin 3072) :
    k0_pay2 (View.ld (iblk m c 1 t : Vec Ideal S1x1x6144 .f32) r0_0) (View.ld (iblk m c 0 t : Vec Ideal S256x1024 .f32) r0_1)
      (View.ld (iblk m c 2 t : Vec Ideal S1x1024 .f32) r0_2) (View.ld (iblk m c 3 t : Vec Ideal S1024x3072 .bf16) r0_3) (ix2 r j)
      = entry m c ⟨t.val, lt_N t⟩ r j := by
  rw [pay_eq, Enter.block_apply fits]
  have e0 : (fun k => View.ld (iblk m c 0 t : Vec Ideal S256x1024 .f32) r0_1 (ix2 r k)) = X m c ⟨t.val, lt_N t⟩ r := funext fun k => by
    rw [show View.ld (iblk m c 0 t : Vec Ideal S256x1024 .f32) r0_1 (ix2 r k) = (iblk m c 0 t : Vec Ideal S256x1024 .f32) (ix2 r k) by pointwise, blk0]
    refine congrArg₂ (X m c · · k) (Fin.ext ?_) (Fin.ext ?_)
    · show (256 * t.val + r.val) / 256 = t.val; omega
    · show (256 * t.val + r.val) % 256 = r.val; omega
  have e1 : (fun k => View.ld (iblk m c 1 t : Vec Ideal S1x1x6144 .f32) r0_0 (ix3 0 0 k)) = Md m c 1 0 := funext fun k => by
    rw [show View.ld (iblk m c 1 t : Vec Ideal S1x1x6144 .f32) r0_0 (ix3 0 0 k) = (iblk m c 1 t : Vec Ideal S1x1x6144 .f32) (ix3 0 0 k) by pointwise, blk1]
  have e2 : (fun k => View.ld (iblk m c 2 t : Vec Ideal S1x1024 .f32) r0_2 (ix2 0 k)) = G m c 1 0 := funext fun k => by
    rw [show View.ld (iblk m c 2 t : Vec Ideal S1x1024 .f32) r0_2 (ix2 0 k) = (iblk m c 2 t : Vec Ideal S1x1024 .f32) (ix2 0 k) by pointwise, blk2]
  have e3 : (fun k j => View.ld (iblk m c 3 t : Vec Ideal S1024x3072 .bf16) r0_3 (ix2 k j)) = W m c := funext fun k => funext fun j => by
    rw [show View.ld (iblk m c 3 t : Vec Ideal S1024x3072 .bf16) r0_3 (ix2 k j) = (iblk m c 3 t : Vec Ideal S1024x3072 .bf16) (ix2 k j) by pointwise, blk3]
  rw [e0, e1, e2, e3]
  rfl

/-! ## The queries, head by head -/

def res0 : Buf (Elt Ideal) ((c : Thread nD τ).loc main_v7_0) := fun i : S16x8x256x128.Idx =>
  entry m c (i 0) (i 2) (InSpec.col 0 (InSpec.lane (i 1) (i 3))) * InSpec.qScale

theorem flushed_eq4 (t : Fin cfg0.N) : (dats m 0 c).flushed 4 t = ((cfg0.win 4).blk t).view.read (Elt Ideal) (res0 m c) := by
  rw [Value.flushed4]
  refine funext fun j : S1x8x256x128.Idx => ?_
  obtain ⟨h, r, l, rfl⟩ : ∃ (h : Fin 8) (r : Fin 256) (l : Fin 128), j = ix4 0 h r l :=
    ⟨j 1, j 2, j 3, ext4 (by have : (j 0).val < 1 := (j 0).isLt; show (j 0).val = 0; omega) rfl rfl rfl⟩
  obtain ⟨⟨i0, i1, i2, i3⟩, -⟩ := out_index t
  have e : ((cfg0.win 4).blk t).view.read (Elt Ideal) (res0 m c) (ix4 0 h r l : S1x8x256x128.Idx)
      = res0 m c (ix4 ⟨t.val, lt_N t⟩ h r l : S16x8x256x128.Idx) := by
    rw [View.read_apply]
    refine congrArg (res0 m c) (ext4 (n := ![16, 8, 256, 128]) ?_ ?_ ?_ ?_)
    · show win0_4.index t 0 * 1 + 1 * 0 = t.val; rw [i0]; omega
    · show win0_4.index t 1 * 8 + 1 * h.val = h.val; rw [i1]; omega
    · show win0_4.index t 2 * 256 + 1 * r.val = r.val; rw [i2]; omega
    · show win0_4.index t 3 * 128 + 1 * l.val = l.val; rw [i3]; omega
  rw [e]
  have ec : out0_4 (iblk m c 0 t) (iblk m c 1 t) (iblk m c 2 t) (iblk m c 3 t) (ix4 0 h r l : S1x8x256x128.Idx)
      = Value.E4 (View.ld (iblk m c 1 t : Vec Ideal S1x1x6144 .f32) r0_0) (View.ld (iblk m c 0 t : Vec Ideal S256x1024 .f32) r0_1)
        (View.ld (iblk m c 2 t : Vec Ideal S1x1024 .f32) r0_2) (View.ld (iblk m c 3 t : Vec Ideal S1024x3072 .bf16) r0_3)
        (ix4 0 h r l : S1x8x256x128.Idx) := Value.canon4_eq _ _ _ _ _
  have ei : Value.ix4_0 (ix4 0 h r l : S1x8x256x128.Idx) = ix2 r (InSpec.col 0 (InSpec.lane h l)) :=
    ext2 rfl (by show h.val * 128 + l.val = 1024 * 0 + (128 * h.val + l.val); omega)
  refine ec.trans ?_
  show (k0_pay2 (F := Ideal) _ _ _ _ (Value.ix4_0 (ix4 0 h r l : S1x8x256x128.Idx)) : EReal) * InSpec.qScale = _
  rw [ei, pay_apply]
  rfl

theorem final0 : (dats m 0 c).arrAt 4 cfg0.N = res0 m c :=
  (dats m 0 c).arrAt_eq_of_cover 4 (res0 m c) (fun t _ => flushed_eq4 m c t) fun i => by
    have h0 : (i 0 : Nat) < 16 := (i 0).isLt
    have h1 : (i 1 : Nat) < 8 := (i 1).isLt
    have h2 : (i 2 : Nat) < 256 := (i 2).isLt
    have h3 : (i 3 : Nat) < 128 := (i 3).isLt
    let t : Fin cfg0.N := ⟨(i 0 : Nat), h0⟩
    obtain ⟨⟨i0, i1, i2, i3⟩, -⟩ := out_index t
    have tv : t.val = (i 0 : Nat) := rfl
    refine ⟨t, flush0_4 t, ?_⟩
    show i ∈ ((View.whole main_v7_0).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [i0]; omega
    | ⟨1, _⟩ =>
      show win0_4.index t 1 * 8 ≤ (i 1 : Nat) ∧ (i 1 : Nat) < win0_4.index t 1 * 8 + 8
      rw [i1]; omega
    | ⟨2, _⟩ =>
      show win0_4.index t 2 * 256 ≤ (i 2 : Nat) ∧ (i 2 : Nat) < win0_4.index t 2 * 256 + 256
      rw [i2]; omega
    | ⟨3, _⟩ =>
      show win0_4.index t 3 * 128 ≤ (i 3 : Nat) ∧ (i 3 : Nat) < win0_4.index t 3 * 128 + 128
      rw [i3]; omega

/-! ## The keys, head by head -/

def res1 : Buf (Elt Ideal) ((c : Thread nD τ).loc main_v7_1) := fun i : S16x8x256x128.Idx =>
  entry m c (i 0) (i 2) (InSpec.col 1 (InSpec.lane (i 1) (i 3)))

theorem flushed_eq5 (t : Fin cfg0.N) : (dats m 0 c).flushed 5 t = ((cfg0.win 5).blk t).view.read (Elt Ideal) (res1 m c) := by
  rw [Value.flushed5]
  refine funext fun j : S1x8x256x128.Idx => ?_
  obtain ⟨h, r, l, rfl⟩ : ∃ (h : Fin 8) (r : Fin 256) (l : Fin 128), j = ix4 0 h r l :=
    ⟨j 1, j 2, j 3, ext4 (by have : (j 0).val < 1 := (j 0).isLt; show (j 0).val = 0; omega) rfl rfl rfl⟩
  obtain ⟨-, ⟨i0, i1, i2, i3⟩, -⟩ := out_index t
  have e : ((cfg0.win 5).blk t).view.read (Elt Ideal) (res1 m c) (ix4 0 h r l : S1x8x256x128.Idx)
      = res1 m c (ix4 ⟨t.val, lt_N t⟩ h r l : S16x8x256x128.Idx) := by
    rw [View.read_apply]
    refine congrArg (res1 m c) (ext4 (n := ![16, 8, 256, 128]) ?_ ?_ ?_ ?_)
    · show win0_5.index t 0 * 1 + 1 * 0 = t.val; rw [i0]; omega
    · show win0_5.index t 1 * 8 + 1 * h.val = h.val; rw [i1]; omega
    · show win0_5.index t 2 * 256 + 1 * r.val = r.val; rw [i2]; omega
    · show win0_5.index t 3 * 128 + 1 * l.val = l.val; rw [i3]; omega
  rw [e]
  have ec : out0_5 (iblk m c 0 t) (iblk m c 1 t) (iblk m c 2 t) (iblk m c 3 t) (ix4 0 h r l : S1x8x256x128.Idx)
      = Value.E5 (View.ld (iblk m c 1 t : Vec Ideal S1x1x6144 .f32) r0_0) (View.ld (iblk m c 0 t : Vec Ideal S256x1024 .f32) r0_1)
        (View.ld (iblk m c 2 t : Vec Ideal S1x1024 .f32) r0_2) (View.ld (iblk m c 3 t : Vec Ideal S1024x3072 .bf16) r0_3)
        (ix4 0 h r l : S1x8x256x128.Idx) := Value.canon5_eq _ _ _ _ _
  have ei : Value.ix5_0 (ix4 0 h r l : S1x8x256x128.Idx) = ix2 r (InSpec.col 1 (InSpec.lane h l)) :=
    ext2 rfl (by show h.val * 128 + l.val + 1024 = 1024 * 1 + (128 * h.val + l.val); omega)
  refine ec.trans ?_
  show (k0_pay2 (F := Ideal) _ _ _ _ (Value.ix5_0 (ix4 0 h r l : S1x8x256x128.Idx)) : EReal) = _
  rw [ei, pay_apply]
  rfl

theorem final1 : (dats m 0 c).arrAt 5 cfg0.N = res1 m c :=
  (dats m 0 c).arrAt_eq_of_cover 5 (res1 m c) (fun t _ => flushed_eq5 m c t) fun i => by
    have h0 : (i 0 : Nat) < 16 := (i 0).isLt
    have h1 : (i 1 : Nat) < 8 := (i 1).isLt
    have h2 : (i 2 : Nat) < 256 := (i 2).isLt
    have h3 : (i 3 : Nat) < 128 := (i 3).isLt
    let t : Fin cfg0.N := ⟨(i 0 : Nat), h0⟩
    obtain ⟨-, ⟨i0, i1, i2, i3⟩, -⟩ := out_index t
    have tv : t.val = (i 0 : Nat) := rfl
    refine ⟨t, flush0_5 t, ?_⟩
    show i ∈ ((View.whole main_v7_1).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [i0]; omega
    | ⟨1, _⟩ =>
      show win0_5.index t 1 * 8 ≤ (i 1 : Nat) ∧ (i 1 : Nat) < win0_5.index t 1 * 8 + 8
      rw [i1]; omega
    | ⟨2, _⟩ =>
      show win0_5.index t 2 * 256 ≤ (i 2 : Nat) ∧ (i 2 : Nat) < win0_5.index t 2 * 256 + 256
      rw [i2]; omega
    | ⟨3, _⟩ =>
      show win0_5.index t 3 * 128 ≤ (i 3 : Nat) ∧ (i 3 : Nat) < win0_5.index t 3 * 128 + 128
      rw [i3]; omega

/-! ## The values, head by head -/

def res2 : Buf (Elt Ideal) ((c : Thread nD τ).loc main_v7_2) := fun i : S16x8x256x128.Idx =>
  entry m c (i 0) (i 2) (InSpec.col 2 (InSpec.lane (i 1) (i 3)))

theorem flushed_eq6 (t : Fin cfg0.N) : (dats m 0 c).flushed 6 t = ((cfg0.win 6).blk t).view.read (Elt Ideal) (res2 m c) := by
  rw [Value.flushed6]
  refine funext fun j : S1x8x256x128.Idx => ?_
  obtain ⟨h, r, l, rfl⟩ : ∃ (h : Fin 8) (r : Fin 256) (l : Fin 128), j = ix4 0 h r l :=
    ⟨j 1, j 2, j 3, ext4 (by have : (j 0).val < 1 := (j 0).isLt; show (j 0).val = 0; omega) rfl rfl rfl⟩
  obtain ⟨-, -, ⟨i0, i1, i2, i3⟩, -⟩ := out_index t
  have e : ((cfg0.win 6).blk t).view.read (Elt Ideal) (res2 m c) (ix4 0 h r l : S1x8x256x128.Idx)
      = res2 m c (ix4 ⟨t.val, lt_N t⟩ h r l : S16x8x256x128.Idx) := by
    rw [View.read_apply]
    refine congrArg (res2 m c) (ext4 (n := ![16, 8, 256, 128]) ?_ ?_ ?_ ?_)
    · show win0_6.index t 0 * 1 + 1 * 0 = t.val; rw [i0]; omega
    · show win0_6.index t 1 * 8 + 1 * h.val = h.val; rw [i1]; omega
    · show win0_6.index t 2 * 256 + 1 * r.val = r.val; rw [i2]; omega
    · show win0_6.index t 3 * 128 + 1 * l.val = l.val; rw [i3]; omega
  rw [e]
  have ec : out0_6 (iblk m c 0 t) (iblk m c 1 t) (iblk m c 2 t) (iblk m c 3 t) (ix4 0 h r l : S1x8x256x128.Idx)
      = Value.E6 (View.ld (iblk m c 1 t : Vec Ideal S1x1x6144 .f32) r0_0) (View.ld (iblk m c 0 t : Vec Ideal S256x1024 .f32) r0_1)
        (View.ld (iblk m c 2 t : Vec Ideal S1x1024 .f32) r0_2) (View.ld (iblk m c 3 t : Vec Ideal S1024x3072 .bf16) r0_3)
        (ix4 0 h r l : S1x8x256x128.Idx) := Value.canon6_eq _ _ _ _ _
  have ei : Value.ix6_0 (ix4 0 h r l : S1x8x256x128.Idx) = ix2 r (InSpec.col 2 (InSpec.lane h l)) :=
    ext2 rfl (by show h.val * 128 + l.val + 2048 = 1024 * 2 + (128 * h.val + l.val); omega)
  refine ec.trans ?_
  show (k0_pay2 (F := Ideal) _ _ _ _ (Value.ix6_0 (ix4 0 h r l : S1x8x256x128.Idx)) : EReal) = _
  rw [ei, pay_apply]
  rfl

theorem final2 : (dats m 0 c).arrAt 6 cfg0.N = res2 m c :=
  (dats m 0 c).arrAt_eq_of_cover 6 (res2 m c) (fun t _ => flushed_eq6 m c t) fun i => by
    have h0 : (i 0 : Nat) < 16 := (i 0).isLt
    have h1 : (i 1 : Nat) < 8 := (i 1).isLt
    have h2 : (i 2 : Nat) < 256 := (i 2).isLt
    have h3 : (i 3 : Nat) < 128 := (i 3).isLt
    let t : Fin cfg0.N := ⟨(i 0 : Nat), h0⟩
    obtain ⟨-, -, ⟨i0, i1, i2, i3⟩, -⟩ := out_index t
    have tv : t.val = (i 0 : Nat) := rfl
    refine ⟨t, flush0_6 t, ?_⟩
    show i ∈ ((View.whole main_v7_2).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [i0]; omega
    | ⟨1, _⟩ =>
      show win0_6.index t 1 * 8 ≤ (i 1 : Nat) ∧ (i 1 : Nat) < win0_6.index t 1 * 8 + 8
      rw [i1]; omega
    | ⟨2, _⟩ =>
      show win0_6.index t 2 * 256 ≤ (i 2 : Nat) ∧ (i 2 : Nat) < win0_6.index t 2 * 256 + 256
      rw [i2]; omega
    | ⟨3, _⟩ =>
      show win0_6.index t 3 * 128 ≤ (i 3 : Nat) ∧ (i 3 : Nat) < win0_6.index t 3 * 128 + 128
      rw [i3]; omega

/-! ## The keys, row by row -/

def res3 : Buf (Elt Ideal) ((c : Thread nD τ).loc main_v7_3) := fun i : S4096x1024.Idx =>
  entry m c (req (i 0)) (tok (i 0)) (InSpec.col 1 (i 1))

theorem flushed_eq7 (t : Fin cfg0.N) : (dats m 0 c).flushed 7 t = ((cfg0.win 7).blk t).view.read (Elt Ideal) (res3 m c) := by
  rw [Value.flushed7]
  refine funext fun j : S256x1024.Idx => ?_
  obtain ⟨r, d, rfl⟩ : ∃ (r : Fin 256) (d : Fin 1024), j = ix2 r d := ⟨j 0, j 1, ext2 rfl rfl⟩
  obtain ⟨-, -, -, ⟨i0, i1⟩, -⟩ := out_index t
  have e : ((cfg0.win 7).blk t).view.read (Elt Ideal) (res3 m c) (ix2 r d : S256x1024.Idx) = entry m c ⟨t.val, lt_N t⟩ r (InSpec.col 1 d) := by
    rw [View.read_apply, show entry m c ⟨t.val, lt_N t⟩ r (InSpec.col 1 d) = res3 m c (ix2 (rowAt t r) d : S4096x1024.Idx) from
      congrArg₂ (entry m c · · (InSpec.col 1 d))
        (Fin.ext (by show t.val = (256 * t.val + r.val) / 256; omega)) (Fin.ext (by show r.val = (256 * t.val + r.val) % 256; omega))]
    refine congrArg (res3 m c) (ext2 (n := ![4096, 1024]) ?_ ?_)
    · show win0_7.index t 0 * 256 + 1 * r.val = 256 * t.val + r.val; rw [i0]; omega
    · show win0_7.index t 1 * 1024 + 1 * d.val = d.val; rw [i1]; omega
  rw [e]
  have ec : out0_7 (iblk m c 0 t) (iblk m c 1 t) (iblk m c 2 t) (iblk m c 3 t) (ix2 r d : S256x1024.Idx)
      = Value.E7 (View.ld (iblk m c 1 t : Vec Ideal S1x1x6144 .f32) r0_0) (View.ld (iblk m c 0 t : Vec Ideal S256x1024 .f32) r0_1)
        (View.ld (iblk m c 2 t : Vec Ideal S1x1024 .f32) r0_2) (View.ld (iblk m c 3 t : Vec Ideal S1024x3072 .bf16) r0_3)
        (ix2 r d : S256x1024.Idx) := Value.canon7_eq _ _ _ _ _
  have ei : Value.ix7_0 (ix2 r d : S256x1024.Idx) = ix2 r (InSpec.col 1 d) :=
    ext2 rfl (by show d.val + 1024 = 1024 * 1 + d.val; omega)
  refine ec.trans ?_
  show (k0_pay2 (F := Ideal) _ _ _ _ (Value.ix7_0 (ix2 r d : S256x1024.Idx)) : EReal) = _
  rw [ei, pay_apply]

theorem final3 : (dats m 0 c).arrAt 7 cfg0.N = res3 m c :=
  (dats m 0 c).arrAt_eq_of_cover 7 (res3 m c) (fun t _ => flushed_eq7 m c t) fun i => by
    have h0 : (i 0 : Nat) < 4096 := (i 0).isLt
    have h1 : (i 1 : Nat) < 1024 := (i 1).isLt
    let t : Fin cfg0.N := ⟨(i 0 : Nat) / 256, by show _ < 16; omega⟩
    obtain ⟨-, -, -, ⟨i0, i1⟩, -⟩ := out_index t
    have tv : t.val = (i 0 : Nat) / 256 := rfl
    refine ⟨t, flush0_7 t, ?_⟩
    show i ∈ ((View.whole main_v7_3).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [i0]; omega
    | ⟨1, _⟩ =>
      show win0_7.index t 1 * 1024 ≤ (i 1 : Nat) ∧ (i 1 : Nat) < win0_7.index t 1 * 1024 + 1024
      rw [i1]; omega

/-! ## The values, row by row -/

def res4 : Buf (Elt Ideal) ((c : Thread nD τ).loc main_v7_4) := fun i : S4096x1024.Idx =>
  entry m c (req (i 0)) (tok (i 0)) (InSpec.col 2 (i 1))

theorem flushed_eq8 (t : Fin cfg0.N) : (dats m 0 c).flushed 8 t = ((cfg0.win 8).blk t).view.read (Elt Ideal) (res4 m c) := by
  rw [Value.flushed8]
  refine funext fun j : S256x1024.Idx => ?_
  obtain ⟨r, d, rfl⟩ : ∃ (r : Fin 256) (d : Fin 1024), j = ix2 r d := ⟨j 0, j 1, ext2 rfl rfl⟩
  obtain ⟨-, -, -, -, ⟨i0, i1⟩⟩ := out_index t
  have e : ((cfg0.win 8).blk t).view.read (Elt Ideal) (res4 m c) (ix2 r d : S256x1024.Idx) = entry m c ⟨t.val, lt_N t⟩ r (InSpec.col 2 d) := by
    rw [View.read_apply, show entry m c ⟨t.val, lt_N t⟩ r (InSpec.col 2 d) = res4 m c (ix2 (rowAt t r) d : S4096x1024.Idx) from
      congrArg₂ (entry m c · · (InSpec.col 2 d))
        (Fin.ext (by show t.val = (256 * t.val + r.val) / 256; omega)) (Fin.ext (by show r.val = (256 * t.val + r.val) % 256; omega))]
    refine congrArg (res4 m c) (ext2 (n := ![4096, 1024]) ?_ ?_)
    · show win0_8.index t 0 * 256 + 1 * r.val = 256 * t.val + r.val; rw [i0]; omega
    · show win0_8.index t 1 * 1024 + 1 * d.val = d.val; rw [i1]; omega
  rw [e]
  have ec : out0_8 (iblk m c 0 t) (iblk m c 1 t) (iblk m c 2 t) (iblk m c 3 t) (ix2 r d : S256x1024.Idx)
      = Value.E8 (View.ld (iblk m c 1 t : Vec Ideal S1x1x6144 .f32) r0_0) (View.ld (iblk m c 0 t : Vec Ideal S256x1024 .f32) r0_1)
        (View.ld (iblk m c 2 t : Vec Ideal S1x1024 .f32) r0_2) (View.ld (iblk m c 3 t : Vec Ideal S1024x3072 .bf16) r0_3)
        (ix2 r d : S256x1024.Idx) := Value.canon8_eq _ _ _ _ _
  have ei : Value.ix8_0 (ix2 r d : S256x1024.Idx) = ix2 r (InSpec.col 2 d) :=
    ext2 rfl (by show d.val + 2048 = 1024 * 2 + d.val; omega)
  refine ec.trans ?_
  show (k0_pay2 (F := Ideal) _ _ _ _ (Value.ix8_0 (ix2 r d : S256x1024.Idx)) : EReal) = _
  rw [ei, pay_apply]

theorem final4 : (dats m 0 c).arrAt 8 cfg0.N = res4 m c :=
  (dats m 0 c).arrAt_eq_of_cover 8 (res4 m c) (fun t _ => flushed_eq8 m c t) fun i => by
    have h0 : (i 0 : Nat) < 4096 := (i 0).isLt
    have h1 : (i 1 : Nat) < 1024 := (i 1).isLt
    let t : Fin cfg0.N := ⟨(i 0 : Nat) / 256, by show _ < 16; omega⟩
    obtain ⟨-, -, -, -, ⟨i0, i1⟩⟩ := out_index t
    have tv : t.val = (i 0 : Nat) / 256 := rfl
    refine ⟨t, flush0_8 t, ?_⟩
    show i ∈ ((View.whole main_v7_4).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [i0]; omega
    | ⟨1, _⟩ =>
      show win0_8.index t 1 * 1024 ≤ (i 1 : Nat) ∧ (i 1 : Nat) < win0_8.index t 1 * 1024 + 1024
      rw [i1]; omega

end Cert.Kernel6Ideal.Array

end
-- ==== Proof.RefIn6.lean ====
/-
  The reference's results at the projections before the second layer's attention, for the prompts, entry by entry.
-/
module

public import Idealize.ShloMosaic.Lib.Pointwise.Index
public import Idealize.ShloMosaic.PureOps.Ideal.Laws
public import proofs.«01_k».proof.Proof.InSpec
public import proofs.«01_k».proof.Proof.Coords
public import proofs.«01_k».proof.Proof.Gen.Reference6Ideal.Read

@[expose] public section

set_option maxRecDepth 16384

noncomputable section

namespace Cert.Reference6Ideal.Enter

open Cert.Reference6Ideal Cert.Reference6Ideal.Gen Cert.Reference6Ideal.Read Idealize.ShloMosaic Idealize.SL.Sem Coords

variable (x0 : Vec Ideal S16x256x1024 .f32) (x1 : Vec Ideal S2x16x6144 .f32) (x2 : Vec Ideal S2x4x1024 .f32) (x3 : Vec Ideal S1x1024x3072 .f32)

/-! ## The layer's modulation and gain, and the weights -/

theorem mod_apply (k : Fin 6144) : (val_main_v2 (F := Ideal) x1) (ix3 0 0 k) = x1 (ix3 1 0 k) := by
  rw [val_main_v2_apply, val_main_v1_apply, val_main_v0_apply]
  refine congrArg x1 (ext3 ?_ ?_ ?_)
  · show 1 + 0 = 1; rfl
  · rfl
  · show (0 * 6144 + k.val) % 6144 = k.val; omega

/-- The shift. -/
theorem shift_apply (d : Fin 1024) : (val_main_v6 (F := Ideal) x1) (ix3 0 0 d) = x1 (ix3 1 0 (TailSpec.part 0 d)) := by
  rw [val_main_v6_apply, ← mod_apply x1]
  exact congrArg (val_main_v2 (F := Ideal) x1) (ext3 rfl rfl (by show d.val = 1024 * 0 + d.val; omega))

/-- The scale. -/
theorem scale_apply (d : Fin 1024) : (val_main_v7 (F := Ideal) x1) (ix3 0 0 d) = x1 (ix3 1 0 (TailSpec.part 1 d)) := by
  rw [val_main_v7_apply, ← mod_apply x1]
  exact congrArg (val_main_v2 (F := Ideal) x1) (ext3 rfl rfl (by show 1024 + d.val = 1024 * 1 + d.val; omega))

theorem g_apply (j : Fin 4) (d : Fin 1024) : (val_main_v4 (F := Ideal) x2) (ix2 j d) = x2 (ix3 1 j d) := by
  rw [val_main_v4_apply, val_main_v3_apply]
  refine congrArg x2 (ext3 ?_ ?_ ?_)
  · show 1 + 0 = 1; rfl
  · show (j.val * 1024 + d.val) / 1024 % 4 = j.val; omega
  · show (j.val * 1024 + d.val) % 1024 = d.val; omega

theorem w_apply (k : Fin 1024) (j : Fin 3072) : (val_main_v5 (F := Ideal) x3) (ix2 k j) = x3 (ix3 0 k j) := by
  rw [val_main_v5_apply]
  refine congrArg x3 (ext3 rfl ?_ ?_)
  · show (k.val * 3072 + j.val) / 3072 % 1024 = k.val; omega
  · show (k.val * 3072 + j.val) % 3072 = j.val; omega

/-- The norm's gain. -/
theorem gain_apply (b : Fin 16) (n : Fin 256) (d : Fin 1024) : (val_main_v25 (F := Ideal) x2) (ix3 b n d) = x2 (ix3 1 0 d) := by
  rw [val_main_v25_apply, val_main_v24_apply, val_main_v13_apply, val_main_v12_apply, ← g_apply x2 0 d]
  refine congrArg (val_main_v4 (F := Ideal) x2) (ext2 ?_ ?_)
  · rfl
  · show d.val % 1024 = d.val; omega

/-! ## The mixer's input and its projections -/

theorem norm_apply (b : Fin 16) (n : Fin 256) (d : Fin 1024) :
    (val_main_v26 (F := Ideal) x0 x2) (ix3 b n d) = TailSpec.rms (fun k => x0 (ix3 b n k)) (fun k => x2 (ix3 1 0 k)) d := by
  have es : (val_main_v15 (F := Ideal) x0) (ix2 b n) = ∑ k, x0 (ix3 b n k) * x0 (ix3 b n k) := by
    rw [val_main_v15_apply, val_main_cst_apply]
    show Ideal.ofBits .f32 0x00000000#32 + _ = _
    rw [Ideal.ofBits_zero_f32, zero_add]
    refine Finset.sum_congr rfl fun k _ => ?_
    rw [show idx_main_v15 (ix2 b n) k = ix3 b n k from ext3 rfl rfl rfl, val_main_v14_apply]
    rfl
  rw [val_main_v26_apply, gain_apply, val_main_v23_apply, val_main_v22_apply, val_main_v21_apply, val_main_v20_apply, val_main_v18_apply, val_main_v16_apply,
    val_main_v17_apply, val_main_v19_apply, val_main_cst_0_apply, val_main_cst_1_apply,
    show idx_main_v16 (idx_main_v22 (ix3 b n d)) = ix2 b n from ext2 rfl rfl, es]
  rfl

/-- The arguments' rows. -/
abbrev row (b : Fin 16) (n : Fin 256) (k : Fin 1024) : EReal := x0 (ix3 b n k)
abbrev modRow (k : Fin 6144) : EReal := x1 (ix3 1 0 k)
abbrev gainRow (k : Fin 1024) : EReal := x2 (ix3 1 0 k)
abbrev weight (k : Fin 1024) (j : Fin 3072) : EReal := x3 (ix3 0 k j)

theorem hid_apply (b : Fin 16) (n : Fin 256) (d : Fin 1024) :
    (val_main_v32 (F := Ideal) x0 x1 x2) (ix3 b n d) = InSpec.hid (row x0 b n) (modRow x1) (gainRow x2) d := by
  rw [val_main_v32_apply, val_main_v30_apply, norm_apply, val_main_v29_apply, val_main_v31_apply,
    show idx_main_v29 (ix3 b n d) = ix3 0 0 d from ext3 rfl rfl rfl, show idx_main_v31 (ix3 b n d) = ix3 0 0 d from ext3 rfl rfl rfl,
    val_main_v28_apply, val_main_v27_apply, val_main_cst_2_apply, scale_apply, shift_apply]
  rfl

/-- Column `j` of the projections. -/
abbrev proj (b : Fin 16) (n : Fin 256) (j : Fin 3072) : EReal := InSpec.proj (row x0 b n) (modRow x1) (gainRow x2) (weight x3) j

theorem proj_apply (b : Fin 16) (n : Fin 256) (j : Fin 3072) : (val_main_v33 (F := Ideal) x0 x1 x2 x3) (ix3 b n j) = proj x0 x1 x2 x3 b n j := by
  rw [val_main_v33_apply]
  unfold proj InSpec.proj TailSpec.rowMul
  refine Finset.sum_congr rfl fun k _ => ?_
  rw [show lidx_main_v33 (ix3 b n j) k = ix3 b n k from ext3 rfl rfl rfl, show ridx_main_v33 (ix3 b n j) k = ix2 k j from ext2 rfl rfl,
    hid_apply, w_apply]

/-! ## The results -/

/-- The queries, scaled, head by head. -/
theorem heads0 (b : Fin 16) (h : Fin 8) (n : Fin 256) (l : Fin 128) : (val_main_v41 (F := Ideal) x0 x1 x2 x3) (ix4 b h n l)
    = proj x0 x1 x2 x3 b n (InSpec.col 0 (InSpec.lane h l)) * InSpec.qScale := by
  have e : idx_main_v39 (idx_main_v40 (ix4 b h n l)) = ix3 b n (InSpec.lane h l) := ext3
    (by show (((b.val * 256 + n.val) * 8 + h.val) * 128 + l.val) / 262144 = b.val; omega)
    (by show (((b.val * 256 + n.val) * 8 + h.val) * 128 + l.val) / 1024 % 256 = n.val; omega)
    (by show (((b.val * 256 + n.val) * 8 + h.val) * 128 + l.val) % 1024 = 128 * h.val + l.val; omega)
  rw [val_main_v41_apply, val_main_v40_apply, val_main_v39_apply, e, val_main_v38_apply, val_main_v34_apply, val_main_v37_apply, val_main_cst_3_apply,
    show idx_main_v34 (ix3 b n (InSpec.lane h l)) = ix3 b n (InSpec.col 0 (InSpec.lane h l)) from
      ext3 rfl rfl (by show 128 * h.val + l.val = 1024 * 0 + (128 * h.val + l.val); omega), proj_apply]
  rfl

/-- The keys, head by head. -/
theorem heads1 (b : Fin 16) (h : Fin 8) (n : Fin 256) (l : Fin 128) : (val_main_v44 (F := Ideal) x0 x1 x2 x3) (ix4 b h n l)
    = proj x0 x1 x2 x3 b n (InSpec.col 1 (InSpec.lane h l)) := by
  have e : idx_main_v42 (idx_main_v43 (ix4 b h n l)) = ix3 b n (InSpec.lane h l) := ext3
    (by show (((b.val * 256 + n.val) * 8 + h.val) * 128 + l.val) / 262144 = b.val; omega)
    (by show (((b.val * 256 + n.val) * 8 + h.val) * 128 + l.val) / 1024 % 256 = n.val; omega)
    (by show (((b.val * 256 + n.val) * 8 + h.val) * 128 + l.val) % 1024 = 128 * h.val + l.val; omega)
  rw [val_main_v44_apply, val_main_v43_apply, val_main_v42_apply, e, val_main_v35_apply,
    show idx_main_v35 (ix3 b n (InSpec.lane h l)) = ix3 b n (InSpec.col 1 (InSpec.lane h l)) from
      ext3 rfl rfl (by show 1024 + (128 * h.val + l.val) = 1024 * 1 + (128 * h.val + l.val); omega), proj_apply]
  rfl

/-- The values, head by head. -/
theorem heads2 (b : Fin 16) (h : Fin 8) (n : Fin 256) (l : Fin 128) : (val_main_v47 (F := Ideal) x0 x1 x2 x3) (ix4 b h n l)
    = proj x0 x1 x2 x3 b n (InSpec.col 2 (InSpec.lane h l)) := by
  have e : idx_main_v45 (idx_main_v46 (ix4 b h n l)) = ix3 b n (InSpec.lane h l) := ext3
    (by show (((b.val * 256 + n.val) * 8 + h.val) * 128 + l.val) / 262144 = b.val; omega)
    (by show (((b.val * 256 + n.val) * 8 + h.val) * 128 + l.val) / 1024 % 256 = n.val; omega)
    (by show (((b.val * 256 + n.val) * 8 + h.val) * 128 + l.val) % 1024 = 128 * h.val + l.val; omega)
  rw [val_main_v47_apply, val_main_v46_apply, val_main_v45_apply, e, val_main_v36_apply,
    show idx_main_v36 (ix3 b n (InSpec.lane h l)) = ix3 b n (InSpec.col 2 (InSpec.lane h l)) from
      ext3 rfl rfl (by show 2048 + (128 * h.val + l.val) = 1024 * 2 + (128 * h.val + l.val); omega), proj_apply]
  rfl

/-- The keys, row by row. -/
theorem rows1 (R : Fin 4096) (d : Fin 1024) : (val_main_v48 (F := Ideal) x0 x1 x2 x3) (ix2 R d)
    = proj x0 x1 x2 x3 ⟨R.val / 256, by omega⟩ ⟨R.val % 256, by omega⟩ (InSpec.col 1 d) := by
  have e : idx_main_v48 (ix2 R d) = ix3 ⟨R.val / 256, by omega⟩ ⟨R.val % 256, by omega⟩ d := ext3
    (by show (R.val * 1024 + d.val) / 262144 = R.val / 256; omega)
    (by show (R.val * 1024 + d.val) / 1024 % 256 = R.val % 256; omega)
    (by show (R.val * 1024 + d.val) % 1024 = d.val; omega)
  rw [val_main_v48_apply, e, val_main_v35_apply, ← proj_apply]
  exact congrArg (val_main_v33 (F := Ideal) x0 x1 x2 x3) (ext3 rfl rfl (by show 1024 + d.val = 1024 * 1 + d.val; omega))

/-- The values, row by row. -/
theorem rows2 (R : Fin 4096) (d : Fin 1024) : (val_main_v49 (F := Ideal) x0 x1 x2 x3) (ix2 R d)
    = proj x0 x1 x2 x3 ⟨R.val / 256, by omega⟩ ⟨R.val % 256, by omega⟩ (InSpec.col 2 d) := by
  have e : idx_main_v49 (ix2 R d) = ix3 ⟨R.val / 256, by omega⟩ ⟨R.val % 256, by omega⟩ d := ext3
    (by show (R.val * 1024 + d.val) / 262144 = R.val / 256; omega)
    (by show (R.val * 1024 + d.val) / 1024 % 256 = R.val % 256; omega)
    (by show (R.val * 1024 + d.val) % 1024 = d.val; omega)
  rw [val_main_v49_apply, e, val_main_v36_apply, ← proj_apply]
  exact congrArg (val_main_v33 (F := Ideal) x0 x1 x2 x3) (ext3 rfl rfl (by show 2048 + d.val = 1024 * 2 + d.val; omega))

end Cert.Reference6Ideal.Enter

end
-- ==== Proof.InClaims6.lean ====
/-
  The claims about the projections before the second layer's attention, for the prompts: its frames, and that the
  kernel's five results are the reference's.
-/
module

public import proofs.«01_k».proof.Defs
public import proofs.«01_k».proof.Proof.Array6
public import proofs.«01_k».proof.Proof.RefIn6
public import proofs.«01_k».proof.Proof.Gen.Kernel6.Frame
public import proofs.«01_k».proof.Proof.Gen.Kernel6Ideal.Frame

@[expose] public section

set_option maxRecDepth 16384

noncomputable section

namespace Cert.InClaims6

open Idealize.ShloMosaic Idealize.SL.Sem Coords

/-- The kernel's frame, on machine words. -/
theorem frame_kernel : Cert.quiescent_Kernel6 := fun m ρ _ => Cert.Kernel6.Gen.frame m ρ

/-- The kernel's frame, on extended reals. -/
theorem frame_kernelIdeal : Cert.quiescent_Kernel6Ideal := fun m ρ _ => Cert.Kernel6Ideal.Gen.frame m ρ

/-- The reference's frame: it keeps its arguments and declares no semaphore. -/
theorem frame_referenceIdeal : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- **The kernel's results are the reference's**, for all arguments. -/
theorem algebraic : Cert.algebraic_Kernel6Ideal_Reference6Ideal := by
  intro m g m' g' _ hagree
  refine ⟨fun c => Cert.Kernel6Ideal.Array.res0 m c, fun c => Cert.Kernel6Ideal.Array.res1 m c, fun c => Cert.Kernel6Ideal.Array.res2 m c,
    fun c => Cert.Kernel6Ideal.Array.res3 m c, fun c => Cert.Kernel6Ideal.Array.res4 m c, ?_, ?_⟩
  · exact (θ_run Cert.Kernel6Ideal.defs _ _).mono (fun r h c => by
      obtain ⟨h0, h1, h2, h3, h4, hk⟩ := h c
      exact ⟨h0.trans (Cert.Kernel6Ideal.Array.final0 m c), h1.trans (Cert.Kernel6Ideal.Array.final1 m c),
        h2.trans (Cert.Kernel6Ideal.Array.final2 m c), h3.trans (Cert.Kernel6Ideal.Array.final3 m c),
        h4.trans (Cert.Kernel6Ideal.Array.final4 m c), hk⟩)
      (Cert.Kernel6Ideal.Value.run_blocks (F := Ideal) m g)
  · refine (θ_run Cert.Reference6Ideal.defs _ _).mono (fun r h c => by
      obtain ⟨h0, h1, h2, h3, h4, hk⟩ := h c
      obtain ⟨e0, e1, e2, e3⟩ := hagree c
      refine ⟨h0.trans ?_, h1.trans ?_, h2.trans ?_, h3.trans ?_, h4.trans ?_, hk⟩
      · rw [Cert.Reference6Ideal.Read.val_main_v41_eq, e0, e1, e2, e3]
        refine funext fun i => ?_
        obtain ⟨b, d, n, l, rfl⟩ : ∃ (b : Fin 16) (d : Fin 8) (n : Fin 256) (l : Fin 128), i = ix4 b d n l := ⟨i 0, i 1, i 2, i 3, ext4 rfl rfl rfl rfl⟩
        exact Cert.Reference6Ideal.Enter.heads0 _ _ _ _ b d n l
      · rw [Cert.Reference6Ideal.Read.val_main_v44_eq, e0, e1, e2, e3]
        refine funext fun i => ?_
        obtain ⟨b, d, n, l, rfl⟩ : ∃ (b : Fin 16) (d : Fin 8) (n : Fin 256) (l : Fin 128), i = ix4 b d n l := ⟨i 0, i 1, i 2, i 3, ext4 rfl rfl rfl rfl⟩
        exact Cert.Reference6Ideal.Enter.heads1 _ _ _ _ b d n l
      · rw [Cert.Reference6Ideal.Read.val_main_v47_eq, e0, e1, e2, e3]
        refine funext fun i => ?_
        obtain ⟨b, d, n, l, rfl⟩ : ∃ (b : Fin 16) (d : Fin 8) (n : Fin 256) (l : Fin 128), i = ix4 b d n l := ⟨i 0, i 1, i 2, i 3, ext4 rfl rfl rfl rfl⟩
        exact Cert.Reference6Ideal.Enter.heads2 _ _ _ _ b d n l
      · rw [Cert.Reference6Ideal.Read.val_main_v48_eq, e0, e1, e2, e3]
        refine funext fun i => ?_
        obtain ⟨R, d, rfl⟩ : ∃ (R : Fin 4096) (d : Fin 1024), i = ix2 R d := ⟨i 0, i 1, ext2 rfl rfl⟩
        exact Cert.Reference6Ideal.Enter.rows1 _ _ _ _ R d
      · rw [Cert.Reference6Ideal.Read.val_main_v49_eq, e0, e1, e2, e3]
        refine funext fun i => ?_
        obtain ⟨R, d, rfl⟩ : ∃ (R : Fin 4096) (d : Fin 1024), i = ix2 R d := ⟨i 0, i 1, ext2 rfl rfl⟩
        exact Cert.Reference6Ideal.Enter.rows2 _ _ _ _ R d)
      (Cert.Reference6Ideal.Value.run (F := Ideal) m' g')

end Cert.InClaims6

end
-- ==== Proof.Turn.lean ====
/-
  The rotation of positions as the kernel body computes it on a block of rows: a head's lanes times the cosines, plus
  their neighbours on either side times the sines of the even and of the odd lanes.
-/
module

public import proofs.«01_k».proof.Proof.Flash
public import proofs.«01_k».proof.Proof.InSpec
public import proofs.«01_k».proof.Proof.Coords

@[expose] public section

set_option maxRecDepth 16384

noncomputable section

namespace Turn

open Idealize.ShloMosaic Flash Coords

/-- The lane after a lane, and the one before it, around the 128 lanes. -/
abbrev next (l : Fin 128) : Fin 128 := ⟨(l.val + 1) % 128, by omega⟩
abbrev prev (l : Fin 128) : Fin 128 := ⟨(l.val + 127) % 128, by omega⟩

/-- The rotation of a head's lanes with the three tables. -/
def turn {F : FTy → Type} [FloatOps F] (hr : (Mat 512 128).Rotates 1 none) (v c e o : FVec F (Mat 512 128) .f32) : FVec F (Mat 512 128) .f32 :=
  addf (addf (mulf v c) (mulf (dynamicRotate 1 127#32 none v hr) e)) (mulf (dynamicRotate 1 1#32 none v hr) o)

/-- The rotation at a lane. -/
theorem turn_apply (hr : (Mat 512 128).Rotates 1 none) (v c e o : FVec Ideal (Mat 512 128) .f32) (r : Fin 512) (l : Fin 128) :
    turn hr v c e o (ix2 r l) = v (ix2 r l) * c (ix2 r l) + v (ix2 r (next l)) * e (ix2 r l) + v (ix2 r (prev l)) * o (ix2 r l) := by
  have en : dynamicRotate 1 127#32 none v hr (ix2 r l) = v (ix2 r (next l)) := congrArg v (ext2 rfl (by
    show (l.val + 128 - 127 % 128) % 128 = (l.val + 1) % 128; omega))
  have ep : dynamicRotate 1 1#32 none v hr (ix2 r l) = v (ix2 r (prev l)) := congrArg v (ext2 rfl (by
    show (l.val + 128 - 1 % 128) % 128 = (l.val + 127) % 128; omega))
  rw [← en, ← ep]
  rfl

/-- With a pair's cosine on both lanes, minus its sine on the even lane and its sine on the odd one, this is the rotation. -/
theorem rot_eq (cos sin : Fin 32 → EReal) (v : Fin 128 → EReal) (l : Fin 128) :
    v l * cos (InSpec.pair l) + v (next l) * (if l.val % 2 = 0 then -sin (InSpec.pair l) else 0)
      + v (prev l) * (if l.val % 2 = 0 then 0 else sin (InSpec.pair l)) = InSpec.rot cos sin v l := by
  unfold InSpec.rot
  by_cases h : l.val % 2 = 0
  · have e : next l = InSpec.mate l := Fin.ext (by
      show (l.val + 1) % 128 = if l.val % 2 = 0 then l.val + 1 else l.val - 1
      rw [if_pos h]; omega)
    rw [if_pos h, if_pos h, if_pos h, e, mul_zero, add_zero, mul_neg, ← sub_eq_add_neg]
  · have e : prev l = InSpec.mate l := Fin.ext (by
      show (l.val + 127) % 128 = if l.val % 2 = 0 then l.val + 1 else l.val - 1
      rw [if_neg h]; omega)
    rw [if_neg h, if_neg h, if_neg h, e, mul_zero, add_zero, add_comm]

/-- The rotation of head `h` of the queries (`p = 0`) or the keys (`p = 1`) of a block of projections, at row `r` and lane `l`. -/
def turned (P : FVec Ideal (Mat 512 3072) .f32) (c e o : FVec Ideal (Mat 512 128) .f32) (p : Fin 3) (h : Fin 8) (r : Fin 512) (l : Fin 128) : EReal :=
  P (ix2 r (InSpec.col p (InSpec.lane h l))) * c (ix2 r l) + P (ix2 r (InSpec.col p (InSpec.lane h (next l)))) * e (ix2 r l)
    + P (ix2 r (InSpec.col p (InSpec.lane h (prev l)))) * o (ix2 r l)

theorem turned_congr (P : FVec Ideal (Mat 512 3072) .f32) (c e o : FVec Ideal (Mat 512 128) .f32) (p : Fin 3) {h h' : Fin 8} {r r' : Fin 512}
    {l l' : Fin 128} (hh : h.val = h'.val) (hr : r.val = r'.val) (hl : l.val = l'.val) : turned P c e o p h r l = turned P c e o p h' r' l' := by
  obtain rfl := Fin.ext hh
  obtain rfl := Fin.ext hr
  obtain rfl := Fin.ext hl
  rfl

/-- A head of the block, rotated. -/
theorem head_apply (hr : (Mat 512 128).Rotates 1 none) (off : ℕ) (hs : (Mat 512 3072).Slices ![0, off] (Mat 512 128))
    (P : FVec Ideal (Mat 512 3072) .f32) (c e o : FVec Ideal (Mat 512 128) .f32) (p : Fin 3) (h : Fin 8) (ho : off = 1024 * p.val + 128 * h.val)
    (r : Fin 512) (l : Fin 128) :
    turn hr (extractStridedSlice (Mat 512 128) ![0, off] P hs) c e o (ix2 r l) = turned P c e o p h r l := by
  have e1 : ∀ l : Fin 128, extractStridedSlice (Mat 512 128) ![0, off] P hs (ix2 r l) = P (ix2 r (InSpec.col p (InSpec.lane h l))) := fun l =>
    extractStridedSlice_apply ![0, off] P hs (ix2 r l) (ix2 r (InSpec.col p (InSpec.lane h l))) fun a => by
      match a with
      | ⟨0, _⟩ => show r.val = 0 + r.val; omega
      | ⟨1, _⟩ => show 1024 * p.val + (128 * h.val + l.val) = off + l.val; omega
  rw [turn_apply, e1, e1, e1]
  rfl

/-- The block a store of a rotated head of the queries writes. -/
theorem query_apply (hr : (Mat 512 128).Rotates 1 none) (hb : FTy.bits .bf16 < FTy.bits .f32)
    (hc : (Mat 512 128).ShapeCasts ⟨4, ![1, 1, 512, 128]⟩) (off : ℕ) (hs : (Mat 512 3072).Slices ![0, off] (Mat 512 128))
    (P : FVec Ideal (Mat 512 3072) .f32) (c e o : FVec Ideal (Mat 512 128) .f32) (p : Fin 3) (h : Fin 8) (ho : off = 1024 * p.val + 128 * h.val)
    (x : (⟨4, ![1, 1, 512, 128]⟩ : Shape).Idx) :
    shapeCast ⟨4, ![1, 1, 512, 128]⟩ (truncf .bf16 (mulf (turn hr (extractStridedSlice (Mat 512 128) ![0, off] P hs) c e o)
      (broadcast (Mat 512 128) (Scalar.ofBits .f32 0x3E38AA3B#32))) hb) hc x = turned P c e o p h (x 2) (x 3) * InSpec.qScale := by
  obtain ⟨a, d, r, l, rfl⟩ : ∃ (a d : Fin 1) (r : Fin 512) (l : Fin 128), x = ix4 a d r l := ⟨x 0, x 1, x 2, x 3, ext4 rfl rfl rfl rfl⟩
  show _ = turned P c e o p h r l * InSpec.qScale
  rw [shapeCast_apply _ hc (ix4 a d r l) (ix2 r l) (by
    rw [Shape.rowMajor_val_two, Shape.rowMajor_val_four]
    show r.val * 128 + l.val = ((a.val * 1 + d.val) * 512 + r.val) * 128 + l.val
    omega), ← head_apply hr off hs P c e o p h ho]
  rfl

/-- The block a store of a rotated head of the keys writes. -/
theorem key_apply (hr : (Mat 512 128).Rotates 1 none) (hb : FTy.bits .bf16 < FTy.bits .f32)
    (hc : (Mat 512 128).ShapeCasts ⟨4, ![1, 1, 512, 128]⟩) (off : ℕ) (hs : (Mat 512 3072).Slices ![0, off] (Mat 512 128))
    (P : FVec Ideal (Mat 512 3072) .f32) (c e o : FVec Ideal (Mat 512 128) .f32) (p : Fin 3) (h : Fin 8) (ho : off = 1024 * p.val + 128 * h.val)
    (x : (⟨4, ![1, 1, 512, 128]⟩ : Shape).Idx) :
    shapeCast ⟨4, ![1, 1, 512, 128]⟩ (truncf .bf16 (turn hr (extractStridedSlice (Mat 512 128) ![0, off] P hs) c e o) hb) hc x
      = turned P c e o p h (x 2) (x 3) := by
  obtain ⟨a, d, r, l, rfl⟩ : ∃ (a d : Fin 1) (r : Fin 512) (l : Fin 128), x = ix4 a d r l := ⟨x 0, x 1, x 2, x 3, ext4 rfl rfl rfl rfl⟩
  show _ = turned P c e o p h r l
  rw [shapeCast_apply _ hc (ix4 a d r l) (ix2 r l) (by
    rw [Shape.rowMajor_val_two, Shape.rowMajor_val_four]
    show r.val * 128 + l.val = ((a.val * 1 + d.val) * 512 + r.val) * 128 + l.val
    omega), ← head_apply hr off hs P c e o p h ho]
  rfl

end Turn

end
-- ==== Proof.Array7.lean ====
/-
  The result arrays of the projections before the second layer's attention for the sampled
  streams, whose queries and keys are rotated by their positions, entry by entry.
-/
module

public import proofs.«01_k».proof.Proof.InBlock
public import proofs.«01_k».proof.Proof.Turn
public import proofs.«01_k».proof.Proof.Coords
public import proofs.«01_k».proof.Proof.Gen.Kernel7Ideal.Value

@[expose] public section

set_option maxRecDepth 16384

noncomputable section

namespace Cert.Kernel7Ideal.Array

open Cert.Kernel7Ideal Cert.Kernel7Ideal.Gen Idealize.ShloMosaic Idealize.ShloMosaic.TcCoe Idealize.SL.Sem Facts Coords
open Idealize.ShloMosaic.Pipeline (Dat)

variable (m : (ℓ : Loc nD τ sig) → Buf (Elt Ideal) ℓ) (ρ : Dev nD → PrngReg) (c : Dev nD)

/-! ## The arguments as functions of their coordinates -/

abbrev X (b : Fin 8) (n : Fin 4096) (k : Fin 1024) : EReal := m ((c : Thread nD τ).loc main_arg0) (ix3 b n k)
abbrev Md (l : Fin 2) (r : Fin 16) (k : Fin 6144) : EReal := m ((c : Thread nD τ).loc main_arg1) (ix3 l r k)
abbrev G (l : Fin 2) (j : Fin 4) (k : Fin 1024) : EReal := m ((c : Thread nD τ).loc main_arg2) (ix3 l j k)
abbrev W (k : Fin 1024) (j : Fin 3072) : EReal := m ((c : Thread nD τ).loc main_arg3) (ix3 0 k j)
abbrev C (n : Fin 4096) (p : Fin 32) : EReal := m ((c : Thread nD τ).loc main_arg4) (ix2 n p)
abbrev S (n : Fin 4096) (p : Fin 32) : EReal := m ((c : Thread nD τ).loc main_arg5) (ix2 n p)

/-- The request of a row of all requests' rows, and its place in it. -/
abbrev req (R : Fin 32768) : Fin 8 := ⟨R.val / 4096, by omega⟩
abbrev tok (R : Fin 32768) : Fin 4096 := ⟨R.val % 4096, Nat.mod_lt _ (by norm_num)⟩

/-! ## What the host operations before the call leave -/

theorem host_x (R : Fin 32768) (k : Fin 1024) : (V m c main_v25 : Vec Ideal S32768x1024 .f32) (ix2 R k) = X m c (req R) (tok R) k := by
  have e : (V m c main_v25 : Vec Ideal S32768x1024 .f32)
      = shapeCast S32768x1024 (m ((c : Thread nD τ).loc main_arg0)) shapeCasts_S8x4096x1024_S32768x1024 := by
    unfold_abbrev_sides
    after_results
    rfl
  rw [e, shapeCast_apply _ _ (ix2 R k) (ix3 (req R) (tok R) k) (by
    rw [Shape.rowMajor_val_three, Shape.rowMajor_val_two]
    show (R.val / 4096 * 4096 + R.val % 4096) * 1024 + k.val = R.val * 1024 + k.val
    omega)]

theorem host_mod (l : Fin 2) (r : Fin 16) (k : Fin 6144) :
    (V m c main_v26 : Vec Ideal S32x1x6144 .f32) (ix3 ⟨16 * l.val + r.val, by omega⟩ 0 k) = Md m c l r k := by
  have e : (V m c main_v26 : Vec Ideal S32x1x6144 .f32)
      = shapeCast S32x1x6144 (m ((c : Thread nD τ).loc main_arg1)) shapeCasts_S2x16x6144_S32x1x6144 := by
    unfold_abbrev_sides
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (k : Fin 1024) : (V m c main_v27 : Vec Ideal S1x1024 .f32) (ix2 0 k) = G m c 1 0 k := by
  have e : (V m c main_v27 : Vec Ideal S1x1024 .f32) = extractStridedSlice S1x1024 ![0, 0] (shapeCast S4x1024 (extractStridedSlice S1x4x1024 ![1, 0, 0]
      (m ((c : Thread nD τ).loc main_arg2)) slices_S2x4x1024_S1x4x1024_1_0_0) shapeCasts_S1x4x1024_S4x1024) slices_S4x1024_S1x1024_0_0 := by
    unfold_abbrev_sides
    after_results
    rfl
  rw [e, extractStridedSlice_apply ![0, 0] _ _ (ix2 0 k) (ix2 0 k) (fun a => by
    match a with
    | ⟨0, _⟩ => rfl
    | ⟨1, _⟩ => show k.val = 0 + k.val; omega), shapeCast_apply _ _ (ix2 0 k) (ix3 0 0 k) (by
    rw [Shape.rowMajor_val_three, Shape.rowMajor_val_two]
    show (0 * 4 + 0) * 1024 + k.val = 0 * 1024 + k.val
    omega)]
  refine congrArg (m ((c : Thread nD τ).loc main_arg2)) (ext3 rfl rfl ?_)
  show 0 + k.val = k.val; omega

theorem host_w (k : Fin 1024) (j : Fin 3072) : (V m c main_v29 : Vec Ideal S1024x3072 .bf16) (ix2 k j) = W m c k j := by
  have e : (V m c main_v29 : Vec Ideal S1024x3072 .bf16)
      = shapeCast S1024x3072 (truncf (F := Ideal) .bf16 (m ((c : Thread nD τ).loc main_arg3)) bitsLt_bf16_f32) shapeCasts_S1x1024x3072_S1024x3072 := by
    unfold_abbrev_sides
    after_results
    rfl
  rw [e, shapeCast_apply _ _ (ix2 k j) (ix3 0 k j) (by
    rw [Shape.rowMajor_val_three, Shape.rowMajor_val_two]
    show (0 * 1024 + k.val) * 3072 + j.val = k.val * 3072 + j.val
    omega)]
  rfl

/-! ## The rotation's tables -/

/-- Two arrays of pairs as the even and the odd lanes of a head, the 64 lanes of a half twice over. -/
def lanes (a b : Vec Ideal S4096x32 .f32) : Vec Ideal S4096x128 .f32 :=
  shapeCast S4096x128 (broadcastInDim S1x4096x2x64 ![0, 1, 2, 3] bcast_S1x4096x1x64_S1x4096x2x64_0_1_2_3
    (shapeCast S1x4096x1x64 (shapeCast S4096x64 (concatenate S4096x32x2 2
      [⟨S4096x32x1, broadcastInDim S4096x32x1 ![0, 1] bcast_S4096x32_S4096x32x1_0_1 a⟩,
        ⟨S4096x32x1, broadcastInDim S4096x32x1 ![0, 1] bcast_S4096x32_S4096x32x1_0_1 b⟩]
      concatenates_S4096x32x1_S4096x32x1_S4096x32x2_d2) shapeCasts_S4096x32x2_S4096x64) shapeCasts_S4096x64_S1x4096x1x64))
    shapeCasts_S1x4096x2x64_S4096x128

theorem column_apply (a : Vec Ideal S4096x32 .f32) (n : Fin 4096) (p : Fin 32) :
    broadcastInDim S4096x32x1 ![0, 1] bcast_S4096x32_S4096x32x1_0_1 a (ix3 n p 0) = a (ix2 n p) :=
  broadcastInDim_apply ![0, 1] bcast_S4096x32_S4096x32x1_0_1 a (ix3 n p 0) (ix2 n p) fun d => by
    match d with
    | ⟨0, _⟩ => rfl
    | ⟨1, _⟩ => rfl

theorem lanes_apply (a b : Vec Ideal S4096x32 .f32) (n : Fin 4096) (l : Fin 128) :
    lanes a b (ix2 n l) = if l.val % 2 = 0 then a (ix2 n (InSpec.pair l)) else b (ix2 n (InSpec.pair l)) := by
  unfold lanes
  rw [shapeCast_apply _ shapeCasts_S1x4096x2x64_S4096x128 (ix2 n l) (ix4 0 n ⟨l.val / 64, by omega⟩ ⟨l.val % 64, by omega⟩) (by
      rw [Shape.rowMajor_val_four, Shape.rowMajor_val_two]
      show ((0 * 4096 + n.val) * 2 + l.val / 64) * 64 + l.val % 64 = n.val * 128 + l.val
      omega),
    broadcastInDim_apply ![0, 1, 2, 3] bcast_S1x4096x1x64_S1x4096x2x64_0_1_2_3 _ (ix4 0 n ⟨l.val / 64, by omega⟩ ⟨l.val % 64, by omega⟩)
      (ix4 0 n 0 ⟨l.val % 64, by omega⟩) (fun d => by
        match d with
        | ⟨0, _⟩ => rfl
        | ⟨1, _⟩ => rfl
        | ⟨2, _⟩ => rfl
        | ⟨3, _⟩ => rfl),
    shapeCast_apply _ shapeCasts_S4096x64_S1x4096x1x64 (ix4 0 n 0 ⟨l.val % 64, by omega⟩) (ix2 n ⟨l.val % 64, by omega⟩) (by
      rw [Shape.rowMajor_val_four, Shape.rowMajor_val_two]
      show n.val * 64 + l.val % 64 = ((0 * 4096 + n.val) * 1 + 0) * 64 + l.val % 64
      omega),
    shapeCast_apply _ shapeCasts_S4096x32x2_S4096x64 (ix2 n ⟨l.val % 64, by omega⟩) (ix3 n (InSpec.pair l) ⟨l.val % 2, by omega⟩) (by
      rw [Shape.rowMajor_val_three, Shape.rowMajor_val_two]
      show (n.val * 32 + l.val % 64 / 2) * 2 + l.val % 2 = n.val * 64 + l.val % 64
      omega)]
  by_cases h : l.val % 2 = 0
  · rw [if_pos h, ← column_apply a]
    exact concatenate_pair_apply_left 2 _ _ concatenates_S4096x32x1_S4096x32x1_S4096x32x2_d2 (ix3 n (InSpec.pair l) ⟨l.val % 2, by omega⟩) rfl
      (ix3 n (InSpec.pair l) 0) fun d => by
        match d with
        | ⟨0, _⟩ => rfl
        | ⟨1, _⟩ => rfl
        | ⟨2, _⟩ => show 0 = l.val % 2; omega
  · rw [if_neg h, ← column_apply b]
    exact concatenate_pair_apply_right 2 _ _ concatenates_S4096x32x1_S4096x32x1_S4096x32x2_d2 (ix3 n (InSpec.pair l) ⟨l.val % 2, by omega⟩) rfl rfl
      (ix3 n (InSpec.pair l) 0) (fun d hd => by
        match d with
        | ⟨0, _⟩ => rfl
        | ⟨1, _⟩ => rfl
        | ⟨2, _⟩ => exact absurd rfl hd) (by show 0 + 1 = l.val % 2; omega)

/-- The array of zeros. -/
abbrev zeros : Vec Ideal S4096x32 .f32 := broadcastInDim S4096x32 ![] bcast_S_S4096x32 (constant (F := Ideal) S_ .f32 0x00000000#32)

theorem zeros_apply (n : Fin 4096) (p : Fin 32) : zeros (ix2 n p) = 0 := Ideal.ofBits_zero .f32

/-- The cosines, on both lanes of a pair. -/
theorem host_cos (n : Fin 4096) (l : Fin 128) : (V m c main_v9 : Vec Ideal S4096x128 .f32) (ix2 n l) = C m c n (InSpec.pair l) := by
  have e : (V m c main_v9 : Vec Ideal S4096x128 .f32) = lanes (m ((c : Thread nD τ).loc main_arg4)) (m ((c : Thread nD τ).loc main_arg4)) := by
    unfold_abbrev_sides
    after_results
    rfl
  rw [e, lanes_apply, ite_self]

/-- Minus the sines, on the even lanes. -/
theorem host_even (n : Fin 4096) (l : Fin 128) :
    (V m c main_v17 : Vec Ideal S4096x128 .f32) (ix2 n l) = if l.val % 2 = 0 then -S m c n (InSpec.pair l) else 0 := by
  have e : (V m c main_v17 : Vec Ideal S4096x128 .f32) = lanes (Host.negf (F := Ideal) (φ := .f32) (m ((c : Thread nD τ).loc main_arg5))) zeros := by
    unfold_abbrev_sides
    after_results
    rfl
  rw [e, lanes_apply, zeros_apply]
  rfl

/-- The sines, on the odd lanes. -/
theorem host_odd (n : Fin 4096) (l : Fin 128) :
    (V m c main_v24 : Vec Ideal S4096x128 .f32) (ix2 n l) = if l.val % 2 = 0 then 0 else S m c n (InSpec.pair l) := by
  have e : (V m c main_v24 : Vec Ideal S4096x128 .f32) = lanes zeros (m ((c : Thread nD τ).loc main_arg5)) := by
    unfold_abbrev_sides
    after_results
    rfl
  rw [e, lanes_apply, zeros_apply]

/-! ## The blocks -/

/-- Which block of each array a grid point stages. -/
theorem index_eq : ∀ t : Fin grid0.N,
    (win0_0.index t 0 = t.val ∧ win0_0.index t 1 = 0) ∧ (win0_1.index t 0 = 17 + t.val / 8 ∧ win0_1.index t 1 = 0 ∧ win0_1.index t 2 = 0)
    ∧ (win0_2.index t 0 = 0 ∧ win0_2.index t 1 = 0) ∧ (win0_3.index t 0 = 0 ∧ win0_3.index t 1 = 0) := by
  decide +kernel

theorem table_index : ∀ t : Fin grid0.N,
    (win0_4.index t 0 = t.val % 8 ∧ win0_4.index t 1 = 0) ∧ (win0_5.index t 0 = t.val % 8 ∧ win0_5.index t 1 = 0)
    ∧ (win0_6.index t 0 = t.val % 8 ∧ win0_6.index t 1 = 0) := by
  decide +kernel

/-- Which block of each result array it writes back. -/
theorem out_index : ∀ t : Fin grid0.N,
    (win0_7.index t 0 = t.val / 8 ∧ win0_7.index t 1 = 0 ∧ win0_7.index t 2 = t.val % 8 ∧ win0_7.index t 3 = 0)
    ∧ (win0_8.index t 0 = t.val / 8 ∧ win0_8.index t 1 = 0 ∧ win0_8.index t 2 = t.val % 8 ∧ win0_8.index t 3 = 0)
    ∧ (win0_9.index t 0 = t.val / 8 ∧ win0_9.index t 1 = 0 ∧ win0_9.index t 2 = t.val % 8 ∧ win0_9.index t 3 = 0) := by
  decide +kernel

/-- The number of grid points. -/
theorem lt_N (t : Fin cfg0.N) : t.val < 64 := t.isLt

/-- The request of a point, and the token of a row of its block. -/
abbrev reqAt (t : Fin cfg0.N) : Fin 8 := ⟨t.val / 8, by have := lt_N t; omega⟩
abbrev tokAt (t : Fin cfg0.N) (r : Fin 512) : Fin 4096 := ⟨512 * (t.val % 8) + r.val, by omega⟩

/-- Row `r` of point `t`'s block among all rows. -/
abbrev rowAt (t : Fin cfg0.N) (r : Fin 512) : Fin 32768 := ⟨512 * t.val + r.val, by have := lt_N t; omega⟩

theorem blk0 (t : Fin cfg0.N) (r : Fin 512) (k : Fin 1024) :
    (iblk m c 0 t : Vec Ideal S512x1024 .f32) (ix2 r k) = X m c (req (rowAt t r)) (tok (rowAt t r)) k := by
  obtain ⟨⟨i0, i1⟩, -⟩ := index_eq t
  rw [← host_x]
  unfold iblk
  rw [View.read_apply]
  show V m c main_v25 _ = V m c main_v25 _
  refine congrArg (V m c main_v25) (ext2 ?_ ?_)
  · show win0_0.index t 0 * 512 + 1 * r.val = 512 * t.val + r.val; rw [i0]; omega
  · show win0_0.index t 1 * 1024 + 1 * k.val = k.val; rw [i1]; omega

/-- The row of the second layer's modulation that request `b` uses. -/
abbrev mrow (b : Fin 8) : Fin 16 := ⟨1 + b.val, by omega⟩

theorem blk1 (t : Fin cfg0.N) (k : Fin 6144) : (iblk m c 1 t : Vec Ideal S1x1x6144 .f32) (ix3 0 0 k) = Md m c 1 (mrow (reqAt t)) k := by
  obtain ⟨-, ⟨i0, i1, i2⟩, -⟩ := index_eq t
  rw [← host_mod]
  unfold iblk
  rw [View.read_apply]
  show V m c main_v26 _ = V m c main_v26 _
  refine congrArg (V m c main_v26) (ext3 ?_ ?_ ?_)
  · show win0_1.index t 0 * 1 + 1 * 0 = 16 * 1 + (1 + t.val / 8); rw [i0]; omega
  · show win0_1.index t 1 * 1 + 1 * 0 = 0; rw [i1]
  · show win0_1.index t 2 * 6144 + 1 * k.val = k.val; rw [i2]; omega

theorem blk2 (t : Fin cfg0.N) (k : Fin 1024) : (iblk m c 2 t : Vec Ideal S1x1024 .f32) (ix2 0 k) = G m c 1 0 k := by
  obtain ⟨-, -, ⟨i0, i1⟩, -⟩ := index_eq t
  rw [← host_g]
  unfold iblk
  rw [View.read_apply]
  show V m c main_v27 _ = V m c main_v27 _
  refine congrArg (V m c main_v27) (ext2 ?_ ?_)
  · show win0_2.index t 0 * 1 + 1 * 0 = 0; rw [i0]
  · show win0_2.index t 1 * 1024 + 1 * k.val = k.val; rw [i1]; omega

theorem blk3 (t : Fin cfg0.N) (k : Fin 1024) (j : Fin 3072) : (iblk m c 3 t : Vec Ideal S1024x3072 .bf16) (ix2 k j) = W m c k j := by
  obtain ⟨-, -, -, ⟨i0, i1⟩⟩ := index_eq t
  rw [← host_w]
  unfold iblk
  rw [View.read_apply]
  show V m c main_v29 _ = V m c main_v29 _
  refine congrArg (V m c main_v29) (ext2 ?_ ?_)
  · show win0_3.index t 0 * 1024 + 1 * k.val = k.val; rw [i0]; omega
  · show win0_3.index t 1 * 3072 + 1 * j.val = j.val; rw [i1]; omega

theorem blk4 (t : Fin cfg0.N) (r : Fin 512) (l : Fin 128) :
    (iblk m c 4 t : Vec Ideal S512x128 .f32) (ix2 r l) = C m c (tokAt t r) (InSpec.pair l) := by
  obtain ⟨⟨i0, i1⟩, -⟩ := table_index t
  rw [← host_cos]
  unfold iblk
  rw [View.read_apply]
  show V m c main_v9 _ = V m c main_v9 _
  refine congrArg (V m c main_v9) (ext2 ?_ ?_)
  · show win0_4.index t 0 * 512 + 1 * r.val = 512 * (t.val % 8) + r.val; rw [i0]; omega
  · show win0_4.index t 1 * 128 + 1 * l.val = l.val; rw [i1]; omega

theorem blk5 (t : Fin cfg0.N) (r : Fin 512) (l : Fin 128) :
    (iblk m c 5 t : Vec Ideal S512x128 .f32) (ix2 r l) = if l.val % 2 = 0 then -S m c (tokAt t r) (InSpec.pair l) else 0 := by
  obtain ⟨-, ⟨i0, i1⟩, -⟩ := table_index t
  rw [← host_even]
  unfold iblk
  rw [View.read_apply]
  show V m c main_v17 _ = V m c main_v17 _
  refine congrArg (V m c main_v17) (ext2 ?_ ?_)
  · show win0_5.index t 0 * 512 + 1 * r.val = 512 * (t.val % 8) + r.val; rw [i0]; omega
  · show win0_5.index t 1 * 128 + 1 * l.val = l.val; rw [i1]; omega

theorem blk6 (t : Fin cfg0.N) (r : Fin 512) (l : Fin 128) :
    (iblk m c 6 t : Vec Ideal S512x128 .f32) (ix2 r l) = if l.val % 2 = 0 then 0 else S m c (tokAt t r) (InSpec.pair l) := by
  obtain ⟨-, -, ⟨i0, i1⟩⟩ := table_index t
  rw [← host_odd]
  unfold iblk
  rw [View.read_apply]
  show V m c main_v24 _ = V m c main_v24 _
  refine congrArg (V m c main_v24) (ext2 ?_ ?_)
  · show win0_6.index t 0 * 512 + 1 * r.val = 512 * (t.val % 8) + r.val; rw [i0]; omega
  · show win0_6.index t 1 * 128 + 1 * l.val = l.val; rw [i1]; omega

/-! ## The projection -/

/-- The shape relations of the body. -/
theorem fits : Enter.Fits 512 :=
  ⟨bitsLt_bf16_f32, shapeCasts_S512x1024_S512x1024, shapeCasts_S1x1024_S1x1024, shapeCasts_S1x1x6144_S1x6144, reduces_S512x1024_S512,
    shapeCasts_S512_S512x1, broadcasts_S512x1_S512x1024, broadcasts_S1x1024_S512x1024, slices_S1x6144_o0_0_S1x1024,
    slices_S1x6144_o0_1024_S1x1024⟩

/-- The body's projection of its block of rows. -/
theorem pay_eq (x0 : Vec Ideal S1x1x6144 .f32) (x1 : Vec Ideal S512x1024 .f32) (x2 : Vec Ideal S1x1024 .f32) (x3 : Vec Ideal S1024x3072 .bf16) :
    k0_pay4 x0 x1 x2 x3 = Enter.block fits shapeCasts_S1024x3072_S1024x3072 x0 x1 x2 x3 := rfl

/-- Entry `(R, j)` of the projections, from the arguments: the specification's row. -/
def entry (b : Fin 8) (n : Fin 4096) (j : Fin 3072) : EReal :=
  InSpec.proj (X m c b n) (Md m c 1 (mrow b)) (G m c 1 0) (W m c) j

/-- The projection at point `t`. -/
abbrev payAt (t : Fin cfg0.N) : Vec Ideal S512x3072 .f32 :=
  k0_pay4 (View.ld (iblk m c 1 t : Vec Ideal S1x1x6144 .f32) r0_0) (View.ld (iblk m c 0 t : Vec Ideal S512x1024 .f32) r0_1)
    (View.ld (iblk m c 2 t : Vec Ideal S1x1024 .f32) r0_2) (View.ld (iblk m c 3 t : Vec Ideal S1024x3072 .bf16) r0_3)

theorem pay_apply (t : Fin cfg0.N) (r : Fin 512) (j : Fin 3072) : payAt m c t (ix2 r j) = entry m c (reqAt t) (tokAt t r) j := by
  have ht := lt_N t
  unfold payAt
  rw [pay_eq, Enter.block_apply fits]
  have e0 : (fun k => View.ld (iblk m c 0 t : Vec Ideal S512x1024 .f32) r0_1 (ix2 r k)) = X m c (reqAt t) (tokAt t r) := funext fun k => by
    rw [show View.ld (iblk m c 0 t : Vec Ideal S512x1024 .f32) r0_1 (ix2 r k) = (iblk m c 0 t : Vec Ideal S512x1024 .f32) (ix2 r k) by pointwise, blk0]
    refine congrArg₂ (X m c · · k) (Fin.ext ?_) (Fin.ext ?_)
    · show (512 * t.val + r.val) / 4096 = t.val / 8; omega
    · show (512 * t.val + r.val) % 4096 = 512 * (t.val % 8) + r.val; omega
  have e1 : (fun k => View.ld (iblk m c 1 t : Vec Ideal S1x1x6144 .f32) r0_0 (ix3 0 0 k)) = Md m c 1 (mrow (reqAt t)) := funext fun k => by
    rw [show View.ld (iblk m c 1 t : Vec Ideal S1x1x6144 .f32) r0_0 (ix3 0 0 k) = (iblk m c 1 t : Vec Ideal S1x1x6144 .f32) (ix3 0 0 k) by pointwise, blk1]
  have e2 : (fun k => View.ld (iblk m c 2 t : Vec Ideal S1x1024 .f32) r0_2 (ix2 0 k)) = G m c 1 0 := funext fun k => by
    rw [show View.ld (iblk m c 2 t : Vec Ideal S1x1024 .f32) r0_2 (ix2 0 k) = (iblk m c 2 t : Vec Ideal S1x1024 .f32) (ix2 0 k) by pointwise, blk2]
  have e3 : (fun k j => View.ld (iblk m c 3 t : Vec Ideal S1024x3072 .bf16) r0_3 (ix2 k j)) = W m c := funext fun k => funext fun j => by
    rw [show View.ld (iblk m c 3 t : Vec Ideal S1024x3072 .bf16) r0_3 (ix2 k j) = (iblk m c 3 t : Vec Ideal S1024x3072 .bf16) (ix2 k j) by pointwise, blk3]
  rw [e0, e1, e2, e3]
  rfl

/-! ## The rotated heads of a block -/

/-- A block of a table as the body uses it. -/
abbrev tab (x : Vec Ideal S512x128 .f32) : FVec Ideal S512x128 .f32 := shapeCast S512x128 (View.ld x r0_4) shapeCasts_S512x128_S512x128

theorem tab_apply (x : Vec Ideal S512x128 .f32) (r : Fin 512) (l : Fin 128) : tab x (ix2 r l) = x (ix2 r l) := by
  unfold tab
  pointwise

variable (x0 : Vec Ideal S512x1024 .f32) (x1 : Vec Ideal S1x1x6144 .f32) (x2 : Vec Ideal S1x1024 .f32) (x3 : Vec Ideal S1024x3072 .bf16)
  (x4 x5 x6 : Vec Ideal S512x128 .f32)

/-- The block's projections. -/
abbrev payOf : FVec Ideal S512x3072 .f32 := k0_pay4 (View.ld x1 r0_0) (View.ld x0 r0_1) (View.ld x2 r0_2) (View.ld x3 r0_3)

/-- The block of rotated queries a point writes. -/
theorem out7_apply (y : S1x8x512x128.Idx) : out0_7 x0 x1 x2 x3 x4 x5 x6 y
    = Turn.turned (payOf x0 x1 x2 x3) (tab x4) (tab x5) (tab x6) 0 (y 1) (y 2) (y 3) * InSpec.qScale := by
  unfold out0_7
  refine View.canon_apply_of_pieces (Val := Elt Ideal) (e := .bf16) (fun y : S1x8x512x128.Idx =>
    Turn.turned (payOf x0 x1 x2 x3) (tab x4) (tab x5) (tab x6) 0 (y 1) (y 2) (y 3) * InSpec.qScale) _ ?_ y (cover0_7 _ _ _ _ _ _ _ _ y)
  intro pc hpc
  rcases List.mem_cons.mp hpc with rfl | hpc
  · intro x
    exact (Turn.query_apply rotates_S512x128_d1 bitsLt_bf16_f32 shapeCasts_S512x128_S1x1x512x128 896 slices_S512x3072_o0_896_S512x128
      (payOf x0 x1 x2 x3) (tab x4) (tab x5) (tab x6) 0 7 rfl x).trans (congrArg (· * InSpec.qScale) (Turn.turned_congr _ _ _ _ 0 (by show 7 = 7 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 768 slices_S512x3072_o0_768_S512x128
      (payOf x0 x1 x2 x3) (tab x4) (tab x5) (tab x6) 0 6 rfl x).trans (congrArg (· * InSpec.qScale) (Turn.turned_congr _ _ _ _ 0 (by show 6 = 6 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 640 slices_S512x3072_o0_640_S512x128
      (payOf x0 x1 x2 x3) (tab x4) (tab x5) (tab x6) 0 5 rfl x).trans (congrArg (· * InSpec.qScale) (Turn.turned_congr _ _ _ _ 0 (by show 5 = 5 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 512 slices_S512x3072_o0_512_S512x128
      (payOf x0 x1 x2 x3) (tab x4) (tab x5) (tab x6) 0 4 rfl x).trans (congrArg (· * InSpec.qScale) (Turn.turned_congr _ _ _ _ 0 (by show 4 = 4 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 384 slices_S512x3072_o0_384_S512x128
      (payOf x0 x1 x2 x3) (tab x4) (tab x5) (tab x6) 0 3 rfl x).trans (congrArg (· * InSpec.qScale) (Turn.turned_congr _ _ _ _ 0 (by show 3 = 3 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 256 slices_S512x3072_o0_256_S512x128
      (payOf x0 x1 x2 x3) (tab x4) (tab x5) (tab x6) 0 2 rfl x).trans (congrArg (· * InSpec.qScale) (Turn.turned_congr _ _ _ _ 0 (by show 2 = 2 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 128 slices_S512x3072_o0_128_S512x128
      (payOf x0 x1 x2 x3) (tab x4) (tab x5) (tab x6) 0 1 rfl x).trans (congrArg (· * InSpec.qScale) (Turn.turned_congr _ _ _ _ 0 (by show 1 = 1 + 1 * (x 1).val; have : (x 1).val < 1 := (x 1).isLt; omega)
      (by show (x 2).val = 0 + 1 * (x 2).val; omega) (by show (x 3).val = 0 + 1 * (x 3).val; omega)))
  rcases List.mem_cons.mp hpc with rfl | hpc
  · intro x
    exact (Turn.query_apply rotates_S512x128_d1 bitsLt_bf16_f32 shapeCasts_S512x128_S1x1x512x128 0 slices_S512x3072_o0_0_S512x128
      (payOf x0 x1 x2 x3) (tab x4) (tab x5) (tab x6) 0 0 rfl x).trans (congrArg (· * InSpec.qScale) (Turn.turned_congr _ _ _ _ 0 (by show 0 = 0 + 1 * (x 1).val; have : (x 1).val < 1 := (x 1).isLt; omega)
      (by show (x 2).val = 0 + 1 * (x 2).val; omega) (by show (x 3).val = 0 + 1 * (x 3).val; omega)))
  nomatch hpc

/-- The block of rotated keys a point writes. -/
theorem out8_apply (y : S1x8x512x128.Idx) : out0_8 x0 x1 x2 x3 x4 x5 x6 y
    = Turn.turned (payOf x0 x1 x2 x3) (tab x4) (tab x5) (tab x6) 1 (y 1) (y 2) (y 3) := by
  unfold out0_8
  refine View.canon_apply_of_pieces (Val := Elt Ideal) (e := .bf16) (fun y : S1x8x512x128.Idx =>
    Turn.turned (payOf x0 x1 x2 x3) (tab x4) (tab x5) (tab x6) 1 (y 1) (y 2) (y 3)) _ ?_ y (cover0_8 _ _ _ _ _ _ _ _ y)
  intro pc hpc
  rcases List.mem_cons.mp hpc with rfl | hpc
  · intro x
    exact (Turn.key_apply rotates_S512x128_d1 bitsLt_bf16_f32 shapeCasts_S512x128_S1x1x512x128 1920 slices_S512x3072_o0_1920_S512x128
      (payOf x0 x1 x2 x3) (tab x4) (tab x5) (tab x6) 1 7 rfl x).trans (Turn.turned_congr _ _ _ _ 1 (by show 7 = 7 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1792 slices_S512x3072_o0_1792_S512x128
      (payOf x0 x1 x2 x3) (tab x4) (tab x5) (tab x6) 1 6 rfl x).trans (Turn.turned_congr _ _ _ _ 1 (by show 6 = 6 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1664 slices_S512x3072_o0_1664_S512x128
      (payOf x0 x1 x2 x3) (tab x4) (tab x5) (tab x6) 1 5 rfl x).trans (Turn.turned_congr _ _ _ _ 1 (by show 5 = 5 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1536 slices_S512x3072_o0_1536_S512x128
      (payOf x0 x1 x2 x3) (tab x4) (tab x5) (tab x6) 1 4 rfl x).trans (Turn.turned_congr _ _ _ _ 1 (by show 4 = 4 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1408 slices_S512x3072_o0_1408_S512x128
      (payOf x0 x1 x2 x3) (tab x4) (tab x5) (tab x6) 1 3 rfl x).trans (Turn.turned_congr _ _ _ _ 1 (by show 3 = 3 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1280 slices_S512x3072_o0_1280_S512x128
      (payOf x0 x1 x2 x3) (tab x4) (tab x5) (tab x6) 1 2 rfl x).trans (Turn.turned_congr _ _ _ _ 1 (by show 2 = 2 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1152 slices_S512x3072_o0_1152_S512x128
      (payOf x0 x1 x2 x3) (tab x4) (tab x5) (tab x6) 1 1 rfl x).trans (Turn.turned_congr _ _ _ _ 1 (by show 1 = 1 + 1 * (x 1).val; have : (x 1).val < 1 := (x 1).isLt; omega)
      (by show (x 2).val = 0 + 1 * (x 2).val; omega) (by show (x 3).val = 0 + 1 * (x 3).val; omega))
  rcases List.mem_cons.mp hpc with rfl | hpc
  · intro x
    exact (Turn.key_apply rotates_S512x128_d1 bitsLt_bf16_f32 shapeCasts_S512x128_S1x1x512x128 1024 slices_S512x3072_o0_1024_S512x128
      (payOf x0 x1 x2 x3) (tab x4) (tab x5) (tab x6) 1 0 rfl x).trans (Turn.turned_congr _ _ _ _ 1 (by show 0 = 0 + 1 * (x 1).val; have : (x 1).val < 1 := (x 1).isLt; omega)
      (by show (x 2).val = 0 + 1 * (x 2).val; omega) (by show (x 3).val = 0 + 1 * (x 3).val; omega))
  nomatch hpc

/-- A rotated head of point `t`'s block, from the arguments. -/
theorem turned_eq (t : Fin cfg0.N) (p : Fin 3) (h : Fin 8) (r : Fin 512) (l : Fin 128) :
    Turn.turned (payAt m c t) (tab (iblk m c 4 t)) (tab (iblk m c 5 t)) (tab (iblk m c 6 t)) p h r l
      = InSpec.rot (C m c (tokAt t r)) (S m c (tokAt t r)) (fun l => entry m c (reqAt t) (tokAt t r) (InSpec.col p (InSpec.lane h l))) l := by
  unfold Turn.turned
  rw [tab_apply, tab_apply, tab_apply, blk4, blk5, blk6, pay_apply, pay_apply, pay_apply]
  exact Turn.rot_eq (C m c (tokAt t r)) (S m c (tokAt t r)) (fun l => entry m c (reqAt t) (tokAt t r) (InSpec.col p (InSpec.lane h l))) l

/-! ## The queries, head by head -/

def res0 : Buf (Elt Ideal) ((c : Thread nD τ).loc main_v30_0) := fun i : S8x8x4096x128.Idx =>
  InSpec.rot (C m c (i 2)) (S m c (i 2)) (fun l => entry m c (i 0) (i 2) (InSpec.col 0 (InSpec.lane (i 1) l))) (i 3) * InSpec.qScale

theorem flushed_eq7 (t : Fin cfg0.N) : (dats m 0 c).flushed 7 t = ((cfg0.win 7).blk t).view.read (Elt Ideal) (res0 m c) := by
  rw [Value.flushed7]
  refine funext fun j : S1x8x512x128.Idx => ?_
  obtain ⟨h, r, l, rfl⟩ : ∃ (h : Fin 8) (r : Fin 512) (l : Fin 128), j = ix4 0 h r l :=
    ⟨j 1, j 2, j 3, ext4 (by have : (j 0).val < 1 := (j 0).isLt; show (j 0).val = 0; omega) rfl rfl rfl⟩
  obtain ⟨⟨i0, i1, i2, i3⟩, -⟩ := out_index t
  have e : ((cfg0.win 7).blk t).view.read (Elt Ideal) (res0 m c) (ix4 0 h r l : S1x8x512x128.Idx)
      = res0 m c (ix4 (reqAt t) h (tokAt t r) l : S8x8x4096x128.Idx) := by
    rw [View.read_apply]
    refine congrArg (res0 m c) (ext4 (n := ![8, 8, 4096, 128]) ?_ ?_ ?_ ?_)
    · show win0_7.index t 0 * 1 + 1 * 0 = t.val / 8; rw [i0]; omega
    · show win0_7.index t 1 * 8 + 1 * h.val = h.val; rw [i1]; omega
    · show win0_7.index t 2 * 512 + 1 * r.val = 512 * (t.val % 8) + r.val; rw [i2]; omega
    · show win0_7.index t 3 * 128 + 1 * l.val = l.val; rw [i3]; omega
  rw [e]
  refine (out7_apply (iblk m c 0 t) (iblk m c 1 t) (iblk m c 2 t) (iblk m c 3 t) (iblk m c 4 t) (iblk m c 5 t) (iblk m c 6 t) (ix4 0 h r l)).trans ?_
  show Turn.turned (payAt m c t) (tab (iblk m c 4 t)) (tab (iblk m c 5 t)) (tab (iblk m c 6 t)) 0 h r l * InSpec.qScale = _
  rw [turned_eq]
  rfl

theorem final0 : (dats m 0 c).arrAt 7 cfg0.N = res0 m c :=
  (dats m 0 c).arrAt_eq_of_cover 7 (res0 m c) (fun t _ => flushed_eq7 m c t) fun i => by
    have h0 : (i 0 : Nat) < 8 := (i 0).isLt
    have h1 : (i 1 : Nat) < 8 := (i 1).isLt
    have h2 : (i 2 : Nat) < 4096 := (i 2).isLt
    have h3 : (i 3 : Nat) < 128 := (i 3).isLt
    let t : Fin cfg0.N := ⟨8 * (i 0 : Nat) + (i 2 : Nat) / 512, by show 8 * (i 0 : Nat) + (i 2 : Nat) / 512 < 64; omega⟩
    obtain ⟨⟨i0, i1, i2, i3⟩, -⟩ := out_index t
    have tv : t.val = 8 * (i 0 : Nat) + (i 2 : Nat) / 512 := rfl
    refine ⟨t, flush0_7 t, ?_⟩
    show i ∈ ((View.whole main_v30_0).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [i0]; omega
    | ⟨1, _⟩ =>
      show win0_7.index t 1 * 8 ≤ (i 1 : Nat) ∧ (i 1 : Nat) < win0_7.index t 1 * 8 + 8
      rw [i1]; omega
    | ⟨2, _⟩ =>
      show win0_7.index t 2 * 512 ≤ (i 2 : Nat) ∧ (i 2 : Nat) < win0_7.index t 2 * 512 + 512
      rw [i2]; omega
    | ⟨3, _⟩ =>
      show win0_7.index t 3 * 128 ≤ (i 3 : Nat) ∧ (i 3 : Nat) < win0_7.index t 3 * 128 + 128
      rw [i3]; omega

/-! ## The keys, head by head -/

def res1 : Buf (Elt Ideal) ((c : Thread nD τ).loc main_v30_1) := fun i : S8x8x4096x128.Idx =>
  InSpec.rot (C m c (i 2)) (S m c (i 2)) (fun l => entry m c (i 0) (i 2) (InSpec.col 1 (InSpec.lane (i 1) l))) (i 3)

theorem flushed_eq8 (t : Fin cfg0.N) : (dats m 0 c).flushed 8 t = ((cfg0.win 8).blk t).view.read (Elt Ideal) (res1 m c) := by
  rw [Value.flushed8]
  refine funext fun j : S1x8x512x128.Idx => ?_
  obtain ⟨h, r, l, rfl⟩ : ∃ (h : Fin 8) (r : Fin 512) (l : Fin 128), j = ix4 0 h r l :=
    ⟨j 1, j 2, j 3, ext4 (by have : (j 0).val < 1 := (j 0).isLt; show (j 0).val = 0; omega) rfl rfl rfl⟩
  obtain ⟨-, ⟨i0, i1, i2, i3⟩, -⟩ := out_index t
  have e : ((cfg0.win 8).blk t).view.read (Elt Ideal) (res1 m c) (ix4 0 h r l : S1x8x512x128.Idx)
      = res1 m c (ix4 (reqAt t) h (tokAt t r) l : S8x8x4096x128.Idx) := by
    rw [View.read_apply]
    refine congrArg (res1 m c) (ext4 (n := ![8, 8, 4096, 128]) ?_ ?_ ?_ ?_)
    · show win0_8.index t 0 * 1 + 1 * 0 = t.val / 8; rw [i0]; omega
    · show win0_8.index t 1 * 8 + 1 * h.val = h.val; rw [i1]; omega
    · show win0_8.index t 2 * 512 + 1 * r.val = 512 * (t.val % 8) + r.val; rw [i2]; omega
    · show win0_8.index t 3 * 128 + 1 * l.val = l.val; rw [i3]; omega
  rw [e]
  refine (out8_apply (iblk m c 0 t) (iblk m c 1 t) (iblk m c 2 t) (iblk m c 3 t) (iblk m c 4 t) (iblk m c 5 t) (iblk m c 6 t) (ix4 0 h r l)).trans ?_
  show Turn.turned (payAt m c t) (tab (iblk m c 4 t)) (tab (iblk m c 5 t)) (tab (iblk m c 6 t)) 1 h r l = _
  rw [turned_eq]
  rfl

theorem final1 : (dats m 0 c).arrAt 8 cfg0.N = res1 m c :=
  (dats m 0 c).arrAt_eq_of_cover 8 (res1 m c) (fun t _ => flushed_eq8 m c t) fun i => by
    have h0 : (i 0 : Nat) < 8 := (i 0).isLt
    have h1 : (i 1 : Nat) < 8 := (i 1).isLt
    have h2 : (i 2 : Nat) < 4096 := (i 2).isLt
    have h3 : (i 3 : Nat) < 128 := (i 3).isLt
    let t : Fin cfg0.N := ⟨8 * (i 0 : Nat) + (i 2 : Nat) / 512, by show 8 * (i 0 : Nat) + (i 2 : Nat) / 512 < 64; omega⟩
    obtain ⟨-, ⟨i0, i1, i2, i3⟩, -⟩ := out_index t
    have tv : t.val = 8 * (i 0 : Nat) + (i 2 : Nat) / 512 := rfl
    refine ⟨t, flush0_8 t, ?_⟩
    show i ∈ ((View.whole main_v30_1).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [i0]; omega
    | ⟨1, _⟩ =>
      show win0_8.index t 1 * 8 ≤ (i 1 : Nat) ∧ (i 1 : Nat) < win0_8.index t 1 * 8 + 8
      rw [i1]; omega
    | ⟨2, _⟩ =>
      show win0_8.index t 2 * 512 ≤ (i 2 : Nat) ∧ (i 2 : Nat) < win0_8.index t 2 * 512 + 512
      rw [i2]; omega
    | ⟨3, _⟩ =>
      show win0_8.index t 3 * 128 ≤ (i 3 : Nat) ∧ (i 3 : Nat) < win0_8.index t 3 * 128 + 128
      rw [i3]; omega

/-! ## The values, head by head -/

def res2 : Buf (Elt Ideal) ((c : Thread nD τ).loc main_v30_2) := fun i : S8x8x4096x128.Idx =>
  entry m c (i 0) (i 2) (InSpec.col 2 (InSpec.lane (i 1) (i 3)))

theorem flushed_eq9 (t : Fin cfg0.N) : (dats m 0 c).flushed 9 t = ((cfg0.win 9).blk t).view.read (Elt Ideal) (res2 m c) := by
  rw [Value.flushed9]
  refine funext fun j : S1x8x512x128.Idx => ?_
  obtain ⟨h, r, l, rfl⟩ : ∃ (h : Fin 8) (r : Fin 512) (l : Fin 128), j = ix4 0 h r l :=
    ⟨j 1, j 2, j 3, ext4 (by have : (j 0).val < 1 := (j 0).isLt; show (j 0).val = 0; omega) rfl rfl rfl⟩
  obtain ⟨-, -, ⟨i0, i1, i2, i3⟩⟩ := out_index t
  have e : ((cfg0.win 9).blk t).view.read (Elt Ideal) (res2 m c) (ix4 0 h r l : S1x8x512x128.Idx)
      = res2 m c (ix4 (reqAt t) h (tokAt t r) l : S8x8x4096x128.Idx) := by
    rw [View.read_apply]
    refine congrArg (res2 m c) (ext4 (n := ![8, 8, 4096, 128]) ?_ ?_ ?_ ?_)
    · show win0_9.index t 0 * 1 + 1 * 0 = t.val / 8; rw [i0]; omega
    · show win0_9.index t 1 * 8 + 1 * h.val = h.val; rw [i1]; omega
    · show win0_9.index t 2 * 512 + 1 * r.val = 512 * (t.val % 8) + r.val; rw [i2]; omega
    · show win0_9.index t 3 * 128 + 1 * l.val = l.val; rw [i3]; omega
  rw [e]
  have ec : out0_9 (iblk m c 0 t) (iblk m c 1 t) (iblk m c 2 t) (iblk m c 3 t) (iblk m c 4 t) (iblk m c 5 t) (iblk m c 6 t) (ix4 0 h r l : S1x8x512x128.Idx)
      = Value.E9 (View.ld (iblk m c 1 t : Vec Ideal S1x1x6144 .f32) r0_0) (View.ld (iblk m c 0 t : Vec Ideal S512x1024 .f32) r0_1)
        (View.ld (iblk m c 2 t : Vec Ideal S1x1024 .f32) r0_2) (View.ld (iblk m c 3 t : Vec Ideal S1024x3072 .bf16) r0_3)
        (ix4 0 h r l : S1x8x512x128.Idx) := Value.canon9_eq _ _ _ _ _
  have ei : Value.ix9_0 (ix4 0 h r l : S1x8x512x128.Idx) = ix2 r (InSpec.col 2 (InSpec.lane h l)) :=
    ext2 rfl (by show h.val * 128 + l.val + 2048 = 1024 * 2 + (128 * h.val + l.val); omega)
  refine ec.trans ?_
  show (payAt m c t (Value.ix9_0 (ix4 0 h r l : S1x8x512x128.Idx)) : EReal) = _
  rw [ei, pay_apply]
  rfl

theorem final2 : (dats m 0 c).arrAt 9 cfg0.N = res2 m c :=
  (dats m 0 c).arrAt_eq_of_cover 9 (res2 m c) (fun t _ => flushed_eq9 m c t) fun i => by
    have h0 : (i 0 : Nat) < 8 := (i 0).isLt
    have h1 : (i 1 : Nat) < 8 := (i 1).isLt
    have h2 : (i 2 : Nat) < 4096 := (i 2).isLt
    have h3 : (i 3 : Nat) < 128 := (i 3).isLt
    let t : Fin cfg0.N := ⟨8 * (i 0 : Nat) + (i 2 : Nat) / 512, by show 8 * (i 0 : Nat) + (i 2 : Nat) / 512 < 64; omega⟩
    obtain ⟨-, -, ⟨i0, i1, i2, i3⟩⟩ := out_index t
    have tv : t.val = 8 * (i 0 : Nat) + (i 2 : Nat) / 512 := rfl
    refine ⟨t, flush0_9 t, ?_⟩
    show i ∈ ((View.whole main_v30_2).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [i0]; omega
    | ⟨1, _⟩ =>
      show win0_9.index t 1 * 8 ≤ (i 1 : Nat) ∧ (i 1 : Nat) < win0_9.index t 1 * 8 + 8
      rw [i1]; omega
    | ⟨2, _⟩ =>
      show win0_9.index t 2 * 512 ≤ (i 2 : Nat) ∧ (i 2 : Nat) < win0_9.index t 2 * 512 + 512
      rw [i2]; omega
    | ⟨3, _⟩ =>
      show win0_9.index t 3 * 128 ≤ (i 3 : Nat) ∧ (i 3 : Nat) < win0_9.index t 3 * 128 + 128
      rw [i3]; omega

end Cert.Kernel7Ideal.Array

end
-- ==== Proof.RefIn7.lean ====
/-
  The reference's results at the projections before the second layer's attention, for the sampled
  streams, whose queries and keys are rotated by their positions, entry by entry.
-/
module

public import Idealize.ShloMosaic.Lib.Pointwise.Index
public import Idealize.ShloMosaic.Lib.ValueIdxRank6
public import Idealize.ShloMosaic.PureOps.Ideal.Laws
public import proofs.«01_k».proof.Proof.InSpec
public import proofs.«01_k».proof.Proof.Coords
public import proofs.«01_k».proof.Proof.Gen.Reference7Ideal.Read

@[expose] public section

set_option maxRecDepth 16384

noncomputable section

namespace Cert.Reference7Ideal.Enter

open Cert.Reference7Ideal Cert.Reference7Ideal.Gen Cert.Reference7Ideal.Read Idealize.ShloMosaic Idealize.SL.Sem Coords

variable (x0 : Vec Ideal S8x4096x1024 .f32) (x1 : Vec Ideal S2x16x6144 .f32) (x2 : Vec Ideal S2x4x1024 .f32) (x3 : Vec Ideal S1x1024x3072 .f32)
  (x4 x5 : Vec Ideal S4096x32 .f32)

/-! ## The layer's modulation and gain, and the weights -/

/-- The row of the second layer's modulation that request `b` uses. -/
abbrev mrow (b : Fin 8) : Fin 16 := ⟨1 + b.val, by omega⟩

theorem mod_apply (b : Fin 8) (k : Fin 6144) : (val_main_v2 (F := Ideal) x1) (ix3 b 0 k) = x1 (ix3 1 (mrow b) k) := by
  rw [val_main_v2_apply, val_main_v1_apply, val_main_v0_apply]
  refine congrArg x1 (ext3 ?_ ?_ ?_)
  · show 1 + 0 = 1; rfl
  · show 1 + (b.val * 6144 + k.val) / 6144 % 8 = 1 + b.val; omega
  · show (b.val * 6144 + k.val) % 6144 = k.val; omega

/-- The shift. -/
theorem shift_apply (b : Fin 8) (d : Fin 1024) : (val_main_v6 (F := Ideal) x1) (ix3 b 0 d) = x1 (ix3 1 (mrow b) (TailSpec.part 0 d)) := by
  rw [val_main_v6_apply, ← mod_apply x1]
  exact congrArg (val_main_v2 (F := Ideal) x1) (ext3 rfl rfl (by show d.val = 1024 * 0 + d.val; omega))

/-- The scale. -/
theorem scale_apply (b : Fin 8) (d : Fin 1024) : (val_main_v7 (F := Ideal) x1) (ix3 b 0 d) = x1 (ix3 1 (mrow b) (TailSpec.part 1 d)) := by
  rw [val_main_v7_apply, ← mod_apply x1]
  exact congrArg (val_main_v2 (F := Ideal) x1) (ext3 rfl rfl (by show 1024 + d.val = 1024 * 1 + d.val; omega))

theorem g_apply (j : Fin 4) (d : Fin 1024) : (val_main_v4 (F := Ideal) x2) (ix2 j d) = x2 (ix3 1 j d) := by
  rw [val_main_v4_apply, val_main_v3_apply]
  refine congrArg x2 (ext3 ?_ ?_ ?_)
  · show 1 + 0 = 1; rfl
  · show (j.val * 1024 + d.val) / 1024 % 4 = j.val; omega
  · show (j.val * 1024 + d.val) % 1024 = d.val; omega

theorem w_apply (k : Fin 1024) (j : Fin 3072) : (val_main_v5 (F := Ideal) x3) (ix2 k j) = x3 (ix3 0 k j) := by
  rw [val_main_v5_apply]
  refine congrArg x3 (ext3 rfl ?_ ?_)
  · show (k.val * 3072 + j.val) / 3072 % 1024 = k.val; omega
  · show (k.val * 3072 + j.val) % 3072 = j.val; omega

/-- The norm's gain. -/
theorem gain_apply (b : Fin 8) (n : Fin 4096) (d : Fin 1024) : (val_main_v25 (F := Ideal) x2) (ix3 b n d) = x2 (ix3 1 0 d) := by
  rw [val_main_v25_apply, val_main_v24_apply, val_main_v13_apply, val_main_v12_apply, ← g_apply x2 0 d]
  refine congrArg (val_main_v4 (F := Ideal) x2) (ext2 ?_ ?_)
  · rfl
  · show d.val % 1024 = d.val; omega

/-! ## The mixer's input and its projections -/

theorem norm_apply (b : Fin 8) (n : Fin 4096) (d : Fin 1024) :
    (val_main_v26 (F := Ideal) x0 x2) (ix3 b n d) = TailSpec.rms (fun k => x0 (ix3 b n k)) (fun k => x2 (ix3 1 0 k)) d := by
  have es : (val_main_v15 (F := Ideal) x0) (ix2 b n) = ∑ k, x0 (ix3 b n k) * x0 (ix3 b n k) := by
    rw [val_main_v15_apply, val_main_cst_apply]
    show Ideal.ofBits .f32 0x00000000#32 + _ = _
    rw [Ideal.ofBits_zero_f32, zero_add]
    refine Finset.sum_congr rfl fun k _ => ?_
    rw [show idx_main_v15 (ix2 b n) k = ix3 b n k from ext3 rfl rfl rfl, val_main_v14_apply]
    rfl
  rw [val_main_v26_apply, gain_apply, val_main_v23_apply, val_main_v22_apply, val_main_v21_apply, val_main_v20_apply, val_main_v18_apply, val_main_v16_apply,
    val_main_v17_apply, val_main_v19_apply, val_main_cst_0_apply, val_main_cst_1_apply,
    show idx_main_v16 (idx_main_v22 (ix3 b n d)) = ix2 b n from ext2 rfl rfl, es]
  rfl

/-- The arguments' rows. -/
abbrev row (b : Fin 8) (n : Fin 4096) (k : Fin 1024) : EReal := x0 (ix3 b n k)
abbrev modRow (b : Fin 8) (k : Fin 6144) : EReal := x1 (ix3 1 (mrow b) k)
abbrev gainRow (k : Fin 1024) : EReal := x2 (ix3 1 0 k)
abbrev weight (k : Fin 1024) (j : Fin 3072) : EReal := x3 (ix3 0 k j)

theorem hid_apply (b : Fin 8) (n : Fin 4096) (d : Fin 1024) :
    (val_main_v32 (F := Ideal) x0 x1 x2) (ix3 b n d) = InSpec.hid (row x0 b n) (modRow x1 b) (gainRow x2) d := by
  rw [val_main_v32_apply, val_main_v30_apply, norm_apply, val_main_v29_apply, val_main_v31_apply,
    show idx_main_v29 (ix3 b n d) = ix3 b 0 d from ext3 rfl rfl rfl, show idx_main_v31 (ix3 b n d) = ix3 b 0 d from ext3 rfl rfl rfl,
    val_main_v28_apply, val_main_v27_apply, val_main_cst_2_apply, scale_apply, shift_apply]
  rfl

/-- Column `j` of the projections. -/
abbrev proj (b : Fin 8) (n : Fin 4096) (j : Fin 3072) : EReal := InSpec.proj (row x0 b n) (modRow x1 b) (gainRow x2) (weight x3) j

theorem proj_apply (b : Fin 8) (n : Fin 4096) (j : Fin 3072) : (val_main_v33 (F := Ideal) x0 x1 x2 x3) (ix3 b n j) = proj x0 x1 x2 x3 b n j := by
  rw [val_main_v33_apply]
  unfold proj InSpec.proj TailSpec.rowMul
  refine Finset.sum_congr rfl fun k _ => ?_
  rw [show lidx_main_v33 (ix3 b n j) k = ix3 b n k from ext3 rfl rfl rfl, show ridx_main_v33 (ix3 b n j) k = ix2 k j from ext2 rfl rfl,
    hid_apply, w_apply]

/-! ## The rotation -/

theorem ext5 {n : Fin 5 → ℕ} {i j : (⟨5, n⟩ : Shape).Idx} (h0 : (i 0).val = (j 0).val) (h1 : (i 1).val = (j 1).val)
    (h2 : (i 2).val = (j 2).val) (h3 : (i 3).val = (j 3).val) (h4 : (i 4).val = (j 4).val) : i = j := by
  funext a
  apply Fin.ext
  match a with
  | ⟨0, _⟩ => exact h0
  | ⟨1, _⟩ => exact h1
  | ⟨2, _⟩ => exact h2
  | ⟨3, _⟩ => exact h3
  | ⟨4, _⟩ => exact h4

/-- The pairs' first lanes, and their second ones. -/
def firsts (y : Vec Ideal S8x4096x8x2x64 .f32) : Vec Ideal S8x4096x8x2x32 .f32 :=
  shapeCast S8x4096x8x2x32 (extractStridedSlice S8x4096x8x2x32x1 ![0, 0, 0, 0, 0, 0] (shapeCast S8x4096x8x2x32x2 y
    shapeCasts_S8x4096x8x2x64_S8x4096x8x2x32x2) slices_S8x4096x8x2x32x2_S8x4096x8x2x32x1_0_0_0_0_0_0) shapeCasts_S8x4096x8x2x32x1_S8x4096x8x2x32
def seconds (y : Vec Ideal S8x4096x8x2x64 .f32) : Vec Ideal S8x4096x8x2x32 .f32 :=
  shapeCast S8x4096x8x2x32 (extractStridedSlice S8x4096x8x2x32x1 ![0, 0, 0, 0, 0, 1] (shapeCast S8x4096x8x2x32x2 y
    shapeCasts_S8x4096x8x2x64_S8x4096x8x2x32x2) slices_S8x4096x8x2x32x2_S8x4096x8x2x32x1_0_0_0_0_0_1) shapeCasts_S8x4096x8x2x32x1_S8x4096x8x2x32

/-- An array of heads, rotated. -/
def spin (y : Vec Ideal S8x4096x8x2x64 .f32) : Vec Ideal S8x4096x8x2x64 .f32 :=
  shapeCast S8x4096x8x2x64 (concatenate S8x4096x8x2x32x2 5
    [⟨S8x4096x8x2x32x1, broadcastInDim S8x4096x8x2x32x1 ![0, 1, 2, 3, 4] bcast_S8x4096x8x2x32_S8x4096x8x2x32x1_0_1_2_3_4
        (subf (F := Ideal) (φ := .f32) (mulf (F := Ideal) (φ := .f32) (firsts y) (val_main_v45 (F := Ideal) x4))
          (mulf (F := Ideal) (φ := .f32) (seconds y) (val_main_v47 (F := Ideal) x5)))⟩,
      ⟨S8x4096x8x2x32x1, broadcastInDim S8x4096x8x2x32x1 ![0, 1, 2, 3, 4] bcast_S8x4096x8x2x32_S8x4096x8x2x32x1_0_1_2_3_4
        (addf (F := Ideal) (φ := .f32) (mulf (F := Ideal) (φ := .f32) (firsts y) (val_main_v50 (F := Ideal) x5))
          (mulf (F := Ideal) (φ := .f32) (seconds y) (val_main_v52 (F := Ideal) x4)))⟩]
    concatenates_S8x4096x8x2x32x1_S8x4096x8x2x32x1_S8x4096x8x2x32x2_d5) shapeCasts_S8x4096x8x2x32x2_S8x4096x8x2x64

theorem cos_apply (b : Fin 8) (n : Fin 4096) (h : Fin 8) (s : Fin 2) (p : Fin 32) : (val_main_v45 (F := Ideal) x4) (ix5 b n h s p) = x4 (ix2 n p) := by
  rw [val_main_v45_apply, val_main_v38_apply]
  refine congrArg x4 (ext2 ?_ ?_)
  · show ((((0 * 4096 + n.val) * 1 + 0) * 1 + 0) * 32 + p.val) / 32 = n.val; omega
  · show ((((0 * 4096 + n.val) * 1 + 0) * 1 + 0) * 32 + p.val) % 32 = p.val; omega

theorem sin_apply (b : Fin 8) (n : Fin 4096) (h : Fin 8) (s : Fin 2) (p : Fin 32) : (val_main_v47 (F := Ideal) x5) (ix5 b n h s p) = x5 (ix2 n p) := by
  rw [val_main_v47_apply, val_main_v39_apply]
  refine congrArg x5 (ext2 ?_ ?_)
  · show ((((0 * 4096 + n.val) * 1 + 0) * 1 + 0) * 32 + p.val) / 32 = n.val; omega
  · show ((((0 * 4096 + n.val) * 1 + 0) * 1 + 0) * 32 + p.val) % 32 = p.val; omega

theorem firsts_apply (y : Vec Ideal S8x4096x8x2x64 .f32) (b : Fin 8) (n : Fin 4096) (h : Fin 8) (s : Fin 2) (p : Fin 32) :
    firsts y (ix5 b n h s p) = y (ix5 b n h s ⟨2 * p.val + 0, by omega⟩) := by
  unfold firsts
  rw [shapeCast_apply _ shapeCasts_S8x4096x8x2x32x1_S8x4096x8x2x32 (ix5 b n h s p) (ix6 b n h s p 0) (by
      rw [Shape.rowMajor_val_six, Shape.rowMajor_val_five]
      show ((((b.val * 4096 + n.val) * 8 + h.val) * 2 + s.val) * 32 + p.val) * 1 + 0 = (((b.val * 4096 + n.val) * 8 + h.val) * 2 + s.val) * 32 + p.val
      omega),
    extractStridedSlice_apply ![0, 0, 0, 0, 0, 0] _ slices_S8x4096x8x2x32x2_S8x4096x8x2x32x1_0_0_0_0_0_0 (ix6 b n h s p 0) (ix6 b n h s p 0) (fun d => by
      match d with
      | ⟨0, _⟩ => show b.val = 0 + b.val; omega
      | ⟨1, _⟩ => show n.val = 0 + n.val; omega
      | ⟨2, _⟩ => show h.val = 0 + h.val; omega
      | ⟨3, _⟩ => show s.val = 0 + s.val; omega
      | ⟨4, _⟩ => show p.val = 0 + p.val; omega
      | ⟨5, _⟩ => rfl),
    shapeCast_apply _ shapeCasts_S8x4096x8x2x64_S8x4096x8x2x32x2 (ix6 b n h s p 0) (ix5 b n h s ⟨2 * p.val + 0, by omega⟩) (by
      rw [Shape.rowMajor_val_six, Shape.rowMajor_val_five]
      show (((b.val * 4096 + n.val) * 8 + h.val) * 2 + s.val) * 64 + (2 * p.val + 0) = ((((b.val * 4096 + n.val) * 8 + h.val) * 2 + s.val) * 32 + p.val) * 2 + 0
      omega)]

theorem seconds_apply (y : Vec Ideal S8x4096x8x2x64 .f32) (b : Fin 8) (n : Fin 4096) (h : Fin 8) (s : Fin 2) (p : Fin 32) :
    seconds y (ix5 b n h s p) = y (ix5 b n h s ⟨2 * p.val + 1, by omega⟩) := by
  unfold seconds
  rw [shapeCast_apply _ shapeCasts_S8x4096x8x2x32x1_S8x4096x8x2x32 (ix5 b n h s p) (ix6 b n h s p 0) (by
      rw [Shape.rowMajor_val_six, Shape.rowMajor_val_five]
      show ((((b.val * 4096 + n.val) * 8 + h.val) * 2 + s.val) * 32 + p.val) * 1 + 0 = (((b.val * 4096 + n.val) * 8 + h.val) * 2 + s.val) * 32 + p.val
      omega),
    extractStridedSlice_apply ![0, 0, 0, 0, 0, 1] _ slices_S8x4096x8x2x32x2_S8x4096x8x2x32x1_0_0_0_0_0_1 (ix6 b n h s p 0) (ix6 b n h s p 1) (fun d => by
      match d with
      | ⟨0, _⟩ => show b.val = 0 + b.val; omega
      | ⟨1, _⟩ => show n.val = 0 + n.val; omega
      | ⟨2, _⟩ => show h.val = 0 + h.val; omega
      | ⟨3, _⟩ => show s.val = 0 + s.val; omega
      | ⟨4, _⟩ => show p.val = 0 + p.val; omega
      | ⟨5, _⟩ => rfl),
    shapeCast_apply _ shapeCasts_S8x4096x8x2x64_S8x4096x8x2x32x2 (ix6 b n h s p 1) (ix5 b n h s ⟨2 * p.val + 1, by omega⟩) (by
      rw [Shape.rowMajor_val_six, Shape.rowMajor_val_five]
      show (((b.val * 4096 + n.val) * 8 + h.val) * 2 + s.val) * 64 + (2 * p.val + 1) = ((((b.val * 4096 + n.val) * 8 + h.val) * 2 + s.val) * 32 + p.val) * 2 + 1
      omega)]

/-- A pair's place in the array of pairs' lanes. -/
theorem last_apply (y : Vec Ideal S8x4096x8x2x32 .f32) (b : Fin 8) (n : Fin 4096) (h : Fin 8) (s : Fin 2) (p : Fin 32) :
    broadcastInDim S8x4096x8x2x32x1 ![0, 1, 2, 3, 4] bcast_S8x4096x8x2x32_S8x4096x8x2x32x1_0_1_2_3_4 y (ix6 b n h s p 0) = y (ix5 b n h s p) :=
  broadcastInDim_apply ![0, 1, 2, 3, 4] bcast_S8x4096x8x2x32_S8x4096x8x2x32x1_0_1_2_3_4 y (ix6 b n h s p 0) (ix5 b n h s p) fun d => by
    match d with
    | ⟨0, _⟩ => rfl
    | ⟨1, _⟩ => rfl
    | ⟨2, _⟩ => rfl
    | ⟨3, _⟩ => rfl
    | ⟨4, _⟩ => rfl

/-- The rotated array at lane `l` of head `h`, when the array holds the head's lanes `v`. -/
theorem spin_apply (y : Vec Ideal S8x4096x8x2x64 .f32) (b : Fin 8) (n : Fin 4096) (h : Fin 8) (v : Fin 128 → EReal)
    (hv : ∀ (s : Fin 2) (q : Fin 64), y (ix5 b n h s q) = v ⟨64 * s.val + q.val, by omega⟩) (l : Fin 128) :
    spin x4 x5 y (ix5 b n h ⟨l.val / 64, by omega⟩ ⟨l.val % 64, by omega⟩) = InSpec.rot (fun p => x4 (ix2 n p)) (fun p => x5 (ix2 n p)) v l := by
  have ef : firsts y (ix5 b n h ⟨l.val / 64, by omega⟩ (InSpec.pair l)) = v ⟨64 * (l.val / 64) + (2 * (l.val % 64 / 2) + 0), by omega⟩ := by
    rw [firsts_apply, hv]
  have es : seconds y (ix5 b n h ⟨l.val / 64, by omega⟩ (InSpec.pair l)) = v ⟨64 * (l.val / 64) + (2 * (l.val % 64 / 2) + 1), by omega⟩ := by
    rw [seconds_apply, hv]
  unfold spin
  rw [shapeCast_apply _ shapeCasts_S8x4096x8x2x32x2_S8x4096x8x2x64 (ix5 b n h ⟨l.val / 64, by omega⟩ ⟨l.val % 64, by omega⟩)
    (ix6 b n h ⟨l.val / 64, by omega⟩ (InSpec.pair l) ⟨l.val % 2, by omega⟩) (by
      rw [Shape.rowMajor_val_six, Shape.rowMajor_val_five]
      show ((((b.val * 4096 + n.val) * 8 + h.val) * 2 + l.val / 64) * 32 + l.val % 64 / 2) * 2 + l.val % 2
        = (((b.val * 4096 + n.val) * 8 + h.val) * 2 + l.val / 64) * 64 + l.val % 64
      omega)]
  unfold InSpec.rot
  by_cases hl : l.val % 2 = 0
  · rw [if_pos hl]
    refine (concatenate_pair_apply_left 5 _ _ concatenates_S8x4096x8x2x32x1_S8x4096x8x2x32x1_S8x4096x8x2x32x2_d5
      (ix6 b n h ⟨l.val / 64, by omega⟩ (InSpec.pair l) ⟨l.val % 2, by omega⟩) rfl (ix6 b n h ⟨l.val / 64, by omega⟩ (InSpec.pair l) 0) (fun d => by
        match d with
        | ⟨0, _⟩ => rfl
        | ⟨1, _⟩ => rfl
        | ⟨2, _⟩ => rfl
        | ⟨3, _⟩ => rfl
        | ⟨4, _⟩ => rfl
        | ⟨5, _⟩ => show 0 = l.val % 2; omega)).trans ?_
    rw [last_apply]
    show firsts y _ * (val_main_v45 (F := Ideal) x4) _ - seconds y _ * (val_main_v47 (F := Ideal) x5) _ = _
    rw [ef, es, cos_apply, sin_apply]
    refine congrArg₂ (· - ·) (congrArg (v · * _) (Fin.ext ?_)) (congrArg (v · * _) (Fin.ext ?_))
    · show 64 * (l.val / 64) + (2 * (l.val % 64 / 2) + 0) = l.val; omega
    · show 64 * (l.val / 64) + (2 * (l.val % 64 / 2) + 1) = if l.val % 2 = 0 then l.val + 1 else l.val - 1; rw [if_pos hl]; omega
  · rw [if_neg hl]
    refine (concatenate_pair_apply_right 5 _ _ concatenates_S8x4096x8x2x32x1_S8x4096x8x2x32x1_S8x4096x8x2x32x2_d5
      (ix6 b n h ⟨l.val / 64, by omega⟩ (InSpec.pair l) ⟨l.val % 2, by omega⟩) rfl rfl (ix6 b n h ⟨l.val / 64, by omega⟩ (InSpec.pair l) 0) (fun d hd => by
        match d with
        | ⟨0, _⟩ => rfl
        | ⟨1, _⟩ => rfl
        | ⟨2, _⟩ => rfl
        | ⟨3, _⟩ => rfl
        | ⟨4, _⟩ => rfl
        | ⟨5, _⟩ => exact absurd rfl hd) (by show 0 + 1 = l.val % 2; omega)).trans ?_
    rw [last_apply]
    show firsts y _ * (val_main_v47 (F := Ideal) x5) _ + seconds y _ * (val_main_v45 (F := Ideal) x4) _ = _
    rw [ef, es, cos_apply, sin_apply]
    refine congrArg₂ (· + ·) (congrArg (v · * _) (Fin.ext ?_)) (congrArg (v · * _) (Fin.ext ?_))
    · show 64 * (l.val / 64) + (2 * (l.val % 64 / 2) + 0) = if l.val % 2 = 0 then l.val + 1 else l.val - 1; rw [if_neg hl]; omega
    · show 64 * (l.val / 64) + (2 * (l.val % 64 / 2) + 1) = l.val; omega

/-! ## The results -/

/-- The queries' lanes, head by head. -/
theorem queries_apply (b : Fin 8) (n : Fin 4096) (h : Fin 8) (s : Fin 2) (q : Fin 64) : (val_main_v37 (F := Ideal) x0 x1 x2 x3) (ix5 b n h s q)
    = proj x0 x1 x2 x3 b n (InSpec.col 0 (InSpec.lane h ⟨64 * s.val + q.val, by omega⟩)) := by
  have e : idx_main_v37 (ix5 b n h s q) = ix3 b n (InSpec.lane h ⟨64 * s.val + q.val, by omega⟩) := ext3
    (by show ((((b.val * 4096 + n.val) * 8 + h.val) * 2 + s.val) * 64 + q.val) / 4194304 = b.val; omega)
    (by show ((((b.val * 4096 + n.val) * 8 + h.val) * 2 + s.val) * 64 + q.val) / 1024 % 4096 = n.val; omega)
    (by show ((((b.val * 4096 + n.val) * 8 + h.val) * 2 + s.val) * 64 + q.val) % 1024 = 128 * h.val + (64 * s.val + q.val); omega)
  rw [val_main_v37_apply, e, val_main_v34_apply, ← proj_apply]
  exact congrArg (val_main_v33 (F := Ideal) x0 x1 x2 x3) (ext3 rfl rfl (by
    show (128 * h.val + (64 * s.val + q.val)) = 1024 * 0 + (128 * h.val + (64 * s.val + q.val)); omega))

theorem queries_rot (b : Fin 8) (n : Fin 4096) (h : Fin 8) (l : Fin 128) :
    (val_main_v58 (F := Ideal) x0 x1 x2 x3 x4 x5) (ix5 b n h ⟨l.val / 64, by omega⟩ ⟨l.val % 64, by omega⟩)
      = InSpec.rot (fun p => x4 (ix2 n p)) (fun p => x5 (ix2 n p)) (fun l => proj x0 x1 x2 x3 b n (InSpec.col 0 (InSpec.lane h l))) l :=
  spin_apply x4 x5 (val_main_v37 (F := Ideal) x0 x1 x2 x3) b n h _ (fun s q => queries_apply x0 x1 x2 x3 b n h s q) l

/-- The keys' lanes, head by head. -/
theorem keys_apply (b : Fin 8) (n : Fin 4096) (h : Fin 8) (s : Fin 2) (q : Fin 64) : (val_main_v61 (F := Ideal) x0 x1 x2 x3) (ix5 b n h s q)
    = proj x0 x1 x2 x3 b n (InSpec.col 1 (InSpec.lane h ⟨64 * s.val + q.val, by omega⟩)) := by
  have e : idx_main_v61 (ix5 b n h s q) = ix3 b n (InSpec.lane h ⟨64 * s.val + q.val, by omega⟩) := ext3
    (by show ((((b.val * 4096 + n.val) * 8 + h.val) * 2 + s.val) * 64 + q.val) / 4194304 = b.val; omega)
    (by show ((((b.val * 4096 + n.val) * 8 + h.val) * 2 + s.val) * 64 + q.val) / 1024 % 4096 = n.val; omega)
    (by show ((((b.val * 4096 + n.val) * 8 + h.val) * 2 + s.val) * 64 + q.val) % 1024 = 128 * h.val + (64 * s.val + q.val); omega)
  rw [val_main_v61_apply, e, val_main_v35_apply, ← proj_apply]
  exact congrArg (val_main_v33 (F := Ideal) x0 x1 x2 x3) (ext3 rfl rfl (by
    show 1024 + (128 * h.val + (64 * s.val + q.val)) = 1024 * 1 + (128 * h.val + (64 * s.val + q.val)); omega))

theorem keys_rot (b : Fin 8) (n : Fin 4096) (h : Fin 8) (l : Fin 128) :
    (val_main_v82 (F := Ideal) x0 x1 x2 x3 x4 x5) (ix5 b n h ⟨l.val / 64, by omega⟩ ⟨l.val % 64, by omega⟩)
      = InSpec.rot (fun p => x4 (ix2 n p)) (fun p => x5 (ix2 n p)) (fun l => proj x0 x1 x2 x3 b n (InSpec.col 1 (InSpec.lane h l))) l :=
  spin_apply x4 x5 (val_main_v61 (F := Ideal) x0 x1 x2 x3) b n h _ (fun s q => keys_apply x0 x1 x2 x3 b n h s q) l

/-- The queries, scaled, head by head. -/
theorem heads0 (b : Fin 8) (h : Fin 8) (n : Fin 4096) (l : Fin 128) : (val_main_v85 (F := Ideal) x0 x1 x2 x3 x4 x5) (ix4 b h n l)
    = InSpec.rot (fun p => x4 (ix2 n p)) (fun p => x5 (ix2 n p)) (fun l => proj x0 x1 x2 x3 b n (InSpec.col 0 (InSpec.lane h l))) l * InSpec.qScale := by
  have e : idx_main_v83 (idx_main_v84 (ix4 b h n l)) = ix5 b n h ⟨l.val / 64, by omega⟩ ⟨l.val % 64, by omega⟩ := ext5
    (by show (((b.val * 4096 + n.val) * 8 + h.val) * 128 + l.val) / 4194304 = b.val; omega)
    (by show (((b.val * 4096 + n.val) * 8 + h.val) * 128 + l.val) / 1024 % 4096 = n.val; omega)
    (by show (((b.val * 4096 + n.val) * 8 + h.val) * 128 + l.val) / 128 % 8 = h.val; omega)
    (by show (((b.val * 4096 + n.val) * 8 + h.val) * 128 + l.val) / 64 % 2 = l.val / 64; omega)
    (by show (((b.val * 4096 + n.val) * 8 + h.val) * 128 + l.val) % 64 = l.val % 64; omega)
  rw [val_main_v85_apply, val_main_v84_apply, val_main_v83_apply, e, val_main_v60_apply, queries_rot, val_main_v59_apply, val_main_cst_3_apply]
  rfl

/-- The keys, head by head. -/
theorem heads1 (b : Fin 8) (h : Fin 8) (n : Fin 4096) (l : Fin 128) : (val_main_v88 (F := Ideal) x0 x1 x2 x3 x4 x5) (ix4 b h n l)
    = InSpec.rot (fun p => x4 (ix2 n p)) (fun p => x5 (ix2 n p)) (fun l => proj x0 x1 x2 x3 b n (InSpec.col 1 (InSpec.lane h l))) l := by
  have e : idx_main_v86 (idx_main_v87 (ix4 b h n l)) = ix5 b n h ⟨l.val / 64, by omega⟩ ⟨l.val % 64, by omega⟩ := ext5
    (by show (((b.val * 4096 + n.val) * 8 + h.val) * 128 + l.val) / 4194304 = b.val; omega)
    (by show (((b.val * 4096 + n.val) * 8 + h.val) * 128 + l.val) / 1024 % 4096 = n.val; omega)
    (by show (((b.val * 4096 + n.val) * 8 + h.val) * 128 + l.val) / 128 % 8 = h.val; omega)
    (by show (((b.val * 4096 + n.val) * 8 + h.val) * 128 + l.val) / 64 % 2 = l.val / 64; omega)
    (by show (((b.val * 4096 + n.val) * 8 + h.val) * 128 + l.val) % 64 = l.val % 64; omega)
  rw [val_main_v88_apply, val_main_v87_apply, val_main_v86_apply, e, keys_rot]
  rfl

/-- The values, head by head. -/
theorem heads2 (b : Fin 8) (h : Fin 8) (n : Fin 4096) (l : Fin 128) : (val_main_v91 (F := Ideal) x0 x1 x2 x3) (ix4 b h n l)
    = proj x0 x1 x2 x3 b n (InSpec.col 2 (InSpec.lane h l)) := by
  have e : idx_main_v89 (idx_main_v90 (ix4 b h n l)) = ix3 b n (InSpec.lane h l) := ext3
    (by show (((b.val * 4096 + n.val) * 8 + h.val) * 128 + l.val) / 4194304 = b.val; omega)
    (by show (((b.val * 4096 + n.val) * 8 + h.val) * 128 + l.val) / 1024 % 4096 = n.val; omega)
    (by show (((b.val * 4096 + n.val) * 8 + h.val) * 128 + l.val) % 1024 = 128 * h.val + l.val; omega)
  rw [val_main_v91_apply, val_main_v90_apply, val_main_v89_apply, e, val_main_v36_apply,
    show idx_main_v36 (ix3 b n (InSpec.lane h l)) = ix3 b n (InSpec.col 2 (InSpec.lane h l)) from
      ext3 rfl rfl (by show 2048 + (128 * h.val + l.val) = 1024 * 2 + (128 * h.val + l.val); omega), proj_apply]
  rfl

end Cert.Reference7Ideal.Enter

end
-- ==== Proof.InClaims7.lean ====
/-
  The claims about the projections before the second layer's attention, for the sampled streams: its frames, and
  that the kernel's three results are the reference's.
-/
module

public import proofs.«01_k».proof.Defs
public import proofs.«01_k».proof.Proof.Array7
public import proofs.«01_k».proof.Proof.RefIn7
public import proofs.«01_k».proof.Proof.Gen.Kernel7.Frame
public import proofs.«01_k».proof.Proof.Gen.Kernel7Ideal.Frame

@[expose] public section

set_option maxRecDepth 16384

noncomputable section

namespace Cert.InClaims7

open Idealize.ShloMosaic Idealize.SL.Sem Coords

/-- The kernel's frame, on machine words. -/
theorem frame_kernel : Cert.quiescent_Kernel7 := fun m ρ _ => Cert.Kernel7.Gen.frame m ρ

/-- The kernel's frame, on extended reals. -/
theorem frame_kernelIdeal : Cert.quiescent_Kernel7Ideal := fun m ρ _ => Cert.Kernel7Ideal.Gen.frame m ρ

/-- The reference's frame: it keeps its arguments and declares no semaphore. -/
theorem frame_referenceIdeal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- **The kernel's results are the reference's**, for all arguments. -/
theorem algebraic : Cert.algebraic_Kernel7Ideal_Reference7Ideal := by
  intro m g m' g' _ hagree
  refine ⟨fun c => Cert.Kernel7Ideal.Array.res0 m c, fun c => Cert.Kernel7Ideal.Array.res1 m c, fun c => Cert.Kernel7Ideal.Array.res2 m c, ?_, ?_⟩
  · exact (θ_run Cert.Kernel7Ideal.defs _ _).mono (fun r h c => by
      obtain ⟨h0, h1, h2, hk⟩ := h c
      exact ⟨h0.trans (Cert.Kernel7Ideal.Array.final0 m c), h1.trans (Cert.Kernel7Ideal.Array.final1 m c),
        h2.trans (Cert.Kernel7Ideal.Array.final2 m c), hk⟩)
      (Cert.Kernel7Ideal.Value.run_blocks (F := Ideal) m g)
  · refine (θ_run Cert.Reference7Ideal.defs _ _).mono (fun r h c => by
      obtain ⟨h0, h1, h2, hk⟩ := h c
      obtain ⟨e0, e1, e2, e3, e4, e5⟩ := hagree c
      refine ⟨h0.trans ?_, h1.trans ?_, h2.trans ?_, hk⟩
      · rw [Cert.Reference7Ideal.Read.val_main_v85_eq, e0, e1, e2, e3, e4, e5]
        refine funext fun i => ?_
        obtain ⟨b, d, n, l, rfl⟩ : ∃ (b : Fin 8) (d : Fin 8) (n : Fin 4096) (l : Fin 128), i = ix4 b d n l := ⟨i 0, i 1, i 2, i 3, ext4 rfl rfl rfl rfl⟩
        exact Cert.Reference7Ideal.Enter.heads0 _ _ _ _ _ _ b d n l
      · rw [Cert.Reference7Ideal.Read.val_main_v88_eq, e0, e1, e2, e3, e4, e5]
        refine funext fun i => ?_
        obtain ⟨b, d, n, l, rfl⟩ : ∃ (b : Fin 8) (d : Fin 8) (n : Fin 4096) (l : Fin 128), i = ix4 b d n l := ⟨i 0, i 1, i 2, i 3, ext4 rfl rfl rfl rfl⟩
        exact Cert.Reference7Ideal.Enter.heads1 _ _ _ _ _ _ b d n l
      · rw [Cert.Reference7Ideal.Read.val_main_v91_eq, e0, e1, e2, e3]
        refine funext fun i => ?_
        obtain ⟨b, d, n, l, rfl⟩ : ∃ (b : Fin 8) (d : Fin 8) (n : Fin 4096) (l : Fin 128), i = ix4 b d n l := ⟨i 0, i 1, i 2, i 3, ext4 rfl rfl rfl rfl⟩
        exact Cert.Reference7Ideal.Enter.heads2 _ _ _ _ b d n l)
      (Cert.Reference7Ideal.Value.run (F := Ideal) m' g')

end Cert.InClaims7

end
-- ==== Proof.AbSpec.lean ====
/-
  What one row before the first layer's latent attention and recurrence is: the row normed, modulated and times the
  projections' columns, the latents normed and taken up to the heads; and the same from the weights as the kernel lays
  them out, with columns of zeros behind the lanes a head has.
-/
module

public import proofs.«01_k».proof.Proof.InSpec

@[expose] public section

noncomputable section

namespace AbSpec

open Idealize.ShloMosaic TailSpec

/-- Lane `d` of a row over the root of its mean square, times the gain; `cnt` is the number of lanes. -/
def rmsn {n : ℕ} (cnt : EReal) (o g : Fin n → EReal) (d : Fin n) : EReal :=
  o d * Ideal.rsqrt (Ideal.div (∑ c, o c * o c) cnt + Ideal.ofBits .f32 0x358637BD#32) * g d

/-- The latents' widths, 384 and 256. -/
abbrev c384 : EReal := Ideal.ofBits .f32 0x43C00000#32
abbrev c256 : EReal := Ideal.ofBits .f32 0x43800000#32

/-- The word of the queries' factor, log₂ e over the square root of 96, and of the recurrence's, one over the root of 128. -/
abbrev qScale : EReal := Ideal.ofBits .f32 0x3E16C740#32
abbrev dScale : EReal := Ideal.ofBits .f32 0x3DB504F3#32

variable (h : Fin 1024 → EReal)

/-! ## From the weights as they are given -/

section Given

variable (w : Fin 1024 → Fin 2752 → EReal)

/-- The queries' latent, normed. -/
def qlat (gq : Fin 384 → EReal) : Fin 384 → EReal := rmsn c384 (fun c => rowMul h w ⟨c.val, by omega⟩) gq

/-- The keys' and values' latent, normed. -/
def kvlat (gkv : Fin 256 → EReal) : Fin 256 → EReal := rmsn c256 (fun c => rowMul h w ⟨384 + c.val, by omega⟩) gkv

/-- The positional key all heads share. -/
def krope (l : Fin 32) : EReal := rowMul h w ⟨640 + l.val, by omega⟩

/-- Lane `l` of query head `d`, of 96 lanes with zeros behind. -/
def query (gq : Fin 384 → EReal) (wq : Fin 384 → Fin 768 → EReal) (d : Fin 8) (l : Fin 128) : EReal :=
  if hl : l.val < 96 then rowMul (qlat h w gq) wq ⟨96 * d.val + l.val, by omega⟩ * qScale else 0

/-- Lane `l` of key head `d`: 64 lanes of its own, the 32 shared ones, zeros. -/
def key (gkv : Fin 256 → EReal) (wkv : Fin 256 → Fin 1024 → EReal) (d : Fin 8) (l : Fin 128) : EReal :=
  if l.val < 64 then rowMul (kvlat h w gkv) wkv ⟨128 * d.val + l.val, by omega⟩
  else if hl : l.val < 96 then krope h w ⟨l.val - 64, by omega⟩ else 0

/-- Column `j` of the values, eight heads of 64 lanes one behind another. -/
def value (gkv : Fin 256 → EReal) (wkv : Fin 256 → Fin 1024 → EReal) (j : Fin 512) : EReal :=
  rowMul (kvlat h w gkv) wkv ⟨128 * (j.val / 64) + 64 + j.val % 64, by omega⟩

/-- The positional key, the recurrence's gate and zeros. -/
def misc (l : Fin 128) : EReal :=
  if hl : l.val < 32 then krope h w ⟨l.val, hl⟩
  else if hl : l.val < 64 then rowMul h w ⟨2208 + (l.val - 32), by omega⟩ else 0

/-- Column `j` of the recurrence's queries, keys, values and output gate. -/
def gq (j : Fin 512) : EReal := rowMul h w ⟨672 + j.val, by omega⟩ * dScale
def gk (j : Fin 512) : EReal := rowMul h w ⟨1184 + j.val, by omega⟩
def gv (j : Fin 512) : EReal := rowMul h w ⟨1696 + j.val, by omega⟩
def gout (j : Fin 512) : EReal := rowMul h w ⟨2240 + j.val, by omega⟩

end Given

/-! ## The weights as the kernel lays them out -/

/-- The projections' columns: the queries' latent, the positional key, the gate, 64 columns of zeros, the keys' and values'
    latent, and the recurrence's four. -/
def winPad (w : Fin 1024 → Fin 2752 → EReal) (k : Fin 1024) (j : Fin 2816) : EReal :=
  if h0 : j.val < 384 then w k ⟨j.val, by omega⟩
  else if h1 : j.val < 416 then w k ⟨640 + (j.val - 384), by omega⟩
  else if h2 : j.val < 448 then w k ⟨2208 + (j.val - 416), by omega⟩
  else if h3 : j.val < 512 then 0
  else if h4 : j.val < 768 then w k ⟨384 + (j.val - 512), by omega⟩
  else if h5 : j.val < 1280 then w k ⟨672 + (j.val - 768), by omega⟩
  else if h6 : j.val < 1792 then w k ⟨1184 + (j.val - 1280), by omega⟩
  else if h7 : j.val < 2304 then w k ⟨1696 + (j.val - 1792), by omega⟩
  else w k ⟨2240 + (j.val - 2304), by omega⟩

/-- The queries' heads: 96 columns each, and 32 of zeros. -/
def wqPad (wq : Fin 384 → Fin 768 → EReal) (k : Fin 384) (j : Fin 1024) : EReal :=
  if hl : j.val % 128 < 96 then wq k ⟨96 * (j.val / 128) + j.val % 128, by omega⟩ else 0

/-- The keys' heads: 64 columns each, and 64 of zeros. -/
def wkPad (wkv : Fin 256 → Fin 1024 → EReal) (k : Fin 256) (j : Fin 1024) : EReal :=
  if j.val % 128 < 64 then wkv k j else 0

/-- The values' heads, 64 columns each. -/
def wvPad (wkv : Fin 256 → Fin 1024 → EReal) (k : Fin 256) (j : Fin 512) : EReal :=
  wkv k ⟨128 * (j.val / 64) + 64 + j.val % 64, by omega⟩

/-- The latents of a row, from the columns as they are laid out. -/
def qlatP (p : Fin 1024 → Fin 2816 → EReal) (g : Fin 384 → EReal) : Fin 384 → EReal :=
  rmsn c384 (fun c => rowMul h p ⟨c.val, by omega⟩) g

def kvlatP (p : Fin 1024 → Fin 2816 → EReal) (g : Fin 256 → EReal) : Fin 256 → EReal :=
  rmsn c256 (fun c => rowMul h p ⟨512 + c.val, by omega⟩) g

/-- A row times a column of zeros is zero. -/
theorem rowMul_zero {K N : ℕ} (v : Fin K → EReal) (p : Fin K → Fin N → EReal) (j : Fin N) (hp : ∀ k, p k j = 0) : rowMul v p j = 0 := by
  unfold rowMul
  exact Finset.sum_eq_zero fun k _ => by rw [hp, mul_zero]

/-- A row times a column is the same when the column is. -/
theorem rowMul_column {K N M : ℕ} (v : Fin K → EReal) (p : Fin K → Fin N → EReal) (w : Fin K → Fin M → EReal) (j : Fin N) (i : Fin M)
    (hp : ∀ k, p k j = w k i) : rowMul v p j = rowMul v w i := by
  unfold rowMul
  exact Finset.sum_congr rfl fun k _ => by rw [hp]

variable (w : Fin 1024 → Fin 2752 → EReal)

theorem qlat_eq (g : Fin 384 → EReal) : qlatP h (winPad w) g = qlat h w g := by
  unfold qlatP qlat
  refine congrArg (rmsn c384 · g) (funext fun c => rowMul_column _ _ _ _ _ fun k => ?_)
  exact dif_pos c.isLt

theorem kvlat_eq (g : Fin 256 → EReal) : kvlatP h (winPad w) g = kvlat h w g := by
  unfold kvlatP kvlat
  refine congrArg (rmsn c256 · g) (funext fun c => rowMul_column _ _ _ _ _ fun k => ?_)
  unfold winPad
  dsimp only
  rw [dif_neg (by omega), dif_neg (by omega), dif_neg (by omega), dif_neg (by omega), dif_pos (by omega)]
  exact congrArg (w k) (Fin.ext (by show 384 + (512 + c.val - 512) = 384 + c.val; omega))

/-- The columns of the positional key, the gate and the zeros. -/
theorem misc_eq (l : Fin 128) : rowMul h (winPad w) ⟨384 + l.val, by omega⟩ = misc h w l := by
  unfold misc
  by_cases h0 : l.val < 32
  · rw [dif_pos h0]
    refine rowMul_column _ _ _ _ _ fun k => ?_
    unfold winPad
    dsimp only
    rw [dif_neg (by omega), dif_pos (by omega)]
    exact congrArg (w k) (Fin.ext (by show 640 + (384 + l.val - 384) = 640 + l.val; omega))
  · rw [dif_neg h0]
    by_cases h1 : l.val < 64
    · rw [dif_pos h1]
      refine rowMul_column _ _ _ _ _ fun k => ?_
      unfold winPad
      dsimp only
      rw [dif_neg (by omega), dif_neg (by omega), dif_pos (by omega)]
      exact congrArg (w k) (Fin.ext (by show 2208 + (384 + l.val - 416) = 2208 + (l.val - 32); omega))
    · rw [dif_neg h1]
      refine rowMul_zero _ _ _ fun k => ?_
      unfold winPad
      dsimp only
      rw [dif_neg (by omega), dif_neg (by omega), dif_neg (by omega), dif_pos (by omega)]

theorem gq_eq (j : Fin 512) : rowMul h (winPad w) ⟨768 + j.val, by omega⟩ * dScale = gq h w j := by
  refine congrArg (· * dScale) (rowMul_column _ _ _ _ _ fun k => ?_)
  unfold winPad
  dsimp only
  rw [dif_neg (by omega), dif_neg (by omega), dif_neg (by omega), dif_neg (by omega), dif_neg (by omega), dif_pos (by omega)]
  exact congrArg (w k) (Fin.ext (by show 672 + (768 + j.val - 768) = 672 + j.val; omega))

theorem gk_eq (j : Fin 512) : rowMul h (winPad w) ⟨1280 + j.val, by omega⟩ = gk h w j := by
  refine rowMul_column _ _ _ _ _ fun k => ?_
  unfold winPad
  dsimp only
  rw [dif_neg (by omega), dif_neg (by omega), dif_neg (by omega), dif_neg (by omega), dif_neg (by omega), dif_neg (by omega), dif_pos (by omega)]
  exact congrArg (w k) (Fin.ext (by show 1184 + (1280 + j.val - 1280) = 1184 + j.val; omega))

theorem gv_eq (j : Fin 512) : rowMul h (winPad w) ⟨1792 + j.val, by omega⟩ = gv h w j := by
  refine rowMul_column _ _ _ _ _ fun k => ?_
  unfold winPad
  dsimp only
  rw [dif_neg (by omega), dif_neg (by omega), dif_neg (by omega), dif_neg (by omega), dif_neg (by omega), dif_neg (by omega), dif_neg (by omega),
    dif_pos (by omega)]
  exact congrArg (w k) (Fin.ext (by show 1696 + (1792 + j.val - 1792) = 1696 + j.val; omega))

theorem gout_eq (j : Fin 512) : rowMul h (winPad w) ⟨2304 + j.val, by omega⟩ = gout h w j := by
  refine rowMul_column _ _ _ _ _ fun k => ?_
  unfold winPad
  dsimp only
  rw [dif_neg (by omega), dif_neg (by omega), dif_neg (by omega), dif_neg (by omega), dif_neg (by omega), dif_neg (by omega), dif_neg (by omega),
    dif_neg (by omega)]
  exact congrArg (w k) (Fin.ext (by show 2240 + (2304 + j.val - 2304) = 2240 + j.val; omega))

/-- A head of the queries: behind its 96 lanes the product with zeros is zero. -/
theorem query_eq (g : Fin 384 → EReal) (wq : Fin 384 → Fin 768 → EReal) (d : Fin 8) (l : Fin 128) :
    rowMul (qlatP h (winPad w) g) (wqPad wq) ⟨128 * d.val + l.val, by omega⟩ * qScale = query h w g wq d l := by
  have e1 : (128 * d.val + l.val) % 128 = l.val := by omega
  have e2 : (128 * d.val + l.val) / 128 = d.val := by omega
  rw [qlat_eq]
  unfold query
  by_cases hl : l.val < 96
  · rw [dif_pos hl]
    refine congrArg (· * qScale) (rowMul_column _ _ _ _ _ fun k => ?_)
    unfold wqPad
    dsimp only
    rw [dif_pos (by omega)]
    exact congrArg (wq k) (Fin.ext (by show 96 * ((128 * d.val + l.val) / 128) + (128 * d.val + l.val) % 128 = _; rw [e1, e2]))
  · rw [dif_neg hl, rowMul_zero, zero_mul]
    intro k
    unfold wqPad
    dsimp only
    rw [dif_neg (by omega)]

/-- A head of the keys: the shared lanes stand where its own columns are zeros. -/
theorem key_eq (g : Fin 256 → EReal) (wkv : Fin 256 → Fin 1024 → EReal) (d : Fin 8) (l : Fin 128) :
    (if 64 ≤ l.val ∧ l.val < 96 then rowMul h (winPad w) ⟨384 + (l.val + 64) % 128, by omega⟩
      else rowMul (kvlatP h (winPad w) g) (wkPad wkv) ⟨128 * d.val + l.val, by omega⟩) = key h w g wkv d l := by
  have e1 : (128 * d.val + l.val) % 128 = l.val := by omega
  rw [kvlat_eq]
  unfold key
  by_cases h0 : l.val < 64
  · rw [if_pos h0, if_neg (by omega)]
    refine rowMul_column _ _ _ _ _ fun k => ?_
    unfold wkPad
    dsimp only
    rw [if_pos (by omega)]
  · rw [if_neg h0]
    by_cases h1 : l.val < 96
    · rw [dif_pos h1, if_pos ⟨by omega, h1⟩]
      refine (misc_eq h w ⟨(l.val + 64) % 128, by omega⟩).trans ?_
      unfold misc
      rw [dif_pos (by show (l.val + 64) % 128 < 32; omega)]
      exact congrArg (krope h w) (Fin.ext (by show (l.val + 64) % 128 = l.val - 64; omega))
    · rw [dif_neg h1, if_neg (by omega)]
      refine rowMul_zero _ _ _ fun k => ?_
      unfold wkPad
      dsimp only
      rw [if_neg (by omega)]

theorem value_eq (g : Fin 256 → EReal) (wkv : Fin 256 → Fin 1024 → EReal) (j : Fin 512) :
    rowMul (kvlatP h (winPad w) g) (wvPad wkv) j = value h w g wkv j := by
  rw [kvlat_eq]
  rfl

end AbSpec

end
-- ==== Proof.HostIn8.lean ====
/-
  What the host operations before the first layer's projections leave for the prompts: the rows of the stream, the
  modulation and the gains, and the weights in the order and with the columns of zeros the kernel reads.
-/
module

public import proofs.«01_k».proof.Proof.Coords
public import proofs.«01_k».proof.Proof.InBlock
public import proofs.«01_k».proof.Proof.AbSpec
public import Idealize.ShloMosaic.Lib.KernelVsHost
public import proofs.«01_k».proof.Proof.Gen.Kernel8Ideal.Value

@[expose] public section

set_option maxRecDepth 16384

noncomputable section

namespace Cert.Kernel8Ideal.Array

open Cert.Kernel8Ideal Cert.Kernel8Ideal.Gen Idealize.ShloMosaic Idealize.ShloMosaic.TcCoe Idealize.SL.Sem Facts Coords

variable (m : (ℓ : Loc nD τ sig) → Buf (Elt Ideal) ℓ) (c : Dev nD)

/-! ## The arguments as functions of their coordinates -/

abbrev X (b : Fin 16) (n : Fin 256) (k : Fin 1024) : EReal := m ((c : Thread nD τ).loc main_arg0) (ix3 b n k)
abbrev Md (l : Fin 2) (r : Fin 16) (k : Fin 6144) : EReal := m ((c : Thread nD τ).loc main_arg1) (ix3 l r k)
abbrev G (l : Fin 2) (j : Fin 4) (k : Fin 1024) : EReal := m ((c : Thread nD τ).loc main_arg2) (ix3 l j k)
abbrev W (k : Fin 1024) (j : Fin 2752) : EReal := m ((c : Thread nD τ).loc main_arg3) (ix3 0 k j)
abbrev GQ (k : Fin 384) : EReal := m ((c : Thread nD τ).loc main_arg4) (ix2 0 k)
abbrev GKV (k : Fin 256) : EReal := m ((c : Thread nD τ).loc main_arg5) (ix2 0 k)
abbrev WQ (k : Fin 384) (j : Fin 768) : EReal := m ((c : Thread nD τ).loc main_arg6) (ix3 0 k j)
abbrev WKV (k : Fin 256) (j : Fin 1024) : EReal := m ((c : Thread nD τ).loc main_arg7) (ix3 0 k j)

/-- The request of a row of all requests' rows, and its place in it. -/
abbrev req (R : Fin 4096) : Fin 16 := ⟨R.val / 256, by omega⟩
abbrev tok (R : Fin 4096) : Fin 256 := ⟨R.val % 256, Nat.mod_lt _ (by norm_num)⟩

/-! ## The stream, the modulation and the gains -/

theorem host_x (R : Fin 4096) (k : Fin 1024) : (V m c main_v32 : Vec Ideal S4096x1024 .f32) (ix2 R k) = X m c (req R) (tok R) k := by
  have e : (V m c main_v32 : Vec Ideal S4096x1024 .f32)
      = shapeCast S4096x1024 (m ((c : Thread nD τ).loc main_arg0)) shapeCasts_S16x256x1024_S4096x1024 := by
    unfold_abbrev_sides
    simp only [hostOps0, hostOps0_1, hostOps0_2, hostOps0_3, hostOps0_4, List.flatten_cons, List.flatten_nil, List.append_nil, List.cons_append, List.nil_append]
    after_results
    rfl
  rw [e, shapeCast_apply _ _ (ix2 R k) (ix3 (req R) (tok R) k) (by
    rw [Shape.rowMajor_val_three, Shape.rowMajor_val_two]
    show (R.val / 256 * 256 + R.val % 256) * 1024 + k.val = R.val * 1024 + k.val
    omega)]

theorem host_mod (l : Fin 2) (r : Fin 16) (k : Fin 6144) :
    (V m c main_v33 : Vec Ideal S32x1x6144 .f32) (ix3 ⟨16 * l.val + r.val, by omega⟩ 0 k) = Md m c l r k := by
  have e : (V m c main_v33 : Vec Ideal S32x1x6144 .f32)
      = shapeCast S32x1x6144 (m ((c : Thread nD τ).loc main_arg1)) shapeCasts_S2x16x6144_S32x1x6144 := by
    unfold_abbrev_sides
    simp only [hostOps0, hostOps0_1, hostOps0_2, hostOps0_3, hostOps0_4, List.flatten_cons, List.flatten_nil, List.append_nil, List.cons_append, List.nil_append]
    after_results
    rfl
  rw [e, shapeCast_apply _ _ (ix3 ⟨16 * l.val + r.val, by omega⟩ 0 k) (ix3 l r k) (by
    rw [Shape.rowMajor_val_three, Shape.rowMajor_val_three]
    show (l.val * 16 + r.val) * 6144 + k.val = ((16 * l.val + r.val) * 1 + 0) * 6144 + k.val
    omega)]

theorem host_g (k : Fin 1024) : (V m c main_v34 : Vec Ideal S1x1024 .f32) (ix2 0 k) = G m c 0 0 k := by
  have e : (V m c main_v34 : Vec Ideal S1x1024 .f32) = extractStridedSlice S1x1024 ![0, 0] (shapeCast S4x1024 (extractStridedSlice S1x4x1024 ![0, 0, 0]
      (m ((c : Thread nD τ).loc main_arg2)) slices_S2x4x1024_S1x4x1024_0_0_0) shapeCasts_S1x4x1024_S4x1024) slices_S4x1024_S1x1024_0_0 := by
    unfold_abbrev_sides
    simp only [hostOps0, hostOps0_1, hostOps0_2, hostOps0_3, hostOps0_4, List.flatten_cons, List.flatten_nil, List.append_nil, List.cons_append, List.nil_append]
    after_results
    rfl
  rw [e, extractStridedSlice_apply ![0, 0] _ _ (ix2 0 k) (ix2 0 k) (fun a => by
    match a with
    | ⟨0, _⟩ => rfl
    | ⟨1, _⟩ => show k.val = 0 + k.val; omega), shapeCast_apply _ _ (ix2 0 k) (ix3 0 0 k) (by
    rw [Shape.rowMajor_val_three, Shape.rowMajor_val_two]
    show (0 * 4 + 0) * 1024 + k.val = 0 * 1024 + k.val
    omega)]
  refine congrArg (m ((c : Thread nD τ).loc main_arg2)) (ext3 rfl rfl ?_)
  show 0 + k.val = k.val; omega

theorem host_gq (k : Fin 384) : (V m c main_v28 : Vec Ideal S1x384 .f32) (ix2 0 k) = GQ m c k := by
  have e : (V m c main_v28 : Vec Ideal S1x384 .f32) = broadcastInDim S1x384 ![1] bcast_S384_S1x384_1
      (shapeCast S384 (m ((c : Thread nD τ).loc main_arg4)) shapeCasts_S1x384_S384) := by
    unfold_abbrev_sides
    simp only [hostOps0, hostOps0_1, hostOps0_2, hostOps0_3, hostOps0_4, List.flatten_cons, List.flatten_nil, List.append_nil, List.cons_append, List.nil_append]
    after_results
    rfl
  rw [e, broadcastInDim_apply ![1] bcast_S384_S1x384_1 _ (ix2 0 k) (ix1 k) (fun d => by match d with | ⟨0, _⟩ => rfl),
    shapeCast_apply _ _ (ix1 k) (ix2 0 k) (by
      rw [Shape.rowMajor_val_two, Shape.rowMajor_val_one]
      show 0 * 384 + k.val = k.val
      omega)]

theorem host_gkv (k : Fin 256) : (V m c main_v29 : Vec Ideal S1x256 .f32) (ix2 0 k) = GKV m c k := by
  have e : (V m c main_v29 : Vec Ideal S1x256 .f32) = broadcastInDim S1x256 ![1] bcast_S256_S1x256_1
      (shapeCast S256 (m ((c : Thread nD τ).loc main_arg5)) shapeCasts_S1x256_S256) := by
    unfold_abbrev_sides
    simp only [hostOps0, hostOps0_1, hostOps0_2, hostOps0_3, hostOps0_4, List.flatten_cons, List.flatten_nil, List.append_nil, List.cons_append, List.nil_append]
    after_results
    rfl
  rw [e, broadcastInDim_apply ![1] bcast_S256_S1x256_1 _ (ix2 0 k) (ix1 k) (fun d => by match d with | ⟨0, _⟩ => rfl),
    shapeCast_apply _ _ (ix1 k) (ix2 0 k) (by
      rw [Shape.rowMajor_val_two, Shape.rowMajor_val_one]
      show 0 * 256 + k.val = k.val
      omega)]

/-! ## The projections' columns -/

/-- Columns of zeros. -/
abbrev zeros : Vec Ideal S1024x64 .f32 := broadcastInDim S1024x64 ![] bcast_S_S1024x64 (constant (F := Ideal) S_ .f32 0x00000000#32)

theorem zeros_apply (i : S1024x64.Idx) : zeros i = 0 := by
  show broadcastInDim S1024x64 ![] bcast_S_S1024x64 (constant (F := Ideal) S_ .f32 0x00000000#32) i = 0
  pointwise

/-- The slices of the weights and the zeros. -/
abbrev pieces (w : Vec Ideal S1024x2752 .f32) : List ((s : Shape) × (s.Idx → EReal)) :=
  [⟨S1024x384, extractStridedSlice S1024x384 ![0, 0] w slices_S1024x2752_S1024x384_0_0⟩, ⟨S1024x32, extractStridedSlice S1024x32 ![0, 640] w slices_S1024x2752_S1024x32_0_640⟩, ⟨S1024x32, extractStridedSlice S1024x32 ![0, 2208] w slices_S1024x2752_S1024x32_0_2208⟩, ⟨S1024x64, zeros⟩, ⟨S1024x256, extractStridedSlice S1024x256 ![0, 384] w slices_S1024x2752_S1024x256_0_384⟩, ⟨S1024x512, extractStridedSlice S1024x512 ![0, 672] w slices_S1024x2752_S1024x512_0_672⟩, ⟨S1024x512, extractStridedSlice S1024x512 ![0, 1184] w slices_S1024x2752_S1024x512_0_1184⟩, ⟨S1024x512, extractStridedSlice S1024x512 ![0, 1696] w slices_S1024x2752_S1024x512_0_1696⟩, ⟨S1024x512, extractStridedSlice S1024x512 ![0, 2240] w slices_S1024x2752_S1024x512_0_2240⟩]

/-- They lie side by side in the array of columns. -/
abbrev columns (w : Vec Ideal S1024x2752 .f32) : Vec Ideal S1024x2816 .f32 := concatenate S1024x2816 1 (pieces w)
  concatenates_S1024x384_S1024x32_S1024x32_S1024x64_S1024x256_S1024x512_S1024x512_S1024x512_S1024x512_S1024x2816_d1

theorem columns_apply (w : Vec Ideal S1024x2752 .f32) (k : Fin 1024) (j : Fin 2816) :
    columns w (ix2 k j) = AbSpec.winPad (fun k j => w (ix2 k j)) k j := by
  unfold AbSpec.winPad columns
  by_cases h0 : j.val < 384
  · rw [dif_pos h0]
    refine (concatenate_apply_piece 1 (pieces w) concatenates_S1024x384_S1024x32_S1024x32_S1024x64_S1024x256_S1024x512_S1024x512_S1024x512_S1024x512_S1024x2816_d1 (ix2 k j) 0 (by show 0 < 9; decide) S1024x384 (extractStridedSlice S1024x384 ![0, 0] w slices_S1024x2752_S1024x384_0_0) rfl rfl 0 rfl (ix2 k ⟨j.val - 0, by omega⟩) (fun b hb => by
      match b with
      | ⟨0, _⟩ => rfl
      | ⟨1, _⟩ => exact absurd rfl hb) (by show 0 + (j.val - 0) = j.val; omega)).trans ?_
    exact extractStridedSlice_apply ![0, 0] w slices_S1024x2752_S1024x384_0_0 (ix2 k ⟨j.val - 0, by omega⟩) (ix2 k ⟨j.val, by omega⟩) fun a => by
      match a with
      | ⟨0, _⟩ => show k.val = 0 + k.val; omega
      | ⟨1, _⟩ => show j.val = 0 + (j.val - 0); omega
  rw [dif_neg h0]
  by_cases h1 : j.val < 416
  · rw [dif_pos h1]
    refine (concatenate_apply_piece 1 (pieces w) concatenates_S1024x384_S1024x32_S1024x32_S1024x64_S1024x256_S1024x512_S1024x512_S1024x512_S1024x512_S1024x2816_d1 (ix2 k j) 1 (by show 1 < 9; decide) S1024x32 (extractStridedSlice S1024x32 ![0, 640] w slices_S1024x2752_S1024x32_0_640) rfl rfl 384 rfl (ix2 k ⟨j.val - 384, by omega⟩) (fun b hb => by
      match b with
      | ⟨0, _⟩ => rfl
      | ⟨1, _⟩ => exact absurd rfl hb) (by show 384 + (j.val - 384) = j.val; omega)).trans ?_
    exact extractStridedSlice_apply ![0, 640] w slices_S1024x2752_S1024x32_0_640 (ix2 k ⟨j.val - 384, by omega⟩) (ix2 k ⟨640 + (j.val - 384), by omega⟩) fun a => by
      match a with
      | ⟨0, _⟩ => show k.val = 0 + k.val; omega
      | ⟨1, _⟩ => rfl
  rw [dif_neg h1]
  by_cases h2 : j.val < 448
  · rw [dif_pos h2]
    refine (concatenate_apply_piece 1 (pieces w) concatenates_S1024x384_S1024x32_S1024x32_S1024x64_S1024x256_S1024x512_S1024x512_S1024x512_S1024x512_S1024x2816_d1 (ix2 k j) 2 (by show 2 < 9; decide) S1024x32 (extractStridedSlice S1024x32 ![0, 2208] w slices_S1024x2752_S1024x32_0_2208) rfl rfl 416 rfl (ix2 k ⟨j.val - 416, by omega⟩) (fun b hb => by
      match b with
      | ⟨0, _⟩ => rfl
      | ⟨1, _⟩ => exact absurd rfl hb) (by show 416 + (j.val - 416) = j.val; omega)).trans ?_
    exact extractStridedSlice_apply ![0, 2208] w slices_S1024x2752_S1024x32_0_2208 (ix2 k ⟨j.val - 416, by omega⟩) (ix2 k ⟨2208 + (j.val - 416), by omega⟩) fun a => by
      match a with
      | ⟨0, _⟩ => show k.val = 0 + k.val; omega
      | ⟨1, _⟩ => rfl
  rw [dif_neg h2]
  by_cases h3 : j.val < 512
  · rw [dif_pos h3]
    refine (concatenate_apply_piece 1 (pieces w) concatenates_S1024x384_S1024x32_S1024x32_S1024x64_S1024x256_S1024x512_S1024x512_S1024x512_S1024x512_S1024x2816_d1 (ix2 k j) 3 (by show 3 < 9; decide) S1024x64 (zeros) rfl rfl 448 rfl (ix2 k ⟨j.val - 448, by omega⟩) (fun b hb => by
      match b with
      | ⟨0, _⟩ => rfl
      | ⟨1, _⟩ => exact absurd rfl hb) (by show 448 + (j.val - 448) = j.val; omega)).trans ?_
    exact zeros_apply _
  rw [dif_neg h3]
  by_cases h4 : j.val < 768
  · rw [dif_pos h4]
    refine (concatenate_apply_piece 1 (pieces w) concatenates_S1024x384_S1024x32_S1024x32_S1024x64_S1024x256_S1024x512_S1024x512_S1024x512_S1024x512_S1024x2816_d1 (ix2 k j) 4 (by show 4 < 9; decide) S1024x256 (extractStridedSlice S1024x256 ![0, 384] w slices_S1024x2752_S1024x256_0_384) rfl rfl 512 rfl (ix2 k ⟨j.val - 512, by omega⟩) (fun b hb => by
      match b with
      | ⟨0, _⟩ => rfl
      | ⟨1, _⟩ => exact absurd rfl hb) (by show 512 + (j.val - 512) = j.val; omega)).trans ?_
    exact extractStridedSlice_apply ![0, 384] w slices_S1024x2752_S1024x256_0_384 (ix2 k ⟨j.val - 512, by omega⟩) (ix2 k ⟨384 + (j.val - 512), by omega⟩) fun a => by
      match a with
      | ⟨0, _⟩ => show k.val = 0 + k.val; omega
      | ⟨1, _⟩ => rfl
  rw [dif_neg h4]
  by_cases h5 : j.val < 1280
  · rw [dif_pos h5]
    refine (concatenate_apply_piece 1 (pieces w) concatenates_S1024x384_S1024x32_S1024x32_S1024x64_S1024x256_S1024x512_S1024x512_S1024x512_S1024x512_S1024x2816_d1 (ix2 k j) 5 (by show 5 < 9; decide) S1024x512 (extractStridedSlice S1024x512 ![0, 672] w slices_S1024x2752_S1024x512_0_672) rfl rfl 768 rfl (ix2 k ⟨j.val - 768, by omega⟩) (fun b hb => by
      match b with
      | ⟨0, _⟩ => rfl
      | ⟨1, _⟩ => exact absurd rfl hb) (by show 768 + (j.val - 768) = j.val; omega)).trans ?_
    exact extractStridedSlice_apply ![0, 672] w slices_S1024x2752_S1024x512_0_672 (ix2 k ⟨j.val - 768, by omega⟩) (ix2 k ⟨672 + (j.val - 768), by omega⟩) fun a => by
      match a with
      | ⟨0, _⟩ => show k.val = 0 + k.val; omega
      | ⟨1, _⟩ => rfl
  rw [dif_neg h5]
  by_cases h6 : j.val < 1792
  · rw [dif_pos h6]
    refine (concatenate_apply_piece 1 (pieces w) concatenates_S1024x384_S1024x32_S1024x32_S1024x64_S1024x256_S1024x512_S1024x512_S1024x512_S1024x512_S1024x2816_d1 (ix2 k j) 6 (by show 6 < 9; decide) S1024x512 (extractStridedSlice S1024x512 ![0, 1184] w slices_S1024x2752_S1024x512_0_1184) rfl rfl 1280 rfl (ix2 k ⟨j.val - 1280, by omega⟩) (fun b hb => by
      match b with
      | ⟨0, _⟩ => rfl
      | ⟨1, _⟩ => exact absurd rfl hb) (by show 1280 + (j.val - 1280) = j.val; omega)).trans ?_
    exact extractStridedSlice_apply ![0, 1184] w slices_S1024x2752_S1024x512_0_1184 (ix2 k ⟨j.val - 1280, by omega⟩) (ix2 k ⟨1184 + (j.val - 1280), by omega⟩) fun a => by
      match a with
      | ⟨0, _⟩ => show k.val = 0 + k.val; omega
      | ⟨1, _⟩ => rfl
  rw [dif_neg h6]
  by_cases h7 : j.val < 2304
  · rw [dif_pos h7]
    refine (concatenate_apply_piece 1 (pieces w) concatenates_S1024x384_S1024x32_S1024x32_S1024x64_S1024x256_S1024x512_S1024x512_S1024x512_S1024x512_S1024x2816_d1 (ix2 k j) 7 (by show 7 < 9; decide) S1024x512 (extractStridedSlice S1024x512 ![0, 1696] w slices_S1024x2752_S1024x512_0_1696) rfl rfl 1792 rfl (ix2 k ⟨j.val - 1792, by omega⟩) (fun b hb => by
      match b with
      | ⟨0, _⟩ => rfl
      | ⟨1, _⟩ => exact absurd rfl hb) (by show 1792 + (j.val - 1792) = j.val; omega)).trans ?_
    exact extractStridedSlice_apply ![0, 1696] w slices_S1024x2752_S1024x512_0_1696 (ix2 k ⟨j.val - 1792, by omega⟩) (ix2 k ⟨1696 + (j.val - 1792), by omega⟩) fun a => by
      match a with
      | ⟨0, _⟩ => show k.val = 0 + k.val; omega
      | ⟨1, _⟩ => rfl
  rw [dif_neg h7]
  · refine (concatenate_apply_piece 1 (pieces w) concatenates_S1024x384_S1024x32_S1024x32_S1024x64_S1024x256_S1024x512_S1024x512_S1024x512_S1024x512_S1024x2816_d1 (ix2 k j) 8 (by show 8 < 9; decide) S1024x512 (extractStridedSlice S1024x512 ![0, 2240] w slices_S1024x2752_S1024x512_0_2240) rfl rfl 2304 rfl (ix2 k ⟨j.val - 2304, by omega⟩) (fun b hb => by
      match b with
      | ⟨0, _⟩ => rfl
      | ⟨1, _⟩ => exact absurd rfl hb) (by show 2304 + (j.val - 2304) = j.val; omega)).trans ?_
    exact extractStridedSlice_apply ![0, 2240] w slices_S1024x2752_S1024x512_0_2240 (ix2 k ⟨j.val - 2304, by omega⟩) (ix2 k ⟨2240 + (j.val - 2304), by omega⟩) fun a => by
      match a with
      | ⟨0, _⟩ => show k.val = 0 + k.val; omega
      | ⟨1, _⟩ => rfl

/-- The columns, rounded. -/
def winArr (x : Vec Ideal S1x1024x2752 .f32) : Vec Ideal S1024x2816 .bf16 :=
  truncf (F := Ideal) .bf16 (columns (shapeCast S1024x2752 x shapeCasts_S1x1024x2752_S1024x2752)) bitsLt_bf16_f32

theorem winArr_apply (x : Vec Ideal S1x1024x2752 .f32) (k : Fin 1024) (j : Fin 2816) :
    winArr x (ix2 k j) = AbSpec.winPad (fun k j => x (ix3 0 k j)) k j := by
  refine (columns_apply _ k j).trans ?_
  refine congrArg (AbSpec.winPad · k j) (funext fun k => funext fun j => ?_)
  exact shapeCast_apply _ _ (ix2 k j) (ix3 0 k j) (by
    rw [Shape.rowMajor_val_three, Shape.rowMajor_val_two]
    show (0 * 1024 + k.val) * 2752 + j.val = k.val * 2752 + j.val
    omega)

theorem host_win (k : Fin 1024) (j : Fin 2816) : (V m c main_v15 : Vec Ideal S1024x2816 .bf16) (ix2 k j) = AbSpec.winPad (W m c) k j := by
  have e : (V m c main_v15 : Vec Ideal S1024x2816 .bf16) = winArr (m ((c : Thread nD τ).loc main_arg3)) := by
    unfold_abbrev_sides
    simp only [hostOps0, hostOps0_1, hostOps0_2, hostOps0_3, hostOps0_4, List.flatten_cons, List.flatten_nil, List.append_nil, List.cons_append, List.nil_append]
    after_results
    rfl
  rw [e]
  exact winArr_apply _ k j

/-! ## The heads' columns -/

/-- The padding value, the integer zero as a float. -/
abbrev padding : Vec Ideal S_ .f32 := sitofp (F := Ideal) .f32 (constantI S_ 32 0#32)

theorem padding_apply (i : S_.Idx) : padding i = 0 := sitofp_zero (φ := .f32)

/-- The queries' weights with columns of zeros behind each head's 96. -/
def wqArr (x : Vec Ideal S1x384x768 .f32) : Vec Ideal S384x1024 .bf16 :=
  truncf (F := Ideal) .bf16 (shapeCast S384x1024 (pad S384x8x128 ![0, 0, 0] ![0, 0, 32] ![0, 0, 0]
      (shapeCast S384x8x96 (shapeCast S384x768 x shapeCasts_S1x384x768_S384x768) shapeCasts_S384x768_S384x8x96)
      padding pads_S384x8x96_S384x8x128_000_000_0320 h_S_) shapeCasts_S384x8x128_S384x1024) bitsLt_bf16_f32

theorem wqArr_apply (x : Vec Ideal S1x384x768 .f32) (k : Fin 384) (j : Fin 1024) :
    wqArr x (ix2 k j) = AbSpec.wqPad (fun k j => x (ix3 0 k j)) k j := by
  show shapeCast S384x1024 (pad S384x8x128 ![0, 0, 0] ![0, 0, 32] ![0, 0, 0]
      (shapeCast S384x8x96 (shapeCast S384x768 x shapeCasts_S1x384x768_S384x768) shapeCasts_S384x768_S384x8x96)
      padding pads_S384x8x96_S384x8x128_000_000_0320 h_S_) shapeCasts_S384x8x128_S384x1024 (ix2 k j) = _
  refine (shapeCast_apply _ shapeCasts_S384x8x128_S384x1024 (ix2 k j) (ix3 k ⟨j.val / 128, by omega⟩ ⟨j.val % 128, by omega⟩) (by
    rw [Shape.rowMajor_val_three, Shape.rowMajor_val_two]
    show (k.val * 8 + j.val / 128) * 128 + j.val % 128 = k.val * 1024 + j.val
    omega)).trans ?_
  unfold AbSpec.wqPad
  by_cases hl : j.val % 128 < 96
  · rw [dif_pos hl]
    refine (pad_apply_of_inside _ _ _ _ _ _ h_S_ _ (ix3 k ⟨j.val / 128, by omega⟩ ⟨j.val % 128, hl⟩) fun a => ?_).trans ?_
    · match a with
      | ⟨0, _⟩ => show k.val = 0 + k.val * (0 + 1); omega
      | ⟨1, _⟩ => show j.val / 128 = 0 + j.val / 128 * (0 + 1); omega
      | ⟨2, _⟩ => show j.val % 128 = 0 + j.val % 128 * (0 + 1); omega
    · refine (shapeCast_apply _ shapeCasts_S384x768_S384x8x96 (ix3 k ⟨j.val / 128, by omega⟩ ⟨j.val % 128, hl⟩)
        (ix2 k ⟨96 * (j.val / 128) + j.val % 128, by omega⟩) (by
        rw [Shape.rowMajor_val_three, Shape.rowMajor_val_two]
        show k.val * 768 + (96 * (j.val / 128) + j.val % 128) = (k.val * 8 + j.val / 128) * 96 + j.val % 128
        omega)).trans ?_
      exact shapeCast_apply _ _ (ix2 k ⟨96 * (j.val / 128) + j.val % 128, by omega⟩) (ix3 0 k ⟨96 * (j.val / 128) + j.val % 128, by omega⟩) (by
        rw [Shape.rowMajor_val_three, Shape.rowMajor_val_two]
        show (0 * 384 + k.val) * 768 + (96 * (j.val / 128) + j.val % 128) = k.val * 768 + (96 * (j.val / 128) + j.val % 128)
        omega)
  · rw [dif_neg hl]
    refine (pad_apply_of_not_inside _ _ _ _ _ _ h_S_ _ 2 fun h => ?_).trans (padding_apply _)
    have h2 : (j.val % 128 - 0) / (0 + 1) < 96 := h.2.2
    omega

theorem host_wq (k : Fin 384) (j : Fin 1024) : (V m c main_v19 : Vec Ideal S384x1024 .bf16) (ix2 k j) = AbSpec.wqPad (WQ m c) k j := by
  have e : (V m c main_v19 : Vec Ideal S384x1024 .bf16) = wqArr (m ((c : Thread nD τ).loc main_arg6)) := by
    unfold_abbrev_sides
    simp only [hostOps0, hostOps0_1, hostOps0_2, hostOps0_3, hostOps0_4, List.flatten_cons, List.flatten_nil, List.append_nil, List.cons_append, List.nil_append]
    after_results
    rfl
  rw [e]
  exact wqArr_apply _ k j

/-- The weights of the keys' and values' heads, head by head. -/
theorem heads_apply (x : Vec Ideal S1x256x1024 .f32) (k : Fin 256) (d : Fin 8) (l : Fin 128) :
    shapeCast S256x8x128 (shapeCast S256x1024 x shapeCasts_S1x256x1024_S256x1024) shapeCasts_S256x1024_S256x8x128 (ix3 k d l)
      = x (ix3 0 k ⟨128 * d.val + l.val, by omega⟩) := by
  refine (shapeCast_apply _ shapeCasts_S256x1024_S256x8x128 (ix3 k d l) (ix2 k ⟨128 * d.val + l.val, by omega⟩) (by
    rw [Shape.rowMajor_val_three, Shape.rowMajor_val_two]
    show k.val * 1024 + (128 * d.val + l.val) = (k.val * 8 + d.val) * 128 + l.val
    omega)).trans ?_
  exact shapeCast_apply _ _ (ix2 k ⟨128 * d.val + l.val, by omega⟩) (ix3 0 k ⟨128 * d.val + l.val, by omega⟩) (by
    rw [Shape.rowMajor_val_three, Shape.rowMajor_val_two]
    show (0 * 256 + k.val) * 1024 + (128 * d.val + l.val) = k.val * 1024 + (128 * d.val + l.val)
    omega)

/-- The keys' weights, the columns of the values set to zero. -/
def wkArr (x : Vec Ideal S1x256x1024 .f32) : Vec Ideal S256x1024 .bf16 :=
  truncf (F := Ideal) .bf16 (shapeCast S256x1024 (pad S256x8x128 ![0, 0, 0] ![0, 0, 64] ![0, 0, 0]
      (extractStridedSlice S256x8x64 ![0, 0, 0] (shapeCast S256x8x128 (shapeCast S256x1024 x shapeCasts_S1x256x1024_S256x1024)
        shapeCasts_S256x1024_S256x8x128) slices_S256x8x128_S256x8x64_0_0_0)
      padding pads_S256x8x64_S256x8x128_000_000_0640 h_S_) shapeCasts_S256x8x128_S256x1024) bitsLt_bf16_f32

theorem wkArr_apply (x : Vec Ideal S1x256x1024 .f32) (k : Fin 256) (j : Fin 1024) :
    wkArr x (ix2 k j) = AbSpec.wkPad (fun k j => x (ix3 0 k j)) k j := by
  show shapeCast S256x1024 (pad S256x8x128 ![0, 0, 0] ![0, 0, 64] ![0, 0, 0]
      (extractStridedSlice S256x8x64 ![0, 0, 0] (shapeCast S256x8x128 (shapeCast S256x1024 x shapeCasts_S1x256x1024_S256x1024)
        shapeCasts_S256x1024_S256x8x128) slices_S256x8x128_S256x8x64_0_0_0)
      padding pads_S256x8x64_S256x8x128_000_000_0640 h_S_) shapeCasts_S256x8x128_S256x1024 (ix2 k j) = _
  refine (shapeCast_apply _ shapeCasts_S256x8x128_S256x1024 (ix2 k j) (ix3 k ⟨j.val / 128, by omega⟩ ⟨j.val % 128, by omega⟩) (by
    rw [Shape.rowMajor_val_three, Shape.rowMajor_val_two]
    show (k.val * 8 + j.val / 128) * 128 + j.val % 128 = k.val * 1024 + j.val
    omega)).trans ?_
  unfold AbSpec.wkPad
  by_cases hl : j.val % 128 < 64
  · rw [if_pos hl]
    refine (pad_apply_of_inside _ _ _ _ _ _ h_S_ _ (ix3 k ⟨j.val / 128, by omega⟩ ⟨j.val % 128, hl⟩) fun a => ?_).trans ?_
    · match a with
      | ⟨0, _⟩ => show k.val = 0 + k.val * (0 + 1); omega
      | ⟨1, _⟩ => show j.val / 128 = 0 + j.val / 128 * (0 + 1); omega
      | ⟨2, _⟩ => show j.val % 128 = 0 + j.val % 128 * (0 + 1); omega
    · refine (extractStridedSlice_apply ![0, 0, 0] _ slices_S256x8x128_S256x8x64_0_0_0 (ix3 k ⟨j.val / 128, by omega⟩ ⟨j.val % 128, hl⟩)
        (ix3 k ⟨j.val / 128, by omega⟩ ⟨j.val % 128, by omega⟩) fun a => ?_).trans ?_
      · match a with
        | ⟨0, _⟩ => show k.val = 0 + k.val; omega
        | ⟨1, _⟩ => show j.val / 128 = 0 + j.val / 128; omega
        | ⟨2, _⟩ => show j.val % 128 = 0 + j.val % 128; omega
      · refine (heads_apply x k ⟨j.val / 128, by omega⟩ ⟨j.val % 128, by omega⟩).trans ?_
        exact congrArg (fun j => x (ix3 0 k j)) (Fin.ext (by show 128 * (j.val / 128) + j.val % 128 = j.val; omega))
  · rw [if_neg hl]
    refine (pad_apply_of_not_inside _ _ _ _ _ _ h_S_ _ 2 fun h => ?_).trans (padding_apply _)
    have h2 : (j.val % 128 - 0) / (0 + 1) < 64 := h.2.2
    omega

theorem host_wk (k : Fin 256) (j : Fin 1024) : (V m c main_v24 : Vec Ideal S256x1024 .bf16) (ix2 k j) = AbSpec.wkPad (WKV m c) k j := by
  have e : (V m c main_v24 : Vec Ideal S256x1024 .bf16) = wkArr (m ((c : Thread nD τ).loc main_arg7)) := by
    unfold_abbrev_sides
    simp only [hostOps0, hostOps0_1, hostOps0_2, hostOps0_3, hostOps0_4, List.flatten_cons, List.flatten_nil, List.append_nil, List.cons_append, List.nil_append]
    after_results
    rfl
  rw [e]
  exact wkArr_apply _ k j

/-- The values' weights. -/
def wvArr (x : Vec Ideal S1x256x1024 .f32) : Vec Ideal S256x512 .bf16 :=
  truncf (F := Ideal) .bf16 (shapeCast S256x512
      (extractStridedSlice S256x8x64 ![0, 0, 64] (shapeCast S256x8x128 (shapeCast S256x1024 x shapeCasts_S1x256x1024_S256x1024)
        shapeCasts_S256x1024_S256x8x128) slices_S256x8x128_S256x8x64_0_0_64) shapeCasts_S256x8x64_S256x512) bitsLt_bf16_f32

theorem wvArr_apply (x : Vec Ideal S1x256x1024 .f32) (k : Fin 256) (j : Fin 512) :
    wvArr x (ix2 k j) = AbSpec.wvPad (fun k j => x (ix3 0 k j)) k j := by
  show shapeCast S256x512
      (extractStridedSlice S256x8x64 ![0, 0, 64] (shapeCast S256x8x128 (shapeCast S256x1024 x shapeCasts_S1x256x1024_S256x1024)
        shapeCasts_S256x1024_S256x8x128) slices_S256x8x128_S256x8x64_0_0_64) shapeCasts_S256x8x64_S256x512 (ix2 k j) = _
  refine (shapeCast_apply _ shapeCasts_S256x8x64_S256x512 (ix2 k j) (ix3 k ⟨j.val / 64, by omega⟩ ⟨j.val % 64, by omega⟩) (by
    rw [Shape.rowMajor_val_three, Shape.rowMajor_val_two]
    show (k.val * 8 + j.val / 64) * 64 + j.val % 64 = k.val * 512 + j.val
    omega)).trans ?_
  refine (extractStridedSlice_apply ![0, 0, 64] _ slices_S256x8x128_S256x8x64_0_0_64 (ix3 k ⟨j.val / 64, by omega⟩ ⟨j.val % 64, by omega⟩)
    (ix3 k ⟨j.val / 64, by omega⟩ ⟨64 + j.val % 64, by omega⟩) fun a => ?_).trans ?_
  · match a with
    | ⟨0, _⟩ => show k.val = 0 + k.val; omega
    | ⟨1, _⟩ => show j.val / 64 = 0 + j.val / 64; omega
    | ⟨2, _⟩ => rfl
  · refine (heads_apply x k ⟨j.val / 64, by omega⟩ ⟨64 + j.val % 64, by omega⟩).trans ?_
    exact congrArg (fun j => x (ix3 0 k j)) (Fin.ext (by show 128 * (j.val / 64) + (64 + j.val % 64) = 128 * (j.val / 64) + 64 + j.val % 64; omega))

theorem host_wv (k : Fin 256) (j : Fin 512) : (V m c main_v27 : Vec Ideal S256x512 .bf16) (ix2 k j) = AbSpec.wvPad (WKV m c) k j := by
  have e : (V m c main_v27 : Vec Ideal S256x512 .bf16) = wvArr (m ((c : Thread nD τ).loc main_arg7)) := by
    unfold_abbrev_sides
    simp only [hostOps0, hostOps0_1, hostOps0_2, hostOps0_3, hostOps0_4, List.flatten_cons, List.flatten_nil, List.append_nil, List.cons_append, List.nil_append]
    after_results
    rfl
  rw [e]
  exact wvArr_apply _ k j

end Cert.Kernel8Ideal.Array

end
-- ==== Proof.AbBlock.lean ====
/-
  The operations of the first layer's projections on a block of rows, at an entry: a product with a slab of the weights,
  the norm of a latent, and the stores of a head of the queries, the keys and the values.
-/
module

public import proofs.«01_k».proof.Proof.Flash
public import proofs.«01_k».proof.Proof.Coords
public import proofs.«01_k».proof.Proof.AbSpec

@[expose] public section

set_option maxRecDepth 16384

noncomputable section

namespace AbBlock

open Idealize.ShloMosaic Flash Coords

variable {R K N n : ℕ}

/-- A product of a block of rows with a slab of weights. -/
theorem lin_apply (hs : (Mat K N).ShapeCasts (Mat K N)) (a : FVec Ideal (Mat R K) .bf16) (w : Vec Ideal (Mat K N) .bf16) (r : Fin R) (j : Fin N) :
    matmul (DotDims.plain R K N) none a (shapeCast (Mat K N) w hs : FVec Ideal (Mat K N) .bf16) (constant (Mat R N) .f32 0x00000000#32) (ix2 r j)
      = TailSpec.rowMul (fun k => a (ix2 r k)) (fun k j => w (ix2 k j)) j := by
  have e := Ideal.matmul_plain_apply none a (shapeCast (Mat K N) w hs : FVec Ideal (Mat K N) .bf16) (constant (Mat R N) .f32 0x00000000#32) r j
  simp only [← ix2_eq_valueIdx] at e
  refine e.trans ?_
  rw [show constant (F := Ideal) (Mat R N) .f32 0x00000000#32 (ix2 r j) = 0 from by pointwise, zero_add]
  unfold TailSpec.rowMul
  refine Finset.sum_congr rfl fun k _ => ?_
  rw [shapeCast_apply _ hs (ix2 k j) (ix2 k j) rfl]

/-- The row-wise root-mean-square norm of `n` lanes with its gain. -/
def norm {F : FTy → Type} [FloatOps F] (cnt : BitVec 32) (hred : (Mat R n).Reduces [1] ⟨1, ![R]⟩) (hcol : (⟨1, ![R]⟩ : Shape).ShapeCasts (Mat R 1))
    (hbc : (Mat R 1).Broadcasts (Mat R n)) (hbr : (Mat 1 n).Broadcasts (Mat R n)) (o : FVec F (Mat R n) .f32) (g : FVec F (Mat 1 n) .f32) :
    FVec F (Mat R n) .f32 :=
  mulf (mulf o (broadcastTo (Mat R n) (rsqrt (addf (divf
    (shapeCast (Mat R 1) (multiReduction .add [1] ⟨1, ![R]⟩ (mulf o o) 0x00000000#32 hred (.inl rfl) rfl) hcol)
    (broadcast (Mat R 1) (Scalar.ofBits .f32 cnt : F .f32)))
    (broadcast (Mat R 1) (Scalar.ofBits .f32 0x358637BD#32 : F .f32)))) hbc))
    (broadcastTo (Mat R n) g hbr)

/-- The norm at an entry. -/
theorem norm_apply (cnt : BitVec 32) (hred : (Mat R n).Reduces [1] ⟨1, ![R]⟩) (hcol : (⟨1, ![R]⟩ : Shape).ShapeCasts (Mat R 1))
    (hbc : (Mat R 1).Broadcasts (Mat R n)) (hbr : (Mat 1 n).Broadcasts (Mat R n)) (hn : n ≠ 1) (o : FVec Ideal (Mat R n) .f32)
    (g : FVec Ideal (Mat 1 n) .f32) (r : Fin R) (d : Fin n) :
    norm cnt hred hcol hbc hbr o g (ix2 r d) = AbSpec.rmsn (Ideal.ofBits .f32 cnt) (fun c => o (ix2 r c)) (fun c => g (ix2 0 c)) d := by
  have ec : ∀ v : FVec Ideal (Mat R 1) .f32, broadcastTo (Mat R n) v hbc (ix2 r d) = v (ix2 r 0) := fun v =>
    broadcastTo_apply v hbc _ _ fun a => by
      match a with
      | ⟨0, _⟩ =>
        show r.val = if R = 1 then 0 else r.val
        have := r.isLt
        split <;> omega
      | ⟨1, _⟩ => rfl
  have er : broadcastTo (Mat R n) g hbr (ix2 r d) = g (ix2 0 d) :=
    broadcastTo_apply g hbr _ _ fun a => by
      match a with
      | ⟨0, _⟩ => rfl
      | ⟨1, _⟩ => show d.val = if n = 1 then 0 else d.val; rw [if_neg hn]
  have es : shapeCast (Mat R 1) (multiReduction .add [1] ⟨1, ![R]⟩ (mulf o o) 0x00000000#32 hred (.inl rfl) rfl) hcol (ix2 r 0)
      = ∑ c, o (ix2 r c) * o (ix2 r c) := by
    rw [shapeCast_apply _ hcol (ix2 r 0) (ix1 r) (by
      rw [Shape.rowMajor_val_one, Shape.rowMajor_val_two]
      show r.val = r.val * 1 + 0
      omega)]
    pointwise
  show _ = o (ix2 r d) * Ideal.rsqrt (Ideal.div (∑ c, o (ix2 r c) * o (ix2 r c)) (Ideal.ofBits .f32 cnt)
    + Ideal.ofBits .f32 0x358637BD#32) * g (ix2 0 d)
  rw [← er, ← es]
  unfold norm
  show o (ix2 r d) * broadcastTo (Mat R n) _ hbc (ix2 r d) * _ = _
  rw [ec]
  rfl

/-! ## The stores of a head -/

/-- A block of 128 lanes stored as a head. -/
theorem store_apply (hc : (Mat R 128).ShapeCasts ⟨4, ![1, 1, R, 128]⟩) (v : FVec Ideal (Mat R 128) .bf16) (x : (⟨4, ![1, 1, R, 128]⟩ : Shape).Idx) :
    shapeCast ⟨4, ![1, 1, R, 128]⟩ v hc x = v (ix2 (x 2) (x 3)) := by
  obtain ⟨a, d, r, l, rfl⟩ : ∃ (a d : Fin 1) (r : Fin R) (l : Fin 128), x = ix4 a d r l := ⟨x 0, x 1, x 2, x 3, ext4 rfl rfl rfl rfl⟩
  exact shapeCast_apply _ hc (ix4 a d r l) (ix2 r l) (by
    rw [Shape.rowMajor_val_two, Shape.rowMajor_val_four]
    show r.val * 128 + l.val = ((a.val * 1 + d.val) * R + r.val) * 128 + l.val
    have ha : a.val = 0 := by omega
    have hd : d.val = 0 := by omega
    rw [ha, hd]; omega)

/-- 128 lanes of a wider block. -/
theorem lanes_apply {φ : FTy} (off : ℕ) (hs : (Mat R N).Slices ![0, off] (Mat R 128)) (P : FVec Ideal (Mat R N) φ) (r : Fin R) (l : Fin 128) (j : Fin N)
    (hj : j.val = off + l.val) : extractStridedSlice (Mat R 128) ![0, off] P hs (ix2 r l) = P (ix2 r j) :=
  extractStridedSlice_apply ![0, off] P hs (ix2 r l) (ix2 r j) fun a => by
    match a with
    | ⟨0, _⟩ => show r.val = 0 + r.val; omega
    | ⟨1, _⟩ => exact hj

/-- A head of the queries: its lanes times the factor. -/
theorem query_apply (hb : FTy.bits .bf16 < FTy.bits .f32) (hc : (Mat R 128).ShapeCasts ⟨4, ![1, 1, R, 128]⟩) (off : ℕ)
    (hs : (Mat R N).Slices ![0, off] (Mat R 128)) (P : FVec Ideal (Mat R N) .f32) (x : (⟨4, ![1, 1, R, 128]⟩ : Shape).Idx) (j : Fin N)
    (hj : j.val = off + (x 3).val) :
    shapeCast ⟨4, ![1, 1, R, 128]⟩ (truncf .bf16 (mulf (extractStridedSlice (Mat R 128) ![0, off] P hs)
      (broadcast (Mat R 128) (Scalar.ofBits .f32 0x3E16C740#32))) hb) hc x = P (ix2 (x 2) j) * AbSpec.qScale := by
  rw [store_apply, ← lanes_apply off hs P (x 2) (x 3) j hj]
  rfl

/-- A head of the values: its lanes. -/
theorem value_apply (hc : (Mat R 128).ShapeCasts ⟨4, ![1, 1, R, 128]⟩) (off : ℕ)
    (hs : (Mat R N).Slices ![0, off] (Mat R 128)) (P : FVec Ideal (Mat R N) .bf16) (x : (⟨4, ![1, 1, R, 128]⟩ : Shape).Idx) (j : Fin N)
    (hj : j.val = off + (x 3).val) :
    shapeCast ⟨4, ![1, 1, R, 128]⟩ (extractStridedSlice (Mat R 128) ![0, off] P hs) hc x = P (ix2 (x 2) j) := by
  rw [store_apply, ← lanes_apply off hs P (x 2) (x 3) j hj]

/-- Block `p` of 128 columns, stored as head `p`. -/
theorem slab_apply (hc : (Mat R 128).ShapeCasts ⟨4, ![1, 1, R, 128]⟩) (P : FVec Ideal (Mat R N) .bf16) (p : ℕ)
    (hs : (Mat R N).Slices ![0, 128 * p] (Mat R 128)) (x : (⟨4, ![1, 1, R, 128]⟩ : Shape).Idx) (r : Fin R) (j : Fin N)
    (hr : r.val = 0 + 1 * (x 2).val) (hj : j.val = 128 * (p + 1 * (x 1).val) + (0 + 1 * (x 3).val)) :
    shapeCast ⟨4, ![1, 1, R, 128]⟩ (extractStridedSlice (Mat R 128) ![0, 128 * p] P hs) hc x = P (ix2 r j) := by
  have x1' : (x 1).val < 1 := (x 1).isLt
  exact (value_apply hc (128 * p) hs P x j (by omega)).trans (congrArg P (ext2 (by show (x 2).val = r.val; omega) rfl))

/-- Where the lanes of the shared positional key stand in a head. -/
def shared (p : IVec (Mat R 128) 1) : Prop := ∀ (r : Fin R) (l : Fin 128), p (ix2 r l) = 1 ↔ 64 ≤ l.val ∧ l.val < 96

/-- A head of the keys: its own lanes, and on the shared ones the positional key, which is moved there by a rotation. -/
theorem key_apply (hr : (Mat R 128).Rotates 1 none) (hb : FTy.bits .bf16 < FTy.bits .f32) (hc : (Mat R 128).ShapeCasts ⟨4, ![1, 1, R, 128]⟩) (off : ℕ)
    (hs : (Mat R N).Slices ![0, off] (Mat R 128)) (p : IVec (Mat R 128) 1) (hp : shared p) (mi : FVec Ideal (Mat R 128) .f32)
    (P : FVec Ideal (Mat R N) .f32) (x : (⟨4, ![1, 1, R, 128]⟩ : Shape).Idx) (j : Fin N) (hj : j.val = off + (x 3).val) :
    shapeCast ⟨4, ![1, 1, R, 128]⟩ (truncf .bf16 (select p (dynamicRotate 1 64#32 none mi hr) (extractStridedSlice (Mat R 128) ![0, off] P hs)) hb) hc x
      = if 64 ≤ (x 3).val ∧ (x 3).val < 96 then mi (ix2 (x 2) ⟨((x 3).val + 64) % 128, Nat.mod_lt _ (by norm_num)⟩) else P (ix2 (x 2) j) := by
  rw [store_apply, ← lanes_apply off hs P (x 2) (x 3) j hj]
  have er : dynamicRotate 1 64#32 none mi hr (ix2 (x 2) (x 3)) = mi (ix2 (x 2) ⟨((x 3).val + 64) % 128, Nat.mod_lt _ (by norm_num)⟩) :=
    congrArg mi (ext2 rfl (by show ((x 3).val + 128 - 64 % 128) % 128 = ((x 3).val + 64) % 128; omega))
  rw [← er]
  show (if p (ix2 (x 2) (x 3)) = 1 then _ else _) = _
  by_cases h : 64 ≤ (x 3).val ∧ (x 3).val < 96
  · exact (if_pos ((hp _ _).2 h)).trans (if_pos h).symm
  · exact (if_neg fun e => h ((hp _ _).1 e)).trans (if_neg h).symm

end AbBlock

end
-- ==== Proof.BlockIn8.lean ====
/-
  The blocks the projections before the first layer's attention and recurrence write for the prompts, entry by entry, from
  the blocks they read.
-/
module

public import proofs.«01_k».proof.Proof.InBlock
public import proofs.«01_k».proof.Proof.AbBlock
public import proofs.«01_k».proof.Proof.Gen.Kernel8Ideal.Value

@[expose] public section

set_option maxRecDepth 16384

noncomputable section

namespace Cert.Kernel8Ideal.Block

open Cert.Kernel8Ideal Cert.Kernel8Ideal.Gen Idealize.ShloMosaic Idealize.ShloMosaic.TcCoe Idealize.SL.Sem Facts Coords

variable (x0 : Vec Ideal S256x1024 .f32) (x1 : Vec Ideal S1x1x6144 .f32) (x2 : Vec Ideal S1x1024 .f32) (x3 : Vec Ideal S1024x2816 .bf16)
  (x4 : Vec Ideal S1x384 .f32) (x5 : Vec Ideal S1x256 .f32) (x6 : Vec Ideal S384x1024 .bf16) (x7 : Vec Ideal S256x1024 .bf16) (x8 : Vec Ideal S256x512 .bf16)

/-! ## The blocks read, as functions of their coordinates -/

/-- The mixer's input at row `r`. -/
abbrev hRow (r : Fin 256) : Fin 1024 → EReal := InSpec.hid (fun k => x0 (ix2 r k)) (fun k => x1 (ix3 0 0 k)) (fun k => x2 (ix2 0 k))

abbrev win (k : Fin 1024) (j : Fin 2816) : EReal := x3 (ix2 k j)
abbrev gainQ (k : Fin 384) : EReal := x4 (ix2 0 k)
abbrev gainKv (k : Fin 256) : EReal := x5 (ix2 0 k)
abbrev wq (k : Fin 384) (j : Fin 1024) : EReal := x6 (ix2 k j)
abbrev wk (k : Fin 256) (j : Fin 1024) : EReal := x7 (ix2 k j)
abbrev wv (k : Fin 256) (j : Fin 512) : EReal := x8 (ix2 k j)

/-! ## The mixer's input and its products -/

/-- The shape relations of the input's norm. -/
theorem fits : Enter.Fits 256 :=
  ⟨bitsLt_bf16_f32, shapeCasts_S256x1024_S256x1024, shapeCasts_S1x1024_S1x1024, shapeCasts_S1x1x6144_S1x6144, reduces_S256x1024_S256,
    shapeCasts_S256_S256x1, broadcasts_S256x1_S256x1024, broadcasts_S1x1024_S256x1024, slices_S1x6144_o0_0_S1x1024,
    slices_S1x6144_o0_1024_S1x1024⟩

/-- The body's input, rounded for the products. -/
abbrev hid : FVec Ideal S256x1024 .bf16 := k0_pay3 (View.ld x1 r0_0) (View.ld x0 r0_1) (View.ld x2 r0_2)

theorem hid_apply (r : Fin 256) (d : Fin 1024) : hid x0 x1 x2 (ix2 r d) = hRow x0 x1 x2 r d := by
  have e : hid x0 x1 x2 = Enter.hidden fits (shapeCast S1x6144 (View.ld x1 r0_0) fits.mods) (shapeCast S256x1024 (View.ld x0 r0_1) fits.same)
      (shapeCast S1x1024 (View.ld x2 r0_2) fits.gain) := rfl
  have e0 : (fun k => shapeCast S256x1024 (View.ld x0 r0_1) fits.same (ix2 r k)) = fun k => x0 (ix2 r k) := funext fun k => by
    rw [shapeCast_apply _ fits.same (ix2 r k) (ix2 r k) rfl]
    pointwise
  have e1 : (fun k => shapeCast S1x6144 (View.ld x1 r0_0) fits.mods (ix2 0 k)) = fun k => x1 (ix3 0 0 k) := funext fun k => by
    rw [shapeCast_apply _ fits.mods (ix2 0 k) (ix3 0 0 k) (by
      rw [Shape.rowMajor_val_three, Shape.rowMajor_val_two]
      show (0 * 1 + 0) * 6144 + k.val = 0 * 6144 + k.val
      omega)]
    pointwise
  have e2 : (fun k => shapeCast S1x1024 (View.ld x2 r0_2) fits.gain (ix2 0 k)) = fun k => x2 (ix2 0 k) := funext fun k => by
    rw [shapeCast_apply _ fits.gain (ix2 0 k) (ix2 0 k) rfl]
    pointwise
  rw [e, Enter.hidden_apply, e0, e1, e2]

/-- The product with a slab of the projections' columns, from column `off` on. -/
theorem win_slab {N : ℕ} (hs : (Flash.Mat 1024 N).ShapeCasts (Flash.Mat 1024 N)) (w : Vec Ideal (Flash.Mat 1024 N) .bf16) (off : ℕ) (ho : off + N ≤ 2816)
    (hw : ∀ (k : Fin 1024) (j : Fin N), w (ix2 k j) = x3 (ix2 k ⟨off + j.val, by omega⟩)) (r : Fin 256) (j : Fin N) :
    matmul (DotDims.plain 256 1024 N) none (hid x0 x1 x2) (shapeCast (Flash.Mat 1024 N) w hs : FVec Ideal (Flash.Mat 1024 N) .bf16)
      (constant (Flash.Mat 256 N) .f32 0x00000000#32) (ix2 r j) = TailSpec.rowMul (hRow x0 x1 x2 r) (win x3) ⟨off + j.val, by omega⟩ := by
  rw [AbBlock.lin_apply, show (fun k => hid x0 x1 x2 (ix2 r k)) = hRow x0 x1 x2 r from funext fun k => hid_apply x0 x1 x2 r k]
  exact AbSpec.rowMul_column _ _ _ _ _ fun k => hw k j

theorem first_apply (r : Fin 256) (j : Fin 512) : k0_pay47 x0 x1 x2 x3 x4 x5 x6 x7 x8 (ix2 r j)
    = TailSpec.rowMul (hRow x0 x1 x2 r) (win x3) ⟨j.val, by omega⟩ :=
  (win_slab x0 x1 x2 x3 shapeCasts_S1024x512_S1024x512 (View.ld x3 r0_3) 0 (by norm_num) (fun k j => congrArg x3 (ext2
    (by show 0 + 1 * k.val = k.val; omega) (by show 0 + 1 * j.val = 0 + j.val; omega))) r j).trans
    (congrArg (TailSpec.rowMul (hRow x0 x1 x2 r) (win x3)) (Fin.ext (by show 0 + j.val = j.val; omega)))

theorem second_apply (r : Fin 256) (j : Fin 256) : k0_pay49 x0 x1 x2 x3 x4 x5 x6 x7 x8 (ix2 r j)
    = TailSpec.rowMul (hRow x0 x1 x2 r) (win x3) ⟨512 + j.val, by omega⟩ :=
  win_slab x0 x1 x2 x3 shapeCasts_S1024x256_S1024x256 (View.ld x3 r0_5) 512 (by norm_num) (fun k j => congrArg x3 (ext2
    (by show 0 + 1 * k.val = k.val; omega) (by show 512 + 1 * j.val = 512 + j.val; omega))) r j

/-- The lanes of the positional key, the gate and zeros. -/
theorem misc_apply (r : Fin 256) (l : Fin 128) : k0_pay48 x0 x1 x2 x3 x4 x5 x6 x7 x8 (ix2 r l)
    = TailSpec.rowMul (hRow x0 x1 x2 r) (win x3) ⟨384 + l.val, by omega⟩ :=
  (AbBlock.lanes_apply 384 slices_S256x512_o0_384_S256x128 (k0_pay47 x0 x1 x2 x3 x4 x5 x6 x7 x8) r l ⟨384 + l.val, by omega⟩ rfl).trans
    (first_apply x0 x1 x2 x3 x4 x5 x6 x7 x8 r ⟨384 + l.val, by omega⟩)

/-! ## The latents -/

theorem kvlat_apply (r : Fin 256) (d : Fin 256) : k0_pay8 (k0_pay49 x0 x1 x2 x3 x4 x5 x6 x7 x8) (k0_pay50 x0 x1 x2 x3 x4 x5 x6 x7 x8) (ix2 r d)
    = AbSpec.kvlatP (hRow x0 x1 x2 r) (win x3) (gainKv x5) d := by
  refine (AbBlock.norm_apply (R := 256) (n := 256) 0x43800000#32 reduces_S256x256_S256 shapeCasts_S256_S256x1 broadcasts_S256x1_S256x256
    broadcasts_S1x256_S256x256 (by norm_num) (k0_pay49 x0 x1 x2 x3 x4 x5 x6 x7 x8) (k0_pay50 x0 x1 x2 x3 x4 x5 x6 x7 x8) r d).trans ?_
  have e : (fun c => k0_pay50 x0 x1 x2 x3 x4 x5 x6 x7 x8 (ix2 0 c)) = gainKv x5 := funext fun c => by
    show shapeCast S1x256 (View.ld x5 r0_6) shapeCasts_S1x256_S1x256 (ix2 0 c) = _
    rw [shapeCast_apply _ shapeCasts_S1x256_S1x256 (ix2 0 c) (ix2 0 c) rfl]
    pointwise
  unfold AbSpec.kvlatP
  rw [e]
  exact congrArg (AbSpec.rmsn AbSpec.c256 · (gainKv x5) d) (funext fun c => second_apply x0 x1 x2 x3 x4 x5 x6 x7 x8 r c)

/-- The norm of the queries' latent, on any block of first products. -/
theorem qnorm_apply (v : FVec Ideal S256x512 .f32) (g : Vec Ideal S1x384 .f32) (r : Fin 256) (d : Fin 384) :
    k0_pay30 v g (ix2 r d) = AbSpec.rmsn AbSpec.c384 (fun c => v (ix2 r ⟨c.val, by omega⟩)) (fun c => g (ix2 0 c)) d := by
  have e : k0_pay30 v g = truncf .bf16 (AbBlock.norm (F := Ideal) (R := 256) (n := 384) 0x43C00000#32 reduces_S256x384_S256 shapeCasts_S256_S256x1
    broadcasts_S256x1_S256x384 broadcasts_S1x384_S256x384 (extractStridedSlice S256x384 ![0, 0] v slices_S256x512_o0_0_S256x384)
    (shapeCast S1x384 g shapeCasts_S1x384_S1x384)) bitsLt_bf16_f32 := rfl
  have e1 : (fun c => shapeCast S1x384 g shapeCasts_S1x384_S1x384 (ix2 0 c)) = fun c => g (ix2 0 c) := funext fun c =>
    shapeCast_apply _ shapeCasts_S1x384_S1x384 (ix2 0 c) (ix2 0 c) rfl
  have e2 : (fun c => extractStridedSlice S256x384 ![0, 0] v slices_S256x512_o0_0_S256x384 (ix2 r c)) = fun c : Fin 384 => v (ix2 r ⟨c.val, by omega⟩) :=
    funext fun c => extractStridedSlice_apply ![0, 0] v slices_S256x512_o0_0_S256x384 (ix2 r c) (ix2 r ⟨c.val, by omega⟩) fun a => by
      match a with
      | ⟨0, _⟩ => show r.val = 0 + r.val; omega
      | ⟨1, _⟩ => show c.val = 0 + c.val; omega
  rw [e]
  refine (AbBlock.norm_apply (R := 256) (n := 384) 0x43C00000#32 reduces_S256x384_S256 shapeCasts_S256_S256x1 broadcasts_S256x1_S256x384
    broadcasts_S1x384_S256x384 (by norm_num) _ _ r d).trans ?_
  rw [e1, e2]

theorem qlat_apply (r : Fin 256) (d : Fin 384) : k0_pay55 x0 x1 x2 x3 x4 x5 x6 x7 x8 (ix2 r d)
    = AbSpec.qlatP (hRow x0 x1 x2 r) (win x3) (gainQ x4) d := by
  refine (qnorm_apply (k0_pay47 x0 x1 x2 x3 x4 x5 x6 x7 x8) (View.ld x4 r0_25) r d).trans ?_
  have e : (fun c => View.ld x4 r0_25 (ix2 0 c)) = gainQ x4 := funext fun c => by pointwise
  rw [e]
  unfold AbSpec.qlatP
  exact congrArg (AbSpec.rmsn AbSpec.c384 · (gainQ x4) d) (funext fun c => first_apply x0 x1 x2 x3 x4 x5 x6 x7 x8 r ⟨c.val, by omega⟩)

/-! ## The heads' entries -/

def qEnt (r : Fin 256) (j : Fin 1024) : EReal :=
  TailSpec.rowMul (AbSpec.qlatP (hRow x0 x1 x2 r) (win x3) (gainQ x4)) (wq x6) j * AbSpec.qScale

def kEnt (r : Fin 256) (d : Fin 8) (l : Fin 128) : EReal :=
  if 64 ≤ l.val ∧ l.val < 96 then TailSpec.rowMul (hRow x0 x1 x2 r) (win x3) ⟨384 + (l.val + 64) % 128, by omega⟩
  else TailSpec.rowMul (AbSpec.kvlatP (hRow x0 x1 x2 r) (win x3) (gainKv x5)) (wk x7) ⟨128 * d.val + l.val, by omega⟩

def vEnt (r : Fin 256) (j : Fin 512) : EReal :=
  TailSpec.rowMul (AbSpec.kvlatP (hRow x0 x1 x2 r) (win x3) (gainKv x5)) (wv x8) j

theorem qEnt_congr {r r' : Fin 256} {j j' : Fin 1024} (hr : r.val = r'.val) (hj : j.val = j'.val) :
    qEnt x0 x1 x2 x3 x4 x6 r j = qEnt x0 x1 x2 x3 x4 x6 r' j' := by
  obtain rfl := Fin.ext hr
  obtain rfl := Fin.ext hj
  rfl

theorem kEnt_congr {r r' : Fin 256} {d d' : Fin 8} {l l' : Fin 128} (hr : r.val = r'.val) (hd : d.val = d'.val) (hl : l.val = l'.val) :
    kEnt x0 x1 x2 x3 x5 x7 r d l = kEnt x0 x1 x2 x3 x5 x7 r' d' l' := by
  obtain rfl := Fin.ext hr
  obtain rfl := Fin.ext hd
  obtain rfl := Fin.ext hl
  rfl

/-- The normed latent of the queries times a slab of the heads' columns. -/
theorem q_slab (w : Vec Ideal S384x256 .bf16) (off : ℕ) (ho : off + 256 ≤ 1024)
    (hw : ∀ (k : Fin 384) (j : Fin 256), w (ix2 k j) = x6 (ix2 k ⟨off + j.val, by omega⟩)) (r : Fin 256) (j : Fin 256) :
    k0_pay34 (k0_pay55 x0 x1 x2 x3 x4 x5 x6 x7 x8) w (ix2 r j)
      = TailSpec.rowMul (AbSpec.qlatP (hRow x0 x1 x2 r) (win x3) (gainQ x4)) (wq x6) ⟨off + j.val, by omega⟩ := by
  refine (AbBlock.lin_apply (R := 256) shapeCasts_S384x256_S384x256 (k0_pay55 x0 x1 x2 x3 x4 x5 x6 x7 x8) w r j).trans ?_
  rw [show (fun k => k0_pay55 x0 x1 x2 x3 x4 x5 x6 x7 x8 (ix2 r k)) = AbSpec.qlatP (hRow x0 x1 x2 r) (win x3) (gainQ x4) from
    funext fun k => qlat_apply x0 x1 x2 x3 x4 x5 x6 x7 x8 r k]
  exact AbSpec.rowMul_column _ _ _ _ _ fun k => hw k j

/-- The normed latent of the keys and values times a slab of the keys' columns. -/
theorem k_slab (w : Vec Ideal S256x256 .bf16) (off : ℕ) (ho : off + 256 ≤ 1024)
    (hw : ∀ (k : Fin 256) (j : Fin 256), w (ix2 k j) = x7 (ix2 k ⟨off + j.val, by omega⟩)) (r : Fin 256) (j : Fin 256) :
    k0_pay15 (k0_pay51 x0 x1 x2 x3 x4 x5 x6 x7 x8) w (ix2 r j)
      = TailSpec.rowMul (AbSpec.kvlatP (hRow x0 x1 x2 r) (win x3) (gainKv x5)) (wk x7) ⟨off + j.val, by omega⟩ := by
  refine (AbBlock.lin_apply (R := 256) shapeCasts_S256x256_S256x256 (k0_pay51 x0 x1 x2 x3 x4 x5 x6 x7 x8) w r j).trans ?_
  rw [show (fun k => k0_pay51 x0 x1 x2 x3 x4 x5 x6 x7 x8 (ix2 r k)) = AbSpec.kvlatP (hRow x0 x1 x2 r) (win x3) (gainKv x5) from
    funext fun k => kvlat_apply x0 x1 x2 x3 x4 x5 x6 x7 x8 r k]
  exact AbSpec.rowMul_column _ _ _ _ _ fun k => hw k j

/-- And times the values' columns. -/
theorem v_slab (r : Fin 256) (j : Fin 512) :
    k0_pay24 (k0_pay51 x0 x1 x2 x3 x4 x5 x6 x7 x8) (View.ld x8 r0_20) (ix2 r j) = vEnt x0 x1 x2 x3 x5 x8 r j := by
  refine (AbBlock.lin_apply (R := 256) shapeCasts_S256x512_S256x512 (k0_pay51 x0 x1 x2 x3 x4 x5 x6 x7 x8) (View.ld x8 r0_20) r j).trans ?_
  rw [show (fun k => k0_pay51 x0 x1 x2 x3 x4 x5 x6 x7 x8 (ix2 r k)) = AbSpec.kvlatP (hRow x0 x1 x2 r) (win x3) (gainKv x5) from
    funext fun k => kvlat_apply x0 x1 x2 x3 x4 x5 x6 x7 x8 r k]
  refine AbSpec.rowMul_column _ _ _ _ _ fun k => congrArg x8 (ext2 ?_ ?_)
  · show 0 + 1 * k.val = k.val; omega
  · show 0 + 1 * j.val = j.val; omega

/-- The lanes 64 to 95 are the shared ones. -/
theorem mask : AbBlock.shared (R := 256) k0_pay11 := by
  intro r l
  have key : ∀ l : Fin 128, IntOp.andi (IntOp.cmpi .sge (BitVec.ofNat 32 l.val) 64#32) (IntOp.cmpi .slt (BitVec.ofNat 32 l.val) 96#32) = 1
      ↔ 64 ≤ l.val ∧ l.val < 96 := by decide
  show IntOp.andi (IntOp.cmpi .sge (iota .tc S256x128 32 [1] iota_S256x128_d1_w32 (ix2 r l)) 64#32)
    (IntOp.cmpi .slt (iota .tc S256x128 32 [1] iota_S256x128_d1_w32 (ix2 r l)) 96#32) = 1 ↔ _
  rw [iota_single_apply]
  exact key l

/-- A head of the keys from its slab. -/
theorem key_piece (w : Vec Ideal S256x256 .bf16) (off : ℕ) (ho : off + 256 ≤ 1024)
    (hw : ∀ (k : Fin 256) (j : Fin 256), w (ix2 k j) = x7 (ix2 k ⟨off + j.val, by omega⟩)) (r : Fin 256) (l : Fin 128) (j : Fin 256) (d : Fin 8)
    (hj : off + j.val = 128 * d.val + l.val) :
    (if 64 ≤ l.val ∧ l.val < 96 then (k0_pay48 x0 x1 x2 x3 x4 x5 x6 x7 x8 (ix2 r ⟨(l.val + 64) % 128, Nat.mod_lt _ (by norm_num)⟩) : EReal)
      else k0_pay15 (k0_pay51 x0 x1 x2 x3 x4 x5 x6 x7 x8) w (ix2 r j)) = kEnt x0 x1 x2 x3 x5 x7 r d l := by
  unfold kEnt
  rw [misc_apply, k_slab x0 x1 x2 x3 x4 x5 x6 x7 x8 w off ho hw, show (⟨off + j.val, by omega⟩ : Fin 1024) = ⟨128 * d.val + l.val, by omega⟩ from Fin.ext hj]

/-! ## The blocks written -/

/-- The queries, head by head. -/
theorem out9_apply (y : S1x8x256x128.Idx) : out0_9 x0 x1 x2 x3 x4 x5 x6 x7 x8 y
    = qEnt x0 x1 x2 x3 x4 x6 (y 2) ⟨128 * (y 1).val + (y 3).val, by have : (y 1).val < 8 := (y 1).isLt; have : (y 3).val < 128 := (y 3).isLt; omega⟩ := by
  unfold out0_9
  refine View.canon_apply_of_pieces (Val := Elt Ideal) (e := .bf16) (fun y : S1x8x256x128.Idx =>
    qEnt x0 x1 x2 x3 x4 x6 (y 2) ⟨128 * (y 1).val + (y 3).val, by have : (y 1).val < 8 := (y 1).isLt; have : (y 3).val < 128 := (y 3).isLt; omega⟩) _ ?_ y
    (cover0_9 _ _ _ _ _ _ _ _ y)
  intro pc hpc
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 128 slices_S256x256_o0_128_S256x128 (k0_pay41 (k0_pay55 x0 x1 x2 x3 x4 x5 x6 x7 x8) (View.ld x6 r0_29)) x ⟨128 + (x 3).val, by omega⟩ rfl).trans ?_
    refine (congrArg (· * AbSpec.qScale) (q_slab x0 x1 x2 x3 x4 x5 x6 x7 x8 (View.ld x6 r0_29) 768 (by norm_num) (fun k j => congrArg x6 (ext2 (by show 0 + 1 * k.val = k.val; omega) (by show 768 + 1 * j.val = 768 + j.val; omega))) (x 2) ⟨128 + (x 3).val, by omega⟩)).trans ?_
    exact qEnt_congr x0 x1 x2 x3 x4 x6 (by show (x 2).val = 0 + 1 * (x 2).val; omega) (by show 768 + (128 + (x 3).val) = 128 * (7 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 0 slices_S256x256_o0_0_S256x128 (k0_pay41 (k0_pay55 x0 x1 x2 x3 x4 x5 x6 x7 x8) (View.ld x6 r0_29)) x ⟨0 + (x 3).val, by omega⟩ rfl).trans ?_
    refine (congrArg (· * AbSpec.qScale) (q_slab x0 x1 x2 x3 x4 x5 x6 x7 x8 (View.ld x6 r0_29) 768 (by norm_num) (fun k j => congrArg x6 (ext2 (by show 0 + 1 * k.val = k.val; omega) (by show 768 + 1 * j.val = 768 + j.val; omega))) (x 2) ⟨0 + (x 3).val, by omega⟩)).trans ?_
    exact qEnt_congr x0 x1 x2 x3 x4 x6 (by show (x 2).val = 0 + 1 * (x 2).val; omega) (by show 768 + (0 + (x 3).val) = 128 * (6 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 128 slices_S256x256_o0_128_S256x128 (k0_pay37 (k0_pay55 x0 x1 x2 x3 x4 x5 x6 x7 x8) (View.ld x6 r0_28)) x ⟨128 + (x 3).val, by omega⟩ rfl).trans ?_
    refine (congrArg (· * AbSpec.qScale) (q_slab x0 x1 x2 x3 x4 x5 x6 x7 x8 (View.ld x6 r0_28) 512 (by norm_num) (fun k j => congrArg x6 (ext2 (by show 0 + 1 * k.val = k.val; omega) (by show 512 + 1 * j.val = 512 + j.val; omega))) (x 2) ⟨128 + (x 3).val, by omega⟩)).trans ?_
    exact qEnt_congr x0 x1 x2 x3 x4 x6 (by show (x 2).val = 0 + 1 * (x 2).val; omega) (by show 512 + (128 + (x 3).val) = 128 * (5 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 0 slices_S256x256_o0_0_S256x128 (k0_pay37 (k0_pay55 x0 x1 x2 x3 x4 x5 x6 x7 x8) (View.ld x6 r0_28)) x ⟨0 + (x 3).val, by omega⟩ rfl).trans ?_
    refine (congrArg (· * AbSpec.qScale) (q_slab x0 x1 x2 x3 x4 x5 x6 x7 x8 (View.ld x6 r0_28) 512 (by norm_num) (fun k j => congrArg x6 (ext2 (by show 0 + 1 * k.val = k.val; omega) (by show 512 + 1 * j.val = 512 + j.val; omega))) (x 2) ⟨0 + (x 3).val, by omega⟩)).trans ?_
    exact qEnt_congr x0 x1 x2 x3 x4 x6 (by show (x 2).val = 0 + 1 * (x 2).val; omega) (by show 512 + (0 + (x 3).val) = 128 * (4 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 128 slices_S256x256_o0_128_S256x128 (k0_pay34 (k0_pay55 x0 x1 x2 x3 x4 x5 x6 x7 x8) (View.ld x6 r0_27)) x ⟨128 + (x 3).val, by omega⟩ rfl).trans ?_
    refine (congrArg (· * AbSpec.qScale) (q_slab x0 x1 x2 x3 x4 x5 x6 x7 x8 (View.ld x6 r0_27) 256 (by norm_num) (fun k j => congrArg x6 (ext2 (by show 0 + 1 * k.val = k.val; omega) (by show 256 + 1 * j.val = 256 + j.val; omega))) (x 2) ⟨128 + (x 3).val, by omega⟩)).trans ?_
    exact qEnt_congr x0 x1 x2 x3 x4 x6 (by show (x 2).val = 0 + 1 * (x 2).val; omega) (by show 256 + (128 + (x 3).val) = 128 * (3 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 0 slices_S256x256_o0_0_S256x128 (k0_pay34 (k0_pay55 x0 x1 x2 x3 x4 x5 x6 x7 x8) (View.ld x6 r0_27)) x ⟨0 + (x 3).val, by omega⟩ rfl).trans ?_
    refine (congrArg (· * AbSpec.qScale) (q_slab x0 x1 x2 x3 x4 x5 x6 x7 x8 (View.ld x6 r0_27) 256 (by norm_num) (fun k j => congrArg x6 (ext2 (by show 0 + 1 * k.val = k.val; omega) (by show 256 + 1 * j.val = 256 + j.val; omega))) (x 2) ⟨0 + (x 3).val, by omega⟩)).trans ?_
    exact qEnt_congr x0 x1 x2 x3 x4 x6 (by show (x 2).val = 0 + 1 * (x 2).val; omega) (by show 256 + (0 + (x 3).val) = 128 * (2 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 128 slices_S256x256_o0_128_S256x128 (k0_pay31 (k0_pay47 x0 x1 x2 x3 x4 x5 x6 x7 x8) (View.ld x4 r0_25) (View.ld x6 r0_26)) x ⟨128 + (x 3).val, by omega⟩ rfl).trans ?_
    refine (congrArg (· * AbSpec.qScale) (q_slab x0 x1 x2 x3 x4 x5 x6 x7 x8 (View.ld x6 r0_26) 0 (by norm_num) (fun k j => congrArg x6 (ext2 (by show 0 + 1 * k.val = k.val; omega) (by show 0 + 1 * j.val = 0 + j.val; omega))) (x 2) ⟨128 + (x 3).val, by omega⟩)).trans ?_
    exact qEnt_congr x0 x1 x2 x3 x4 x6 (by show (x 2).val = 0 + 1 * (x 2).val; omega) (by show 0 + (128 + (x 3).val) = 128 * (1 + 1 * (x 1).val) + (0 + 1 * (x 3).val); omega)
  rcases List.mem_cons.mp hpc with rfl | hpc
  · intro x
    have x1' : (x 1).val < 1 := (x 1).isLt
    have x3' : (x 3).val < 128 := (x 3).isLt
    refine (AbBlock.query_apply (R := 256) bitsLt_bf16_f32 shapeCasts_S256x128_S1x1x256x128 0 slices_S256x256_o0_0_S256x128 (k0_pay31 (k0_pay47 x0 x1 x2 x3 x4 x5 x6 x7 x8) (View.ld x4 r0_25) (View.ld x6 r0_26)) x ⟨0 + (x 3).val, by omega⟩ rfl).trans ?_
    refine (congrArg (· * AbSpec.qScale) (q_slab x0 x1 x2 x3 x4 x5 x6 x7 x8 (View.ld x6 r0_26) 0 (by norm_num) (fun k j => congrArg x6 (ext2 (by show 0 + 1 * k.val = k.val; omega) (by show 0 + 1 * j.val = 0 + j.val; omega))) (x 2) ⟨0 + (x 3).val, by omega⟩)).trans ?_
    exact qEnt_congr x0 x1 x2 x3 x4 x6 (by show (x 2).val = 0 + 1 * (x 2).val; omega) (by show 0 + (0 + (x 3).val) = 128 * (0 + 1 * (x 1).val) + (0 + 1 * (x 3).val); omega)
  nomatch hpc

/-- The keys, head by head. -/
theorem out10_apply (y : S1x8x256x128.Idx) : out0_10 x0 x1 x2 x3 x4 x5 x6 x7 x8 y = kEnt x0 x1 x2 x3 x5 x7 (y 2) (y 1) (y 3) := by
  unfold out0_10
  refine View.canon_apply_of_pieces (Val := Elt Ideal) (e := .bf16) (fun y : S1x8x256x128.Idx => kEnt x0 x1 x2 x3 x5 x7 (y 2) (y 1) (y 3)) _ ?_ y
    (cover0_10 _ _ _ _ _ _ _ _ y)
  intro pc hpc
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 128 slices_S256x256_o0_128_S256x128 k0_pay11 mask
      (k0_pay48 x0 x1 x2 x3 x4 x5 x6 x7 x8) (k0_pay54 x0 x1 x2 x3 x4 x5 x6 x7 x8) x ⟨128 + (x 3).val, by omega⟩ rfl).trans ?_
    refine (key_piece x0 x1 x2 x3 x4 x5 x6 x7 x8 (View.ld x7 r0_17) 768 (by norm_num) (fun k j => congrArg x7 (ext2 (by show 0 + 1 * k.val = k.val; omega) (by show 768 + 1 * j.val = 768 + j.val; omega))) (x 2) (x 3) ⟨128 + (x 3).val, by omega⟩ 7 (by show 768 + (128 + (x 3).val) = 128 * 7 + (x 3).val; omega)).trans ?_
    exact kEnt_congr x0 x1 x2 x3 x5 x7 (by show (x 2).val = 0 + 1 * (x 2).val; omega) (by show 7 = 7 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 0 slices_S256x256_o0_0_S256x128 k0_pay11 mask
      (k0_pay48 x0 x1 x2 x3 x4 x5 x6 x7 x8) (k0_pay54 x0 x1 x2 x3 x4 x5 x6 x7 x8) x ⟨0 + (x 3).val, by omega⟩ rfl).trans ?_
    refine (key_piece x0 x1 x2 x3 x4 x5 x6 x7 x8 (View.ld x7 r0_17) 768 (by norm_num) (fun k j => congrArg x7 (ext2 (by show 0 + 1 * k.val = k.val; omega) (by show 768 + 1 * j.val = 768 + j.val; omega))) (x 2) (x 3) ⟨0 + (x 3).val, by omega⟩ 6 (by show 768 + (0 + (x 3).val) = 128 * 6 + (x 3).val; omega)).trans ?_
    exact kEnt_congr x0 x1 x2 x3 x5 x7 (by show (x 2).val = 0 + 1 * (x 2).val; omega) (by show 6 = 6 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 128 slices_S256x256_o0_128_S256x128 k0_pay11 mask
      (k0_pay48 x0 x1 x2 x3 x4 x5 x6 x7 x8) (k0_pay18 (k0_pay51 x0 x1 x2 x3 x4 x5 x6 x7 x8) (View.ld x7 r0_14)) x ⟨128 + (x 3).val, by omega⟩ rfl).trans ?_
    refine (key_piece x0 x1 x2 x3 x4 x5 x6 x7 x8 (View.ld x7 r0_14) 512 (by norm_num) (fun k j => congrArg x7 (ext2 (by show 0 + 1 * k.val = k.val; omega) (by show 512 + 1 * j.val = 512 + j.val; omega))) (x 2) (x 3) ⟨128 + (x 3).val, by omega⟩ 5 (by show 512 + (128 + (x 3).val) = 128 * 5 + (x 3).val; omega)).trans ?_
    exact kEnt_congr x0 x1 x2 x3 x5 x7 (by show (x 2).val = 0 + 1 * (x 2).val; omega) (by show 5 = 5 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 0 slices_S256x256_o0_0_S256x128 k0_pay11 mask
      (k0_pay48 x0 x1 x2 x3 x4 x5 x6 x7 x8) (k0_pay18 (k0_pay51 x0 x1 x2 x3 x4 x5 x6 x7 x8) (View.ld x7 r0_14)) x ⟨0 + (x 3).val, by omega⟩ rfl).trans ?_
    refine (key_piece x0 x1 x2 x3 x4 x5 x6 x7 x8 (View.ld x7 r0_14) 512 (by norm_num) (fun k j => congrArg x7 (ext2 (by show 0 + 1 * k.val = k.val; omega) (by show 512 + 1 * j.val = 512 + j.val; omega))) (x 2) (x 3) ⟨0 + (x 3).val, by omega⟩ 4 (by show 512 + (0 + (x 3).val) = 128 * 4 + (x 3).val; omega)).trans ?_
    exact kEnt_congr x0 x1 x2 x3 x5 x7 (by show (x 2).val = 0 + 1 * (x 2).val; omega) (by show 4 = 4 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 128 slices_S256x256_o0_128_S256x128 k0_pay11 mask
      (k0_pay48 x0 x1 x2 x3 x4 x5 x6 x7 x8) (k0_pay15 (k0_pay51 x0 x1 x2 x3 x4 x5 x6 x7 x8) (View.ld x7 r0_11)) x ⟨128 + (x 3).val, by omega⟩ rfl).trans ?_
    refine (key_piece x0 x1 x2 x3 x4 x5 x6 x7 x8 (View.ld x7 r0_11) 256 (by norm_num) (fun k j => congrArg x7 (ext2 (by show 0 + 1 * k.val = k.val; omega) (by show 256 + 1 * j.val = 256 + j.val; omega))) (x 2) (x 3) ⟨128 + (x 3).val, by omega⟩ 3 (by show 256 + (128 + (x 3).val) = 128 * 3 + (x 3).val; omega)).trans ?_
    exact kEnt_congr x0 x1 x2 x3 x5 x7 (by show (x 2).val = 0 + 1 * (x 2).val; omega) (by show 3 = 3 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 0 slices_S256x256_o0_0_S256x128 k0_pay11 mask
      (k0_pay48 x0 x1 x2 x3 x4 x5 x6 x7 x8) (k0_pay15 (k0_pay51 x0 x1 x2 x3 x4 x5 x6 x7 x8) (View.ld x7 r0_11)) x ⟨0 + (x 3).val, by omega⟩ rfl).trans ?_
    refine (key_piece x0 x1 x2 x3 x4 x5 x6 x7 x8 (View.ld x7 r0_11) 256 (by norm_num) (fun k j => congrArg x7 (ext2 (by show 0 + 1 * k.val = k.val; omega) (by show 256 + 1 * j.val = 256 + j.val; omega))) (x 2) (x 3) ⟨0 + (x 3).val, by omega⟩ 2 (by show 256 + (0 + (x 3).val) = 128 * 2 + (x 3).val; omega)).trans ?_
    exact kEnt_congr x0 x1 x2 x3 x5 x7 (by show (x 2).val = 0 + 1 * (x 2).val; omega) (by show 2 = 2 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 128 slices_S256x256_o0_128_S256x128 k0_pay11 mask
      (k0_pay48 x0 x1 x2 x3 x4 x5 x6 x7 x8) (k0_pay12 (k0_pay49 x0 x1 x2 x3 x4 x5 x6 x7 x8) (k0_pay50 x0 x1 x2 x3 x4 x5 x6 x7 x8) (View.ld x7 r0_8)) x ⟨128 + (x 3).val, by omega⟩ rfl).trans ?_
    refine (key_piece x0 x1 x2 x3 x4 x5 x6 x7 x8 (View.ld x7 r0_8) 0 (by norm_num) (fun k j => congrArg x7 (ext2 (by show 0 + 1 * k.val = k.val; omega) (by show 0 + 1 * j.val = 0 + j.val; omega))) (x 2) (x 3) ⟨128 + (x 3).val, by omega⟩ 1 (by show 0 + (128 + (x 3).val) = 128 * 1 + (x 3).val; omega)).trans ?_
    exact kEnt_congr x0 x1 x2 x3 x5 x7 (by show (x 2).val = 0 + 1 * (x 2).val; omega) (by show 1 = 1 + 1 * (x 1).val; omega) (by show (x 3).val = 0 + 1 * (x 3).val; omega)
  rcases List.mem_cons.mp hpc with rfl | hpc
  · intro x
    have x1' : (x 1).val < 1 := (x 1).isLt
    have x3' : (x 3).val < 128 := (x 3).isLt
    refine (AbBlock.key_apply (R := 256) rotates_S256x128_d1 bitsLt_bf16_f32 shapeCasts_S256x128_S1x1x256x128 0 slices_S256x256_o0_0_S256x128 k0_pay11 mask
      (k0_pay48 x0 x1 x2 x3 x4 x5 x6 x7 x8) (k0_pay12 (k0_pay49 x0 x1 x2 x3 x4 x5 x6 x7 x8) (k0_pay50 x0 x1 x2 x3 x4 x5 x6 x7 x8) (View.ld x7 r0_8)) x ⟨0 + (x 3).val, by omega⟩ rfl).trans ?_
    refine (key_piece x0 x1 x2 x3 x4 x5 x6 x7 x8 (View.ld x7 r0_8) 0 (by norm_num) (fun k j => congrArg x7 (ext2 (by show 0 + 1 * k.val = k.val; omega) (by show 0 + 1 * j.val = 0 + j.val; omega))) (x 2) (x 3) ⟨0 + (x 3).val, by omega⟩ 0 (by show 0 + (0 + (x 3).val) = 128 * 0 + (x 3).val; omega)).trans ?_
    exact kEnt_congr x0 x1 x2 x3 x5 x7 (by show (x 2).val = 0 + 1 * (x 2).val; omega) (by show 0 = 0 + 1 * (x 1).val; omega) (by show (x 3).val = 0 + 1 * (x 3).val; omega)
  nomatch hpc

/-- The values, two heads side by side. -/
theorem out11_apply (y : S1x4x256x128.Idx) : out0_11 x0 x1 x2 x3 x4 x5 x6 x7 x8 y
    = vEnt x0 x1 x2 x3 x5 x8 (y 2) ⟨128 * (y 1).val + (y 3).val, by have : (y 1).val < 4 := (y 1).isLt; have : (y 3).val < 128 := (y 3).isLt; omega⟩ := by
  unfold out0_11
  refine View.canon_apply_of_pieces (Val := Elt Ideal) (e := .bf16) (fun y : S1x4x256x128.Idx =>
    vEnt x0 x1 x2 x3 x5 x8 (y 2) ⟨128 * (y 1).val + (y 3).val, by have : (y 1).val < 4 := (y 1).isLt; have : (y 3).val < 128 := (y 3).isLt; omega⟩) _ ?_ y
    (cover0_11 _ _ _ _ y)
  intro pc hpc
  rcases List.mem_cons.mp hpc with rfl | hpc
  · intro x
    refine Eq.trans ?_ (v_slab x0 x1 x2 x3 x4 x5 x6 x7 x8 _ _)
    exact AbBlock.slab_apply shapeCasts_S256x128_S1x1x256x128 (k0_pay24 (k0_pay51 x0 x1 x2 x3 x4 x5 x6 x7 x8) (View.ld x8 r0_20)) 3 slices_S256x512_o0_384_S256x128 x _ _ rfl rfl
  rcases List.mem_cons.mp hpc with rfl | hpc
  · intro x
    refine Eq.trans ?_ (v_slab x0 x1 x2 x3 x4 x5 x6 x7 x8 _ _)
    exact AbBlock.slab_apply shapeCasts_S256x128_S1x1x256x128 (k0_pay24 (k0_pay51 x0 x1 x2 x3 x4 x5 x6 x7 x8) (View.ld x8 r0_20)) 2 slices_S256x512_o0_256_S256x128 x _ _ rfl rfl
  rcases List.mem_cons.mp hpc with rfl | hpc
  · intro x
    refine Eq.trans ?_ (v_slab x0 x1 x2 x3 x4 x5 x6 x7 x8 _ _)
    exact AbBlock.slab_apply shapeCasts_S256x128_S1x1x256x128 (k0_pay24 (k0_pay51 x0 x1 x2 x3 x4 x5 x6 x7 x8) (View.ld x8 r0_20)) 1 slices_S256x512_o0_128_S256x128 x _ _ rfl rfl
  rcases List.mem_cons.mp hpc with rfl | hpc
  · intro x
    refine Eq.trans ?_ (v_slab x0 x1 x2 x3 x4 x5 x6 x7 x8 _ _)
    exact AbBlock.slab_apply shapeCasts_S256x128_S1x1x256x128 (k0_pay24 (k0_pay51 x0 x1 x2 x3 x4 x5 x6 x7 x8) (View.ld x8 r0_20)) 0 slices_S256x512_o0_0_S256x128 x _ _ rfl rfl
  nomatch hpc

/-- The keys' and values' latent. -/
theorem out12_apply (r : Fin 256) (j : Fin 256) : out0_12 x0 x1 x2 x3 x4 x5 x6 x7 x8 (ix2 r j : S256x256.Idx)
    = AbSpec.kvlatP (hRow x0 x1 x2 r) (win x3) (gainKv x5) j := by
  unfold out0_12
  refine (View.canon_apply_of_pieces (Val := Elt Ideal) (e := .f32) (k0_pay8 (k0_pay49 x0 x1 x2 x3 x4 x5 x6 x7 x8) (k0_pay50 x0 x1 x2 x3 x4 x5 x6 x7 x8)) _ ?_
    (ix2 r j : S256x256.Idx) (cover0_12 _ _)).trans (kvlat_apply x0 x1 x2 x3 x4 x5 x6 x7 x8 r j)
  intro pc hpc
  rcases List.mem_cons.mp hpc with rfl | hpc
  · intro x
    exact congrArg (k0_pay8 (k0_pay49 x0 x1 x2 x3 x4 x5 x6 x7 x8) (k0_pay50 x0 x1 x2 x3 x4 x5 x6 x7 x8)) (ext2 (by show (x 0).val = 0 + 1 * (x 0).val; omega) (by show (x 1).val = 0 + 1 * (x 1).val; omega))
  nomatch hpc

/-- The positional key, the gate and zeros. -/
theorem out13_apply (r : Fin 256) (l : Fin 128) : out0_13 x0 x1 x2 x3 x4 x5 x6 x7 x8 (ix2 r l : S256x128.Idx)
    = TailSpec.rowMul (hRow x0 x1 x2 r) (win x3) ⟨384 + l.val, by omega⟩ := by
  unfold out0_13
  refine (View.canon_apply_of_pieces (Val := Elt Ideal) (e := .f32) (k0_pay48 x0 x1 x2 x3 x4 x5 x6 x7 x8) _ ?_
    (ix2 r l : S256x128.Idx) (cover0_13 _ _)).trans (misc_apply x0 x1 x2 x3 x4 x5 x6 x7 x8 r l)
  intro pc hpc
  rcases List.mem_cons.mp hpc with rfl | hpc
  · intro x
    exact congrArg (k0_pay48 x0 x1 x2 x3 x4 x5 x6 x7 x8) (ext2 (by show (x 0).val = 0 + 1 * (x 0).val; omega) (by show (x 1).val = 0 + 1 * (x 1).val; omega))
  nomatch hpc

/-- The recurrence's queries. -/
theorem out14_apply (r : Fin 256) (j : Fin 512) : out0_14 x0 x1 x2 x3 x4 x5 x6 x7 x8 (ix2 r j : S256x512.Idx)
    = TailSpec.rowMul (hRow x0 x1 x2 r) (win x3) ⟨768 + j.val, by omega⟩ * AbSpec.dScale := by
  unfold out0_14
  refine (View.canon_apply_of_pieces (Val := Elt Ideal) (e := .bf16) (k0_pay44 (k0_pay46 x0 x1 x2 x3 x4 x5 x6 x7 x8) (View.ld x3 r0_30)) _ ?_ (ix2 r j : S256x512.Idx) (cover0_14 _ _)).trans ?_
  · intro pc hpc
    rcases List.mem_cons.mp hpc with rfl | hpc
    · intro x
      exact congrArg (k0_pay44 (k0_pay46 x0 x1 x2 x3 x4 x5 x6 x7 x8) (View.ld x3 r0_30)) (ext2 (by show (x 0).val = 0 + 1 * (x 0).val; omega) (by show (x 1).val = 0 + 1 * (x 1).val; omega))
    nomatch hpc
  · exact congrArg (· * AbSpec.dScale) (win_slab x0 x1 x2 x3 shapeCasts_S1024x512_S1024x512 (View.ld x3 r0_30) 768 (by norm_num) (fun k j => congrArg x3 (ext2 (by show 0 + 1 * k.val = k.val; omega) (by show 768 + 1 * j.val = 768 + j.val; omega))) r j)

/-- The recurrence's keys. -/
theorem out15_apply (r : Fin 256) (j : Fin 512) : out0_15 x0 x1 x2 x3 x4 x5 x6 x7 x8 (ix2 r j : S256x512.Idx)
    = TailSpec.rowMul (hRow x0 x1 x2 r) (win x3) ⟨1280 + j.val, by omega⟩ := by
  unfold out0_15
  refine (View.canon_apply_of_pieces (Val := Elt Ideal) (e := .bf16) (k0_pay45 (k0_pay46 x0 x1 x2 x3 x4 x5 x6 x7 x8) (View.ld x3 r0_31)) _ ?_ (ix2 r j : S256x512.Idx) (cover0_15 _ _)).trans ?_
  · intro pc hpc
    rcases List.mem_cons.mp hpc with rfl | hpc
    · intro x
      exact congrArg (k0_pay45 (k0_pay46 x0 x1 x2 x3 x4 x5 x6 x7 x8) (View.ld x3 r0_31)) (ext2 (by show (x 0).val = 0 + 1 * (x 0).val; omega) (by show (x 1).val = 0 + 1 * (x 1).val; omega))
    nomatch hpc
  · exact (win_slab x0 x1 x2 x3 shapeCasts_S1024x512_S1024x512 (View.ld x3 r0_31) 1280 (by norm_num) (fun k j => congrArg x3 (ext2 (by show 0 + 1 * k.val = k.val; omega) (by show 1280 + 1 * j.val = 1280 + j.val; omega))) r j)

/-- The recurrence's values. -/
theorem out16_apply (r : Fin 256) (j : Fin 512) : out0_16 x0 x1 x2 x3 x4 x5 x6 x7 x8 (ix2 r j : S256x512.Idx)
    = TailSpec.rowMul (hRow x0 x1 x2 r) (win x3) ⟨1792 + j.val, by omega⟩ := by
  unfold out0_16
  refine (View.canon_apply_of_pieces (Val := Elt Ideal) (e := .bf16) (k0_pay1 (k0_pay46 x0 x1 x2 x3 x4 x5 x6 x7 x8) (View.ld x3 r0_32)) _ ?_ (ix2 r j : S256x512.Idx) (cover0_16 _ _)).trans ?_
  · intro pc hpc
    rcases List.mem_cons.mp hpc with rfl | hpc
    · intro x
      exact congrArg (k0_pay1 (k0_pay46 x0 x1 x2 x3 x4 x5 x6 x7 x8) (View.ld x3 r0_32)) (ext2 (by show (x 0).val = 0 + 1 * (x 0).val; omega) (by show (x 1).val = 0 + 1 * (x 1).val; omega))
    nomatch hpc
  · exact (win_slab x0 x1 x2 x3 shapeCasts_S1024x512_S1024x512 (View.ld x3 r0_32) 1792 (by norm_num) (fun k j => congrArg x3 (ext2 (by show 0 + 1 * k.val = k.val; omega) (by show 1792 + 1 * j.val = 1792 + j.val; omega))) r j)

/-- The recurrence's output gate. -/
theorem out17_apply (r : Fin 256) (j : Fin 512) : out0_17 x0 x1 x2 x3 x4 x5 x6 x7 x8 (ix2 r j : S256x512.Idx)
    = TailSpec.rowMul (hRow x0 x1 x2 r) (win x3) ⟨2304 + j.val, by omega⟩ := by
  unfold out0_17
  refine (View.canon_apply_of_pieces (Val := Elt Ideal) (e := .bf16) (k0_pay2 (k0_pay46 x0 x1 x2 x3 x4 x5 x6 x7 x8) (View.ld x3 r0_33)) _ ?_ (ix2 r j : S256x512.Idx) (cover0_17 _ _)).trans ?_
  · intro pc hpc
    rcases List.mem_cons.mp hpc with rfl | hpc
    · intro x
      exact congrArg (k0_pay2 (k0_pay46 x0 x1 x2 x3 x4 x5 x6 x7 x8) (View.ld x3 r0_33)) (ext2 (by show (x 0).val = 0 + 1 * (x 0).val; omega) (by show (x 1).val = 0 + 1 * (x 1).val; omega))
    nomatch hpc
  · exact (win_slab x0 x1 x2 x3 shapeCasts_S1024x512_S1024x512 (View.ld x3 r0_33) 2304 (by norm_num) (fun k j => congrArg x3 (ext2 (by show 0 + 1 * k.val = k.val; omega) (by show 2304 + 1 * j.val = 2304 + j.val; omega))) r j)

end Cert.Kernel8Ideal.Block

end
-- ==== Proof.Array8.lean ====
/-
  The result arrays of the projections before the first layer's attention and recurrence for the prompts, entry by entry.
-/
module

public import proofs.«01_k».proof.Proof.HostIn8
public import proofs.«01_k».proof.Proof.BlockIn8

@[expose] public section

set_option maxRecDepth 16384

noncomputable section

namespace Cert.Kernel8Ideal.Array

open Cert.Kernel8Ideal Cert.Kernel8Ideal.Gen Idealize.ShloMosaic Idealize.ShloMosaic.TcCoe Idealize.SL.Sem Facts Coords
open Idealize.ShloMosaic.Pipeline (Dat)

variable (m : (ℓ : Loc nD τ sig) → Buf (Elt Ideal) ℓ) (ρ : Dev nD → PrngReg) (c : Dev nD)

/-! ## The blocks -/

/-- Which block of each array a grid point stages. -/
theorem index_eq : ∀ t : Fin grid0.N,
    (win0_0.index t 0 = t.val ∧ win0_0.index t 1 = 0) ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) := by
  decide +kernel

/-- Which block of each result array it writes back. -/
theorem out_index : ∀ t : Fin grid0.N,
    (win0_9.index t 0 = t.val ∧ win0_9.index t 1 = 0 ∧ win0_9.index t 2 = 0 ∧ win0_9.index t 3 = 0)
    ∧ (win0_10.index t 0 = t.val ∧ win0_10.index t 1 = 0 ∧ win0_10.index t 2 = 0 ∧ win0_10.index t 3 = 0)
    ∧ (win0_11.index t 0 = t.val ∧ win0_11.index t 1 = 0 ∧ win0_11.index t 2 = 0 ∧ win0_11.index t 3 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0) := by
  decide +kernel

/-- The number of grid points. -/
theorem lt_N (t : Fin cfg0.N) : t.val < 16 := t.isLt

/-- The grid point's request. -/
abbrev reqAt (t : Fin cfg0.N) : Fin 16 := ⟨t.val, lt_N t⟩

/-- Row `r` of point `t`'s block among all rows. -/
abbrev rowAt (t : Fin cfg0.N) (r : Fin 256) : Fin 4096 := ⟨256 * t.val + r.val, by have := lt_N t; omega⟩

theorem blk0 (t : Fin cfg0.N) (r : Fin 256) (k : Fin 1024) :
    (iblk m c 0 t : Vec Ideal S256x1024 .f32) (ix2 r k) = X m c (reqAt t) r k := by
  obtain ⟨⟨i0, i1⟩, -⟩ := index_eq t
  have er : X m c (req (rowAt t r)) (tok (rowAt t r)) k = X m c (reqAt t) r k := congrArg₂ (X m c · · k)
    (Fin.ext (by show (256 * t.val + r.val) / 256 = t.val; omega)) (Fin.ext (by show (256 * t.val + r.val) % 256 = r.val; omega))
  rw [← er, ← host_x]
  unfold iblk
  rw [View.read_apply]
  show V m c main_v32 _ = V m c main_v32 _
  refine congrArg (V m c main_v32) (ext2 ?_ ?_)
  · show win0_0.index t 0 * 256 + 1 * r.val = 256 * t.val + r.val; rw [i0]; omega
  · show win0_0.index t 1 * 1024 + 1 * k.val = k.val; rw [i1]; omega

theorem blk1 (t : Fin cfg0.N) (k : Fin 6144) : (iblk m c 1 t : Vec Ideal S1x1x6144 .f32) (ix3 0 0 k) = Md m c 0 0 k := by
  obtain ⟨-, ⟨i0, i1, i2⟩, -⟩ := index_eq t
  rw [← host_mod]
  unfold iblk
  rw [View.read_apply]
  show V m c main_v33 _ = V m c main_v33 _
  refine congrArg (V m c main_v33) (ext3 ?_ ?_ ?_)
  · show win0_1.index t 0 * 1 + 1 * 0 = 16 * 0 + 0; rw [i0]
  · show win0_1.index t 1 * 1 + 1 * 0 = 0; rw [i1]
  · show win0_1.index t 2 * 6144 + 1 * k.val = k.val; rw [i2]; omega

theorem blk2 (t : Fin cfg0.N) (k : Fin 1024) : (iblk m c 2 t : Vec Ideal S1x1024 .f32) (ix2 0 k) = G m c 0 0 k := by
  obtain ⟨-, -, ⟨i0, i1⟩, -⟩ := index_eq t
  rw [← host_g]
  unfold iblk
  rw [View.read_apply]
  show V m c main_v34 _ = V m c main_v34 _
  refine congrArg (V m c main_v34) (ext2 ?_ ?_)
  · show win0_2.index t 0 * 1 + 1 * 0 = 0; rw [i0]
  · show win0_2.index t 1 * 1024 + 1 * k.val = k.val; rw [i1]; omega

theorem blk3 (t : Fin cfg0.N) (k : Fin 1024) (j : Fin 2816) : (iblk m c 3 t : Vec Ideal S1024x2816 .bf16) (ix2 k j) = AbSpec.winPad (W m c) k j := by
  obtain ⟨-, -, -, ⟨i0, i1⟩, -⟩ := index_eq t
  rw [← host_win]
  unfold iblk
  rw [View.read_apply]
  show V m c main_v15 _ = V m c main_v15 _
  refine congrArg (V m c main_v15) (ext2 ?_ ?_)
  · show win0_3.index t 0 * 1024 + 1 * k.val = k.val; rw [i0]; omega
  · show win0_3.index t 1 * 2816 + 1 * j.val = j.val; rw [i1]; omega

theorem blk4 (t : Fin cfg0.N) (k : Fin 384) : (iblk m c 4 t : Vec Ideal S1x384 .f32) (ix2 0 k) = GQ m c k := by
  obtain ⟨-, -, -, -, ⟨i0, i1⟩, -⟩ := index_eq t
  rw [← host_gq]
  unfold iblk
  rw [View.read_apply]
  show V m c main_v28 _ = V m c main_v28 _
  refine congrArg (V m c main_v28) (ext2 ?_ ?_)
  · show win0_4.index t 0 * 1 + 1 * 0 = 0; rw [i0]
  · show win0_4.index t 1 * 384 + 1 * k.val = k.val; rw [i1]; omega

theorem blk5 (t : Fin cfg0.N) (k : Fin 256) : (iblk m c 5 t : Vec Ideal S1x256 .f32) (ix2 0 k) = GKV m c k := by
  obtain ⟨-, -, -, -, -, ⟨i0, i1⟩, -⟩ := index_eq t
  rw [← host_gkv]
  unfold iblk
  rw [View.read_apply]
  show V m c main_v29 _ = V m c main_v29 _
  refine congrArg (V m c main_v29) (ext2 ?_ ?_)
  · show win0_5.index t 0 * 1 + 1 * 0 = 0; rw [i0]
  · show win0_5.index t 1 * 256 + 1 * k.val = k.val; rw [i1]; omega

theorem blk6 (t : Fin cfg0.N) (k : Fin 384) (j : Fin 1024) : (iblk m c 6 t : Vec Ideal S384x1024 .bf16) (ix2 k j) = AbSpec.wqPad (WQ m c) k j := by
  obtain ⟨-, -, -, -, -, -, ⟨i0, i1⟩, -⟩ := index_eq t
  rw [← host_wq]
  unfold iblk
  rw [View.read_apply]
  show V m c main_v19 _ = V m c main_v19 _
  refine congrArg (V m c main_v19) (ext2 ?_ ?_)
  · show win0_6.index t 0 * 384 + 1 * k.val = k.val; rw [i0]; omega
  · show win0_6.index t 1 * 1024 + 1 * j.val = j.val; rw [i1]; omega

theorem blk7 (t : Fin cfg0.N) (k : Fin 256) (j : Fin 1024) : (iblk m c 7 t : Vec Ideal S256x1024 .bf16) (ix2 k j) = AbSpec.wkPad (WKV m c) k j := by
  obtain ⟨-, -, -, -, -, -, -, ⟨i0, i1⟩, -⟩ := index_eq t
  rw [← host_wk]
  unfold iblk
  rw [View.read_apply]
  show V m c main_v24 _ = V m c main_v24 _
  refine congrArg (V m c main_v24) (ext2 ?_ ?_)
  · show win0_7.index t 0 * 256 + 1 * k.val = k.val; rw [i0]; omega
  · show win0_7.index t 1 * 1024 + 1 * j.val = j.val; rw [i1]; omega

theorem blk8 (t : Fin cfg0.N) (k : Fin 256) (j : Fin 512) : (iblk m c 8 t : Vec Ideal S256x512 .bf16) (ix2 k j) = AbSpec.wvPad (WKV m c) k j := by
  obtain ⟨-, -, -, -, -, -, -, -, ⟨i0, i1⟩⟩ := index_eq t
  rw [← host_wv]
  unfold iblk
  rw [View.read_apply]
  show V m c main_v27 _ = V m c main_v27 _
  refine congrArg (V m c main_v27) (ext2 ?_ ?_)
  · show win0_8.index t 0 * 256 + 1 * k.val = k.val; rw [i0]; omega
  · show win0_8.index t 1 * 512 + 1 * j.val = j.val; rw [i1]; omega

/-! ## The blocks' entries, from the arguments -/

/-- The mixer's input at place `n` of request `b`. -/
def hrow (b : Fin 16) (n : Fin 256) : Fin 1024 → EReal := InSpec.hid (X m c b n) (Md m c 0 0) (G m c 0 0)

theorem hRow_eq (t : Fin cfg0.N) (r : Fin 256) : Block.hRow (iblk m c 0 t) (iblk m c 1 t) (iblk m c 2 t) r = hrow m c (reqAt t) r := by
  unfold hrow
  show InSpec.hid (fun k => (iblk m c 0 t : Vec Ideal S256x1024 .f32) (ix2 r k)) (fun k => (iblk m c 1 t : Vec Ideal S1x1x6144 .f32) (ix3 0 0 k))
    (fun k => (iblk m c 2 t : Vec Ideal S1x1024 .f32) (ix2 0 k)) = _
  rw [show (fun k => (iblk m c 0 t : Vec Ideal S256x1024 .f32) (ix2 r k)) = X m c (reqAt t) r from funext fun k => blk0 m c t r k,
    show (fun k => (iblk m c 1 t : Vec Ideal S1x1x6144 .f32) (ix3 0 0 k)) = Md m c 0 0 from funext fun k => blk1 m c t k,
    show (fun k => (iblk m c 2 t : Vec Ideal S1x1024 .f32) (ix2 0 k)) = G m c 0 0 from funext fun k => blk2 m c t k]

theorem win_eq (t : Fin cfg0.N) : Block.win (iblk m c 3 t) = AbSpec.winPad (W m c) := funext fun k => funext fun j => blk3 m c t k j
theorem gainQ_eq (t : Fin cfg0.N) : Block.gainQ (iblk m c 4 t) = GQ m c := funext fun k => blk4 m c t k
theorem gainKv_eq (t : Fin cfg0.N) : Block.gainKv (iblk m c 5 t) = GKV m c := funext fun k => blk5 m c t k
theorem wq_eq (t : Fin cfg0.N) : Block.wq (iblk m c 6 t) = AbSpec.wqPad (WQ m c) := funext fun k => funext fun j => blk6 m c t k j
theorem wk_eq (t : Fin cfg0.N) : Block.wk (iblk m c 7 t) = AbSpec.wkPad (WKV m c) := funext fun k => funext fun j => blk7 m c t k j
theorem wv_eq (t : Fin cfg0.N) : Block.wv (iblk m c 8 t) = AbSpec.wvPad (WKV m c) := funext fun k => funext fun j => blk8 m c t k j

theorem query_apply (t : Fin cfg0.N) (r : Fin 256) (d : Fin 8) (l : Fin 128) :
    Block.qEnt (iblk m c 0 t) (iblk m c 1 t) (iblk m c 2 t) (iblk m c 3 t) (iblk m c 4 t) (iblk m c 6 t) r ⟨128 * d.val + l.val, by omega⟩
      = AbSpec.query (hrow m c (reqAt t) r) (W m c) (GQ m c) (WQ m c) d l := by
  unfold Block.qEnt
  rw [hRow_eq, win_eq, gainQ_eq, wq_eq]
  exact AbSpec.query_eq _ _ _ _ d l

theorem key_apply (t : Fin cfg0.N) (r : Fin 256) (d : Fin 8) (l : Fin 128) :
    Block.kEnt (iblk m c 0 t) (iblk m c 1 t) (iblk m c 2 t) (iblk m c 3 t) (iblk m c 5 t) (iblk m c 7 t) r d l
      = AbSpec.key (hrow m c (reqAt t) r) (W m c) (GKV m c) (WKV m c) d l := by
  unfold Block.kEnt
  rw [hRow_eq, win_eq, gainKv_eq, wk_eq]
  exact AbSpec.key_eq _ _ _ _ d l

theorem value_apply (t : Fin cfg0.N) (r : Fin 256) (j : Fin 512) :
    Block.vEnt (iblk m c 0 t) (iblk m c 1 t) (iblk m c 2 t) (iblk m c 3 t) (iblk m c 5 t) (iblk m c 8 t) r j
      = AbSpec.value (hrow m c (reqAt t) r) (W m c) (GKV m c) (WKV m c) j := by
  unfold Block.vEnt
  rw [hRow_eq, win_eq, gainKv_eq, wv_eq]
  exact AbSpec.value_eq _ _ _ _ j

/-! ## The queries, head by head -/

def res0 : Buf (Elt Ideal) ((c : Thread nD τ).loc main_v35_0) := fun i : S16x8x256x128.Idx =>
  AbSpec.query (hrow m c (i 0) (i 2)) (W m c) (GQ m c) (WQ m c) (i 1) (i 3)

theorem flushed_eq9 (t : Fin cfg0.N) : (dats m 0 c).flushed 9 t = ((cfg0.win 9).blk t).view.read (Elt Ideal) (res0 m c) := by
  rw [Value.flushed9]
  refine funext fun j : S1x8x256x128.Idx => ?_
  obtain ⟨h, r, l, rfl⟩ : ∃ (h : Fin 8) (r : Fin 256) (l : Fin 128), j = ix4 0 h r l :=
    ⟨j 1, j 2, j 3, ext4 (by have : (j 0).val < 1 := (j 0).isLt; show (j 0).val = 0; omega) rfl rfl rfl⟩
  obtain ⟨⟨i0, i1, i2, i3⟩, -⟩ := out_index t
  have e : ((cfg0.win 9).blk t).view.read (Elt Ideal) (res0 m c) (ix4 0 h r l : S1x8x256x128.Idx)
      = res0 m c (ix4 (reqAt t) h r l : S16x8x256x128.Idx) := by
    rw [View.read_apply]
    refine congrArg (res0 m c) (ext4 (n := ![16, 8, 256, 128]) ?_ ?_ ?_ ?_)
    · show win0_9.index t 0 * 1 + 1 * 0 = t.val; rw [i0]; omega
    · show win0_9.index t 1 * 8 + 1 * h.val = h.val; rw [i1]; omega
    · show win0_9.index t 2 * 256 + 1 * r.val = r.val; rw [i2]; omega
    · show win0_9.index t 3 * 128 + 1 * l.val = l.val; rw [i3]; omega
  rw [e]
  have ec := Block.out9_apply (iblk m c 0 t) (iblk m c 1 t) (iblk m c 2 t) (iblk m c 3 t) (iblk m c 4 t) (iblk m c 5 t) (iblk m c 6 t) (iblk m c 7 t) (iblk m c 8 t) (ix4 0 h r l : S1x8x256x128.Idx)
  refine ec.trans ?_
  exact query_apply m c t r h l

theorem final0 : (dats m 0 c).arrAt 9 cfg0.N = res0 m c :=
  (dats m 0 c).arrAt_eq_of_cover 9 (res0 m c) (fun t _ => flushed_eq9 m c t) fun i => by
    have h0 : (i 0 : Nat) < 16 := (i 0).isLt
    have h1 : (i 1 : Nat) < 8 := (i 1).isLt
    have h2 : (i 2 : Nat) < 256 := (i 2).isLt
    have h3 : (i 3 : Nat) < 128 := (i 3).isLt
    let t : Fin cfg0.N := ⟨(i 0 : Nat), h0⟩
    obtain ⟨⟨i0, i1, i2, i3⟩, -⟩ := out_index t
    have tv : t.val = (i 0 : Nat) := rfl
    refine ⟨t, flush0_9 t, ?_⟩
    show i ∈ ((View.whole main_v35_0).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [i0]; omega
    | ⟨1, _⟩ =>
      show win0_9.index t 1 * 8 ≤ (i 1 : Nat) ∧ (i 1 : Nat) < win0_9.index t 1 * 8 + 8
      rw [i1]; omega
    | ⟨2, _⟩ =>
      show win0_9.index t 2 * 256 ≤ (i 2 : Nat) ∧ (i 2 : Nat) < win0_9.index t 2 * 256 + 256
      rw [i2]; omega
    | ⟨3, _⟩ =>
      show win0_9.index t 3 * 128 ≤ (i 3 : Nat) ∧ (i 3 : Nat) < win0_9.index t 3 * 128 + 128
      rw [i3]; omega

/-! ## The keys, head by head -/

def res1 : Buf (Elt Ideal) ((c : Thread nD τ).loc main_v35_1) := fun i : S16x8x256x128.Idx =>
  AbSpec.key (hrow m c (i 0) (i 2)) (W m c) (GKV m c) (WKV m c) (i 1) (i 3)

theorem flushed_eq10 (t : Fin cfg0.N) : (dats m 0 c).flushed 10 t = ((cfg0.win 10).blk t).view.read (Elt Ideal) (res1 m c) := by
  rw [Value.flushed10]
  refine funext fun j : S1x8x256x128.Idx => ?_
  obtain ⟨h, r, l, rfl⟩ : ∃ (h : Fin 8) (r : Fin 256) (l : Fin 128), j = ix4 0 h r l :=
    ⟨j 1, j 2, j 3, ext4 (by have : (j 0).val < 1 := (j 0).isLt; show (j 0).val = 0; omega) rfl rfl rfl⟩
  obtain ⟨-, ⟨i0, i1, i2, i3⟩, -⟩ := out_index t
  have e : ((cfg0.win 10).blk t).view.read (Elt Ideal) (res1 m c) (ix4 0 h r l : S1x8x256x128.Idx)
      = res1 m c (ix4 (reqAt t) h r l : S16x8x256x128.Idx) := by
    rw [View.read_apply]
    refine congrArg (res1 m c) (ext4 (n := ![16, 8, 256, 128]) ?_ ?_ ?_ ?_)
    · show win0_10.index t 0 * 1 + 1 * 0 = t.val; rw [i0]; omega
    · show win0_10.index t 1 * 8 + 1 * h.val = h.val; rw [i1]; omega
    · show win0_10.index t 2 * 256 + 1 * r.val = r.val; rw [i2]; omega
    · show win0_10.index t 3 * 128 + 1 * l.val = l.val; rw [i3]; omega
  rw [e]
  have ec := Block.out10_apply (iblk m c 0 t) (iblk m c 1 t) (iblk m c 2 t) (iblk m c 3 t) (iblk m c 4 t) (iblk m c 5 t) (iblk m c 6 t) (iblk m c 7 t) (iblk m c 8 t) (ix4 0 h r l : S1x8x256x128.Idx)
  refine ec.trans ?_
  exact key_apply m c t r h l

theorem final1 : (dats m 0 c).arrAt 10 cfg0.N = res1 m c :=
  (dats m 0 c).arrAt_eq_of_cover 10 (res1 m c) (fun t _ => flushed_eq10 m c t) fun i => by
    have h0 : (i 0 : Nat) < 16 := (i 0).isLt
    have h1 : (i 1 : Nat) < 8 := (i 1).isLt
    have h2 : (i 2 : Nat) < 256 := (i 2).isLt
    have h3 : (i 3 : Nat) < 128 := (i 3).isLt
    let t : Fin cfg0.N := ⟨(i 0 : Nat), h0⟩
    obtain ⟨-, ⟨i0, i1, i2, i3⟩, -⟩ := out_index t
    have tv : t.val = (i 0 : Nat) := rfl
    refine ⟨t, flush0_10 t, ?_⟩
    show i ∈ ((View.whole main_v35_1).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [i0]; omega
    | ⟨1, _⟩ =>
      show win0_10.index t 1 * 8 ≤ (i 1 : Nat) ∧ (i 1 : Nat) < win0_10.index t 1 * 8 + 8
      rw [i1]; omega
    | ⟨2, _⟩ =>
      show win0_10.index t 2 * 256 ≤ (i 2 : Nat) ∧ (i 2 : Nat) < win0_10.index t 2 * 256 + 256
      rw [i2]; omega
    | ⟨3, _⟩ =>
      show win0_10.index t 3 * 128 ≤ (i 3 : Nat) ∧ (i 3 : Nat) < win0_10.index t 3 * 128 + 128
      rw [i3]; omega

/-! ## The values, two heads to a block of lanes -/

def res2 : Buf (Elt Ideal) ((c : Thread nD τ).loc main_v35_2) := fun i : S16x4x256x128.Idx =>
  AbSpec.value (hrow m c (i 0) (i 2)) (W m c) (GKV m c) (WKV m c) ⟨128 * (i 1).val + (i 3).val, by
    have : (i 1).val < 4 := (i 1).isLt; have : (i 3).val < 128 := (i 3).isLt; omega⟩

theorem flushed_eq11 (t : Fin cfg0.N) : (dats m 0 c).flushed 11 t = ((cfg0.win 11).blk t).view.read (Elt Ideal) (res2 m c) := by
  rw [Value.flushed11]
  refine funext fun j : S1x4x256x128.Idx => ?_
  obtain ⟨h, r, l, rfl⟩ : ∃ (h : Fin 4) (r : Fin 256) (l : Fin 128), j = ix4 0 h r l :=
    ⟨j 1, j 2, j 3, ext4 (by have : (j 0).val < 1 := (j 0).isLt; show (j 0).val = 0; omega) rfl rfl rfl⟩
  obtain ⟨-, -, ⟨i0, i1, i2, i3⟩, -⟩ := out_index t
  have e : ((cfg0.win 11).blk t).view.read (Elt Ideal) (res2 m c) (ix4 0 h r l : S1x4x256x128.Idx)
      = res2 m c (ix4 (reqAt t) h r l : S16x4x256x128.Idx) := by
    rw [View.read_apply]
    refine congrArg (res2 m c) (ext4 (n := ![16, 4, 256, 128]) ?_ ?_ ?_ ?_)
    · show win0_11.index t 0 * 1 + 1 * 0 = t.val; rw [i0]; omega
    · show win0_11.index t 1 * 4 + 1 * h.val = h.val; rw [i1]; omega
    · show win0_11.index t 2 * 256 + 1 * r.val = r.val; rw [i2]; omega
    · show win0_11.index t 3 * 128 + 1 * l.val = l.val; rw [i3]; omega
  rw [e]
  have ec := Block.out11_apply (iblk m c 0 t) (iblk m c 1 t) (iblk m c 2 t) (iblk m c 3 t) (iblk m c 4 t) (iblk m c 5 t) (iblk m c 6 t) (iblk m c 7 t) (iblk m c 8 t) (ix4 0 h r l : S1x4x256x128.Idx)
  refine ec.trans ?_
  exact value_apply m c t r ⟨128 * h.val + l.val, by omega⟩

theorem final2 : (dats m 0 c).arrAt 11 cfg0.N = res2 m c :=
  (dats m 0 c).arrAt_eq_of_cover 11 (res2 m c) (fun t _ => flushed_eq11 m c t) fun i => by
    have h0 : (i 0 : Nat) < 16 := (i 0).isLt
    have h1 : (i 1 : Nat) < 4 := (i 1).isLt
    have h2 : (i 2 : Nat) < 256 := (i 2).isLt
    have h3 : (i 3 : Nat) < 128 := (i 3).isLt
    let t : Fin cfg0.N := ⟨(i 0 : Nat), h0⟩
    obtain ⟨-, -, ⟨i0, i1, i2, i3⟩, -⟩ := out_index t
    have tv : t.val = (i 0 : Nat) := rfl
    refine ⟨t, flush0_11 t, ?_⟩
    show i ∈ ((View.whole main_v35_2).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [i0]; omega
    | ⟨1, _⟩ =>
      show win0_11.index t 1 * 4 ≤ (i 1 : Nat) ∧ (i 1 : Nat) < win0_11.index t 1 * 4 + 4
      rw [i1]; omega
    | ⟨2, _⟩ =>
      show win0_11.index t 2 * 256 ≤ (i 2 : Nat) ∧ (i 2 : Nat) < win0_11.index t 2 * 256 + 256
      rw [i2]; omega
    | ⟨3, _⟩ =>
      show win0_11.index t 3 * 128 ≤ (i 3 : Nat) ∧ (i 3 : Nat) < win0_11.index t 3 * 128 + 128
      rw [i3]; omega

/-! ## The keys' and values' latent -/

def res3 : Buf (Elt Ideal) ((c : Thread nD τ).loc main_v35_3) := fun i : S4096x256.Idx =>
  AbSpec.kvlat (hrow m c (req (i 0)) (tok (i 0))) (W m c) (GKV m c) (i 1)

theorem flushed_eq12 (t : Fin cfg0.N) : (dats m 0 c).flushed 12 t = ((cfg0.win 12).blk t).view.read (Elt Ideal) (res3 m c) := by
  rw [Value.flushed12]
  refine funext fun j : S256x256.Idx => ?_
  obtain ⟨r, d, rfl⟩ : ∃ (r : Fin 256) (d : Fin 256), j = ix2 r d := ⟨j 0, j 1, ext2 rfl rfl⟩
  obtain ⟨-, -, -, ⟨i0, i1⟩, -⟩ := out_index t
  have e : ((cfg0.win 12).blk t).view.read (Elt Ideal) (res3 m c) (ix2 r d : S256x256.Idx) = AbSpec.kvlat (hrow m c (reqAt t) r) (W m c) (GKV m c) d := by
    rw [View.read_apply, show AbSpec.kvlat (hrow m c (reqAt t) r) (W m c) (GKV m c) d = res3 m c (ix2 (rowAt t r) d : S4096x256.Idx) from
      congrArg₂ (fun b n => AbSpec.kvlat (hrow m c b n) (W m c) (GKV m c) d)
        (Fin.ext (by show t.val = (256 * t.val + r.val) / 256; omega)) (Fin.ext (by show r.val = (256 * t.val + r.val) % 256; omega))]
    refine congrArg (res3 m c) (ext2 (n := ![4096, 256]) ?_ ?_)
    · show win0_12.index t 0 * 256 + 1 * r.val = 256 * t.val + r.val; rw [i0]; omega
    · show win0_12.index t 1 * 256 + 1 * d.val = d.val; rw [i1]; omega
  rw [e]
  have ec := Block.out12_apply (iblk m c 0 t) (iblk m c 1 t) (iblk m c 2 t) (iblk m c 3 t) (iblk m c 4 t) (iblk m c 5 t) (iblk m c 6 t) (iblk m c 7 t) (iblk m c 8 t) r d
  rw [hRow_eq, win_eq, gainKv_eq] at ec
  exact ec.trans (congrFun (AbSpec.kvlat_eq _ _ _) d)

theorem final3 : (dats m 0 c).arrAt 12 cfg0.N = res3 m c :=
  (dats m 0 c).arrAt_eq_of_cover 12 (res3 m c) (fun t _ => flushed_eq12 m c t) fun i => by
    have h0 : (i 0 : Nat) < 4096 := (i 0).isLt
    have h1 : (i 1 : Nat) < 256 := (i 1).isLt
    let t : Fin cfg0.N := ⟨(i 0 : Nat) / 256, by show _ < 16; omega⟩
    obtain ⟨-, -, -, ⟨i0, i1⟩, -⟩ := out_index t
    have tv : t.val = (i 0 : Nat) / 256 := rfl
    refine ⟨t, flush0_12 t, ?_⟩
    show i ∈ ((View.whole main_v35_3).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + 256
      rw [i0]; omega
    | ⟨1, _⟩ =>
      show win0_12.index t 1 * 256 ≤ (i 1 : Nat) ∧ (i 1 : Nat) < win0_12.index t 1 * 256 + 256
      rw [i1]; omega

/-! ## The positional key and the gate -/

def res4 : Buf (Elt Ideal) ((c : Thread nD τ).loc main_v35_4) := fun i : S4096x128.Idx =>
  AbSpec.misc (hrow m c (req (i 0)) (tok (i 0))) (W m c) (i 1)

theorem flushed_eq13 (t : Fin cfg0.N) : (dats m 0 c).flushed 13 t = ((cfg0.win 13).blk t).view.read (Elt Ideal) (res4 m c) := by
  rw [Value.flushed13]
  refine funext fun j : S256x128.Idx => ?_
  obtain ⟨r, d, rfl⟩ : ∃ (r : Fin 256) (d : Fin 128), j = ix2 r d := ⟨j 0, j 1, ext2 rfl rfl⟩
  obtain ⟨-, -, -, -, ⟨i0, i1⟩, -⟩ := out_index t
  have e : ((cfg0.win 13).blk t).view.read (Elt Ideal) (res4 m c) (ix2 r d : S256x128.Idx) = AbSpec.misc (hrow m c (reqAt t) r) (W m c) d := by
    rw [View.read_apply, show AbSpec.misc (hrow m c (reqAt t) r) (W m c) d = res4 m c (ix2 (rowAt t r) d : S4096x128.Idx) from
      congrArg₂ (fun b n => AbSpec.misc (hrow m c b n) (W m c) d)
        (Fin.ext (by show t.val = (256 * t.val + r.val) / 256; omega)) (Fin.ext (by show r.val = (256 * t.val + r.val) % 256; omega))]
    refine congrArg (res4 m c) (ext2 (n := ![4096, 128]) ?_ ?_)
    · show win0_13.index t 0 * 256 + 1 * r.val = 256 * t.val + r.val; rw [i0]; omega
    · show win0_13.index t 1 * 128 + 1 * d.val = d.val; rw [i1]; omega
  rw [e]
  have ec := Block.out13_apply (iblk m c 0 t) (iblk m c 1 t) (iblk m c 2 t) (iblk m c 3 t) (iblk m c 4 t) (iblk m c 5 t) (iblk m c 6 t) (iblk m c 7 t) (iblk m c 8 t) r d
  rw [hRow_eq, win_eq] at ec
  exact ec.trans (AbSpec.misc_eq _ _ d)

theorem final4 : (dats m 0 c).arrAt 13 cfg0.N = res4 m c :=
  (dats m 0 c).arrAt_eq_of_cover 13 (res4 m c) (fun t _ => flushed_eq13 m c t) fun i => by
    have h0 : (i 0 : Nat) < 4096 := (i 0).isLt
    have h1 : (i 1 : Nat) < 128 := (i 1).isLt
    let t : Fin cfg0.N := ⟨(i 0 : Nat) / 256, by show _ < 16; omega⟩
    obtain ⟨-, -, -, -, ⟨i0, i1⟩, -⟩ := out_index t
    have tv : t.val = (i 0 : Nat) / 256 := rfl
    refine ⟨t, flush0_13 t, ?_⟩
    show i ∈ ((View.whole main_v35_4).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + 256
      rw [i0]; omega
    | ⟨1, _⟩ =>
      show win0_13.index t 1 * 128 ≤ (i 1 : Nat) ∧ (i 1 : Nat) < win0_13.index t 1 * 128 + 128
      rw [i1]; omega

/-! ## The recurrence's queries -/

def res5 : Buf (Elt Ideal) ((c : Thread nD τ).loc main_v35_5) := fun i : S4096x512.Idx =>
  AbSpec.gq (hrow m c (req (i 0)) (tok (i 0))) (W m c) (i 1)

theorem flushed_eq14 (t : Fin cfg0.N) : (dats m 0 c).flushed 14 t = ((cfg0.win 14).blk t).view.read (Elt Ideal) (res5 m c) := by
  rw [Value.flushed14]
  refine funext fun j : S256x512.Idx => ?_
  obtain ⟨r, d, rfl⟩ : ∃ (r : Fin 256) (d : Fin 512), j = ix2 r d := ⟨j 0, j 1, ext2 rfl rfl⟩
  obtain ⟨-, -, -, -, -, ⟨i0, i1⟩, -⟩ := out_index t
  have e : ((cfg0.win 14).blk t).view.read (Elt Ideal) (res5 m c) (ix2 r d : S256x512.Idx) = AbSpec.gq (hrow m c (reqAt t) r) (W m c) d := by
    rw [View.read_apply, show AbSpec.gq (hrow m c (reqAt t) r) (W m c) d = res5 m c (ix2 (rowAt t r) d : S4096x512.Idx) from
      congrArg₂ (fun b n => AbSpec.gq (hrow m c b n) (W m c) d)
        (Fin.ext (by show t.val = (256 * t.val + r.val) / 256; omega)) (Fin.ext (by show r.val = (256 * t.val + r.val) % 256; omega))]
    refine congrArg (res5 m c) (ext2 (n := ![4096, 512]) ?_ ?_)
    · show win0_14.index t 0 * 256 + 1 * r.val = 256 * t.val + r.val; rw [i0]; omega
    · show win0_14.index t 1 * 512 + 1 * d.val = d.val; rw [i1]; omega
  rw [e]
  have ec := Block.out14_apply (iblk m c 0 t) (iblk m c 1 t) (iblk m c 2 t) (iblk m c 3 t) (iblk m c 4 t) (iblk m c 5 t) (iblk m c 6 t) (iblk m c 7 t) (iblk m c 8 t) r d
  rw [hRow_eq, win_eq] at ec
  exact ec.trans (AbSpec.gq_eq _ _ d)

theorem final5 : (dats m 0 c).arrAt 14 cfg0.N = res5 m c :=
  (dats m 0 c).arrAt_eq_of_cover 14 (res5 m c) (fun t _ => flushed_eq14 m c t) fun i => by
    have h0 : (i 0 : Nat) < 4096 := (i 0).isLt
    have h1 : (i 1 : Nat) < 512 := (i 1).isLt
    let t : Fin cfg0.N := ⟨(i 0 : Nat) / 256, by show _ < 16; omega⟩
    obtain ⟨-, -, -, -, -, ⟨i0, i1⟩, -⟩ := out_index t
    have tv : t.val = (i 0 : Nat) / 256 := rfl
    refine ⟨t, flush0_14 t, ?_⟩
    show i ∈ ((View.whole main_v35_5).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + 256
      rw [i0]; omega
    | ⟨1, _⟩ =>
      show win0_14.index t 1 * 512 ≤ (i 1 : Nat) ∧ (i 1 : Nat) < win0_14.index t 1 * 512 + 512
      rw [i1]; omega

/-! ## The recurrence's keys -/

def res6 : Buf (Elt Ideal) ((c : Thread nD τ).loc main_v35_6) := fun i : S4096x512.Idx =>
  AbSpec.gk (hrow m c (req (i 0)) (tok (i 0))) (W m c) (i 1)

theorem flushed_eq15 (t : Fin cfg0.N) : (dats m 0 c).flushed 15 t = ((cfg0.win 15).blk t).view.read (Elt Ideal) (res6 m c) := by
  rw [Value.flushed15]
  refine funext fun j : S256x512.Idx => ?_
  obtain ⟨r, d, rfl⟩ : ∃ (r : Fin 256) (d : Fin 512), j = ix2 r d := ⟨j 0, j 1, ext2 rfl rfl⟩
  obtain ⟨-, -, -, -, -, -, ⟨i0, i1⟩, -⟩ := out_index t
  have e : ((cfg0.win 15).blk t).view.read (Elt Ideal) (res6 m c) (ix2 r d : S256x512.Idx) = AbSpec.gk (hrow m c (reqAt t) r) (W m c) d := by
    rw [View.read_apply, show AbSpec.gk (hrow m c (reqAt t) r) (W m c) d = res6 m c (ix2 (rowAt t r) d : S4096x512.Idx) from
      congrArg₂ (fun b n => AbSpec.gk (hrow m c b n) (W m c) d)
        (Fin.ext (by show t.val = (256 * t.val + r.val) / 256; omega)) (Fin.ext (by show r.val = (256 * t.val + r.val) % 256; omega))]
    refine congrArg (res6 m c) (ext2 (n := ![4096, 512]) ?_ ?_)
    · show win0_15.index t 0 * 256 + 1 * r.val = 256 * t.val + r.val; rw [i0]; omega
    · show win0_15.index t 1 * 512 + 1 * d.val = d.val; rw [i1]; omega
  rw [e]
  have ec := Block.out15_apply (iblk m c 0 t) (iblk m c 1 t) (iblk m c 2 t) (iblk m c 3 t) (iblk m c 4 t) (iblk m c 5 t) (iblk m c 6 t) (iblk m c 7 t) (iblk m c 8 t) r d
  rw [hRow_eq, win_eq] at ec
  exact ec.trans (AbSpec.gk_eq _ _ d)

theorem final6 : (dats m 0 c).arrAt 15 cfg0.N = res6 m c :=
  (dats m 0 c).arrAt_eq_of_cover 15 (res6 m c) (fun t _ => flushed_eq15 m c t) fun i => by
    have h0 : (i 0 : Nat) < 4096 := (i 0).isLt
    have h1 : (i 1 : Nat) < 512 := (i 1).isLt
    let t : Fin cfg0.N := ⟨(i 0 : Nat) / 256, by show _ < 16; omega⟩
    obtain ⟨-, -, -, -, -, -, ⟨i0, i1⟩, -⟩ := out_index t
    have tv : t.val = (i 0 : Nat) / 256 := rfl
    refine ⟨t, flush0_15 t, ?_⟩
    show i ∈ ((View.whole main_v35_6).slice (win0_15.rect t)).set
    rw [View.set_slice_whole, Rect.mem_set_unit]
    intro a
    match a with
    | ⟨0, _⟩ =>
      show win0_15.index t 0 * 256 ≤ (i 0 : Nat) ∧ (i 0 : Nat) < win0_15.index t 0 * 256 + 256
      rw [i0]; omega
    | ⟨1, _⟩ =>
      show win0_15.index t 1 * 512 ≤ (i 1 : Nat) ∧ (i 1 : Nat) < win0_15.index t 1 * 512 + 512
      rw [i1]; omega

/-! ## The recurrence's values -/

def res7 : Buf (Elt Ideal) ((c : Thread nD τ).loc main_v35_7) := fun i : S4096x512.Idx =>
  AbSpec.gv (hrow m c (req (i 0)) (tok (i 0))) (W m c) (i 1)

theorem flushed_eq16 (t : Fin cfg0.N) : (dats m 0 c).flushed 16 t = ((cfg0.win 16).blk t).view.read (Elt Ideal) (res7 m c) := by
  rw [Value.flushed16]
  refine funext fun j : S256x512.Idx => ?_
  obtain ⟨r, d, rfl⟩ : ∃ (r : Fin 256) (d : Fin 512), j = ix2 r d := ⟨j 0, j 1, ext2 rfl rfl⟩
  obtain ⟨-, -, -, -, -, -, -, ⟨i0, i1⟩, -⟩ := out_index t
  have e : ((cfg0.win 16).blk t).view.read (Elt Ideal) (res7 m c) (ix2 r d : S256x512.Idx) = AbSpec.gv (hrow m c (reqAt t) r) (W m c) d := by
    rw [View.read_apply, show AbSpec.gv (hrow m c (reqAt t) r) (W m c) d = res7 m c (ix2 (rowAt t r) d : S4096x512.Idx) from
      congrArg₂ (fun b n => AbSpec.gv (hrow m c b n) (W m c) d)
        (Fin.ext (by show t.val = (256 * t.val + r.val) / 256; omega)) (Fin.ext (by show r.val = (256 * t.val + r.val) % 256; omega))]
    refine congrArg (res7 m c) (ext2 (n := ![4096, 512]) ?_ ?_)
    · show win0_16.index t 0 * 256 + 1 * r.val = 256 * t.val + r.val; rw [i0]; omega
    · show win0_16.index t 1 * 512 + 1 * d.val = d.val; rw [i1]; omega
  rw [e]
  have ec := Block.out16_apply (iblk m c 0 t) (iblk m c 1 t) (iblk m c 2 t) (iblk m c 3 t) (iblk m c 4 t) (iblk m c 5 t) (iblk m c 6 t) (iblk m c 7 t) (iblk m c 8 t) r d
  rw [hRow_eq, win_eq] at ec
  exact ec.trans (AbSpec.gv_eq _ _ d)

theorem final7 : (dats m 0 c).arrAt 16 cfg0.N = res7 m c :=
  (dats m 0 c).arrAt_eq_of_cover 16 (res7 m c) (fun t _ => flushed_eq16 m c t) fun i => by
    have h0 : (i 0 : Nat) < 4096 := (i 0).isLt
    have h1 : (i 1 : Nat) < 512 := (i 1).isLt
    let t : Fin cfg0.N := ⟨(i 0 : Nat) / 256, by show _ < 16; omega⟩
    obtain ⟨-, -, -, -, -, -, -, ⟨i0, i1⟩, -⟩ := out_index t
    have tv : t.val = (i 0 : Nat) / 256 := rfl
    refine ⟨t, flush0_16 t, ?_⟩
    show i ∈ ((View.whole main_v35_7).slice (win0_16.rect t)).set
    rw [View.set_slice_whole, Rect.mem_set_unit]
    intro a
    match a with
    | ⟨0, _⟩ =>
      show win0_16.index t 0 * 256 ≤ (i 0 : Nat) ∧ (i 0 : Nat) < win0_16.index t 0 * 256 + 256
      rw [i0]; omega
    | ⟨1, _⟩ =>
      show win0_16.index t 1 * 512 ≤ (i 1 : Nat) ∧ (i 1 : Nat) < win0_16.index t 1 * 512 + 512
      rw [i1]; omega

/-! ## The recurrence's output gate -/

def res8 : Buf (Elt Ideal) ((c : Thread nD τ).loc main_v35_8) := fun i : S4096x512.Idx =>
  AbSpec.gout (hrow m c (req (i 0)) (tok (i 0))) (W m c) (i 1)

theorem flushed_eq17 (t : Fin cfg0.N) : (dats m 0 c).flushed 17 t = ((cfg0.win 17).blk t).view.read (Elt Ideal) (res8 m c) := by
  rw [Value.flushed17]
  refine funext fun j : S256x512.Idx => ?_
  obtain ⟨r, d, rfl⟩ : ∃ (r : Fin 256) (d : Fin 512), j = ix2 r d := ⟨j 0, j 1, ext2 rfl rfl⟩
  obtain ⟨-, -, -, -, -, -, -, -, ⟨i0, i1⟩⟩ := out_index t
  have e : ((cfg0.win 17).blk t).view.read (Elt Ideal) (res8 m c) (ix2 r d : S256x512.Idx) = AbSpec.gout (hrow m c (reqAt t) r) (W m c) d := by
    rw [View.read_apply, show AbSpec.gout (hrow m c (reqAt t) r) (W m c) d = res8 m c (ix2 (rowAt t r) d : S4096x512.Idx) from
      congrArg₂ (fun b n => AbSpec.gout (hrow m c b n) (W m c) d)
        (Fin.ext (by show t.val = (256 * t.val + r.val) / 256; omega)) (Fin.ext (by show r.val = (256 * t.val + r.val) % 256; omega))]
    refine congrArg (res8 m c) (ext2 (n := ![4096, 512]) ?_ ?_)
    · show win0_17.index t 0 * 256 + 1 * r.val = 256 * t.val + r.val; rw [i0]; omega
    · show win0_17.index t 1 * 512 + 1 * d.val = d.val; rw [i1]; omega
  rw [e]
  have ec := Block.out17_apply (iblk m c 0 t) (iblk m c 1 t) (iblk m c 2 t) (iblk m c 3 t) (iblk m c 4 t) (iblk m c 5 t) (iblk m c 6 t) (iblk m c 7 t) (iblk m c 8 t) r d
  rw [hRow_eq, win_eq] at ec
  exact ec.trans (AbSpec.gout_eq _ _ d)

theorem final8 : (dats m 0 c).arrAt 17 cfg0.N = res8 m c :=
  (dats m 0 c).arrAt_eq_of_cover 17 (res8 m c) (fun t _ => flushed_eq17 m c t) fun i => by
    have h0 : (i 0 : Nat) < 4096 := (i 0).isLt
    have h1 : (i 1 : Nat) < 512 := (i 1).isLt
    let t : Fin cfg0.N := ⟨(i 0 : Nat) / 256, by show _ < 16; omega⟩
    obtain ⟨-, -, -, -, -, -, -, -, ⟨i0, i1⟩⟩ := out_index t
    have tv : t.val = (i 0 : Nat) / 256 := rfl
    refine ⟨t, flush0_17 t, ?_⟩
    show i ∈ ((View.whole main_v35_8).slice (win0_17.rect t)).set
    rw [View.set_slice_whole, Rect.mem_set_unit]
    intro a
    match a with
    | ⟨0, _⟩ =>
      show win0_17.index t 0 * 256 ≤ (i 0 : Nat) ∧ (i 0 : Nat) < win0_17.index t 0 * 256 + 256
      rw [i0]; omega
    | ⟨1, _⟩ =>
      show win0_17.index t 1 * 512 ≤ (i 1 : Nat) ∧ (i 1 : Nat) < win0_17.index t 1 * 512 + 512
      rw [i1]; omega

end Cert.Kernel8Ideal.Array

end
-- ==== Proof.RefIn8.lean ====
/-
  The reference's results at the projections before the first layer's attention and recurrence, for the prompts, entry by entry.
-/
module

public import Idealize.ShloMosaic.Lib.Pointwise.Index
public import Idealize.ShloMosaic.PureOps.Ideal.Laws
public import proofs.«01_k».proof.Proof.AbSpec
public import proofs.«01_k».proof.Proof.Coords
public import proofs.«01_k».proof.Proof.Gen.Reference8Ideal.Read

@[expose] public section

set_option maxRecDepth 16384

noncomputable section

namespace Cert.Reference8Ideal.Enter

open Cert.Reference8Ideal Cert.Reference8Ideal.Gen Cert.Reference8Ideal.Read Idealize.ShloMosaic Idealize.SL.Sem Coords

variable (x0 : Vec Ideal S16x256x1024 .f32) (x1 : Vec Ideal S2x16x6144 .f32) (x2 : Vec Ideal S2x4x1024 .f32) (x3 : Vec Ideal S1x1024x2752 .f32)

/-! ## The layer's modulation and gain, and the weights -/

theorem mod_apply (k : Fin 6144) : (val_main_v2 (F := Ideal) x1) (ix3 0 0 k) = x1 (ix3 0 0 k) := by
  rw [val_main_v2_apply, val_main_v1_apply, val_main_v0_apply]
  refine congrArg x1 (ext3 ?_ ?_ ?_)
  · rfl
  · rfl
  · show (0 * 6144 + k.val) % 6144 = k.val; omega

/-- The shift. -/
theorem shift_apply (d : Fin 1024) : (val_main_v6 (F := Ideal) x1) (ix3 0 0 d) = x1 (ix3 0 0 (TailSpec.part 0 d)) := by
  rw [val_main_v6_apply, ← mod_apply x1]
  exact congrArg (val_main_v2 (F := Ideal) x1) (ext3 rfl rfl (by show d.val = 1024 * 0 + d.val; omega))

/-- The scale. -/
theorem scale_apply (d : Fin 1024) : (val_main_v7 (F := Ideal) x1) (ix3 0 0 d) = x1 (ix3 0 0 (TailSpec.part 1 d)) := by
  rw [val_main_v7_apply, ← mod_apply x1]
  exact congrArg (val_main_v2 (F := Ideal) x1) (ext3 rfl rfl (by show 1024 + d.val = 1024 * 1 + d.val; omega))

theorem g_apply (j : Fin 4) (d : Fin 1024) : (val_main_v4 (F := Ideal) x2) (ix2 j d) = x2 (ix3 0 j d) := by
  rw [val_main_v4_apply, val_main_v3_apply]
  refine congrArg x2 (ext3 ?_ ?_ ?_)
  · rfl
  · show (j.val * 1024 + d.val) / 1024 % 4 = j.val; omega
  · show (j.val * 1024 + d.val) % 1024 = d.val; omega

theorem w_apply (k : Fin 1024) (j : Fin 2752) : (val_main_v5 (F := Ideal) x3) (ix2 k j) = x3 (ix3 0 k j) := by
  rw [val_main_v5_apply]
  refine congrArg x3 (ext3 rfl ?_ ?_)
  · show (k.val * 2752 + j.val) / 2752 % 1024 = k.val; omega
  · show (k.val * 2752 + j.val) % 2752 = j.val; omega

/-- The norm's gain. -/
theorem gain_apply (b : Fin 16) (n : Fin 256) (d : Fin 1024) : (val_main_v25 (F := Ideal) x2) (ix3 b n d) = x2 (ix3 0 0 d) := by
  rw [val_main_v25_apply, val_main_v24_apply, val_main_v13_apply, val_main_v12_apply, ← g_apply x2 0 d]
  refine congrArg (val_main_v4 (F := Ideal) x2) (ext2 ?_ ?_)
  · rfl
  · show d.val % 1024 = d.val; omega

/-! ## The mixer's input and its projections -/

theorem norm_apply (b : Fin 16) (n : Fin 256) (d : Fin 1024) :
    (val_main_v26 (F := Ideal) x0 x2) (ix3 b n d) = TailSpec.rms (fun k => x0 (ix3 b n k)) (fun k => x2 (ix3 0 0 k)) d := by
  have es : (val_main_v15 (F := Ideal) x0) (ix2 b n) = ∑ k, x0 (ix3 b n k) * x0 (ix3 b n k) := by
    rw [val_main_v15_apply, val_main_cst_apply]
    show Ideal.ofBits .f32 0x00000000#32 + _ = _
    rw [Ideal.ofBits_zero_f32, zero_add]
    refine Finset.sum_congr rfl fun k _ => ?_
    rw [show idx_main_v15 (ix2 b n) k = ix3 b n k from ext3 rfl rfl rfl, val_main_v14_apply]
    rfl
  rw [val_main_v26_apply, gain_apply, val_main_v23_apply, val_main_v22_apply, val_main_v21_apply, val_main_v20_apply, val_main_v18_apply, val_main_v16_apply,
    val_main_v17_apply, val_main_v19_apply, val_main_cst_0_apply, val_main_cst_1_apply,
    show idx_main_v16 (idx_main_v22 (ix3 b n d)) = ix2 b n from ext2 rfl rfl, es]
  rfl

/-- The arguments' rows. -/
abbrev row (b : Fin 16) (n : Fin 256) (k : Fin 1024) : EReal := x0 (ix3 b n k)
abbrev modRow (k : Fin 6144) : EReal := x1 (ix3 0 0 k)
abbrev gainRow (k : Fin 1024) : EReal := x2 (ix3 0 0 k)
abbrev weight (k : Fin 1024) (j : Fin 2752) : EReal := x3 (ix3 0 k j)

theorem hid_apply (b : Fin 16) (n : Fin 256) (d : Fin 1024) :
    (val_main_v32 (F := Ideal) x0 x1 x2) (ix3 b n d) = InSpec.hid (row x0 b n) (modRow x1) (gainRow x2) d := by
  rw [val_main_v32_apply, val_main_v30_apply, norm_apply, val_main_v29_apply, val_main_v31_apply,
    show idx_main_v29 (ix3 b n d) = ix3 0 0 d from ext3 rfl rfl rfl, show idx_main_v31 (ix3 b n d) = ix3 0 0 d from ext3 rfl rfl rfl,
    val_main_v28_apply, val_main_v27_apply, val_main_cst_2_apply, scale_apply, shift_apply]
  rfl

/-- The mixer's input. -/
abbrev hrow (b : Fin 16) (n : Fin 256) : Fin 1024 → EReal := InSpec.hid (row x0 b n) (modRow x1) (gainRow x2)

/-- Column `j` of the projections. -/
theorem proj_apply (b : Fin 16) (n : Fin 256) (j : Fin 2752) :
    (val_main_v33 (F := Ideal) x0 x1 x2 x3) (ix3 b n j) = TailSpec.rowMul (hrow x0 x1 x2 b n) (weight x3) j := by
  rw [val_main_v33_apply]
  unfold TailSpec.rowMul
  refine Finset.sum_congr rfl fun k _ => ?_
  rw [show lidx_main_v33 (ix3 b n j) k = ix3 b n k from ext3 rfl rfl rfl, show ridx_main_v33 (ix3 b n j) k = ix2 k j from ext2 rfl rfl,
    hid_apply, w_apply]

/-! ## The latents -/

variable (x4 : Vec Ideal S1x384 .f32) (x5 : Vec Ideal S1x256 .f32) (x6 : Vec Ideal S1x384x768 .f32) (x7 : Vec Ideal S1x256x1024 .f32)

abbrev gainQ (k : Fin 384) : EReal := x4 (ix2 0 k)
abbrev gainKv (k : Fin 256) : EReal := x5 (ix2 0 k)
abbrev wq (k : Fin 384) (j : Fin 768) : EReal := x6 (ix3 0 k j)
abbrev wkv (k : Fin 256) (j : Fin 1024) : EReal := x7 (ix3 0 k j)

theorem qlat_raw (b : Fin 16) (n : Fin 256) (k : Fin 384) : (val_main_v34 (F := Ideal) x0 x1 x2 x3) (ix3 b n k)
    = TailSpec.rowMul (hrow x0 x1 x2 b n) (weight x3) ⟨k.val, by omega⟩ := by
  rw [val_main_v34_apply, show idx_main_v34 (ix3 b n k) = ix3 b n ⟨k.val, by omega⟩ from ext3 rfl rfl rfl, proj_apply]

/-- The queries' latent, normed. -/
theorem qlat_apply (b : Fin 16) (n : Fin 256) (d : Fin 384) : (val_main_v55 (F := Ideal) x0 x1 x2 x3 x4) (ix3 b n d)
    = AbSpec.qlat (hrow x0 x1 x2 b n) (weight x3) (gainQ x4) d := by
  have es : (val_main_v44 (F := Ideal) x0 x1 x2 x3) (ix2 b n)
      = ∑ k : Fin 384, TailSpec.rowMul (hrow x0 x1 x2 b n) (weight x3) ⟨k.val, by omega⟩ * TailSpec.rowMul (hrow x0 x1 x2 b n) (weight x3) ⟨k.val, by omega⟩ := by
    rw [val_main_v44_apply, val_main_cst_3_apply]
    show Ideal.ofBits .f32 0x00000000#32 + _ = _
    rw [Ideal.ofBits_zero_f32, zero_add]
    refine Finset.sum_congr rfl fun k _ => ?_
    rw [show idx_main_v44 (ix2 b n) k = ix3 b n k from ext3 rfl rfl rfl, val_main_v43_apply, qlat_raw]
    rfl
  have eg : (val_main_v54 (F := Ideal) x4) (ix3 b n d) = x4 (ix2 0 d) := by
    rw [val_main_v54_apply, val_main_v53_apply, val_main_v42_apply]
    exact congrArg x4 (ext2 rfl (by show d.val % 384 = d.val; omega))
  rw [val_main_v55_apply, eg, val_main_v52_apply, val_main_v51_apply, val_main_v50_apply, val_main_v49_apply, val_main_v47_apply, val_main_v45_apply,
    val_main_v46_apply, val_main_v48_apply, val_main_cst_4_apply, val_main_cst_5_apply,
    show idx_main_v45 (idx_main_v51 (ix3 b n d)) = ix2 b n from ext2 rfl rfl, es, qlat_raw]
  rfl

theorem kvlat_raw (b : Fin 16) (n : Fin 256) (k : Fin 256) : (val_main_v35 (F := Ideal) x0 x1 x2 x3) (ix3 b n k)
    = TailSpec.rowMul (hrow x0 x1 x2 b n) (weight x3) ⟨384 + k.val, by omega⟩ := by
  rw [val_main_v35_apply, show idx_main_v35 (ix3 b n k) = ix3 b n ⟨384 + k.val, by omega⟩ from ext3 rfl rfl rfl, proj_apply]

/-- The keys' and values' latent, normed. -/
theorem kvlat_apply (b : Fin 16) (n : Fin 256) (d : Fin 256) : (val_main_v74 (F := Ideal) x0 x1 x2 x3 x5) (ix3 b n d)
    = AbSpec.kvlat (hrow x0 x1 x2 b n) (weight x3) (gainKv x5) d := by
  have es : (val_main_v63 (F := Ideal) x0 x1 x2 x3) (ix2 b n)
      = ∑ k : Fin 256, TailSpec.rowMul (hrow x0 x1 x2 b n) (weight x3) ⟨384 + k.val, by omega⟩ * TailSpec.rowMul (hrow x0 x1 x2 b n) (weight x3) ⟨384 + k.val, by omega⟩ := by
    rw [val_main_v63_apply, val_main_cst_7_apply]
    show Ideal.ofBits .f32 0x00000000#32 + _ = _
    rw [Ideal.ofBits_zero_f32, zero_add]
    refine Finset.sum_congr rfl fun k _ => ?_
    rw [show idx_main_v63 (ix2 b n) k = ix3 b n k from ext3 rfl rfl rfl, val_main_v62_apply, kvlat_raw]
    rfl
  have eg : (val_main_v73 (F := Ideal) x5) (ix3 b n d) = x5 (ix2 0 d) := by
    rw [val_main_v73_apply, val_main_v72_apply, val_main_v61_apply]
    exact congrArg x5 (ext2 rfl (by show d.val % 256 = d.val; omega))
  rw [val_main_v74_apply, eg, val_main_v71_apply, val_main_v70_apply, val_main_v69_apply, val_main_v68_apply, val_main_v66_apply, val_main_v64_apply,
    val_main_v65_apply, val_main_v67_apply, val_main_cst_8_apply, val_main_cst_9_apply,
    show idx_main_v64 (idx_main_v70 (ix3 b n d)) = ix2 b n from ext2 rfl rfl, es, kvlat_raw]
  rfl

theorem krope_apply (b : Fin 16) (n : Fin 256) (l : Fin 32) : (val_main_v36 (F := Ideal) x0 x1 x2 x3) (ix3 b n l)
    = AbSpec.krope (hrow x0 x1 x2 b n) (weight x3) l := by
  rw [val_main_v36_apply, show idx_main_v36 (ix3 b n l) = ix3 b n ⟨640 + l.val, by omega⟩ from ext3 rfl rfl rfl, proj_apply]
  rfl

/-! ## The heads before the zeros behind them -/

/-- A query's lane. -/
theorem query_apply (b : Fin 16) (n : Fin 256) (d : Fin 8) (l : Fin 96) : (val_main_v60 (F := Ideal) x0 x1 x2 x3 x4 x6) (ix4 b n d l)
    = TailSpec.rowMul (AbSpec.qlat (hrow x0 x1 x2 b n) (weight x3) (gainQ x4)) (wq x6) ⟨96 * d.val + l.val, by omega⟩ * AbSpec.qScale := by
  have e : idx_main_v58 (ix4 b n d l) = ix3 b n ⟨96 * d.val + l.val, by omega⟩ := ext3
    (by show (((b.val * 256 + n.val) * 8 + d.val) * 96 + l.val) / 196608 = b.val; omega)
    (by show (((b.val * 256 + n.val) * 8 + d.val) * 96 + l.val) / 768 % 256 = n.val; omega)
    (by show (((b.val * 256 + n.val) * 8 + d.val) * 96 + l.val) % 768 = 96 * d.val + l.val; omega)
  have ep : (val_main_v57 (F := Ideal) x0 x1 x2 x3 x4 x6) (ix3 b n ⟨96 * d.val + l.val, by omega⟩)
      = TailSpec.rowMul (AbSpec.qlat (hrow x0 x1 x2 b n) (weight x3) (gainQ x4)) (wq x6) ⟨96 * d.val + l.val, by omega⟩ := by
    rw [val_main_v57_apply]
    unfold TailSpec.rowMul
    refine Finset.sum_congr rfl fun k _ => ?_
    rw [show lidx_main_v57 (ix3 b n ⟨96 * d.val + l.val, by omega⟩) k = ix3 b n k from ext3 rfl rfl rfl,
      show ridx_main_v57 (ix3 b n ⟨96 * d.val + l.val, by omega⟩) k = ix2 k ⟨96 * d.val + l.val, by omega⟩ from ext2 rfl rfl, qlat_apply, val_main_v56_apply]
    refine congrArg (_ * x6 ·) (ext3 rfl ?_ ?_)
    · show (k.val * 768 + (96 * d.val + l.val)) / 768 % 384 = k.val; omega
    · show (k.val * 768 + (96 * d.val + l.val)) % 768 = 96 * d.val + l.val; omega
  rw [val_main_v60_apply, val_main_v58_apply, e, ep, val_main_v59_apply, val_main_cst_6_apply]
  rfl

/-- A lane of the keys' and values' heads. -/
theorem heads_apply (b : Fin 16) (n : Fin 256) (d : Fin 8) (l : Fin 128) : (val_main_v77 (F := Ideal) x0 x1 x2 x3 x5 x7) (ix4 b n d l)
    = TailSpec.rowMul (AbSpec.kvlat (hrow x0 x1 x2 b n) (weight x3) (gainKv x5)) (wkv x7) ⟨128 * d.val + l.val, by omega⟩ := by
  have e : idx_main_v77 (ix4 b n d l) = ix3 b n ⟨128 * d.val + l.val, by omega⟩ := ext3
    (by show (((b.val * 256 + n.val) * 8 + d.val) * 128 + l.val) / 262144 = b.val; omega)
    (by show (((b.val * 256 + n.val) * 8 + d.val) * 128 + l.val) / 1024 % 256 = n.val; omega)
    (by show (((b.val * 256 + n.val) * 8 + d.val) * 128 + l.val) % 1024 = 128 * d.val + l.val; omega)
  rw [val_main_v77_apply, e, val_main_v76_apply]
  unfold TailSpec.rowMul
  refine Finset.sum_congr rfl fun k _ => ?_
  rw [show lidx_main_v76 (ix3 b n ⟨128 * d.val + l.val, by omega⟩) k = ix3 b n k from ext3 rfl rfl rfl,
    show ridx_main_v76 (ix3 b n ⟨128 * d.val + l.val, by omega⟩) k = ix2 k ⟨128 * d.val + l.val, by omega⟩ from ext2 rfl rfl, kvlat_apply, val_main_v75_apply]
  refine congrArg (_ * x7 ·) (ext3 rfl ?_ ?_)
  · show (k.val * 1024 + (128 * d.val + l.val)) / 1024 % 256 = k.val; omega
  · show (k.val * 1024 + (128 * d.val + l.val)) % 1024 = 128 * d.val + l.val; omega

/-- The positional key, the same for each head. -/
theorem shared_apply (b : Fin 16) (n : Fin 256) (d : Fin 8) (l : Fin 32) : (val_main_v81 (F := Ideal) x0 x1 x2 x3) (ix4 b n d l)
    = AbSpec.krope (hrow x0 x1 x2 b n) (weight x3) l := by
  rw [val_main_v81_apply, val_main_v80_apply, show idx_main_v80 (idx_main_v81 (ix4 b n d l)) = ix3 b n l from ext3 rfl rfl rfl, krope_apply]

/-! ## Arrays side by side -/

section Beside

variable {α : Type}

/-- 64 lanes and 32 behind them. -/
theorem lanes96 {B N : ℕ} (u : (⟨4, ![B, N, 8, 64]⟩ : Shape).Idx → α) (v : (⟨4, ![B, N, 8, 32]⟩ : Shape).Idx → α)
    (hc : Shape.Concatenates [(⟨4, ![B, N, 8, 64]⟩ : Shape), (⟨4, ![B, N, 8, 32]⟩ : Shape)] (⟨4, ![B, N, 8, 96]⟩ : Shape) 3)
    (b : Fin B) (n : Fin N) (d : Fin 8) (l : Fin 96) :
    concatenate (⟨4, ![B, N, 8, 96]⟩ : Shape) 3 [⟨(⟨4, ![B, N, 8, 64]⟩ : Shape), u⟩, ⟨(⟨4, ![B, N, 8, 32]⟩ : Shape), v⟩] hc (ix4 b n d l)
      = if h : l.val < 64 then u (ix4 b n d ⟨l.val, h⟩) else v (ix4 b n d ⟨l.val - 64, by omega⟩) := by
  by_cases h : l.val < 64
  · rw [dif_pos h]
    exact concatenate_pair_apply_left 3 u v hc (ix4 b n d l) rfl (ix4 b n d ⟨l.val, h⟩) fun a => by
      match a with
      | ⟨0, _⟩ => rfl
      | ⟨1, _⟩ => rfl
      | ⟨2, _⟩ => rfl
      | ⟨3, _⟩ => rfl
  · rw [dif_neg h]
    exact concatenate_pair_apply_right 3 u v hc (ix4 b n d l) rfl rfl (ix4 b n d ⟨l.val - 64, by omega⟩)
      (fun a ha => by
        match a with
        | ⟨0, _⟩ => rfl
        | ⟨1, _⟩ => rfl
        | ⟨2, _⟩ => rfl
        | ⟨3, _⟩ => exact absurd rfl ha)
      (by show l.val - 64 + 64 = l.val; omega)

/-- 96 lanes and 32 behind them. -/
theorem lanes128 {B N : ℕ} (u : (⟨4, ![B, N, 8, 96]⟩ : Shape).Idx → α) (v : (⟨4, ![B, N, 8, 32]⟩ : Shape).Idx → α)
    (hc : Shape.Concatenates [(⟨4, ![B, N, 8, 96]⟩ : Shape), (⟨4, ![B, N, 8, 32]⟩ : Shape)] (⟨4, ![B, N, 8, 128]⟩ : Shape) 3)
    (b : Fin B) (n : Fin N) (d : Fin 8) (l : Fin 128) :
    concatenate (⟨4, ![B, N, 8, 128]⟩ : Shape) 3 [⟨(⟨4, ![B, N, 8, 96]⟩ : Shape), u⟩, ⟨(⟨4, ![B, N, 8, 32]⟩ : Shape), v⟩] hc (ix4 b n d l)
      = if h : l.val < 96 then u (ix4 b n d ⟨l.val, h⟩) else v (ix4 b n d ⟨l.val - 96, by omega⟩) := by
  by_cases h : l.val < 96
  · rw [dif_pos h]
    exact concatenate_pair_apply_left 3 u v hc (ix4 b n d l) rfl (ix4 b n d ⟨l.val, h⟩) fun a => by
      match a with
      | ⟨0, _⟩ => rfl
      | ⟨1, _⟩ => rfl
      | ⟨2, _⟩ => rfl
      | ⟨3, _⟩ => rfl
  · rw [dif_neg h]
    exact concatenate_pair_apply_right 3 u v hc (ix4 b n d l) rfl rfl (ix4 b n d ⟨l.val - 96, by omega⟩)
      (fun a ha => by
        match a with
        | ⟨0, _⟩ => rfl
        | ⟨1, _⟩ => rfl
        | ⟨2, _⟩ => rfl
        | ⟨3, _⟩ => exact absurd rfl ha)
      (by show l.val - 96 + 96 = l.val; omega)

/-- 32 lanes of a row and 32 behind them. -/
theorem row64 (u v : S16x256x32.Idx → α) (b : Fin 16) (n : Fin 256) (l : Fin 64) :
    concatenate S16x256x64 2 [⟨S16x256x32, u⟩, ⟨S16x256x32, v⟩] concatenates_S16x256x32_S16x256x32_S16x256x64_d2 (ix3 b n l)
      = if h : l.val < 32 then u (ix3 b n ⟨l.val, h⟩) else v (ix3 b n ⟨l.val - 32, by omega⟩) := by
  by_cases h : l.val < 32
  · rw [dif_pos h]
    exact concatenate_pair_apply_left 2 u v concatenates_S16x256x32_S16x256x32_S16x256x64_d2 (ix3 b n l) rfl (ix3 b n ⟨l.val, h⟩) fun a => by
      match a with
      | ⟨0, _⟩ => rfl
      | ⟨1, _⟩ => rfl
      | ⟨2, _⟩ => rfl
  · rw [dif_neg h]
    exact concatenate_pair_apply_right 2 u v concatenates_S16x256x32_S16x256x32_S16x256x64_d2 (ix3 b n l) rfl rfl (ix3 b n ⟨l.val - 32, by omega⟩)
      (fun a ha => by
        match a with
        | ⟨0, _⟩ => rfl
        | ⟨1, _⟩ => rfl
        | ⟨2, _⟩ => exact absurd rfl ha)
      (by show l.val - 32 + 32 = l.val; omega)

/-- 64 lanes of a row and 64 behind them. -/
theorem row128 (u v : S16x256x64.Idx → α) (b : Fin 16) (n : Fin 256) (l : Fin 128) :
    concatenate S16x256x128 2 [⟨S16x256x64, u⟩, ⟨S16x256x64, v⟩] concatenates_S16x256x64_S16x256x64_S16x256x128_d2 (ix3 b n l)
      = if h : l.val < 64 then u (ix3 b n ⟨l.val, h⟩) else v (ix3 b n ⟨l.val - 64, by omega⟩) := by
  by_cases h : l.val < 64
  · rw [dif_pos h]
    exact concatenate_pair_apply_left 2 u v concatenates_S16x256x64_S16x256x64_S16x256x128_d2 (ix3 b n l) rfl (ix3 b n ⟨l.val, h⟩) fun a => by
      match a with
      | ⟨0, _⟩ => rfl
      | ⟨1, _⟩ => rfl
      | ⟨2, _⟩ => rfl
  · rw [dif_neg h]
    exact concatenate_pair_apply_right 2 u v concatenates_S16x256x64_S16x256x64_S16x256x128_d2 (ix3 b n l) rfl rfl (ix3 b n ⟨l.val - 64, by omega⟩)
      (fun a ha => by
        match a with
        | ⟨0, _⟩ => rfl
        | ⟨1, _⟩ => rfl
        | ⟨2, _⟩ => exact absurd rfl ha)
      (by show l.val - 64 + 64 = l.val; omega)

end Beside

/-! ## The results of latent attention's side -/

/-- The queries, head by head. -/
theorem queries (b : Fin 16) (d : Fin 8) (n : Fin 256) (l : Fin 128) : (val_main_v86 (F := Ideal) x0 x1 x2 x3 x4 x6) (ix4 b d n l)
    = AbSpec.query (hrow x0 x1 x2 b n) (weight x3) (gainQ x4) (wq x6) d l := by
  rw [val_main_v86_apply, val_main_v85_apply, show idx_main_v85 (ix4 b d n l) = ix4 b n d l from ext4 rfl rfl rfl rfl]
  unfold val_main_v84 AbSpec.query
  refine (lanes128 _ _ _ b n d l).trans ?_
  by_cases h : l.val < 96
  · rw [dif_pos h, dif_pos h, query_apply]
  · rw [dif_neg h, dif_neg h, val_main_v83_apply, val_main_cst_10_apply]
    exact Ideal.ofBits_zero_f32

/-- The keys, head by head. -/
theorem keys (b : Fin 16) (d : Fin 8) (n : Fin 256) (l : Fin 128) : (val_main_v90 (F := Ideal) x0 x1 x2 x3 x5 x7) (ix4 b d n l)
    = AbSpec.key (hrow x0 x1 x2 b n) (weight x3) (gainKv x5) (wkv x7) d l := by
  rw [val_main_v90_apply, val_main_v89_apply, show idx_main_v89 (ix4 b d n l) = ix4 b n d l from ext4 rfl rfl rfl rfl]
  unfold val_main_v88 AbSpec.key
  refine (lanes128 _ _ _ b n d l).trans ?_
  by_cases h : l.val < 96
  · rw [dif_pos h]
    unfold val_main_v82
    refine (lanes96 _ _ _ b n d ⟨l.val, h⟩).trans ?_
    by_cases h6 : l.val < 64
    · rw [dif_pos h6, if_pos h6, val_main_v78_apply, show idx_main_v78 (ix4 b n d ⟨l.val, h6⟩) = ix4 b n d l from ext4 rfl rfl rfl rfl, heads_apply]
    · rw [dif_neg h6, if_neg h6, dif_pos h, shared_apply]
  · rw [dif_neg h, if_neg (by omega), dif_neg h, val_main_v87_apply, val_main_cst_11_apply]
    exact Ideal.ofBits_zero_f32

/-- The values, two heads to a block of lanes. -/
theorem values (b : Fin 16) (d : Fin 4) (n : Fin 256) (l : Fin 128) : (val_main_v93 (F := Ideal) x0 x1 x2 x3 x5 x7) (ix4 b d n l)
    = AbSpec.value (hrow x0 x1 x2 b n) (weight x3) (gainKv x5) (wkv x7) ⟨128 * d.val + l.val, by omega⟩ := by
  have e : idx_main_v79 (idx_main_v91 (idx_main_v92 (ix4 b d n l)))
      = ix4 b n ⟨(128 * d.val + l.val) / 64, by omega⟩ ⟨64 + (128 * d.val + l.val) % 64, by omega⟩ := ext4
    (by show (((b.val * 256 + n.val) * 4 + d.val) * 128 + l.val) / 131072 = b.val; omega)
    (by show (((b.val * 256 + n.val) * 4 + d.val) * 128 + l.val) / 512 % 256 = n.val; omega)
    (by show (((b.val * 256 + n.val) * 4 + d.val) * 128 + l.val) / 64 % 8 = (128 * d.val + l.val) / 64; omega)
    (by show 64 + (((b.val * 256 + n.val) * 4 + d.val) * 128 + l.val) % 64 = 64 + (128 * d.val + l.val) % 64; omega)
  rw [val_main_v93_apply, val_main_v92_apply, val_main_v91_apply, val_main_v79_apply, e, heads_apply]
  unfold AbSpec.value
  exact congrArg (TailSpec.rowMul _ _) (Fin.ext (by
    show 128 * ((128 * d.val + l.val) / 64) + (64 + (128 * d.val + l.val) % 64) = 128 * ((128 * d.val + l.val) / 64) + 64 + (128 * d.val + l.val) % 64
    omega))

/-! ## The results row by row -/

/-- A row's request and its place in it. -/
abbrev req (R : Fin 4096) : Fin 16 := ⟨R.val / 256, by omega⟩
abbrev tok (R : Fin 4096) : Fin 256 := ⟨R.val % 256, Nat.mod_lt _ (by norm_num)⟩

/-- The keys' and values' latent. -/
theorem latent (R : Fin 4096) (d : Fin 256) : (val_main_v94 (F := Ideal) x0 x1 x2 x3 x5) (ix2 R d)
    = AbSpec.kvlat (hrow x0 x1 x2 (req R) (tok R)) (weight x3) (gainKv x5) d := by
  have e : idx_main_v94 (ix2 R d) = ix3 (req R) (tok R) d := ext3
    (by show (R.val * 256 + d.val) / 65536 = R.val / 256; omega)
    (by show (R.val * 256 + d.val) / 256 % 256 = R.val % 256; omega)
    (by show (R.val * 256 + d.val) % 256 = d.val; omega)
  rw [val_main_v94_apply, e, kvlat_apply]

/-- The positional key, the recurrence's gate and zeros. -/
theorem misc (R : Fin 4096) (l : Fin 128) : (val_main_v98 (F := Ideal) x0 x1 x2 x3) (ix2 R l)
    = AbSpec.misc (hrow x0 x1 x2 (req R) (tok R)) (weight x3) l := by
  have e : idx_main_v98 (ix2 R l) = ix3 (req R) (tok R) l := ext3
    (by show (R.val * 128 + l.val) / 32768 = R.val / 256; omega)
    (by show (R.val * 128 + l.val) / 128 % 256 = R.val % 256; omega)
    (by show (R.val * 128 + l.val) % 128 = l.val; omega)
  rw [val_main_v98_apply, e]
  unfold val_main_v97 AbSpec.misc
  refine (row128 _ _ (req R) (tok R) l).trans ?_
  by_cases h : l.val < 64
  · rw [dif_pos h]
    unfold val_main_v95
    refine (row64 _ _ (req R) (tok R) ⟨l.val, h⟩).trans ?_
    by_cases h3 : l.val < 32
    · rw [dif_pos h3, dif_pos h3, krope_apply]
    · rw [dif_neg h3, dif_neg h3, dif_pos h, val_main_v40_apply, ← proj_apply]
      exact congrArg (val_main_v33 (F := Ideal) x0 x1 x2 x3) (ext3 rfl rfl rfl)
  · rw [dif_neg h, dif_neg (by omega), dif_neg h, val_main_v96_apply, val_main_cst_12_apply]
    exact Ideal.ofBits_zero_f32

/-- The recurrence's queries. -/
theorem recQueries (R : Fin 4096) (d : Fin 512) : (val_main_v102 (F := Ideal) x0 x1 x2 x3) (ix2 R d)
    = AbSpec.gq (hrow x0 x1 x2 (req R) (tok R)) (weight x3) d := by
  have e : idx_main_v101 (ix2 R d) = ix3 (req R) (tok R) d := ext3
    (by show (R.val * 512 + d.val) / 131072 = R.val / 256; omega)
    (by show (R.val * 512 + d.val) / 512 % 256 = R.val % 256; omega)
    (by show (R.val * 512 + d.val) % 512 = d.val; omega)
  rw [val_main_v102_apply, val_main_v101_apply, e, val_main_v100_apply, val_main_v37_apply, show idx_main_v37 (ix3 (req R) (tok R) d) = ix3 (req R) (tok R) ⟨672 + d.val, by omega⟩ from ext3 rfl rfl rfl, proj_apply, val_main_v99_apply, val_main_cst_13_apply]
  rfl

/-- The recurrence's keys. -/
theorem recKeys (R : Fin 4096) (d : Fin 512) : (val_main_v104 (F := Ideal) x0 x1 x2 x3) (ix2 R d)
    = AbSpec.gk (hrow x0 x1 x2 (req R) (tok R)) (weight x3) d := by
  have e : idx_main_v103 (ix2 R d) = ix3 (req R) (tok R) d := ext3
    (by show (R.val * 512 + d.val) / 131072 = R.val / 256; omega)
    (by show (R.val * 512 + d.val) / 512 % 256 = R.val % 256; omega)
    (by show (R.val * 512 + d.val) % 512 = d.val; omega)
  rw [val_main_v104_apply, val_main_v103_apply, e, val_main_v38_apply, show idx_main_v38 (ix3 (req R) (tok R) d) = ix3 (req R) (tok R) ⟨1184 + d.val, by omega⟩ from ext3 rfl rfl rfl, proj_apply]
  rfl

/-- The recurrence's values. -/
theorem recValues (R : Fin 4096) (d : Fin 512) : (val_main_v106 (F := Ideal) x0 x1 x2 x3) (ix2 R d)
    = AbSpec.gv (hrow x0 x1 x2 (req R) (tok R)) (weight x3) d := by
  have e : idx_main_v105 (ix2 R d) = ix3 (req R) (tok R) d := ext3
    (by show (R.val * 512 + d.val) / 131072 = R.val / 256; omega)
    (by show (R.val * 512 + d.val) / 512 % 256 = R.val % 256; omega)
    (by show (R.val * 512 + d.val) % 512 = d.val; omega)
  rw [val_main_v106_apply, val_main_v105_apply, e, val_main_v39_apply, show idx_main_v39 (ix3 (req R) (tok R) d) = ix3 (req R) (tok R) ⟨1696 + d.val, by omega⟩ from ext3 rfl rfl rfl, proj_apply]
  rfl

/-- The recurrence's output gate. -/
theorem recGate (R : Fin 4096) (d : Fin 512) : (val_main_v108 (F := Ideal) x0 x1 x2 x3) (ix2 R d)
    = AbSpec.gout (hrow x0 x1 x2 (req R) (tok R)) (weight x3) d := by
  have e : idx_main_v107 (ix2 R d) = ix3 (req R) (tok R) d := ext3
    (by show (R.val * 512 + d.val) / 131072 = R.val / 256; omega)
    (by show (R.val * 512 + d.val) / 512 % 256 = R.val % 256; omega)
    (by show (R.val * 512 + d.val) % 512 = d.val; omega)
  rw [val_main_v108_apply, val_main_v107_apply, e, val_main_v41_apply, show idx_main_v41 (ix3 (req R) (tok R) d) = ix3 (req R) (tok R) ⟨2240 + d.val, by omega⟩ from ext3 rfl rfl rfl, proj_apply]
  rfl

end Cert.Reference8Ideal.Enter

end
-- ==== Proof.InClaims8.lean ====
/-
  The claims about the projections before the first layer's attention and recurrence, for the prompts: its frames, and
  that the kernel's nine results are the reference's.
-/
module

public import proofs.«01_k».proof.Defs
public import proofs.«01_k».proof.Proof.Array8
public import proofs.«01_k».proof.Proof.RefIn8
public import proofs.«01_k».proof.Proof.Gen.Kernel8.Frame
public import proofs.«01_k».proof.Proof.Gen.Kernel8Ideal.Frame

@[expose] public section

set_option maxRecDepth 16384

noncomputable section

namespace Cert.InClaims8

open Idealize.ShloMosaic Idealize.SL.Sem Coords

/-- The kernel's frame, on machine words. -/
theorem frame_kernel : Cert.quiescent_Kernel8 := fun m ρ _ => Cert.Kernel8.Gen.frame m ρ

/-- The kernel's frame, on extended reals. -/
theorem frame_kernelIdeal : Cert.quiescent_Kernel8Ideal := fun m ρ _ => Cert.Kernel8Ideal.Gen.frame m ρ

/-- The reference's frame: it keeps its arguments and declares no semaphore. -/
theorem frame_referenceIdeal : Cert.quiescent_Reference8Ideal := fun m ρ _ =>
  (θ_run Cert.Reference8Ideal.defs _ _).mono (fun r h => ⟨fun c => (h c).2.2.2.2.2.2.2.2.2, sem_eq_zero_of_no_sems (by decide) r.2⟩)
    (Cert.Reference8Ideal.Value.run (F := Ideal) m ρ)

/-- **The kernel's results are the reference's**, for all arguments. -/
theorem algebraic : Cert.algebraic_Kernel8Ideal_Reference8Ideal := by
  intro m g m' g' _ hagree
  refine ⟨fun c => Cert.Kernel8Ideal.Array.res0 m c,
    fun c => Cert.Kernel8Ideal.Array.res1 m c,
    fun c => Cert.Kernel8Ideal.Array.res2 m c,
    fun c => Cert.Kernel8Ideal.Array.res3 m c,
    fun c => Cert.Kernel8Ideal.Array.res4 m c,
    fun c => Cert.Kernel8Ideal.Array.res5 m c,
    fun c => Cert.Kernel8Ideal.Array.res6 m c,
    fun c => Cert.Kernel8Ideal.Array.res7 m c,
    fun c => Cert.Kernel8Ideal.Array.res8 m c, ?_, ?_⟩
  · exact (θ_run Cert.Kernel8Ideal.defs _ _).mono (fun r h c => by
      obtain ⟨h0, h1, h2, h3, h4, h5, h6, h7, h8, hk⟩ := h c
      exact ⟨h0.trans (Cert.Kernel8Ideal.Array.final0 m c),
        h1.trans (Cert.Kernel8Ideal.Array.final1 m c),
        h2.trans (Cert.Kernel8Ideal.Array.final2 m c),
        h3.trans (Cert.Kernel8Ideal.Array.final3 m c),
        h4.trans (Cert.Kernel8Ideal.Array.final4 m c),
        h5.trans (Cert.Kernel8Ideal.Array.final5 m c),
        h6.trans (Cert.Kernel8Ideal.Array.final6 m c),
        h7.trans (Cert.Kernel8Ideal.Array.final7 m c),
        h8.trans (Cert.Kernel8Ideal.Array.final8 m c), hk⟩)
      (Cert.Kernel8Ideal.Value.run_blocks (F := Ideal) m g)
  · refine (θ_run Cert.Reference8Ideal.defs _ _).mono (fun r h c => by
      obtain ⟨h0, h1, h2, h3, h4, h5, h6, h7, h8, hk⟩ := h c
      obtain ⟨e0, e1, e2, e3, e4, e5, e6, e7⟩ := hagree c
      refine ⟨h0.trans ?_, h1.trans ?_, h2.trans ?_, h3.trans ?_, h4.trans ?_, h5.trans ?_, h6.trans ?_, h7.trans ?_, h8.trans ?_, hk⟩
      · rw [Cert.Reference8Ideal.Read.val_main_v86_eq, e0, e1, e2, e3, e4, e6]
        refine funext fun i => ?_
        obtain ⟨b, d, n, l, rfl⟩ : ∃ (b : Fin 16) (d : Fin 8) (n : Fin 256) (l : Fin 128), i = ix4 b d n l := ⟨i 0, i 1, i 2, i 3, ext4 rfl rfl rfl rfl⟩
        exact Cert.Reference8Ideal.Enter.queries _ _ _ _ _ _ b d n l
      · rw [Cert.Reference8Ideal.Read.val_main_v90_eq, e0, e1, e2, e3, e5, e7]
        refine funext fun i => ?_
        obtain ⟨b, d, n, l, rfl⟩ : ∃ (b : Fin 16) (d : Fin 8) (n : Fin 256) (l : Fin 128), i = ix4 b d n l := ⟨i 0, i 1, i 2, i 3, ext4 rfl rfl rfl rfl⟩
        exact Cert.Reference8Ideal.Enter.keys _ _ _ _ _ _ b d n l
      · rw [Cert.Reference8Ideal.Read.val_main_v93_eq, e0, e1, e2, e3, e5, e7]
        refine funext fun i => ?_
        obtain ⟨b, d, n, l, rfl⟩ : ∃ (b : Fin 16) (d : Fin 4) (n : Fin 256) (l : Fin 128), i = ix4 b d n l := ⟨i 0, i 1, i 2, i 3, ext4 rfl rfl rfl rfl⟩
        exact Cert.Reference8Ideal.Enter.values _ _ _ _ _ _ b d n l
      · rw [Cert.Reference8Ideal.Read.val_main_v94_eq, e0, e1, e2, e3, e5]
        refine funext fun i => ?_
        obtain ⟨R, d, rfl⟩ : ∃ (R : Fin 4096) (d : Fin 256), i = ix2 R d := ⟨i 0, i 1, ext2 rfl rfl⟩
        exact Cert.Reference8Ideal.Enter.latent _ _ _ _ _ R d
      · rw [Cert.Reference8Ideal.Read.val_main_v98_eq, e0, e1, e2, e3]
        refine funext fun i => ?_
        obtain ⟨R, d, rfl⟩ : ∃ (R : Fin 4096) (d : Fin 128), i = ix2 R d := ⟨i 0, i 1, ext2 rfl rfl⟩
        exact Cert.Reference8Ideal.Enter.misc _ _ _ _ R d
      · rw [Cert.Reference8Ideal.Read.val_main_v102_eq, e0, e1, e2, e3]
        refine funext fun i => ?_
        obtain ⟨R, d, rfl⟩ : ∃ (R : Fin 4096) (d : Fin 512), i = ix2 R d := ⟨i 0, i 1, ext2 rfl rfl⟩
        exact Cert.Reference8Ideal.Enter.recQueries _ _ _ _ R d
      · rw [Cert.Reference8Ideal.Read.val_main_v104_eq, e0, e1, e2, e3]
        refine funext fun i => ?_
        obtain ⟨R, d, rfl⟩ : ∃ (R : Fin 4096) (d : Fin 512), i = ix2 R d := ⟨i 0, i 1, ext2 rfl rfl⟩
        exact Cert.Reference8Ideal.Enter.recKeys _ _ _ _ R d
      · rw [Cert.Reference8Ideal.Read.val_main_v106_eq, e0, e1, e2, e3]
        refine funext fun i => ?_
        obtain ⟨R, d, rfl⟩ : ∃ (R : Fin 4096) (d : Fin 512), i = ix2 R d := ⟨i 0, i 1, ext2 rfl rfl⟩
        exact Cert.Reference8Ideal.Enter.recValues _ _ _ _ R d
      · rw [Cert.Reference8Ideal.Read.val_main_v108_eq, e0, e1, e2, e3]
        refine funext fun i => ?_
        obtain ⟨R, d, rfl⟩ : ∃ (R : Fin 4096) (d : Fin 512), i = ix2 R d := ⟨i 0, i 1, ext2 rfl rfl⟩
        exact Cert.Reference8Ideal.Enter.recGate _ _ _ _ R d)
      (Cert.Reference8Ideal.Value.run (F := Ideal) m' g')

end Cert.InClaims8

end
-- ==== Proof.ModSpec.lean ====
/-
  The modulation of both layers: the conditioning vectors (the prompts' vector, the eight sampled requests' and seven
  vectors of zeros behind them), and a row of a layer's modulation.
-/
module

public import proofs.«01_k».proof.Proof.Coords
public import proofs.«01_k».proof.Proof.Flash
public import proofs.«01_k».proof.Proof.TailSpec
public import Idealize.ShloMosaic.Lib.Pipeline.Value

@[expose] public section

set_option maxRecDepth 16384

noncomputable section

namespace ModSpec

open Idealize.ShloMosaic Flash Coords

/-- The conditioning vectors: the prompts', the requests', zeros. -/
def cond (cs : Fin 8 → Fin 1024 → EReal) (ctx : Fin 1024 → EReal) (r : Fin 16) (k : Fin 1024) : EReal :=
  if r.val < 1 then ctx k else if h : r.val < 9 then cs ⟨r.val - 1, by omega⟩ k else 0

/-- A row of a layer's modulation: each number times its logistic, times the weights, plus the bias. -/
def row (v : Fin 1024 → EReal) (w : Fin 1024 → Fin 6144 → EReal) (b : Fin 6144 → EReal) (j : Fin 6144) : EReal :=
  TailSpec.rowMul (fun k => TailSpec.silu (v k)) w j + b j

/-- The three pieces one below the other. -/
abbrev pieces (u : Vec Ideal (Mat 1 1024) .f32) (v : Vec Ideal (Mat 8 1024) .f32) (z : Vec Ideal (Mat 7 1024) .f32) :
    List ((s : Shape) × (s.Idx → EReal)) := [⟨Mat 1 1024, u⟩, ⟨Mat 8 1024, v⟩, ⟨Mat 7 1024, z⟩]

/-- Joined, they are the conditioning vectors. -/
theorem join_apply (u : Vec Ideal (Mat 1 1024) .f32) (v : Vec Ideal (Mat 8 1024) .f32) (z : Vec Ideal (Mat 7 1024) .f32)
    (hz : ∀ i, z i = (0 : EReal)) (h : Shape.Concatenates [Mat 1 1024, Mat 8 1024, Mat 7 1024] (Mat 16 1024) 0) (r : Fin 16) (k : Fin 1024) :
    concatenate (Mat 16 1024) 0 (pieces u v z) h (ix2 r k) = cond (fun r k => v (ix2 r k)) (fun k => u (ix2 0 k)) r k := by
  unfold cond
  by_cases h0 : r.val < 1
  · rw [if_pos h0]
    exact concatenate_apply_piece 0 (pieces u v z) h (ix2 r k) 0 (by show 0 < 3; decide) (Mat 1 1024) u rfl rfl 0 rfl (ix2 0 k) (fun b hb => by
      match b with
      | ⟨0, _⟩ => exact absurd rfl hb
      | ⟨1, _⟩ => rfl) (by show 0 + 0 = r.val; omega)
  rw [if_neg h0]
  by_cases h1 : r.val < 9
  · rw [dif_pos h1]
    exact concatenate_apply_piece 0 (pieces u v z) h (ix2 r k) 1 (by show 1 < 3; decide) (Mat 8 1024) v rfl rfl 1 rfl
      (ix2 ⟨r.val - 1, by omega⟩ k) (fun b hb => by
      match b with
      | ⟨0, _⟩ => exact absurd rfl hb
      | ⟨1, _⟩ => rfl) (by show 1 + (r.val - 1) = r.val; omega)
  rw [dif_neg h1]
  exact (concatenate_apply_piece 0 (pieces u v z) h (ix2 r k) 2 (by show 2 < 3; decide) (Mat 7 1024) z rfl rfl 9 rfl
    (ix2 ⟨r.val - 9, by omega⟩ k) (fun b hb => by
      match b with
      | ⟨0, _⟩ => exact absurd rfl hb
      | ⟨1, _⟩ => rfl) (by show 9 + (r.val - 9) = r.val; omega)).trans (hz _)

end ModSpec

end
-- ==== Proof.ModArray9.lean ====
/-
  The result array of the modulation's product, entry by entry.
-/
module

public import proofs.«01_k».proof.Proof.ModSpec
public import proofs.«01_k».proof.Proof.Gen.Kernel9Ideal.Value

@[expose] public section

set_option maxRecDepth 16384

noncomputable section

namespace Cert.Kernel9Ideal.Array

open Cert.Kernel9Ideal Cert.Kernel9Ideal.Gen Idealize.ShloMosaic Idealize.ShloMosaic.TcCoe Idealize.SL.Sem Facts Coords
open Idealize.ShloMosaic.Pipeline (Dat)

variable (m : (ℓ : Loc nD τ sig) → Buf (Elt Ideal) ℓ) (c : Dev nD)

/-! ## The arguments as functions of their coordinates -/

abbrev C (r : Fin 8) (k : Fin 1024) : EReal := m ((c : Thread nD τ).loc main_arg0) (ix2 r k)
abbrev Cx (k : Fin 1024) : EReal := m ((c : Thread nD τ).loc main_arg1) (ix1 k)
abbrev W (l : Fin 2) (k : Fin 1024) (j : Fin 6144) : EReal := m ((c : Thread nD τ).loc main_arg2) (ix3 l k j)
abbrev B (l : Fin 2) (j : Fin 6144) : EReal := m ((c : Thread nD τ).loc main_arg3) (ix2 l j)

/-! ## What the host operations before the call leave -/

/-- The vectors of zeros. -/
abbrev zeros : Vec Ideal S7x1024 .f32 := broadcastInDim S7x1024 ![] bcast_S_S7x1024 (constant (F := Ideal) S_ .f32 0x00000000#32)

theorem zeros_apply (i : S7x1024.Idx) : zeros i = (0 : EReal) :=
  (broadcastInDim_apply _ bcast_S_S7x1024 _ i (fun a => a.elim0) (fun a => a.elim0)).trans Ideal.ofBits_zero_f32

theorem host_c (r : Fin 16) (k : Fin 1024) :
    (V m c main_v2 : Vec Ideal S16x1024 .f32) (ix2 r k) = ModSpec.cond (C m c) (Cx m c) r k := by
  have e : (V m c main_v2 : Vec Ideal S16x1024 .f32) = concatenate S16x1024 0
      (ModSpec.pieces (broadcastInDim S1x1024 ![1] bcast_S1024_S1x1024_1 (m ((c : Thread nD τ).loc main_arg1))) (m ((c : Thread nD τ).loc main_arg0)) zeros)
      concatenates_S1x1024_S8x1024_S7x1024_S16x1024_d0 := by
    unfold_abbrev_sides
    after_results
    rfl
  rw [e]
  refine (ModSpec.join_apply _ _ _ zeros_apply concatenates_S1x1024_S8x1024_S7x1024_S16x1024_d0 r k).trans ?_
  refine congrArg (ModSpec.cond (C m c) · r k) (funext fun k => ?_)
  exact broadcastInDim_apply _ bcast_S1024_S1x1024_1 _ (ix2 0 k) (ix1 k) fun a => by
    match a with
    | ⟨0, _⟩ => rfl

theorem host_b (l : Fin 2) (j : Fin 6144) : (V m c main_v3 : Vec Ideal S2x1x6144 .f32) (ix3 l 0 j) = B m c l j := by
  have e : (V m c main_v3 : Vec Ideal S2x1x6144 .f32)
      = shapeCast S2x1x6144 (m ((c : Thread nD τ).loc main_arg3)) shapeCasts_S2x6144_S2x1x6144 := by
    unfold_abbrev_sides
    after_results
    rfl
  rw [e, shapeCast_apply _ _ (ix3 l 0 j) (ix2 l j) (by
    rw [Shape.rowMajor_val_two, Shape.rowMajor_val_three]
    show l.val * 6144 + j.val = (l.val * 1 + 0) * 6144 + j.val
    omega)]

/-! ## The blocks -/

/-- Which block of each array a grid point stages and writes back: point `t` is layer `t / 4` and part `t % 4` of its columns. -/
theorem index_eq : ∀ t : Fin grid0.N,
    (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by
  decide +kernel

/-- The number of grid points. -/
theorem lt_N (t : Fin cfg0.N) : t.val < 8 := t.isLt

/-- A point's layer, and column `j` of its block among all columns. -/
abbrev lAt (t : Fin cfg0.N) : Fin 2 := ⟨t.val / 4, by have := lt_N t; omega⟩
abbrev colAt (t : Fin cfg0.N) (j : Fin 1536) : Fin 6144 := ⟨1536 * (t.val % 4) + j.val, by omega⟩

theorem blk0 (t : Fin cfg0.N) (r : Fin 16) (k : Fin 1024) :
    (iblk m c 0 t : Vec Ideal S16x1024 .f32) (ix2 r k) = ModSpec.cond (C m c) (Cx m c) r k := by
  obtain ⟨⟨i0, i1⟩, -⟩ := index_eq t
  rw [← host_c]
  unfold iblk
  rw [View.read_apply]
  show V m c main_v2 _ = V m c main_v2 _
  refine congrArg (V m c main_v2) (ext2 ?_ ?_)
  · show win0_0.index t 0 * 16 + 1 * r.val = r.val; rw [i0]; omega
  · show win0_0.index t 1 * 1024 + 1 * k.val = k.val; rw [i1]; omega

theorem blk1 (t : Fin cfg0.N) (k : Fin 1024) (j : Fin 1536) :
    (iblk m c 1 t : Vec Ideal S1x1024x1536 .f32) (ix3 0 k j) = W m c (lAt t) k (colAt t j) := by
  obtain ⟨-, ⟨i0, i1, i2⟩, -⟩ := index_eq t
  unfold iblk
  rw [View.read_apply]
  show V m c main_arg2 _ = m ((c : Thread nD τ).loc main_arg2) _
  rw [V_main_arg2]
  refine congrArg (m ((c : Thread nD τ).loc main_arg2)) (ext3 ?_ ?_ ?_)
  · show win0_1.index t 0 * 1 + 1 * 0 = t.val / 4; rw [i0]; omega
  · show win0_1.index t 1 * 1024 + 1 * k.val = k.val; rw [i1]; omega
  · show win0_1.index t 2 * 1536 + 1 * j.val = 1536 * (t.val % 4) + j.val; rw [i2]; omega

theorem blk2 (t : Fin cfg0.N) (j : Fin 1536) :
    (iblk m c 2 t : Vec Ideal S1x1x1536 .f32) (ix3 0 0 j) = B m c (lAt t) (colAt t j) := by
  obtain ⟨-, -, ⟨i0, i1, i2⟩, -⟩ := index_eq t
  rw [← host_b]
  unfold iblk
  rw [View.read_apply]
  show V m c main_v3 _ = V m c main_v3 _
  refine congrArg (V m c main_v3) (ext3 ?_ ?_ ?_)
  · show win0_2.index t 0 * 1 + 1 * 0 = t.val / 4; rw [i0]; omega
  · show win0_2.index t 1 * 1 + 1 * 0 = 0; rw [i1]
  · show win0_2.index t 2 * 1536 + 1 * j.val = 1536 * (t.val % 4) + j.val; rw [i2]; omega

/-! ## The body on a block -/

/-- The numbers times their logistics, as the body computes them. -/
abbrev act (x : Vec Ideal S16x1024 .f32) : FVec Ideal S16x1024 .bf16 :=
  truncf .bf16 (mulf x (divf (broadcast S16x1024 (Scalar.ofBits .f32 0x3F800000#32 : Ideal .f32))
    (addf (broadcast S16x1024 (Scalar.ofBits .f32 0x3F800000#32 : Ideal .f32))
      (exp (subf (broadcast S16x1024 (Scalar.ofBits .f32 0x00000000#32 : Ideal .f32)) x))))) bitsLt_bf16_f32

theorem act_apply (x : Vec Ideal S16x1024 .f32) (r : Fin 16) (k : Fin 1024) : act x (ix2 r k) = TailSpec.silu (x (ix2 r k)) := by
  unfold TailSpec.silu
  rw [← zero_sub, ← Ideal.ofBits_zero .f32]
  rfl

/-- The body's result at an entry. -/
theorem pay_apply (x0 : Vec Ideal S16x1024 .f32) (x1 : Vec Ideal S1x1024x1536 .f32) (x2 : Vec Ideal S1x1x1536 .f32) (r : Fin 16) (j : Fin 1536) :
    k0_pay1 x0 x1 x2 (ix3 0 r j)
      = (∑ k : Fin 1024, TailSpec.silu (x0 (ix2 r k)) * x1 (ix3 0 k j) : EReal) + x2 (ix3 0 0 j) := by
  have e := Ideal.matmul_plain_apply none (act (shapeCast S16x1024 x0 shapeCasts_S16x1024_S16x1024))
    (truncf .bf16 (shapeCast S1024x1536 x1 shapeCasts_S1x1024x1536_S1024x1536) bitsLt_bf16_f32 : FVec Ideal S1024x1536 .bf16)
    (constant S16x1536 .f32 0x00000000#32) r j
  simp only [← ix2_eq_valueIdx] at e
  have eb : broadcastTo S16x1536 (shapeCast S1x1536 x2 shapeCasts_S1x1x1536_S1x1536) broadcasts_S1x1536_S16x1536 (ix2 r j) = x2 (ix3 0 0 j) :=
    (broadcastTo_apply _ broadcasts_S1x1536_S16x1536 _ (ix2 0 j) fun a => by
      match a with
      | ⟨0, _⟩ => rfl
      | ⟨1, _⟩ => rfl).trans (shapeCast_apply _ _ (ix2 0 j) (ix3 0 0 j) (by
        rw [Shape.rowMajor_val_three, Shape.rowMajor_val_two]
        show (0 * 1 + 0) * 1536 + j.val = 0 * 1536 + j.val
        omega))
  unfold k0_pay1
  refine (shapeCast_apply _ shapeCasts_S16x1536_S1x16x1536 (ix3 0 r j) (ix2 r j) (by
    rw [Shape.rowMajor_val_two, Shape.rowMajor_val_three]
    show r.val * 1536 + j.val = (0 * 16 + r.val) * 1536 + j.val
    omega)).trans ?_
  refine congrArg₂ (fun a b : EReal => a + b) (e.trans ?_) eb
  rw [show constant (F := Ideal) S16x1536 .f32 0x00000000#32 (ix2 r j) = 0 from by pointwise, zero_add]
  refine Finset.sum_congr rfl fun k _ => ?_
  rw [act_apply, shapeCast_apply _ shapeCasts_S16x1024_S16x1024 (ix2 r k) (ix2 r k) rfl]
  refine congrArg (TailSpec.silu (x0 (ix2 r k)) * ·) (shapeCast_apply _ shapeCasts_S1x1024x1536_S1024x1536 (ix2 k j) (ix3 0 k j) (by
    rw [Shape.rowMajor_val_three, Shape.rowMajor_val_two]
    show (0 * 1024 + k.val) * 1536 + j.val = k.val * 1536 + j.val
    omega))

/-! ## The result -/

/-- The result array: each layer's modulation of each conditioning vector. -/
def res : Buf (Elt Ideal) ((c : Thread nD τ).loc main_v4) := fun i : S2x16x6144.Idx =>
  ModSpec.row (ModSpec.cond (C m c) (Cx m c) (i 1)) (W m c (i 0)) (B m c (i 0)) (i 2)

theorem flushed_eq (t : Fin cfg0.N) : (dats m 0 c).flushed 3 t = ((cfg0.win 3).blk t).view.read (Elt Ideal) (res m c) := by
  rw [Value.flushed3]
  refine funext fun j : S1x16x1536.Idx => ?_
  obtain ⟨r, d, rfl⟩ : ∃ (r : Fin 16) (d : Fin 1536), j = ix3 0 r d :=
    ⟨j 1, j 2, ext3 (by have : (j 0).val < 1 := (j 0).isLt; show (j 0).val = 0; omega) rfl rfl⟩
  obtain ⟨-, -, -, ⟨i0, i1, i2⟩⟩ := index_eq t
  have e : ((cfg0.win 3).blk t).view.read (Elt Ideal) (res m c) (ix3 0 r d : S1x16x1536.Idx)
      = res m c (ix3 (lAt t) r (colAt t d) : S2x16x6144.Idx) := by
    rw [View.read_apply]
    refine congrArg (res m c) (ext3 (n := ![2, 16, 6144]) ?_ ?_ ?_)
    · show win0_3.index t 0 * 1 + 1 * 0 = t.val / 4; rw [i0]; omega
    · show win0_3.index t 1 * 16 + 1 * r.val = r.val; rw [i1]; omega
    · show win0_3.index t 2 * 1536 + 1 * d.val = 1536 * (t.val % 4) + d.val; rw [i2]; omega
  rw [e]
  show out0_3 (iblk m c 0 t) (iblk m c 1 t) (iblk m c 2 t) (ix3 0 r d) = _
  unfold out0_3
  rw [show (ix3 0 r d : S1x16x1536.Idx) = r0_3.emb (ix3 0 r d) from funext fun a => Fin.ext (by
    match a with
    | ⟨0, _⟩ => rfl
    | ⟨1, _⟩ => show r.val = 0 + 1 * r.val; omega
    | ⟨2, _⟩ => show d.val = 0 + 1 * d.val; omega), View.canon_cons_emb]
  refine (pay_apply _ _ _ r d).trans ?_
  have e0 : ∀ k, View.ld (iblk m c 0 t : Vec Ideal S16x1024 .f32) r0_0 (ix2 r k) = ModSpec.cond (C m c) (Cx m c) r k := fun k => by
    rw [show View.ld (iblk m c 0 t : Vec Ideal S16x1024 .f32) r0_0 (ix2 r k) = (iblk m c 0 t : Vec Ideal S16x1024 .f32) (ix2 r k) by pointwise, blk0]
  have e1 : ∀ k, View.ld (iblk m c 1 t : Vec Ideal S1x1024x1536 .f32) r0_1 (ix3 0 k d) = W m c (lAt t) k (colAt t d) := fun k => by
    rw [show View.ld (iblk m c 1 t : Vec Ideal S1x1024x1536 .f32) r0_1 (ix3 0 k d) = (iblk m c 1 t : Vec Ideal S1x1024x1536 .f32) (ix3 0 k d) by pointwise, blk1]
  have e2 : View.ld (iblk m c 2 t : Vec Ideal S1x1x1536 .f32) r0_2 (ix3 0 0 d) = B m c (lAt t) (colAt t d) := by
    rw [show View.ld (iblk m c 2 t : Vec Ideal S1x1x1536 .f32) r0_2 (ix3 0 0 d) = (iblk m c 2 t : Vec Ideal S1x1x1536 .f32) (ix3 0 0 d) by pointwise, blk2]
  simp only [e0, e1, e2]
  rfl

/-- The blocks cover the array, so it ends holding the result. -/
theorem final : (dats m 0 c).arrAt 3 cfg0.N = res m c :=
  (dats m 0 c).arrAt_eq_of_cover 3 (res m c) (fun t _ => flushed_eq m c t) fun i => by
    have h0 : (i 0 : Nat) < 2 := (i 0).isLt
    have h1 : (i 1 : Nat) < 16 := (i 1).isLt
    have h2 : (i 2 : Nat) < 6144 := (i 2).isLt
    let t : Fin cfg0.N := ⟨4 * (i 0 : Nat) + (i 2 : Nat) / 1536, by show _ < 8; omega⟩
    obtain ⟨-, -, -, ⟨i0, i1, i2⟩⟩ := index_eq t
    have tv : t.val = 4 * (i 0 : Nat) + (i 2 : Nat) / 1536 := rfl
    refine ⟨t, flush0_3 t, ?_⟩
    show i ∈ ((View.whole main_v4).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [i0]; omega
    | ⟨1, _⟩ =>
      show win0_3.index t 1 * 16 ≤ (i 1 : Nat) ∧ (i 1 : Nat) < win0_3.index t 1 * 16 + 16
      rw [i1]; omega
    | ⟨2, _⟩ =>
      show win0_3.index t 2 * 1536 ≤ (i 2 : Nat) ∧ (i 2 : Nat) < win0_3.index t 2 * 1536 + 1536
      rw [i2]; omega

end Cert.Kernel9Ideal.Array

end
-- ==== Proof.RefMod9.lean ====
/-
  The reference's result at the modulation's product, entry by entry.
-/
module

public import Idealize.ShloMosaic.Lib.Pointwise.Index
public import Idealize.ShloMosaic.PureOps.Ideal.Laws
public import proofs.«01_k».proof.Proof.ModSpec
public import proofs.«01_k».proof.Proof.Gen.Reference9Ideal.Read

@[expose] public section

set_option maxRecDepth 16384

noncomputable section

namespace Cert.Reference9Ideal.Modulate

open Cert.Reference9Ideal Cert.Reference9Ideal.Gen Cert.Reference9Ideal.Read Idealize.ShloMosaic Idealize.SL.Sem Facts Coords

variable (x0 : Vec Ideal S8x1024 .f32) (x1 : Vec Ideal S1024 .f32) (x2 : Vec Ideal S2x1024x6144 .f32) (x3 : Vec Ideal S2x6144 .f32)

/-- The conditioning vectors, from the arguments. -/
abbrev conds (r : Fin 16) (k : Fin 1024) : EReal := ModSpec.cond (fun r k => x0 (ix2 r k)) (fun k => x1 (ix1 k)) r k

theorem zeros_apply (i : S7x1024.Idx) : val_main_v1 (F := Ideal) i = (0 : EReal) := by
  rw [val_main_v1_apply, val_main_cst_apply]
  exact Ideal.ofBits_zero_f32

theorem conds_apply (r : Fin 16) (k : Fin 1024) : val_main_v2 (F := Ideal) x0 x1 (ix2 r k) = conds x0 x1 r k := by
  refine (ModSpec.join_apply (val_main_v0 (F := Ideal) x1) x0 (val_main_v1 (F := Ideal)) zeros_apply
    concatenates_S1x1024_S8x1024_S7x1024_S16x1024_d0 r k).trans ?_
  refine congrArg (ModSpec.cond _ · r k) (funext fun k => ?_)
  rw [val_main_v0_apply]
  exact congrArg x1 (funext fun a => Fin.ext (by
    match a with
    | ⟨0, _⟩ => rfl))

/-- The numbers times their logistics; both layers compute them. -/
theorem silu0_apply (r : Fin 16) (k : Fin 1024) : val_main_v3 (F := Ideal) x0 x1 (ix2 r k) = TailSpec.silu (conds x0 x1 r k) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply, conds_apply]
  rfl

theorem silu1_apply (r : Fin 16) (k : Fin 1024) : val_main_v12 (F := Ideal) x0 x1 (ix2 r k) = TailSpec.silu (conds x0 x1 r k) := by
  rw [val_main_v12_apply, val_main_call1_v5_apply, val_main_call1_v4_apply, val_main_call1_cst_0_apply, val_main_call1_v3_apply,
    val_main_call1_v2_apply, val_main_call1_cst_apply, val_main_call1_v1_apply, val_main_call1_v0_apply, conds_apply]
  rfl

/-! ## The layers' weights and biases -/

theorem w0_apply (k : Fin 1024) (j : Fin 6144) : val_main_v5 (F := Ideal) x2 (ix2 k j) = x2 (ix3 0 k j) := by
  rw [val_main_v5_apply, val_main_v4_apply]
  refine congrArg x2 (ext3 rfl ?_ ?_)
  · show (k.val * 6144 + j.val) / 6144 % 1024 = k.val; omega
  · show (k.val * 6144 + j.val) % 6144 = j.val; omega

theorem w1_apply (k : Fin 1024) (j : Fin 6144) : val_main_v14 (F := Ideal) x2 (ix2 k j) = x2 (ix3 1 k j) := by
  rw [val_main_v14_apply, val_main_v13_apply]
  refine congrArg x2 (ext3 ?_ ?_ ?_)
  · show 1 + 0 = 1; rfl
  · show (k.val * 6144 + j.val) / 6144 % 1024 = k.val; omega
  · show (k.val * 6144 + j.val) % 6144 = j.val; omega

theorem b0_apply (r : Fin 16) (j : Fin 6144) : val_main_v10 (F := Ideal) x3 (ix2 r j) = x3 (ix2 0 j) := by
  rw [val_main_v10_apply, val_main_v9_apply, val_main_v8_apply, val_main_v7_apply]
  refine congrArg x3 (ext2 rfl ?_)
  show j.val % 6144 = j.val; omega

theorem b1_apply (r : Fin 16) (j : Fin 6144) : val_main_v19 (F := Ideal) x3 (ix2 r j) = x3 (ix2 1 j) := by
  rw [val_main_v19_apply, val_main_v18_apply, val_main_v17_apply, val_main_v16_apply]
  refine congrArg x3 (ext2 ?_ ?_)
  · show 1 + 0 = 1; rfl
  · show j.val % 6144 = j.val; omega

/-! ## The layers' modulation -/

/-- Entry `(l, r, j)` of the result. -/
def entry (l : Fin 2) (r : Fin 16) (j : Fin 6144) : EReal :=
  ModSpec.row (conds x0 x1 r) (fun k j => x2 (ix3 l k j)) (fun j => x3 (ix2 l j)) j

theorem layer0_apply (r : Fin 16) (j : Fin 6144) : val_main_v11 (F := Ideal) x0 x1 x2 x3 (ix2 r j) = entry x0 x1 x2 x3 0 r j := by
  rw [val_main_v11_apply, b0_apply, val_main_v6_apply]
  unfold entry ModSpec.row TailSpec.rowMul
  refine congrArg (fun s : EReal => s + x3 (ix2 0 j)) (Finset.sum_congr rfl fun k _ => ?_)
  rw [show lidx_main_v6 (ix2 r j) k = ix2 r k from ext2 rfl rfl, show ridx_main_v6 (ix2 r j) k = ix2 k j from ext2 rfl rfl,
    silu0_apply, w0_apply]

theorem layer1_apply (r : Fin 16) (j : Fin 6144) : val_main_v20 (F := Ideal) x0 x1 x2 x3 (ix2 r j) = entry x0 x1 x2 x3 1 r j := by
  rw [val_main_v20_apply, b1_apply, val_main_v15_apply]
  unfold entry ModSpec.row TailSpec.rowMul
  refine congrArg (fun s : EReal => s + x3 (ix2 1 j)) (Finset.sum_congr rfl fun k _ => ?_)
  rw [show lidx_main_v15 (ix2 r j) k = ix2 r k from ext2 rfl rfl, show ridx_main_v15 (ix2 r j) k = ix2 k j from ext2 rfl rfl,
    silu1_apply, w1_apply]

/-- **The reference's result at an entry.** -/
theorem result_apply (l : Fin 2) (r : Fin 16) (j : Fin 6144) : val_main_v23 (F := Ideal) x0 x1 x2 x3 (ix3 l r j) = entry x0 x1 x2 x3 l r j := by
  unfold val_main_v23
  by_cases h : l.val < 1
  · obtain rfl : l = 0 := Fin.ext (by show l.val = 0; omega)
    refine (concatenate_pair_apply_left 0 _ _ concatenates_S1x16x6144_S1x16x6144_S2x16x6144_d0 (ix3 0 r j) rfl (ix3 0 r j) fun a => by
      match a with
      | ⟨0, _⟩ => rfl
      | ⟨1, _⟩ => rfl
      | ⟨2, _⟩ => rfl).trans ?_
    rw [val_main_v21_apply, show idx_main_v21 (ix3 0 r j) = ix2 r j from ext2 rfl rfl, layer0_apply]
  · obtain rfl : l = 1 := Fin.ext (by show l.val = 1; omega)
    refine (concatenate_pair_apply_right 0 _ _ concatenates_S1x16x6144_S1x16x6144_S2x16x6144_d0 (ix3 1 r j) rfl rfl (ix3 0 r j)
      (fun a ha => by
        match a with
        | ⟨0, _⟩ => exact absurd rfl ha
        | ⟨1, _⟩ => rfl
        | ⟨2, _⟩ => rfl) rfl).trans ?_
    rw [val_main_v22_apply, show idx_main_v22 (ix3 0 r j) = ix2 r j from ext2 rfl rfl, layer1_apply]

end Cert.Reference9Ideal.Modulate

end
-- ==== Proof.ModClaims9.lean ====
/-
  The claims about the modulation's product: its frames, and that the kernel's result is the reference's.
-/
module

public import proofs.«01_k».proof.Defs
public import proofs.«01_k».proof.Proof.ModArray9
public import proofs.«01_k».proof.Proof.RefMod9
public import proofs.«01_k».proof.Proof.Gen.Kernel9.Frame
public import proofs.«01_k».proof.Proof.Gen.Kernel9Ideal.Frame
public import proofs.«01_k».proof.Proof.Gen.Reference9Ideal.Run

@[expose] public section

set_option maxRecDepth 16384

noncomputable section

namespace Cert.ModClaims9

open Idealize.ShloMosaic Idealize.SL.Sem Coords

/-- The kernel's frame, on machine words. -/
theorem frame_kernel : Cert.quiescent_Kernel9 := fun m ρ _ => Cert.Kernel9.Gen.frame m ρ

/-- The kernel's frame, on extended reals. -/
theorem frame_kernelIdeal : Cert.quiescent_Kernel9Ideal := fun m ρ _ => Cert.Kernel9Ideal.Gen.frame m ρ

/-- The reference's frame: it keeps its arguments and declares no semaphore. -/
theorem frame_referenceIdeal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- **The kernel's result is the reference's**, for all arguments. -/
theorem algebraic : Cert.algebraic_Kernel9Ideal_Reference9Ideal := by
  intro m g m' g' _ hagree
  refine ⟨fun c => Cert.Kernel9Ideal.Array.res m c, ?_, ?_⟩
  · exact (θ_run Cert.Kernel9Ideal.defs _ _).mono (fun r h c => by
      obtain ⟨h0, hk⟩ := h c
      exact ⟨h0.trans (Cert.Kernel9Ideal.Array.final m c), hk⟩)
      (Cert.Kernel9Ideal.Value.run_blocks (F := Ideal) m g)
  · refine (θ_run Cert.Reference9Ideal.defs _ _).mono (fun r h c => by
      obtain ⟨h0, hk⟩ := h c
      obtain ⟨e0, e1, e2, e3⟩ := hagree c
      refine ⟨h0.trans ?_, hk⟩
      rw [Cert.Reference9Ideal.Read.val_main_v23_eq, e0, e1, e2, e3]
      refine funext fun i => ?_
      obtain ⟨l, b, d, rfl⟩ : ∃ (l : Fin 2) (b : Fin 16) (d : Fin 6144), i = ix3 l b d := ⟨i 0, i 1, i 2, ext3 rfl rfl rfl⟩
      exact Cert.Reference9Ideal.Modulate.result_apply _ _ _ _ l b d)
      (Cert.Reference9Ideal.Value.run (F := Ideal) m' g')

end Cert.ModClaims9

end
-- ==== Proof.CtxSpec.lean ====
/-
  What a cached token's latent becomes: its keys, with the rotary lanes all heads share, and its values; and the same from
  the weights as the kernel lays them out.
-/
module

public import proofs.«01_k».proof.Proof.AbSpec

@[expose] public section

noncomputable section

namespace CtxSpec

open Idealize.ShloMosaic TailSpec AbSpec

variable (ck : Fin 256 → EReal) (kr : Fin 32 → EReal) (wkv : Fin 256 → Fin 1024 → EReal)

/-- Lane `l` of key head `d`: 64 lanes of its own, the 32 shared ones, zeros. -/
def key (d : Fin 8) (l : Fin 128) : EReal :=
  if l.val < 64 then rowMul ck wkv ⟨128 * d.val + l.val, by omega⟩ else if hl : l.val < 96 then kr ⟨l.val - 64, by omega⟩ else 0

/-- Column `j` of the values, eight heads of 64 lanes one behind another. -/
def value (j : Fin 512) : EReal := rowMul ck wkv ⟨128 * (j.val / 64) + 64 + j.val % 64, by omega⟩

/-- The table that copies the shared lanes into each head. -/
def table (r : Fin 32) (j : Fin 1024) : EReal := if j.val % 128 = 64 + r.val then 1 else 0

/-- A row times a column of the table: one of the row's lanes, or nothing. -/
theorem table_apply (d : Fin 8) (l : Fin 128) :
    rowMul kr table ⟨128 * d.val + l.val, by omega⟩ = if hl : 64 ≤ l.val ∧ l.val < 96 then kr ⟨l.val - 64, by omega⟩ else 0 := by
  have e : (128 * d.val + l.val) % 128 = l.val := by omega
  unfold rowMul table
  by_cases hl : 64 ≤ l.val ∧ l.val < 96
  · rw [dif_pos hl, Finset.sum_eq_single (⟨l.val - 64, by omega⟩ : Fin 32)]
    · rw [if_pos (by show (128 * d.val + l.val) % 128 = 64 + (l.val - 64); omega), mul_one]
    · intro r _ hr
      rw [if_neg, mul_zero]
      intro h
      exact hr (Fin.ext (by show r.val = l.val - 64; have h' : (128 * d.val + l.val) % 128 = 64 + r.val := h; omega))
    · exact fun h => absurd (Finset.mem_univ _) h
  · rw [dif_neg hl]
    refine Finset.sum_eq_zero fun r _ => ?_
    rw [if_neg, mul_zero]
    intro h
    have h' : (128 * d.val + l.val) % 128 = 64 + r.val := h
    omega

/-- The kernel's two products are the key: where one has lanes, the other's columns are zeros. -/
theorem key_eq (d : Fin 8) (l : Fin 128) :
    rowMul ck (wkPad wkv) ⟨128 * d.val + l.val, by omega⟩ + rowMul kr table ⟨128 * d.val + l.val, by omega⟩ = key ck kr wkv d l := by
  have e1 : (128 * d.val + l.val) % 128 = l.val := by omega
  rw [table_apply]
  unfold key
  by_cases h0 : l.val < 64
  · rw [if_pos h0, dif_neg (by omega), add_zero]
    refine rowMul_column _ _ _ _ _ fun k => ?_
    unfold wkPad
    dsimp only
    rw [if_pos (by omega)]
  · rw [if_neg h0, rowMul_zero _ _ _ fun k => by
      unfold wkPad
      dsimp only
      rw [if_neg (by omega)], zero_add]
    by_cases h1 : l.val < 96
    · rw [dif_pos h1, dif_pos ⟨by omega, h1⟩]
    · rw [dif_neg h1, dif_neg (by omega)]

theorem value_eq (j : Fin 512) : rowMul ck (wvPad wkv) j = value ck wkv j := rfl

end CtxSpec

end
-- ==== Proof.CtxHost10.lean ====
/-
  What the host operations before the cached context's keys and values leave: the latents and the shared lanes, the weights
  with columns of zeros, and the table that copies the shared lanes into each head.
-/
module

public import proofs.«01_k».proof.Proof.CtxSpec
public import proofs.«01_k».proof.Proof.HostIn8
public import proofs.«01_k».proof.Proof.Gen.Kernel10Ideal.Value

@[expose] public section

set_option maxRecDepth 16384

noncomputable section

namespace Cert.Kernel10Ideal.Array

open Cert.Kernel10Ideal Cert.Kernel10Ideal.Gen Idealize.ShloMosaic Idealize.ShloMosaic.TcCoe Idealize.SL.Sem Facts Coords

variable (m : (ℓ : Loc nD τ sig) → Buf (Elt Ideal) ℓ) (c : Dev nD)

/-! ## The arguments as functions of their coordinates -/

abbrev CK (b : Fin 8) (n : Fin 512) (k : Fin 256) : EReal := m ((c : Thread nD τ).loc main_arg0) (ix4 b 0 n k)
abbrev KR (b : Fin 8) (n : Fin 512) (r : Fin 32) : EReal := m ((c : Thread nD τ).loc main_arg1) (ix4 b 0 n r)
abbrev WKV (k : Fin 256) (j : Fin 1024) : EReal := m ((c : Thread nD τ).loc main_arg2) (ix3 0 k j)

theorem host_ck (b : Fin 8) (n : Fin 512) (k : Fin 256) : (V m c main_v0 : Vec Ideal S8x512x256 .f32) (ix3 b n k) = CK m c b n k := by
  have e : (V m c main_v0 : Vec Ideal S8x512x256 .f32)
      = shapeCast S8x512x256 (m ((c : Thread nD τ).loc main_arg0)) shapeCasts_S8x1x512x256_S8x512x256 := by
    unfold_abbrev_sides
    simp only [hostOps0, hostOps0_1, hostOps0_2, hostOps0_3, hostOps0_4, List.flatten_cons, List.flatten_nil, List.append_nil, List.cons_append, List.nil_append]
    after_results
    rfl
  rw [e, shapeCast_apply _ _ (ix3 b n k) (ix4 b 0 n k) (by
    rw [Shape.rowMajor_val_four, Shape.rowMajor_val_three]
    show ((b.val * 1 + 0) * 512 + n.val) * 256 + k.val = (b.val * 512 + n.val) * 256 + k.val
    omega)]

theorem host_kr (b : Fin 8) (n : Fin 512) (r : Fin 32) : (V m c main_v1 : Vec Ideal S8x512x32 .f32) (ix3 b n r) = KR m c b n r := by
  have e : (V m c main_v1 : Vec Ideal S8x512x32 .f32)
      = shapeCast S8x512x32 (m ((c : Thread nD τ).loc main_arg1)) shapeCasts_S8x1x512x32_S8x512x32 := by
    unfold_abbrev_sides
    simp only [hostOps0, hostOps0_1, hostOps0_2, hostOps0_3, hostOps0_4, List.flatten_cons, List.flatten_nil, List.append_nil, List.cons_append, List.nil_append]
    after_results
    rfl
  rw [e, shapeCast_apply _ _ (ix3 b n r) (ix4 b 0 n r) (by
    rw [Shape.rowMajor_val_four, Shape.rowMajor_val_three]
    show ((b.val * 1 + 0) * 512 + n.val) * 32 + r.val = (b.val * 512 + n.val) * 32 + r.val
    omega)]

/-! ## The weights: the same arrays as those of the new tokens' projections -/

theorem host_wk (k : Fin 256) (j : Fin 1024) : (V m c main_v7 : Vec Ideal S256x1024 .bf16) (ix2 k j) = AbSpec.wkPad (WKV m c) k j := by
  have e : (V m c main_v7 : Vec Ideal S256x1024 .bf16) = Cert.Kernel8Ideal.Array.wkArr (m ((c : Thread nD τ).loc main_arg2)) := by
    unfold_abbrev_sides
    simp only [hostOps0, hostOps0_1, hostOps0_2, hostOps0_3, hostOps0_4, List.flatten_cons, List.flatten_nil, List.append_nil, List.cons_append, List.nil_append]
    after_results
    rfl
  rw [e]
  exact Cert.Kernel8Ideal.Array.wkArr_apply _ k j

theorem host_wv (k : Fin 256) (j : Fin 512) : (V m c main_v10 : Vec Ideal S256x512 .bf16) (ix2 k j) = AbSpec.wvPad (WKV m c) k j := by
  have e : (V m c main_v10 : Vec Ideal S256x512 .bf16) = Cert.Kernel8Ideal.Array.wvArr (m ((c : Thread nD τ).loc main_arg2)) := by
    unfold_abbrev_sides
    simp only [hostOps0, hostOps0_1, hostOps0_2, hostOps0_3, hostOps0_4, List.flatten_cons, List.flatten_nil, List.append_nil, List.cons_append, List.nil_append]
    after_results
    rfl
  rw [e]
  exact Cert.Kernel8Ideal.Array.wvArr_apply _ k j

/-! ## The table -/

/-- The unit matrix. -/
def eye : Vec Ideal S32x32 .f32 := uitofp (F := Ideal) .f32 (cmpi .eq
  (addi (iotaInDim S32x32 32 0) (broadcastInDim S32x32 ![] bcast_S_S32x32 (constantI S_ 32 0#32))) (iotaInDim S32x32 32 1))

/-- Two numbers below 32 are the same when their words are. -/
theorem words_eq : ∀ r s : Fin 32, IntOp.cmpi .eq (IntOp.addi (BitVec.ofNat 32 r.val) 0#32) (BitVec.ofNat 32 s.val) = if r = s then 1#1 else 0#1 := by
  decide +kernel

theorem eye_apply (r s : Fin 32) : eye (ix2 r s) = if r = s then 1 else 0 := by
  show (((IntOp.cmpi .eq (IntOp.addi (BitVec.ofNat 32 r.val) 0#32) (BitVec.ofNat 32 s.val)).toNat : ℝ) : EReal) = _
  rw [words_eq]
  by_cases h : r = s
  · rw [if_pos h, if_pos h]
    simp
  · rw [if_neg h, if_neg h]
    simp

/-- One head's lanes of the table. -/
def one : Vec Ideal S32x128 .f32 := pad S32x128 ![0, 64] ![0, 32] ![0, 0] eye (sitofp (F := Ideal) .f32 (constantI S_ 32 0#32))
  pads_S32x32_S32x128_000_64320 h_S_

theorem one_apply (r : Fin 32) (l : Fin 128) : one (ix2 r l) = if l.val = 64 + r.val then 1 else 0 := by
  unfold one
  by_cases h : 64 ≤ l.val ∧ l.val < 96
  · refine (pad_apply_of_inside _ _ _ _ _ _ h_S_ _ (ix2 r ⟨l.val - 64, by omega⟩) fun a => ?_).trans ?_
    · match a with
      | ⟨0, _⟩ => show r.val = 0 + r.val * (0 + 1); omega
      | ⟨1, _⟩ => show l.val = 64 + (l.val - 64) * (0 + 1); omega
    · rw [eye_apply]
      by_cases hr : l.val = 64 + r.val
      · rw [if_pos hr, if_pos (Fin.ext (by show r.val = l.val - 64; omega))]
      · rw [if_neg hr, if_neg fun e => hr (by have e' : r.val = l.val - 64 := congrArg Fin.val e; omega)]
  · rw [if_neg (by omega)]
    refine (pad_apply_of_not_inside _ _ _ _ _ _ h_S_ _ 1 fun hin => h ?_).trans (sitofp_zero (φ := .f32))
    have h1 : 64 ≤ l.val := hin.1
    have h2 : (l.val - 64) / (0 + 1) < 32 := hin.2.2
    omega

/-- The heads side by side. -/
abbrev copies : List ((s : Shape) × (s.Idx → EReal)) :=
  [⟨S32x128, one⟩, ⟨S32x128, one⟩, ⟨S32x128, one⟩, ⟨S32x128, one⟩, ⟨S32x128, one⟩, ⟨S32x128, one⟩, ⟨S32x128, one⟩, ⟨S32x128, one⟩]

def tableArr : Vec Ideal S32x1024 .bf16 := truncf (F := Ideal) .bf16 (concatenate S32x1024 1 copies
  concatenates_S32x128_S32x128_S32x128_S32x128_S32x128_S32x128_S32x128_S32x128_S32x1024_d1 : FVec Ideal S32x1024 .f32) bitsLt_bf16_f32

/-- One of the heads. -/
theorem copies_apply (p : ℕ) (hp : p < copies.length) (hx : copies[p] = ⟨S32x128, one⟩)
    (hpre : (((copies.take p).map (·.1)).map fun s => if h : s.rank = S32x1024.rank then s.size ((1 : Fin S32x1024.rank).cast h.symm) else 0).sum = 128 * p)
    (r : Fin 32) (j : Fin 1024) (hj : 128 * p + j.val % 128 = j.val) :
    concatenate S32x1024 1 copies concatenates_S32x128_S32x128_S32x128_S32x128_S32x128_S32x128_S32x128_S32x128_S32x1024_d1 (ix2 r j)
      = one (ix2 r ⟨j.val % 128, by omega⟩) :=
  concatenate_apply_piece 1 copies _ (ix2 r j) p hp S32x128 one hx rfl (128 * p) hpre (ix2 r ⟨j.val % 128, by omega⟩) (fun b hb => by
    match b with
    | ⟨0, _⟩ => rfl
    | ⟨1, _⟩ => exact absurd rfl hb) hj

theorem tableArr_apply (r : Fin 32) (j : Fin 1024) : tableArr (ix2 r j) = CtxSpec.table r j := by
  show concatenate S32x1024 1 copies concatenates_S32x128_S32x128_S32x128_S32x128_S32x128_S32x128_S32x128_S32x128_S32x1024_d1 (ix2 r j) = _
  refine Eq.trans ?_ (one_apply r ⟨j.val % 128, by omega⟩)
  have hj : 128 * (j.val / 128) + j.val % 128 = j.val := by omega
  generalize hp : j.val / 128 = p at hj
  have p8 : p < 8 := by omega
  match p, p8 with
  | 0, _ => exact copies_apply 0 (by show 0 < 8; decide) rfl rfl r j hj
  | 1, _ => exact copies_apply 1 (by show 1 < 8; decide) rfl rfl r j hj
  | 2, _ => exact copies_apply 2 (by show 2 < 8; decide) rfl rfl r j hj
  | 3, _ => exact copies_apply 3 (by show 3 < 8; decide) rfl rfl r j hj
  | 4, _ => exact copies_apply 4 (by show 4 < 8; decide) rfl rfl r j hj
  | 5, _ => exact copies_apply 5 (by show 5 < 8; decide) rfl rfl r j hj
  | 6, _ => exact copies_apply 6 (by show 6 < 8; decide) rfl rfl r j hj
  | 7, _ => exact copies_apply 7 (by show 7 < 8; decide) rfl rfl r j hj

theorem host_table (r : Fin 32) (j : Fin 1024) : (V m c main_v19 : Vec Ideal S32x1024 .bf16) (ix2 r j) = CtxSpec.table r j := by
  have e : (V m c main_v19 : Vec Ideal S32x1024 .bf16) = tableArr := by
    unfold_abbrev_sides
    simp only [hostOps0, hostOps0_1, hostOps0_2, hostOps0_3, hostOps0_4, List.flatten_cons, List.flatten_nil, List.append_nil, List.cons_append, List.nil_append]
    after_results
    rfl
  rw [e]
  exact tableArr_apply r j

end Cert.Kernel10Ideal.Array

end
-- ==== Proof.CtxArray10.lean ====
/-
  The result arrays of the cached context's keys and values, entry by entry.
-/
module

public import proofs.«01_k».proof.Proof.CtxHost10
public import proofs.«01_k».proof.Proof.AbBlock

@[expose] public section

set_option maxRecDepth 16384

noncomputable section

namespace Cert.Kernel10Ideal.Array

open Cert.Kernel10Ideal Cert.Kernel10Ideal.Gen Idealize.ShloMosaic Idealize.ShloMosaic.TcCoe Idealize.SL.Sem Facts Coords
open Idealize.ShloMosaic.Pipeline (Dat)

/-! ## The body's products -/

section Body

variable (v0 : Vec Ideal S1x512x256 .f32) (v3 : Vec Ideal S1x512x32 .f32)

/-- A token's latent. -/
theorem latent_apply (r : Fin 512) (k : Fin 256) : k0_pay4 v0 (ix2 r k) = v0 (ix3 0 r k) :=
  shapeCast_apply _ shapeCasts_S1x512x256_S512x256 (ix2 r k) (ix3 0 r k) (by
    rw [Shape.rowMajor_val_three, Shape.rowMajor_val_two]
    show (0 * 512 + r.val) * 256 + k.val = r.val * 256 + k.val
    omega)

/-- The keys: the latents times the weights, and the shared lanes times the table. -/
theorem keys_apply (v6 : Vec Ideal S256x1024 .bf16) (v9 : Vec Ideal S32x1024 .bf16) (r : Fin 512) (j : Fin 1024) :
    k0_pay5 v0 v3 v6 v9 (ix2 r j) = TailSpec.rowMul (fun k => v0 (ix3 0 r k)) (fun k j => v6 (ix2 k j)) j
      + TailSpec.rowMul (fun s => v3 (ix3 0 r s)) (fun s j => v9 (ix2 s j)) j := by
  have e1 := Ideal.matmul_plain_apply none (k0_pay4 v0) (shapeCast S256x1024 v6 shapeCasts_S256x1024_S256x1024 : FVec Ideal S256x1024 .bf16)
    (constant S512x1024 .f32 0x00000000#32) r j
  have e2 := Ideal.matmul_plain_apply none (truncf .bf16 (shapeCast S512x32 v3 shapeCasts_S1x512x32_S512x32) bitsLt_bf16_f32 : FVec Ideal S512x32 .bf16)
    (shapeCast S32x1024 v9 shapeCasts_S32x1024_S32x1024 : FVec Ideal S32x1024 .bf16) (constant S512x1024 .f32 0x00000000#32) r j
  simp only [← ix2_eq_valueIdx] at e1 e2
  unfold k0_pay5 TailSpec.rowMul
  refine congrArg₂ (fun a b : EReal => a + b) (e1.trans ?_) (e2.trans ?_)
  · rw [show constant (F := Ideal) S512x1024 .f32 0x00000000#32 (ix2 r j) = 0 from by pointwise, zero_add]
    refine Finset.sum_congr rfl fun k _ => ?_
    rw [latent_apply, shapeCast_apply _ shapeCasts_S256x1024_S256x1024 (ix2 k j) (ix2 k j) rfl]
  · rw [show constant (F := Ideal) S512x1024 .f32 0x00000000#32 (ix2 r j) = 0 from by pointwise, zero_add]
    refine Finset.sum_congr rfl fun s _ => ?_
    rw [shapeCast_apply _ shapeCasts_S32x1024_S32x1024 (ix2 s j) (ix2 s j) rfl]
    exact congrArg (· * v9 (ix2 s j)) (shapeCast_apply _ shapeCasts_S1x512x32_S512x32 (ix2 r s) (ix3 0 r s) (by
      rw [Shape.rowMajor_val_three, Shape.rowMajor_val_two]
      show (0 * 512 + r.val) * 32 + s.val = r.val * 32 + s.val
      omega))

/-- The values: the latents times the weights. -/
theorem values_apply (v14 : Vec Ideal S256x512 .bf16) (r : Fin 512) (j : Fin 512) :
    k0_pay6 v0 v14 (ix2 r j) = TailSpec.rowMul (fun k => v0 (ix3 0 r k)) (fun k j => v14 (ix2 k j)) j := by
  have e1 := Ideal.matmul_plain_apply none (k0_pay4 v0) (shapeCast S256x512 v14 shapeCasts_S256x512_S256x512 : FVec Ideal S256x512 .bf16)
    (constant S512x512 .f32 0x00000000#32) r j
  simp only [← ix2_eq_valueIdx] at e1
  unfold k0_pay6 TailSpec.rowMul
  refine e1.trans ?_
  rw [show constant (F := Ideal) S512x512 .f32 0x00000000#32 (ix2 r j) = 0 from by pointwise, zero_add]
  refine Finset.sum_congr rfl fun k _ => ?_
  rw [latent_apply, shapeCast_apply _ shapeCasts_S256x512_S256x512 (ix2 k j) (ix2 k j) rfl]

end Body

/-! ## The blocks written -/

section Out

variable (x0 : Vec Ideal S1x512x256 .f32) (x1 : Vec Ideal S1x512x32 .f32) (x2 : Vec Ideal S256x1024 .bf16) (x3 : Vec Ideal S256x512 .bf16)
  (x4 : Vec Ideal S32x1024 .bf16)

/-- The keys, head by head. -/
theorem out5_apply (y : S1x8x512x128.Idx) : out0_5 x0 x1 x2 x3 x4 y = k0_pay17 x0 x1 x2 x3 x4
    (ix2 (y 2) ⟨128 * (y 1).val + (y 3).val, by have : (y 1).val < 8 := (y 1).isLt; have : (y 3).val < 128 := (y 3).isLt; omega⟩ : S512x1024.Idx) := by
  unfold out0_5
  refine View.canon_apply_of_pieces (Val := Elt Ideal) (e := .bf16) (fun y : S1x8x512x128.Idx => k0_pay17 x0 x1 x2 x3 x4
    (ix2 (y 2) ⟨128 * (y 1).val + (y 3).val, by have : (y 1).val < 8 := (y 1).isLt; have : (y 3).val < 128 := (y 3).isLt; omega⟩ : S512x1024.Idx)) _ ?_ y
    (cover0_5 _ _ _ _ _ _ _ _ y)
  intro pc hpc
  rcases List.mem_cons.mp hpc with rfl | hpc
  · exact fun x => AbBlock.slab_apply shapeCasts_S512x128_S1x1x512x128 (k0_pay17 x0 x1 x2 x3 x4) 7 slices_S512x1024_o0_896_S512x128 x _ _ rfl rfl
  rcases List.mem_cons.mp hpc with rfl | hpc
  · exact fun x => AbBlock.slab_apply shapeCasts_S512x128_S1x1x512x128 (k0_pay17 x0 x1 x2 x3 x4) 6 slices_S512x1024_o0_768_S512x128 x _ _ rfl rfl
  rcases List.mem_cons.mp hpc with rfl | hpc
  · exact fun x => AbBlock.slab_apply shapeCasts_S512x128_S1x1x512x128 (k0_pay17 x0 x1 x2 x3 x4) 5 slices_S512x1024_o0_640_S512x128 x _ _ rfl rfl
  rcases List.mem_cons.mp hpc with rfl | hpc
  · exact fun x => AbBlock.slab_apply shapeCasts_S512x128_S1x1x512x128 (k0_pay17 x0 x1 x2 x3 x4) 4 slices_S512x1024_o0_512_S512x128 x _ _ rfl rfl
  rcases List.mem_cons.mp hpc with rfl | hpc
  · exact fun x => AbBlock.slab_apply shapeCasts_S512x128_S1x1x512x128 (k0_pay17 x0 x1 x2 x3 x4) 3 slices_S512x1024_o0_384_S512x128 x _ _ rfl rfl
  rcases List.mem_cons.mp hpc with rfl | hpc
  · exact fun x => AbBlock.slab_apply shapeCasts_S512x128_S1x1x512x128 (k0_pay17 x0 x1 x2 x3 x4) 2 slices_S512x1024_o0_256_S512x128 x _ _ rfl rfl
  rcases List.mem_cons.mp hpc with rfl | hpc
  · exact fun x => AbBlock.slab_apply shapeCasts_S512x128_S1x1x512x128 (k0_pay17 x0 x1 x2 x3 x4) 1 slices_S512x1024_o0_128_S512x128 x _ _ rfl rfl
  rcases List.mem_cons.mp hpc with rfl | hpc
  · exact fun x => AbBlock.slab_apply shapeCasts_S512x128_S1x1x512x128 (k0_pay17 x0 x1 x2 x3 x4) 0 slices_S512x1024_o0_0_S512x128 x _ _ rfl rfl
  nomatch hpc

/-- The values, two heads to a block of lanes. -/
theorem out6_apply (y : S1x4x512x128.Idx) : out0_6 x0 x1 x2 x3 x4 y = k0_pay18 x0 x1 x2 x3 x4
    (ix2 (y 2) ⟨128 * (y 1).val + (y 3).val, by have : (y 1).val < 4 := (y 1).isLt; have : (y 3).val < 128 := (y 3).isLt; omega⟩ : S512x512.Idx) := by
  unfold out0_6
  refine View.canon_apply_of_pieces (Val := Elt Ideal) (e := .bf16) (fun y : S1x4x512x128.Idx => k0_pay18 x0 x1 x2 x3 x4
    (ix2 (y 2) ⟨128 * (y 1).val + (y 3).val, by have : (y 1).val < 4 := (y 1).isLt; have : (y 3).val < 128 := (y 3).isLt; omega⟩ : S512x512.Idx)) _ ?_ y
    (cover0_6 _ _ _ _ y)
  intro pc hpc
  rcases List.mem_cons.mp hpc with rfl | hpc
  · exact fun x => AbBlock.slab_apply shapeCasts_S512x128_S1x1x512x128 (k0_pay18 x0 x1 x2 x3 x4) 3 slices_S512x512_o0_384_S512x128 x _ _ rfl rfl
  rcases List.mem_cons.mp hpc with rfl | hpc
  · exact fun x => AbBlock.slab_apply shapeCasts_S512x128_S1x1x512x128 (k0_pay18 x0 x1 x2 x3 x4) 2 slices_S512x512_o0_256_S512x128 x _ _ rfl rfl
  rcases List.mem_cons.mp hpc with rfl | hpc
  · exact fun x => AbBlock.slab_apply shapeCasts_S512x128_S1x1x512x128 (k0_pay18 x0 x1 x2 x3 x4) 1 slices_S512x512_o0_128_S512x128 x _ _ rfl rfl
  rcases List.mem_cons.mp hpc with rfl | hpc
  · exact fun x => AbBlock.slab_apply shapeCasts_S512x128_S1x1x512x128 (k0_pay18 x0 x1 x2 x3 x4) 0 slices_S512x512_o0_0_S512x128 x _ _ rfl rfl
  nomatch hpc

end Out

variable (m : (ℓ : Loc nD τ sig) → Buf (Elt Ideal) ℓ) (c : Dev nD)

/-! ## The blocks read -/

/-- Which block of each array a grid point stages and writes back: point `t` is request `t`. -/
theorem index_eq : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0 ∧ win0_6.index t 3 = 0) := by
  decide +kernel

/-- The grid point's request. -/
abbrev reqAt (t : Fin cfg0.N) : Fin 8 := ⟨t.val, t.isLt⟩

theorem blk0 (t : Fin cfg0.N) (n : Fin 512) (k : Fin 256) : (iblk m c 0 t : Vec Ideal S1x512x256 .f32) (ix3 0 n k) = CK m c (reqAt t) n k := by
  obtain ⟨⟨i0, i1, i2⟩, -⟩ := index_eq t
  rw [← host_ck]
  unfold iblk
  rw [View.read_apply]
  show V m c main_v0 _ = V m c main_v0 _
  refine congrArg (V m c main_v0) (ext3 ?_ ?_ ?_)
  · show win0_0.index t 0 * 1 + 1 * 0 = t.val; rw [i0]; omega
  · show win0_0.index t 1 * 512 + 1 * n.val = n.val; rw [i1]; omega
  · show win0_0.index t 2 * 256 + 1 * k.val = k.val; rw [i2]; omega

theorem blk1 (t : Fin cfg0.N) (n : Fin 512) (r : Fin 32) : (iblk m c 1 t : Vec Ideal S1x512x32 .f32) (ix3 0 n r) = KR m c (reqAt t) n r := by
  obtain ⟨-, ⟨i0, i1, i2⟩, -⟩ := index_eq t
  rw [← host_kr]
  unfold iblk
  rw [View.read_apply]
  show V m c main_v1 _ = V m c main_v1 _
  refine congrArg (V m c main_v1) (ext3 ?_ ?_ ?_)
  · show win0_1.index t 0 * 1 + 1 * 0 = t.val; rw [i0]; omega
  · show win0_1.index t 1 * 512 + 1 * n.val = n.val; rw [i1]; omega
  · show win0_1.index t 2 * 32 + 1 * r.val = r.val; rw [i2]; omega

theorem blk2 (t : Fin cfg0.N) (k : Fin 256) (j : Fin 1024) : (iblk m c 2 t : Vec Ideal S256x1024 .bf16) (ix2 k j) = AbSpec.wkPad (WKV m c) k j := by
  obtain ⟨-, -, ⟨i0, i1⟩, -⟩ := index_eq t
  rw [← host_wk]
  unfold iblk
  rw [View.read_apply]
  show V m c main_v7 _ = V m c main_v7 _
  refine congrArg (V m c main_v7) (ext2 ?_ ?_)
  · show win0_2.index t 0 * 256 + 1 * k.val = k.val; rw [i0]; omega
  · show win0_2.index t 1 * 1024 + 1 * j.val = j.val; rw [i1]; omega

theorem blk3 (t : Fin cfg0.N) (k : Fin 256) (j : Fin 512) : (iblk m c 3 t : Vec Ideal S256x512 .bf16) (ix2 k j) = AbSpec.wvPad (WKV m c) k j := by
  obtain ⟨-, -, -, ⟨i0, i1⟩, -⟩ := index_eq t
  rw [← host_wv]
  unfold iblk
  rw [View.read_apply]
  show V m c main_v10 _ = V m c main_v10 _
  refine congrArg (V m c main_v10) (ext2 ?_ ?_)
  · show win0_3.index t 0 * 256 + 1 * k.val = k.val; rw [i0]; omega
  · show win0_3.index t 1 * 512 + 1 * j.val = j.val; rw [i1]; omega

theorem blk4 (t : Fin cfg0.N) (k : Fin 32) (j : Fin 1024) : (iblk m c 4 t : Vec Ideal S32x1024 .bf16) (ix2 k j) = CtxSpec.table k j := by
  obtain ⟨-, -, -, -, ⟨i0, i1⟩, -⟩ := index_eq t
  rw [← host_table m c]
  unfold iblk
  rw [View.read_apply]
  show V m c main_v19 _ = V m c main_v19 _
  refine congrArg (V m c main_v19) (ext2 ?_ ?_)
  · show win0_4.index t 0 * 32 + 1 * k.val = k.val; rw [i0]; omega
  · show win0_4.index t 1 * 1024 + 1 * j.val = j.val; rw [i1]; omega

/-- Lane `l` of a token's key head `d`, as the body computes it. -/
theorem key_apply (t : Fin cfg0.N) (n : Fin 512) (d : Fin 8) (l : Fin 128) :
    k0_pay17 (iblk m c 0 t) (iblk m c 1 t) (iblk m c 2 t) (iblk m c 3 t) (iblk m c 4 t) (ix2 n ⟨128 * d.val + l.val, by omega⟩ : S512x1024.Idx)
      = CtxSpec.key (CK m c (reqAt t) n) (KR m c (reqAt t) n) (WKV m c) d l := by
  refine (keys_apply (View.ld (iblk m c 0 t : Vec Ideal S1x512x256 .f32) r0_0) (View.ld (iblk m c 1 t : Vec Ideal S1x512x32 .f32) r0_1)
    (View.ld (iblk m c 2 t : Vec Ideal S256x1024 .bf16) r0_2) (View.ld (iblk m c 4 t : Vec Ideal S32x1024 .bf16) r0_3) n ⟨128 * d.val + l.val, by omega⟩).trans ?_
  refine Eq.trans ?_ (CtxSpec.key_eq (CK m c (reqAt t) n) (KR m c (reqAt t) n) (WKV m c) d l)
  refine congrArg₂ (fun a b : EReal => a + b) ?_ ?_
  · refine congrArg₂ (TailSpec.rowMul · · _) (funext fun k => ?_) (funext fun k => funext fun j => ?_)
    · rw [show View.ld (iblk m c 0 t : Vec Ideal S1x512x256 .f32) r0_0 (ix3 0 n k) = (iblk m c 0 t : Vec Ideal S1x512x256 .f32) (ix3 0 n k) by pointwise, blk0]
    · rw [show View.ld (iblk m c 2 t : Vec Ideal S256x1024 .bf16) r0_2 (ix2 k j) = (iblk m c 2 t : Vec Ideal S256x1024 .bf16) (ix2 k j) by pointwise, blk2]
  · refine congrArg₂ (TailSpec.rowMul · · _) (funext fun k => ?_) (funext fun k => funext fun j => ?_)
    · rw [show View.ld (iblk m c 1 t : Vec Ideal S1x512x32 .f32) r0_1 (ix3 0 n k) = (iblk m c 1 t : Vec Ideal S1x512x32 .f32) (ix3 0 n k) by pointwise, blk1]
    · rw [show View.ld (iblk m c 4 t : Vec Ideal S32x1024 .bf16) r0_3 (ix2 k j) = (iblk m c 4 t : Vec Ideal S32x1024 .bf16) (ix2 k j) by pointwise, blk4]

/-- Column `j` of a token's values. -/
theorem value_apply (t : Fin cfg0.N) (n : Fin 512) (j : Fin 512) :
    k0_pay18 (iblk m c 0 t) (iblk m c 1 t) (iblk m c 2 t) (iblk m c 3 t) (iblk m c 4 t) (ix2 n j : S512x512.Idx)
      = CtxSpec.value (CK m c (reqAt t) n) (WKV m c) j := by
  refine (values_apply (View.ld (iblk m c 0 t : Vec Ideal S1x512x256 .f32) r0_0) (View.ld (iblk m c 3 t : Vec Ideal S256x512 .bf16) r0_4) n j).trans ?_
  refine Eq.trans ?_ (CtxSpec.value_eq (CK m c (reqAt t) n) (WKV m c) j)
  refine congrArg₂ (TailSpec.rowMul · · _) (funext fun k => ?_) (funext fun k => funext fun j => ?_)
  · rw [show View.ld (iblk m c 0 t : Vec Ideal S1x512x256 .f32) r0_0 (ix3 0 n k) = (iblk m c 0 t : Vec Ideal S1x512x256 .f32) (ix3 0 n k) by pointwise, blk0]
  · rw [show View.ld (iblk m c 3 t : Vec Ideal S256x512 .bf16) r0_4 (ix2 k j) = (iblk m c 3 t : Vec Ideal S256x512 .bf16) (ix2 k j) by pointwise, blk3]

/-! ## The results -/

/-- The keys, head by head. -/
def res0 : Buf (Elt Ideal) ((c : Thread nD τ).loc main_v20_0) := fun i : S8x8x512x128.Idx =>
  CtxSpec.key (CK m c (i 0) (i 2)) (KR m c (i 0) (i 2)) (WKV m c) (i 1) (i 3)

/-- The values, two heads to a block of lanes. -/
def res1 : Buf (Elt Ideal) ((c : Thread nD τ).loc main_v20_1) := fun i : S8x4x512x128.Idx =>
  CtxSpec.value (CK m c (i 0) (i 2)) (WKV m c) ⟨128 * (i 1).val + (i 3).val, by
    have : (i 1).val < 4 := (i 1).isLt; have : (i 3).val < 128 := (i 3).isLt; omega⟩

theorem flushed_eq5 (t : Fin cfg0.N) : (dats m 0 c).flushed 5 t = ((cfg0.win 5).blk t).view.read (Elt Ideal) (res0 m c) := by
  rw [Value.flushed5]
  refine funext fun j : S1x8x512x128.Idx => ?_
  obtain ⟨h, n, l, rfl⟩ : ∃ (h : Fin 8) (n : Fin 512) (l : Fin 128), j = ix4 0 h n l :=
    ⟨j 1, j 2, j 3, ext4 (by have : (j 0).val < 1 := (j 0).isLt; show (j 0).val = 0; omega) rfl rfl rfl⟩
  obtain ⟨-, -, -, -, -, ⟨i0, i1, i2, i3⟩, -⟩ := index_eq t
  have e : ((cfg0.win 5).blk t).view.read (Elt Ideal) (res0 m c) (ix4 0 h n l : S1x8x512x128.Idx)
      = res0 m c (ix4 (reqAt t) h n l : S8x8x512x128.Idx) := by
    rw [View.read_apply]
    refine congrArg (res0 m c) (ext4 (n := ![8, 8, 512, 128]) ?_ ?_ ?_ ?_)
    · show win0_5.index t 0 * 1 + 1 * 0 = t.val; rw [i0]; omega
    · show win0_5.index t 1 * 8 + 1 * h.val = h.val; rw [i1]; omega
    · show win0_5.index t 2 * 512 + 1 * n.val = n.val; rw [i2]; omega
    · show win0_5.index t 3 * 128 + 1 * l.val = l.val; rw [i3]; omega
  rw [e]
  have ec := out5_apply (iblk m c 0 t) (iblk m c 1 t) (iblk m c 2 t) (iblk m c 3 t) (iblk m c 4 t) (ix4 0 h n l : S1x8x512x128.Idx)
  exact ec.trans (key_apply m c t n h l)

theorem final0 : (dats m 0 c).arrAt 5 cfg0.N = res0 m c :=
  (dats m 0 c).arrAt_eq_of_cover 5 (res0 m c) (fun t _ => flushed_eq5 m c t) fun i => by
    have h0 : (i 0 : Nat) < 8 := (i 0).isLt
    have h1 : (i 1 : Nat) < 8 := (i 1).isLt
    have h2 : (i 2 : Nat) < 512 := (i 2).isLt
    have h3 : (i 3 : Nat) < 128 := (i 3).isLt
    let t : Fin cfg0.N := ⟨(i 0 : Nat), h0⟩
    obtain ⟨-, -, -, -, -, ⟨i0, i1, i2, i3⟩, -⟩ := index_eq t
    have tv : t.val = (i 0 : Nat) := rfl
    refine ⟨t, flush0_5 t, ?_⟩
    show i ∈ ((View.whole main_v20_0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [i0]; omega
    | ⟨1, _⟩ =>
      show win0_5.index t 1 * 8 ≤ (i 1 : Nat) ∧ (i 1 : Nat) < win0_5.index t 1 * 8 + 8
      rw [i1]; omega
    | ⟨2, _⟩ =>
      show win0_5.index t 2 * 512 ≤ (i 2 : Nat) ∧ (i 2 : Nat) < win0_5.index t 2 * 512 + 512
      rw [i2]; omega
    | ⟨3, _⟩ =>
      show win0_5.index t 3 * 128 ≤ (i 3 : Nat) ∧ (i 3 : Nat) < win0_5.index t 3 * 128 + 128
      rw [i3]; omega

theorem flushed_eq6 (t : Fin cfg0.N) : (dats m 0 c).flushed 6 t = ((cfg0.win 6).blk t).view.read (Elt Ideal) (res1 m c) := by
  rw [Value.flushed6]
  refine funext fun j : S1x4x512x128.Idx => ?_
  obtain ⟨h, n, l, rfl⟩ : ∃ (h : Fin 4) (n : Fin 512) (l : Fin 128), j = ix4 0 h n l :=
    ⟨j 1, j 2, j 3, ext4 (by have : (j 0).val < 1 := (j 0).isLt; show (j 0).val = 0; omega) rfl rfl rfl⟩
  obtain ⟨-, -, -, -, -, -, ⟨i0, i1, i2, i3⟩⟩ := index_eq t
  have e : ((cfg0.win 6).blk t).view.read (Elt Ideal) (res1 m c) (ix4 0 h n l : S1x4x512x128.Idx)
      = res1 m c (ix4 (reqAt t) h n l : S8x4x512x128.Idx) := by
    rw [View.read_apply]
    refine congrArg (res1 m c) (ext4 (n := ![8, 4, 512, 128]) ?_ ?_ ?_ ?_)
    · show win0_6.index t 0 * 1 + 1 * 0 = t.val; rw [i0]; omega
    · show win0_6.index t 1 * 4 + 1 * h.val = h.val; rw [i1]; omega
    · show win0_6.index t 2 * 512 + 1 * n.val = n.val; rw [i2]; omega
    · show win0_6.index t 3 * 128 + 1 * l.val = l.val; rw [i3]; omega
  rw [e]
  have ec := out6_apply (iblk m c 0 t) (iblk m c 1 t) (iblk m c 2 t) (iblk m c 3 t) (iblk m c 4 t) (ix4 0 h n l : S1x4x512x128.Idx)
  exact ec.trans (value_apply m c t n ⟨128 * h.val + l.val, by omega⟩)

theorem final1 : (dats m 0 c).arrAt 6 cfg0.N = res1 m c :=
  (dats m 0 c).arrAt_eq_of_cover 6 (res1 m c) (fun t _ => flushed_eq6 m c t) fun i => by
    have h0 : (i 0 : Nat) < 8 := (i 0).isLt
    have h1 : (i 1 : Nat) < 4 := (i 1).isLt
    have h2 : (i 2 : Nat) < 512 := (i 2).isLt
    have h3 : (i 3 : Nat) < 128 := (i 3).isLt
    let t : Fin cfg0.N := ⟨(i 0 : Nat), h0⟩
    obtain ⟨-, -, -, -, -, -, ⟨i0, i1, i2, i3⟩⟩ := index_eq t
    have tv : t.val = (i 0 : Nat) := rfl
    refine ⟨t, flush0_6 t, ?_⟩
    show i ∈ ((View.whole main_v20_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [i0]; omega
    | ⟨1, _⟩ =>
      show win0_6.index t 1 * 4 ≤ (i 1 : Nat) ∧ (i 1 : Nat) < win0_6.index t 1 * 4 + 4
      rw [i1]; omega
    | ⟨2, _⟩ =>
      show win0_6.index t 2 * 512 ≤ (i 2 : Nat) ∧ (i 2 : Nat) < win0_6.index t 2 * 512 + 512
      rw [i2]; omega
    | ⟨3, _⟩ =>
      show win0_6.index t 3 * 128 ≤ (i 3 : Nat) ∧ (i 3 : Nat) < win0_6.index t 3 * 128 + 128
      rw [i3]; omega

end Cert.Kernel10Ideal.Array

end
-- ==== Proof.RefCtx10.lean ====
/-
  The reference's results at the cached context's keys and values, entry by entry.
-/
module

public import Idealize.ShloMosaic.Lib.Pointwise.Index
public import Idealize.ShloMosaic.PureOps.Ideal.Laws
public import proofs.«01_k».proof.Proof.Coords
public import proofs.«01_k».proof.Proof.CtxSpec
public import proofs.«01_k».proof.Proof.RefIn8
public import proofs.«01_k».proof.Proof.Gen.Reference10Ideal.Read

@[expose] public section

set_option maxRecDepth 16384

noncomputable section

namespace Cert.Reference10Ideal.Context

open Cert.Reference10Ideal Cert.Reference10Ideal.Gen Cert.Reference10Ideal.Read Idealize.ShloMosaic Idealize.SL.Sem Facts Coords

variable (x0 : Vec Ideal S8x1x512x256 .f32) (x1 : Vec Ideal S8x1x512x32 .f32) (x2 : Vec Ideal S1x256x1024 .f32)

/-- A token's latent and its shared lanes, and the weights. -/
abbrev ck (b : Fin 8) (n : Fin 512) (k : Fin 256) : EReal := x0 (ix4 b 0 n k)
abbrev kr (b : Fin 8) (n : Fin 512) (r : Fin 32) : EReal := x1 (ix4 b 0 n r)
abbrev wkv (k : Fin 256) (j : Fin 1024) : EReal := x2 (ix3 0 k j)

/-- A lane of the keys' and values' heads. -/
theorem heads_apply (b : Fin 8) (n : Fin 512) (d : Fin 8) (l : Fin 128) : (val_main_v4 (F := Ideal) x0 x2) (ix4 b n d l)
    = TailSpec.rowMul (ck x0 b n) (wkv x2) ⟨128 * d.val + l.val, by omega⟩ := by
  have e : idx_main_v4 (ix4 b n d l) = ix3 b n ⟨128 * d.val + l.val, by omega⟩ := ext3
    (by show (((b.val * 512 + n.val) * 8 + d.val) * 128 + l.val) / 524288 = b.val; omega)
    (by show (((b.val * 512 + n.val) * 8 + d.val) * 128 + l.val) / 1024 % 512 = n.val; omega)
    (by show (((b.val * 512 + n.val) * 8 + d.val) * 128 + l.val) % 1024 = 128 * d.val + l.val; omega)
  rw [val_main_v4_apply, e, val_main_v3_apply]
  unfold TailSpec.rowMul
  refine Finset.sum_congr rfl fun k _ => ?_
  rw [show lidx_main_v3 (ix3 b n ⟨128 * d.val + l.val, by omega⟩) k = ix3 b n k from ext3 rfl rfl rfl,
    show ridx_main_v3 (ix3 b n ⟨128 * d.val + l.val, by omega⟩) k = ix2 k ⟨128 * d.val + l.val, by omega⟩ from ext2 rfl rfl,
    val_main_v0_apply, val_main_v2_apply]
  refine congrArg₂ (fun a b : EReal => a * b) (congrArg x0 (ext4 ?_ rfl ?_ ?_)) (congrArg x2 (ext3 rfl ?_ ?_))
  · show ((b.val * 512 + n.val) * 256 + k.val) / 131072 = b.val; omega
  · show ((b.val * 512 + n.val) * 256 + k.val) / 256 % 512 = n.val; omega
  · show ((b.val * 512 + n.val) * 256 + k.val) % 256 = k.val; omega
  · show (k.val * 1024 + (128 * d.val + l.val)) / 1024 % 256 = k.val; omega
  · show (k.val * 1024 + (128 * d.val + l.val)) % 1024 = 128 * d.val + l.val; omega

/-- The shared lanes, the same for each head. -/
theorem shared_apply (b : Fin 8) (n : Fin 512) (d : Fin 8) (l : Fin 32) : (val_main_v8 (F := Ideal) x1) (ix4 b n d l) = kr x1 b n l := by
  rw [val_main_v8_apply, val_main_v7_apply, show idx_main_v7 (idx_main_v8 (ix4 b n d l)) = ix3 b n l from ext3 rfl rfl rfl, val_main_v1_apply]
  refine congrArg x1 (ext4 ?_ rfl ?_ ?_)
  · show ((b.val * 512 + n.val) * 32 + l.val) / 16384 = b.val; omega
  · show ((b.val * 512 + n.val) * 32 + l.val) / 32 % 512 = n.val; omega
  · show ((b.val * 512 + n.val) * 32 + l.val) % 32 = l.val; omega

/-- **The keys**, head by head. -/
theorem keys (b : Fin 8) (d : Fin 8) (n : Fin 512) (l : Fin 128) : (val_main_v13 (F := Ideal) x0 x1 x2) (ix4 b d n l)
    = CtxSpec.key (ck x0 b n) (kr x1 b n) (wkv x2) d l := by
  rw [val_main_v13_apply, val_main_v12_apply, show idx_main_v12 (ix4 b d n l) = ix4 b n d l from ext4 rfl rfl rfl rfl]
  unfold val_main_v11 CtxSpec.key
  refine (Cert.Reference8Ideal.Enter.lanes128 _ _ _ b n d l).trans ?_
  by_cases h : l.val < 96
  · rw [dif_pos h]
    unfold val_main_v9
    refine (Cert.Reference8Ideal.Enter.lanes96 _ _ _ b n d ⟨l.val, h⟩).trans ?_
    by_cases h6 : l.val < 64
    · rw [dif_pos h6, if_pos h6, val_main_v5_apply, show idx_main_v5 (ix4 b n d ⟨l.val, h6⟩) = ix4 b n d l from ext4 rfl rfl rfl rfl, heads_apply]
    · rw [dif_neg h6, if_neg h6, dif_pos h, shared_apply]
  · rw [dif_neg h, if_neg (by omega), dif_neg h, val_main_v10_apply, val_main_cst_apply]
    exact Ideal.ofBits_zero_f32

/-- **The values**, two heads to a block of lanes. -/
theorem values (b : Fin 8) (d : Fin 4) (n : Fin 512) (l : Fin 128) : (val_main_v16 (F := Ideal) x0 x2) (ix4 b d n l)
    = CtxSpec.value (ck x0 b n) (wkv x2) ⟨128 * d.val + l.val, by omega⟩ := by
  have e : idx_main_v6 (idx_main_v14 (idx_main_v15 (ix4 b d n l)))
      = ix4 b n ⟨(128 * d.val + l.val) / 64, by omega⟩ ⟨64 + (128 * d.val + l.val) % 64, by omega⟩ := ext4
    (by show (((b.val * 512 + n.val) * 4 + d.val) * 128 + l.val) / 262144 = b.val; omega)
    (by show (((b.val * 512 + n.val) * 4 + d.val) * 128 + l.val) / 512 % 512 = n.val; omega)
    (by show (((b.val * 512 + n.val) * 4 + d.val) * 128 + l.val) / 64 % 8 = (128 * d.val + l.val) / 64; omega)
    (by show 64 + (((b.val * 512 + n.val) * 4 + d.val) * 128 + l.val) % 64 = 64 + (128 * d.val + l.val) % 64; omega)
  rw [val_main_v16_apply, val_main_v15_apply, val_main_v14_apply, val_main_v6_apply, e, heads_apply]
  unfold CtxSpec.value
  exact congrArg (TailSpec.rowMul _ _) (Fin.ext (by
    show 128 * ((128 * d.val + l.val) / 64) + (64 + (128 * d.val + l.val) % 64) = 128 * ((128 * d.val + l.val) / 64) + 64 + (128 * d.val + l.val) % 64
    omega))

end Cert.Reference10Ideal.Context

end
-- ==== Proof.CtxClaims10.lean ====
/-
  The claims about the cached context's keys and values: the frames, and that the kernel's results are the reference's.
-/
module

public import proofs.«01_k».proof.Defs
public import proofs.«01_k».proof.Proof.CtxArray10
public import proofs.«01_k».proof.Proof.RefCtx10
public import proofs.«01_k».proof.Proof.Gen.Kernel10.Frame
public import proofs.«01_k».proof.Proof.Gen.Kernel10Ideal.Frame
public import proofs.«01_k».proof.Proof.Gen.Reference10Ideal.Run

@[expose] public section

set_option maxRecDepth 16384

noncomputable section

namespace Cert.CtxClaims10

open Idealize.ShloMosaic Idealize.SL.Sem Coords

/-- The kernel's frame, on machine words. -/
theorem frame_kernel : Cert.quiescent_Kernel10 := fun m ρ _ => Cert.Kernel10.Gen.frame m ρ

/-- The kernel's frame, on extended reals. -/
theorem frame_kernelIdeal : Cert.quiescent_Kernel10Ideal := fun m ρ _ => Cert.Kernel10Ideal.Gen.frame m ρ

/-- The reference's frame: it keeps its arguments and declares no semaphore. -/
theorem frame_referenceIdeal : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- **The kernel's results are the reference's**, for all arguments. -/
theorem algebraic : Cert.algebraic_Kernel10Ideal_Reference10Ideal := by
  intro m g m' g' _ hagree
  refine ⟨fun c => Cert.Kernel10Ideal.Array.res0 m c, fun c => Cert.Kernel10Ideal.Array.res1 m c, ?_, ?_⟩
  · exact (θ_run Cert.Kernel10Ideal.defs _ _).mono (fun r h c => by
      obtain ⟨h0, h1, hk⟩ := h c
      exact ⟨h0.trans (Cert.Kernel10Ideal.Array.final0 m c), h1.trans (Cert.Kernel10Ideal.Array.final1 m c), hk⟩)
      (Cert.Kernel10Ideal.Value.run_blocks (F := Ideal) m g)
  · refine (θ_run Cert.Reference10Ideal.defs _ _).mono (fun r h c => by
      obtain ⟨h0, h1, hk⟩ := h c
      obtain ⟨e0, e1, e2⟩ := hagree c
      refine ⟨h0.trans ?_, h1.trans ?_, hk⟩
      · rw [Cert.Reference10Ideal.Read.val_main_v13_eq, e0, e1, e2]
        refine funext fun i => ?_
        obtain ⟨b, d, n, l, rfl⟩ : ∃ (b : Fin 8) (d : Fin 8) (n : Fin 512) (l : Fin 128), i = ix4 b d n l := ⟨i 0, i 1, i 2, i 3, ext4 rfl rfl rfl rfl⟩
        exact Cert.Reference10Ideal.Context.keys _ _ _ b d n l
      · rw [Cert.Reference10Ideal.Read.val_main_v16_eq, e0, e2]
        refine funext fun i => ?_
        obtain ⟨b, d, n, l, rfl⟩ : ∃ (b : Fin 8) (d : Fin 4) (n : Fin 512) (l : Fin 128), i = ix4 b d n l := ⟨i 0, i 1, i 2, i 3, ext4 rfl rfl rfl rfl⟩
        exact Cert.Reference10Ideal.Context.values _ _ b d n l)
      (Cert.Reference10Ideal.Value.run (F := Ideal) m' g')

end Cert.CtxClaims10

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.DiffClaims
public import proofs.«01_k».proof.Proof.TailClaims2
public import proofs.«01_k».proof.Proof.TailClaims3
public import proofs.«01_k».proof.Proof.TailClaims4
public import proofs.«01_k».proof.Proof.MlaClaims5
public import proofs.«01_k».proof.Proof.InClaims6
public import proofs.«01_k».proof.Proof.InClaims7
public import proofs.«01_k».proof.Proof.InClaims8
public import proofs.«01_k».proof.Proof.ModClaims9
public import proofs.«01_k».proof.Proof.CtxClaims10
public import Idealize.ShloMosaic.Adequacy
public import Idealize.ShloMosaic.Init

@[expose] public section

noncomputable section

namespace Cert.Proof

open Idealize.ShloMosaic Idealize.SL.Sem Cert.Kernel

/-- Everything claimed: the frames, with the precondition and without, that idealizing keeps the kernel's program, and that
    the kernel's result is the reference's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts, Cert.Pre_finite5.Gen.facts,
    DiffClaims.frame_kernel, DiffClaims.frame_kernelIdeal, fun m ρ _ => DiffClaims.frame_kernelIdeal m ρ trivial,
    DiffClaims.frame_referenceIdeal, fun m ρ _ => DiffClaims.frame_referenceIdeal m ρ trivial,
    TailClaims2.frame_kernel, TailClaims2.frame_kernelIdeal, TailClaims2.frame_referenceIdeal,
    TailClaims3.frame_kernel, TailClaims3.frame_kernelIdeal, TailClaims3.frame_referenceIdeal,
    TailClaims4.frame_kernel, TailClaims4.frame_kernelIdeal, TailClaims4.frame_referenceIdeal,
    MlaClaims5.frame_kernel, MlaClaims5.frame_kernelIdeal, fun m ρ _ => MlaClaims5.frame_kernelIdeal m ρ trivial,
    MlaClaims5.frame_referenceIdeal, fun m ρ _ => MlaClaims5.frame_referenceIdeal m ρ trivial,
    InClaims6.frame_kernel, InClaims6.frame_kernelIdeal, InClaims6.frame_referenceIdeal,
    InClaims7.frame_kernel, InClaims7.frame_kernelIdeal, InClaims7.frame_referenceIdeal,
    InClaims8.frame_kernel, InClaims8.frame_kernelIdeal, InClaims8.frame_referenceIdeal,
    ModClaims9.frame_kernel, ModClaims9.frame_kernelIdeal, ModClaims9.frame_referenceIdeal,
    CtxClaims10.frame_kernel, CtxClaims10.frame_kernelIdeal, CtxClaims10.frame_referenceIdeal,
    trivial, DiffClaims.algebraic, trivial, TailClaims2.algebraic, trivial, TailClaims3.algebraic, trivial, TailClaims4.algebraic,
    trivial, MlaClaims5.algebraic, trivial, InClaims6.algebraic, trivial, InClaims7.algebraic, trivial, InClaims8.algebraic,
    trivial, ModClaims9.algebraic, trivial, CtxClaims10.algebraic⟩

end Cert.Proof

end
